-- ==== Defs.lean ====
def Pre_InputGradient (m : (ℓ : Loc Cert.InputGradient.nD Cert.InputGradient.τ Cert.InputGradient.sig) → Buf (Elt Bits) ℓ) : Prop :=
  True

def Pre_InputGradientIdeal (m : (ℓ : Loc Cert.InputGradientIdeal.nD Cert.InputGradientIdeal.τ Cert.InputGradientIdeal.sig) → Buf (Elt Ideal) ℓ) : Prop :=
  True

def Pre_InputGradientReferenceIdeal (m : (ℓ : Loc Cert.InputGradientReferenceIdeal.nD Cert.InputGradientReferenceIdeal.τ Cert.InputGradientReferenceIdeal.sig) → Buf (Elt Ideal) ℓ) : Prop :=
  True

def Pre_QkvWeight (m : (ℓ : Loc Cert.QkvWeight.nD Cert.QkvWeight.τ Cert.QkvWeight.sig) → Buf (Elt Bits) ℓ) : Prop :=
  True

def Pre_QkvWeightIdeal (m : (ℓ : Loc Cert.QkvWeightIdeal.nD Cert.QkvWeightIdeal.τ Cert.QkvWeightIdeal.sig) → Buf (Elt Ideal) ℓ) : Prop :=
  True

def Pre_QkvWeightReferenceIdeal (m : (ℓ : Loc Cert.QkvWeightReferenceIdeal.nD Cert.QkvWeightReferenceIdeal.τ Cert.QkvWeightReferenceIdeal.sig) → Buf (Elt Ideal) ℓ) : Prop :=
  True

def Pre_GateWeight (m : (ℓ : Loc Cert.GateWeight.nD Cert.GateWeight.τ Cert.GateWeight.sig) → Buf (Elt Bits) ℓ) : Prop :=
  True

def Pre_GateWeightIdeal (m : (ℓ : Loc Cert.GateWeightIdeal.nD Cert.GateWeightIdeal.τ Cert.GateWeightIdeal.sig) → Buf (Elt Ideal) ℓ) : Prop :=
  True

def Pre_GateWeightReferenceIdeal (m : (ℓ : Loc Cert.GateWeightReferenceIdeal.nD Cert.GateWeightReferenceIdeal.τ Cert.GateWeightReferenceIdeal.sig) → Buf (Elt Ideal) ℓ) : Prop :=
  True

def Pre_SbBranchWeight (m : (ℓ : Loc Cert.SbBranchWeight.nD Cert.SbBranchWeight.τ Cert.SbBranchWeight.sig) → Buf (Elt Bits) ℓ) : Prop :=
  True

def Pre_SbBranchWeightIdeal (m : (ℓ : Loc Cert.SbBranchWeightIdeal.nD Cert.SbBranchWeightIdeal.τ Cert.SbBranchWeightIdeal.sig) → Buf (Elt Ideal) ℓ) : Prop :=
  True

def Pre_SbBranchWeightReferenceIdeal (m : (ℓ : Loc Cert.SbBranchWeightReferenceIdeal.nD Cert.SbBranchWeightReferenceIdeal.τ Cert.SbBranchWeightReferenceIdeal.sig) → Buf (Elt Ideal) ℓ) : Prop :=
  True

def Pre_SwaBranchWeight (m : (ℓ : Loc Cert.SwaBranchWeight.nD Cert.SwaBranchWeight.τ Cert.SwaBranchWeight.sig) → Buf (Elt Bits) ℓ) : Prop :=
  True

def Pre_SwaBranchWeightIdeal (m : (ℓ : Loc Cert.SwaBranchWeightIdeal.nD Cert.SwaBranchWeightIdeal.τ Cert.SwaBranchWeightIdeal.sig) → Buf (Elt Ideal) ℓ) : Prop :=
  True

def Pre_SwaBranchWeightReferenceIdeal (m : (ℓ : Loc Cert.SwaBranchWeightReferenceIdeal.nD Cert.SwaBranchWeightReferenceIdeal.τ Cert.SwaBranchWeightReferenceIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightReferenceIdeal (m : (ℓ : Loc Cert.OutWeightReferenceIdeal.nD Cert.OutWeightReferenceIdeal.τ Cert.OutWeightReferenceIdeal.sig) → Buf (Elt Ideal) ℓ) : Prop :=
  True

def Pre_QkvProjection (m : (ℓ : Loc Cert.QkvProjection.nD Cert.QkvProjection.τ Cert.QkvProjection.sig) → Buf (Elt Bits) ℓ) : Prop :=
  True

def Pre_QkvProjectionIdeal (m : (ℓ : Loc Cert.QkvProjectionIdeal.nD Cert.QkvProjectionIdeal.τ Cert.QkvProjectionIdeal.sig) → Buf (Elt Ideal) ℓ) : Prop :=
  True

def Pre_QkvProjectionReferenceIdeal (m : (ℓ : Loc Cert.QkvProjectionReferenceIdeal.nD Cert.QkvProjectionReferenceIdeal.τ Cert.QkvProjectionReferenceIdeal.sig) → Buf (Elt Ideal) ℓ) : Prop :=
  True

def Pre_GateProjection (m : (ℓ : Loc Cert.GateProjection.nD Cert.GateProjection.τ Cert.GateProjection.sig) → Buf (Elt Bits) ℓ) : Prop :=
  True

def Pre_GateProjectionIdeal (m : (ℓ : Loc Cert.GateProjectionIdeal.nD Cert.GateProjectionIdeal.τ Cert.GateProjectionIdeal.sig) → Buf (Elt Ideal) ℓ) : Prop :=
  True

def Pre_GateProjectionReferenceIdeal (m : (ℓ : Loc Cert.GateProjectionReferenceIdeal.nD Cert.GateProjectionReferenceIdeal.τ Cert.GateProjectionReferenceIdeal.sig) → Buf (Elt Ideal) ℓ) : Prop :=
  True

def Pre_GatedMerge (m : (ℓ : Loc Cert.GatedMerge.nD Cert.GatedMerge.τ Cert.GatedMerge.sig) → Buf (Elt Bits) ℓ) : Prop :=
  True

def Pre_GatedMergeIdeal (m : (ℓ : Loc Cert.GatedMergeIdeal.nD Cert.GatedMergeIdeal.τ Cert.GatedMergeIdeal.sig) → Buf (Elt Ideal) ℓ) : Prop :=
  True

def Pre_GatedMergeReferenceIdeal (m : (ℓ : Loc Cert.GatedMergeReferenceIdeal.nD Cert.GatedMergeReferenceIdeal.τ Cert.GatedMergeReferenceIdeal.sig) → Buf (Elt Ideal) ℓ) : Prop :=
  True

def Pre_MergeGradient [hPre_finite : Cert.Pre_finite.Facts] (m : (ℓ : Loc Cert.MergeGradient.nD Cert.MergeGradient.τ Cert.MergeGradient.sig) → Buf (Elt Bits) ℓ) : Prop :=
  ∀ c : Dev Cert.MergeGradient.nD,
    (Cert.Pre_finite.fn (F := Bits) (m ((c.tc : Thread Cert.MergeGradient.nD Cert.MergeGradient.τ).loc Cert.MergeGradient.main_arg0)) (m ((c.tc : Thread Cert.MergeGradient.nD Cert.MergeGradient.τ).loc Cert.MergeGradient.main_arg1)) (m ((c.tc : Thread Cert.MergeGradient.nD Cert.MergeGradient.τ).loc Cert.MergeGradient.main_arg2)) (m ((c.tc : Thread Cert.MergeGradient.nD Cert.MergeGradient.τ).loc Cert.MergeGradient.main_arg3)) (m ((c.tc : Thread Cert.MergeGradient.nD Cert.MergeGradient.τ).loc Cert.MergeGradient.main_arg4)) (m ((c.tc : Thread Cert.MergeGradient.nD Cert.MergeGradient.τ).loc Cert.MergeGradient.main_arg5)) (m ((c.tc : Thread Cert.MergeGradient.nD Cert.MergeGradient.τ).loc Cert.MergeGradient.main_arg6)) (m ((c.tc : Thread Cert.MergeGradient.nD Cert.MergeGradient.τ).loc Cert.MergeGradient.main_arg7)) (m ((c.tc : Thread Cert.MergeGradient.nD Cert.MergeGradient.τ).loc Cert.MergeGradient.main_arg8)) (m ((c.tc : Thread Cert.MergeGradient.nD Cert.MergeGradient.τ).loc Cert.MergeGradient.main_arg9))).1 = (fun _ => 1#1)
    ∧ (Cert.Pre_finite.fn (F := Bits) (m ((c.tc : Thread Cert.MergeGradient.nD Cert.MergeGradient.τ).loc Cert.MergeGradient.main_arg0)) (m ((c.tc : Thread Cert.MergeGradient.nD Cert.MergeGradient.τ).loc Cert.MergeGradient.main_arg1)) (m ((c.tc : Thread Cert.MergeGradient.nD Cert.MergeGradient.τ).loc Cert.MergeGradient.main_arg2)) (m ((c.tc : Thread Cert.MergeGradient.nD Cert.MergeGradient.τ).loc Cert.MergeGradient.main_arg3)) (m ((c.tc : Thread Cert.MergeGradient.nD Cert.MergeGradient.τ).loc Cert.MergeGradient.main_arg4)) (m ((c.tc : Thread Cert.MergeGradient.nD Cert.MergeGradient.τ).loc Cert.MergeGradient.main_arg5)) (m ((c.tc : Thread Cert.MergeGradient.nD Cert.MergeGradient.τ).loc Cert.MergeGradient.main_arg6)) (m ((c.tc : Thread Cert.MergeGradient.nD Cert.MergeGradient.τ).loc Cert.MergeGradient.main_arg7)) (m ((c.tc : Thread Cert.MergeGradient.nD Cert.MergeGradient.τ).loc Cert.MergeGradient.main_arg8)) (m ((c.tc : Thread Cert.MergeGradient.nD Cert.MergeGradient.τ).loc Cert.MergeGradient.main_arg9))).2.1 = (fun _ => 1#1)
    ∧ (Cert.Pre_finite.fn (F := Bits) (m ((c.tc : Thread Cert.MergeGradient.nD Cert.MergeGradient.τ).loc Cert.MergeGradient.main_arg0)) (m ((c.tc : Thread Cert.MergeGradient.nD Cert.MergeGradient.τ).loc Cert.MergeGradient.main_arg1)) (m ((c.tc : Thread Cert.MergeGradient.nD Cert.MergeGradient.τ).loc Cert.MergeGradient.main_arg2)) (m ((c.tc : Thread Cert.MergeGradient.nD Cert.MergeGradient.τ).loc Cert.MergeGradient.main_arg3)) (m ((c.tc : Thread Cert.MergeGradient.nD Cert.MergeGradient.τ).loc Cert.MergeGradient.main_arg4)) (m ((c.tc : Thread Cert.MergeGradient.nD Cert.MergeGradient.τ).loc Cert.MergeGradient.main_arg5)) (m ((c.tc : Thread Cert.MergeGradient.nD Cert.MergeGradient.τ).loc Cert.MergeGradient.main_arg6)) (m ((c.tc : Thread Cert.MergeGradient.nD Cert.MergeGradient.τ).loc Cert.MergeGradient.main_arg7)) (m ((c.tc : Thread Cert.MergeGradient.nD Cert.MergeGradient.τ).loc Cert.MergeGradient.main_arg8)) (m ((c.tc : Thread Cert.MergeGradient.nD Cert.MergeGradient.τ).loc Cert.MergeGradient.main_arg9))).2.2.1 = (fun _ => 1#1)
    ∧ (Cert.Pre_finite.fn (F := Bits) (m ((c.tc : Thread Cert.MergeGradient.nD Cert.MergeGradient.τ).loc Cert.MergeGradient.main_arg0)) (m ((c.tc : Thread Cert.MergeGradient.nD Cert.MergeGradient.τ).loc Cert.MergeGradient.main_arg1)) (m ((c.tc : Thread Cert.MergeGradient.nD Cert.MergeGradient.τ).loc Cert.MergeGradient.main_arg2)) (m ((c.tc : Thread Cert.MergeGradient.nD Cert.MergeGradient.τ).loc Cert.MergeGradient.main_arg3)) (m ((c.tc : Thread Cert.MergeGradient.nD Cert.MergeGradient.τ).loc Cert.MergeGradient.main_arg4)) (m ((c.tc : Thread Cert.MergeGradient.nD Cert.MergeGradient.τ).loc Cert.MergeGradient.main_arg5)) (m ((c.tc : Thread Cert.MergeGradient.nD Cert.MergeGradient.τ).loc Cert.MergeGradient.main_arg6)) (m ((c.tc : Thread Cert.MergeGradient.nD Cert.MergeGradient.τ).loc Cert.MergeGradient.main_arg7)) (m ((c.tc : Thread Cert.MergeGradient.nD Cert.MergeGradient.τ).loc Cert.MergeGradient.main_arg8)) (m ((c.tc : Thread Cert.MergeGradient.nD Cert.MergeGradient.τ).loc Cert.MergeGradient.main_arg9))).2.2.2.1 = (fun _ => 1#1)
    ∧ (Cert.Pre_finite.fn (F := Bits) (m ((c.tc : Thread Cert.MergeGradient.nD Cert.MergeGradient.τ).loc Cert.MergeGradient.main_arg0)) (m ((c.tc : Thread Cert.MergeGradient.nD Cert.MergeGradient.τ).loc Cert.MergeGradient.main_arg1)) (m ((c.tc : Thread Cert.MergeGradient.nD Cert.MergeGradient.τ).loc Cert.MergeGradient.main_arg2)) (m ((c.tc : Thread Cert.MergeGradient.nD Cert.MergeGradient.τ).loc Cert.MergeGradient.main_arg3)) (m ((c.tc : Thread Cert.MergeGradient.nD Cert.MergeGradient.τ).loc Cert.MergeGradient.main_arg4)) (m ((c.tc : Thread Cert.MergeGradient.nD Cert.MergeGradient.τ).loc Cert.MergeGradient.main_arg5)) (m ((c.tc : Thread Cert.MergeGradient.nD Cert.MergeGradient.τ).loc Cert.MergeGradient.main_arg6)) (m ((c.tc : Thread Cert.MergeGradient.nD Cert.MergeGradient.τ).loc Cert.MergeGradient.main_arg7)) (m ((c.tc : Thread Cert.MergeGradient.nD Cert.MergeGradient.τ).loc Cert.MergeGradient.main_arg8)) (m ((c.tc : Thread Cert.MergeGradient.nD Cert.MergeGradient.τ).loc Cert.MergeGradient.main_arg9))).2.2.2.2.1 = (fun _ => 1#1)
    ∧ (Cert.Pre_finite.fn (F := Bits) (m ((c.tc : Thread Cert.MergeGradient.nD Cert.MergeGradient.τ).loc Cert.MergeGradient.main_arg0)) (m ((c.tc : Thread Cert.MergeGradient.nD Cert.MergeGradient.τ).loc Cert.MergeGradient.main_arg1)) (m ((c.tc : Thread Cert.MergeGradient.nD Cert.MergeGradient.τ).loc Cert.MergeGradient.main_arg2)) (m ((c.tc : Thread Cert.MergeGradient.nD Cert.MergeGradient.τ).loc Cert.MergeGradient.main_arg3)) (m ((c.tc : Thread Cert.MergeGradient.nD Cert.MergeGradient.τ).loc Cert.MergeGradient.main_arg4)) (m ((c.tc : Thread Cert.MergeGradient.nD Cert.MergeGradient.τ).loc Cert.MergeGradient.main_arg5)) (m ((c.tc : Thread Cert.MergeGradient.nD Cert.MergeGradient.τ).loc Cert.MergeGradient.main_arg6)) (m ((c.tc : Thread Cert.MergeGradient.nD Cert.MergeGradient.τ).loc Cert.MergeGradient.main_arg7)) (m ((c.tc : Thread Cert.MergeGradient.nD Cert.MergeGradient.τ).loc Cert.MergeGradient.main_arg8)) (m ((c.tc : Thread Cert.MergeGradient.nD Cert.MergeGradient.τ).loc Cert.MergeGradient.main_arg9))).2.2.2.2.2 = (fun _ => 1#1)

def Pre_MergeGradientIdeal [hPre_finite : Cert.Pre_finite.Facts] (m : (ℓ : Loc Cert.MergeGradientIdeal.nD Cert.MergeGradientIdeal.τ Cert.MergeGradientIdeal.sig) → Buf (Elt Ideal) ℓ) : Prop :=
  ∀ c : Dev Cert.MergeGradientIdeal.nD,
    (Cert.Pre_finite.fn (F := Ideal) (m ((c.tc : Thread Cert.MergeGradientIdeal.nD Cert.MergeGradientIdeal.τ).loc Cert.MergeGradientIdeal.main_arg0)) (m ((c.tc : Thread Cert.MergeGradientIdeal.nD Cert.MergeGradientIdeal.τ).loc Cert.MergeGradientIdeal.main_arg1)) (m ((c.tc : Thread Cert.MergeGradientIdeal.nD Cert.MergeGradientIdeal.τ).loc Cert.MergeGradientIdeal.main_arg2)) (m ((c.tc : Thread Cert.MergeGradientIdeal.nD Cert.MergeGradientIdeal.τ).loc Cert.MergeGradientIdeal.main_arg3)) (m ((c.tc : Thread Cert.MergeGradientIdeal.nD Cert.MergeGradientIdeal.τ).loc Cert.MergeGradientIdeal.main_arg4)) (m ((c.tc : Thread Cert.MergeGradientIdeal.nD Cert.MergeGradientIdeal.τ).loc Cert.MergeGradientIdeal.main_arg5)) (m ((c.tc : Thread Cert.MergeGradientIdeal.nD Cert.MergeGradientIdeal.τ).loc Cert.MergeGradientIdeal.main_arg6)) (m ((c.tc : Thread Cert.MergeGradientIdeal.nD Cert.MergeGradientIdeal.τ).loc Cert.MergeGradientIdeal.main_arg7)) (m ((c.tc : Thread Cert.MergeGradientIdeal.nD Cert.MergeGradientIdeal.τ).loc Cert.MergeGradientIdeal.main_arg8)) (m ((c.tc : Thread Cert.MergeGradientIdeal.nD Cert.MergeGradientIdeal.τ).loc Cert.MergeGradientIdeal.main_arg9))).1 = (fun _ => 1#1)
    ∧ (Cert.Pre_finite.fn (F := Ideal) (m ((c.tc : Thread Cert.MergeGradientIdeal.nD Cert.MergeGradientIdeal.τ).loc Cert.MergeGradientIdeal.main_arg0)) (m ((c.tc : Thread Cert.MergeGradientIdeal.nD Cert.MergeGradientIdeal.τ).loc Cert.MergeGradientIdeal.main_arg1)) (m ((c.tc : Thread Cert.MergeGradientIdeal.nD Cert.MergeGradientIdeal.τ).loc Cert.MergeGradientIdeal.main_arg2)) (m ((c.tc : Thread Cert.MergeGradientIdeal.nD Cert.MergeGradientIdeal.τ).loc Cert.MergeGradientIdeal.main_arg3)) (m ((c.tc : Thread Cert.MergeGradientIdeal.nD Cert.MergeGradientIdeal.τ).loc Cert.MergeGradientIdeal.main_arg4)) (m ((c.tc : Thread Cert.MergeGradientIdeal.nD Cert.MergeGradientIdeal.τ).loc Cert.MergeGradientIdeal.main_arg5)) (m ((c.tc : Thread Cert.MergeGradientIdeal.nD Cert.MergeGradientIdeal.τ).loc Cert.MergeGradientIdeal.main_arg6)) (m ((c.tc : Thread Cert.MergeGradientIdeal.nD Cert.MergeGradientIdeal.τ).loc Cert.MergeGradientIdeal.main_arg7)) (m ((c.tc : Thread Cert.MergeGradientIdeal.nD Cert.MergeGradientIdeal.τ).loc Cert.MergeGradientIdeal.main_arg8)) (m ((c.tc : Thread Cert.MergeGradientIdeal.nD Cert.MergeGradientIdeal.τ).loc Cert.MergeGradientIdeal.main_arg9))).2.1 = (fun _ => 1#1)
    ∧ (Cert.Pre_finite.fn (F := Ideal) (m ((c.tc : Thread Cert.MergeGradientIdeal.nD Cert.MergeGradientIdeal.τ).loc Cert.MergeGradientIdeal.main_arg0)) (m ((c.tc : Thread Cert.MergeGradientIdeal.nD Cert.MergeGradientIdeal.τ).loc Cert.MergeGradientIdeal.main_arg1)) (m ((c.tc : Thread Cert.MergeGradientIdeal.nD Cert.MergeGradientIdeal.τ).loc Cert.MergeGradientIdeal.main_arg2)) (m ((c.tc : Thread Cert.MergeGradientIdeal.nD Cert.MergeGradientIdeal.τ).loc Cert.MergeGradientIdeal.main_arg3)) (m ((c.tc : Thread Cert.MergeGradientIdeal.nD Cert.MergeGradientIdeal.τ).loc Cert.MergeGradientIdeal.main_arg4)) (m ((c.tc : Thread Cert.MergeGradientIdeal.nD Cert.MergeGradientIdeal.τ).loc Cert.MergeGradientIdeal.main_arg5)) (m ((c.tc : Thread Cert.MergeGradientIdeal.nD Cert.MergeGradientIdeal.τ).loc Cert.MergeGradientIdeal.main_arg6)) (m ((c.tc : Thread Cert.MergeGradientIdeal.nD Cert.MergeGradientIdeal.τ).loc Cert.MergeGradientIdeal.main_arg7)) (m ((c.tc : Thread Cert.MergeGradientIdeal.nD Cert.MergeGradientIdeal.τ).loc Cert.MergeGradientIdeal.main_arg8)) (m ((c.tc : Thread Cert.MergeGradientIdeal.nD Cert.MergeGradientIdeal.τ).loc Cert.MergeGradientIdeal.main_arg9))).2.2.1 = (fun _ => 1#1)
    ∧ (Cert.Pre_finite.fn (F := Ideal) (m ((c.tc : Thread Cert.MergeGradientIdeal.nD Cert.MergeGradientIdeal.τ).loc Cert.MergeGradientIdeal.main_arg0)) (m ((c.tc : Thread Cert.MergeGradientIdeal.nD Cert.MergeGradientIdeal.τ).loc Cert.MergeGradientIdeal.main_arg1)) (m ((c.tc : Thread Cert.MergeGradientIdeal.nD Cert.MergeGradientIdeal.τ).loc Cert.MergeGradientIdeal.main_arg2)) (m ((c.tc : Thread Cert.MergeGradientIdeal.nD Cert.MergeGradientIdeal.τ).loc Cert.MergeGradientIdeal.main_arg3)) (m ((c.tc : Thread Cert.MergeGradientIdeal.nD Cert.MergeGradientIdeal.τ).loc Cert.MergeGradientIdeal.main_arg4)) (m ((c.tc : Thread Cert.MergeGradientIdeal.nD Cert.MergeGradientIdeal.τ).loc Cert.MergeGradientIdeal.main_arg5)) (m ((c.tc : Thread Cert.MergeGradientIdeal.nD Cert.MergeGradientIdeal.τ).loc Cert.MergeGradientIdeal.main_arg6)) (m ((c.tc : Thread Cert.MergeGradientIdeal.nD Cert.MergeGradientIdeal.τ).loc Cert.MergeGradientIdeal.main_arg7)) (m ((c.tc : Thread Cert.MergeGradientIdeal.nD Cert.MergeGradientIdeal.τ).loc Cert.MergeGradientIdeal.main_arg8)) (m ((c.tc : Thread Cert.MergeGradientIdeal.nD Cert.MergeGradientIdeal.τ).loc Cert.MergeGradientIdeal.main_arg9))).2.2.2.1 = (fun _ => 1#1)
    ∧ (Cert.Pre_finite.fn (F := Ideal) (m ((c.tc : Thread Cert.MergeGradientIdeal.nD Cert.MergeGradientIdeal.τ).loc Cert.MergeGradientIdeal.main_arg0)) (m ((c.tc : Thread Cert.MergeGradientIdeal.nD Cert.MergeGradientIdeal.τ).loc Cert.MergeGradientIdeal.main_arg1)) (m ((c.tc : Thread Cert.MergeGradientIdeal.nD Cert.MergeGradientIdeal.τ).loc Cert.MergeGradientIdeal.main_arg2)) (m ((c.tc : Thread Cert.MergeGradientIdeal.nD Cert.MergeGradientIdeal.τ).loc Cert.MergeGradientIdeal.main_arg3)) (m ((c.tc : Thread Cert.MergeGradientIdeal.nD Cert.MergeGradientIdeal.τ).loc Cert.MergeGradientIdeal.main_arg4)) (m ((c.tc : Thread Cert.MergeGradientIdeal.nD Cert.MergeGradientIdeal.τ).loc Cert.MergeGradientIdeal.main_arg5)) (m ((c.tc : Thread Cert.MergeGradientIdeal.nD Cert.MergeGradientIdeal.τ).loc Cert.MergeGradientIdeal.main_arg6)) (m ((c.tc : Thread Cert.MergeGradientIdeal.nD Cert.MergeGradientIdeal.τ).loc Cert.MergeGradientIdeal.main_arg7)) (m ((c.tc : Thread Cert.MergeGradientIdeal.nD Cert.MergeGradientIdeal.τ).loc Cert.MergeGradientIdeal.main_arg8)) (m ((c.tc : Thread Cert.MergeGradientIdeal.nD Cert.MergeGradientIdeal.τ).loc Cert.MergeGradientIdeal.main_arg9))).2.2.2.2.1 = (fun _ => 1#1)
    ∧ (Cert.Pre_finite.fn (F := Ideal) (m ((c.tc : Thread Cert.MergeGradientIdeal.nD Cert.MergeGradientIdeal.τ).loc Cert.MergeGradientIdeal.main_arg0)) (m ((c.tc : Thread Cert.MergeGradientIdeal.nD Cert.MergeGradientIdeal.τ).loc Cert.MergeGradientIdeal.main_arg1)) (m ((c.tc : Thread Cert.MergeGradientIdeal.nD Cert.MergeGradientIdeal.τ).loc Cert.MergeGradientIdeal.main_arg2)) (m ((c.tc : Thread Cert.MergeGradientIdeal.nD Cert.MergeGradientIdeal.τ).loc Cert.MergeGradientIdeal.main_arg3)) (m ((c.tc : Thread Cert.MergeGradientIdeal.nD Cert.MergeGradientIdeal.τ).loc Cert.MergeGradientIdeal.main_arg4)) (m ((c.tc : Thread Cert.MergeGradientIdeal.nD Cert.MergeGradientIdeal.τ).loc Cert.MergeGradientIdeal.main_arg5)) (m ((c.tc : Thread Cert.MergeGradientIdeal.nD Cert.MergeGradientIdeal.τ).loc Cert.MergeGradientIdeal.main_arg6)) (m ((c.tc : Thread Cert.MergeGradientIdeal.nD Cert.MergeGradientIdeal.τ).loc Cert.MergeGradientIdeal.main_arg7)) (m ((c.tc : Thread Cert.MergeGradientIdeal.nD Cert.MergeGradientIdeal.τ).loc Cert.MergeGradientIdeal.main_arg8)) (m ((c.tc : Thread Cert.MergeGradientIdeal.nD Cert.MergeGradientIdeal.τ).loc Cert.MergeGradientIdeal.main_arg9))).2.2.2.2.2 = (fun _ => 1#1)

def Pre_MergeGradientReferenceIdeal (m : (ℓ : Loc Cert.MergeGradientReferenceIdeal.nD Cert.MergeGradientReferenceIdeal.τ Cert.MergeGradientReferenceIdeal.sig) → Buf (Elt Ideal) ℓ) : Prop :=
  True

def Pre_MergeGradientReferenceIdeal_finite [hPre_finite : Cert.Pre_finite.Facts] (m : (ℓ : Loc Cert.MergeGradientReferenceIdeal.nD Cert.MergeGradientReferenceIdeal.τ Cert.MergeGradientReferenceIdeal.sig) → Buf (Elt Ideal) ℓ) : Prop :=
  ∀ c : Dev Cert.MergeGradientReferenceIdeal.nD,
    (Cert.Pre_finite.fn (F := Ideal) (m ((c.tc : Thread Cert.MergeGradientReferenceIdeal.nD Cert.MergeGradientReferenceIdeal.τ).loc Cert.MergeGradientReferenceIdeal.main_arg0)) (m ((c.tc : Thread Cert.MergeGradientReferenceIdeal.nD Cert.MergeGradientReferenceIdeal.τ).loc Cert.MergeGradientReferenceIdeal.main_arg1)) (m ((c.tc : Thread Cert.MergeGradientReferenceIdeal.nD Cert.MergeGradientReferenceIdeal.τ).loc Cert.MergeGradientReferenceIdeal.main_arg2)) (m ((c.tc : Thread Cert.MergeGradientReferenceIdeal.nD Cert.MergeGradientReferenceIdeal.τ).loc Cert.MergeGradientReferenceIdeal.main_arg3)) (m ((c.tc : Thread Cert.MergeGradientReferenceIdeal.nD Cert.MergeGradientReferenceIdeal.τ).loc Cert.MergeGradientReferenceIdeal.main_arg4)) (m ((c.tc : Thread Cert.MergeGradientReferenceIdeal.nD Cert.MergeGradientReferenceIdeal.τ).loc Cert.MergeGradientReferenceIdeal.main_arg5)) (m ((c.tc : Thread Cert.MergeGradientReferenceIdeal.nD Cert.MergeGradientReferenceIdeal.τ).loc Cert.MergeGradientReferenceIdeal.main_arg6)) (m ((c.tc : Thread Cert.MergeGradientReferenceIdeal.nD Cert.MergeGradientReferenceIdeal.τ).loc Cert.MergeGradientReferenceIdeal.main_arg7)) (m ((c.tc : Thread Cert.MergeGradientReferenceIdeal.nD Cert.MergeGradientReferenceIdeal.τ).loc Cert.MergeGradientReferenceIdeal.main_arg8)) (m ((c.tc : Thread Cert.MergeGradientReferenceIdeal.nD Cert.MergeGradientReferenceIdeal.τ).loc Cert.MergeGradientReferenceIdeal.main_arg9))).1 = (fun _ => 1#1)
    ∧ (Cert.Pre_finite.fn (F := Ideal) (m ((c.tc : Thread Cert.MergeGradientReferenceIdeal.nD Cert.MergeGradientReferenceIdeal.τ).loc Cert.MergeGradientReferenceIdeal.main_arg0)) (m ((c.tc : Thread Cert.MergeGradientReferenceIdeal.nD Cert.MergeGradientReferenceIdeal.τ).loc Cert.MergeGradientReferenceIdeal.main_arg1)) (m ((c.tc : Thread Cert.MergeGradientReferenceIdeal.nD Cert.MergeGradientReferenceIdeal.τ).loc Cert.MergeGradientReferenceIdeal.main_arg2)) (m ((c.tc : Thread Cert.MergeGradientReferenceIdeal.nD Cert.MergeGradientReferenceIdeal.τ).loc Cert.MergeGradientReferenceIdeal.main_arg3)) (m ((c.tc : Thread Cert.MergeGradientReferenceIdeal.nD Cert.MergeGradientReferenceIdeal.τ).loc Cert.MergeGradientReferenceIdeal.main_arg4)) (m ((c.tc : Thread Cert.MergeGradientReferenceIdeal.nD Cert.MergeGradientReferenceIdeal.τ).loc Cert.MergeGradientReferenceIdeal.main_arg5)) (m ((c.tc : Thread Cert.MergeGradientReferenceIdeal.nD Cert.MergeGradientReferenceIdeal.τ).loc Cert.MergeGradientReferenceIdeal.main_arg6)) (m ((c.tc : Thread Cert.MergeGradientReferenceIdeal.nD Cert.MergeGradientReferenceIdeal.τ).loc Cert.MergeGradientReferenceIdeal.main_arg7)) (m ((c.tc : Thread Cert.MergeGradientReferenceIdeal.nD Cert.MergeGradientReferenceIdeal.τ).loc Cert.MergeGradientReferenceIdeal.main_arg8)) (m ((c.tc : Thread Cert.MergeGradientReferenceIdeal.nD Cert.MergeGradientReferenceIdeal.τ).loc Cert.MergeGradientReferenceIdeal.main_arg9))).2.1 = (fun _ => 1#1)
    ∧ (Cert.Pre_finite.fn (F := Ideal) (m ((c.tc : Thread Cert.MergeGradientReferenceIdeal.nD Cert.MergeGradientReferenceIdeal.τ).loc Cert.MergeGradientReferenceIdeal.main_arg0)) (m ((c.tc : Thread Cert.MergeGradientReferenceIdeal.nD Cert.MergeGradientReferenceIdeal.τ).loc Cert.MergeGradientReferenceIdeal.main_arg1)) (m ((c.tc : Thread Cert.MergeGradientReferenceIdeal.nD Cert.MergeGradientReferenceIdeal.τ).loc Cert.MergeGradientReferenceIdeal.main_arg2)) (m ((c.tc : Thread Cert.MergeGradientReferenceIdeal.nD Cert.MergeGradientReferenceIdeal.τ).loc Cert.MergeGradientReferenceIdeal.main_arg3)) (m ((c.tc : Thread Cert.MergeGradientReferenceIdeal.nD Cert.MergeGradientReferenceIdeal.τ).loc Cert.MergeGradientReferenceIdeal.main_arg4)) (m ((c.tc : Thread Cert.MergeGradientReferenceIdeal.nD Cert.MergeGradientReferenceIdeal.τ).loc Cert.MergeGradientReferenceIdeal.main_arg5)) (m ((c.tc : Thread Cert.MergeGradientReferenceIdeal.nD Cert.MergeGradientReferenceIdeal.τ).loc Cert.MergeGradientReferenceIdeal.main_arg6)) (m ((c.tc : Thread Cert.MergeGradientReferenceIdeal.nD Cert.MergeGradientReferenceIdeal.τ).loc Cert.MergeGradientReferenceIdeal.main_arg7)) (m ((c.tc : Thread Cert.MergeGradientReferenceIdeal.nD Cert.MergeGradientReferenceIdeal.τ).loc Cert.MergeGradientReferenceIdeal.main_arg8)) (m ((c.tc : Thread Cert.MergeGradientReferenceIdeal.nD Cert.MergeGradientReferenceIdeal.τ).loc Cert.MergeGradientReferenceIdeal.main_arg9))).2.2.1 = (fun _ => 1#1)
    ∧ (Cert.Pre_finite.fn (F := Ideal) (m ((c.tc : Thread Cert.MergeGradientReferenceIdeal.nD Cert.MergeGradientReferenceIdeal.τ).loc Cert.MergeGradientReferenceIdeal.main_arg0)) (m ((c.tc : Thread Cert.MergeGradientReferenceIdeal.nD Cert.MergeGradientReferenceIdeal.τ).loc Cert.MergeGradientReferenceIdeal.main_arg1)) (m ((c.tc : Thread Cert.MergeGradientReferenceIdeal.nD Cert.MergeGradientReferenceIdeal.τ).loc Cert.MergeGradientReferenceIdeal.main_arg2)) (m ((c.tc : Thread Cert.MergeGradientReferenceIdeal.nD Cert.MergeGradientReferenceIdeal.τ).loc Cert.MergeGradientReferenceIdeal.main_arg3)) (m ((c.tc : Thread Cert.MergeGradientReferenceIdeal.nD Cert.MergeGradientReferenceIdeal.τ).loc Cert.MergeGradientReferenceIdeal.main_arg4)) (m ((c.tc : Thread Cert.MergeGradientReferenceIdeal.nD Cert.MergeGradientReferenceIdeal.τ).loc Cert.MergeGradientReferenceIdeal.main_arg5)) (m ((c.tc : Thread Cert.MergeGradientReferenceIdeal.nD Cert.MergeGradientReferenceIdeal.τ).loc Cert.MergeGradientReferenceIdeal.main_arg6)) (m ((c.tc : Thread Cert.MergeGradientReferenceIdeal.nD Cert.MergeGradientReferenceIdeal.τ).loc Cert.MergeGradientReferenceIdeal.main_arg7)) (m ((c.tc : Thread Cert.MergeGradientReferenceIdeal.nD Cert.MergeGradientReferenceIdeal.τ).loc Cert.MergeGradientReferenceIdeal.main_arg8)) (m ((c.tc : Thread Cert.MergeGradientReferenceIdeal.nD Cert.MergeGradientReferenceIdeal.τ).loc Cert.MergeGradientReferenceIdeal.main_arg9))).2.2.2.1 = (fun _ => 1#1)
    ∧ (Cert.Pre_finite.fn (F := Ideal) (m ((c.tc : Thread Cert.MergeGradientReferenceIdeal.nD Cert.MergeGradientReferenceIdeal.τ).loc Cert.MergeGradientReferenceIdeal.main_arg0)) (m ((c.tc : Thread Cert.MergeGradientReferenceIdeal.nD Cert.MergeGradientReferenceIdeal.τ).loc Cert.MergeGradientReferenceIdeal.main_arg1)) (m ((c.tc : Thread Cert.MergeGradientReferenceIdeal.nD Cert.MergeGradientReferenceIdeal.τ).loc Cert.MergeGradientReferenceIdeal.main_arg2)) (m ((c.tc : Thread Cert.MergeGradientReferenceIdeal.nD Cert.MergeGradientReferenceIdeal.τ).loc Cert.MergeGradientReferenceIdeal.main_arg3)) (m ((c.tc : Thread Cert.MergeGradientReferenceIdeal.nD Cert.MergeGradientReferenceIdeal.τ).loc Cert.MergeGradientReferenceIdeal.main_arg4)) (m ((c.tc : Thread Cert.MergeGradientReferenceIdeal.nD Cert.MergeGradientReferenceIdeal.τ).loc Cert.MergeGradientReferenceIdeal.main_arg5)) (m ((c.tc : Thread Cert.MergeGradientReferenceIdeal.nD Cert.MergeGradientReferenceIdeal.τ).loc Cert.MergeGradientReferenceIdeal.main_arg6)) (m ((c.tc : Thread Cert.MergeGradientReferenceIdeal.nD Cert.MergeGradientReferenceIdeal.τ).loc Cert.MergeGradientReferenceIdeal.main_arg7)) (m ((c.tc : Thread Cert.MergeGradientReferenceIdeal.nD Cert.MergeGradientReferenceIdeal.τ).loc Cert.MergeGradientReferenceIdeal.main_arg8)) (m ((c.tc : Thread Cert.MergeGradientReferenceIdeal.nD Cert.MergeGradientReferenceIdeal.τ).loc Cert.MergeGradientReferenceIdeal.main_arg9))).2.2.2.2.1 = (fun _ => 1#1)
    ∧ (Cert.Pre_finite.fn (F := Ideal) (m ((c.tc : Thread Cert.MergeGradientReferenceIdeal.nD Cert.MergeGradientReferenceIdeal.τ).loc Cert.MergeGradientReferenceIdeal.main_arg0)) (m ((c.tc : Thread Cert.MergeGradientReferenceIdeal.nD Cert.MergeGradientReferenceIdeal.τ).loc Cert.MergeGradientReferenceIdeal.main_arg1)) (m ((c.tc : Thread Cert.MergeGradientReferenceIdeal.nD Cert.MergeGradientReferenceIdeal.τ).loc Cert.MergeGradientReferenceIdeal.main_arg2)) (m ((c.tc : Thread Cert.MergeGradientReferenceIdeal.nD Cert.MergeGradientReferenceIdeal.τ).loc Cert.MergeGradientReferenceIdeal.main_arg3)) (m ((c.tc : Thread Cert.MergeGradientReferenceIdeal.nD Cert.MergeGradientReferenceIdeal.τ).loc Cert.MergeGradientReferenceIdeal.main_arg4)) (m ((c.tc : Thread Cert.MergeGradientReferenceIdeal.nD Cert.MergeGradientReferenceIdeal.τ).loc Cert.MergeGradientReferenceIdeal.main_arg5)) (m ((c.tc : Thread Cert.MergeGradientReferenceIdeal.nD Cert.MergeGradientReferenceIdeal.τ).loc Cert.MergeGradientReferenceIdeal.main_arg6)) (m ((c.tc : Thread Cert.MergeGradientReferenceIdeal.nD Cert.MergeGradientReferenceIdeal.τ).loc Cert.MergeGradientReferenceIdeal.main_arg7)) (m ((c.tc : Thread Cert.MergeGradientReferenceIdeal.nD Cert.MergeGradientReferenceIdeal.τ).loc Cert.MergeGradientReferenceIdeal.main_arg8)) (m ((c.tc : Thread Cert.MergeGradientReferenceIdeal.nD Cert.MergeGradientReferenceIdeal.τ).loc Cert.MergeGradientReferenceIdeal.main_arg9))).2.2.2.2.2 = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamSbBranch (m : (ℓ : Loc Cert.AdamSbBranch.nD Cert.AdamSbBranch.τ Cert.AdamSbBranch.sig) → Buf (Elt Bits) ℓ) : Prop :=
  True

def Pre_AdamSbBranchIdeal (m : (ℓ : Loc Cert.AdamSbBranchIdeal.nD Cert.AdamSbBranchIdeal.τ Cert.AdamSbBranchIdeal.sig) → Buf (Elt Ideal) ℓ) : Prop :=
  True

def Pre_AdamSbBranchReferenceIdeal (m : (ℓ : Loc Cert.AdamSbBranchReferenceIdeal.nD Cert.AdamSbBranchReferenceIdeal.τ Cert.AdamSbBranchReferenceIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareReferenceIdeal (m : (ℓ : Loc Cert.AdamSquareReferenceIdeal.nD Cert.AdamSquareReferenceIdeal.τ Cert.AdamSquareReferenceIdeal.sig) → Buf (Elt Ideal) ℓ) : Prop :=
  True

def Pre_AdamMeta (m : (ℓ : Loc Cert.AdamMeta.nD Cert.AdamMeta.τ Cert.AdamMeta.sig) → Buf (Elt Bits) ℓ) : Prop :=
  True

def Pre_AdamMetaIdeal (m : (ℓ : Loc Cert.AdamMetaIdeal.nD Cert.AdamMetaIdeal.τ Cert.AdamMetaIdeal.sig) → Buf (Elt Ideal) ℓ) : Prop :=
  True

def Pre_AdamMetaReferenceIdeal (m : (ℓ : Loc Cert.AdamMetaReferenceIdeal.nD Cert.AdamMetaReferenceIdeal.τ Cert.AdamMetaReferenceIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainReferenceIdeal (m : (ℓ : Loc Cert.AdamGainReferenceIdeal.nD Cert.AdamGainReferenceIdeal.τ Cert.AdamGainReferenceIdeal.sig) → Buf (Elt Ideal) ℓ) : Prop :=
  True

def Pre_AdamSinks (m : (ℓ : Loc Cert.AdamSinks.nD Cert.AdamSinks.τ Cert.AdamSinks.sig) → Buf (Elt Bits) ℓ) : Prop :=
  True

def Pre_AdamSinksIdeal (m : (ℓ : Loc Cert.AdamSinksIdeal.nD Cert.AdamSinksIdeal.τ Cert.AdamSinksIdeal.sig) → Buf (Elt Ideal) ℓ) : Prop :=
  True

def Pre_AdamSinksReferenceIdeal (m : (ℓ : Loc Cert.AdamSinksReferenceIdeal.nD Cert.AdamSinksReferenceIdeal.τ Cert.AdamSinksReferenceIdeal.sig) → Buf (Elt Ideal) ℓ) : Prop :=
  True

def Pre_NormForward (m : (ℓ : Loc Cert.NormForward.nD Cert.NormForward.τ Cert.NormForward.sig) → Buf (Elt Bits) ℓ) : Prop :=
  True

def Pre_NormForwardIdeal (m : (ℓ : Loc Cert.NormForwardIdeal.nD Cert.NormForwardIdeal.τ Cert.NormForwardIdeal.sig) → Buf (Elt Ideal) ℓ) : Prop :=
  True

def Pre_NormForwardReferenceIdeal (m : (ℓ : Loc Cert.NormForwardReferenceIdeal.nD Cert.NormForwardReferenceIdeal.τ Cert.NormForwardReferenceIdeal.sig) → Buf (Elt Ideal) ℓ) : Prop :=
  True

def Pre_LossForward (m : (ℓ : Loc Cert.LossForward.nD Cert.LossForward.τ Cert.LossForward.sig) → Buf (Elt Bits) ℓ) : Prop :=
  True

def Pre_LossForwardIdeal (m : (ℓ : Loc Cert.LossForwardIdeal.nD Cert.LossForwardIdeal.τ Cert.LossForwardIdeal.sig) → Buf (Elt Ideal) ℓ) : Prop :=
  True

def Pre_LossForwardReferenceIdeal (m : (ℓ : Loc Cert.LossForwardReferenceIdeal.nD Cert.LossForwardReferenceIdeal.τ Cert.LossForwardReferenceIdeal.sig) → Buf (Elt Ideal) ℓ) : Prop :=
  True

def Pre_LossGradient (m : (ℓ : Loc Cert.LossGradient.nD Cert.LossGradient.τ Cert.LossGradient.sig) → Buf (Elt Bits) ℓ) : Prop :=
  True

def Pre_LossGradientIdeal (m : (ℓ : Loc Cert.LossGradientIdeal.nD Cert.LossGradientIdeal.τ Cert.LossGradientIdeal.sig) → Buf (Elt Ideal) ℓ) : Prop :=
  True

def Pre_LossGradientReferenceIdeal (m : (ℓ : Loc Cert.LossGradientReferenceIdeal.nD Cert.LossGradientReferenceIdeal.τ Cert.LossGradientReferenceIdeal.sig) → Buf (Elt Ideal) ℓ) : Prop :=
  True

def quiescent_InputGradient [hInputGradient : Cert.InputGradient.Facts] : Prop :=
  ∀ (m : (ℓ : Loc Cert.InputGradient.nD Cert.InputGradient.τ Cert.InputGradient.sig) → Buf (Elt Bits) ℓ) (g : Dev Cert.InputGradient.nD → PrngReg), Pre_InputGradient m →
    θ_run (Cert.InputGradient.defs (F := Bits)) (onTc (τ := Cert.InputGradient.τ) (Cert.InputGradient.main (F := Bits))) ⟨m, fun _ => 0, g⟩ (fun r => (∀ c : Dev Cert.InputGradient.nD,
      r.2.mem ((c.tc : Thread Cert.InputGradient.nD Cert.InputGradient.τ).loc Cert.InputGradient.main_arg0) = m ((c.tc : Thread Cert.InputGradient.nD Cert.InputGradient.τ).loc Cert.InputGradient.main_arg0)
      ∧ r.2.mem ((c.tc : Thread Cert.InputGradient.nD Cert.InputGradient.τ).loc Cert.InputGradient.main_arg1) = m ((c.tc : Thread Cert.InputGradient.nD Cert.InputGradient.τ).loc Cert.InputGradient.main_arg1)
      ∧ r.2.mem ((c.tc : Thread Cert.InputGradient.nD Cert.InputGradient.τ).loc Cert.InputGradient.main_arg2) = m ((c.tc : Thread Cert.InputGradient.nD Cert.InputGradient.τ).loc Cert.InputGradient.main_arg2))
      ∧ r.2.sem = fun _ => 0)

def quiescent_InputGradientIdeal [hInputGradientIdeal : Cert.InputGradientIdeal.Facts] : Prop :=
  ∀ (m : (ℓ : Loc Cert.InputGradientIdeal.nD Cert.InputGradientIdeal.τ Cert.InputGradientIdeal.sig) → Buf (Elt Ideal) ℓ) (g : Dev Cert.InputGradientIdeal.nD → PrngReg), Pre_InputGradientIdeal m →
    θ_run (Cert.InputGradientIdeal.defs (F := Ideal)) (onTc (τ := Cert.InputGradientIdeal.τ) (Cert.InputGradientIdeal.main (F := Ideal))) ⟨m, fun _ => 0, g⟩ (fun r => (∀ c : Dev Cert.InputGradientIdeal.nD,
      r.2.mem ((c.tc : Thread Cert.InputGradientIdeal.nD Cert.InputGradientIdeal.τ).loc Cert.InputGradientIdeal.main_arg0) = m ((c.tc : Thread Cert.InputGradientIdeal.nD Cert.InputGradientIdeal.τ).loc Cert.InputGradientIdeal.main_arg0)
      ∧ r.2.mem ((c.tc : Thread Cert.InputGradientIdeal.nD Cert.InputGradientIdeal.τ).loc Cert.InputGradientIdeal.main_arg1) = m ((c.tc : Thread Cert.InputGradientIdeal.nD Cert.InputGradientIdeal.τ).loc Cert.InputGradientIdeal.main_arg1)
      ∧ r.2.mem ((c.tc : Thread Cert.InputGradientIdeal.nD Cert.InputGradientIdeal.τ).loc Cert.InputGradientIdeal.main_arg2) = m ((c.tc : Thread Cert.InputGradientIdeal.nD Cert.InputGradientIdeal.τ).loc Cert.InputGradientIdeal.main_arg2))
      ∧ r.2.sem = fun _ => 0)

def quiescent_InputGradientReferenceIdeal [hInputGradientReferenceIdeal : Cert.InputGradientReferenceIdeal.Facts] : Prop :=
  ∀ (m : (ℓ : Loc Cert.InputGradientReferenceIdeal.nD Cert.InputGradientReferenceIdeal.τ Cert.InputGradientReferenceIdeal.sig) → Buf (Elt Ideal) ℓ) (g : Dev Cert.InputGradientReferenceIdeal.nD → PrngReg), Pre_InputGradientReferenceIdeal m →
    θ_run (Cert.InputGradientReferenceIdeal.defs (F := Ideal)) (onTc (τ := Cert.InputGradientReferenceIdeal.τ) (Cert.InputGradientReferenceIdeal.main (F := Ideal))) ⟨m, fun _ => 0, g⟩ (fun r => (∀ c : Dev Cert.InputGradientReferenceIdeal.nD,
      r.2.mem ((c.tc : Thread Cert.InputGradientReferenceIdeal.nD Cert.InputGradientReferenceIdeal.τ).loc Cert.InputGradientReferenceIdeal.main_arg0) = m ((c.tc : Thread Cert.InputGradientReferenceIdeal.nD Cert.InputGradientReferenceIdeal.τ).loc Cert.InputGradientReferenceIdeal.main_arg0)
      ∧ r.2.mem ((c.tc : Thread Cert.InputGradientReferenceIdeal.nD Cert.InputGradientReferenceIdeal.τ).loc Cert.InputGradientReferenceIdeal.main_arg1) = m ((c.tc : Thread Cert.InputGradientReferenceIdeal.nD Cert.InputGradientReferenceIdeal.τ).loc Cert.InputGradientReferenceIdeal.main_arg1)
      ∧ r.2.mem ((c.tc : Thread Cert.InputGradientReferenceIdeal.nD Cert.InputGradientReferenceIdeal.τ).loc Cert.InputGradientReferenceIdeal.main_arg2) = m ((c.tc : Thread Cert.InputGradientReferenceIdeal.nD Cert.InputGradientReferenceIdeal.τ).loc Cert.InputGradientReferenceIdeal.main_arg2))
      ∧ r.2.sem = fun _ => 0)

def quiescent_QkvWeight [hQkvWeight : Cert.QkvWeight.Facts] : Prop :=
  ∀ (m : (ℓ : Loc Cert.QkvWeight.nD Cert.QkvWeight.τ Cert.QkvWeight.sig) → Buf (Elt Bits) ℓ) (g : Dev Cert.QkvWeight.nD → PrngReg), Pre_QkvWeight m →
    θ_run (Cert.QkvWeight.defs (F := Bits)) (onTc (τ := Cert.QkvWeight.τ) (Cert.QkvWeight.main (F := Bits))) ⟨m, fun _ => 0, g⟩ (fun r => (∀ c : Dev Cert.QkvWeight.nD,
      r.2.mem ((c.tc : Thread Cert.QkvWeight.nD Cert.QkvWeight.τ).loc Cert.QkvWeight.main_arg0) = m ((c.tc : Thread Cert.QkvWeight.nD Cert.QkvWeight.τ).loc Cert.QkvWeight.main_arg0)
      ∧ r.2.mem ((c.tc : Thread Cert.QkvWeight.nD Cert.QkvWeight.τ).loc Cert.QkvWeight.main_arg1) = m ((c.tc : Thread Cert.QkvWeight.nD Cert.QkvWeight.τ).loc Cert.QkvWeight.main_arg1)
      ∧ r.2.mem ((c.tc : Thread Cert.QkvWeight.nD Cert.QkvWeight.τ).loc Cert.QkvWeight.main_arg2) = m ((c.tc : Thread Cert.QkvWeight.nD Cert.QkvWeight.τ).loc Cert.QkvWeight.main_arg2))
      ∧ r.2.sem = fun _ => 0)

def quiescent_QkvWeightIdeal [hQkvWeightIdeal : Cert.QkvWeightIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg), Pre_QkvWeightIdeal m →
    θ_run (Cert.QkvWeightIdeal.defs (F := Ideal)) (onTc (τ := Cert.QkvWeightIdeal.τ) (Cert.QkvWeightIdeal.main (F := Ideal))) ⟨m, fun _ => 0, g⟩ (fun r => (∀ c : Dev Cert.QkvWeightIdeal.nD,
      r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
      ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1)
      ∧ r.2.mem ((c.tc : Thread Cert.QkvWeightIdeal.nD Cert.QkvWeightIdeal.τ).loc Cert.QkvWeightIdeal.main_arg2) = m ((c.tc : Thread Cert.QkvWeightIdeal.nD Cert.QkvWeightIdeal.τ).loc Cert.QkvWeightIdeal.main_arg2))
      ∧ r.2.sem = fun _ => 0)

def quiescent_QkvWeightReferenceIdeal [hQkvWeightReferenceIdeal : Cert.QkvWeightReferenceIdeal.Facts] : Prop :=
  ∀ (m : (ℓ : Loc Cert.QkvWeightReferenceIdeal.nD Cert.QkvWeightReferenceIdeal.τ Cert.QkvWeightReferenceIdeal.sig) → Buf (Elt Ideal) ℓ) (g : Dev Cert.QkvWeightReferenceIdeal.nD → PrngReg), Pre_QkvWeightReferenceIdeal m →
    θ_run (Cert.QkvWeightReferenceIdeal.defs (F := Ideal)) (onTc (τ := Cert.QkvWeightReferenceIdeal.τ) (Cert.QkvWeightReferenceIdeal.main (F := Ideal))) ⟨m, fun _ => 0, g⟩ (fun r => (∀ c : Dev Cert.QkvWeightReferenceIdeal.nD,
      r.2.mem ((c.tc : Thread Cert.QkvWeightReferenceIdeal.nD Cert.QkvWeightReferenceIdeal.τ).loc Cert.QkvWeightReferenceIdeal.main_arg0) = m ((c.tc : Thread Cert.QkvWeightReferenceIdeal.nD Cert.QkvWeightReferenceIdeal.τ).loc Cert.QkvWeightReferenceIdeal.main_arg0)
      ∧ r.2.mem ((c.tc : Thread Cert.QkvWeightReferenceIdeal.nD Cert.QkvWeightReferenceIdeal.τ).loc Cert.QkvWeightReferenceIdeal.main_arg1) = m ((c.tc : Thread Cert.QkvWeightReferenceIdeal.nD Cert.QkvWeightReferenceIdeal.τ).loc Cert.QkvWeightReferenceIdeal.main_arg1)
      ∧ r.2.mem ((c.tc : Thread Cert.QkvWeightReferenceIdeal.nD Cert.QkvWeightReferenceIdeal.τ).loc Cert.QkvWeightReferenceIdeal.main_arg2) = m ((c.tc : Thread Cert.QkvWeightReferenceIdeal.nD Cert.QkvWeightReferenceIdeal.τ).loc Cert.QkvWeightReferenceIdeal.main_arg2))
      ∧ r.2.sem = fun _ => 0)

def quiescent_GateWeight [hGateWeight : Cert.GateWeight.Facts] : Prop :=
  ∀ (m : (ℓ : Loc Cert.GateWeight.nD Cert.GateWeight.τ Cert.GateWeight.sig) → Buf (Elt Bits) ℓ) (g : Dev Cert.GateWeight.nD → PrngReg), Pre_GateWeight m →
    θ_run (Cert.GateWeight.defs (F := Bits)) (onTc (τ := Cert.GateWeight.τ) (Cert.GateWeight.main (F := Bits))) ⟨m, fun _ => 0, g⟩ (fun r => (∀ c : Dev Cert.GateWeight.nD,
      r.2.mem ((c.tc : Thread Cert.GateWeight.nD Cert.GateWeight.τ).loc Cert.GateWeight.main_arg0) = m ((c.tc : Thread Cert.GateWeight.nD Cert.GateWeight.τ).loc Cert.GateWeight.main_arg0)
      ∧ r.2.mem ((c.tc : Thread Cert.GateWeight.nD Cert.GateWeight.τ).loc Cert.GateWeight.main_arg1) = m ((c.tc : Thread Cert.GateWeight.nD Cert.GateWeight.τ).loc Cert.GateWeight.main_arg1)
      ∧ r.2.mem ((c.tc : Thread Cert.GateWeight.nD Cert.GateWeight.τ).loc Cert.GateWeight.main_arg2) = m ((c.tc : Thread Cert.GateWeight.nD Cert.GateWeight.τ).loc Cert.GateWeight.main_arg2))
      ∧ r.2.sem = fun _ => 0)

def quiescent_GateWeightIdeal [hGateWeightIdeal : Cert.GateWeightIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg), Pre_GateWeightIdeal m →
    θ_run (Cert.GateWeightIdeal.defs (F := Ideal)) (onTc (τ := Cert.GateWeightIdeal.τ) (Cert.GateWeightIdeal.main (F := Ideal))) ⟨m, fun _ => 0, g⟩ (fun r => (∀ c : Dev Cert.GateWeightIdeal.nD,
      r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
      ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1)
      ∧ r.2.mem ((c.tc : Thread Cert.GateWeightIdeal.nD Cert.GateWeightIdeal.τ).loc Cert.GateWeightIdeal.main_arg2) = m ((c.tc : Thread Cert.GateWeightIdeal.nD Cert.GateWeightIdeal.τ).loc Cert.GateWeightIdeal.main_arg2))
      ∧ r.2.sem = fun _ => 0)

def quiescent_GateWeightReferenceIdeal [hGateWeightReferenceIdeal : Cert.GateWeightReferenceIdeal.Facts] : Prop :=
  ∀ (m : (ℓ : Loc Cert.GateWeightReferenceIdeal.nD Cert.GateWeightReferenceIdeal.τ Cert.GateWeightReferenceIdeal.sig) → Buf (Elt Ideal) ℓ) (g : Dev Cert.GateWeightReferenceIdeal.nD → PrngReg), Pre_GateWeightReferenceIdeal m →
    θ_run (Cert.GateWeightReferenceIdeal.defs (F := Ideal)) (onTc (τ := Cert.GateWeightReferenceIdeal.τ) (Cert.GateWeightReferenceIdeal.main (F := Ideal))) ⟨m, fun _ => 0, g⟩ (fun r => (∀ c : Dev Cert.GateWeightReferenceIdeal.nD,
      r.2.mem ((c.tc : Thread Cert.GateWeightReferenceIdeal.nD Cert.GateWeightReferenceIdeal.τ).loc Cert.GateWeightReferenceIdeal.main_arg0) = m ((c.tc : Thread Cert.GateWeightReferenceIdeal.nD Cert.GateWeightReferenceIdeal.τ).loc Cert.GateWeightReferenceIdeal.main_arg0)
      ∧ r.2.mem ((c.tc : Thread Cert.GateWeightReferenceIdeal.nD Cert.GateWeightReferenceIdeal.τ).loc Cert.GateWeightReferenceIdeal.main_arg1) = m ((c.tc : Thread Cert.GateWeightReferenceIdeal.nD Cert.GateWeightReferenceIdeal.τ).loc Cert.GateWeightReferenceIdeal.main_arg1)
      ∧ r.2.mem ((c.tc : Thread Cert.GateWeightReferenceIdeal.nD Cert.GateWeightReferenceIdeal.τ).loc Cert.GateWeightReferenceIdeal.main_arg2) = m ((c.tc : Thread Cert.GateWeightReferenceIdeal.nD Cert.GateWeightReferenceIdeal.τ).loc Cert.GateWeightReferenceIdeal.main_arg2))
      ∧ r.2.sem = fun _ => 0)

def quiescent_SbBranchWeight [hSbBranchWeight : Cert.SbBranchWeight.Facts] : Prop :=
  ∀ (m : (ℓ : Loc Cert.SbBranchWeight.nD Cert.SbBranchWeight.τ Cert.SbBranchWeight.sig) → Buf (Elt Bits) ℓ) (g : Dev Cert.SbBranchWeight.nD → PrngReg), Pre_SbBranchWeight m →
    θ_run (Cert.SbBranchWeight.defs (F := Bits)) (onTc (τ := Cert.SbBranchWeight.τ) (Cert.SbBranchWeight.main (F := Bits))) ⟨m, fun _ => 0, g⟩ (fun r => (∀ c : Dev Cert.SbBranchWeight.nD,
      r.2.mem ((c.tc : Thread Cert.SbBranchWeight.nD Cert.SbBranchWeight.τ).loc Cert.SbBranchWeight.main_arg0) = m ((c.tc : Thread Cert.SbBranchWeight.nD Cert.SbBranchWeight.τ).loc Cert.SbBranchWeight.main_arg0)
      ∧ r.2.mem ((c.tc : Thread Cert.SbBranchWeight.nD Cert.SbBranchWeight.τ).loc Cert.SbBranchWeight.main_arg1) = m ((c.tc : Thread Cert.SbBranchWeight.nD Cert.SbBranchWeight.τ).loc Cert.SbBranchWeight.main_arg1)
      ∧ r.2.mem ((c.tc : Thread Cert.SbBranchWeight.nD Cert.SbBranchWeight.τ).loc Cert.SbBranchWeight.main_arg2) = m ((c.tc : Thread Cert.SbBranchWeight.nD Cert.SbBranchWeight.τ).loc Cert.SbBranchWeight.main_arg2))
      ∧ r.2.sem = fun _ => 0)

def quiescent_SbBranchWeightIdeal [hSbBranchWeightIdeal : Cert.SbBranchWeightIdeal.Facts] : Prop :=
  ∀ (m : (ℓ : Loc Cert.SbBranchWeightIdeal.nD Cert.SbBranchWeightIdeal.τ Cert.SbBranchWeightIdeal.sig) → Buf (Elt Ideal) ℓ) (g : Dev Cert.SbBranchWeightIdeal.nD → PrngReg), Pre_SbBranchWeightIdeal m →
    θ_run (Cert.SbBranchWeightIdeal.defs (F := Ideal)) (onTc (τ := Cert.SbBranchWeightIdeal.τ) (Cert.SbBranchWeightIdeal.main (F := Ideal))) ⟨m, fun _ => 0, g⟩ (fun r => (∀ c : Dev Cert.SbBranchWeightIdeal.nD,
      r.2.mem ((c.tc : Thread Cert.SbBranchWeightIdeal.nD Cert.SbBranchWeightIdeal.τ).loc Cert.SbBranchWeightIdeal.main_arg0) = m ((c.tc : Thread Cert.SbBranchWeightIdeal.nD Cert.SbBranchWeightIdeal.τ).loc Cert.SbBranchWeightIdeal.main_arg0)
      ∧ r.2.mem ((c.tc : Thread Cert.SbBranchWeightIdeal.nD Cert.SbBranchWeightIdeal.τ).loc Cert.SbBranchWeightIdeal.main_arg1) = m ((c.tc : Thread Cert.SbBranchWeightIdeal.nD Cert.SbBranchWeightIdeal.τ).loc Cert.SbBranchWeightIdeal.main_arg1)
      ∧ r.2.mem ((c.tc : Thread Cert.SbBranchWeightIdeal.nD Cert.SbBranchWeightIdeal.τ).loc Cert.SbBranchWeightIdeal.main_arg2) = m ((c.tc : Thread Cert.SbBranchWeightIdeal.nD Cert.SbBranchWeightIdeal.τ).loc Cert.SbBranchWeightIdeal.main_arg2))
      ∧ r.2.sem = fun _ => 0)

def quiescent_SbBranchWeightReferenceIdeal [hSbBranchWeightReferenceIdeal : Cert.SbBranchWeightReferenceIdeal.Facts] : Prop :=
  ∀ (m : (ℓ : Loc Cert.SbBranchWeightReferenceIdeal.nD Cert.SbBranchWeightReferenceIdeal.τ Cert.SbBranchWeightReferenceIdeal.sig) → Buf (Elt Ideal) ℓ) (g : Dev Cert.SbBranchWeightReferenceIdeal.nD → PrngReg), Pre_SbBranchWeightReferenceIdeal m →
    θ_run (Cert.SbBranchWeightReferenceIdeal.defs (F := Ideal)) (onTc (τ := Cert.SbBranchWeightReferenceIdeal.τ) (Cert.SbBranchWeightReferenceIdeal.main (F := Ideal))) ⟨m, fun _ => 0, g⟩ (fun r => (∀ c : Dev Cert.SbBranchWeightReferenceIdeal.nD,
      r.2.mem ((c.tc : Thread Cert.SbBranchWeightReferenceIdeal.nD Cert.SbBranchWeightReferenceIdeal.τ).loc Cert.SbBranchWeightReferenceIdeal.main_arg0) = m ((c.tc : Thread Cert.SbBranchWeightReferenceIdeal.nD Cert.SbBranchWeightReferenceIdeal.τ).loc Cert.SbBranchWeightReferenceIdeal.main_arg0)
      ∧ r.2.mem ((c.tc : Thread Cert.SbBranchWeightReferenceIdeal.nD Cert.SbBranchWeightReferenceIdeal.τ).loc Cert.SbBranchWeightReferenceIdeal.main_arg1) = m ((c.tc : Thread Cert.SbBranchWeightReferenceIdeal.nD Cert.SbBranchWeightReferenceIdeal.τ).loc Cert.SbBranchWeightReferenceIdeal.main_arg1)
      ∧ r.2.mem ((c.tc : Thread Cert.SbBranchWeightReferenceIdeal.nD Cert.SbBranchWeightReferenceIdeal.τ).loc Cert.SbBranchWeightReferenceIdeal.main_arg2) = m ((c.tc : Thread Cert.SbBranchWeightReferenceIdeal.nD Cert.SbBranchWeightReferenceIdeal.τ).loc Cert.SbBranchWeightReferenceIdeal.main_arg2))
      ∧ r.2.sem = fun _ => 0)

def quiescent_SwaBranchWeight [hSwaBranchWeight : Cert.SwaBranchWeight.Facts] : Prop :=
  ∀ (m : (ℓ : Loc Cert.SwaBranchWeight.nD Cert.SwaBranchWeight.τ Cert.SwaBranchWeight.sig) → Buf (Elt Bits) ℓ) (g : Dev Cert.SwaBranchWeight.nD → PrngReg), Pre_SwaBranchWeight m →
    θ_run (Cert.SwaBranchWeight.defs (F := Bits)) (onTc (τ := Cert.SwaBranchWeight.τ) (Cert.SwaBranchWeight.main (F := Bits))) ⟨m, fun _ => 0, g⟩ (fun r => (∀ c : Dev Cert.SwaBranchWeight.nD,
      r.2.mem ((c.tc : Thread Cert.SwaBranchWeight.nD Cert.SwaBranchWeight.τ).loc Cert.SwaBranchWeight.main_arg0) = m ((c.tc : Thread Cert.SwaBranchWeight.nD Cert.SwaBranchWeight.τ).loc Cert.SwaBranchWeight.main_arg0)
      ∧ r.2.mem ((c.tc : Thread Cert.SwaBranchWeight.nD Cert.SwaBranchWeight.τ).loc Cert.SwaBranchWeight.main_arg1) = m ((c.tc : Thread Cert.SwaBranchWeight.nD Cert.SwaBranchWeight.τ).loc Cert.SwaBranchWeight.main_arg1)
      ∧ r.2.mem ((c.tc : Thread Cert.SwaBranchWeight.nD Cert.SwaBranchWeight.τ).loc Cert.SwaBranchWeight.main_arg2) = m ((c.tc : Thread Cert.SwaBranchWeight.nD Cert.SwaBranchWeight.τ).loc Cert.SwaBranchWeight.main_arg2))
      ∧ r.2.sem = fun _ => 0)

def quiescent_SwaBranchWeightIdeal [hSwaBranchWeightIdeal : Cert.SwaBranchWeightIdeal.Facts] : Prop :=
  ∀ (m : (ℓ : Loc Cert.SwaBranchWeightIdeal.nD Cert.SwaBranchWeightIdeal.τ Cert.SwaBranchWeightIdeal.sig) → Buf (Elt Ideal) ℓ) (g : Dev Cert.SwaBranchWeightIdeal.nD → PrngReg), Pre_SwaBranchWeightIdeal m →
    θ_run (Cert.SwaBranchWeightIdeal.defs (F := Ideal)) (onTc (τ := Cert.SwaBranchWeightIdeal.τ) (Cert.SwaBranchWeightIdeal.main (F := Ideal))) ⟨m, fun _ => 0, g⟩ (fun r => (∀ c : Dev Cert.SwaBranchWeightIdeal.nD,
      r.2.mem ((c.tc : Thread Cert.SwaBranchWeightIdeal.nD Cert.SwaBranchWeightIdeal.τ).loc Cert.SwaBranchWeightIdeal.main_arg0) = m ((c.tc : Thread Cert.SwaBranchWeightIdeal.nD Cert.SwaBranchWeightIdeal.τ).loc Cert.SwaBranchWeightIdeal.main_arg0)
      ∧ r.2.mem ((c.tc : Thread Cert.SwaBranchWeightIdeal.nD Cert.SwaBranchWeightIdeal.τ).loc Cert.SwaBranchWeightIdeal.main_arg1) = m ((c.tc : Thread Cert.SwaBranchWeightIdeal.nD Cert.SwaBranchWeightIdeal.τ).loc Cert.SwaBranchWeightIdeal.main_arg1)
      ∧ r.2.mem ((c.tc : Thread Cert.SwaBranchWeightIdeal.nD Cert.SwaBranchWeightIdeal.τ).loc Cert.SwaBranchWeightIdeal.main_arg2) = m ((c.tc : Thread Cert.SwaBranchWeightIdeal.nD Cert.SwaBranchWeightIdeal.τ).loc Cert.SwaBranchWeightIdeal.main_arg2))
      ∧ r.2.sem = fun _ => 0)

def quiescent_SwaBranchWeightReferenceIdeal [hSwaBranchWeightReferenceIdeal : Cert.SwaBranchWeightReferenceIdeal.Facts] : Prop :=
  ∀ (m : (ℓ : Loc Cert.SwaBranchWeightReferenceIdeal.nD Cert.SwaBranchWeightReferenceIdeal.τ Cert.SwaBranchWeightReferenceIdeal.sig) → Buf (Elt Ideal) ℓ) (g : Dev Cert.SwaBranchWeightReferenceIdeal.nD → PrngReg), Pre_SwaBranchWeightReferenceIdeal m →
    θ_run (Cert.SwaBranchWeightReferenceIdeal.defs (F := Ideal)) (onTc (τ := Cert.SwaBranchWeightReferenceIdeal.τ) (Cert.SwaBranchWeightReferenceIdeal.main (F := Ideal))) ⟨m, fun _ => 0, g⟩ (fun r => (∀ c : Dev Cert.SwaBranchWeightReferenceIdeal.nD,
      r.2.mem ((c.tc : Thread Cert.SwaBranchWeightReferenceIdeal.nD Cert.SwaBranchWeightReferenceIdeal.τ).loc Cert.SwaBranchWeightReferenceIdeal.main_arg0) = m ((c.tc : Thread Cert.SwaBranchWeightReferenceIdeal.nD Cert.SwaBranchWeightReferenceIdeal.τ).loc Cert.SwaBranchWeightReferenceIdeal.main_arg0)
      ∧ r.2.mem ((c.tc : Thread Cert.SwaBranchWeightReferenceIdeal.nD Cert.SwaBranchWeightReferenceIdeal.τ).loc Cert.SwaBranchWeightReferenceIdeal.main_arg1) = m ((c.tc : Thread Cert.SwaBranchWeightReferenceIdeal.nD Cert.SwaBranchWeightReferenceIdeal.τ).loc Cert.SwaBranchWeightReferenceIdeal.main_arg1)
      ∧ r.2.mem ((c.tc : Thread Cert.SwaBranchWeightReferenceIdeal.nD Cert.SwaBranchWeightReferenceIdeal.τ).loc Cert.SwaBranchWeightReferenceIdeal.main_arg2) = m ((c.tc : Thread Cert.SwaBranchWeightReferenceIdeal.nD Cert.SwaBranchWeightReferenceIdeal.τ).loc Cert.SwaBranchWeightReferenceIdeal.main_arg2))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1)
      ∧ r.2.mem ((c.tc : Thread Cert.OutWeight.nD Cert.OutWeight.τ).loc Cert.OutWeight.main_arg2) = m ((c.tc : Thread Cert.OutWeight.nD Cert.OutWeight.τ).loc Cert.OutWeight.main_arg2))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
      ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2))
      ∧ r.2.sem = fun _ => 0)

def quiescent_OutWeightReferenceIdeal [hOutWeightReferenceIdeal : Cert.OutWeightReferenceIdeal.Facts] : Prop :=
  ∀ (m : (ℓ : Loc Cert.OutWeightReferenceIdeal.nD Cert.OutWeightReferenceIdeal.τ Cert.OutWeightReferenceIdeal.sig) → Buf (Elt Ideal) ℓ) (g : Dev Cert.OutWeightReferenceIdeal.nD → PrngReg), Pre_OutWeightReferenceIdeal m →
    θ_run (Cert.OutWeightReferenceIdeal.defs (F := Ideal)) (onTc (τ := Cert.OutWeightReferenceIdeal.τ) (Cert.OutWeightReferenceIdeal.main (F := Ideal))) ⟨m, fun _ => 0, g⟩ (fun r => (∀ c : Dev Cert.OutWeightReferenceIdeal.nD,
      r.2.mem ((c.tc : Thread Cert.OutWeightReferenceIdeal.nD Cert.OutWeightReferenceIdeal.τ).loc Cert.OutWeightReferenceIdeal.main_arg0) = m ((c.tc : Thread Cert.OutWeightReferenceIdeal.nD Cert.OutWeightReferenceIdeal.τ).loc Cert.OutWeightReferenceIdeal.main_arg0)
      ∧ r.2.mem ((c.tc : Thread Cert.OutWeightReferenceIdeal.nD Cert.OutWeightReferenceIdeal.τ).loc Cert.OutWeightReferenceIdeal.main_arg1) = m ((c.tc : Thread Cert.OutWeightReferenceIdeal.nD Cert.OutWeightReferenceIdeal.τ).loc Cert.OutWeightReferenceIdeal.main_arg1)
      ∧ r.2.mem ((c.tc : Thread Cert.OutWeightReferenceIdeal.nD Cert.OutWeightReferenceIdeal.τ).loc Cert.OutWeightReferenceIdeal.main_arg2) = m ((c.tc : Thread Cert.OutWeightReferenceIdeal.nD Cert.OutWeightReferenceIdeal.τ).loc Cert.OutWeightReferenceIdeal.main_arg2))
      ∧ r.2.sem = fun _ => 0)

def quiescent_QkvProjection [hQkvProjection : Cert.QkvProjection.Facts] : Prop :=
  ∀ (m : (ℓ : Loc Cert.QkvProjection.nD Cert.QkvProjection.τ Cert.QkvProjection.sig) → Buf (Elt Bits) ℓ) (g : Dev Cert.QkvProjection.nD → PrngReg), Pre_QkvProjection m →
    θ_run (Cert.QkvProjection.defs (F := Bits)) (onTc (τ := Cert.QkvProjection.τ) (Cert.QkvProjection.main (F := Bits))) ⟨m, fun _ => 0, g⟩ (fun r => (∀ c : Dev Cert.QkvProjection.nD,
      r.2.mem ((c.tc : Thread Cert.QkvProjection.nD Cert.QkvProjection.τ).loc Cert.QkvProjection.main_arg0) = m ((c.tc : Thread Cert.QkvProjection.nD Cert.QkvProjection.τ).loc Cert.QkvProjection.main_arg0)
      ∧ r.2.mem ((c.tc : Thread Cert.QkvProjection.nD Cert.QkvProjection.τ).loc Cert.QkvProjection.main_arg1) = m ((c.tc : Thread Cert.QkvProjection.nD Cert.QkvProjection.τ).loc Cert.QkvProjection.main_arg1))
      ∧ r.2.sem = fun _ => 0)

def quiescent_QkvProjectionIdeal [hQkvProjectionIdeal : Cert.QkvProjectionIdeal.Facts] : Prop :=
  ∀ (m : (ℓ : Loc Cert.QkvProjectionIdeal.nD Cert.QkvProjectionIdeal.τ Cert.QkvProjectionIdeal.sig) → Buf (Elt Ideal) ℓ) (g : Dev Cert.QkvProjectionIdeal.nD → PrngReg), Pre_QkvProjectionIdeal m →
    θ_run (Cert.QkvProjectionIdeal.defs (F := Ideal)) (onTc (τ := Cert.QkvProjectionIdeal.τ) (Cert.QkvProjectionIdeal.main (F := Ideal))) ⟨m, fun _ => 0, g⟩ (fun r => (∀ c : Dev Cert.QkvProjectionIdeal.nD,
      r.2.mem ((c.tc : Thread Cert.QkvProjectionIdeal.nD Cert.QkvProjectionIdeal.τ).loc Cert.QkvProjectionIdeal.main_arg0) = m ((c.tc : Thread Cert.QkvProjectionIdeal.nD Cert.QkvProjectionIdeal.τ).loc Cert.QkvProjectionIdeal.main_arg0)
      ∧ r.2.mem ((c.tc : Thread Cert.QkvProjectionIdeal.nD Cert.QkvProjectionIdeal.τ).loc Cert.QkvProjectionIdeal.main_arg1) = m ((c.tc : Thread Cert.QkvProjectionIdeal.nD Cert.QkvProjectionIdeal.τ).loc Cert.QkvProjectionIdeal.main_arg1))
      ∧ r.2.sem = fun _ => 0)

def quiescent_QkvProjectionReferenceIdeal [hQkvProjectionReferenceIdeal : Cert.QkvProjectionReferenceIdeal.Facts] : Prop :=
  ∀ (m : (ℓ : Loc Cert.QkvProjectionReferenceIdeal.nD Cert.QkvProjectionReferenceIdeal.τ Cert.QkvProjectionReferenceIdeal.sig) → Buf (Elt Ideal) ℓ) (g : Dev Cert.QkvProjectionReferenceIdeal.nD → PrngReg), Pre_QkvProjectionReferenceIdeal m →
    θ_run (Cert.QkvProjectionReferenceIdeal.defs (F := Ideal)) (onTc (τ := Cert.QkvProjectionReferenceIdeal.τ) (Cert.QkvProjectionReferenceIdeal.main (F := Ideal))) ⟨m, fun _ => 0, g⟩ (fun r => (∀ c : Dev Cert.QkvProjectionReferenceIdeal.nD,
      r.2.mem ((c.tc : Thread Cert.QkvProjectionReferenceIdeal.nD Cert.QkvProjectionReferenceIdeal.τ).loc Cert.QkvProjectionReferenceIdeal.main_arg0) = m ((c.tc : Thread Cert.QkvProjectionReferenceIdeal.nD Cert.QkvProjectionReferenceIdeal.τ).loc Cert.QkvProjectionReferenceIdeal.main_arg0)
      ∧ r.2.mem ((c.tc : Thread Cert.QkvProjectionReferenceIdeal.nD Cert.QkvProjectionReferenceIdeal.τ).loc Cert.QkvProjectionReferenceIdeal.main_arg1) = m ((c.tc : Thread Cert.QkvProjectionReferenceIdeal.nD Cert.QkvProjectionReferenceIdeal.τ).loc Cert.QkvProjectionReferenceIdeal.main_arg1))
      ∧ r.2.sem = fun _ => 0)

def quiescent_GateProjection [hGateProjection : Cert.GateProjection.Facts] : Prop :=
  ∀ (m : (ℓ : Loc Cert.GateProjection.nD Cert.GateProjection.τ Cert.GateProjection.sig) → Buf (Elt Bits) ℓ) (g : Dev Cert.GateProjection.nD → PrngReg), Pre_GateProjection m →
    θ_run (Cert.GateProjection.defs (F := Bits)) (onTc (τ := Cert.GateProjection.τ) (Cert.GateProjection.main (F := Bits))) ⟨m, fun _ => 0, g⟩ (fun r => (∀ c : Dev Cert.GateProjection.nD,
      r.2.mem ((c.tc : Thread Cert.GateProjection.nD Cert.GateProjection.τ).loc Cert.GateProjection.main_arg0) = m ((c.tc : Thread Cert.GateProjection.nD Cert.GateProjection.τ).loc Cert.GateProjection.main_arg0)
      ∧ r.2.mem ((c.tc : Thread Cert.GateProjection.nD Cert.GateProjection.τ).loc Cert.GateProjection.main_arg1) = m ((c.tc : Thread Cert.GateProjection.nD Cert.GateProjection.τ).loc Cert.GateProjection.main_arg1))
      ∧ r.2.sem = fun _ => 0)

def quiescent_GateProjectionIdeal [hGateProjectionIdeal : Cert.GateProjectionIdeal.Facts] : Prop :=
  ∀ (m : (ℓ : Loc Cert.GateProjectionIdeal.nD Cert.GateProjectionIdeal.τ Cert.GateProjectionIdeal.sig) → Buf (Elt Ideal) ℓ) (g : Dev Cert.GateProjectionIdeal.nD → PrngReg), Pre_GateProjectionIdeal m →
    θ_run (Cert.GateProjectionIdeal.defs (F := Ideal)) (onTc (τ := Cert.GateProjectionIdeal.τ) (Cert.GateProjectionIdeal.main (F := Ideal))) ⟨m, fun _ => 0, g⟩ (fun r => (∀ c : Dev Cert.GateProjectionIdeal.nD,
      r.2.mem ((c.tc : Thread Cert.GateProjectionIdeal.nD Cert.GateProjectionIdeal.τ).loc Cert.GateProjectionIdeal.main_arg0) = m ((c.tc : Thread Cert.GateProjectionIdeal.nD Cert.GateProjectionIdeal.τ).loc Cert.GateProjectionIdeal.main_arg0)
      ∧ r.2.mem ((c.tc : Thread Cert.GateProjectionIdeal.nD Cert.GateProjectionIdeal.τ).loc Cert.GateProjectionIdeal.main_arg1) = m ((c.tc : Thread Cert.GateProjectionIdeal.nD Cert.GateProjectionIdeal.τ).loc Cert.GateProjectionIdeal.main_arg1))
      ∧ r.2.sem = fun _ => 0)

def quiescent_GateProjectionReferenceIdeal [hGateProjectionReferenceIdeal : Cert.GateProjectionReferenceIdeal.Facts] : Prop :=
  ∀ (m : (ℓ : Loc Cert.GateProjectionReferenceIdeal.nD Cert.GateProjectionReferenceIdeal.τ Cert.GateProjectionReferenceIdeal.sig) → Buf (Elt Ideal) ℓ) (g : Dev Cert.GateProjectionReferenceIdeal.nD → PrngReg), Pre_GateProjectionReferenceIdeal m →
    θ_run (Cert.GateProjectionReferenceIdeal.defs (F := Ideal)) (onTc (τ := Cert.GateProjectionReferenceIdeal.τ) (Cert.GateProjectionReferenceIdeal.main (F := Ideal))) ⟨m, fun _ => 0, g⟩ (fun r => (∀ c : Dev Cert.GateProjectionReferenceIdeal.nD,
      r.2.mem ((c.tc : Thread Cert.GateProjectionReferenceIdeal.nD Cert.GateProjectionReferenceIdeal.τ).loc Cert.GateProjectionReferenceIdeal.main_arg0) = m ((c.tc : Thread Cert.GateProjectionReferenceIdeal.nD Cert.GateProjectionReferenceIdeal.τ).loc Cert.GateProjectionReferenceIdeal.main_arg0)
      ∧ r.2.mem ((c.tc : Thread Cert.GateProjectionReferenceIdeal.nD Cert.GateProjectionReferenceIdeal.τ).loc Cert.GateProjectionReferenceIdeal.main_arg1) = m ((c.tc : Thread Cert.GateProjectionReferenceIdeal.nD Cert.GateProjectionReferenceIdeal.τ).loc Cert.GateProjectionReferenceIdeal.main_arg1))
      ∧ r.2.sem = fun _ => 0)

def quiescent_GatedMerge [hGatedMerge : Cert.GatedMerge.Facts] : Prop :=
  ∀ (m : (ℓ : Loc Cert.GatedMerge.nD Cert.GatedMerge.τ Cert.GatedMerge.sig) → Buf (Elt Bits) ℓ) (g : Dev Cert.GatedMerge.nD → PrngReg), Pre_GatedMerge m →
    θ_run (Cert.GatedMerge.defs (F := Bits)) (onTc (τ := Cert.GatedMerge.τ) (Cert.GatedMerge.main (F := Bits))) ⟨m, fun _ => 0, g⟩ (fun r => (∀ c : Dev Cert.GatedMerge.nD,
      r.2.mem ((c.tc : Thread Cert.GatedMerge.nD Cert.GatedMerge.τ).loc Cert.GatedMerge.main_arg0) = m ((c.tc : Thread Cert.GatedMerge.nD Cert.GatedMerge.τ).loc Cert.GatedMerge.main_arg0)
      ∧ r.2.mem ((c.tc : Thread Cert.GatedMerge.nD Cert.GatedMerge.τ).loc Cert.GatedMerge.main_arg1) = m ((c.tc : Thread Cert.GatedMerge.nD Cert.GatedMerge.τ).loc Cert.GatedMerge.main_arg1)
      ∧ r.2.mem ((c.tc : Thread Cert.GatedMerge.nD Cert.GatedMerge.τ).loc Cert.GatedMerge.main_arg2) = m ((c.tc : Thread Cert.GatedMerge.nD Cert.GatedMerge.τ).loc Cert.GatedMerge.main_arg2)
      ∧ r.2.mem ((c.tc : Thread Cert.GatedMerge.nD Cert.GatedMerge.τ).loc Cert.GatedMerge.main_arg3) = m ((c.tc : Thread Cert.GatedMerge.nD Cert.GatedMerge.τ).loc Cert.GatedMerge.main_arg3)
      ∧ r.2.mem ((c.tc : Thread Cert.GatedMerge.nD Cert.GatedMerge.τ).loc Cert.GatedMerge.main_arg4) = m ((c.tc : Thread Cert.GatedMerge.nD Cert.GatedMerge.τ).loc Cert.GatedMerge.main_arg4)
      ∧ r.2.mem ((c.tc : Thread Cert.GatedMerge.nD Cert.GatedMerge.τ).loc Cert.GatedMerge.main_arg5) = m ((c.tc : Thread Cert.GatedMerge.nD Cert.GatedMerge.τ).loc Cert.GatedMerge.main_arg5)
      ∧ r.2.mem ((c.tc : Thread Cert.GatedMerge.nD Cert.GatedMerge.τ).loc Cert.GatedMerge.main_arg6) = m ((c.tc : Thread Cert.GatedMerge.nD Cert.GatedMerge.τ).loc Cert.GatedMerge.main_arg6)
      ∧ r.2.mem ((c.tc : Thread Cert.GatedMerge.nD Cert.GatedMerge.τ).loc Cert.GatedMerge.main_arg7) = m ((c.tc : Thread Cert.GatedMerge.nD Cert.GatedMerge.τ).loc Cert.GatedMerge.main_arg7)
      ∧ r.2.mem ((c.tc : Thread Cert.GatedMerge.nD Cert.GatedMerge.τ).loc Cert.GatedMerge.main_arg8) = m ((c.tc : Thread Cert.GatedMerge.nD Cert.GatedMerge.τ).loc Cert.GatedMerge.main_arg8)
      ∧ r.2.mem ((c.tc : Thread Cert.GatedMerge.nD Cert.GatedMerge.τ).loc Cert.GatedMerge.main_arg9) = m ((c.tc : Thread Cert.GatedMerge.nD Cert.GatedMerge.τ).loc Cert.GatedMerge.main_arg9))
      ∧ r.2.sem = fun _ => 0)

def quiescent_GatedMergeIdeal [hGatedMergeIdeal : Cert.GatedMergeIdeal.Facts] : Prop :=
  ∀ (m : (ℓ : Loc Cert.GatedMergeIdeal.nD Cert.GatedMergeIdeal.τ Cert.GatedMergeIdeal.sig) → Buf (Elt Ideal) ℓ) (g : Dev Cert.GatedMergeIdeal.nD → PrngReg), Pre_GatedMergeIdeal m →
    θ_run (Cert.GatedMergeIdeal.defs (F := Ideal)) (onTc (τ := Cert.GatedMergeIdeal.τ) (Cert.GatedMergeIdeal.main (F := Ideal))) ⟨m, fun _ => 0, g⟩ (fun r => (∀ c : Dev Cert.GatedMergeIdeal.nD,
      r.2.mem ((c.tc : Thread Cert.GatedMergeIdeal.nD Cert.GatedMergeIdeal.τ).loc Cert.GatedMergeIdeal.main_arg0) = m ((c.tc : Thread Cert.GatedMergeIdeal.nD Cert.GatedMergeIdeal.τ).loc Cert.GatedMergeIdeal.main_arg0)
      ∧ r.2.mem ((c.tc : Thread Cert.GatedMergeIdeal.nD Cert.GatedMergeIdeal.τ).loc Cert.GatedMergeIdeal.main_arg1) = m ((c.tc : Thread Cert.GatedMergeIdeal.nD Cert.GatedMergeIdeal.τ).loc Cert.GatedMergeIdeal.main_arg1)
      ∧ r.2.mem ((c.tc : Thread Cert.GatedMergeIdeal.nD Cert.GatedMergeIdeal.τ).loc Cert.GatedMergeIdeal.main_arg2) = m ((c.tc : Thread Cert.GatedMergeIdeal.nD Cert.GatedMergeIdeal.τ).loc Cert.GatedMergeIdeal.main_arg2)
      ∧ r.2.mem ((c.tc : Thread Cert.GatedMergeIdeal.nD Cert.GatedMergeIdeal.τ).loc Cert.GatedMergeIdeal.main_arg3) = m ((c.tc : Thread Cert.GatedMergeIdeal.nD Cert.GatedMergeIdeal.τ).loc Cert.GatedMergeIdeal.main_arg3)
      ∧ r.2.mem ((c.tc : Thread Cert.GatedMergeIdeal.nD Cert.GatedMergeIdeal.τ).loc Cert.GatedMergeIdeal.main_arg4) = m ((c.tc : Thread Cert.GatedMergeIdeal.nD Cert.GatedMergeIdeal.τ).loc Cert.GatedMergeIdeal.main_arg4)
      ∧ r.2.mem ((c.tc : Thread Cert.GatedMergeIdeal.nD Cert.GatedMergeIdeal.τ).loc Cert.GatedMergeIdeal.main_arg5) = m ((c.tc : Thread Cert.GatedMergeIdeal.nD Cert.GatedMergeIdeal.τ).loc Cert.GatedMergeIdeal.main_arg5)
      ∧ r.2.mem ((c.tc : Thread Cert.GatedMergeIdeal.nD Cert.GatedMergeIdeal.τ).loc Cert.GatedMergeIdeal.main_arg6) = m ((c.tc : Thread Cert.GatedMergeIdeal.nD Cert.GatedMergeIdeal.τ).loc Cert.GatedMergeIdeal.main_arg6)
      ∧ r.2.mem ((c.tc : Thread Cert.GatedMergeIdeal.nD Cert.GatedMergeIdeal.τ).loc Cert.GatedMergeIdeal.main_arg7) = m ((c.tc : Thread Cert.GatedMergeIdeal.nD Cert.GatedMergeIdeal.τ).loc Cert.GatedMergeIdeal.main_arg7)
      ∧ r.2.mem ((c.tc : Thread Cert.GatedMergeIdeal.nD Cert.GatedMergeIdeal.τ).loc Cert.GatedMergeIdeal.main_arg8) = m ((c.tc : Thread Cert.GatedMergeIdeal.nD Cert.GatedMergeIdeal.τ).loc Cert.GatedMergeIdeal.main_arg8)
      ∧ r.2.mem ((c.tc : Thread Cert.GatedMergeIdeal.nD Cert.GatedMergeIdeal.τ).loc Cert.GatedMergeIdeal.main_arg9) = m ((c.tc : Thread Cert.GatedMergeIdeal.nD Cert.GatedMergeIdeal.τ).loc Cert.GatedMergeIdeal.main_arg9))
      ∧ r.2.sem = fun _ => 0)

def quiescent_GatedMergeReferenceIdeal [hGatedMergeReferenceIdeal : Cert.GatedMergeReferenceIdeal.Facts] : Prop :=
  ∀ (m : (ℓ : Loc Cert.GatedMergeReferenceIdeal.nD Cert.GatedMergeReferenceIdeal.τ Cert.GatedMergeReferenceIdeal.sig) → Buf (Elt Ideal) ℓ) (g : Dev Cert.GatedMergeReferenceIdeal.nD → PrngReg), Pre_GatedMergeReferenceIdeal m →
    θ_run (Cert.GatedMergeReferenceIdeal.defs (F := Ideal)) (onTc (τ := Cert.GatedMergeReferenceIdeal.τ) (Cert.GatedMergeReferenceIdeal.main (F := Ideal))) ⟨m, fun _ => 0, g⟩ (fun r => (∀ c : Dev Cert.GatedMergeReferenceIdeal.nD,
      r.2.mem ((c.tc : Thread Cert.GatedMergeReferenceIdeal.nD Cert.GatedMergeReferenceIdeal.τ).loc Cert.GatedMergeReferenceIdeal.main_arg0) = m ((c.tc : Thread Cert.GatedMergeReferenceIdeal.nD Cert.GatedMergeReferenceIdeal.τ).loc Cert.GatedMergeReferenceIdeal.main_arg0)
      ∧ r.2.mem ((c.tc : Thread Cert.GatedMergeReferenceIdeal.nD Cert.GatedMergeReferenceIdeal.τ).loc Cert.GatedMergeReferenceIdeal.main_arg1) = m ((c.tc : Thread Cert.GatedMergeReferenceIdeal.nD Cert.GatedMergeReferenceIdeal.τ).loc Cert.GatedMergeReferenceIdeal.main_arg1)
      ∧ r.2.mem ((c.tc : Thread Cert.GatedMergeReferenceIdeal.nD Cert.GatedMergeReferenceIdeal.τ).loc Cert.GatedMergeReferenceIdeal.main_arg2) = m ((c.tc : Thread Cert.GatedMergeReferenceIdeal.nD Cert.GatedMergeReferenceIdeal.τ).loc Cert.GatedMergeReferenceIdeal.main_arg2)
      ∧ r.2.mem ((c.tc : Thread Cert.GatedMergeReferenceIdeal.nD Cert.GatedMergeReferenceIdeal.τ).loc Cert.GatedMergeReferenceIdeal.main_arg3) = m ((c.tc : Thread Cert.GatedMergeReferenceIdeal.nD Cert.GatedMergeReferenceIdeal.τ).loc Cert.GatedMergeReferenceIdeal.main_arg3)
      ∧ r.2.mem ((c.tc : Thread Cert.GatedMergeReferenceIdeal.nD Cert.GatedMergeReferenceIdeal.τ).loc Cert.GatedMergeReferenceIdeal.main_arg4) = m ((c.tc : Thread Cert.GatedMergeReferenceIdeal.nD Cert.GatedMergeReferenceIdeal.τ).loc Cert.GatedMergeReferenceIdeal.main_arg4)
      ∧ r.2.mem ((c.tc : Thread Cert.GatedMergeReferenceIdeal.nD Cert.GatedMergeReferenceIdeal.τ).loc Cert.GatedMergeReferenceIdeal.main_arg5) = m ((c.tc : Thread Cert.GatedMergeReferenceIdeal.nD Cert.GatedMergeReferenceIdeal.τ).loc Cert.GatedMergeReferenceIdeal.main_arg5)
      ∧ r.2.mem ((c.tc : Thread Cert.GatedMergeReferenceIdeal.nD Cert.GatedMergeReferenceIdeal.τ).loc Cert.GatedMergeReferenceIdeal.main_arg6) = m ((c.tc : Thread Cert.GatedMergeReferenceIdeal.nD Cert.GatedMergeReferenceIdeal.τ).loc Cert.GatedMergeReferenceIdeal.main_arg6)
      ∧ r.2.mem ((c.tc : Thread Cert.GatedMergeReferenceIdeal.nD Cert.GatedMergeReferenceIdeal.τ).loc Cert.GatedMergeReferenceIdeal.main_arg7) = m ((c.tc : Thread Cert.GatedMergeReferenceIdeal.nD Cert.GatedMergeReferenceIdeal.τ).loc Cert.GatedMergeReferenceIdeal.main_arg7)
      ∧ r.2.mem ((c.tc : Thread Cert.GatedMergeReferenceIdeal.nD Cert.GatedMergeReferenceIdeal.τ).loc Cert.GatedMergeReferenceIdeal.main_arg8) = m ((c.tc : Thread Cert.GatedMergeReferenceIdeal.nD Cert.GatedMergeReferenceIdeal.τ).loc Cert.GatedMergeReferenceIdeal.main_arg8)
      ∧ r.2.mem ((c.tc : Thread Cert.GatedMergeReferenceIdeal.nD Cert.GatedMergeReferenceIdeal.τ).loc Cert.GatedMergeReferenceIdeal.main_arg9) = m ((c.tc : Thread Cert.GatedMergeReferenceIdeal.nD Cert.GatedMergeReferenceIdeal.τ).loc Cert.GatedMergeReferenceIdeal.main_arg9))
      ∧ r.2.sem = fun _ => 0)

def quiescent_MergeGradient [hMergeGradient : Cert.MergeGradient.Facts] [hPre_finite : Cert.Pre_finite.Facts] : Prop :=
  ∀ (m : (ℓ : Loc Cert.MergeGradient.nD Cert.MergeGradient.τ Cert.MergeGradient.sig) → Buf (Elt Bits) ℓ) (g : Dev Cert.MergeGradient.nD → PrngReg), Pre_MergeGradient m →
    θ_run (Cert.MergeGradient.defs (F := Bits)) (onTc (τ := Cert.MergeGradient.τ) (Cert.MergeGradient.main (F := Bits))) ⟨m, fun _ => 0, g⟩ (fun r => (∀ c : Dev Cert.MergeGradient.nD,
      r.2.mem ((c.tc : Thread Cert.MergeGradient.nD Cert.MergeGradient.τ).loc Cert.MergeGradient.main_arg0) = m ((c.tc : Thread Cert.MergeGradient.nD Cert.MergeGradient.τ).loc Cert.MergeGradient.main_arg0)
      ∧ r.2.mem ((c.tc : Thread Cert.MergeGradient.nD Cert.MergeGradient.τ).loc Cert.MergeGradient.main_arg1) = m ((c.tc : Thread Cert.MergeGradient.nD Cert.MergeGradient.τ).loc Cert.MergeGradient.main_arg1)
      ∧ r.2.mem ((c.tc : Thread Cert.MergeGradient.nD Cert.MergeGradient.τ).loc Cert.MergeGradient.main_arg2) = m ((c.tc : Thread Cert.MergeGradient.nD Cert.MergeGradient.τ).loc Cert.MergeGradient.main_arg2)
      ∧ r.2.mem ((c.tc : Thread Cert.MergeGradient.nD Cert.MergeGradient.τ).loc Cert.MergeGradient.main_arg3) = m ((c.tc : Thread Cert.MergeGradient.nD Cert.MergeGradient.τ).loc Cert.MergeGradient.main_arg3)
      ∧ r.2.mem ((c.tc : Thread Cert.MergeGradient.nD Cert.MergeGradient.τ).loc Cert.MergeGradient.main_arg4) = m ((c.tc : Thread Cert.MergeGradient.nD Cert.MergeGradient.τ).loc Cert.MergeGradient.main_arg4)
      ∧ r.2.mem ((c.tc : Thread Cert.MergeGradient.nD Cert.MergeGradient.τ).loc Cert.MergeGradient.main_arg5) = m ((c.tc : Thread Cert.MergeGradient.nD Cert.MergeGradient.τ).loc Cert.MergeGradient.main_arg5)
      ∧ r.2.mem ((c.tc : Thread Cert.MergeGradient.nD Cert.MergeGradient.τ).loc Cert.MergeGradient.main_arg6) = m ((c.tc : Thread Cert.MergeGradient.nD Cert.MergeGradient.τ).loc Cert.MergeGradient.main_arg6)
      ∧ r.2.mem ((c.tc : Thread Cert.MergeGradient.nD Cert.MergeGradient.τ).loc Cert.MergeGradient.main_arg7) = m ((c.tc : Thread Cert.MergeGradient.nD Cert.MergeGradient.τ).loc Cert.MergeGradient.main_arg7)
      ∧ r.2.mem ((c.tc : Thread Cert.MergeGradient.nD Cert.MergeGradient.τ).loc Cert.MergeGradient.main_arg8) = m ((c.tc : Thread Cert.MergeGradient.nD Cert.MergeGradient.τ).loc Cert.MergeGradient.main_arg8)
      ∧ r.2.mem ((c.tc : Thread Cert.MergeGradient.nD Cert.MergeGradient.τ).loc Cert.MergeGradient.main_arg9) = m ((c.tc : Thread Cert.MergeGradient.nD Cert.MergeGradient.τ).loc Cert.MergeGradient.main_arg9))
      ∧ r.2.sem = fun _ => 0)

def quiescent_MergeGradientIdeal [hMergeGradientIdeal : Cert.MergeGradientIdeal.Facts] [hPre_finite : Cert.Pre_finite.Facts] : Prop :=
  ∀ (m : (ℓ : Loc Cert.MergeGradientIdeal.nD Cert.MergeGradientIdeal.τ Cert.MergeGradientIdeal.sig) → Buf (Elt Ideal) ℓ) (g : Dev Cert.MergeGradientIdeal.nD → PrngReg), Pre_MergeGradientIdeal m →
    θ_run (Cert.MergeGradientIdeal.defs (F := Ideal)) (onTc (τ := Cert.MergeGradientIdeal.τ) (Cert.MergeGradientIdeal.main (F := Ideal))) ⟨m, fun _ => 0, g⟩ (fun r => (∀ c : Dev Cert.MergeGradientIdeal.nD,
      r.2.mem ((c.tc : Thread Cert.MergeGradientIdeal.nD Cert.MergeGradientIdeal.τ).loc Cert.MergeGradientIdeal.main_arg0) = m ((c.tc : Thread Cert.MergeGradientIdeal.nD Cert.MergeGradientIdeal.τ).loc Cert.MergeGradientIdeal.main_arg0)
      ∧ r.2.mem ((c.tc : Thread Cert.MergeGradientIdeal.nD Cert.MergeGradientIdeal.τ).loc Cert.MergeGradientIdeal.main_arg1) = m ((c.tc : Thread Cert.MergeGradientIdeal.nD Cert.MergeGradientIdeal.τ).loc Cert.MergeGradientIdeal.main_arg1)
      ∧ r.2.mem ((c.tc : Thread Cert.MergeGradientIdeal.nD Cert.MergeGradientIdeal.τ).loc Cert.MergeGradientIdeal.main_arg2) = m ((c.tc : Thread Cert.MergeGradientIdeal.nD Cert.MergeGradientIdeal.τ).loc Cert.MergeGradientIdeal.main_arg2)
      ∧ r.2.mem ((c.tc : Thread Cert.MergeGradientIdeal.nD Cert.MergeGradientIdeal.τ).loc Cert.MergeGradientIdeal.main_arg3) = m ((c.tc : Thread Cert.MergeGradientIdeal.nD Cert.MergeGradientIdeal.τ).loc Cert.MergeGradientIdeal.main_arg3)
      ∧ r.2.mem ((c.tc : Thread Cert.MergeGradientIdeal.nD Cert.MergeGradientIdeal.τ).loc Cert.MergeGradientIdeal.main_arg4) = m ((c.tc : Thread Cert.MergeGradientIdeal.nD Cert.MergeGradientIdeal.τ).loc Cert.MergeGradientIdeal.main_arg4)
      ∧ r.2.mem ((c.tc : Thread Cert.MergeGradientIdeal.nD Cert.MergeGradientIdeal.τ).loc Cert.MergeGradientIdeal.main_arg5) = m ((c.tc : Thread Cert.MergeGradientIdeal.nD Cert.MergeGradientIdeal.τ).loc Cert.MergeGradientIdeal.main_arg5)
      ∧ r.2.mem ((c.tc : Thread Cert.MergeGradientIdeal.nD Cert.MergeGradientIdeal.τ).loc Cert.MergeGradientIdeal.main_arg6) = m ((c.tc : Thread Cert.MergeGradientIdeal.nD Cert.MergeGradientIdeal.τ).loc Cert.MergeGradientIdeal.main_arg6)
      ∧ r.2.mem ((c.tc : Thread Cert.MergeGradientIdeal.nD Cert.MergeGradientIdeal.τ).loc Cert.MergeGradientIdeal.main_arg7) = m ((c.tc : Thread Cert.MergeGradientIdeal.nD Cert.MergeGradientIdeal.τ).loc Cert.MergeGradientIdeal.main_arg7)
      ∧ r.2.mem ((c.tc : Thread Cert.MergeGradientIdeal.nD Cert.MergeGradientIdeal.τ).loc Cert.MergeGradientIdeal.main_arg8) = m ((c.tc : Thread Cert.MergeGradientIdeal.nD Cert.MergeGradientIdeal.τ).loc Cert.MergeGradientIdeal.main_arg8)
      ∧ r.2.mem ((c.tc : Thread Cert.MergeGradientIdeal.nD Cert.MergeGradientIdeal.τ).loc Cert.MergeGradientIdeal.main_arg9) = m ((c.tc : Thread Cert.MergeGradientIdeal.nD Cert.MergeGradientIdeal.τ).loc Cert.MergeGradientIdeal.main_arg9))
      ∧ r.2.sem = fun _ => 0)

def quiescent_MergeGradientReferenceIdeal [hMergeGradientReferenceIdeal : Cert.MergeGradientReferenceIdeal.Facts] : Prop :=
  ∀ (m : (ℓ : Loc Cert.MergeGradientReferenceIdeal.nD Cert.MergeGradientReferenceIdeal.τ Cert.MergeGradientReferenceIdeal.sig) → Buf (Elt Ideal) ℓ) (g : Dev Cert.MergeGradientReferenceIdeal.nD → PrngReg), Pre_MergeGradientReferenceIdeal m →
    θ_run (Cert.MergeGradientReferenceIdeal.defs (F := Ideal)) (onTc (τ := Cert.MergeGradientReferenceIdeal.τ) (Cert.MergeGradientReferenceIdeal.main (F := Ideal))) ⟨m, fun _ => 0, g⟩ (fun r => (∀ c : Dev Cert.MergeGradientReferenceIdeal.nD,
      r.2.mem ((c.tc : Thread Cert.MergeGradientReferenceIdeal.nD Cert.MergeGradientReferenceIdeal.τ).loc Cert.MergeGradientReferenceIdeal.main_arg0) = m ((c.tc : Thread Cert.MergeGradientReferenceIdeal.nD Cert.MergeGradientReferenceIdeal.τ).loc Cert.MergeGradientReferenceIdeal.main_arg0)
      ∧ r.2.mem ((c.tc : Thread Cert.MergeGradientReferenceIdeal.nD Cert.MergeGradientReferenceIdeal.τ).loc Cert.MergeGradientReferenceIdeal.main_arg1) = m ((c.tc : Thread Cert.MergeGradientReferenceIdeal.nD Cert.MergeGradientReferenceIdeal.τ).loc Cert.MergeGradientReferenceIdeal.main_arg1)
      ∧ r.2.mem ((c.tc : Thread Cert.MergeGradientReferenceIdeal.nD Cert.MergeGradientReferenceIdeal.τ).loc Cert.MergeGradientReferenceIdeal.main_arg2) = m ((c.tc : Thread Cert.MergeGradientReferenceIdeal.nD Cert.MergeGradientReferenceIdeal.τ).loc Cert.MergeGradientReferenceIdeal.main_arg2)
      ∧ r.2.mem ((c.tc : Thread Cert.MergeGradientReferenceIdeal.nD Cert.MergeGradientReferenceIdeal.τ).loc Cert.MergeGradientReferenceIdeal.main_arg3) = m ((c.tc : Thread Cert.MergeGradientReferenceIdeal.nD Cert.MergeGradientReferenceIdeal.τ).loc Cert.MergeGradientReferenceIdeal.main_arg3)
      ∧ r.2.mem ((c.tc : Thread Cert.MergeGradientReferenceIdeal.nD Cert.MergeGradientReferenceIdeal.τ).loc Cert.MergeGradientReferenceIdeal.main_arg4) = m ((c.tc : Thread Cert.MergeGradientReferenceIdeal.nD Cert.MergeGradientReferenceIdeal.τ).loc Cert.MergeGradientReferenceIdeal.main_arg4)
      ∧ r.2.mem ((c.tc : Thread Cert.MergeGradientReferenceIdeal.nD Cert.MergeGradientReferenceIdeal.τ).loc Cert.MergeGradientReferenceIdeal.main_arg5) = m ((c.tc : Thread Cert.MergeGradientReferenceIdeal.nD Cert.MergeGradientReferenceIdeal.τ).loc Cert.MergeGradientReferenceIdeal.main_arg5)
      ∧ r.2.mem ((c.tc : Thread Cert.MergeGradientReferenceIdeal.nD Cert.MergeGradientReferenceIdeal.τ).loc Cert.MergeGradientReferenceIdeal.main_arg6) = m ((c.tc : Thread Cert.MergeGradientReferenceIdeal.nD Cert.MergeGradientReferenceIdeal.τ).loc Cert.MergeGradientReferenceIdeal.main_arg6)
      ∧ r.2.mem ((c.tc : Thread Cert.MergeGradientReferenceIdeal.nD Cert.MergeGradientReferenceIdeal.τ).loc Cert.MergeGradientReferenceIdeal.main_arg7) = m ((c.tc : Thread Cert.MergeGradientReferenceIdeal.nD Cert.MergeGradientReferenceIdeal.τ).loc Cert.MergeGradientReferenceIdeal.main_arg7)
      ∧ r.2.mem ((c.tc : Thread Cert.MergeGradientReferenceIdeal.nD Cert.MergeGradientReferenceIdeal.τ).loc Cert.MergeGradientReferenceIdeal.main_arg8) = m ((c.tc : Thread Cert.MergeGradientReferenceIdeal.nD Cert.MergeGradientReferenceIdeal.τ).loc Cert.MergeGradientReferenceIdeal.main_arg8)
      ∧ r.2.mem ((c.tc : Thread Cert.MergeGradientReferenceIdeal.nD Cert.MergeGradientReferenceIdeal.τ).loc Cert.MergeGradientReferenceIdeal.main_arg9) = m ((c.tc : Thread Cert.MergeGradientReferenceIdeal.nD Cert.MergeGradientReferenceIdeal.τ).loc Cert.MergeGradientReferenceIdeal.main_arg9))
      ∧ r.2.sem = fun _ => 0)

def quiescent_MergeGradientReferenceIdeal_pre_finite [hMergeGradientReferenceIdeal : Cert.MergeGradientReferenceIdeal.Facts] [hPre_finite : Cert.Pre_finite.Facts] : Prop :=
  ∀ (m : (ℓ : Loc Cert.MergeGradientReferenceIdeal.nD Cert.MergeGradientReferenceIdeal.τ Cert.MergeGradientReferenceIdeal.sig) → Buf (Elt Ideal) ℓ) (g : Dev Cert.MergeGradientReferenceIdeal.nD → PrngReg), Pre_MergeGradientReferenceIdeal_finite m →
    θ_run (Cert.MergeGradientReferenceIdeal.defs (F := Ideal)) (onTc (τ := Cert.MergeGradientReferenceIdeal.τ) (Cert.MergeGradientReferenceIdeal.main (F := Ideal))) ⟨m, fun _ => 0, g⟩ (fun r => (∀ c : Dev Cert.MergeGradientReferenceIdeal.nD,
      r.2.mem ((c.tc : Thread Cert.MergeGradientReferenceIdeal.nD Cert.MergeGradientReferenceIdeal.τ).loc Cert.MergeGradientReferenceIdeal.main_arg0) = m ((c.tc : Thread Cert.MergeGradientReferenceIdeal.nD Cert.MergeGradientReferenceIdeal.τ).loc Cert.MergeGradientReferenceIdeal.main_arg0)
      ∧ r.2.mem ((c.tc : Thread Cert.MergeGradientReferenceIdeal.nD Cert.MergeGradientReferenceIdeal.τ).loc Cert.MergeGradientReferenceIdeal.main_arg1) = m ((c.tc : Thread Cert.MergeGradientReferenceIdeal.nD Cert.MergeGradientReferenceIdeal.τ).loc Cert.MergeGradientReferenceIdeal.main_arg1)
      ∧ r.2.mem ((c.tc : Thread Cert.MergeGradientReferenceIdeal.nD Cert.MergeGradientReferenceIdeal.τ).loc Cert.MergeGradientReferenceIdeal.main_arg2) = m ((c.tc : Thread Cert.MergeGradientReferenceIdeal.nD Cert.MergeGradientReferenceIdeal.τ).loc Cert.MergeGradientReferenceIdeal.main_arg2)
      ∧ r.2.mem ((c.tc : Thread Cert.MergeGradientReferenceIdeal.nD Cert.MergeGradientReferenceIdeal.τ).loc Cert.MergeGradientReferenceIdeal.main_arg3) = m ((c.tc : Thread Cert.MergeGradientReferenceIdeal.nD Cert.MergeGradientReferenceIdeal.τ).loc Cert.MergeGradientReferenceIdeal.main_arg3)
      ∧ r.2.mem ((c.tc : Thread Cert.MergeGradientReferenceIdeal.nD Cert.MergeGradientReferenceIdeal.τ).loc Cert.MergeGradientReferenceIdeal.main_arg4) = m ((c.tc : Thread Cert.MergeGradientReferenceIdeal.nD Cert.MergeGradientReferenceIdeal.τ).loc Cert.MergeGradientReferenceIdeal.main_arg4)
      ∧ r.2.mem ((c.tc : Thread Cert.MergeGradientReferenceIdeal.nD Cert.MergeGradientReferenceIdeal.τ).loc Cert.MergeGradientReferenceIdeal.main_arg5) = m ((c.tc : Thread Cert.MergeGradientReferenceIdeal.nD Cert.MergeGradientReferenceIdeal.τ).loc Cert.MergeGradientReferenceIdeal.main_arg5)
      ∧ r.2.mem ((c.tc : Thread Cert.MergeGradientReferenceIdeal.nD Cert.MergeGradientReferenceIdeal.τ).loc Cert.MergeGradientReferenceIdeal.main_arg6) = m ((c.tc : Thread Cert.MergeGradientReferenceIdeal.nD Cert.MergeGradientReferenceIdeal.τ).loc Cert.MergeGradientReferenceIdeal.main_arg6)
      ∧ r.2.mem ((c.tc : Thread Cert.MergeGradientReferenceIdeal.nD Cert.MergeGradientReferenceIdeal.τ).loc Cert.MergeGradientReferenceIdeal.main_arg7) = m ((c.tc : Thread Cert.MergeGradientReferenceIdeal.nD Cert.MergeGradientReferenceIdeal.τ).loc Cert.MergeGradientReferenceIdeal.main_arg7)
      ∧ r.2.mem ((c.tc : Thread Cert.MergeGradientReferenceIdeal.nD Cert.MergeGradientReferenceIdeal.τ).loc Cert.MergeGradientReferenceIdeal.main_arg8) = m ((c.tc : Thread Cert.MergeGradientReferenceIdeal.nD Cert.MergeGradientReferenceIdeal.τ).loc Cert.MergeGradientReferenceIdeal.main_arg8)
      ∧ r.2.mem ((c.tc : Thread Cert.MergeGradientReferenceIdeal.nD Cert.MergeGradientReferenceIdeal.τ).loc Cert.MergeGradientReferenceIdeal.main_arg9) = m ((c.tc : Thread Cert.MergeGradientReferenceIdeal.nD Cert.MergeGradientReferenceIdeal.τ).loc Cert.MergeGradientReferenceIdeal.main_arg9))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamSbBranch [hAdamSbBranch : Cert.AdamSbBranch.Facts] : Prop :=
  ∀ (m : (ℓ : Loc Cert.AdamSbBranch.nD Cert.AdamSbBranch.τ Cert.AdamSbBranch.sig) → Buf (Elt Bits) ℓ) (g : Dev Cert.AdamSbBranch.nD → PrngReg), Pre_AdamSbBranch m →
    θ_run (Cert.AdamSbBranch.defs (F := Bits)) (onTc (τ := Cert.AdamSbBranch.τ) (Cert.AdamSbBranch.main (F := Bits))) ⟨m, fun _ => 0, g⟩ (fun r => (∀ c : Dev Cert.AdamSbBranch.nD,
      r.2.mem ((c.tc : Thread Cert.AdamSbBranch.nD Cert.AdamSbBranch.τ).loc Cert.AdamSbBranch.main_arg0) = m ((c.tc : Thread Cert.AdamSbBranch.nD Cert.AdamSbBranch.τ).loc Cert.AdamSbBranch.main_arg0)
      ∧ r.2.mem ((c.tc : Thread Cert.AdamSbBranch.nD Cert.AdamSbBranch.τ).loc Cert.AdamSbBranch.main_arg1) = m ((c.tc : Thread Cert.AdamSbBranch.nD Cert.AdamSbBranch.τ).loc Cert.AdamSbBranch.main_arg1)
      ∧ r.2.mem ((c.tc : Thread Cert.AdamSbBranch.nD Cert.AdamSbBranch.τ).loc Cert.AdamSbBranch.main_arg2) = m ((c.tc : Thread Cert.AdamSbBranch.nD Cert.AdamSbBranch.τ).loc Cert.AdamSbBranch.main_arg2)
      ∧ r.2.mem ((c.tc : Thread Cert.AdamSbBranch.nD Cert.AdamSbBranch.τ).loc Cert.AdamSbBranch.main_arg3) = m ((c.tc : Thread Cert.AdamSbBranch.nD Cert.AdamSbBranch.τ).loc Cert.AdamSbBranch.main_arg3))
      ∧ r.2.sem = fun _ => 0)

def quiescent_AdamSbBranchIdeal [hAdamSbBranchIdeal : Cert.AdamSbBranchIdeal.Facts] : Prop :=
  ∀ (m : (ℓ : Loc Cert.AdamSbBranchIdeal.nD Cert.AdamSbBranchIdeal.τ Cert.AdamSbBranchIdeal.sig) → Buf (Elt Ideal) ℓ) (g : Dev Cert.AdamSbBranchIdeal.nD → PrngReg), Pre_AdamSbBranchIdeal m →
    θ_run (Cert.AdamSbBranchIdeal.defs (F := Ideal)) (onTc (τ := Cert.AdamSbBranchIdeal.τ) (Cert.AdamSbBranchIdeal.main (F := Ideal))) ⟨m, fun _ => 0, g⟩ (fun r => (∀ c : Dev Cert.AdamSbBranchIdeal.nD,
      r.2.mem ((c.tc : Thread Cert.AdamSbBranchIdeal.nD Cert.AdamSbBranchIdeal.τ).loc Cert.AdamSbBranchIdeal.main_arg0) = m ((c.tc : Thread Cert.AdamSbBranchIdeal.nD Cert.AdamSbBranchIdeal.τ).loc Cert.AdamSbBranchIdeal.main_arg0)
      ∧ r.2.mem ((c.tc : Thread Cert.AdamSbBranchIdeal.nD Cert.AdamSbBranchIdeal.τ).loc Cert.AdamSbBranchIdeal.main_arg1) = m ((c.tc : Thread Cert.AdamSbBranchIdeal.nD Cert.AdamSbBranchIdeal.τ).loc Cert.AdamSbBranchIdeal.main_arg1)
      ∧ r.2.mem ((c.tc : Thread Cert.AdamSbBranchIdeal.nD Cert.AdamSbBranchIdeal.τ).loc Cert.AdamSbBranchIdeal.main_arg2) = m ((c.tc : Thread Cert.AdamSbBranchIdeal.nD Cert.AdamSbBranchIdeal.τ).loc Cert.AdamSbBranchIdeal.main_arg2)
      ∧ r.2.mem ((c.tc : Thread Cert.AdamSbBranchIdeal.nD Cert.AdamSbBranchIdeal.τ).loc Cert.AdamSbBranchIdeal.main_arg3) = m ((c.tc : Thread Cert.AdamSbBranchIdeal.nD Cert.AdamSbBranchIdeal.τ).loc Cert.AdamSbBranchIdeal.main_arg3))
      ∧ r.2.sem = fun _ => 0)

def quiescent_AdamSbBranchReferenceIdeal [hAdamSbBranchReferenceIdeal : Cert.AdamSbBranchReferenceIdeal.Facts] : Prop :=
  ∀ (m : (ℓ : Loc Cert.AdamSbBranchReferenceIdeal.nD Cert.AdamSbBranchReferenceIdeal.τ Cert.AdamSbBranchReferenceIdeal.sig) → Buf (Elt Ideal) ℓ) (g : Dev Cert.AdamSbBranchReferenceIdeal.nD → PrngReg), Pre_AdamSbBranchReferenceIdeal m →
    θ_run (Cert.AdamSbBranchReferenceIdeal.defs (F := Ideal)) (onTc (τ := Cert.AdamSbBranchReferenceIdeal.τ) (Cert.AdamSbBranchReferenceIdeal.main (F := Ideal))) ⟨m, fun _ => 0, g⟩ (fun r => (∀ c : Dev Cert.AdamSbBranchReferenceIdeal.nD,
      r.2.mem ((c.tc : Thread Cert.AdamSbBranchReferenceIdeal.nD Cert.AdamSbBranchReferenceIdeal.τ).loc Cert.AdamSbBranchReferenceIdeal.main_arg0) = m ((c.tc : Thread Cert.AdamSbBranchReferenceIdeal.nD Cert.AdamSbBranchReferenceIdeal.τ).loc Cert.AdamSbBranchReferenceIdeal.main_arg0)
      ∧ r.2.mem ((c.tc : Thread Cert.AdamSbBranchReferenceIdeal.nD Cert.AdamSbBranchReferenceIdeal.τ).loc Cert.AdamSbBranchReferenceIdeal.main_arg1) = m ((c.tc : Thread Cert.AdamSbBranchReferenceIdeal.nD Cert.AdamSbBranchReferenceIdeal.τ).loc Cert.AdamSbBranchReferenceIdeal.main_arg1)
      ∧ r.2.mem ((c.tc : Thread Cert.AdamSbBranchReferenceIdeal.nD Cert.AdamSbBranchReferenceIdeal.τ).loc Cert.AdamSbBranchReferenceIdeal.main_arg2) = m ((c.tc : Thread Cert.AdamSbBranchReferenceIdeal.nD Cert.AdamSbBranchReferenceIdeal.τ).loc Cert.AdamSbBranchReferenceIdeal.main_arg2)
      ∧ r.2.mem ((c.tc : Thread Cert.AdamSbBranchReferenceIdeal.nD Cert.AdamSbBranchReferenceIdeal.τ).loc Cert.AdamSbBranchReferenceIdeal.main_arg3) = m ((c.tc : Thread Cert.AdamSbBranchReferenceIdeal.nD Cert.AdamSbBranchReferenceIdeal.τ).loc Cert.AdamSbBranchReferenceIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareReferenceIdeal [hAdamSquareReferenceIdeal : Cert.AdamSquareReferenceIdeal.Facts] : Prop :=
  ∀ (m : (ℓ : Loc Cert.AdamSquareReferenceIdeal.nD Cert.AdamSquareReferenceIdeal.τ Cert.AdamSquareReferenceIdeal.sig) → Buf (Elt Ideal) ℓ) (g : Dev Cert.AdamSquareReferenceIdeal.nD → PrngReg), Pre_AdamSquareReferenceIdeal m →
    θ_run (Cert.AdamSquareReferenceIdeal.defs (F := Ideal)) (onTc (τ := Cert.AdamSquareReferenceIdeal.τ) (Cert.AdamSquareReferenceIdeal.main (F := Ideal))) ⟨m, fun _ => 0, g⟩ (fun r => (∀ c : Dev Cert.AdamSquareReferenceIdeal.nD,
      r.2.mem ((c.tc : Thread Cert.AdamSquareReferenceIdeal.nD Cert.AdamSquareReferenceIdeal.τ).loc Cert.AdamSquareReferenceIdeal.main_arg0) = m ((c.tc : Thread Cert.AdamSquareReferenceIdeal.nD Cert.AdamSquareReferenceIdeal.τ).loc Cert.AdamSquareReferenceIdeal.main_arg0)
      ∧ r.2.mem ((c.tc : Thread Cert.AdamSquareReferenceIdeal.nD Cert.AdamSquareReferenceIdeal.τ).loc Cert.AdamSquareReferenceIdeal.main_arg1) = m ((c.tc : Thread Cert.AdamSquareReferenceIdeal.nD Cert.AdamSquareReferenceIdeal.τ).loc Cert.AdamSquareReferenceIdeal.main_arg1)
      ∧ r.2.mem ((c.tc : Thread Cert.AdamSquareReferenceIdeal.nD Cert.AdamSquareReferenceIdeal.τ).loc Cert.AdamSquareReferenceIdeal.main_arg2) = m ((c.tc : Thread Cert.AdamSquareReferenceIdeal.nD Cert.AdamSquareReferenceIdeal.τ).loc Cert.AdamSquareReferenceIdeal.main_arg2)
      ∧ r.2.mem ((c.tc : Thread Cert.AdamSquareReferenceIdeal.nD Cert.AdamSquareReferenceIdeal.τ).loc Cert.AdamSquareReferenceIdeal.main_arg3) = m ((c.tc : Thread Cert.AdamSquareReferenceIdeal.nD Cert.AdamSquareReferenceIdeal.τ).loc Cert.AdamSquareReferenceIdeal.main_arg3))
      ∧ r.2.sem = fun _ => 0)

def quiescent_AdamMeta [hAdamMeta : Cert.AdamMeta.Facts] : Prop :=
  ∀ (m : (ℓ : Loc Cert.AdamMeta.nD Cert.AdamMeta.τ Cert.AdamMeta.sig) → Buf (Elt Bits) ℓ) (g : Dev Cert.AdamMeta.nD → PrngReg), Pre_AdamMeta m →
    θ_run (Cert.AdamMeta.defs (F := Bits)) (onTc (τ := Cert.AdamMeta.τ) (Cert.AdamMeta.main (F := Bits))) ⟨m, fun _ => 0, g⟩ (fun r => (∀ c : Dev Cert.AdamMeta.nD,
      r.2.mem ((c.tc : Thread Cert.AdamMeta.nD Cert.AdamMeta.τ).loc Cert.AdamMeta.main_arg0) = m ((c.tc : Thread Cert.AdamMeta.nD Cert.AdamMeta.τ).loc Cert.AdamMeta.main_arg0)
      ∧ r.2.mem ((c.tc : Thread Cert.AdamMeta.nD Cert.AdamMeta.τ).loc Cert.AdamMeta.main_arg1) = m ((c.tc : Thread Cert.AdamMeta.nD Cert.AdamMeta.τ).loc Cert.AdamMeta.main_arg1)
      ∧ r.2.mem ((c.tc : Thread Cert.AdamMeta.nD Cert.AdamMeta.τ).loc Cert.AdamMeta.main_arg2) = m ((c.tc : Thread Cert.AdamMeta.nD Cert.AdamMeta.τ).loc Cert.AdamMeta.main_arg2)
      ∧ r.2.mem ((c.tc : Thread Cert.AdamMeta.nD Cert.AdamMeta.τ).loc Cert.AdamMeta.main_arg3) = m ((c.tc : Thread Cert.AdamMeta.nD Cert.AdamMeta.τ).loc Cert.AdamMeta.main_arg3))
      ∧ r.2.sem = fun _ => 0)

def quiescent_AdamMetaIdeal [hAdamMetaIdeal : Cert.AdamMetaIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg), Pre_AdamMetaIdeal m →
    θ_run (Cert.AdamMetaIdeal.defs (F := Ideal)) (onTc (τ := Cert.AdamMetaIdeal.τ) (Cert.AdamMetaIdeal.main (F := Ideal))) ⟨m, fun _ => 0, g⟩ (fun r => (∀ c : Dev Cert.AdamMetaIdeal.nD,
      r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
      ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
      ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
      ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ r.2.sem = fun _ => 0)

def quiescent_AdamMetaReferenceIdeal [hAdamMetaReferenceIdeal : Cert.AdamMetaReferenceIdeal.Facts] : Prop :=
  ∀ (m : (ℓ : Loc Cert.AdamMetaReferenceIdeal.nD Cert.AdamMetaReferenceIdeal.τ Cert.AdamMetaReferenceIdeal.sig) → Buf (Elt Ideal) ℓ) (g : Dev Cert.AdamMetaReferenceIdeal.nD → PrngReg), Pre_AdamMetaReferenceIdeal m →
    θ_run (Cert.AdamMetaReferenceIdeal.defs (F := Ideal)) (onTc (τ := Cert.AdamMetaReferenceIdeal.τ) (Cert.AdamMetaReferenceIdeal.main (F := Ideal))) ⟨m, fun _ => 0, g⟩ (fun r => (∀ c : Dev Cert.AdamMetaReferenceIdeal.nD,
      r.2.mem ((c.tc : Thread Cert.AdamMetaReferenceIdeal.nD Cert.AdamMetaReferenceIdeal.τ).loc Cert.AdamMetaReferenceIdeal.main_arg0) = m ((c.tc : Thread Cert.AdamMetaReferenceIdeal.nD Cert.AdamMetaReferenceIdeal.τ).loc Cert.AdamMetaReferenceIdeal.main_arg0)
      ∧ r.2.mem ((c.tc : Thread Cert.AdamMetaReferenceIdeal.nD Cert.AdamMetaReferenceIdeal.τ).loc Cert.AdamMetaReferenceIdeal.main_arg1) = m ((c.tc : Thread Cert.AdamMetaReferenceIdeal.nD Cert.AdamMetaReferenceIdeal.τ).loc Cert.AdamMetaReferenceIdeal.main_arg1)
      ∧ r.2.mem ((c.tc : Thread Cert.AdamMetaReferenceIdeal.nD Cert.AdamMetaReferenceIdeal.τ).loc Cert.AdamMetaReferenceIdeal.main_arg2) = m ((c.tc : Thread Cert.AdamMetaReferenceIdeal.nD Cert.AdamMetaReferenceIdeal.τ).loc Cert.AdamMetaReferenceIdeal.main_arg2)
      ∧ r.2.mem ((c.tc : Thread Cert.AdamMetaReferenceIdeal.nD Cert.AdamMetaReferenceIdeal.τ).loc Cert.AdamMetaReferenceIdeal.main_arg3) = m ((c.tc : Thread Cert.AdamMetaReferenceIdeal.nD Cert.AdamMetaReferenceIdeal.τ).loc Cert.AdamMetaReferenceIdeal.main_arg3))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainReferenceIdeal [hAdamGainReferenceIdeal : Cert.AdamGainReferenceIdeal.Facts] : Prop :=
  ∀ (m : (ℓ : Loc Cert.AdamGainReferenceIdeal.nD Cert.AdamGainReferenceIdeal.τ Cert.AdamGainReferenceIdeal.sig) → Buf (Elt Ideal) ℓ) (g : Dev Cert.AdamGainReferenceIdeal.nD → PrngReg), Pre_AdamGainReferenceIdeal m →
    θ_run (Cert.AdamGainReferenceIdeal.defs (F := Ideal)) (onTc (τ := Cert.AdamGainReferenceIdeal.τ) (Cert.AdamGainReferenceIdeal.main (F := Ideal))) ⟨m, fun _ => 0, g⟩ (fun r => (∀ c : Dev Cert.AdamGainReferenceIdeal.nD,
      r.2.mem ((c.tc : Thread Cert.AdamGainReferenceIdeal.nD Cert.AdamGainReferenceIdeal.τ).loc Cert.AdamGainReferenceIdeal.main_arg0) = m ((c.tc : Thread Cert.AdamGainReferenceIdeal.nD Cert.AdamGainReferenceIdeal.τ).loc Cert.AdamGainReferenceIdeal.main_arg0)
      ∧ r.2.mem ((c.tc : Thread Cert.AdamGainReferenceIdeal.nD Cert.AdamGainReferenceIdeal.τ).loc Cert.AdamGainReferenceIdeal.main_arg1) = m ((c.tc : Thread Cert.AdamGainReferenceIdeal.nD Cert.AdamGainReferenceIdeal.τ).loc Cert.AdamGainReferenceIdeal.main_arg1)
      ∧ r.2.mem ((c.tc : Thread Cert.AdamGainReferenceIdeal.nD Cert.AdamGainReferenceIdeal.τ).loc Cert.AdamGainReferenceIdeal.main_arg2) = m ((c.tc : Thread Cert.AdamGainReferenceIdeal.nD Cert.AdamGainReferenceIdeal.τ).loc Cert.AdamGainReferenceIdeal.main_arg2)
      ∧ r.2.mem ((c.tc : Thread Cert.AdamGainReferenceIdeal.nD Cert.AdamGainReferenceIdeal.τ).loc Cert.AdamGainReferenceIdeal.main_arg3) = m ((c.tc : Thread Cert.AdamGainReferenceIdeal.nD Cert.AdamGainReferenceIdeal.τ).loc Cert.AdamGainReferenceIdeal.main_arg3))
      ∧ r.2.sem = fun _ => 0)

def quiescent_AdamSinks [hAdamSinks : Cert.AdamSinks.Facts] : Prop :=
  ∀ (m : (ℓ : Loc Cert.AdamSinks.nD Cert.AdamSinks.τ Cert.AdamSinks.sig) → Buf (Elt Bits) ℓ) (g : Dev Cert.AdamSinks.nD → PrngReg), Pre_AdamSinks m →
    θ_run (Cert.AdamSinks.defs (F := Bits)) (onTc (τ := Cert.AdamSinks.τ) (Cert.AdamSinks.main (F := Bits))) ⟨m, fun _ => 0, g⟩ (fun r => (∀ c : Dev Cert.AdamSinks.nD,
      r.2.mem ((c.tc : Thread Cert.AdamSinks.nD Cert.AdamSinks.τ).loc Cert.AdamSinks.main_arg0) = m ((c.tc : Thread Cert.AdamSinks.nD Cert.AdamSinks.τ).loc Cert.AdamSinks.main_arg0)
      ∧ r.2.mem ((c.tc : Thread Cert.AdamSinks.nD Cert.AdamSinks.τ).loc Cert.AdamSinks.main_arg1) = m ((c.tc : Thread Cert.AdamSinks.nD Cert.AdamSinks.τ).loc Cert.AdamSinks.main_arg1)
      ∧ r.2.mem ((c.tc : Thread Cert.AdamSinks.nD Cert.AdamSinks.τ).loc Cert.AdamSinks.main_arg2) = m ((c.tc : Thread Cert.AdamSinks.nD Cert.AdamSinks.τ).loc Cert.AdamSinks.main_arg2)
      ∧ r.2.mem ((c.tc : Thread Cert.AdamSinks.nD Cert.AdamSinks.τ).loc Cert.AdamSinks.main_arg3) = m ((c.tc : Thread Cert.AdamSinks.nD Cert.AdamSinks.τ).loc Cert.AdamSinks.main_arg3))
      ∧ r.2.sem = fun _ => 0)

def quiescent_AdamSinksIdeal [hAdamSinksIdeal : Cert.AdamSinksIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg), Pre_AdamSinksIdeal m →
    θ_run (Cert.AdamSinksIdeal.defs (F := Ideal)) (onTc (τ := Cert.AdamSinksIdeal.τ) (Cert.AdamSinksIdeal.main (F := Ideal))) ⟨m, fun _ => 0, g⟩ (fun r => (∀ c : Dev Cert.AdamSinksIdeal.nD,
      r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
      ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
      ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
      ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ r.2.sem = fun _ => 0)

def quiescent_AdamSinksReferenceIdeal [hAdamSinksReferenceIdeal : Cert.AdamSinksReferenceIdeal.Facts] : Prop :=
  ∀ (m : (ℓ : Loc Cert.AdamSinksReferenceIdeal.nD Cert.AdamSinksReferenceIdeal.τ Cert.AdamSinksReferenceIdeal.sig) → Buf (Elt Ideal) ℓ) (g : Dev Cert.AdamSinksReferenceIdeal.nD → PrngReg), Pre_AdamSinksReferenceIdeal m →
    θ_run (Cert.AdamSinksReferenceIdeal.defs (F := Ideal)) (onTc (τ := Cert.AdamSinksReferenceIdeal.τ) (Cert.AdamSinksReferenceIdeal.main (F := Ideal))) ⟨m, fun _ => 0, g⟩ (fun r => (∀ c : Dev Cert.AdamSinksReferenceIdeal.nD,
      r.2.mem ((c.tc : Thread Cert.AdamSinksReferenceIdeal.nD Cert.AdamSinksReferenceIdeal.τ).loc Cert.AdamSinksReferenceIdeal.main_arg0) = m ((c.tc : Thread Cert.AdamSinksReferenceIdeal.nD Cert.AdamSinksReferenceIdeal.τ).loc Cert.AdamSinksReferenceIdeal.main_arg0)
      ∧ r.2.mem ((c.tc : Thread Cert.AdamSinksReferenceIdeal.nD Cert.AdamSinksReferenceIdeal.τ).loc Cert.AdamSinksReferenceIdeal.main_arg1) = m ((c.tc : Thread Cert.AdamSinksReferenceIdeal.nD Cert.AdamSinksReferenceIdeal.τ).loc Cert.AdamSinksReferenceIdeal.main_arg1)
      ∧ r.2.mem ((c.tc : Thread Cert.AdamSinksReferenceIdeal.nD Cert.AdamSinksReferenceIdeal.τ).loc Cert.AdamSinksReferenceIdeal.main_arg2) = m ((c.tc : Thread Cert.AdamSinksReferenceIdeal.nD Cert.AdamSinksReferenceIdeal.τ).loc Cert.AdamSinksReferenceIdeal.main_arg2)
      ∧ r.2.mem ((c.tc : Thread Cert.AdamSinksReferenceIdeal.nD Cert.AdamSinksReferenceIdeal.τ).loc Cert.AdamSinksReferenceIdeal.main_arg3) = m ((c.tc : Thread Cert.AdamSinksReferenceIdeal.nD Cert.AdamSinksReferenceIdeal.τ).loc Cert.AdamSinksReferenceIdeal.main_arg3))
      ∧ r.2.sem = fun _ => 0)

def quiescent_NormForward [hNormForward : Cert.NormForward.Facts] : Prop :=
  ∀ (m : (ℓ : Loc Cert.NormForward.nD Cert.NormForward.τ Cert.NormForward.sig) → Buf (Elt Bits) ℓ) (g : Dev Cert.NormForward.nD → PrngReg), Pre_NormForward m →
    θ_run (Cert.NormForward.defs (F := Bits)) (onTc (τ := Cert.NormForward.τ) (Cert.NormForward.main (F := Bits))) ⟨m, fun _ => 0, g⟩ (fun r => (∀ c : Dev Cert.NormForward.nD,
      r.2.mem ((c.tc : Thread Cert.NormForward.nD Cert.NormForward.τ).loc Cert.NormForward.main_arg0) = m ((c.tc : Thread Cert.NormForward.nD Cert.NormForward.τ).loc Cert.NormForward.main_arg0)
      ∧ r.2.mem ((c.tc : Thread Cert.NormForward.nD Cert.NormForward.τ).loc Cert.NormForward.main_arg1) = m ((c.tc : Thread Cert.NormForward.nD Cert.NormForward.τ).loc Cert.NormForward.main_arg1))
      ∧ r.2.sem = fun _ => 0)

def quiescent_NormForwardIdeal [hNormForwardIdeal : Cert.NormForwardIdeal.Facts] : Prop :=
  ∀ (m : (ℓ : Loc Cert.NormForwardIdeal.nD Cert.NormForwardIdeal.τ Cert.NormForwardIdeal.sig) → Buf (Elt Ideal) ℓ) (g : Dev Cert.NormForwardIdeal.nD → PrngReg), Pre_NormForwardIdeal m →
    θ_run (Cert.NormForwardIdeal.defs (F := Ideal)) (onTc (τ := Cert.NormForwardIdeal.τ) (Cert.NormForwardIdeal.main (F := Ideal))) ⟨m, fun _ => 0, g⟩ (fun r => (∀ c : Dev Cert.NormForwardIdeal.nD,
      r.2.mem ((c.tc : Thread Cert.NormForwardIdeal.nD Cert.NormForwardIdeal.τ).loc Cert.NormForwardIdeal.main_arg0) = m ((c.tc : Thread Cert.NormForwardIdeal.nD Cert.NormForwardIdeal.τ).loc Cert.NormForwardIdeal.main_arg0)
      ∧ r.2.mem ((c.tc : Thread Cert.NormForwardIdeal.nD Cert.NormForwardIdeal.τ).loc Cert.NormForwardIdeal.main_arg1) = m ((c.tc : Thread Cert.NormForwardIdeal.nD Cert.NormForwardIdeal.τ).loc Cert.NormForwardIdeal.main_arg1))
      ∧ r.2.sem = fun _ => 0)

def quiescent_NormForwardReferenceIdeal [hNormForwardReferenceIdeal : Cert.NormForwardReferenceIdeal.Facts] : Prop :=
  ∀ (m : (ℓ : Loc Cert.NormForwardReferenceIdeal.nD Cert.NormForwardReferenceIdeal.τ Cert.NormForwardReferenceIdeal.sig) → Buf (Elt Ideal) ℓ) (g : Dev Cert.NormForwardReferenceIdeal.nD → PrngReg), Pre_NormForwardReferenceIdeal m →
    θ_run (Cert.NormForwardReferenceIdeal.defs (F := Ideal)) (onTc (τ := Cert.NormForwardReferenceIdeal.τ) (Cert.NormForwardReferenceIdeal.main (F := Ideal))) ⟨m, fun _ => 0, g⟩ (fun r => (∀ c : Dev Cert.NormForwardReferenceIdeal.nD,
      r.2.mem ((c.tc : Thread Cert.NormForwardReferenceIdeal.nD Cert.NormForwardReferenceIdeal.τ).loc Cert.NormForwardReferenceIdeal.main_arg0) = m ((c.tc : Thread Cert.NormForwardReferenceIdeal.nD Cert.NormForwardReferenceIdeal.τ).loc Cert.NormForwardReferenceIdeal.main_arg0)
      ∧ r.2.mem ((c.tc : Thread Cert.NormForwardReferenceIdeal.nD Cert.NormForwardReferenceIdeal.τ).loc Cert.NormForwardReferenceIdeal.main_arg1) = m ((c.tc : Thread Cert.NormForwardReferenceIdeal.nD Cert.NormForwardReferenceIdeal.τ).loc Cert.NormForwardReferenceIdeal.main_arg1))
      ∧ r.2.sem = fun _ => 0)

def quiescent_LossForward [hLossForward : Cert.LossForward.Facts] : Prop :=
  ∀ (m : (ℓ : Loc Cert.LossForward.nD Cert.LossForward.τ Cert.LossForward.sig) → Buf (Elt Bits) ℓ) (g : Dev Cert.LossForward.nD → PrngReg), Pre_LossForward m →
    θ_run (Cert.LossForward.defs (F := Bits)) (onTc (τ := Cert.LossForward.τ) (Cert.LossForward.main (F := Bits))) ⟨m, fun _ => 0, g⟩ (fun r => (∀ c : Dev Cert.LossForward.nD,
      r.2.mem ((c.tc : Thread Cert.LossForward.nD Cert.LossForward.τ).loc Cert.LossForward.main_arg0) = m ((c.tc : Thread Cert.LossForward.nD Cert.LossForward.τ).loc Cert.LossForward.main_arg0)
      ∧ r.2.mem ((c.tc : Thread Cert.LossForward.nD Cert.LossForward.τ).loc Cert.LossForward.main_arg1) = m ((c.tc : Thread Cert.LossForward.nD Cert.LossForward.τ).loc Cert.LossForward.main_arg1)
      ∧ r.2.mem ((c.tc : Thread Cert.LossForward.nD Cert.LossForward.τ).loc Cert.LossForward.main_arg2) = m ((c.tc : Thread Cert.LossForward.nD Cert.LossForward.τ).loc Cert.LossForward.main_arg2))
      ∧ r.2.sem = fun _ => 0)

def quiescent_LossForwardIdeal [hLossForwardIdeal : Cert.LossForwardIdeal.Facts] : Prop :=
  ∀ (m : (ℓ : Loc Cert.LossForwardIdeal.nD Cert.LossForwardIdeal.τ Cert.LossForwardIdeal.sig) → Buf (Elt Ideal) ℓ) (g : Dev Cert.LossForwardIdeal.nD → PrngReg), Pre_LossForwardIdeal m →
    θ_run (Cert.LossForwardIdeal.defs (F := Ideal)) (onTc (τ := Cert.LossForwardIdeal.τ) (Cert.LossForwardIdeal.main (F := Ideal))) ⟨m, fun _ => 0, g⟩ (fun r => (∀ c : Dev Cert.LossForwardIdeal.nD,
      r.2.mem ((c.tc : Thread Cert.LossForwardIdeal.nD Cert.LossForwardIdeal.τ).loc Cert.LossForwardIdeal.main_arg0) = m ((c.tc : Thread Cert.LossForwardIdeal.nD Cert.LossForwardIdeal.τ).loc Cert.LossForwardIdeal.main_arg0)
      ∧ r.2.mem ((c.tc : Thread Cert.LossForwardIdeal.nD Cert.LossForwardIdeal.τ).loc Cert.LossForwardIdeal.main_arg1) = m ((c.tc : Thread Cert.LossForwardIdeal.nD Cert.LossForwardIdeal.τ).loc Cert.LossForwardIdeal.main_arg1)
      ∧ r.2.mem ((c.tc : Thread Cert.LossForwardIdeal.nD Cert.LossForwardIdeal.τ).loc Cert.LossForwardIdeal.main_arg2) = m ((c.tc : Thread Cert.LossForwardIdeal.nD Cert.LossForwardIdeal.τ).loc Cert.LossForwardIdeal.main_arg2))
      ∧ r.2.sem = fun _ => 0)

def quiescent_LossForwardReferenceIdeal [hLossForwardReferenceIdeal : Cert.LossForwardReferenceIdeal.Facts] : Prop :=
  ∀ (m : (ℓ : Loc Cert.LossForwardReferenceIdeal.nD Cert.LossForwardReferenceIdeal.τ Cert.LossForwardReferenceIdeal.sig) → Buf (Elt Ideal) ℓ) (g : Dev Cert.LossForwardReferenceIdeal.nD → PrngReg), Pre_LossForwardReferenceIdeal m →
    θ_run (Cert.LossForwardReferenceIdeal.defs (F := Ideal)) (onTc (τ := Cert.LossForwardReferenceIdeal.τ) (Cert.LossForwardReferenceIdeal.main (F := Ideal))) ⟨m, fun _ => 0, g⟩ (fun r => (∀ c : Dev Cert.LossForwardReferenceIdeal.nD,
      r.2.mem ((c.tc : Thread Cert.LossForwardReferenceIdeal.nD Cert.LossForwardReferenceIdeal.τ).loc Cert.LossForwardReferenceIdeal.main_arg0) = m ((c.tc : Thread Cert.LossForwardReferenceIdeal.nD Cert.LossForwardReferenceIdeal.τ).loc Cert.LossForwardReferenceIdeal.main_arg0)
      ∧ r.2.mem ((c.tc : Thread Cert.LossForwardReferenceIdeal.nD Cert.LossForwardReferenceIdeal.τ).loc Cert.LossForwardReferenceIdeal.main_arg1) = m ((c.tc : Thread Cert.LossForwardReferenceIdeal.nD Cert.LossForwardReferenceIdeal.τ).loc Cert.LossForwardReferenceIdeal.main_arg1)
      ∧ r.2.mem ((c.tc : Thread Cert.LossForwardReferenceIdeal.nD Cert.LossForwardReferenceIdeal.τ).loc Cert.LossForwardReferenceIdeal.main_arg2) = m ((c.tc : Thread Cert.LossForwardReferenceIdeal.nD Cert.LossForwardReferenceIdeal.τ).loc Cert.LossForwardReferenceIdeal.main_arg2))
      ∧ r.2.sem = fun _ => 0)

def quiescent_LossGradient [hLossGradient : Cert.LossGradient.Facts] : Prop :=
  ∀ (m : (ℓ : Loc Cert.LossGradient.nD Cert.LossGradient.τ Cert.LossGradient.sig) → Buf (Elt Bits) ℓ) (g : Dev Cert.LossGradient.nD → PrngReg), Pre_LossGradient m →
    θ_run (Cert.LossGradient.defs (F := Bits)) (onTc (τ := Cert.LossGradient.τ) (Cert.LossGradient.main (F := Bits))) ⟨m, fun _ => 0, g⟩ (fun r => (∀ c : Dev Cert.LossGradient.nD,
      r.2.mem ((c.tc : Thread Cert.LossGradient.nD Cert.LossGradient.τ).loc Cert.LossGradient.main_arg0) = m ((c.tc : Thread Cert.LossGradient.nD Cert.LossGradient.τ).loc Cert.LossGradient.main_arg0)
      ∧ r.2.mem ((c.tc : Thread Cert.LossGradient.nD Cert.LossGradient.τ).loc Cert.LossGradient.main_arg1) = m ((c.tc : Thread Cert.LossGradient.nD Cert.LossGradient.τ).loc Cert.LossGradient.main_arg1)
      ∧ r.2.mem ((c.tc : Thread Cert.LossGradient.nD Cert.LossGradient.τ).loc Cert.LossGradient.main_arg2) = m ((c.tc : Thread Cert.LossGradient.nD Cert.LossGradient.τ).loc Cert.LossGradient.main_arg2))
      ∧ r.2.sem = fun _ => 0)

def quiescent_LossGradientIdeal [hLossGradientIdeal : Cert.LossGradientIdeal.Facts] : Prop :=
  ∀ (m : (ℓ : Loc Cert.LossGradientIdeal.nD Cert.LossGradientIdeal.τ Cert.LossGradientIdeal.sig) → Buf (Elt Ideal) ℓ) (g : Dev Cert.LossGradientIdeal.nD → PrngReg), Pre_LossGradientIdeal m →
    θ_run (Cert.LossGradientIdeal.defs (F := Ideal)) (onTc (τ := Cert.LossGradientIdeal.τ) (Cert.LossGradientIdeal.main (F := Ideal))) ⟨m, fun _ => 0, g⟩ (fun r => (∀ c : Dev Cert.LossGradientIdeal.nD,
      r.2.mem ((c.tc : Thread Cert.LossGradientIdeal.nD Cert.LossGradientIdeal.τ).loc Cert.LossGradientIdeal.main_arg0) = m ((c.tc : Thread Cert.LossGradientIdeal.nD Cert.LossGradientIdeal.τ).loc Cert.LossGradientIdeal.main_arg0)
      ∧ r.2.mem ((c.tc : Thread Cert.LossGradientIdeal.nD Cert.LossGradientIdeal.τ).loc Cert.LossGradientIdeal.main_arg1) = m ((c.tc : Thread Cert.LossGradientIdeal.nD Cert.LossGradientIdeal.τ).loc Cert.LossGradientIdeal.main_arg1)
      ∧ r.2.mem ((c.tc : Thread Cert.LossGradientIdeal.nD Cert.LossGradientIdeal.τ).loc Cert.LossGradientIdeal.main_arg2) = m ((c.tc : Thread Cert.LossGradientIdeal.nD Cert.LossGradientIdeal.τ).loc Cert.LossGradientIdeal.main_arg2))
      ∧ r.2.sem = fun _ => 0)

def quiescent_LossGradientReferenceIdeal [hLossGradientReferenceIdeal : Cert.LossGradientReferenceIdeal.Facts] : Prop :=
  ∀ (m : (ℓ : Loc Cert.LossGradientReferenceIdeal.nD Cert.LossGradientReferenceIdeal.τ Cert.LossGradientReferenceIdeal.sig) → Buf (Elt Ideal) ℓ) (g : Dev Cert.LossGradientReferenceIdeal.nD → PrngReg), Pre_LossGradientReferenceIdeal m →
    θ_run (Cert.LossGradientReferenceIdeal.defs (F := Ideal)) (onTc (τ := Cert.LossGradientReferenceIdeal.τ) (Cert.LossGradientReferenceIdeal.main (F := Ideal))) ⟨m, fun _ => 0, g⟩ (fun r => (∀ c : Dev Cert.LossGradientReferenceIdeal.nD,
      r.2.mem ((c.tc : Thread Cert.LossGradientReferenceIdeal.nD Cert.LossGradientReferenceIdeal.τ).loc Cert.LossGradientReferenceIdeal.main_arg0) = m ((c.tc : Thread Cert.LossGradientReferenceIdeal.nD Cert.LossGradientReferenceIdeal.τ).loc Cert.LossGradientReferenceIdeal.main_arg0)
      ∧ r.2.mem ((c.tc : Thread Cert.LossGradientReferenceIdeal.nD Cert.LossGradientReferenceIdeal.τ).loc Cert.LossGradientReferenceIdeal.main_arg1) = m ((c.tc : Thread Cert.LossGradientReferenceIdeal.nD Cert.LossGradientReferenceIdeal.τ).loc Cert.LossGradientReferenceIdeal.main_arg1)
      ∧ r.2.mem ((c.tc : Thread Cert.LossGradientReferenceIdeal.nD Cert.LossGradientReferenceIdeal.τ).loc Cert.LossGradientReferenceIdeal.main_arg2) = m ((c.tc : Thread Cert.LossGradientReferenceIdeal.nD Cert.LossGradientReferenceIdeal.τ).loc Cert.LossGradientReferenceIdeal.main_arg2))
      ∧ r.2.sem = fun _ => 0)

def preserves_InputGradient_InputGradientIdeal : Prop :=
  True

def algebraic_InputGradientIdeal_InputGradientReferenceIdeal [hInputGradientIdeal : Cert.InputGradientIdeal.Facts] [hInputGradientReferenceIdeal : Cert.InputGradientReferenceIdeal.Facts] : Prop :=
  ∀ (m : (ℓ : Loc Cert.InputGradientIdeal.nD Cert.InputGradientIdeal.τ Cert.InputGradientIdeal.sig) → Buf (Elt Ideal) ℓ) (g : Dev Cert.InputGradientIdeal.nD → PrngReg)
    (m' : (ℓ : Loc Cert.InputGradientReferenceIdeal.nD Cert.InputGradientReferenceIdeal.τ Cert.InputGradientReferenceIdeal.sig) → Buf (Elt Ideal) ℓ) (g' : Dev Cert.InputGradientReferenceIdeal.nD → PrngReg), Pre_InputGradientIdeal m →
    (∀ c : Dev Cert.InputGradientIdeal.nD,
      m' ((c.tc : Thread Cert.InputGradientReferenceIdeal.nD Cert.InputGradientReferenceIdeal.τ).loc Cert.InputGradientReferenceIdeal.main_arg0) = m ((c.tc : Thread Cert.InputGradientIdeal.nD Cert.InputGradientIdeal.τ).loc Cert.InputGradientIdeal.main_arg0)
      ∧ m' ((c.tc : Thread Cert.InputGradientReferenceIdeal.nD Cert.InputGradientReferenceIdeal.τ).loc Cert.InputGradientReferenceIdeal.main_arg1) = m ((c.tc : Thread Cert.InputGradientIdeal.nD Cert.InputGradientIdeal.τ).loc Cert.InputGradientIdeal.main_arg1)
      ∧ m' ((c.tc : Thread Cert.InputGradientReferenceIdeal.nD Cert.InputGradientReferenceIdeal.τ).loc Cert.InputGradientReferenceIdeal.main_arg2) = m ((c.tc : Thread Cert.InputGradientIdeal.nD Cert.InputGradientIdeal.τ).loc Cert.InputGradientIdeal.main_arg2)) →
    ∃ (v0 : (c : Dev Cert.InputGradientIdeal.nD) → Buf (Elt Ideal) ((c.tc : Thread Cert.InputGradientIdeal.nD Cert.InputGradientIdeal.τ).loc Cert.InputGradientIdeal.main_v28)),
      θ_run (Cert.InputGradientIdeal.defs (F := Ideal)) (onTc (τ := Cert.InputGradientIdeal.τ) (Cert.InputGradientIdeal.main (F := Ideal))) ⟨m, fun _ => 0, g⟩ (fun r => ∀ c : Dev Cert.InputGradientIdeal.nD,
          r.2.mem ((c.tc : Thread Cert.InputGradientIdeal.nD Cert.InputGradientIdeal.τ).loc Cert.InputGradientIdeal.main_v28) = v0 c
          ∧ r.2.mem ((c.tc : Thread Cert.InputGradientIdeal.nD Cert.InputGradientIdeal.τ).loc Cert.InputGradientIdeal.main_arg0) = m ((c.tc : Thread Cert.InputGradientIdeal.nD Cert.InputGradientIdeal.τ).loc Cert.InputGradientIdeal.main_arg0)
          ∧ r.2.mem ((c.tc : Thread Cert.InputGradientIdeal.nD Cert.InputGradientIdeal.τ).loc Cert.InputGradientIdeal.main_arg1) = m ((c.tc : Thread Cert.InputGradientIdeal.nD Cert.InputGradientIdeal.τ).loc Cert.InputGradientIdeal.main_arg1)
          ∧ r.2.mem ((c.tc : Thread Cert.InputGradientIdeal.nD Cert.InputGradientIdeal.τ).loc Cert.InputGradientIdeal.main_arg2) = m ((c.tc : Thread Cert.InputGradientIdeal.nD Cert.InputGradientIdeal.τ).loc Cert.InputGradientIdeal.main_arg2))
      ∧ θ_run (Cert.InputGradientReferenceIdeal.defs (F := Ideal)) (onTc (τ := Cert.InputGradientReferenceIdeal.τ) (Cert.InputGradientReferenceIdeal.main (F := Ideal))) ⟨m', fun _ => 0, g'⟩ (fun r => ∀ c : Dev Cert.InputGradientReferenceIdeal.nD,
          r.2.mem ((c.tc : Thread Cert.InputGradientReferenceIdeal.nD Cert.InputGradientReferenceIdeal.τ).loc Cert.InputGradientReferenceIdeal.main_v1) = v0 c
          ∧ r.2.mem ((c.tc : Thread Cert.InputGradientReferenceIdeal.nD Cert.InputGradientReferenceIdeal.τ).loc Cert.InputGradientReferenceIdeal.main_arg0) = m' ((c.tc : Thread Cert.InputGradientReferenceIdeal.nD Cert.InputGradientReferenceIdeal.τ).loc Cert.InputGradientReferenceIdeal.main_arg0)
          ∧ r.2.mem ((c.tc : Thread Cert.InputGradientReferenceIdeal.nD Cert.InputGradientReferenceIdeal.τ).loc Cert.InputGradientReferenceIdeal.main_arg1) = m' ((c.tc : Thread Cert.InputGradientReferenceIdeal.nD Cert.InputGradientReferenceIdeal.τ).loc Cert.InputGradientReferenceIdeal.main_arg1)
          ∧ r.2.mem ((c.tc : Thread Cert.InputGradientReferenceIdeal.nD Cert.InputGradientReferenceIdeal.τ).loc Cert.InputGradientReferenceIdeal.main_arg2) = m' ((c.tc : Thread Cert.InputGradientReferenceIdeal.nD Cert.InputGradientReferenceIdeal.τ).loc Cert.InputGradientReferenceIdeal.main_arg2))

def preserves_QkvWeight_QkvWeightIdeal : Prop :=
  True

def algebraic_QkvWeightIdeal_QkvWeightReferenceIdeal [hQkvWeightIdeal : Cert.QkvWeightIdeal.Facts] [hQkvWeightReferenceIdeal : Cert.QkvWeightReferenceIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg)
    (m' : (ℓ : Loc Cert.QkvWeightReferenceIdeal.nD Cert.QkvWeightReferenceIdeal.τ Cert.QkvWeightReferenceIdeal.sig) → Buf (Elt Ideal) ℓ) (g' : Dev Cert.QkvWeightReferenceIdeal.nD → PrngReg), Pre_QkvWeightIdeal m →
    (∀ c : Dev Cert.QkvWeightIdeal.nD,
      m' ((c.tc : Thread Cert.QkvWeightReferenceIdeal.nD Cert.QkvWeightReferenceIdeal.τ).loc Cert.QkvWeightReferenceIdeal.main_arg0) = m ((c.tc : Thread Cert.QkvWeightIdeal.nD Cert.QkvWeightIdeal.τ).loc Cert.QkvWeightIdeal.main_arg0)
      ∧ m' ((c.tc : Thread Cert.QkvWeightReferenceIdeal.nD Cert.QkvWeightReferenceIdeal.τ).loc Cert.QkvWeightReferenceIdeal.main_arg1) = m ((c.tc : Thread Cert.QkvWeightIdeal.nD Cert.QkvWeightIdeal.τ).loc Cert.QkvWeightIdeal.main_arg1)
      ∧ m' ((c.tc : Thread Cert.QkvWeightReferenceIdeal.nD Cert.QkvWeightReferenceIdeal.τ).loc Cert.QkvWeightReferenceIdeal.main_arg2) = m ((c.tc : Thread Cert.QkvWeightIdeal.nD Cert.QkvWeightIdeal.τ).loc Cert.QkvWeightIdeal.main_arg2)) →
    ∃ (v0 : (c : Dev Cert.QkvWeightIdeal.nD) → Buf (Elt Ideal) ((c.tc : Thread Cert.QkvWeightIdeal.nD Cert.QkvWeightIdeal.τ).loc Cert.QkvWeightIdeal.main_v2)),
      θ_run (Cert.QkvWeightIdeal.defs (F := Ideal)) (onTc (τ := Cert.QkvWeightIdeal.τ) (Cert.QkvWeightIdeal.main (F := Ideal))) ⟨m, fun _ => 0, g⟩ (fun r => ∀ c : Dev Cert.QkvWeightIdeal.nD,
          r.2.mem ((c.tc : Thread Cert.QkvWeightIdeal.nD Cert.QkvWeightIdeal.τ).loc Cert.QkvWeightIdeal.main_v2) = v0 c
          ∧ r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
          ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1)
          ∧ r.2.mem ((c.tc : Thread Cert.QkvWeightIdeal.nD Cert.QkvWeightIdeal.τ).loc Cert.QkvWeightIdeal.main_arg2) = m ((c.tc : Thread Cert.QkvWeightIdeal.nD Cert.QkvWeightIdeal.τ).loc Cert.QkvWeightIdeal.main_arg2))
      ∧ θ_run (Cert.QkvWeightReferenceIdeal.defs (F := Ideal)) (onTc (τ := Cert.QkvWeightReferenceIdeal.τ) (Cert.QkvWeightReferenceIdeal.main (F := Ideal))) ⟨m', fun _ => 0, g'⟩ (fun r => ∀ c : Dev Cert.QkvWeightReferenceIdeal.nD,
          r.2.mem ((c.tc : Thread Cert.QkvWeightReferenceIdeal.nD Cert.QkvWeightReferenceIdeal.τ).loc Cert.QkvWeightReferenceIdeal.main_v2) = v0 c
          ∧ r.2.mem ((c.tc : Thread Cert.QkvWeightReferenceIdeal.nD Cert.QkvWeightReferenceIdeal.τ).loc Cert.QkvWeightReferenceIdeal.main_arg0) = m' ((c.tc : Thread Cert.QkvWeightReferenceIdeal.nD Cert.QkvWeightReferenceIdeal.τ).loc Cert.QkvWeightReferenceIdeal.main_arg0)
          ∧ r.2.mem ((c.tc : Thread Cert.QkvWeightReferenceIdeal.nD Cert.QkvWeightReferenceIdeal.τ).loc Cert.QkvWeightReferenceIdeal.main_arg1) = m' ((c.tc : Thread Cert.QkvWeightReferenceIdeal.nD Cert.QkvWeightReferenceIdeal.τ).loc Cert.QkvWeightReferenceIdeal.main_arg1)
          ∧ r.2.mem ((c.tc : Thread Cert.QkvWeightReferenceIdeal.nD Cert.QkvWeightReferenceIdeal.τ).loc Cert.QkvWeightReferenceIdeal.main_arg2) = m' ((c.tc : Thread Cert.QkvWeightReferenceIdeal.nD Cert.QkvWeightReferenceIdeal.τ).loc Cert.QkvWeightReferenceIdeal.main_arg2))

def preserves_GateWeight_GateWeightIdeal : Prop :=
  True

def algebraic_GateWeightIdeal_GateWeightReferenceIdeal [hGateWeightIdeal : Cert.GateWeightIdeal.Facts] [hGateWeightReferenceIdeal : Cert.GateWeightReferenceIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg)
    (m' : (ℓ : Loc Cert.GateWeightReferenceIdeal.nD Cert.GateWeightReferenceIdeal.τ Cert.GateWeightReferenceIdeal.sig) → Buf (Elt Ideal) ℓ) (g' : Dev Cert.GateWeightReferenceIdeal.nD → PrngReg), Pre_GateWeightIdeal m →
    (∀ c : Dev Cert.GateWeightIdeal.nD,
      m' ((c.tc : Thread Cert.GateWeightReferenceIdeal.nD Cert.GateWeightReferenceIdeal.τ).loc Cert.GateWeightReferenceIdeal.main_arg0) = m ((c.tc : Thread Cert.GateWeightIdeal.nD Cert.GateWeightIdeal.τ).loc Cert.GateWeightIdeal.main_arg0)
      ∧ m' ((c.tc : Thread Cert.GateWeightReferenceIdeal.nD Cert.GateWeightReferenceIdeal.τ).loc Cert.GateWeightReferenceIdeal.main_arg1) = m ((c.tc : Thread Cert.GateWeightIdeal.nD Cert.GateWeightIdeal.τ).loc Cert.GateWeightIdeal.main_arg1)
      ∧ m' ((c.tc : Thread Cert.GateWeightReferenceIdeal.nD Cert.GateWeightReferenceIdeal.τ).loc Cert.GateWeightReferenceIdeal.main_arg2) = m ((c.tc : Thread Cert.GateWeightIdeal.nD Cert.GateWeightIdeal.τ).loc Cert.GateWeightIdeal.main_arg2)) →
    ∃ (v0 : (c : Dev Cert.GateWeightIdeal.nD) → Buf (Elt Ideal) ((c.tc : Thread Cert.GateWeightIdeal.nD Cert.GateWeightIdeal.τ).loc Cert.GateWeightIdeal.main_v2)),
      θ_run (Cert.GateWeightIdeal.defs (F := Ideal)) (onTc (τ := Cert.GateWeightIdeal.τ) (Cert.GateWeightIdeal.main (F := Ideal))) ⟨m, fun _ => 0, g⟩ (fun r => ∀ c : Dev Cert.GateWeightIdeal.nD,
          r.2.mem ((c.tc : Thread Cert.GateWeightIdeal.nD Cert.GateWeightIdeal.τ).loc Cert.GateWeightIdeal.main_v2) = v0 c
          ∧ r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
          ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1)
          ∧ r.2.mem ((c.tc : Thread Cert.GateWeightIdeal.nD Cert.GateWeightIdeal.τ).loc Cert.GateWeightIdeal.main_arg2) = m ((c.tc : Thread Cert.GateWeightIdeal.nD Cert.GateWeightIdeal.τ).loc Cert.GateWeightIdeal.main_arg2))
      ∧ θ_run (Cert.GateWeightReferenceIdeal.defs (F := Ideal)) (onTc (τ := Cert.GateWeightReferenceIdeal.τ) (Cert.GateWeightReferenceIdeal.main (F := Ideal))) ⟨m', fun _ => 0, g'⟩ (fun r => ∀ c : Dev Cert.GateWeightReferenceIdeal.nD,
          r.2.mem ((c.tc : Thread Cert.GateWeightReferenceIdeal.nD Cert.GateWeightReferenceIdeal.τ).loc Cert.GateWeightReferenceIdeal.main_v2) = v0 c
          ∧ r.2.mem ((c.tc : Thread Cert.GateWeightReferenceIdeal.nD Cert.GateWeightReferenceIdeal.τ).loc Cert.GateWeightReferenceIdeal.main_arg0) = m' ((c.tc : Thread Cert.GateWeightReferenceIdeal.nD Cert.GateWeightReferenceIdeal.τ).loc Cert.GateWeightReferenceIdeal.main_arg0)
          ∧ r.2.mem ((c.tc : Thread Cert.GateWeightReferenceIdeal.nD Cert.GateWeightReferenceIdeal.τ).loc Cert.GateWeightReferenceIdeal.main_arg1) = m' ((c.tc : Thread Cert.GateWeightReferenceIdeal.nD Cert.GateWeightReferenceIdeal.τ).loc Cert.GateWeightReferenceIdeal.main_arg1)
          ∧ r.2.mem ((c.tc : Thread Cert.GateWeightReferenceIdeal.nD Cert.GateWeightReferenceIdeal.τ).loc Cert.GateWeightReferenceIdeal.main_arg2) = m' ((c.tc : Thread Cert.GateWeightReferenceIdeal.nD Cert.GateWeightReferenceIdeal.τ).loc Cert.GateWeightReferenceIdeal.main_arg2))

def preserves_SbBranchWeight_SbBranchWeightIdeal : Prop :=
  True

def algebraic_SbBranchWeightIdeal_SbBranchWeightReferenceIdeal [hSbBranchWeightIdeal : Cert.SbBranchWeightIdeal.Facts] [hSbBranchWeightReferenceIdeal : Cert.SbBranchWeightReferenceIdeal.Facts] : Prop :=
  ∀ (m : (ℓ : Loc Cert.SbBranchWeightIdeal.nD Cert.SbBranchWeightIdeal.τ Cert.SbBranchWeightIdeal.sig) → Buf (Elt Ideal) ℓ) (g : Dev Cert.SbBranchWeightIdeal.nD → PrngReg)
    (m' : (ℓ : Loc Cert.SbBranchWeightReferenceIdeal.nD Cert.SbBranchWeightReferenceIdeal.τ Cert.SbBranchWeightReferenceIdeal.sig) → Buf (Elt Ideal) ℓ) (g' : Dev Cert.SbBranchWeightReferenceIdeal.nD → PrngReg), Pre_SbBranchWeightIdeal m →
    (∀ c : Dev Cert.SbBranchWeightIdeal.nD,
      m' ((c.tc : Thread Cert.SbBranchWeightReferenceIdeal.nD Cert.SbBranchWeightReferenceIdeal.τ).loc Cert.SbBranchWeightReferenceIdeal.main_arg0) = m ((c.tc : Thread Cert.SbBranchWeightIdeal.nD Cert.SbBranchWeightIdeal.τ).loc Cert.SbBranchWeightIdeal.main_arg0)
      ∧ m' ((c.tc : Thread Cert.SbBranchWeightReferenceIdeal.nD Cert.SbBranchWeightReferenceIdeal.τ).loc Cert.SbBranchWeightReferenceIdeal.main_arg1) = m ((c.tc : Thread Cert.SbBranchWeightIdeal.nD Cert.SbBranchWeightIdeal.τ).loc Cert.SbBranchWeightIdeal.main_arg1)
      ∧ m' ((c.tc : Thread Cert.SbBranchWeightReferenceIdeal.nD Cert.SbBranchWeightReferenceIdeal.τ).loc Cert.SbBranchWeightReferenceIdeal.main_arg2) = m ((c.tc : Thread Cert.SbBranchWeightIdeal.nD Cert.SbBranchWeightIdeal.τ).loc Cert.SbBranchWeightIdeal.main_arg2)) →
    ∃ (v0 : (c : Dev Cert.SbBranchWeightIdeal.nD) → Buf (Elt Ideal) ((c.tc : Thread Cert.SbBranchWeightIdeal.nD Cert.SbBranchWeightIdeal.τ).loc Cert.SbBranchWeightIdeal.main_v2)),
      θ_run (Cert.SbBranchWeightIdeal.defs (F := Ideal)) (onTc (τ := Cert.SbBranchWeightIdeal.τ) (Cert.SbBranchWeightIdeal.main (F := Ideal))) ⟨m, fun _ => 0, g⟩ (fun r => ∀ c : Dev Cert.SbBranchWeightIdeal.nD,
          r.2.mem ((c.tc : Thread Cert.SbBranchWeightIdeal.nD Cert.SbBranchWeightIdeal.τ).loc Cert.SbBranchWeightIdeal.main_v2) = v0 c
          ∧ r.2.mem ((c.tc : Thread Cert.SbBranchWeightIdeal.nD Cert.SbBranchWeightIdeal.τ).loc Cert.SbBranchWeightIdeal.main_arg0) = m ((c.tc : Thread Cert.SbBranchWeightIdeal.nD Cert.SbBranchWeightIdeal.τ).loc Cert.SbBranchWeightIdeal.main_arg0)
          ∧ r.2.mem ((c.tc : Thread Cert.SbBranchWeightIdeal.nD Cert.SbBranchWeightIdeal.τ).loc Cert.SbBranchWeightIdeal.main_arg1) = m ((c.tc : Thread Cert.SbBranchWeightIdeal.nD Cert.SbBranchWeightIdeal.τ).loc Cert.SbBranchWeightIdeal.main_arg1)
          ∧ r.2.mem ((c.tc : Thread Cert.SbBranchWeightIdeal.nD Cert.SbBranchWeightIdeal.τ).loc Cert.SbBranchWeightIdeal.main_arg2) = m ((c.tc : Thread Cert.SbBranchWeightIdeal.nD Cert.SbBranchWeightIdeal.τ).loc Cert.SbBranchWeightIdeal.main_arg2))
      ∧ θ_run (Cert.SbBranchWeightReferenceIdeal.defs (F := Ideal)) (onTc (τ := Cert.SbBranchWeightReferenceIdeal.τ) (Cert.SbBranchWeightReferenceIdeal.main (F := Ideal))) ⟨m', fun _ => 0, g'⟩ (fun r => ∀ c : Dev Cert.SbBranchWeightReferenceIdeal.nD,
          r.2.mem ((c.tc : Thread Cert.SbBranchWeightReferenceIdeal.nD Cert.SbBranchWeightReferenceIdeal.τ).loc Cert.SbBranchWeightReferenceIdeal.main_v2) = v0 c
          ∧ r.2.mem ((c.tc : Thread Cert.SbBranchWeightReferenceIdeal.nD Cert.SbBranchWeightReferenceIdeal.τ).loc Cert.SbBranchWeightReferenceIdeal.main_arg0) = m' ((c.tc : Thread Cert.SbBranchWeightReferenceIdeal.nD Cert.SbBranchWeightReferenceIdeal.τ).loc Cert.SbBranchWeightReferenceIdeal.main_arg0)
          ∧ r.2.mem ((c.tc : Thread Cert.SbBranchWeightReferenceIdeal.nD Cert.SbBranchWeightReferenceIdeal.τ).loc Cert.SbBranchWeightReferenceIdeal.main_arg1) = m' ((c.tc : Thread Cert.SbBranchWeightReferenceIdeal.nD Cert.SbBranchWeightReferenceIdeal.τ).loc Cert.SbBranchWeightReferenceIdeal.main_arg1)
          ∧ r.2.mem ((c.tc : Thread Cert.SbBranchWeightReferenceIdeal.nD Cert.SbBranchWeightReferenceIdeal.τ).loc Cert.SbBranchWeightReferenceIdeal.main_arg2) = m' ((c.tc : Thread Cert.SbBranchWeightReferenceIdeal.nD Cert.SbBranchWeightReferenceIdeal.τ).loc Cert.SbBranchWeightReferenceIdeal.main_arg2))

def preserves_SwaBranchWeight_SwaBranchWeightIdeal : Prop :=
  True

def algebraic_SwaBranchWeightIdeal_SwaBranchWeightReferenceIdeal [hSwaBranchWeightIdeal : Cert.SwaBranchWeightIdeal.Facts] [hSwaBranchWeightReferenceIdeal : Cert.SwaBranchWeightReferenceIdeal.Facts] : Prop :=
  ∀ (m : (ℓ : Loc Cert.SwaBranchWeightIdeal.nD Cert.SwaBranchWeightIdeal.τ Cert.SwaBranchWeightIdeal.sig) → Buf (Elt Ideal) ℓ) (g : Dev Cert.SwaBranchWeightIdeal.nD → PrngReg)
    (m' : (ℓ : Loc Cert.SwaBranchWeightReferenceIdeal.nD Cert.SwaBranchWeightReferenceIdeal.τ Cert.SwaBranchWeightReferenceIdeal.sig) → Buf (Elt Ideal) ℓ) (g' : Dev Cert.SwaBranchWeightReferenceIdeal.nD → PrngReg), Pre_SwaBranchWeightIdeal m →
    (∀ c : Dev Cert.SwaBranchWeightIdeal.nD,
      m' ((c.tc : Thread Cert.SwaBranchWeightReferenceIdeal.nD Cert.SwaBranchWeightReferenceIdeal.τ).loc Cert.SwaBranchWeightReferenceIdeal.main_arg0) = m ((c.tc : Thread Cert.SwaBranchWeightIdeal.nD Cert.SwaBranchWeightIdeal.τ).loc Cert.SwaBranchWeightIdeal.main_arg0)
      ∧ m' ((c.tc : Thread Cert.SwaBranchWeightReferenceIdeal.nD Cert.SwaBranchWeightReferenceIdeal.τ).loc Cert.SwaBranchWeightReferenceIdeal.main_arg1) = m ((c.tc : Thread Cert.SwaBranchWeightIdeal.nD Cert.SwaBranchWeightIdeal.τ).loc Cert.SwaBranchWeightIdeal.main_arg1)
      ∧ m' ((c.tc : Thread Cert.SwaBranchWeightReferenceIdeal.nD Cert.SwaBranchWeightReferenceIdeal.τ).loc Cert.SwaBranchWeightReferenceIdeal.main_arg2) = m ((c.tc : Thread Cert.SwaBranchWeightIdeal.nD Cert.SwaBranchWeightIdeal.τ).loc Cert.SwaBranchWeightIdeal.main_arg2)) →
    ∃ (v0 : (c : Dev Cert.SwaBranchWeightIdeal.nD) → Buf (Elt Ideal) ((c.tc : Thread Cert.SwaBranchWeightIdeal.nD Cert.SwaBranchWeightIdeal.τ).loc Cert.SwaBranchWeightIdeal.main_v2)),
      θ_run (Cert.SwaBranchWeightIdeal.defs (F := Ideal)) (onTc (τ := Cert.SwaBranchWeightIdeal.τ) (Cert.SwaBranchWeightIdeal.main (F := Ideal))) ⟨m, fun _ => 0, g⟩ (fun r => ∀ c : Dev Cert.SwaBranchWeightIdeal.nD,
          r.2.mem ((c.tc : Thread Cert.SwaBranchWeightIdeal.nD Cert.SwaBranchWeightIdeal.τ).loc Cert.SwaBranchWeightIdeal.main_v2) = v0 c
          ∧ r.2.mem ((c.tc : Thread Cert.SwaBranchWeightIdeal.nD Cert.SwaBranchWeightIdeal.τ).loc Cert.SwaBranchWeightIdeal.main_arg0) = m ((c.tc : Thread Cert.SwaBranchWeightIdeal.nD Cert.SwaBranchWeightIdeal.τ).loc Cert.SwaBranchWeightIdeal.main_arg0)
          ∧ r.2.mem ((c.tc : Thread Cert.SwaBranchWeightIdeal.nD Cert.SwaBranchWeightIdeal.τ).loc Cert.SwaBranchWeightIdeal.main_arg1) = m ((c.tc : Thread Cert.SwaBranchWeightIdeal.nD Cert.SwaBranchWeightIdeal.τ).loc Cert.SwaBranchWeightIdeal.main_arg1)
          ∧ r.2.mem ((c.tc : Thread Cert.SwaBranchWeightIdeal.nD Cert.SwaBranchWeightIdeal.τ).loc Cert.SwaBranchWeightIdeal.main_arg2) = m ((c.tc : Thread Cert.SwaBranchWeightIdeal.nD Cert.SwaBranchWeightIdeal.τ).loc Cert.SwaBranchWeightIdeal.main_arg2))
      ∧ θ_run (Cert.SwaBranchWeightReferenceIdeal.defs (F := Ideal)) (onTc (τ := Cert.SwaBranchWeightReferenceIdeal.τ) (Cert.SwaBranchWeightReferenceIdeal.main (F := Ideal))) ⟨m', fun _ => 0, g'⟩ (fun r => ∀ c : Dev Cert.SwaBranchWeightReferenceIdeal.nD,
          r.2.mem ((c.tc : Thread Cert.SwaBranchWeightReferenceIdeal.nD Cert.SwaBranchWeightReferenceIdeal.τ).loc Cert.SwaBranchWeightReferenceIdeal.main_v2) = v0 c
          ∧ r.2.mem ((c.tc : Thread Cert.SwaBranchWeightReferenceIdeal.nD Cert.SwaBranchWeightReferenceIdeal.τ).loc Cert.SwaBranchWeightReferenceIdeal.main_arg0) = m' ((c.tc : Thread Cert.SwaBranchWeightReferenceIdeal.nD Cert.SwaBranchWeightReferenceIdeal.τ).loc Cert.SwaBranchWeightReferenceIdeal.main_arg0)
          ∧ r.2.mem ((c.tc : Thread Cert.SwaBranchWeightReferenceIdeal.nD Cert.SwaBranchWeightReferenceIdeal.τ).loc Cert.SwaBranchWeightReferenceIdeal.main_arg1) = m' ((c.tc : Thread Cert.SwaBranchWeightReferenceIdeal.nD Cert.SwaBranchWeightReferenceIdeal.τ).loc Cert.SwaBranchWeightReferenceIdeal.main_arg1)
          ∧ r.2.mem ((c.tc : Thread Cert.SwaBranchWeightReferenceIdeal.nD Cert.SwaBranchWeightReferenceIdeal.τ).loc Cert.SwaBranchWeightReferenceIdeal.main_arg2) = m' ((c.tc : Thread Cert.SwaBranchWeightReferenceIdeal.nD Cert.SwaBranchWeightReferenceIdeal.τ).loc Cert.SwaBranchWeightReferenceIdeal.main_arg2))

def preserves_OutWeight_OutWeightIdeal : Prop :=
  True

def algebraic_OutWeightIdeal_OutWeightReferenceIdeal [hOutWeightIdeal : Cert.OutWeightIdeal.Facts] [hOutWeightReferenceIdeal : Cert.OutWeightReferenceIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightReferenceIdeal.nD Cert.OutWeightReferenceIdeal.τ Cert.OutWeightReferenceIdeal.sig) → Buf (Elt Ideal) ℓ) (g' : Dev Cert.OutWeightReferenceIdeal.nD → PrngReg), Pre_OutWeightIdeal m →
    (∀ c : Dev Cert.OutWeightIdeal.nD,
      m' ((c.tc : Thread Cert.OutWeightReferenceIdeal.nD Cert.OutWeightReferenceIdeal.τ).loc Cert.OutWeightReferenceIdeal.main_arg0) = m ((c.tc : Thread Cert.OutWeightIdeal.nD Cert.OutWeightIdeal.τ).loc Cert.OutWeightIdeal.main_arg0)
      ∧ m' ((c.tc : Thread Cert.OutWeightReferenceIdeal.nD Cert.OutWeightReferenceIdeal.τ).loc Cert.OutWeightReferenceIdeal.main_arg1) = m ((c.tc : Thread Cert.OutWeightIdeal.nD Cert.OutWeightIdeal.τ).loc Cert.OutWeightIdeal.main_arg1)
      ∧ m' ((c.tc : Thread Cert.OutWeightReferenceIdeal.nD Cert.OutWeightReferenceIdeal.τ).loc Cert.OutWeightReferenceIdeal.main_arg2) = m ((c.tc : Thread Cert.OutWeightIdeal.nD Cert.OutWeightIdeal.τ).loc Cert.OutWeightIdeal.main_arg2)) →
    ∃ (v0 : (c : Dev Cert.OutWeightIdeal.nD) → Buf (Elt Ideal) ((c.tc : Thread Cert.OutWeightIdeal.nD Cert.OutWeightIdeal.τ).loc Cert.OutWeightIdeal.main_v1)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v1) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
          ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2))
      ∧ θ_run (Cert.OutWeightReferenceIdeal.defs (F := Ideal)) (onTc (τ := Cert.OutWeightReferenceIdeal.τ) (Cert.OutWeightReferenceIdeal.main (F := Ideal))) ⟨m', fun _ => 0, g'⟩ (fun r => ∀ c : Dev Cert.OutWeightReferenceIdeal.nD,
          r.2.mem ((c.tc : Thread Cert.OutWeightReferenceIdeal.nD Cert.OutWeightReferenceIdeal.τ).loc Cert.OutWeightReferenceIdeal.main_v2) = v0 c
          ∧ r.2.mem ((c.tc : Thread Cert.OutWeightReferenceIdeal.nD Cert.OutWeightReferenceIdeal.τ).loc Cert.OutWeightReferenceIdeal.main_arg0) = m' ((c.tc : Thread Cert.OutWeightReferenceIdeal.nD Cert.OutWeightReferenceIdeal.τ).loc Cert.OutWeightReferenceIdeal.main_arg0)
          ∧ r.2.mem ((c.tc : Thread Cert.OutWeightReferenceIdeal.nD Cert.OutWeightReferenceIdeal.τ).loc Cert.OutWeightReferenceIdeal.main_arg1) = m' ((c.tc : Thread Cert.OutWeightReferenceIdeal.nD Cert.OutWeightReferenceIdeal.τ).loc Cert.OutWeightReferenceIdeal.main_arg1)
          ∧ r.2.mem ((c.tc : Thread Cert.OutWeightReferenceIdeal.nD Cert.OutWeightReferenceIdeal.τ).loc Cert.OutWeightReferenceIdeal.main_arg2) = m' ((c.tc : Thread Cert.OutWeightReferenceIdeal.nD Cert.OutWeightReferenceIdeal.τ).loc Cert.OutWeightReferenceIdeal.main_arg2))

def preserves_QkvProjection_QkvProjectionIdeal : Prop :=
  True

def algebraic_QkvProjectionIdeal_QkvProjectionReferenceIdeal [hQkvProjectionIdeal : Cert.QkvProjectionIdeal.Facts] [hQkvProjectionReferenceIdeal : Cert.QkvProjectionReferenceIdeal.Facts] : Prop :=
  ∀ (m : (ℓ : Loc Cert.QkvProjectionIdeal.nD Cert.QkvProjectionIdeal.τ Cert.QkvProjectionIdeal.sig) → Buf (Elt Ideal) ℓ) (g : Dev Cert.QkvProjectionIdeal.nD → PrngReg)
    (m' : (ℓ : Loc Cert.QkvProjectionReferenceIdeal.nD Cert.QkvProjectionReferenceIdeal.τ Cert.QkvProjectionReferenceIdeal.sig) → Buf (Elt Ideal) ℓ) (g' : Dev Cert.QkvProjectionReferenceIdeal.nD → PrngReg), Pre_QkvProjectionIdeal m →
    (∀ c : Dev Cert.QkvProjectionIdeal.nD,
      m' ((c.tc : Thread Cert.QkvProjectionReferenceIdeal.nD Cert.QkvProjectionReferenceIdeal.τ).loc Cert.QkvProjectionReferenceIdeal.main_arg0) = m ((c.tc : Thread Cert.QkvProjectionIdeal.nD Cert.QkvProjectionIdeal.τ).loc Cert.QkvProjectionIdeal.main_arg0)
      ∧ m' ((c.tc : Thread Cert.QkvProjectionReferenceIdeal.nD Cert.QkvProjectionReferenceIdeal.τ).loc Cert.QkvProjectionReferenceIdeal.main_arg1) = m ((c.tc : Thread Cert.QkvProjectionIdeal.nD Cert.QkvProjectionIdeal.τ).loc Cert.QkvProjectionIdeal.main_arg1)) →
    ∃ (v0 : (c : Dev Cert.QkvProjectionIdeal.nD) → Buf (Elt Ideal) ((c.tc : Thread Cert.QkvProjectionIdeal.nD Cert.QkvProjectionIdeal.τ).loc Cert.QkvProjectionIdeal.main_v2)),
      θ_run (Cert.QkvProjectionIdeal.defs (F := Ideal)) (onTc (τ := Cert.QkvProjectionIdeal.τ) (Cert.QkvProjectionIdeal.main (F := Ideal))) ⟨m, fun _ => 0, g⟩ (fun r => ∀ c : Dev Cert.QkvProjectionIdeal.nD,
          r.2.mem ((c.tc : Thread Cert.QkvProjectionIdeal.nD Cert.QkvProjectionIdeal.τ).loc Cert.QkvProjectionIdeal.main_v2) = v0 c
          ∧ r.2.mem ((c.tc : Thread Cert.QkvProjectionIdeal.nD Cert.QkvProjectionIdeal.τ).loc Cert.QkvProjectionIdeal.main_arg0) = m ((c.tc : Thread Cert.QkvProjectionIdeal.nD Cert.QkvProjectionIdeal.τ).loc Cert.QkvProjectionIdeal.main_arg0)
          ∧ r.2.mem ((c.tc : Thread Cert.QkvProjectionIdeal.nD Cert.QkvProjectionIdeal.τ).loc Cert.QkvProjectionIdeal.main_arg1) = m ((c.tc : Thread Cert.QkvProjectionIdeal.nD Cert.QkvProjectionIdeal.τ).loc Cert.QkvProjectionIdeal.main_arg1))
      ∧ θ_run (Cert.QkvProjectionReferenceIdeal.defs (F := Ideal)) (onTc (τ := Cert.QkvProjectionReferenceIdeal.τ) (Cert.QkvProjectionReferenceIdeal.main (F := Ideal))) ⟨m', fun _ => 0, g'⟩ (fun r => ∀ c : Dev Cert.QkvProjectionReferenceIdeal.nD,
          r.2.mem ((c.tc : Thread Cert.QkvProjectionReferenceIdeal.nD Cert.QkvProjectionReferenceIdeal.τ).loc Cert.QkvProjectionReferenceIdeal.main_v0) = v0 c
          ∧ r.2.mem ((c.tc : Thread Cert.QkvProjectionReferenceIdeal.nD Cert.QkvProjectionReferenceIdeal.τ).loc Cert.QkvProjectionReferenceIdeal.main_arg0) = m' ((c.tc : Thread Cert.QkvProjectionReferenceIdeal.nD Cert.QkvProjectionReferenceIdeal.τ).loc Cert.QkvProjectionReferenceIdeal.main_arg0)
          ∧ r.2.mem ((c.tc : Thread Cert.QkvProjectionReferenceIdeal.nD Cert.QkvProjectionReferenceIdeal.τ).loc Cert.QkvProjectionReferenceIdeal.main_arg1) = m' ((c.tc : Thread Cert.QkvProjectionReferenceIdeal.nD Cert.QkvProjectionReferenceIdeal.τ).loc Cert.QkvProjectionReferenceIdeal.main_arg1))

def preserves_GateProjection_GateProjectionIdeal : Prop :=
  True

def algebraic_GateProjectionIdeal_GateProjectionReferenceIdeal [hGateProjectionIdeal : Cert.GateProjectionIdeal.Facts] [hGateProjectionReferenceIdeal : Cert.GateProjectionReferenceIdeal.Facts] : Prop :=
  ∀ (m : (ℓ : Loc Cert.GateProjectionIdeal.nD Cert.GateProjectionIdeal.τ Cert.GateProjectionIdeal.sig) → Buf (Elt Ideal) ℓ) (g : Dev Cert.GateProjectionIdeal.nD → PrngReg)
    (m' : (ℓ : Loc Cert.GateProjectionReferenceIdeal.nD Cert.GateProjectionReferenceIdeal.τ Cert.GateProjectionReferenceIdeal.sig) → Buf (Elt Ideal) ℓ) (g' : Dev Cert.GateProjectionReferenceIdeal.nD → PrngReg), Pre_GateProjectionIdeal m →
    (∀ c : Dev Cert.GateProjectionIdeal.nD,
      m' ((c.tc : Thread Cert.GateProjectionReferenceIdeal.nD Cert.GateProjectionReferenceIdeal.τ).loc Cert.GateProjectionReferenceIdeal.main_arg0) = m ((c.tc : Thread Cert.GateProjectionIdeal.nD Cert.GateProjectionIdeal.τ).loc Cert.GateProjectionIdeal.main_arg0)
      ∧ m' ((c.tc : Thread Cert.GateProjectionReferenceIdeal.nD Cert.GateProjectionReferenceIdeal.τ).loc Cert.GateProjectionReferenceIdeal.main_arg1) = m ((c.tc : Thread Cert.GateProjectionIdeal.nD Cert.GateProjectionIdeal.τ).loc Cert.GateProjectionIdeal.main_arg1)) →
    ∃ (v0 : (c : Dev Cert.GateProjectionIdeal.nD) → Buf (Elt Ideal) ((c.tc : Thread Cert.GateProjectionIdeal.nD Cert.GateProjectionIdeal.τ).loc Cert.GateProjectionIdeal.main_v2)),
      θ_run (Cert.GateProjectionIdeal.defs (F := Ideal)) (onTc (τ := Cert.GateProjectionIdeal.τ) (Cert.GateProjectionIdeal.main (F := Ideal))) ⟨m, fun _ => 0, g⟩ (fun r => ∀ c : Dev Cert.GateProjectionIdeal.nD,
          r.2.mem ((c.tc : Thread Cert.GateProjectionIdeal.nD Cert.GateProjectionIdeal.τ).loc Cert.GateProjectionIdeal.main_v2) = v0 c
          ∧ r.2.mem ((c.tc : Thread Cert.GateProjectionIdeal.nD Cert.GateProjectionIdeal.τ).loc Cert.GateProjectionIdeal.main_arg0) = m ((c.tc : Thread Cert.GateProjectionIdeal.nD Cert.GateProjectionIdeal.τ).loc Cert.GateProjectionIdeal.main_arg0)
          ∧ r.2.mem ((c.tc : Thread Cert.GateProjectionIdeal.nD Cert.GateProjectionIdeal.τ).loc Cert.GateProjectionIdeal.main_arg1) = m ((c.tc : Thread Cert.GateProjectionIdeal.nD Cert.GateProjectionIdeal.τ).loc Cert.GateProjectionIdeal.main_arg1))
      ∧ θ_run (Cert.GateProjectionReferenceIdeal.defs (F := Ideal)) (onTc (τ := Cert.GateProjectionReferenceIdeal.τ) (Cert.GateProjectionReferenceIdeal.main (F := Ideal))) ⟨m', fun _ => 0, g'⟩ (fun r => ∀ c : Dev Cert.GateProjectionReferenceIdeal.nD,
          r.2.mem ((c.tc : Thread Cert.GateProjectionReferenceIdeal.nD Cert.GateProjectionReferenceIdeal.τ).loc Cert.GateProjectionReferenceIdeal.main_v0) = v0 c
          ∧ r.2.mem ((c.tc : Thread Cert.GateProjectionReferenceIdeal.nD Cert.GateProjectionReferenceIdeal.τ).loc Cert.GateProjectionReferenceIdeal.main_arg0) = m' ((c.tc : Thread Cert.GateProjectionReferenceIdeal.nD Cert.GateProjectionReferenceIdeal.τ).loc Cert.GateProjectionReferenceIdeal.main_arg0)
          ∧ r.2.mem ((c.tc : Thread Cert.GateProjectionReferenceIdeal.nD Cert.GateProjectionReferenceIdeal.τ).loc Cert.GateProjectionReferenceIdeal.main_arg1) = m' ((c.tc : Thread Cert.GateProjectionReferenceIdeal.nD Cert.GateProjectionReferenceIdeal.τ).loc Cert.GateProjectionReferenceIdeal.main_arg1))

def preserves_GatedMerge_GatedMergeIdeal : Prop :=
  True

def algebraic_GatedMergeIdeal_GatedMergeReferenceIdeal [hGatedMergeIdeal : Cert.GatedMergeIdeal.Facts] [hGatedMergeReferenceIdeal : Cert.GatedMergeReferenceIdeal.Facts] : Prop :=
  ∀ (m : (ℓ : Loc Cert.GatedMergeIdeal.nD Cert.GatedMergeIdeal.τ Cert.GatedMergeIdeal.sig) → Buf (Elt Ideal) ℓ) (g : Dev Cert.GatedMergeIdeal.nD → PrngReg)
    (m' : (ℓ : Loc Cert.GatedMergeReferenceIdeal.nD Cert.GatedMergeReferenceIdeal.τ Cert.GatedMergeReferenceIdeal.sig) → Buf (Elt Ideal) ℓ) (g' : Dev Cert.GatedMergeReferenceIdeal.nD → PrngReg), Pre_GatedMergeIdeal m →
    (∀ c : Dev Cert.GatedMergeIdeal.nD,
      m' ((c.tc : Thread Cert.GatedMergeReferenceIdeal.nD Cert.GatedMergeReferenceIdeal.τ).loc Cert.GatedMergeReferenceIdeal.main_arg0) = m ((c.tc : Thread Cert.GatedMergeIdeal.nD Cert.GatedMergeIdeal.τ).loc Cert.GatedMergeIdeal.main_arg0)
      ∧ m' ((c.tc : Thread Cert.GatedMergeReferenceIdeal.nD Cert.GatedMergeReferenceIdeal.τ).loc Cert.GatedMergeReferenceIdeal.main_arg1) = m ((c.tc : Thread Cert.GatedMergeIdeal.nD Cert.GatedMergeIdeal.τ).loc Cert.GatedMergeIdeal.main_arg1)
      ∧ m' ((c.tc : Thread Cert.GatedMergeReferenceIdeal.nD Cert.GatedMergeReferenceIdeal.τ).loc Cert.GatedMergeReferenceIdeal.main_arg2) = m ((c.tc : Thread Cert.GatedMergeIdeal.nD Cert.GatedMergeIdeal.τ).loc Cert.GatedMergeIdeal.main_arg2)
      ∧ m' ((c.tc : Thread Cert.GatedMergeReferenceIdeal.nD Cert.GatedMergeReferenceIdeal.τ).loc Cert.GatedMergeReferenceIdeal.main_arg3) = m ((c.tc : Thread Cert.GatedMergeIdeal.nD Cert.GatedMergeIdeal.τ).loc Cert.GatedMergeIdeal.main_arg3)
      ∧ m' ((c.tc : Thread Cert.GatedMergeReferenceIdeal.nD Cert.GatedMergeReferenceIdeal.τ).loc Cert.GatedMergeReferenceIdeal.main_arg4) = m ((c.tc : Thread Cert.GatedMergeIdeal.nD Cert.GatedMergeIdeal.τ).loc Cert.GatedMergeIdeal.main_arg4)
      ∧ m' ((c.tc : Thread Cert.GatedMergeReferenceIdeal.nD Cert.GatedMergeReferenceIdeal.τ).loc Cert.GatedMergeReferenceIdeal.main_arg5) = m ((c.tc : Thread Cert.GatedMergeIdeal.nD Cert.GatedMergeIdeal.τ).loc Cert.GatedMergeIdeal.main_arg5)
      ∧ m' ((c.tc : Thread Cert.GatedMergeReferenceIdeal.nD Cert.GatedMergeReferenceIdeal.τ).loc Cert.GatedMergeReferenceIdeal.main_arg6) = m ((c.tc : Thread Cert.GatedMergeIdeal.nD Cert.GatedMergeIdeal.τ).loc Cert.GatedMergeIdeal.main_arg6)
      ∧ m' ((c.tc : Thread Cert.GatedMergeReferenceIdeal.nD Cert.GatedMergeReferenceIdeal.τ).loc Cert.GatedMergeReferenceIdeal.main_arg7) = m ((c.tc : Thread Cert.GatedMergeIdeal.nD Cert.GatedMergeIdeal.τ).loc Cert.GatedMergeIdeal.main_arg7)
      ∧ m' ((c.tc : Thread Cert.GatedMergeReferenceIdeal.nD Cert.GatedMergeReferenceIdeal.τ).loc Cert.GatedMergeReferenceIdeal.main_arg8) = m ((c.tc : Thread Cert.GatedMergeIdeal.nD Cert.GatedMergeIdeal.τ).loc Cert.GatedMergeIdeal.main_arg8)
      ∧ m' ((c.tc : Thread Cert.GatedMergeReferenceIdeal.nD Cert.GatedMergeReferenceIdeal.τ).loc Cert.GatedMergeReferenceIdeal.main_arg9) = m ((c.tc : Thread Cert.GatedMergeIdeal.nD Cert.GatedMergeIdeal.τ).loc Cert.GatedMergeIdeal.main_arg9)) →
    ∃ (v0 : (c : Dev Cert.GatedMergeIdeal.nD) → Buf (Elt Ideal) ((c.tc : Thread Cert.GatedMergeIdeal.nD Cert.GatedMergeIdeal.τ).loc Cert.GatedMergeIdeal.main_v4_0)) (v1 : (c : Dev Cert.GatedMergeIdeal.nD) → Buf (Elt Ideal) ((c.tc : Thread Cert.GatedMergeIdeal.nD Cert.GatedMergeIdeal.τ).loc Cert.GatedMergeIdeal.main_v4_1)) (v2 : (c : Dev Cert.GatedMergeIdeal.nD) → Buf (Elt Ideal) ((c.tc : Thread Cert.GatedMergeIdeal.nD Cert.GatedMergeIdeal.τ).loc Cert.GatedMergeIdeal.main_v4_2)) (v3 : (c : Dev Cert.GatedMergeIdeal.nD) → Buf (Elt Ideal) ((c.tc : Thread Cert.GatedMergeIdeal.nD Cert.GatedMergeIdeal.τ).loc Cert.GatedMergeIdeal.main_v4_3)) (v4 : (c : Dev Cert.GatedMergeIdeal.nD) → Buf (Elt Ideal) ((c.tc : Thread Cert.GatedMergeIdeal.nD Cert.GatedMergeIdeal.τ).loc Cert.GatedMergeIdeal.main_v4_4)) (v5 : (c : Dev Cert.GatedMergeIdeal.nD) → Buf (Elt Ideal) ((c.tc : Thread Cert.GatedMergeIdeal.nD Cert.GatedMergeIdeal.τ).loc Cert.GatedMergeIdeal.main_v4_5)),
      θ_run (Cert.GatedMergeIdeal.defs (F := Ideal)) (onTc (τ := Cert.GatedMergeIdeal.τ) (Cert.GatedMergeIdeal.main (F := Ideal))) ⟨m, fun _ => 0, g⟩ (fun r => ∀ c : Dev Cert.GatedMergeIdeal.nD,
          r.2.mem ((c.tc : Thread Cert.GatedMergeIdeal.nD Cert.GatedMergeIdeal.τ).loc Cert.GatedMergeIdeal.main_v4_0) = v0 c
          ∧ r.2.mem ((c.tc : Thread Cert.GatedMergeIdeal.nD Cert.GatedMergeIdeal.τ).loc Cert.GatedMergeIdeal.main_v4_1) = v1 c
          ∧ r.2.mem ((c.tc : Thread Cert.GatedMergeIdeal.nD Cert.GatedMergeIdeal.τ).loc Cert.GatedMergeIdeal.main_v4_2) = v2 c
          ∧ r.2.mem ((c.tc : Thread Cert.GatedMergeIdeal.nD Cert.GatedMergeIdeal.τ).loc Cert.GatedMergeIdeal.main_v4_3) = v3 c
          ∧ r.2.mem ((c.tc : Thread Cert.GatedMergeIdeal.nD Cert.GatedMergeIdeal.τ).loc Cert.GatedMergeIdeal.main_v4_4) = v4 c
          ∧ r.2.mem ((c.tc : Thread Cert.GatedMergeIdeal.nD Cert.GatedMergeIdeal.τ).loc Cert.GatedMergeIdeal.main_v4_5) = v5 c
          ∧ r.2.mem ((c.tc : Thread Cert.GatedMergeIdeal.nD Cert.GatedMergeIdeal.τ).loc Cert.GatedMergeIdeal.main_arg0) = m ((c.tc : Thread Cert.GatedMergeIdeal.nD Cert.GatedMergeIdeal.τ).loc Cert.GatedMergeIdeal.main_arg0)
          ∧ r.2.mem ((c.tc : Thread Cert.GatedMergeIdeal.nD Cert.GatedMergeIdeal.τ).loc Cert.GatedMergeIdeal.main_arg1) = m ((c.tc : Thread Cert.GatedMergeIdeal.nD Cert.GatedMergeIdeal.τ).loc Cert.GatedMergeIdeal.main_arg1)
          ∧ r.2.mem ((c.tc : Thread Cert.GatedMergeIdeal.nD Cert.GatedMergeIdeal.τ).loc Cert.GatedMergeIdeal.main_arg2) = m ((c.tc : Thread Cert.GatedMergeIdeal.nD Cert.GatedMergeIdeal.τ).loc Cert.GatedMergeIdeal.main_arg2)
          ∧ r.2.mem ((c.tc : Thread Cert.GatedMergeIdeal.nD Cert.GatedMergeIdeal.τ).loc Cert.GatedMergeIdeal.main_arg3) = m ((c.tc : Thread Cert.GatedMergeIdeal.nD Cert.GatedMergeIdeal.τ).loc Cert.GatedMergeIdeal.main_arg3)
          ∧ r.2.mem ((c.tc : Thread Cert.GatedMergeIdeal.nD Cert.GatedMergeIdeal.τ).loc Cert.GatedMergeIdeal.main_arg4) = m ((c.tc : Thread Cert.GatedMergeIdeal.nD Cert.GatedMergeIdeal.τ).loc Cert.GatedMergeIdeal.main_arg4)
          ∧ r.2.mem ((c.tc : Thread Cert.GatedMergeIdeal.nD Cert.GatedMergeIdeal.τ).loc Cert.GatedMergeIdeal.main_arg5) = m ((c.tc : Thread Cert.GatedMergeIdeal.nD Cert.GatedMergeIdeal.τ).loc Cert.GatedMergeIdeal.main_arg5)
          ∧ r.2.mem ((c.tc : Thread Cert.GatedMergeIdeal.nD Cert.GatedMergeIdeal.τ).loc Cert.GatedMergeIdeal.main_arg6) = m ((c.tc : Thread Cert.GatedMergeIdeal.nD Cert.GatedMergeIdeal.τ).loc Cert.GatedMergeIdeal.main_arg6)
          ∧ r.2.mem ((c.tc : Thread Cert.GatedMergeIdeal.nD Cert.GatedMergeIdeal.τ).loc Cert.GatedMergeIdeal.main_arg7) = m ((c.tc : Thread Cert.GatedMergeIdeal.nD Cert.GatedMergeIdeal.τ).loc Cert.GatedMergeIdeal.main_arg7)
          ∧ r.2.mem ((c.tc : Thread Cert.GatedMergeIdeal.nD Cert.GatedMergeIdeal.τ).loc Cert.GatedMergeIdeal.main_arg8) = m ((c.tc : Thread Cert.GatedMergeIdeal.nD Cert.GatedMergeIdeal.τ).loc Cert.GatedMergeIdeal.main_arg8)
          ∧ r.2.mem ((c.tc : Thread Cert.GatedMergeIdeal.nD Cert.GatedMergeIdeal.τ).loc Cert.GatedMergeIdeal.main_arg9) = m ((c.tc : Thread Cert.GatedMergeIdeal.nD Cert.GatedMergeIdeal.τ).loc Cert.GatedMergeIdeal.main_arg9))
      ∧ θ_run (Cert.GatedMergeReferenceIdeal.defs (F := Ideal)) (onTc (τ := Cert.GatedMergeReferenceIdeal.τ) (Cert.GatedMergeReferenceIdeal.main (F := Ideal))) ⟨m', fun _ => 0, g'⟩ (fun r => ∀ c : Dev Cert.GatedMergeReferenceIdeal.nD,
          r.2.mem ((c.tc : Thread Cert.GatedMergeReferenceIdeal.nD Cert.GatedMergeReferenceIdeal.τ).loc Cert.GatedMergeReferenceIdeal.main_v22) = v0 c
          ∧ r.2.mem ((c.tc : Thread Cert.GatedMergeReferenceIdeal.nD Cert.GatedMergeReferenceIdeal.τ).loc Cert.GatedMergeReferenceIdeal.main_v23) = v1 c
          ∧ r.2.mem ((c.tc : Thread Cert.GatedMergeReferenceIdeal.nD Cert.GatedMergeReferenceIdeal.τ).loc Cert.GatedMergeReferenceIdeal.main_v24) = v2 c
          ∧ r.2.mem ((c.tc : Thread Cert.GatedMergeReferenceIdeal.nD Cert.GatedMergeReferenceIdeal.τ).loc Cert.GatedMergeReferenceIdeal.main_v25) = v3 c
          ∧ r.2.mem ((c.tc : Thread Cert.GatedMergeReferenceIdeal.nD Cert.GatedMergeReferenceIdeal.τ).loc Cert.GatedMergeReferenceIdeal.main_v4) = v4 c
          ∧ r.2.mem ((c.tc : Thread Cert.GatedMergeReferenceIdeal.nD Cert.GatedMergeReferenceIdeal.τ).loc Cert.GatedMergeReferenceIdeal.main_v5) = v5 c
          ∧ r.2.mem ((c.tc : Thread Cert.GatedMergeReferenceIdeal.nD Cert.GatedMergeReferenceIdeal.τ).loc Cert.GatedMergeReferenceIdeal.main_arg0) = m' ((c.tc : Thread Cert.GatedMergeReferenceIdeal.nD Cert.GatedMergeReferenceIdeal.τ).loc Cert.GatedMergeReferenceIdeal.main_arg0)
          ∧ r.2.mem ((c.tc : Thread Cert.GatedMergeReferenceIdeal.nD Cert.GatedMergeReferenceIdeal.τ).loc Cert.GatedMergeReferenceIdeal.main_arg1) = m' ((c.tc : Thread Cert.GatedMergeReferenceIdeal.nD Cert.GatedMergeReferenceIdeal.τ).loc Cert.GatedMergeReferenceIdeal.main_arg1)
          ∧ r.2.mem ((c.tc : Thread Cert.GatedMergeReferenceIdeal.nD Cert.GatedMergeReferenceIdeal.τ).loc Cert.GatedMergeReferenceIdeal.main_arg2) = m' ((c.tc : Thread Cert.GatedMergeReferenceIdeal.nD Cert.GatedMergeReferenceIdeal.τ).loc Cert.GatedMergeReferenceIdeal.main_arg2)
          ∧ r.2.mem ((c.tc : Thread Cert.GatedMergeReferenceIdeal.nD Cert.GatedMergeReferenceIdeal.τ).loc Cert.GatedMergeReferenceIdeal.main_arg3) = m' ((c.tc : Thread Cert.GatedMergeReferenceIdeal.nD Cert.GatedMergeReferenceIdeal.τ).loc Cert.GatedMergeReferenceIdeal.main_arg3)
          ∧ r.2.mem ((c.tc : Thread Cert.GatedMergeReferenceIdeal.nD Cert.GatedMergeReferenceIdeal.τ).loc Cert.GatedMergeReferenceIdeal.main_arg4) = m' ((c.tc : Thread Cert.GatedMergeReferenceIdeal.nD Cert.GatedMergeReferenceIdeal.τ).loc Cert.GatedMergeReferenceIdeal.main_arg4)
          ∧ r.2.mem ((c.tc : Thread Cert.GatedMergeReferenceIdeal.nD Cert.GatedMergeReferenceIdeal.τ).loc Cert.GatedMergeReferenceIdeal.main_arg5) = m' ((c.tc : Thread Cert.GatedMergeReferenceIdeal.nD Cert.GatedMergeReferenceIdeal.τ).loc Cert.GatedMergeReferenceIdeal.main_arg5)
          ∧ r.2.mem ((c.tc : Thread Cert.GatedMergeReferenceIdeal.nD Cert.GatedMergeReferenceIdeal.τ).loc Cert.GatedMergeReferenceIdeal.main_arg6) = m' ((c.tc : Thread Cert.GatedMergeReferenceIdeal.nD Cert.GatedMergeReferenceIdeal.τ).loc Cert.GatedMergeReferenceIdeal.main_arg6)
          ∧ r.2.mem ((c.tc : Thread Cert.GatedMergeReferenceIdeal.nD Cert.GatedMergeReferenceIdeal.τ).loc Cert.GatedMergeReferenceIdeal.main_arg7) = m' ((c.tc : Thread Cert.GatedMergeReferenceIdeal.nD Cert.GatedMergeReferenceIdeal.τ).loc Cert.GatedMergeReferenceIdeal.main_arg7)
          ∧ r.2.mem ((c.tc : Thread Cert.GatedMergeReferenceIdeal.nD Cert.GatedMergeReferenceIdeal.τ).loc Cert.GatedMergeReferenceIdeal.main_arg8) = m' ((c.tc : Thread Cert.GatedMergeReferenceIdeal.nD Cert.GatedMergeReferenceIdeal.τ).loc Cert.GatedMergeReferenceIdeal.main_arg8)
          ∧ r.2.mem ((c.tc : Thread Cert.GatedMergeReferenceIdeal.nD Cert.GatedMergeReferenceIdeal.τ).loc Cert.GatedMergeReferenceIdeal.main_arg9) = m' ((c.tc : Thread Cert.GatedMergeReferenceIdeal.nD Cert.GatedMergeReferenceIdeal.τ).loc Cert.GatedMergeReferenceIdeal.main_arg9))

def preserves_MergeGradient_MergeGradientIdeal : Prop :=
  True

def algebraic_MergeGradientIdeal_MergeGradientReferenceIdeal [hMergeGradientIdeal : Cert.MergeGradientIdeal.Facts] [hMergeGradientReferenceIdeal : Cert.MergeGradientReferenceIdeal.Facts] [hPre_finite : Cert.Pre_finite.Facts] : Prop :=
  ∀ (m : (ℓ : Loc Cert.MergeGradientIdeal.nD Cert.MergeGradientIdeal.τ Cert.MergeGradientIdeal.sig) → Buf (Elt Ideal) ℓ) (g : Dev Cert.MergeGradientIdeal.nD → PrngReg)
    (m' : (ℓ : Loc Cert.MergeGradientReferenceIdeal.nD Cert.MergeGradientReferenceIdeal.τ Cert.MergeGradientReferenceIdeal.sig) → Buf (Elt Ideal) ℓ) (g' : Dev Cert.MergeGradientReferenceIdeal.nD → PrngReg), Pre_MergeGradientIdeal m →
    (∀ c : Dev Cert.MergeGradientIdeal.nD,
      m' ((c.tc : Thread Cert.MergeGradientReferenceIdeal.nD Cert.MergeGradientReferenceIdeal.τ).loc Cert.MergeGradientReferenceIdeal.main_arg0) = m ((c.tc : Thread Cert.MergeGradientIdeal.nD Cert.MergeGradientIdeal.τ).loc Cert.MergeGradientIdeal.main_arg0)
      ∧ m' ((c.tc : Thread Cert.MergeGradientReferenceIdeal.nD Cert.MergeGradientReferenceIdeal.τ).loc Cert.MergeGradientReferenceIdeal.main_arg1) = m ((c.tc : Thread Cert.MergeGradientIdeal.nD Cert.MergeGradientIdeal.τ).loc Cert.MergeGradientIdeal.main_arg1)
      ∧ m' ((c.tc : Thread Cert.MergeGradientReferenceIdeal.nD Cert.MergeGradientReferenceIdeal.τ).loc Cert.MergeGradientReferenceIdeal.main_arg2) = m ((c.tc : Thread Cert.MergeGradientIdeal.nD Cert.MergeGradientIdeal.τ).loc Cert.MergeGradientIdeal.main_arg2)
      ∧ m' ((c.tc : Thread Cert.MergeGradientReferenceIdeal.nD Cert.MergeGradientReferenceIdeal.τ).loc Cert.MergeGradientReferenceIdeal.main_arg3) = m ((c.tc : Thread Cert.MergeGradientIdeal.nD Cert.MergeGradientIdeal.τ).loc Cert.MergeGradientIdeal.main_arg3)
      ∧ m' ((c.tc : Thread Cert.MergeGradientReferenceIdeal.nD Cert.MergeGradientReferenceIdeal.τ).loc Cert.MergeGradientReferenceIdeal.main_arg4) = m ((c.tc : Thread Cert.MergeGradientIdeal.nD Cert.MergeGradientIdeal.τ).loc Cert.MergeGradientIdeal.main_arg4)
      ∧ m' ((c.tc : Thread Cert.MergeGradientReferenceIdeal.nD Cert.MergeGradientReferenceIdeal.τ).loc Cert.MergeGradientReferenceIdeal.main_arg5) = m ((c.tc : Thread Cert.MergeGradientIdeal.nD Cert.MergeGradientIdeal.τ).loc Cert.MergeGradientIdeal.main_arg5)
      ∧ m' ((c.tc : Thread Cert.MergeGradientReferenceIdeal.nD Cert.MergeGradientReferenceIdeal.τ).loc Cert.MergeGradientReferenceIdeal.main_arg6) = m ((c.tc : Thread Cert.MergeGradientIdeal.nD Cert.MergeGradientIdeal.τ).loc Cert.MergeGradientIdeal.main_arg6)
      ∧ m' ((c.tc : Thread Cert.MergeGradientReferenceIdeal.nD Cert.MergeGradientReferenceIdeal.τ).loc Cert.MergeGradientReferenceIdeal.main_arg7) = m ((c.tc : Thread Cert.MergeGradientIdeal.nD Cert.MergeGradientIdeal.τ).loc Cert.MergeGradientIdeal.main_arg7)
      ∧ m' ((c.tc : Thread Cert.MergeGradientReferenceIdeal.nD Cert.MergeGradientReferenceIdeal.τ).loc Cert.MergeGradientReferenceIdeal.main_arg8) = m ((c.tc : Thread Cert.MergeGradientIdeal.nD Cert.MergeGradientIdeal.τ).loc Cert.MergeGradientIdeal.main_arg8)
      ∧ m' ((c.tc : Thread Cert.MergeGradientReferenceIdeal.nD Cert.MergeGradientReferenceIdeal.τ).loc Cert.MergeGradientReferenceIdeal.main_arg9) = m ((c.tc : Thread Cert.MergeGradientIdeal.nD Cert.MergeGradientIdeal.τ).loc Cert.MergeGradientIdeal.main_arg9)) →
    ∃ (v0 : (c : Dev Cert.MergeGradientIdeal.nD) → Buf (Elt Ideal) ((c.tc : Thread Cert.MergeGradientIdeal.nD Cert.MergeGradientIdeal.τ).loc Cert.MergeGradientIdeal.main_v13_0)) (v1 : (c : Dev Cert.MergeGradientIdeal.nD) → Buf (Elt Ideal) ((c.tc : Thread Cert.MergeGradientIdeal.nD Cert.MergeGradientIdeal.τ).loc Cert.MergeGradientIdeal.main_v13_1)) (v2 : (c : Dev Cert.MergeGradientIdeal.nD) → Buf (Elt Ideal) ((c.tc : Thread Cert.MergeGradientIdeal.nD Cert.MergeGradientIdeal.τ).loc Cert.MergeGradientIdeal.main_v13_2)) (v3 : (c : Dev Cert.MergeGradientIdeal.nD) → Buf (Elt Ideal) ((c.tc : Thread Cert.MergeGradientIdeal.nD Cert.MergeGradientIdeal.τ).loc Cert.MergeGradientIdeal.main_v13_3)) (v4 : (c : Dev Cert.MergeGradientIdeal.nD) → Buf (Elt Ideal) ((c.tc : Thread Cert.MergeGradientIdeal.nD Cert.MergeGradientIdeal.τ).loc Cert.MergeGradientIdeal.main_v13_4)),
      θ_run (Cert.MergeGradientIdeal.defs (F := Ideal)) (onTc (τ := Cert.MergeGradientIdeal.τ) (Cert.MergeGradientIdeal.main (F := Ideal))) ⟨m, fun _ => 0, g⟩ (fun r => ∀ c : Dev Cert.MergeGradientIdeal.nD,
          r.2.mem ((c.tc : Thread Cert.MergeGradientIdeal.nD Cert.MergeGradientIdeal.τ).loc Cert.MergeGradientIdeal.main_v13_0) = v0 c
          ∧ r.2.mem ((c.tc : Thread Cert.MergeGradientIdeal.nD Cert.MergeGradientIdeal.τ).loc Cert.MergeGradientIdeal.main_v13_1) = v1 c
          ∧ r.2.mem ((c.tc : Thread Cert.MergeGradientIdeal.nD Cert.MergeGradientIdeal.τ).loc Cert.MergeGradientIdeal.main_v13_2) = v2 c
          ∧ r.2.mem ((c.tc : Thread Cert.MergeGradientIdeal.nD Cert.MergeGradientIdeal.τ).loc Cert.MergeGradientIdeal.main_v13_3) = v3 c
          ∧ r.2.mem ((c.tc : Thread Cert.MergeGradientIdeal.nD Cert.MergeGradientIdeal.τ).loc Cert.MergeGradientIdeal.main_v13_4) = v4 c
          ∧ r.2.mem ((c.tc : Thread Cert.MergeGradientIdeal.nD Cert.MergeGradientIdeal.τ).loc Cert.MergeGradientIdeal.main_arg0) = m ((c.tc : Thread Cert.MergeGradientIdeal.nD Cert.MergeGradientIdeal.τ).loc Cert.MergeGradientIdeal.main_arg0)
          ∧ r.2.mem ((c.tc : Thread Cert.MergeGradientIdeal.nD Cert.MergeGradientIdeal.τ).loc Cert.MergeGradientIdeal.main_arg1) = m ((c.tc : Thread Cert.MergeGradientIdeal.nD Cert.MergeGradientIdeal.τ).loc Cert.MergeGradientIdeal.main_arg1)
          ∧ r.2.mem ((c.tc : Thread Cert.MergeGradientIdeal.nD Cert.MergeGradientIdeal.τ).loc Cert.MergeGradientIdeal.main_arg2) = m ((c.tc : Thread Cert.MergeGradientIdeal.nD Cert.MergeGradientIdeal.τ).loc Cert.MergeGradientIdeal.main_arg2)
          ∧ r.2.mem ((c.tc : Thread Cert.MergeGradientIdeal.nD Cert.MergeGradientIdeal.τ).loc Cert.MergeGradientIdeal.main_arg3) = m ((c.tc : Thread Cert.MergeGradientIdeal.nD Cert.MergeGradientIdeal.τ).loc Cert.MergeGradientIdeal.main_arg3)
          ∧ r.2.mem ((c.tc : Thread Cert.MergeGradientIdeal.nD Cert.MergeGradientIdeal.τ).loc Cert.MergeGradientIdeal.main_arg4) = m ((c.tc : Thread Cert.MergeGradientIdeal.nD Cert.MergeGradientIdeal.τ).loc Cert.MergeGradientIdeal.main_arg4)
          ∧ r.2.mem ((c.tc : Thread Cert.MergeGradientIdeal.nD Cert.MergeGradientIdeal.τ).loc Cert.MergeGradientIdeal.main_arg5) = m ((c.tc : Thread Cert.MergeGradientIdeal.nD Cert.MergeGradientIdeal.τ).loc Cert.MergeGradientIdeal.main_arg5)
          ∧ r.2.mem ((c.tc : Thread Cert.MergeGradientIdeal.nD Cert.MergeGradientIdeal.τ).loc Cert.MergeGradientIdeal.main_arg6) = m ((c.tc : Thread Cert.MergeGradientIdeal.nD Cert.MergeGradientIdeal.τ).loc Cert.MergeGradientIdeal.main_arg6)
          ∧ r.2.mem ((c.tc : Thread Cert.MergeGradientIdeal.nD Cert.MergeGradientIdeal.τ).loc Cert.MergeGradientIdeal.main_arg7) = m ((c.tc : Thread Cert.MergeGradientIdeal.nD Cert.MergeGradientIdeal.τ).loc Cert.MergeGradientIdeal.main_arg7)
          ∧ r.2.mem ((c.tc : Thread Cert.MergeGradientIdeal.nD Cert.MergeGradientIdeal.τ).loc Cert.MergeGradientIdeal.main_arg8) = m ((c.tc : Thread Cert.MergeGradientIdeal.nD Cert.MergeGradientIdeal.τ).loc Cert.MergeGradientIdeal.main_arg8)
          ∧ r.2.mem ((c.tc : Thread Cert.MergeGradientIdeal.nD Cert.MergeGradientIdeal.τ).loc Cert.MergeGradientIdeal.main_arg9) = m ((c.tc : Thread Cert.MergeGradientIdeal.nD Cert.MergeGradientIdeal.τ).loc Cert.MergeGradientIdeal.main_arg9))
      ∧ θ_run (Cert.MergeGradientReferenceIdeal.defs (F := Ideal)) (onTc (τ := Cert.MergeGradientReferenceIdeal.τ) (Cert.MergeGradientReferenceIdeal.main (F := Ideal))) ⟨m', fun _ => 0, g'⟩ (fun r => ∀ c : Dev Cert.MergeGradientReferenceIdeal.nD,
          r.2.mem ((c.tc : Thread Cert.MergeGradientReferenceIdeal.nD Cert.MergeGradientReferenceIdeal.τ).loc Cert.MergeGradientReferenceIdeal.main_v44) = v0 c
          ∧ r.2.mem ((c.tc : Thread Cert.MergeGradientReferenceIdeal.nD Cert.MergeGradientReferenceIdeal.τ).loc Cert.MergeGradientReferenceIdeal.main_v45) = v1 c
          ∧ r.2.mem ((c.tc : Thread Cert.MergeGradientReferenceIdeal.nD Cert.MergeGradientReferenceIdeal.τ).loc Cert.MergeGradientReferenceIdeal.main_v41) = v2 c
          ∧ r.2.mem ((c.tc : Thread Cert.MergeGradientReferenceIdeal.nD Cert.MergeGradientReferenceIdeal.τ).loc Cert.MergeGradientReferenceIdeal.main_v37) = v3 c
          ∧ r.2.mem ((c.tc : Thread Cert.MergeGradientReferenceIdeal.nD Cert.MergeGradientReferenceIdeal.τ).loc Cert.MergeGradientReferenceIdeal.main_v46) = v4 c
          ∧ r.2.mem ((c.tc : Thread Cert.MergeGradientReferenceIdeal.nD Cert.MergeGradientReferenceIdeal.τ).loc Cert.MergeGradientReferenceIdeal.main_arg0) = m' ((c.tc : Thread Cert.MergeGradientReferenceIdeal.nD Cert.MergeGradientReferenceIdeal.τ).loc Cert.MergeGradientReferenceIdeal.main_arg0)
          ∧ r.2.mem ((c.tc : Thread Cert.MergeGradientReferenceIdeal.nD Cert.MergeGradientReferenceIdeal.τ).loc Cert.MergeGradientReferenceIdeal.main_arg1) = m' ((c.tc : Thread Cert.MergeGradientReferenceIdeal.nD Cert.MergeGradientReferenceIdeal.τ).loc Cert.MergeGradientReferenceIdeal.main_arg1)
          ∧ r.2.mem ((c.tc : Thread Cert.MergeGradientReferenceIdeal.nD Cert.MergeGradientReferenceIdeal.τ).loc Cert.MergeGradientReferenceIdeal.main_arg2) = m' ((c.tc : Thread Cert.MergeGradientReferenceIdeal.nD Cert.MergeGradientReferenceIdeal.τ).loc Cert.MergeGradientReferenceIdeal.main_arg2)
          ∧ r.2.mem ((c.tc : Thread Cert.MergeGradientReferenceIdeal.nD Cert.MergeGradientReferenceIdeal.τ).loc Cert.MergeGradientReferenceIdeal.main_arg3) = m' ((c.tc : Thread Cert.MergeGradientReferenceIdeal.nD Cert.MergeGradientReferenceIdeal.τ).loc Cert.MergeGradientReferenceIdeal.main_arg3)
          ∧ r.2.mem ((c.tc : Thread Cert.MergeGradientReferenceIdeal.nD Cert.MergeGradientReferenceIdeal.τ).loc Cert.MergeGradientReferenceIdeal.main_arg4) = m' ((c.tc : Thread Cert.MergeGradientReferenceIdeal.nD Cert.MergeGradientReferenceIdeal.τ).loc Cert.MergeGradientReferenceIdeal.main_arg4)
          ∧ r.2.mem ((c.tc : Thread Cert.MergeGradientReferenceIdeal.nD Cert.MergeGradientReferenceIdeal.τ).loc Cert.MergeGradientReferenceIdeal.main_arg5) = m' ((c.tc : Thread Cert.MergeGradientReferenceIdeal.nD Cert.MergeGradientReferenceIdeal.τ).loc Cert.MergeGradientReferenceIdeal.main_arg5)
          ∧ r.2.mem ((c.tc : Thread Cert.MergeGradientReferenceIdeal.nD Cert.MergeGradientReferenceIdeal.τ).loc Cert.MergeGradientReferenceIdeal.main_arg6) = m' ((c.tc : Thread Cert.MergeGradientReferenceIdeal.nD Cert.MergeGradientReferenceIdeal.τ).loc Cert.MergeGradientReferenceIdeal.main_arg6)
          ∧ r.2.mem ((c.tc : Thread Cert.MergeGradientReferenceIdeal.nD Cert.MergeGradientReferenceIdeal.τ).loc Cert.MergeGradientReferenceIdeal.main_arg7) = m' ((c.tc : Thread Cert.MergeGradientReferenceIdeal.nD Cert.MergeGradientReferenceIdeal.τ).loc Cert.MergeGradientReferenceIdeal.main_arg7)
          ∧ r.2.mem ((c.tc : Thread Cert.MergeGradientReferenceIdeal.nD Cert.MergeGradientReferenceIdeal.τ).loc Cert.MergeGradientReferenceIdeal.main_arg8) = m' ((c.tc : Thread Cert.MergeGradientReferenceIdeal.nD Cert.MergeGradientReferenceIdeal.τ).loc Cert.MergeGradientReferenceIdeal.main_arg8)
          ∧ r.2.mem ((c.tc : Thread Cert.MergeGradientReferenceIdeal.nD Cert.MergeGradientReferenceIdeal.τ).loc Cert.MergeGradientReferenceIdeal.main_arg9) = m' ((c.tc : Thread Cert.MergeGradientReferenceIdeal.nD Cert.MergeGradientReferenceIdeal.τ).loc Cert.MergeGradientReferenceIdeal.main_arg9))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamSbBranch_AdamSbBranchIdeal : Prop :=
  True

def algebraic_AdamSbBranchIdeal_AdamSbBranchReferenceIdeal [hAdamSbBranchIdeal : Cert.AdamSbBranchIdeal.Facts] [hAdamSbBranchReferenceIdeal : Cert.AdamSbBranchReferenceIdeal.Facts] : Prop :=
  ∀ (m : (ℓ : Loc Cert.AdamSbBranchIdeal.nD Cert.AdamSbBranchIdeal.τ Cert.AdamSbBranchIdeal.sig) → Buf (Elt Ideal) ℓ) (g : Dev Cert.AdamSbBranchIdeal.nD → PrngReg)
    (m' : (ℓ : Loc Cert.AdamSbBranchReferenceIdeal.nD Cert.AdamSbBranchReferenceIdeal.τ Cert.AdamSbBranchReferenceIdeal.sig) → Buf (Elt Ideal) ℓ) (g' : Dev Cert.AdamSbBranchReferenceIdeal.nD → PrngReg), Pre_AdamSbBranchIdeal m →
    (∀ c : Dev Cert.AdamSbBranchIdeal.nD,
      m' ((c.tc : Thread Cert.AdamSbBranchReferenceIdeal.nD Cert.AdamSbBranchReferenceIdeal.τ).loc Cert.AdamSbBranchReferenceIdeal.main_arg0) = m ((c.tc : Thread Cert.AdamSbBranchIdeal.nD Cert.AdamSbBranchIdeal.τ).loc Cert.AdamSbBranchIdeal.main_arg0)
      ∧ m' ((c.tc : Thread Cert.AdamSbBranchReferenceIdeal.nD Cert.AdamSbBranchReferenceIdeal.τ).loc Cert.AdamSbBranchReferenceIdeal.main_arg1) = m ((c.tc : Thread Cert.AdamSbBranchIdeal.nD Cert.AdamSbBranchIdeal.τ).loc Cert.AdamSbBranchIdeal.main_arg1)
      ∧ m' ((c.tc : Thread Cert.AdamSbBranchReferenceIdeal.nD Cert.AdamSbBranchReferenceIdeal.τ).loc Cert.AdamSbBranchReferenceIdeal.main_arg2) = m ((c.tc : Thread Cert.AdamSbBranchIdeal.nD Cert.AdamSbBranchIdeal.τ).loc Cert.AdamSbBranchIdeal.main_arg2)
      ∧ m' ((c.tc : Thread Cert.AdamSbBranchReferenceIdeal.nD Cert.AdamSbBranchReferenceIdeal.τ).loc Cert.AdamSbBranchReferenceIdeal.main_arg3) = m ((c.tc : Thread Cert.AdamSbBranchIdeal.nD Cert.AdamSbBranchIdeal.τ).loc Cert.AdamSbBranchIdeal.main_arg3)) →
    ∃ (v0 : (c : Dev Cert.AdamSbBranchIdeal.nD) → Buf (Elt Ideal) ((c.tc : Thread Cert.AdamSbBranchIdeal.nD Cert.AdamSbBranchIdeal.τ).loc Cert.AdamSbBranchIdeal.main_v0_0)) (v1 : (c : Dev Cert.AdamSbBranchIdeal.nD) → Buf (Elt Ideal) ((c.tc : Thread Cert.AdamSbBranchIdeal.nD Cert.AdamSbBranchIdeal.τ).loc Cert.AdamSbBranchIdeal.main_v0_1)) (v2 : (c : Dev Cert.AdamSbBranchIdeal.nD) → Buf (Elt Ideal) ((c.tc : Thread Cert.AdamSbBranchIdeal.nD Cert.AdamSbBranchIdeal.τ).loc Cert.AdamSbBranchIdeal.main_v0_2)),
      θ_run (Cert.AdamSbBranchIdeal.defs (F := Ideal)) (onTc (τ := Cert.AdamSbBranchIdeal.τ) (Cert.AdamSbBranchIdeal.main (F := Ideal))) ⟨m, fun _ => 0, g⟩ (fun r => ∀ c : Dev Cert.AdamSbBranchIdeal.nD,
          r.2.mem ((c.tc : Thread Cert.AdamSbBranchIdeal.nD Cert.AdamSbBranchIdeal.τ).loc Cert.AdamSbBranchIdeal.main_v0_0) = v0 c
          ∧ r.2.mem ((c.tc : Thread Cert.AdamSbBranchIdeal.nD Cert.AdamSbBranchIdeal.τ).loc Cert.AdamSbBranchIdeal.main_v0_1) = v1 c
          ∧ r.2.mem ((c.tc : Thread Cert.AdamSbBranchIdeal.nD Cert.AdamSbBranchIdeal.τ).loc Cert.AdamSbBranchIdeal.main_v0_2) = v2 c
          ∧ r.2.mem ((c.tc : Thread Cert.AdamSbBranchIdeal.nD Cert.AdamSbBranchIdeal.τ).loc Cert.AdamSbBranchIdeal.main_arg0) = m ((c.tc : Thread Cert.AdamSbBranchIdeal.nD Cert.AdamSbBranchIdeal.τ).loc Cert.AdamSbBranchIdeal.main_arg0)
          ∧ r.2.mem ((c.tc : Thread Cert.AdamSbBranchIdeal.nD Cert.AdamSbBranchIdeal.τ).loc Cert.AdamSbBranchIdeal.main_arg1) = m ((c.tc : Thread Cert.AdamSbBranchIdeal.nD Cert.AdamSbBranchIdeal.τ).loc Cert.AdamSbBranchIdeal.main_arg1)
          ∧ r.2.mem ((c.tc : Thread Cert.AdamSbBranchIdeal.nD Cert.AdamSbBranchIdeal.τ).loc Cert.AdamSbBranchIdeal.main_arg2) = m ((c.tc : Thread Cert.AdamSbBranchIdeal.nD Cert.AdamSbBranchIdeal.τ).loc Cert.AdamSbBranchIdeal.main_arg2)
          ∧ r.2.mem ((c.tc : Thread Cert.AdamSbBranchIdeal.nD Cert.AdamSbBranchIdeal.τ).loc Cert.AdamSbBranchIdeal.main_arg3) = m ((c.tc : Thread Cert.AdamSbBranchIdeal.nD Cert.AdamSbBranchIdeal.τ).loc Cert.AdamSbBranchIdeal.main_arg3))
      ∧ θ_run (Cert.AdamSbBranchReferenceIdeal.defs (F := Ideal)) (onTc (τ := Cert.AdamSbBranchReferenceIdeal.τ) (Cert.AdamSbBranchReferenceIdeal.main (F := Ideal))) ⟨m', fun _ => 0, g'⟩ (fun r => ∀ c : Dev Cert.AdamSbBranchReferenceIdeal.nD,
          r.2.mem ((c.tc : Thread Cert.AdamSbBranchReferenceIdeal.nD Cert.AdamSbBranchReferenceIdeal.τ).loc Cert.AdamSbBranchReferenceIdeal.main_v23) = v0 c
          ∧ r.2.mem ((c.tc : Thread Cert.AdamSbBranchReferenceIdeal.nD Cert.AdamSbBranchReferenceIdeal.τ).loc Cert.AdamSbBranchReferenceIdeal.main_v4) = v1 c
          ∧ r.2.mem ((c.tc : Thread Cert.AdamSbBranchReferenceIdeal.nD Cert.AdamSbBranchReferenceIdeal.τ).loc Cert.AdamSbBranchReferenceIdeal.main_v10) = v2 c
          ∧ r.2.mem ((c.tc : Thread Cert.AdamSbBranchReferenceIdeal.nD Cert.AdamSbBranchReferenceIdeal.τ).loc Cert.AdamSbBranchReferenceIdeal.main_arg0) = m' ((c.tc : Thread Cert.AdamSbBranchReferenceIdeal.nD Cert.AdamSbBranchReferenceIdeal.τ).loc Cert.AdamSbBranchReferenceIdeal.main_arg0)
          ∧ r.2.mem ((c.tc : Thread Cert.AdamSbBranchReferenceIdeal.nD Cert.AdamSbBranchReferenceIdeal.τ).loc Cert.AdamSbBranchReferenceIdeal.main_arg1) = m' ((c.tc : Thread Cert.AdamSbBranchReferenceIdeal.nD Cert.AdamSbBranchReferenceIdeal.τ).loc Cert.AdamSbBranchReferenceIdeal.main_arg1)
          ∧ r.2.mem ((c.tc : Thread Cert.AdamSbBranchReferenceIdeal.nD Cert.AdamSbBranchReferenceIdeal.τ).loc Cert.AdamSbBranchReferenceIdeal.main_arg2) = m' ((c.tc : Thread Cert.AdamSbBranchReferenceIdeal.nD Cert.AdamSbBranchReferenceIdeal.τ).loc Cert.AdamSbBranchReferenceIdeal.main_arg2)
          ∧ r.2.mem ((c.tc : Thread Cert.AdamSbBranchReferenceIdeal.nD Cert.AdamSbBranchReferenceIdeal.τ).loc Cert.AdamSbBranchReferenceIdeal.main_arg3) = m' ((c.tc : Thread Cert.AdamSbBranchReferenceIdeal.nD Cert.AdamSbBranchReferenceIdeal.τ).loc Cert.AdamSbBranchReferenceIdeal.main_arg3))

def preserves_AdamSquare_AdamSquareIdeal : Prop :=
  True

def algebraic_AdamSquareIdeal_AdamSquareReferenceIdeal [hAdamSquareIdeal : Cert.AdamSquareIdeal.Facts] [hAdamSquareReferenceIdeal : Cert.AdamSquareReferenceIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareReferenceIdeal.nD Cert.AdamSquareReferenceIdeal.τ Cert.AdamSquareReferenceIdeal.sig) → Buf (Elt Ideal) ℓ) (g' : Dev Cert.AdamSquareReferenceIdeal.nD → PrngReg), Pre_AdamSquareIdeal m →
    (∀ c : Dev Cert.AdamSquareIdeal.nD,
      m' ((c.tc : Thread Cert.AdamSquareReferenceIdeal.nD Cert.AdamSquareReferenceIdeal.τ).loc Cert.AdamSquareReferenceIdeal.main_arg0) = m ((c.tc : Thread Cert.AdamSquareIdeal.nD Cert.AdamSquareIdeal.τ).loc Cert.AdamSquareIdeal.main_arg0)
      ∧ m' ((c.tc : Thread Cert.AdamSquareReferenceIdeal.nD Cert.AdamSquareReferenceIdeal.τ).loc Cert.AdamSquareReferenceIdeal.main_arg1) = m ((c.tc : Thread Cert.AdamSquareIdeal.nD Cert.AdamSquareIdeal.τ).loc Cert.AdamSquareIdeal.main_arg1)
      ∧ m' ((c.tc : Thread Cert.AdamSquareReferenceIdeal.nD Cert.AdamSquareReferenceIdeal.τ).loc Cert.AdamSquareReferenceIdeal.main_arg2) = m ((c.tc : Thread Cert.AdamSquareIdeal.nD Cert.AdamSquareIdeal.τ).loc Cert.AdamSquareIdeal.main_arg2)
      ∧ m' ((c.tc : Thread Cert.AdamSquareReferenceIdeal.nD Cert.AdamSquareReferenceIdeal.τ).loc Cert.AdamSquareReferenceIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareReferenceIdeal.defs (F := Ideal)) (onTc (τ := Cert.AdamSquareReferenceIdeal.τ) (Cert.AdamSquareReferenceIdeal.main (F := Ideal))) ⟨m', fun _ => 0, g'⟩ (fun r => ∀ c : Dev Cert.AdamSquareReferenceIdeal.nD,
          r.2.mem ((c.tc : Thread Cert.AdamSquareReferenceIdeal.nD Cert.AdamSquareReferenceIdeal.τ).loc Cert.AdamSquareReferenceIdeal.main_v23) = v0 c
          ∧ r.2.mem ((c.tc : Thread Cert.AdamSquareReferenceIdeal.nD Cert.AdamSquareReferenceIdeal.τ).loc Cert.AdamSquareReferenceIdeal.main_v4) = v1 c
          ∧ r.2.mem ((c.tc : Thread Cert.AdamSquareReferenceIdeal.nD Cert.AdamSquareReferenceIdeal.τ).loc Cert.AdamSquareReferenceIdeal.main_v10) = v2 c
          ∧ r.2.mem ((c.tc : Thread Cert.AdamSquareReferenceIdeal.nD Cert.AdamSquareReferenceIdeal.τ).loc Cert.AdamSquareReferenceIdeal.main_arg0) = m' ((c.tc : Thread Cert.AdamSquareReferenceIdeal.nD Cert.AdamSquareReferenceIdeal.τ).loc Cert.AdamSquareReferenceIdeal.main_arg0)
          ∧ r.2.mem ((c.tc : Thread Cert.AdamSquareReferenceIdeal.nD Cert.AdamSquareReferenceIdeal.τ).loc Cert.AdamSquareReferenceIdeal.main_arg1) = m' ((c.tc : Thread Cert.AdamSquareReferenceIdeal.nD Cert.AdamSquareReferenceIdeal.τ).loc Cert.AdamSquareReferenceIdeal.main_arg1)
          ∧ r.2.mem ((c.tc : Thread Cert.AdamSquareReferenceIdeal.nD Cert.AdamSquareReferenceIdeal.τ).loc Cert.AdamSquareReferenceIdeal.main_arg2) = m' ((c.tc : Thread Cert.AdamSquareReferenceIdeal.nD Cert.AdamSquareReferenceIdeal.τ).loc Cert.AdamSquareReferenceIdeal.main_arg2)
          ∧ r.2.mem ((c.tc : Thread Cert.AdamSquareReferenceIdeal.nD Cert.AdamSquareReferenceIdeal.τ).loc Cert.AdamSquareReferenceIdeal.main_arg3) = m' ((c.tc : Thread Cert.AdamSquareReferenceIdeal.nD Cert.AdamSquareReferenceIdeal.τ).loc Cert.AdamSquareReferenceIdeal.main_arg3))

def preserves_AdamMeta_AdamMetaIdeal : Prop :=
  True

def algebraic_AdamMetaIdeal_AdamMetaReferenceIdeal [hAdamMetaIdeal : Cert.AdamMetaIdeal.Facts] [hAdamMetaReferenceIdeal : Cert.AdamMetaReferenceIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg)
    (m' : (ℓ : Loc Cert.AdamMetaReferenceIdeal.nD Cert.AdamMetaReferenceIdeal.τ Cert.AdamMetaReferenceIdeal.sig) → Buf (Elt Ideal) ℓ) (g' : Dev Cert.AdamMetaReferenceIdeal.nD → PrngReg), Pre_AdamMetaIdeal m →
    (∀ c : Dev Cert.AdamMetaIdeal.nD,
      m' ((c.tc : Thread Cert.AdamMetaReferenceIdeal.nD Cert.AdamMetaReferenceIdeal.τ).loc Cert.AdamMetaReferenceIdeal.main_arg0) = m ((c.tc : Thread Cert.AdamMetaIdeal.nD Cert.AdamMetaIdeal.τ).loc Cert.AdamMetaIdeal.main_arg0)
      ∧ m' ((c.tc : Thread Cert.AdamMetaReferenceIdeal.nD Cert.AdamMetaReferenceIdeal.τ).loc Cert.AdamMetaReferenceIdeal.main_arg1) = m ((c.tc : Thread Cert.AdamMetaIdeal.nD Cert.AdamMetaIdeal.τ).loc Cert.AdamMetaIdeal.main_arg1)
      ∧ m' ((c.tc : Thread Cert.AdamMetaReferenceIdeal.nD Cert.AdamMetaReferenceIdeal.τ).loc Cert.AdamMetaReferenceIdeal.main_arg2) = m ((c.tc : Thread Cert.AdamMetaIdeal.nD Cert.AdamMetaIdeal.τ).loc Cert.AdamMetaIdeal.main_arg2)
      ∧ m' ((c.tc : Thread Cert.AdamMetaReferenceIdeal.nD Cert.AdamMetaReferenceIdeal.τ).loc Cert.AdamMetaReferenceIdeal.main_arg3) = m ((c.tc : Thread Cert.AdamMetaIdeal.nD Cert.AdamMetaIdeal.τ).loc Cert.AdamMetaIdeal.main_arg3)) →
    ∃ (v0 : (c : Dev Cert.AdamMetaIdeal.nD) → Buf (Elt Ideal) ((c.tc : Thread Cert.AdamMetaIdeal.nD Cert.AdamMetaIdeal.τ).loc Cert.AdamMetaIdeal.main_v0_0)) (v1 : (c : Dev Cert.AdamMetaIdeal.nD) → Buf (Elt Ideal) ((c.tc : Thread Cert.AdamMetaIdeal.nD Cert.AdamMetaIdeal.τ).loc Cert.AdamMetaIdeal.main_v0_1)) (v2 : (c : Dev Cert.AdamMetaIdeal.nD) → Buf (Elt Ideal) ((c.tc : Thread Cert.AdamMetaIdeal.nD Cert.AdamMetaIdeal.τ).loc Cert.AdamMetaIdeal.main_v0_2)),
      θ_run (Cert.AdamMetaIdeal.defs (F := Ideal)) (onTc (τ := Cert.AdamMetaIdeal.τ) (Cert.AdamMetaIdeal.main (F := Ideal))) ⟨m, fun _ => 0, g⟩ (fun r => ∀ c : Dev Cert.AdamMetaIdeal.nD,
          r.2.mem ((c.tc : Thread Cert.AdamMetaIdeal.nD Cert.AdamMetaIdeal.τ).loc Cert.AdamMetaIdeal.main_v0_0) = v0 c
          ∧ r.2.mem ((c.tc : Thread Cert.AdamMetaIdeal.nD Cert.AdamMetaIdeal.τ).loc Cert.AdamMetaIdeal.main_v0_1) = v1 c
          ∧ r.2.mem ((c.tc : Thread Cert.AdamMetaIdeal.nD Cert.AdamMetaIdeal.τ).loc Cert.AdamMetaIdeal.main_v0_2) = v2 c
          ∧ r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
          ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
          ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
          ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3))
      ∧ θ_run (Cert.AdamMetaReferenceIdeal.defs (F := Ideal)) (onTc (τ := Cert.AdamMetaReferenceIdeal.τ) (Cert.AdamMetaReferenceIdeal.main (F := Ideal))) ⟨m', fun _ => 0, g'⟩ (fun r => ∀ c : Dev Cert.AdamMetaReferenceIdeal.nD,
          r.2.mem ((c.tc : Thread Cert.AdamMetaReferenceIdeal.nD Cert.AdamMetaReferenceIdeal.τ).loc Cert.AdamMetaReferenceIdeal.main_v23) = v0 c
          ∧ r.2.mem ((c.tc : Thread Cert.AdamMetaReferenceIdeal.nD Cert.AdamMetaReferenceIdeal.τ).loc Cert.AdamMetaReferenceIdeal.main_v4) = v1 c
          ∧ r.2.mem ((c.tc : Thread Cert.AdamMetaReferenceIdeal.nD Cert.AdamMetaReferenceIdeal.τ).loc Cert.AdamMetaReferenceIdeal.main_v10) = v2 c
          ∧ r.2.mem ((c.tc : Thread Cert.AdamMetaReferenceIdeal.nD Cert.AdamMetaReferenceIdeal.τ).loc Cert.AdamMetaReferenceIdeal.main_arg0) = m' ((c.tc : Thread Cert.AdamMetaReferenceIdeal.nD Cert.AdamMetaReferenceIdeal.τ).loc Cert.AdamMetaReferenceIdeal.main_arg0)
          ∧ r.2.mem ((c.tc : Thread Cert.AdamMetaReferenceIdeal.nD Cert.AdamMetaReferenceIdeal.τ).loc Cert.AdamMetaReferenceIdeal.main_arg1) = m' ((c.tc : Thread Cert.AdamMetaReferenceIdeal.nD Cert.AdamMetaReferenceIdeal.τ).loc Cert.AdamMetaReferenceIdeal.main_arg1)
          ∧ r.2.mem ((c.tc : Thread Cert.AdamMetaReferenceIdeal.nD Cert.AdamMetaReferenceIdeal.τ).loc Cert.AdamMetaReferenceIdeal.main_arg2) = m' ((c.tc : Thread Cert.AdamMetaReferenceIdeal.nD Cert.AdamMetaReferenceIdeal.τ).loc Cert.AdamMetaReferenceIdeal.main_arg2)
          ∧ r.2.mem ((c.tc : Thread Cert.AdamMetaReferenceIdeal.nD Cert.AdamMetaReferenceIdeal.τ).loc Cert.AdamMetaReferenceIdeal.main_arg3) = m' ((c.tc : Thread Cert.AdamMetaReferenceIdeal.nD Cert.AdamMetaReferenceIdeal.τ).loc Cert.AdamMetaReferenceIdeal.main_arg3))

def preserves_AdamGain_AdamGainIdeal : Prop :=
  True

def algebraic_AdamGainIdeal_AdamGainReferenceIdeal [hAdamGainIdeal : Cert.AdamGainIdeal.Facts] [hAdamGainReferenceIdeal : Cert.AdamGainReferenceIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainReferenceIdeal.nD Cert.AdamGainReferenceIdeal.τ Cert.AdamGainReferenceIdeal.sig) → Buf (Elt Ideal) ℓ) (g' : Dev Cert.AdamGainReferenceIdeal.nD → PrngReg), Pre_AdamGainIdeal m →
    (∀ c : Dev Cert.AdamGainIdeal.nD,
      m' ((c.tc : Thread Cert.AdamGainReferenceIdeal.nD Cert.AdamGainReferenceIdeal.τ).loc Cert.AdamGainReferenceIdeal.main_arg0) = m ((c.tc : Thread Cert.AdamGainIdeal.nD Cert.AdamGainIdeal.τ).loc Cert.AdamGainIdeal.main_arg0)
      ∧ m' ((c.tc : Thread Cert.AdamGainReferenceIdeal.nD Cert.AdamGainReferenceIdeal.τ).loc Cert.AdamGainReferenceIdeal.main_arg1) = m ((c.tc : Thread Cert.AdamGainIdeal.nD Cert.AdamGainIdeal.τ).loc Cert.AdamGainIdeal.main_arg1)
      ∧ m' ((c.tc : Thread Cert.AdamGainReferenceIdeal.nD Cert.AdamGainReferenceIdeal.τ).loc Cert.AdamGainReferenceIdeal.main_arg2) = m ((c.tc : Thread Cert.AdamGainIdeal.nD Cert.AdamGainIdeal.τ).loc Cert.AdamGainIdeal.main_arg2)
      ∧ m' ((c.tc : Thread Cert.AdamGainReferenceIdeal.nD Cert.AdamGainReferenceIdeal.τ).loc Cert.AdamGainReferenceIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainReferenceIdeal.defs (F := Ideal)) (onTc (τ := Cert.AdamGainReferenceIdeal.τ) (Cert.AdamGainReferenceIdeal.main (F := Ideal))) ⟨m', fun _ => 0, g'⟩ (fun r => ∀ c : Dev Cert.AdamGainReferenceIdeal.nD,
          r.2.mem ((c.tc : Thread Cert.AdamGainReferenceIdeal.nD Cert.AdamGainReferenceIdeal.τ).loc Cert.AdamGainReferenceIdeal.main_v23) = v0 c
          ∧ r.2.mem ((c.tc : Thread Cert.AdamGainReferenceIdeal.nD Cert.AdamGainReferenceIdeal.τ).loc Cert.AdamGainReferenceIdeal.main_v4) = v1 c
          ∧ r.2.mem ((c.tc : Thread Cert.AdamGainReferenceIdeal.nD Cert.AdamGainReferenceIdeal.τ).loc Cert.AdamGainReferenceIdeal.main_v10) = v2 c
          ∧ r.2.mem ((c.tc : Thread Cert.AdamGainReferenceIdeal.nD Cert.AdamGainReferenceIdeal.τ).loc Cert.AdamGainReferenceIdeal.main_arg0) = m' ((c.tc : Thread Cert.AdamGainReferenceIdeal.nD Cert.AdamGainReferenceIdeal.τ).loc Cert.AdamGainReferenceIdeal.main_arg0)
          ∧ r.2.mem ((c.tc : Thread Cert.AdamGainReferenceIdeal.nD Cert.AdamGainReferenceIdeal.τ).loc Cert.AdamGainReferenceIdeal.main_arg1) = m' ((c.tc : Thread Cert.AdamGainReferenceIdeal.nD Cert.AdamGainReferenceIdeal.τ).loc Cert.AdamGainReferenceIdeal.main_arg1)
          ∧ r.2.mem ((c.tc : Thread Cert.AdamGainReferenceIdeal.nD Cert.AdamGainReferenceIdeal.τ).loc Cert.AdamGainReferenceIdeal.main_arg2) = m' ((c.tc : Thread Cert.AdamGainReferenceIdeal.nD Cert.AdamGainReferenceIdeal.τ).loc Cert.AdamGainReferenceIdeal.main_arg2)
          ∧ r.2.mem ((c.tc : Thread Cert.AdamGainReferenceIdeal.nD Cert.AdamGainReferenceIdeal.τ).loc Cert.AdamGainReferenceIdeal.main_arg3) = m' ((c.tc : Thread Cert.AdamGainReferenceIdeal.nD Cert.AdamGainReferenceIdeal.τ).loc Cert.AdamGainReferenceIdeal.main_arg3))

def preserves_AdamSinks_AdamSinksIdeal : Prop :=
  True

def algebraic_AdamSinksIdeal_AdamSinksReferenceIdeal [hAdamSinksIdeal : Cert.AdamSinksIdeal.Facts] [hAdamSinksReferenceIdeal : Cert.AdamSinksReferenceIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg)
    (m' : (ℓ : Loc Cert.AdamSinksReferenceIdeal.nD Cert.AdamSinksReferenceIdeal.τ Cert.AdamSinksReferenceIdeal.sig) → Buf (Elt Ideal) ℓ) (g' : Dev Cert.AdamSinksReferenceIdeal.nD → PrngReg), Pre_AdamSinksIdeal m →
    (∀ c : Dev Cert.AdamSinksIdeal.nD,
      m' ((c.tc : Thread Cert.AdamSinksReferenceIdeal.nD Cert.AdamSinksReferenceIdeal.τ).loc Cert.AdamSinksReferenceIdeal.main_arg0) = m ((c.tc : Thread Cert.AdamSinksIdeal.nD Cert.AdamSinksIdeal.τ).loc Cert.AdamSinksIdeal.main_arg0)
      ∧ m' ((c.tc : Thread Cert.AdamSinksReferenceIdeal.nD Cert.AdamSinksReferenceIdeal.τ).loc Cert.AdamSinksReferenceIdeal.main_arg1) = m ((c.tc : Thread Cert.AdamSinksIdeal.nD Cert.AdamSinksIdeal.τ).loc Cert.AdamSinksIdeal.main_arg1)
      ∧ m' ((c.tc : Thread Cert.AdamSinksReferenceIdeal.nD Cert.AdamSinksReferenceIdeal.τ).loc Cert.AdamSinksReferenceIdeal.main_arg2) = m ((c.tc : Thread Cert.AdamSinksIdeal.nD Cert.AdamSinksIdeal.τ).loc Cert.AdamSinksIdeal.main_arg2)
      ∧ m' ((c.tc : Thread Cert.AdamSinksReferenceIdeal.nD Cert.AdamSinksReferenceIdeal.τ).loc Cert.AdamSinksReferenceIdeal.main_arg3) = m ((c.tc : Thread Cert.AdamSinksIdeal.nD Cert.AdamSinksIdeal.τ).loc Cert.AdamSinksIdeal.main_arg3)) →
    ∃ (v0 : (c : Dev Cert.AdamSinksIdeal.nD) → Buf (Elt Ideal) ((c.tc : Thread Cert.AdamSinksIdeal.nD Cert.AdamSinksIdeal.τ).loc Cert.AdamSinksIdeal.main_v0_0)) (v1 : (c : Dev Cert.AdamSinksIdeal.nD) → Buf (Elt Ideal) ((c.tc : Thread Cert.AdamSinksIdeal.nD Cert.AdamSinksIdeal.τ).loc Cert.AdamSinksIdeal.main_v0_1)) (v2 : (c : Dev Cert.AdamSinksIdeal.nD) → Buf (Elt Ideal) ((c.tc : Thread Cert.AdamSinksIdeal.nD Cert.AdamSinksIdeal.τ).loc Cert.AdamSinksIdeal.main_v0_2)),
      θ_run (Cert.AdamSinksIdeal.defs (F := Ideal)) (onTc (τ := Cert.AdamSinksIdeal.τ) (Cert.AdamSinksIdeal.main (F := Ideal))) ⟨m, fun _ => 0, g⟩ (fun r => ∀ c : Dev Cert.AdamSinksIdeal.nD,
          r.2.mem ((c.tc : Thread Cert.AdamSinksIdeal.nD Cert.AdamSinksIdeal.τ).loc Cert.AdamSinksIdeal.main_v0_0) = v0 c
          ∧ r.2.mem ((c.tc : Thread Cert.AdamSinksIdeal.nD Cert.AdamSinksIdeal.τ).loc Cert.AdamSinksIdeal.main_v0_1) = v1 c
          ∧ r.2.mem ((c.tc : Thread Cert.AdamSinksIdeal.nD Cert.AdamSinksIdeal.τ).loc Cert.AdamSinksIdeal.main_v0_2) = v2 c
          ∧ r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
          ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
          ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
          ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ θ_run (Cert.AdamSinksReferenceIdeal.defs (F := Ideal)) (onTc (τ := Cert.AdamSinksReferenceIdeal.τ) (Cert.AdamSinksReferenceIdeal.main (F := Ideal))) ⟨m', fun _ => 0, g'⟩ (fun r => ∀ c : Dev Cert.AdamSinksReferenceIdeal.nD,
          r.2.mem ((c.tc : Thread Cert.AdamSinksReferenceIdeal.nD Cert.AdamSinksReferenceIdeal.τ).loc Cert.AdamSinksReferenceIdeal.main_v23) = v0 c
          ∧ r.2.mem ((c.tc : Thread Cert.AdamSinksReferenceIdeal.nD Cert.AdamSinksReferenceIdeal.τ).loc Cert.AdamSinksReferenceIdeal.main_v4) = v1 c
          ∧ r.2.mem ((c.tc : Thread Cert.AdamSinksReferenceIdeal.nD Cert.AdamSinksReferenceIdeal.τ).loc Cert.AdamSinksReferenceIdeal.main_v10) = v2 c
          ∧ r.2.mem ((c.tc : Thread Cert.AdamSinksReferenceIdeal.nD Cert.AdamSinksReferenceIdeal.τ).loc Cert.AdamSinksReferenceIdeal.main_arg0) = m' ((c.tc : Thread Cert.AdamSinksReferenceIdeal.nD Cert.AdamSinksReferenceIdeal.τ).loc Cert.AdamSinksReferenceIdeal.main_arg0)
          ∧ r.2.mem ((c.tc : Thread Cert.AdamSinksReferenceIdeal.nD Cert.AdamSinksReferenceIdeal.τ).loc Cert.AdamSinksReferenceIdeal.main_arg1) = m' ((c.tc : Thread Cert.AdamSinksReferenceIdeal.nD Cert.AdamSinksReferenceIdeal.τ).loc Cert.AdamSinksReferenceIdeal.main_arg1)
          ∧ r.2.mem ((c.tc : Thread Cert.AdamSinksReferenceIdeal.nD Cert.AdamSinksReferenceIdeal.τ).loc Cert.AdamSinksReferenceIdeal.main_arg2) = m' ((c.tc : Thread Cert.AdamSinksReferenceIdeal.nD Cert.AdamSinksReferenceIdeal.τ).loc Cert.AdamSinksReferenceIdeal.main_arg2)
          ∧ r.2.mem ((c.tc : Thread Cert.AdamSinksReferenceIdeal.nD Cert.AdamSinksReferenceIdeal.τ).loc Cert.AdamSinksReferenceIdeal.main_arg3) = m' ((c.tc : Thread Cert.AdamSinksReferenceIdeal.nD Cert.AdamSinksReferenceIdeal.τ).loc Cert.AdamSinksReferenceIdeal.main_arg3))

def preserves_NormForward_NormForwardIdeal : Prop :=
  True

def algebraic_NormForwardIdeal_NormForwardReferenceIdeal [hNormForwardIdeal : Cert.NormForwardIdeal.Facts] [hNormForwardReferenceIdeal : Cert.NormForwardReferenceIdeal.Facts] : Prop :=
  ∀ (m : (ℓ : Loc Cert.NormForwardIdeal.nD Cert.NormForwardIdeal.τ Cert.NormForwardIdeal.sig) → Buf (Elt Ideal) ℓ) (g : Dev Cert.NormForwardIdeal.nD → PrngReg)
    (m' : (ℓ : Loc Cert.NormForwardReferenceIdeal.nD Cert.NormForwardReferenceIdeal.τ Cert.NormForwardReferenceIdeal.sig) → Buf (Elt Ideal) ℓ) (g' : Dev Cert.NormForwardReferenceIdeal.nD → PrngReg), Pre_NormForwardIdeal m →
    (∀ c : Dev Cert.NormForwardIdeal.nD,
      m' ((c.tc : Thread Cert.NormForwardReferenceIdeal.nD Cert.NormForwardReferenceIdeal.τ).loc Cert.NormForwardReferenceIdeal.main_arg0) = m ((c.tc : Thread Cert.NormForwardIdeal.nD Cert.NormForwardIdeal.τ).loc Cert.NormForwardIdeal.main_arg0)
      ∧ m' ((c.tc : Thread Cert.NormForwardReferenceIdeal.nD Cert.NormForwardReferenceIdeal.τ).loc Cert.NormForwardReferenceIdeal.main_arg1) = m ((c.tc : Thread Cert.NormForwardIdeal.nD Cert.NormForwardIdeal.τ).loc Cert.NormForwardIdeal.main_arg1)) →
    ∃ (v0 : (c : Dev Cert.NormForwardIdeal.nD) → Buf (Elt Ideal) ((c.tc : Thread Cert.NormForwardIdeal.nD Cert.NormForwardIdeal.τ).loc Cert.NormForwardIdeal.main_v0)),
      θ_run (Cert.NormForwardIdeal.defs (F := Ideal)) (onTc (τ := Cert.NormForwardIdeal.τ) (Cert.NormForwardIdeal.main (F := Ideal))) ⟨m, fun _ => 0, g⟩ (fun r => ∀ c : Dev Cert.NormForwardIdeal.nD,
          r.2.mem ((c.tc : Thread Cert.NormForwardIdeal.nD Cert.NormForwardIdeal.τ).loc Cert.NormForwardIdeal.main_v0) = v0 c
          ∧ r.2.mem ((c.tc : Thread Cert.NormForwardIdeal.nD Cert.NormForwardIdeal.τ).loc Cert.NormForwardIdeal.main_arg0) = m ((c.tc : Thread Cert.NormForwardIdeal.nD Cert.NormForwardIdeal.τ).loc Cert.NormForwardIdeal.main_arg0)
          ∧ r.2.mem ((c.tc : Thread Cert.NormForwardIdeal.nD Cert.NormForwardIdeal.τ).loc Cert.NormForwardIdeal.main_arg1) = m ((c.tc : Thread Cert.NormForwardIdeal.nD Cert.NormForwardIdeal.τ).loc Cert.NormForwardIdeal.main_arg1))
      ∧ θ_run (Cert.NormForwardReferenceIdeal.defs (F := Ideal)) (onTc (τ := Cert.NormForwardReferenceIdeal.τ) (Cert.NormForwardReferenceIdeal.main (F := Ideal))) ⟨m', fun _ => 0, g'⟩ (fun r => ∀ c : Dev Cert.NormForwardReferenceIdeal.nD,
          r.2.mem ((c.tc : Thread Cert.NormForwardReferenceIdeal.nD Cert.NormForwardReferenceIdeal.τ).loc Cert.NormForwardReferenceIdeal.main_v14) = v0 c
          ∧ r.2.mem ((c.tc : Thread Cert.NormForwardReferenceIdeal.nD Cert.NormForwardReferenceIdeal.τ).loc Cert.NormForwardReferenceIdeal.main_arg0) = m' ((c.tc : Thread Cert.NormForwardReferenceIdeal.nD Cert.NormForwardReferenceIdeal.τ).loc Cert.NormForwardReferenceIdeal.main_arg0)
          ∧ r.2.mem ((c.tc : Thread Cert.NormForwardReferenceIdeal.nD Cert.NormForwardReferenceIdeal.τ).loc Cert.NormForwardReferenceIdeal.main_arg1) = m' ((c.tc : Thread Cert.NormForwardReferenceIdeal.nD Cert.NormForwardReferenceIdeal.τ).loc Cert.NormForwardReferenceIdeal.main_arg1))

def preserves_LossForward_LossForwardIdeal : Prop :=
  True

def algebraic_LossForwardIdeal_LossForwardReferenceIdeal [hLossForwardIdeal : Cert.LossForwardIdeal.Facts] [hLossForwardReferenceIdeal : Cert.LossForwardReferenceIdeal.Facts] : Prop :=
  ∀ (m : (ℓ : Loc Cert.LossForwardIdeal.nD Cert.LossForwardIdeal.τ Cert.LossForwardIdeal.sig) → Buf (Elt Ideal) ℓ) (g : Dev Cert.LossForwardIdeal.nD → PrngReg)
    (m' : (ℓ : Loc Cert.LossForwardReferenceIdeal.nD Cert.LossForwardReferenceIdeal.τ Cert.LossForwardReferenceIdeal.sig) → Buf (Elt Ideal) ℓ) (g' : Dev Cert.LossForwardReferenceIdeal.nD → PrngReg), Pre_LossForwardIdeal m →
    (∀ c : Dev Cert.LossForwardIdeal.nD,
      m' ((c.tc : Thread Cert.LossForwardReferenceIdeal.nD Cert.LossForwardReferenceIdeal.τ).loc Cert.LossForwardReferenceIdeal.main_arg0) = m ((c.tc : Thread Cert.LossForwardIdeal.nD Cert.LossForwardIdeal.τ).loc Cert.LossForwardIdeal.main_arg0)
      ∧ m' ((c.tc : Thread Cert.LossForwardReferenceIdeal.nD Cert.LossForwardReferenceIdeal.τ).loc Cert.LossForwardReferenceIdeal.main_arg1) = m ((c.tc : Thread Cert.LossForwardIdeal.nD Cert.LossForwardIdeal.τ).loc Cert.LossForwardIdeal.main_arg1)
      ∧ m' ((c.tc : Thread Cert.LossForwardReferenceIdeal.nD Cert.LossForwardReferenceIdeal.τ).loc Cert.LossForwardReferenceIdeal.main_arg2) = m ((c.tc : Thread Cert.LossForwardIdeal.nD Cert.LossForwardIdeal.τ).loc Cert.LossForwardIdeal.main_arg2)) →
    ∃ (v0 : (c : Dev Cert.LossForwardIdeal.nD) → Buf (Elt Ideal) ((c.tc : Thread Cert.LossForwardIdeal.nD Cert.LossForwardIdeal.τ).loc Cert.LossForwardIdeal.main_v0_1)) (v1 : (c : Dev Cert.LossForwardIdeal.nD) → Buf (Elt Ideal) ((c.tc : Thread Cert.LossForwardIdeal.nD Cert.LossForwardIdeal.τ).loc Cert.LossForwardIdeal.main_v0_2)),
      θ_run (Cert.LossForwardIdeal.defs (F := Ideal)) (onTc (τ := Cert.LossForwardIdeal.τ) (Cert.LossForwardIdeal.main (F := Ideal))) ⟨m, fun _ => 0, g⟩ (fun r => ∀ c : Dev Cert.LossForwardIdeal.nD,
          r.2.mem ((c.tc : Thread Cert.LossForwardIdeal.nD Cert.LossForwardIdeal.τ).loc Cert.LossForwardIdeal.main_v0_1) = v0 c
          ∧ r.2.mem ((c.tc : Thread Cert.LossForwardIdeal.nD Cert.LossForwardIdeal.τ).loc Cert.LossForwardIdeal.main_v0_2) = v1 c
          ∧ r.2.mem ((c.tc : Thread Cert.LossForwardIdeal.nD Cert.LossForwardIdeal.τ).loc Cert.LossForwardIdeal.main_arg0) = m ((c.tc : Thread Cert.LossForwardIdeal.nD Cert.LossForwardIdeal.τ).loc Cert.LossForwardIdeal.main_arg0)
          ∧ r.2.mem ((c.tc : Thread Cert.LossForwardIdeal.nD Cert.LossForwardIdeal.τ).loc Cert.LossForwardIdeal.main_arg1) = m ((c.tc : Thread Cert.LossForwardIdeal.nD Cert.LossForwardIdeal.τ).loc Cert.LossForwardIdeal.main_arg1)
          ∧ r.2.mem ((c.tc : Thread Cert.LossForwardIdeal.nD Cert.LossForwardIdeal.τ).loc Cert.LossForwardIdeal.main_arg2) = m ((c.tc : Thread Cert.LossForwardIdeal.nD Cert.LossForwardIdeal.τ).loc Cert.LossForwardIdeal.main_arg2))
      ∧ θ_run (Cert.LossForwardReferenceIdeal.defs (F := Ideal)) (onTc (τ := Cert.LossForwardReferenceIdeal.τ) (Cert.LossForwardReferenceIdeal.main (F := Ideal))) ⟨m', fun _ => 0, g'⟩ (fun r => ∀ c : Dev Cert.LossForwardReferenceIdeal.nD,
          r.2.mem ((c.tc : Thread Cert.LossForwardReferenceIdeal.nD Cert.LossForwardReferenceIdeal.τ).loc Cert.LossForwardReferenceIdeal.main_v36) = v0 c
          ∧ r.2.mem ((c.tc : Thread Cert.LossForwardReferenceIdeal.nD Cert.LossForwardReferenceIdeal.τ).loc Cert.LossForwardReferenceIdeal.main_v35) = v1 c
          ∧ r.2.mem ((c.tc : Thread Cert.LossForwardReferenceIdeal.nD Cert.LossForwardReferenceIdeal.τ).loc Cert.LossForwardReferenceIdeal.main_arg0) = m' ((c.tc : Thread Cert.LossForwardReferenceIdeal.nD Cert.LossForwardReferenceIdeal.τ).loc Cert.LossForwardReferenceIdeal.main_arg0)
          ∧ r.2.mem ((c.tc : Thread Cert.LossForwardReferenceIdeal.nD Cert.LossForwardReferenceIdeal.τ).loc Cert.LossForwardReferenceIdeal.main_arg1) = m' ((c.tc : Thread Cert.LossForwardReferenceIdeal.nD Cert.LossForwardReferenceIdeal.τ).loc Cert.LossForwardReferenceIdeal.main_arg1)
          ∧ r.2.mem ((c.tc : Thread Cert.LossForwardReferenceIdeal.nD Cert.LossForwardReferenceIdeal.τ).loc Cert.LossForwardReferenceIdeal.main_arg2) = m' ((c.tc : Thread Cert.LossForwardReferenceIdeal.nD Cert.LossForwardReferenceIdeal.τ).loc Cert.LossForwardReferenceIdeal.main_arg2))

def preserves_LossGradient_LossGradientIdeal : Prop :=
  True

def algebraic_LossGradientIdeal_LossGradientReferenceIdeal [hLossGradientIdeal : Cert.LossGradientIdeal.Facts] [hLossGradientReferenceIdeal : Cert.LossGradientReferenceIdeal.Facts] : Prop :=
  ∀ (m : (ℓ : Loc Cert.LossGradientIdeal.nD Cert.LossGradientIdeal.τ Cert.LossGradientIdeal.sig) → Buf (Elt Ideal) ℓ) (g : Dev Cert.LossGradientIdeal.nD → PrngReg)
    (m' : (ℓ : Loc Cert.LossGradientReferenceIdeal.nD Cert.LossGradientReferenceIdeal.τ Cert.LossGradientReferenceIdeal.sig) → Buf (Elt Ideal) ℓ) (g' : Dev Cert.LossGradientReferenceIdeal.nD → PrngReg), Pre_LossGradientIdeal m →
    (∀ c : Dev Cert.LossGradientIdeal.nD,
      m' ((c.tc : Thread Cert.LossGradientReferenceIdeal.nD Cert.LossGradientReferenceIdeal.τ).loc Cert.LossGradientReferenceIdeal.main_arg0) = m ((c.tc : Thread Cert.LossGradientIdeal.nD Cert.LossGradientIdeal.τ).loc Cert.LossGradientIdeal.main_arg0)
      ∧ m' ((c.tc : Thread Cert.LossGradientReferenceIdeal.nD Cert.LossGradientReferenceIdeal.τ).loc Cert.LossGradientReferenceIdeal.main_arg1) = m ((c.tc : Thread Cert.LossGradientIdeal.nD Cert.LossGradientIdeal.τ).loc Cert.LossGradientIdeal.main_arg1)
      ∧ m' ((c.tc : Thread Cert.LossGradientReferenceIdeal.nD Cert.LossGradientReferenceIdeal.τ).loc Cert.LossGradientReferenceIdeal.main_arg2) = m ((c.tc : Thread Cert.LossGradientIdeal.nD Cert.LossGradientIdeal.τ).loc Cert.LossGradientIdeal.main_arg2)) →
    ∃ (v0 : (c : Dev Cert.LossGradientIdeal.nD) → Buf (Elt Ideal) ((c.tc : Thread Cert.LossGradientIdeal.nD Cert.LossGradientIdeal.τ).loc Cert.LossGradientIdeal.main_v0_0)),
      θ_run (Cert.LossGradientIdeal.defs (F := Ideal)) (onTc (τ := Cert.LossGradientIdeal.τ) (Cert.LossGradientIdeal.main (F := Ideal))) ⟨m, fun _ => 0, g⟩ (fun r => ∀ c : Dev Cert.LossGradientIdeal.nD,
          r.2.mem ((c.tc : Thread Cert.LossGradientIdeal.nD Cert.LossGradientIdeal.τ).loc Cert.LossGradientIdeal.main_v0_0) = v0 c
          ∧ r.2.mem ((c.tc : Thread Cert.LossGradientIdeal.nD Cert.LossGradientIdeal.τ).loc Cert.LossGradientIdeal.main_arg0) = m ((c.tc : Thread Cert.LossGradientIdeal.nD Cert.LossGradientIdeal.τ).loc Cert.LossGradientIdeal.main_arg0)
          ∧ r.2.mem ((c.tc : Thread Cert.LossGradientIdeal.nD Cert.LossGradientIdeal.τ).loc Cert.LossGradientIdeal.main_arg1) = m ((c.tc : Thread Cert.LossGradientIdeal.nD Cert.LossGradientIdeal.τ).loc Cert.LossGradientIdeal.main_arg1)
          ∧ r.2.mem ((c.tc : Thread Cert.LossGradientIdeal.nD Cert.LossGradientIdeal.τ).loc Cert.LossGradientIdeal.main_arg2) = m ((c.tc : Thread Cert.LossGradientIdeal.nD Cert.LossGradientIdeal.τ).loc Cert.LossGradientIdeal.main_arg2))
      ∧ θ_run (Cert.LossGradientReferenceIdeal.defs (F := Ideal)) (onTc (τ := Cert.LossGradientReferenceIdeal.τ) (Cert.LossGradientReferenceIdeal.main (F := Ideal))) ⟨m', fun _ => 0, g'⟩ (fun r => ∀ c : Dev Cert.LossGradientReferenceIdeal.nD,
          r.2.mem ((c.tc : Thread Cert.LossGradientReferenceIdeal.nD Cert.LossGradientReferenceIdeal.τ).loc Cert.LossGradientReferenceIdeal.main_v49) = v0 c
          ∧ r.2.mem ((c.tc : Thread Cert.LossGradientReferenceIdeal.nD Cert.LossGradientReferenceIdeal.τ).loc Cert.LossGradientReferenceIdeal.main_arg0) = m' ((c.tc : Thread Cert.LossGradientReferenceIdeal.nD Cert.LossGradientReferenceIdeal.τ).loc Cert.LossGradientReferenceIdeal.main_arg0)
          ∧ r.2.mem ((c.tc : Thread Cert.LossGradientReferenceIdeal.nD Cert.LossGradientReferenceIdeal.τ).loc Cert.LossGradientReferenceIdeal.main_arg1) = m' ((c.tc : Thread Cert.LossGradientReferenceIdeal.nD Cert.LossGradientReferenceIdeal.τ).loc Cert.LossGradientReferenceIdeal.main_arg1)
          ∧ r.2.mem ((c.tc : Thread Cert.LossGradientReferenceIdeal.nD Cert.LossGradientReferenceIdeal.τ).loc Cert.LossGradientReferenceIdeal.main_arg2) = m' ((c.tc : Thread Cert.LossGradientReferenceIdeal.nD Cert.LossGradientReferenceIdeal.τ).loc Cert.LossGradientReferenceIdeal.main_arg2))

def Claim : Prop :=
  ∃ (hInputGradient : Cert.InputGradient.Facts) (hInputGradientIdeal : Cert.InputGradientIdeal.Facts) (hInputGradientReferenceIdeal : Cert.InputGradientReferenceIdeal.Facts) (hQkvWeight : Cert.QkvWeight.Facts) (hQkvWeightIdeal : Cert.QkvWeightIdeal.Facts) (hQkvWeightReferenceIdeal : Cert.QkvWeightReferenceIdeal.Facts) (hGateWeight : Cert.GateWeight.Facts) (hGateWeightIdeal : Cert.GateWeightIdeal.Facts) (hGateWeightReferenceIdeal : Cert.GateWeightReferenceIdeal.Facts) (hSbBranchWeight : Cert.SbBranchWeight.Facts) (hSbBranchWeightIdeal : Cert.SbBranchWeightIdeal.Facts) (hSbBranchWeightReferenceIdeal : Cert.SbBranchWeightReferenceIdeal.Facts) (hSwaBranchWeight : Cert.SwaBranchWeight.Facts) (hSwaBranchWeightIdeal : Cert.SwaBranchWeightIdeal.Facts) (hSwaBranchWeightReferenceIdeal : Cert.SwaBranchWeightReferenceIdeal.Facts) (hOutWeight : Cert.OutWeight.Facts) (hOutWeightIdeal : Cert.OutWeightIdeal.Facts) (hOutWeightReferenceIdeal : Cert.OutWeightReferenceIdeal.Facts) (hQkvProjection : Cert.QkvProjection.Facts) (hQkvProjectionIdeal : Cert.QkvProjectionIdeal.Facts) (hQkvProjectionReferenceIdeal : Cert.QkvProjectionReferenceIdeal.Facts) (hGateProjection : Cert.GateProjection.Facts) (hGateProjectionIdeal : Cert.GateProjectionIdeal.Facts) (hGateProjectionReferenceIdeal : Cert.GateProjectionReferenceIdeal.Facts) (hGatedMerge : Cert.GatedMerge.Facts) (hGatedMergeIdeal : Cert.GatedMergeIdeal.Facts) (hGatedMergeReferenceIdeal : Cert.GatedMergeReferenceIdeal.Facts) (hMergeGradient : Cert.MergeGradient.Facts) (hMergeGradientIdeal : Cert.MergeGradientIdeal.Facts) (hMergeGradientReferenceIdeal : Cert.MergeGradientReferenceIdeal.Facts) (hAdamIn : Cert.AdamIn.Facts) (hAdamInIdeal : Cert.AdamInIdeal.Facts) (hAdamInReferenceIdeal : Cert.AdamInReferenceIdeal.Facts) (hAdamSbBranch : Cert.AdamSbBranch.Facts) (hAdamSbBranchIdeal : Cert.AdamSbBranchIdeal.Facts) (hAdamSbBranchReferenceIdeal : Cert.AdamSbBranchReferenceIdeal.Facts) (hAdamSquare : Cert.AdamSquare.Facts) (hAdamSquareIdeal : Cert.AdamSquareIdeal.Facts) (hAdamSquareReferenceIdeal : Cert.AdamSquareReferenceIdeal.Facts) (hAdamMeta : Cert.AdamMeta.Facts) (hAdamMetaIdeal : Cert.AdamMetaIdeal.Facts) (hAdamMetaReferenceIdeal : Cert.AdamMetaReferenceIdeal.Facts) (hAdamGain : Cert.AdamGain.Facts) (hAdamGainIdeal : Cert.AdamGainIdeal.Facts) (hAdamGainReferenceIdeal : Cert.AdamGainReferenceIdeal.Facts) (hAdamSinks : Cert.AdamSinks.Facts) (hAdamSinksIdeal : Cert.AdamSinksIdeal.Facts) (hAdamSinksReferenceIdeal : Cert.AdamSinksReferenceIdeal.Facts) (hNormForward : Cert.NormForward.Facts) (hNormForwardIdeal : Cert.NormForwardIdeal.Facts) (hNormForwardReferenceIdeal : Cert.NormForwardReferenceIdeal.Facts) (hLossForward : Cert.LossForward.Facts) (hLossForwardIdeal : Cert.LossForwardIdeal.Facts) (hLossForwardReferenceIdeal : Cert.LossForwardReferenceIdeal.Facts) (hLossGradient : Cert.LossGradient.Facts) (hLossGradientIdeal : Cert.LossGradientIdeal.Facts) (hLossGradientReferenceIdeal : Cert.LossGradientReferenceIdeal.Facts) (hPre_finite : Cert.Pre_finite.Facts),
    quiescent_InputGradient (hInputGradient := hInputGradient)
    ∧ quiescent_InputGradientIdeal (hInputGradientIdeal := hInputGradientIdeal)
    ∧ quiescent_InputGradientReferenceIdeal (hInputGradientReferenceIdeal := hInputGradientReferenceIdeal)
    ∧ quiescent_QkvWeight (hQkvWeight := hQkvWeight)
    ∧ quiescent_QkvWeightIdeal (hQkvWeightIdeal := hQkvWeightIdeal)
    ∧ quiescent_QkvWeightReferenceIdeal (hQkvWeightReferenceIdeal := hQkvWeightReferenceIdeal)
    ∧ quiescent_GateWeight (hGateWeight := hGateWeight)
    ∧ quiescent_GateWeightIdeal (hGateWeightIdeal := hGateWeightIdeal)
    ∧ quiescent_GateWeightReferenceIdeal (hGateWeightReferenceIdeal := hGateWeightReferenceIdeal)
    ∧ quiescent_SbBranchWeight (hSbBranchWeight := hSbBranchWeight)
    ∧ quiescent_SbBranchWeightIdeal (hSbBranchWeightIdeal := hSbBranchWeightIdeal)
    ∧ quiescent_SbBranchWeightReferenceIdeal (hSbBranchWeightReferenceIdeal := hSbBranchWeightReferenceIdeal)
    ∧ quiescent_SwaBranchWeight (hSwaBranchWeight := hSwaBranchWeight)
    ∧ quiescent_SwaBranchWeightIdeal (hSwaBranchWeightIdeal := hSwaBranchWeightIdeal)
    ∧ quiescent_SwaBranchWeightReferenceIdeal (hSwaBranchWeightReferenceIdeal := hSwaBranchWeightReferenceIdeal)
    ∧ quiescent_OutWeight (hOutWeight := hOutWeight)
    ∧ quiescent_OutWeightIdeal (hOutWeightIdeal := hOutWeightIdeal)
    ∧ quiescent_OutWeightReferenceIdeal (hOutWeightReferenceIdeal := hOutWeightReferenceIdeal)
    ∧ quiescent_QkvProjection (hQkvProjection := hQkvProjection)
    ∧ quiescent_QkvProjectionIdeal (hQkvProjectionIdeal := hQkvProjectionIdeal)
    ∧ quiescent_QkvProjectionReferenceIdeal (hQkvProjectionReferenceIdeal := hQkvProjectionReferenceIdeal)
    ∧ quiescent_GateProjection (hGateProjection := hGateProjection)
    ∧ quiescent_GateProjectionIdeal (hGateProjectionIdeal := hGateProjectionIdeal)
    ∧ quiescent_GateProjectionReferenceIdeal (hGateProjectionReferenceIdeal := hGateProjectionReferenceIdeal)
    ∧ quiescent_GatedMerge (hGatedMerge := hGatedMerge)
    ∧ quiescent_GatedMergeIdeal (hGatedMergeIdeal := hGatedMergeIdeal)
    ∧ quiescent_GatedMergeReferenceIdeal (hGatedMergeReferenceIdeal := hGatedMergeReferenceIdeal)
    ∧ quiescent_MergeGradient (hMergeGradient := hMergeGradient) (hPre_finite := hPre_finite)
    ∧ quiescent_MergeGradientIdeal (hMergeGradientIdeal := hMergeGradientIdeal) (hPre_finite := hPre_finite)
    ∧ quiescent_MergeGradientReferenceIdeal (hMergeGradientReferenceIdeal := hMergeGradientReferenceIdeal)
    ∧ quiescent_MergeGradientReferenceIdeal_pre_finite (hMergeGradientReferenceIdeal := hMergeGradientReferenceIdeal) (hPre_finite := hPre_finite)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamSbBranch (hAdamSbBranch := hAdamSbBranch)
    ∧ quiescent_AdamSbBranchIdeal (hAdamSbBranchIdeal := hAdamSbBranchIdeal)
    ∧ quiescent_AdamSbBranchReferenceIdeal (hAdamSbBranchReferenceIdeal := hAdamSbBranchReferenceIdeal)
    ∧ quiescent_AdamSquare (hAdamSquare := hAdamSquare)
    ∧ quiescent_AdamSquareIdeal (hAdamSquareIdeal := hAdamSquareIdeal)
    ∧ quiescent_AdamSquareReferenceIdeal (hAdamSquareReferenceIdeal := hAdamSquareReferenceIdeal)
    ∧ quiescent_AdamMeta (hAdamMeta := hAdamMeta)
    ∧ quiescent_AdamMetaIdeal (hAdamMetaIdeal := hAdamMetaIdeal)
    ∧ quiescent_AdamMetaReferenceIdeal (hAdamMetaReferenceIdeal := hAdamMetaReferenceIdeal)
    ∧ quiescent_AdamGain (hAdamGain := hAdamGain)
    ∧ quiescent_AdamGainIdeal (hAdamGainIdeal := hAdamGainIdeal)
    ∧ quiescent_AdamGainReferenceIdeal (hAdamGainReferenceIdeal := hAdamGainReferenceIdeal)
    ∧ quiescent_AdamSinks (hAdamSinks := hAdamSinks)
    ∧ quiescent_AdamSinksIdeal (hAdamSinksIdeal := hAdamSinksIdeal)
    ∧ quiescent_AdamSinksReferenceIdeal (hAdamSinksReferenceIdeal := hAdamSinksReferenceIdeal)
    ∧ quiescent_NormForward (hNormForward := hNormForward)
    ∧ quiescent_NormForwardIdeal (hNormForwardIdeal := hNormForwardIdeal)
    ∧ quiescent_NormForwardReferenceIdeal (hNormForwardReferenceIdeal := hNormForwardReferenceIdeal)
    ∧ quiescent_LossForward (hLossForward := hLossForward)
    ∧ quiescent_LossForwardIdeal (hLossForwardIdeal := hLossForwardIdeal)
    ∧ quiescent_LossForwardReferenceIdeal (hLossForwardReferenceIdeal := hLossForwardReferenceIdeal)
    ∧ quiescent_LossGradient (hLossGradient := hLossGradient)
    ∧ quiescent_LossGradientIdeal (hLossGradientIdeal := hLossGradientIdeal)
    ∧ quiescent_LossGradientReferenceIdeal (hLossGradientReferenceIdeal := hLossGradientReferenceIdeal)
    ∧ preserves_InputGradient_InputGradientIdeal
    ∧ algebraic_InputGradientIdeal_InputGradientReferenceIdeal (hInputGradientIdeal := hInputGradientIdeal) (hInputGradientReferenceIdeal := hInputGradientReferenceIdeal)
    ∧ preserves_QkvWeight_QkvWeightIdeal
    ∧ algebraic_QkvWeightIdeal_QkvWeightReferenceIdeal (hQkvWeightIdeal := hQkvWeightIdeal) (hQkvWeightReferenceIdeal := hQkvWeightReferenceIdeal)
    ∧ preserves_GateWeight_GateWeightIdeal
    ∧ algebraic_GateWeightIdeal_GateWeightReferenceIdeal (hGateWeightIdeal := hGateWeightIdeal) (hGateWeightReferenceIdeal := hGateWeightReferenceIdeal)
    ∧ preserves_SbBranchWeight_SbBranchWeightIdeal
    ∧ algebraic_SbBranchWeightIdeal_SbBranchWeightReferenceIdeal (hSbBranchWeightIdeal := hSbBranchWeightIdeal) (hSbBranchWeightReferenceIdeal := hSbBranchWeightReferenceIdeal)
    ∧ preserves_SwaBranchWeight_SwaBranchWeightIdeal
    ∧ algebraic_SwaBranchWeightIdeal_SwaBranchWeightReferenceIdeal (hSwaBranchWeightIdeal := hSwaBranchWeightIdeal) (hSwaBranchWeightReferenceIdeal := hSwaBranchWeightReferenceIdeal)
    ∧ preserves_OutWeight_OutWeightIdeal
    ∧ algebraic_OutWeightIdeal_OutWeightReferenceIdeal (hOutWeightIdeal := hOutWeightIdeal) (hOutWeightReferenceIdeal := hOutWeightReferenceIdeal)
    ∧ preserves_QkvProjection_QkvProjectionIdeal
    ∧ algebraic_QkvProjectionIdeal_QkvProjectionReferenceIdeal (hQkvProjectionIdeal := hQkvProjectionIdeal) (hQkvProjectionReferenceIdeal := hQkvProjectionReferenceIdeal)
    ∧ preserves_GateProjection_GateProjectionIdeal
    ∧ algebraic_GateProjectionIdeal_GateProjectionReferenceIdeal (hGateProjectionIdeal := hGateProjectionIdeal) (hGateProjectionReferenceIdeal := hGateProjectionReferenceIdeal)
    ∧ preserves_GatedMerge_GatedMergeIdeal
    ∧ algebraic_GatedMergeIdeal_GatedMergeReferenceIdeal (hGatedMergeIdeal := hGatedMergeIdeal) (hGatedMergeReferenceIdeal := hGatedMergeReferenceIdeal)
    ∧ preserves_MergeGradient_MergeGradientIdeal
    ∧ algebraic_MergeGradientIdeal_MergeGradientReferenceIdeal (hMergeGradientIdeal := hMergeGradientIdeal) (hMergeGradientReferenceIdeal := hMergeGradientReferenceIdeal) (hPre_finite := hPre_finite)
    ∧ preserves_AdamIn_AdamInIdeal
    ∧ algebraic_AdamInIdeal_AdamInReferenceIdeal (hAdamInIdeal := hAdamInIdeal) (hAdamInReferenceIdeal := hAdamInReferenceIdeal)
    ∧ preserves_AdamSbBranch_AdamSbBranchIdeal
    ∧ algebraic_AdamSbBranchIdeal_AdamSbBranchReferenceIdeal (hAdamSbBranchIdeal := hAdamSbBranchIdeal) (hAdamSbBranchReferenceIdeal := hAdamSbBranchReferenceIdeal)
    ∧ preserves_AdamSquare_AdamSquareIdeal
    ∧ algebraic_AdamSquareIdeal_AdamSquareReferenceIdeal (hAdamSquareIdeal := hAdamSquareIdeal) (hAdamSquareReferenceIdeal := hAdamSquareReferenceIdeal)
    ∧ preserves_AdamMeta_AdamMetaIdeal
    ∧ algebraic_AdamMetaIdeal_AdamMetaReferenceIdeal (hAdamMetaIdeal := hAdamMetaIdeal) (hAdamMetaReferenceIdeal := hAdamMetaReferenceIdeal)
    ∧ preserves_AdamGain_AdamGainIdeal
    ∧ algebraic_AdamGainIdeal_AdamGainReferenceIdeal (hAdamGainIdeal := hAdamGainIdeal) (hAdamGainReferenceIdeal := hAdamGainReferenceIdeal)
    ∧ preserves_AdamSinks_AdamSinksIdeal
    ∧ algebraic_AdamSinksIdeal_AdamSinksReferenceIdeal (hAdamSinksIdeal := hAdamSinksIdeal) (hAdamSinksReferenceIdeal := hAdamSinksReferenceIdeal)
    ∧ preserves_NormForward_NormForwardIdeal
    ∧ algebraic_NormForwardIdeal_NormForwardReferenceIdeal (hNormForwardIdeal := hNormForwardIdeal) (hNormForwardReferenceIdeal := hNormForwardReferenceIdeal)
    ∧ preserves_LossForward_LossForwardIdeal
    ∧ algebraic_LossForwardIdeal_LossForwardReferenceIdeal (hLossForwardIdeal := hLossForwardIdeal) (hLossForwardReferenceIdeal := hLossForwardReferenceIdeal)
    ∧ preserves_LossGradient_LossGradientIdeal
    ∧ algebraic_LossGradientIdeal_LossGradientReferenceIdeal (hLossGradientIdeal := hLossGradientIdeal) (hLossGradientReferenceIdeal := hLossGradientReferenceIdeal)
-- ==== Pre_finite.lean ====
abbrev S8320x512 : Shape := ⟨2, ![8320, 512]⟩
abbrev S8320x1024 : Shape := ⟨2, ![8320, 1024]⟩
abbrev S512x1024 : Shape := ⟨2, ![512, 1024]⟩
abbrev S1024x1024 : Shape := ⟨2, ![1024, 1024]⟩
abbrev S_ : Shape := ⟨0, ![]⟩

class Facts : Prop where
  bcast_S_S8320x512 : S_.BroadcastsInDim S8320x512 (![] : Fin 0 → Fin S8320x512.rank)
  bcast_S_S8320x1024 : S_.BroadcastsInDim S8320x1024 (![] : Fin 0 → Fin S8320x1024.rank)
  bcast_S_S512x1024 : S_.BroadcastsInDim S512x1024 (![] : Fin 0 → Fin S512x1024.rank)
  bcast_S_S1024x1024 : S_.BroadcastsInDim S1024x1024 (![] : Fin 0 → Fin S1024x1024.rank)

variable [Facts]

def fn {F : FTy → Type} [FloatOps F] (main_arg0 : FVec F S8320x512 .f32) (main_arg1 : FVec F S8320x1024 .f32) (main_arg2 : FVec F S8320x512 .f32) (main_arg3 : FVec F S8320x1024 .f32) (main_arg4 : FVec F S8320x1024 .f32) (main_arg5 : FVec F S8320x1024 .f32) (main_arg6 : FVec F S512x1024 .f32) (main_arg7 : FVec F S1024x1024 .f32) (main_arg8 : FVec F S1024x1024 .f32) (main_arg9 : FVec F S8320x1024 .f32) : IVec S8320x512 1 × IVec S8320x1024 1 × IVec S512x1024 1 × IVec S1024x1024 1 × IVec S1024x1024 1 × IVec S8320x1024 1 :=
  let main_v0 : FVec F S8320x512 .f32 := Host.absf main_arg0
  let main_cst : FVec F S_ .f32 := constant S_ .f32 0x7F800000#32
  let main_v1 : FVec F S8320x512 .f32 := broadcastInDim S8320x512 ![] bcast_S_S8320x512 main_cst
  let main_v2 : IVec S8320x512 1 := cmpf .olt main_v0 main_v1
  let main_v3 : FVec F S8320x1024 .f32 := Host.absf main_arg1
  let main_cst_0 : FVec F S_ .f32 := constant S_ .f32 0x7F800000#32
  let main_v4 : FVec F S8320x1024 .f32 := broadcastInDim S8320x1024 ![] bcast_S_S8320x1024 main_cst_0
  let main_v5 : IVec S8320x1024 1 := cmpf .olt main_v3 main_v4
  let main_v6 : FVec F S512x1024 .f32 := Host.absf main_arg6
  let main_cst_1 : FVec F S_ .f32 := constant S_ .f32 0x7F800000#32
  let main_v7 : FVec F S512x1024 .f32 := broadcastInDim S512x1024 ![] bcast_S_S512x1024 main_cst_1
  let main_v8 : IVec S512x1024 1 := cmpf .olt main_v6 main_v7
  let main_v9 : FVec F S1024x1024 .f32 := Host.absf main_arg7
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x1024 .f32 := Host.absf main_arg8
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S8320x1024 .f32 := Host.absf main_arg9
  let main_cst_4 : FVec F S_ .f32 := constant S_ .f32 0x7F800000#32
  let main_v16 : FVec F S8320x1024 .f32 := broadcastInDim S8320x1024 ![] bcast_S_S8320x1024 main_cst_4
  let main_v17 : IVec S8320x1024 1 := cmpf .olt main_v15 main_v16
  (main_v2, main_v5, main_v8, main_v11, main_v14, main_v17)
-- ==== InputGradient.lean ====
abbrev S8320x1024 : Shape := ⟨2, ![8320, 1024]⟩
abbrev S1024x6400 : Shape := ⟨2, ![1024, 6400]⟩
abbrev S8320x6400 : Shape := ⟨2, ![8320, 6400]⟩
abbrev S1024x1024 : Shape := ⟨2, ![1024, 1024]⟩
abbrev S1024x512 : Shape := ⟨2, ![1024, 512]⟩
abbrev S1024x128 : Shape := ⟨2, ![1024, 128]⟩
abbrev S1024x2816 : Shape := ⟨2, ![1024, 2816]⟩
abbrev S1024x3584 : Shape := ⟨2, ![1024, 3584]⟩
abbrev S8320x512 : Shape := ⟨2, ![8320, 512]⟩
abbrev S8320x128 : Shape := ⟨2, ![8320, 128]⟩
abbrev S8320x2816 : Shape := ⟨2, ![8320, 2816]⟩
abbrev S8320x3584 : Shape := ⟨2, ![8320, 3584]⟩
abbrev S2816x1024 : Shape := ⟨2, ![2816, 1024]⟩
abbrev S3584x1024 : Shape := ⟨2, ![3584, 1024]⟩
abbrev S320x2816 : Shape := ⟨2, ![320, 2816]⟩
abbrev S320x3584 : Shape := ⟨2, ![320, 3584]⟩
abbrev S320x1024 : Shape := ⟨2, ![320, 1024]⟩

abbrev nBuf : Space → Nat
  | .hbm => 32
  | .vmem => 8
  | .smem => 0
  | _ => 0

abbrev bufTy : (tb : Table) → Fin (tcTables nBuf tb) → BufTy
  | .hbm, ⟨0, _⟩ => ⟨S8320x1024, .f32⟩
  | .hbm, ⟨1, _⟩ => ⟨S1024x6400, .f32⟩
  | .hbm, ⟨2, _⟩ => ⟨S8320x6400, .f32⟩
  | .hbm, ⟨3, _⟩ => ⟨S1024x6400, .bf16⟩
  | .hbm, ⟨4, _⟩ => ⟨S1024x1024, .bf16⟩
  | .hbm, ⟨5, _⟩ => ⟨S1024x512, .bf16⟩
  | .hbm, ⟨6, _⟩ => ⟨S1024x512, .bf16⟩
  | .hbm, ⟨7, _⟩ => ⟨S1024x512, .bf16⟩
  | .hbm, ⟨8, _⟩ => ⟨S1024x128, .bf16⟩
  | .hbm, ⟨9, _⟩ => ⟨S1024x128, .bf16⟩
  | .hbm, ⟨10, _⟩ => ⟨S1024x2816, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x512, .bf16⟩
  | .hbm, ⟨15, _⟩ => ⟨S1024x3584, .bf16⟩
  | .hbm, ⟨16, _⟩ => ⟨S8320x6400, .bf16⟩
  | .hbm, ⟨17, _⟩ => ⟨S8320x1024, .bf16⟩
  | .hbm, ⟨18, _⟩ => ⟨S8320x512, .bf16⟩
  | .hbm, ⟨19, _⟩ => ⟨S8320x512, .bf16⟩
  | .hbm, ⟨20, _⟩ => ⟨S8320x512, .bf16⟩
  | .hbm, ⟨21, _⟩ => ⟨S8320x128, .bf16⟩
  | .hbm, ⟨22, _⟩ => ⟨S8320x128, .bf16⟩
  | .hbm, ⟨23, _⟩ => ⟨S8320x2816, .bf16⟩
  | .hbm, ⟨24, _⟩ => ⟨S8320x1024, .bf16⟩
  | .hbm, ⟨25, _⟩ => ⟨S8320x1024, .bf16⟩
  | .hbm, ⟨26, _⟩ => ⟨S8320x1024, .bf16⟩
  | .hbm, ⟨27, _⟩ => ⟨S8320x512, .bf16⟩
  | .hbm, ⟨28, _⟩ => ⟨S8320x3584, .bf16⟩
  | .hbm, ⟨29, _⟩ => ⟨S2816x1024, .bf16⟩
  | .hbm, ⟨30, _⟩ => ⟨S3584x1024, .bf16⟩
  | .hbm, ⟨31, _⟩ => ⟨S8320x1024, .f32⟩
  | .local _ .vmem, ⟨0, _⟩ => ⟨S320x2816, .bf16⟩
  | .local _ .vmem, ⟨1, _⟩ => ⟨S320x2816, .bf16⟩
  | .local _ .vmem, ⟨2, _⟩ => ⟨S2816x1024, .bf16⟩
  | .local _ .vmem, ⟨3, _⟩ => ⟨S320x3584, .bf16⟩
  | .local _ .vmem, ⟨4, _⟩ => ⟨S320x3584, .bf16⟩
  | .local _ .vmem, ⟨5, _⟩ => ⟨S3584x1024, .bf16⟩
  | .local _ .vmem, ⟨6, _⟩ => ⟨S320x1024, .f32⟩
  | .local _ .vmem, ⟨7, _⟩ => ⟨S320x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S320x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S320x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InputGradientReferenceIdeal.lean ====
abbrev S8320x1024 : Shape := ⟨2, ![8320, 1024]⟩
abbrev S1024x6400 : Shape := ⟨2, ![1024, 6400]⟩
abbrev S8320x6400 : Shape := ⟨2, ![8320, 6400]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x6400, .f32⟩
  | .hbm, ⟨2, _⟩ => ⟨S8320x6400, .f32⟩
  | .hbm, ⟨3, _⟩ => ⟨S8320x6400, .f32⟩
  | .hbm, ⟨4, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== QkvWeight.lean ====
abbrev S8320x1024 : Shape := ⟨2, ![8320, 1024]⟩
abbrev S1024x2816 : Shape := ⟨2, ![1024, 2816]⟩
abbrev S8320x2816 : Shape := ⟨2, ![8320, 2816]⟩
abbrev S640x1024 : Shape := ⟨2, ![640, 1024]⟩
abbrev S640x1408 : Shape := ⟨2, ![640, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x2816, .f32⟩
  | .hbm, ⟨2, _⟩ => ⟨S8320x2816, .f32⟩
  | .hbm, ⟨3, _⟩ => ⟨S8320x1024, .bf16⟩
  | .hbm, ⟨4, _⟩ => ⟨S8320x2816, .bf16⟩
  | .hbm, ⟨5, _⟩ => ⟨S1024x2816, .f32⟩
  | .local _ .vmem, ⟨0, _⟩ => ⟨S640x1024, .bf16⟩
  | .local _ .vmem, ⟨1, _⟩ => ⟨S640x1024, .bf16⟩
  | .local _ .vmem, ⟨2, _⟩ => ⟨S640x1408, .bf16⟩
  | .local _ .vmem, ⟨3, _⟩ => ⟨S640x1408, .bf16⟩
  | .local _ .vmem, ⟨4, _⟩ => ⟨S1024x1408, .f32⟩
  | .local _ .vmem, ⟨5, _⟩ => ⟨S1024x1408, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S640x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== QkvWeightReferenceIdeal.lean ====
abbrev S8320x1024 : Shape := ⟨2, ![8320, 1024]⟩
abbrev S1024x2816 : Shape := ⟨2, ![1024, 2816]⟩
abbrev S8320x2816 : Shape := ⟨2, ![8320, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x2816, .f32⟩
  | .hbm, ⟨2, _⟩ => ⟨S8320x2816, .f32⟩
  | .hbm, ⟨3, _⟩ => ⟨S8320x2816, .f32⟩
  | .hbm, ⟨4, _⟩ => ⟨S2816x1024, .f32⟩
  | .hbm, ⟨5, _⟩ => ⟨S1024x2816, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GateWeight.lean ====
abbrev S8320x1024 : Shape := ⟨2, ![8320, 1024]⟩
abbrev S1024x3584 : Shape := ⟨2, ![1024, 3584]⟩
abbrev S8320x3584 : Shape := ⟨2, ![8320, 3584]⟩
abbrev S640x1024 : Shape := ⟨2, ![640, 1024]⟩
abbrev S640x1792 : Shape := ⟨2, ![640, 1792]⟩
abbrev S1024x1792 : Shape := ⟨2, ![1024, 1792]⟩

abbrev nBuf : Space → Nat
  | .hbm => 6
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x3584, .f32⟩
  | .hbm, ⟨2, _⟩ => ⟨S8320x3584, .f32⟩
  | .hbm, ⟨3, _⟩ => ⟨S8320x1024, .bf16⟩
  | .hbm, ⟨4, _⟩ => ⟨S8320x3584, .bf16⟩
  | .hbm, ⟨5, _⟩ => ⟨S1024x3584, .f32⟩
  | .local _ .vmem, ⟨0, _⟩ => ⟨S640x1024, .bf16⟩
  | .local _ .vmem, ⟨1, _⟩ => ⟨S640x1024, .bf16⟩
  | .local _ .vmem, ⟨2, _⟩ => ⟨S640x1792, .bf16⟩
  | .local _ .vmem, ⟨3, _⟩ => ⟨S640x1792, .bf16⟩
  | .local _ .vmem, ⟨4, _⟩ => ⟨S1024x1792, .f32⟩
  | .local _ .vmem, ⟨5, _⟩ => ⟨S1024x1792, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S640x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateWeightReferenceIdeal.lean ====
abbrev S8320x1024 : Shape := ⟨2, ![8320, 1024]⟩
abbrev S1024x3584 : Shape := ⟨2, ![1024, 3584]⟩
abbrev S8320x3584 : Shape := ⟨2, ![8320, 3584]⟩
abbrev S3584x1024 : Shape := ⟨2, ![3584, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x3584, .f32⟩
  | .hbm, ⟨2, _⟩ => ⟨S8320x3584, .f32⟩
  | .hbm, ⟨3, _⟩ => ⟨S8320x3584, .f32⟩
  | .hbm, ⟨4, _⟩ => ⟨S3584x1024, .f32⟩
  | .hbm, ⟨5, _⟩ => ⟨S1024x3584, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SbBranchWeight.lean ====
abbrev S8320x512 : Shape := ⟨2, ![8320, 512]⟩
abbrev S512x1024 : Shape := ⟨2, ![512, 1024]⟩
abbrev S8320x1024 : Shape := ⟨2, ![8320, 1024]⟩
abbrev S640x512 : Shape := ⟨2, ![640, 512]⟩
abbrev S640x1024 : Shape := ⟨2, ![640, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8320x512, .f32⟩
  | .hbm, ⟨1, _⟩ => ⟨S512x1024, .f32⟩
  | .hbm, ⟨2, _⟩ => ⟨S8320x1024, .f32⟩
  | .hbm, ⟨3, _⟩ => ⟨S8320x512, .bf16⟩
  | .hbm, ⟨4, _⟩ => ⟨S8320x1024, .bf16⟩
  | .hbm, ⟨5, _⟩ => ⟨S512x1024, .f32⟩
  | .local _ .vmem, ⟨0, _⟩ => ⟨S640x512, .bf16⟩
  | .local _ .vmem, ⟨1, _⟩ => ⟨S640x512, .bf16⟩
  | .local _ .vmem, ⟨2, _⟩ => ⟨S640x1024, .bf16⟩
  | .local _ .vmem, ⟨3, _⟩ => ⟨S640x1024, .bf16⟩
  | .local _ .vmem, ⟨4, _⟩ => ⟨S512x1024, .f32⟩
  | _, _ => ⟨S8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== SbBranchWeightReferenceIdeal.lean ====
abbrev S8320x512 : Shape := ⟨2, ![8320, 512]⟩
abbrev S512x1024 : Shape := ⟨2, ![512, 1024]⟩
abbrev S8320x1024 : Shape := ⟨2, ![8320, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S8320x512, .f32⟩
  | .hbm, ⟨1, _⟩ => ⟨S512x1024, .f32⟩
  | .hbm, ⟨2, _⟩ => ⟨S8320x1024, .f32⟩
  | .hbm, ⟨3, _⟩ => ⟨S8320x1024, .f32⟩
  | .hbm, ⟨4, _⟩ => ⟨S1024x512, .f32⟩
  | .hbm, ⟨5, _⟩ => ⟨S512x1024, .f32⟩
  | _, _ => ⟨S8320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SwaBranchWeight.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .f32⟩
  | .hbm, ⟨3, _⟩ => ⟨S8320x1024, .bf16⟩
  | .hbm, ⟨4, _⟩ => ⟨S8320x1024, .bf16⟩
  | .hbm, ⟨5, _⟩ => ⟨S1024x1024, .f32⟩
  | .local _ .vmem, ⟨0, _⟩ => ⟨S640x1024, .bf16⟩
  | .local _ .vmem, ⟨1, _⟩ => ⟨S640x1024, .bf16⟩
  | .local _ .vmem, ⟨2, _⟩ => ⟨S640x1024, .bf16⟩
  | .local _ .vmem, ⟨3, _⟩ => ⟨S640x1024, .bf16⟩
  | .local _ .vmem, ⟨4, _⟩ => ⟨S1024x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== SwaBranchWeightReferenceIdeal.lean ====
abbrev S8320x1024 : Shape := ⟨2, ![8320, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .f32⟩
  | .hbm, ⟨3, _⟩ => ⟨S8320x1024, .f32⟩
  | .hbm, ⟨4, _⟩ => ⟨S1024x1024, .f32⟩
  | .hbm, ⟨5, _⟩ => ⟨S1024x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutWeight.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .f32⟩
  | .hbm, ⟨3, _⟩ => ⟨S8320x1024, .bf16⟩
  | .hbm, ⟨4, _⟩ => ⟨S1024x1024, .f32⟩
  | .local _ .vmem, ⟨0, _⟩ => ⟨S640x1024, .bf16⟩
  | .local _ .vmem, ⟨1, _⟩ => ⟨S640x1024, .bf16⟩
  | .local _ .vmem, ⟨2, _⟩ => ⟨S640x1024, .f32⟩
  | .local _ .vmem, ⟨3, _⟩ => ⟨S640x1024, .f32⟩
  | .local _ .vmem, ⟨4, _⟩ => ⟨S1024x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutWeightReferenceIdeal.lean ====
abbrev S8320x1024 : Shape := ⟨2, ![8320, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S8320x1024, .f32⟩
  | .hbm, ⟨3, _⟩ => ⟨S8320x1024, .f32⟩
  | .hbm, ⟨4, _⟩ => ⟨S1024x1024, .f32⟩
  | .hbm, ⟨5, _⟩ => ⟨S1024x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QkvProjection.lean ====
abbrev S8320x1024 : Shape := ⟨2, ![8320, 1024]⟩
abbrev S1024x2816 : Shape := ⟨2, ![1024, 2816]⟩
abbrev S8320x2816 : Shape := ⟨2, ![8320, 2816]⟩
abbrev S640x1024 : Shape := ⟨2, ![640, 1024]⟩
abbrev S1024x1408 : Shape := ⟨2, ![1024, 1408]⟩
abbrev S640x1408 : Shape := ⟨2, ![640, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x2816, .f32⟩
  | .hbm, ⟨2, _⟩ => ⟨S8320x1024, .bf16⟩
  | .hbm, ⟨3, _⟩ => ⟨S1024x2816, .bf16⟩
  | .hbm, ⟨4, _⟩ => ⟨S8320x2816, .f32⟩
  | .local _ .vmem, ⟨0, _⟩ => ⟨S640x1024, .bf16⟩
  | .local _ .vmem, ⟨1, _⟩ => ⟨S640x1024, .bf16⟩
  | .local _ .vmem, ⟨2, _⟩ => ⟨S1024x1408, .bf16⟩
  | .local _ .vmem, ⟨3, _⟩ => ⟨S1024x1408, .bf16⟩
  | .local _ .vmem, ⟨4, _⟩ => ⟨S640x1408, .f32⟩
  | .local _ .vmem, ⟨5, _⟩ => ⟨S640x1408, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvProjectionReferenceIdeal.lean ====
abbrev S8320x1024 : Shape := ⟨2, ![8320, 1024]⟩
abbrev S1024x2816 : Shape := ⟨2, ![1024, 2816]⟩
abbrev S8320x2816 : Shape := ⟨2, ![8320, 2816]⟩

abbrev nBuf : Space → Nat
  | .hbm => 3
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x2816, .f32⟩
  | .hbm, ⟨2, _⟩ => ⟨S8320x2816, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GateProjection.lean ====
abbrev S8320x1024 : Shape := ⟨2, ![8320, 1024]⟩
abbrev S1024x3584 : Shape := ⟨2, ![1024, 3584]⟩
abbrev S8320x3584 : Shape := ⟨2, ![8320, 3584]⟩
abbrev S640x1024 : Shape := ⟨2, ![640, 1024]⟩
abbrev S1024x1792 : Shape := ⟨2, ![1024, 1792]⟩
abbrev S640x1792 : Shape := ⟨2, ![640, 1792]⟩

abbrev nBuf : Space → Nat
  | .hbm => 5
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x3584, .f32⟩
  | .hbm, ⟨2, _⟩ => ⟨S8320x1024, .bf16⟩
  | .hbm, ⟨3, _⟩ => ⟨S1024x3584, .bf16⟩
  | .hbm, ⟨4, _⟩ => ⟨S8320x3584, .f32⟩
  | .local _ .vmem, ⟨0, _⟩ => ⟨S640x1024, .bf16⟩
  | .local _ .vmem, ⟨1, _⟩ => ⟨S640x1024, .bf16⟩
  | .local _ .vmem, ⟨2, _⟩ => ⟨S1024x1792, .bf16⟩
  | .local _ .vmem, ⟨3, _⟩ => ⟨S1024x1792, .bf16⟩
  | .local _ .vmem, ⟨4, _⟩ => ⟨S640x1792, .f32⟩
  | .local _ .vmem, ⟨5, _⟩ => ⟨S640x1792, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateProjectionReferenceIdeal.lean ====
abbrev S8320x1024 : Shape := ⟨2, ![8320, 1024]⟩
abbrev S1024x3584 : Shape := ⟨2, ![1024, 3584]⟩
abbrev S8320x3584 : Shape := ⟨2, ![8320, 3584]⟩

abbrev nBuf : Space → Nat
  | .hbm => 3
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x3584, .f32⟩
  | .hbm, ⟨2, _⟩ => ⟨S8320x3584, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GatedMerge.lean ====
abbrev S8320x512 : Shape := ⟨2, ![8320, 512]⟩
abbrev S8320x1024 : Shape := ⟨2, ![8320, 1024]⟩
abbrev S512x1024 : Shape := ⟨2, ![512, 1024]⟩
abbrev S1024x1024 : Shape := ⟨2, ![1024, 1024]⟩
abbrev S8320x3584 : Shape := ⟨2, ![8320, 3584]⟩
abbrev S320x512 : Shape := ⟨2, ![320, 512]⟩
abbrev S320x1024 : Shape := ⟨2, ![320, 1024]⟩

abbrev nBuf : Space → Nat
  | .hbm => 20
  | .vmem => 29
  | .smem => 0
  | _ => 0

abbrev bufTy : (tb : Table) → Fin (tcTables nBuf tb) → BufTy
  | .hbm, ⟨0, _⟩ => ⟨S8320x512, .f32⟩
  | .hbm, ⟨1, _⟩ => ⟨S8320x1024, .f32⟩
  | .hbm, ⟨2, _⟩ => ⟨S8320x512, .f32⟩
  | .hbm, ⟨3, _⟩ => ⟨S8320x1024, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S8320x3584, .f32⟩
  | .hbm, ⟨11, _⟩ => ⟨S512x1024, .bf16⟩
  | .hbm, ⟨12, _⟩ => ⟨S1024x1024, .bf16⟩
  | .hbm, ⟨13, _⟩ => ⟨S1024x1024, .bf16⟩
  | .hbm, ⟨14, _⟩ => ⟨S8320x1024, .f32⟩
  | .hbm, ⟨15, _⟩ => ⟨S8320x512, .bf16⟩
  | .hbm, ⟨16, _⟩ => ⟨S8320x1024, .bf16⟩
  | .hbm, ⟨17, _⟩ => ⟨S8320x1024, .bf16⟩
  | .hbm, ⟨18, _⟩ => ⟨S8320x1024, .f32⟩
  | .hbm, ⟨19, _⟩ => ⟨S8320x1024, .f32⟩
  | .local _ .vmem, ⟨0, _⟩ => ⟨S320x512, .f32⟩
  | .local _ .vmem, ⟨1, _⟩ => ⟨S320x512, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x1024, .f32⟩
  | .local _ .vmem, ⟨7, _⟩ => ⟨S320x1024, .f32⟩
  | .local _ .vmem, ⟨8, _⟩ => ⟨S320x1024, .f32⟩
  | .local _ .vmem, ⟨9, _⟩ => ⟨S320x1024, .f32⟩
  | .local _ .vmem, ⟨10, _⟩ => ⟨S320x512, .f32⟩
  | .local _ .vmem, ⟨11, _⟩ => ⟨S320x512, .f32⟩
  | .local _ .vmem, ⟨12, _⟩ => ⟨S320x1024, .f32⟩
  | .local _ .vmem, ⟨13, _⟩ => ⟨S320x1024, .f32⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S320x1024, .f32⟩
  | .local _ .vmem, ⟨18, _⟩ => ⟨S320x1024, .f32⟩
  | .local _ .vmem, ⟨19, _⟩ => ⟨S320x512, .bf16⟩
  | .local _ .vmem, ⟨20, _⟩ => ⟨S320x512, .bf16⟩
  | .local _ .vmem, ⟨21, _⟩ => ⟨S320x1024, .bf16⟩
  | .local _ .vmem, ⟨22, _⟩ => ⟨S320x1024, .bf16⟩
  | .local _ .vmem, ⟨23, _⟩ => ⟨S320x1024, .bf16⟩
  | .local _ .vmem, ⟨24, _⟩ => ⟨S320x1024, .bf16⟩
  | .local _ .vmem, ⟨25, _⟩ => ⟨S320x1024, .f32⟩
  | .local _ .vmem, ⟨26, _⟩ => ⟨S320x1024, .f32⟩
  | .local _ .vmem, ⟨27, _⟩ => ⟨S320x1024, .f32⟩
  | .local _ .vmem, ⟨28, _⟩ => ⟨S320x1024, .f32⟩
  | _, _ => ⟨S8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S320x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S320x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S320x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S320x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S320x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S320x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== GatedMergeReferenceIdeal.lean ====
abbrev S8320x512 : Shape := ⟨2, ![8320, 512]⟩
abbrev S8320x1024 : Shape := ⟨2, ![8320, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8320x512, .f32⟩
  | .hbm, ⟨1, _⟩ => ⟨S8320x1024, .f32⟩
  | .hbm, ⟨2, _⟩ => ⟨S8320x512, .f32⟩
  | .hbm, ⟨3, _⟩ => ⟨S8320x1024, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S8320x512, .f32⟩
  | .hbm, ⟨11, _⟩ => ⟨S8320x512, .f32⟩
  | .hbm, ⟨12, _⟩ => ⟨S_, .f32⟩
  | .hbm, ⟨13, _⟩ => ⟨S8320x512, .f32⟩
  | .hbm, ⟨14, _⟩ => ⟨S8320x512, .f32⟩
  | .hbm, ⟨15, _⟩ => ⟨S_, .f32⟩
  | .hbm, ⟨16, _⟩ => ⟨S8320x512, .f32⟩
  | .hbm, ⟨17, _⟩ => ⟨S8320x512, .f32⟩
  | .hbm, ⟨18, _⟩ => ⟨S8320x512, .f32⟩
  | .hbm, ⟨19, _⟩ => ⟨S8320x512, .f32⟩
  | .hbm, ⟨20, _⟩ => ⟨S8320x1024, .f32⟩
  | .hbm, ⟨21, _⟩ => ⟨S8320x1024, .f32⟩
  | .hbm, ⟨22, _⟩ => ⟨S_, .f32⟩
  | .hbm, ⟨23, _⟩ => ⟨S8320x1024, .f32⟩
  | .hbm, ⟨24, _⟩ => ⟨S8320x1024, .f32⟩
  | .hbm, ⟨25, _⟩ => ⟨S_, .f32⟩
  | .hbm, ⟨26, _⟩ => ⟨S8320x1024, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S8320x1024, .f32⟩
  | .hbm, ⟨34, _⟩ => ⟨S_, .f32⟩
  | .hbm, ⟨35, _⟩ => ⟨S8320x1024, .f32⟩
  | .hbm, ⟨36, _⟩ => ⟨S8320x1024, .f32⟩
  | .hbm, ⟨37, _⟩ => ⟨S_, .f32⟩
  | .hbm, ⟨38, _⟩ => ⟨S8320x1024, .f32⟩
  | .hbm, ⟨39, _⟩ => ⟨S8320x1024, .f32⟩
  | .hbm, ⟨40, _⟩ => ⟨S8320x1024, .f32⟩
  | .hbm, ⟨41, _⟩ => ⟨S8320x1024, .f32⟩
  | .hbm, ⟨42, _⟩ => ⟨S8320x1024, .f32⟩
  | .hbm, ⟨43, _⟩ => ⟨S_, .f32⟩
  | .hbm, ⟨44, _⟩ => ⟨S8320x1024, .f32⟩
  | .hbm, ⟨45, _⟩ => ⟨S8320x1024, .f32⟩
  | .hbm, ⟨46, _⟩ => ⟨S_, .f32⟩
  | .hbm, ⟨47, _⟩ => ⟨S8320x1024, .f32⟩
  | .hbm, ⟨48, _⟩ => ⟨S8320x1024, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S8320x1024, .f32⟩
  | .hbm, ⟨53, _⟩ => ⟨S8320x512, .bf16⟩
  | .hbm, ⟨54, _⟩ => ⟨S8320x1024, .bf16⟩
  | .hbm, ⟨55, _⟩ => ⟨S8320x1024, .bf16⟩
  | _, _ => ⟨S8320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_cst_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩

abbrev nD : Nat := 1
abbrev τ : Topo := Topo.v7x

variable {F : FTy → Type} [FloatOps F]
-- ==== MergeGradient.lean ====
abbrev S8320x512 : Shape := ⟨2, ![8320, 512]⟩
abbrev S8320x1024 : Shape := ⟨2, ![8320, 1024]⟩
abbrev S512x1024 : Shape := ⟨2, ![512, 1024]⟩
abbrev S1024x1024 : Shape := ⟨2, ![1024, 1024]⟩
abbrev S8320x3584 : Shape := ⟨2, ![8320, 3584]⟩
abbrev S_ : Shape := ⟨0, ![]⟩
abbrev S1024x512 : Shape := ⟨2, ![1024, 512]⟩
abbrev S320x1024 : Shape := ⟨2, ![320, 1024]⟩
abbrev S320x512 : Shape := ⟨2, ![320, 512]⟩
abbrev S320x3584 : Shape := ⟨2, ![320, 3584]⟩

abbrev nBuf : Space → Nat
  | .hbm => 44
  | .vmem => 31
  | .smem => 0
  | _ => 0

abbrev bufTy : (tb : Table) → Fin (tcTables nBuf tb) → BufTy
  | .hbm, ⟨0, _⟩ => ⟨S8320x512, .f32⟩
  | .hbm, ⟨1, _⟩ => ⟨S8320x1024, .f32⟩
  | .hbm, ⟨2, _⟩ => ⟨S8320x512, .f32⟩
  | .hbm, ⟨3, _⟩ => ⟨S8320x1024, .f32⟩
  | .hbm, ⟨4, _⟩ => ⟨S8320x1024, .f32⟩
  | .hbm, ⟨5, _⟩ => ⟨S8320x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S8320x1024, .f32⟩
  | .hbm, ⟨10, _⟩ => ⟨S8320x3584, .f32⟩
  | .hbm, ⟨11, _⟩ => ⟨S8320x512, .f32⟩
  | .hbm, ⟨12, _⟩ => ⟨S8320x512, .f32⟩
  | .hbm, ⟨13, _⟩ => ⟨S_, .f32⟩
  | .hbm, ⟨14, _⟩ => ⟨S8320x512, .f32⟩
  | .hbm, ⟨15, _⟩ => ⟨S8320x512, .f32⟩
  | .hbm, ⟨16, _⟩ => ⟨S_, .f32⟩
  | .hbm, ⟨17, _⟩ => ⟨S8320x512, .f32⟩
  | .hbm, ⟨18, _⟩ => ⟨S8320x512, .f32⟩
  | .hbm, ⟨19, _⟩ => ⟨S8320x512, .f32⟩
  | .hbm, ⟨20, _⟩ => ⟨S8320x512, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S_, .f32⟩
  | .hbm, ⟨25, _⟩ => ⟨S8320x1024, .f32⟩
  | .hbm, ⟨26, _⟩ => ⟨S8320x1024, .f32⟩
  | .hbm, ⟨27, _⟩ => ⟨S_, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S1024x1024, .bf16⟩
  | .hbm, ⟨34, _⟩ => ⟨S1024x1024, .bf16⟩
  | .hbm, ⟨35, _⟩ => ⟨S512x1024, .bf16⟩
  | .hbm, ⟨36, _⟩ => ⟨S1024x512, .bf16⟩
  | .hbm, ⟨37, _⟩ => ⟨S1024x1024, .bf16⟩
  | .hbm, ⟨38, _⟩ => ⟨S1024x1024, .bf16⟩
  | .hbm, ⟨39, _⟩ => ⟨S8320x1024, .bf16⟩
  | .hbm, ⟨40, _⟩ => ⟨S8320x1024, .bf16⟩
  | .hbm, ⟨41, _⟩ => ⟨S8320x512, .f32⟩
  | .hbm, ⟨42, _⟩ => ⟨S8320x1024, .f32⟩
  | .hbm, ⟨43, _⟩ => ⟨S8320x3584, .bf16⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x1024, .f32⟩
  | .local _ .vmem, ⟨7, _⟩ => ⟨S320x1024, .f32⟩
  | .local _ .vmem, ⟨8, _⟩ => ⟨S320x512, .f32⟩
  | .local _ .vmem, ⟨9, _⟩ => ⟨S320x512, .f32⟩
  | .local _ .vmem, ⟨10, _⟩ => ⟨S320x1024, .f32⟩
  | .local _ .vmem, ⟨11, _⟩ => ⟨S320x1024, .f32⟩
  | .local _ .vmem, ⟨12, _⟩ => ⟨S320x1024, .f32⟩
  | .local _ .vmem, ⟨13, _⟩ => ⟨S320x1024, .f32⟩
  | .local _ .vmem, ⟨14, _⟩ => ⟨S320x512, .f32⟩
  | .local _ .vmem, ⟨15, _⟩ => ⟨S320x512, .f32⟩
  | .local _ .vmem, ⟨16, _⟩ => ⟨S320x1024, .f32⟩
  | .local _ .vmem, ⟨17, _⟩ => ⟨S320x1024, .f32⟩
  | .local _ .vmem, ⟨18, _⟩ => ⟨S1024x1024, .bf16⟩
  | .local _ .vmem, ⟨19, _⟩ => ⟨S1024x512, .bf16⟩
  | .local _ .vmem, ⟨20, _⟩ => ⟨S1024x1024, .bf16⟩
  | .local _ .vmem, ⟨21, _⟩ => ⟨S320x1024, .bf16⟩
  | .local _ .vmem, ⟨22, _⟩ => ⟨S320x1024, .bf16⟩
  | .local _ .vmem, ⟨23, _⟩ => ⟨S320x1024, .bf16⟩
  | .local _ .vmem, ⟨24, _⟩ => ⟨S320x1024, .bf16⟩
  | .local _ .vmem, ⟨25, _⟩ => ⟨S320x512, .f32⟩
  | .local _ .vmem, ⟨26, _⟩ => ⟨S320x512, .f32⟩
  | .local _ .vmem, ⟨27, _⟩ => ⟨S320x1024, .f32⟩
  | .local _ .vmem, ⟨28, _⟩ => ⟨S320x1024, .f32⟩
  | .local _ .vmem, ⟨29, _⟩ => ⟨S320x3584, .bf16⟩
  | .local _ .vmem, ⟨30, _⟩ => ⟨S320x3584, .bf16⟩
  | _, _ => ⟨S8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13_0 : Ref sig .tc := ⟨.hbm, 39, rfl⟩
abbrev main_v13_1 : Ref sig .tc := ⟨.hbm, 40, rfl⟩
abbrev main_v13_2 : Ref sig .tc := ⟨.hbm, 41, rfl⟩
abbrev main_v13_3 : Ref sig .tc := ⟨.hbm, 42, rfl⟩
abbrev main_v13_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S320x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S320x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S320x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S320x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S320x3584 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeGradientReferenceIdeal.lean ====
abbrev S8320x512 : Shape := ⟨2, ![8320, 512]⟩
abbrev S8320x1024 : Shape := ⟨2, ![8320, 1024]⟩
abbrev S512x1024 : Shape := ⟨2, ![512, 1024]⟩
abbrev S1024x1024 : Shape := ⟨2, ![1024, 1024]⟩
abbrev S_ : Shape := ⟨0, ![]⟩
abbrev S8320x3584 : Shape := ⟨2, ![8320, 3584]⟩

abbrev nBuf : Space → Nat
  | .hbm => 93
  | .vmem => 0
  | .smem => 0
  | _ => 0

abbrev bufTy : (tb : Table) → Fin (tcTables nBuf tb) → BufTy
  | .hbm, ⟨0, _⟩ => ⟨S8320x512, .f32⟩
  | .hbm, ⟨1, _⟩ => ⟨S8320x1024, .f32⟩
  | .hbm, ⟨2, _⟩ => ⟨S8320x512, .f32⟩
  | .hbm, ⟨3, _⟩ => ⟨S8320x1024, .f32⟩
  | .hbm, ⟨4, _⟩ => ⟨S8320x1024, .f32⟩
  | .hbm, ⟨5, _⟩ => ⟨S8320x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S8320x1024, .f32⟩
  | .hbm, ⟨10, _⟩ => ⟨S8320x512, .f32⟩
  | .hbm, ⟨11, _⟩ => ⟨S8320x512, .f32⟩
  | .hbm, ⟨12, _⟩ => ⟨S_, .f32⟩
  | .hbm, ⟨13, _⟩ => ⟨S8320x512, .f32⟩
  | .hbm, ⟨14, _⟩ => ⟨S8320x512, .f32⟩
  | .hbm, ⟨15, _⟩ => ⟨S_, .f32⟩
  | .hbm, ⟨16, _⟩ => ⟨S8320x512, .f32⟩
  | .hbm, ⟨17, _⟩ => ⟨S8320x512, .f32⟩
  | .hbm, ⟨18, _⟩ => ⟨S_, .f32⟩
  | .hbm, ⟨19, _⟩ => ⟨S8320x512, .f32⟩
  | .hbm, ⟨20, _⟩ => ⟨S8320x512, .f32⟩
  | .hbm, ⟨21, _⟩ => ⟨S8320x512, .f32⟩
  | .hbm, ⟨22, _⟩ => ⟨S8320x512, .f32⟩
  | .hbm, ⟨23, _⟩ => ⟨S8320x512, .f32⟩
  | .hbm, ⟨24, _⟩ => ⟨S8320x1024, .f32⟩
  | .hbm, ⟨25, _⟩ => ⟨S8320x1024, .f32⟩
  | .hbm, ⟨26, _⟩ => ⟨S8320x1024, .f32⟩
  | .hbm, ⟨27, _⟩ => ⟨S_, .f32⟩
  | .hbm, ⟨28, _⟩ => ⟨S8320x1024, .f32⟩
  | .hbm, ⟨29, _⟩ => ⟨S8320x1024, .f32⟩
  | .hbm, ⟨30, _⟩ => ⟨S_, .f32⟩
  | .hbm, ⟨31, _⟩ => ⟨S8320x1024, .f32⟩
  | .hbm, ⟨32, _⟩ => ⟨S8320x1024, .f32⟩
  | .hbm, ⟨33, _⟩ => ⟨S_, .f32⟩
  | .hbm, ⟨34, _⟩ => ⟨S8320x1024, .f32⟩
  | .hbm, ⟨35, _⟩ => ⟨S8320x1024, .f32⟩
  | .hbm, ⟨36, _⟩ => ⟨S8320x1024, .f32⟩
  | .hbm, ⟨37, _⟩ => ⟨S8320x1024, .f32⟩
  | .hbm, ⟨38, _⟩ => ⟨S8320x1024, .f32⟩
  | .hbm, ⟨39, _⟩ => ⟨S8320x1024, .f32⟩
  | .hbm, ⟨40, _⟩ => ⟨S8320x1024, .f32⟩
  | .hbm, ⟨41, _⟩ => ⟨S8320x1024, .f32⟩
  | .hbm, ⟨42, _⟩ => ⟨S_, .f32⟩
  | .hbm, ⟨43, _⟩ => ⟨S8320x1024, .f32⟩
  | .hbm, ⟨44, _⟩ => ⟨S8320x1024, .f32⟩
  | .hbm, ⟨45, _⟩ => ⟨S_, .f32⟩
  | .hbm, ⟨46, _⟩ => ⟨S8320x1024, .f32⟩
  | .hbm, ⟨47, _⟩ => ⟨S8320x1024, .f32⟩
  | .hbm, ⟨48, _⟩ => ⟨S_, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S8320x1024, .f32⟩
  | .hbm, ⟨53, _⟩ => ⟨S8320x1024, .f32⟩
  | .hbm, ⟨54, _⟩ => ⟨S8320x1024, .f32⟩
  | .hbm, ⟨55, _⟩ => ⟨S_, .f32⟩
  | .hbm, ⟨56, _⟩ => ⟨S8320x1024, .f32⟩
  | .hbm, ⟨57, _⟩ => ⟨S8320x1024, .f32⟩
  | .hbm, ⟨58, _⟩ => ⟨S_, .f32⟩
  | .hbm, ⟨59, _⟩ => ⟨S8320x1024, .f32⟩
  | .hbm, ⟨60, _⟩ => ⟨S8320x1024, .f32⟩
  | .hbm, ⟨61, _⟩ => ⟨S_, .f32⟩
  | .hbm, ⟨62, _⟩ => ⟨S8320x1024, .f32⟩
  | .hbm, ⟨63, _⟩ => ⟨S8320x1024, .f32⟩
  | .hbm, ⟨64, _⟩ => ⟨S8320x1024, .f32⟩
  | .hbm, ⟨65, _⟩ => ⟨S8320x1024, .f32⟩
  | .hbm, ⟨66, _⟩ => ⟨S8320x1024, .f32⟩
  | .hbm, ⟨67, _⟩ => ⟨S8320x1024, .f32⟩
  | .hbm, ⟨68, _⟩ => ⟨S8320x1024, .f32⟩
  | .hbm, ⟨69, _⟩ => ⟨S8320x1024, .f32⟩
  | .hbm, ⟨70, _⟩ => ⟨S8320x1024, .f32⟩
  | .hbm, ⟨71, _⟩ => ⟨S8320x1024, .f32⟩
  | .hbm, ⟨72, _⟩ => ⟨S8320x1024, .f32⟩
  | .hbm, ⟨73, _⟩ => ⟨S8320x1024, .f32⟩
  | .hbm, ⟨74, _⟩ => ⟨S8320x1024, .f32⟩
  | .hbm, ⟨75, _⟩ => ⟨S8320x1024, .f32⟩
  | .hbm, ⟨76, _⟩ => ⟨S8320x1024, .f32⟩
  | .hbm, ⟨77, _⟩ => ⟨S8320x1024, .f32⟩
  | .hbm, ⟨78, _⟩ => ⟨S8320x1024, .f32⟩
  | .hbm, ⟨79, _⟩ => ⟨S8320x1024, .f32⟩
  | .hbm, ⟨80, _⟩ => ⟨S8320x1024, .f32⟩
  | .hbm, ⟨81, _⟩ => ⟨S8320x1024, .f32⟩
  | .hbm, ⟨82, _⟩ => ⟨S8320x512, .f32⟩
  | .hbm, ⟨83, _⟩ => ⟨S8320x512, .f32⟩
  | .hbm, ⟨84, _⟩ => ⟨S8320x512, .f32⟩
  | .hbm, ⟨85, _⟩ => ⟨S8320x512, .f32⟩
  | .hbm, ⟨86, _⟩ => ⟨S8320x512, .f32⟩
  | .hbm, ⟨87, _⟩ => ⟨S8320x512, .f32⟩
  | .hbm, ⟨88, _⟩ => ⟨S8320x512, .f32⟩
  | .hbm, ⟨89, _⟩ => ⟨S8320x3584, .f32⟩
  | .hbm, ⟨90, _⟩ => ⟨S8320x1024, .bf16⟩
  | .hbm, ⟨91, _⟩ => ⟨S8320x1024, .bf16⟩
  | .hbm, ⟨92, _⟩ => ⟨S8320x3584, .bf16⟩
  | _, _ => ⟨S8320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v0_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v0_1 : Ref sig .tc := ⟨.hbm, 21, rfl⟩
abbrev main_v0_0 : Ref sig .tc := ⟨.hbm, 22, rfl⟩
abbrev main_v1 : Ref sig .tc := ⟨.hbm, 23, rfl⟩
abbrev main_v2 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_v3_2 : Ref sig .tc := ⟨.hbm, 32, rfl⟩
abbrev main_call1_cst_1 : Ref sig .tc := ⟨.hbm, 33, rfl⟩
abbrev main_call1_v6 : Ref sig .tc := ⟨.hbm, 34, rfl⟩
abbrev main_call1_v7 : Ref sig .tc := ⟨.hbm, 35, rfl⟩
abbrev main_v3_1 : Ref sig .tc := ⟨.hbm, 36, rfl⟩
abbrev main_v3_0 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst : Ref sig .tc := ⟨.hbm, 42, rfl⟩
abbrev main_v8 : Ref sig .tc := ⟨.hbm, 43, rfl⟩
abbrev main_v9 : Ref sig .tc := ⟨.hbm, 44, rfl⟩
abbrev main_cst_0 : Ref sig .tc := ⟨.hbm, 45, rfl⟩
abbrev main_v10 : Ref sig .tc := ⟨.hbm, 46, rfl⟩
abbrev main_v11 : Ref sig .tc := ⟨.hbm, 47, rfl⟩
abbrev main_cst_1 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_cst_2 : Ref sig .tc := ⟨.hbm, 55, rfl⟩
abbrev main_v18 : Ref sig .tc := ⟨.hbm, 56, rfl⟩
abbrev main_v19 : Ref sig .tc := ⟨.hbm, 57, rfl⟩
abbrev main_cst_3 : Ref sig .tc := ⟨.hbm, 58, rfl⟩
abbrev main_v20 : Ref sig .tc := ⟨.hbm, 59, rfl⟩
abbrev main_v21 : Ref sig .tc := ⟨.hbm, 60, rfl⟩
abbrev main_cst_4 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩

abbrev nD : Nat := 1
abbrev τ : Topo := Topo.v7x

variable {F : FTy → Type} [FloatOps F]
-- ==== AdamIn.lean ====
abbrev S1024x1600 : Shape := ⟨2, ![1024, 1600]⟩
abbrev S256x1600 : Shape := ⟨2, ![256, 1600]⟩

abbrev nBuf : Space → Nat
  | .hbm => 7
  | .vmem => 14
  | .smem => 0
  | _ => 0

abbrev bufTy : (tb : Table) → Fin (tcTables nBuf tb) → BufTy
  | .hbm, ⟨0, _⟩ => ⟨S1024x1600, .f32⟩
  | .hbm, ⟨1, _⟩ => ⟨S1024x1600, .f32⟩
  | .hbm, ⟨2, _⟩ => ⟨S1024x1600, .f32⟩
  | .hbm, ⟨3, _⟩ => ⟨S1024x1600, .f32⟩
  | .hbm, ⟨4, _⟩ => ⟨S1024x1600, .f32⟩
  | .hbm, ⟨5, _⟩ => ⟨S1024x1600, .f32⟩
  | .hbm, ⟨6, _⟩ => ⟨S1024x1600, .f32⟩
  | .local _ .vmem, ⟨0, _⟩ => ⟨S256x1600, .f32⟩
  | .local _ .vmem, ⟨1, _⟩ => ⟨S256x1600, .f32⟩
  | .local _ .vmem, ⟨2, _⟩ => ⟨S256x1600, .f32⟩
  | .local _ .vmem, ⟨3, _⟩ => ⟨S256x1600, .f32⟩
  | .local _ .vmem, ⟨4, _⟩ => ⟨S256x1600, .f32⟩
  | .local _ .vmem, ⟨5, _⟩ => ⟨S256x1600, .f32⟩
  | .local _ .vmem, ⟨6, _⟩ => ⟨S256x1600, .f32⟩
  | .local _ .vmem, ⟨7, _⟩ => ⟨S256x1600, .f32⟩
  | .local _ .vmem, ⟨8, _⟩ => ⟨S256x1600, .f32⟩
  | .local _ .vmem, ⟨9, _⟩ => ⟨S256x1600, .f32⟩
  | .local _ .vmem, ⟨10, _⟩ => ⟨S256x1600, .f32⟩
  | .local _ .vmem, ⟨11, _⟩ => ⟨S256x1600, .f32⟩
  | .local _ .vmem, ⟨12, _⟩ => ⟨S256x1600, .f32⟩
  | .local _ .vmem, ⟨13, _⟩ => ⟨S256x1600, .f32⟩
  | _, _ => ⟨S1024x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x1600 : Shape := ⟨2, ![1024, 1600]⟩
abbrev S256x1600 : Shape := ⟨2, ![256, 1600]⟩

abbrev nBuf : Space → Nat
  | .hbm => 7
  | .vmem => 14
  | .smem => 0
  | _ => 0

abbrev bufTy : (tb : Table) → Fin (tcTables nBuf tb) → BufTy
  | .hbm, ⟨0, _⟩ => ⟨S1024x1600, .f32⟩
  | .hbm, ⟨1, _⟩ => ⟨S1024x1600, .f32⟩
  | .hbm, ⟨2, _⟩ => ⟨S1024x1600, .f32⟩
  | .hbm, ⟨3, _⟩ => ⟨S1024x1600, .f32⟩
  | .hbm, ⟨4, _⟩ => ⟨S1024x1600, .f32⟩
  | .hbm, ⟨5, _⟩ => ⟨S1024x1600, .f32⟩
  | .hbm, ⟨6, _⟩ => ⟨S1024x1600, .f32⟩
  | .local _ .vmem, ⟨0, _⟩ => ⟨S256x1600, .f32⟩
  | .local _ .vmem, ⟨1, _⟩ => ⟨S256x1600, .f32⟩
  | .local _ .vmem, ⟨2, _⟩ => ⟨S256x1600, .f32⟩
  | .local _ .vmem, ⟨3, _⟩ => ⟨S256x1600, .f32⟩
  | .local _ .vmem, ⟨4, _⟩ => ⟨S256x1600, .f32⟩
  | .local _ .vmem, ⟨5, _⟩ => ⟨S256x1600, .f32⟩
  | .local _ .vmem, ⟨6, _⟩ => ⟨S256x1600, .f32⟩
  | .local _ .vmem, ⟨7, _⟩ => ⟨S256x1600, .f32⟩
  | .local _ .vmem, ⟨8, _⟩ => ⟨S256x1600, .f32⟩
  | .local _ .vmem, ⟨9, _⟩ => ⟨S256x1600, .f32⟩
  | .local _ .vmem, ⟨10, _⟩ => ⟨S256x1600, .f32⟩
  | .local _ .vmem, ⟨11, _⟩ => ⟨S256x1600, .f32⟩
  | .local _ .vmem, ⟨12, _⟩ => ⟨S256x1600, .f32⟩
  | .local _ .vmem, ⟨13, _⟩ => ⟨S256x1600, .f32⟩
  | _, _ => ⟨S1024x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S1024x1600 : Shape := ⟨2, ![1024, 1600]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1600, .f32⟩
  | .hbm, ⟨1, _⟩ => ⟨S1024x1600, .f32⟩
  | .hbm, ⟨2, _⟩ => ⟨S1024x1600, .f32⟩
  | .hbm, ⟨3, _⟩ => ⟨S1024x1600, .f32⟩
  | .hbm, ⟨4, _⟩ => ⟨S_, .f32⟩
  | .hbm, ⟨5, _⟩ => ⟨S1024x1600, .f32⟩
  | .hbm, ⟨6, _⟩ => ⟨S1024x1600, .f32⟩
  | .hbm, ⟨7, _⟩ => ⟨S_, .f32⟩
  | .hbm, ⟨8, _⟩ => ⟨S1024x1600, .f32⟩
  | .hbm, ⟨9, _⟩ => ⟨S1024x1600, .f32⟩
  | .hbm, ⟨10, _⟩ => ⟨S1024x1600, .f32⟩
  | .hbm, ⟨11, _⟩ => ⟨S_, .f32⟩
  | .hbm, ⟨12, _⟩ => ⟨S1024x1600, .f32⟩
  | .hbm, ⟨13, _⟩ => ⟨S1024x1600, .f32⟩
  | .hbm, ⟨14, _⟩ => ⟨S1024x1600, .f32⟩
  | .hbm, ⟨15, _⟩ => ⟨S_, .f32⟩
  | .hbm, ⟨16, _⟩ => ⟨S1024x1600, .f32⟩
  | .hbm, ⟨17, _⟩ => ⟨S1024x1600, .f32⟩
  | .hbm, ⟨18, _⟩ => ⟨S1024x1600, .f32⟩
  | .hbm, ⟨19, _⟩ => ⟨S_, .f32⟩
  | .hbm, ⟨20, _⟩ => ⟨S1024x1600, .f32⟩
  | .hbm, ⟨21, _⟩ => ⟨S1024x1600, .f32⟩
  | .hbm, ⟨22, _⟩ => ⟨S_, .f32⟩
  | .hbm, ⟨23, _⟩ => ⟨S1024x1600, .f32⟩
  | .hbm, ⟨24, _⟩ => ⟨S1024x1600, .f32⟩
  | .hbm, ⟨25, _⟩ => ⟨S1024x1600, .f32⟩
  | .hbm, ⟨26, _⟩ => ⟨S_, .f32⟩
  | .hbm, ⟨27, _⟩ => ⟨S1024x1600, .f32⟩
  | .hbm, ⟨28, _⟩ => ⟨S1024x1600, .f32⟩
  | .hbm, ⟨29, _⟩ => ⟨S1024x1600, .f32⟩
  | .hbm, ⟨30, _⟩ => ⟨S_, .f32⟩
  | .hbm, ⟨31, _⟩ => ⟨S1024x1600, .f32⟩
  | .hbm, ⟨32, _⟩ => ⟨S1024x1600, .f32⟩
  | .hbm, ⟨33, _⟩ => ⟨S1024x1600, .f32⟩
  | .hbm, ⟨34, _⟩ => ⟨S_, .f32⟩
  | .hbm, ⟨35, _⟩ => ⟨S1024x1600, .f32⟩
  | .hbm, ⟨36, _⟩ => ⟨S1024x1600, .f32⟩
  | _, _ => ⟨S1024x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSbBranch.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSbBranchIdeal.lean ====
abbrev S512x256 : Shape := ⟨2, ![512, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSbBranchReferenceIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMeta.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMetaIdeal.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMetaReferenceIdeal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGain.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainReferenceIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSinks.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSinksReferenceIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormForward.lean ====
abbrev S8320x1024 : Shape := ⟨2, ![8320, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormForwardReferenceIdeal.lean ====
abbrev S8320x1024 : Shape := ⟨2, ![8320, 1024]⟩
abbrev S1x1024 : Shape := ⟨2, ![1, 1024]⟩
abbrev S1024 : Shape := ⟨1, ![1024]⟩
abbrev S_ : Shape := ⟨0, ![]⟩
abbrev S8320 : Shape := ⟨1, ![8320]⟩
abbrev S8320x1 : Shape := ⟨2, ![8320, 1]⟩

abbrev nBuf : Space → Nat
  | .hbm => 20
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S1x1024, .f32⟩
  | .hbm, ⟨17, _⟩ => ⟨S8320x1024, .f32⟩
  | .hbm, ⟨18, _⟩ => ⟨S8320x1024, .f32⟩
  | .hbm, ⟨19, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== LossForward.lean ====
abbrev S8320x1024 : Shape := ⟨2, ![8320, 1024]⟩
abbrev S8192x1024 : Shape := ⟨2, ![8192, 1024]⟩
abbrev S1x1024 : Shape := ⟨2, ![1, 1024]⟩
abbrev S1x128 : Shape := ⟨2, ![1, 128]⟩
abbrev S128x1024 : Shape := ⟨2, ![128, 1024]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8320x1024, .f32⟩
  | .hbm, ⟨1, _⟩ => ⟨S8192x1024, .f32⟩
  | .hbm, ⟨2, _⟩ => ⟨S1x1024, .f32⟩
  | .hbm, ⟨3, _⟩ => ⟨S8320x1024, .f32⟩
  | .hbm, ⟨4, _⟩ => ⟨S1x128, .f32⟩
  | .hbm, ⟨5, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S128x1024, .f32⟩
  | .local _ .vmem, ⟨6, _⟩ => ⟨S128x1024, .f32⟩
  | .local _ .vmem, ⟨7, _⟩ => ⟨S1x128, .f32⟩
  | .local _ .vmem, ⟨8, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossForwardReferenceIdeal.lean ====
abbrev S8320x1024 : Shape := ⟨2, ![8320, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S8192 : Shape := ⟨1, ![8192]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S1x1024, .f32⟩
  | .hbm, ⟨18, _⟩ => ⟨S8320x1024, .f32⟩
  | .hbm, ⟨19, _⟩ => ⟨S8320x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8320x1024, .f32⟩
  | .hbm, ⟨46, _⟩ => ⟨S8320x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S1x128, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== LossGradient.lean ====
abbrev S8320x1024 : Shape := ⟨2, ![8320, 1024]⟩
abbrev S8192x1024 : Shape := ⟨2, ![8192, 1024]⟩
abbrev S1x1024 : Shape := ⟨2, ![1, 1024]⟩
abbrev S1x128 : Shape := ⟨2, ![1, 128]⟩
abbrev S128x1024 : Shape := ⟨2, ![128, 1024]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8320x1024, .f32⟩
  | .hbm, ⟨1, _⟩ => ⟨S8192x1024, .f32⟩
  | .hbm, ⟨2, _⟩ => ⟨S1x1024, .f32⟩
  | .hbm, ⟨3, _⟩ => ⟨S8320x1024, .f32⟩
  | .hbm, ⟨4, _⟩ => ⟨S1x128, .f32⟩
  | .hbm, ⟨5, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S128x1024, .f32⟩
  | .local _ .vmem, ⟨6, _⟩ => ⟨S128x1024, .f32⟩
  | .local _ .vmem, ⟨7, _⟩ => ⟨S1x128, .f32⟩
  | .local _ .vmem, ⟨8, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossGradientReferenceIdeal.lean ====
abbrev S8320x1024 : Shape := ⟨2, ![8320, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S8192 : Shape := ⟨1, ![8192]⟩

abbrev nBuf : Space → Nat
  | .hbm => 69
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1024, .f32⟩
  | .hbm, ⟨20, _⟩ => ⟨S8320x1024, .f32⟩
  | .hbm, ⟨21, _⟩ => ⟨S1x1024, .f32⟩
  | .hbm, ⟨22, _⟩ => ⟨S8320x1024, .f32⟩
  | .hbm, ⟨23, _⟩ => ⟨S8320x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8320x1024, .f32⟩
  | .hbm, ⟨50, _⟩ => ⟨S8320x1024, .f32⟩
  | .hbm, ⟨51, _⟩ => ⟨S8320x1024, .f32⟩
  | .hbm, ⟨52, _⟩ => ⟨S8320x1024, .f32⟩
  | .hbm, ⟨53, _⟩ => ⟨S_, .f32⟩
  | .hbm, ⟨54, _⟩ => ⟨S8320, .f32⟩
  | .hbm, ⟨55, _⟩ => ⟨S8320x1, .f32⟩
  | .hbm, ⟨56, _⟩ => ⟨S8320x1024, .f32⟩
  | .hbm, ⟨57, _⟩ => ⟨S8320x1024, .f32⟩
  | .hbm, ⟨58, _⟩ => ⟨S8320x1, .f32⟩
  | .hbm, ⟨59, _⟩ => ⟨S_, .f32⟩
  | .hbm, ⟨60, _⟩ => ⟨S8320x1, .f32⟩
  | .hbm, ⟨61, _⟩ => ⟨S8320x1, .f32⟩
  | .hbm, ⟨62, _⟩ => ⟨S_, .f32⟩
  | .hbm, ⟨63, _⟩ => ⟨S8320, .f32⟩
  | .hbm, ⟨64, _⟩ => ⟨S8320x1024, .f32⟩
  | .hbm, ⟨65, _⟩ => ⟨S8320x1024, .f32⟩
  | .hbm, ⟨66, _⟩ => ⟨S8320x1024, .f32⟩
  | .hbm, ⟨67, _⟩ => ⟨S8320x1024, .f32⟩
  | .hbm, ⟨68, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.Dots.lean ====
/-
  Products at the extended reals: one entry of a product with a single contracted axis as a sum over that axis, and a
  sum over consecutive blocks of rows as the sum over all the rows.
-/
module

public import Idealize.ShloMosaic.PureOps.Ideal
public import Idealize.ShloMosaic.Lib.ValueIdx
public import Idealize.ShloMosaic.Lib.Pipeline.Value

@[expose] public section

noncomputable section

namespace Cert.Dots

open Idealize.ShloMosaic Idealize.ShloMosaic.ValueIdx
open scoped BigOperators

/-- An entry of a product: what was there plus the sum over the contracted axis, the operands read where `f` and `g`
    say. -/
theorem matmul_at {sl sr so : Shape} (D : DotDims sl sr so) (n : ℕ) (hr : D.contr.rank = 1)
    (hs : D.contr.size ⟨0, by omega⟩ = n) (lhs : sl.Idx → EReal) (rhs : sr.Idx → EReal) (acc : so.Idx → EReal) (j : so.Idx)
    (f : Fin n → sl.Idx) (g : Fin n → sr.Idx) (hf : ∀ k : D.contr.Idx, D.lhsIdx j k = f ((contrEquiv1 D n hr hs) k))
    (hg : ∀ k : D.contr.Idx, D.rhsIdx j k = g ((contrEquiv1 D n hr hs) k)) :
    Ideal.matmul D lhs rhs acc j = acc j + ∑ k : Fin n, lhs (f k) * rhs (g k) := by
  unfold Ideal.matmul
  rw [← Equiv.sum_comp (contrEquiv1 D n hr hs)]
  congr 1
  exact Finset.sum_congr rfl fun k _ => by rw [hf, hg]

/-- A sum over consecutive blocks of `T` is the sum over all of them. -/
theorem sum_blocks (T : ℕ) (f : ℕ → EReal) : ∀ n : ℕ, ∑ s ∈ Finset.range n, ∑ k ∈ Finset.range T, f (s * T + k) = ∑ r ∈ Finset.range (n * T), f r
  | 0 => by simp
  | n + 1 => by rw [Finset.sum_range_succ, sum_blocks T f n, Nat.succ_mul, Finset.sum_range_add]

/-- A sum over `n + m` terms in two stretches. -/
theorem sum_two (n m : ℕ) (f : ℕ → EReal) : ∑ r ∈ Finset.range (n + m), f r = ∑ r ∈ Finset.range n, f r + ∑ r ∈ Finset.range m, f (n + r) :=
  Finset.sum_range_add ..

/-- The zero word of the wide format is the number zero. -/
theorem ofBits_zero : Ideal.ofBits .f32 0x00000000#32 = 0 := by simp [Ideal.ofBits, Ideal.ieee]

/-- An array of two axes read at numbers, zero outside it. -/
def at2 {R C : ℕ} (a : (⟨2, ![R, C]⟩ : Shape).Idx → EReal) (r c : ℕ) : EReal :=
  if h : r < R ∧ c < C then a (ix2 ⟨r, h.1⟩ ⟨c, h.2⟩) else 0

/-- Inside, it is the array. -/
theorem at2_eq {R C : ℕ} (a : (⟨2, ![R, C]⟩ : Shape).Idx → EReal) (i : (⟨2, ![R, C]⟩ : Shape).Idx) (r c : ℕ) (hr : (i 0).val = r) (hc : (i 1).val = c) :
    a i = at2 a r c := by
  have h0 : (i 0).val < R := (i 0).isLt
  have h1 : (i 1).val < C := (i 1).isLt
  unfold at2
  rw [dif_pos ⟨hr ▸ h0, hc ▸ h1⟩]
  congr 1
  funext x
  match x with
  | ⟨0, _⟩ => exact Fin.ext hr
  | ⟨1, _⟩ => exact Fin.ext hc

/-- The column of the whole projection that column `k` of the query, key and value group is. -/
def qcol (k : ℕ) : ℕ :=
  if k < 1024 then 1536 + (k - 0) else if k < 1536 then 0 + (k - 1024) else if k < 2048 then 512 + (k - 1536) else if k < 2560 then 1024 + (k - 2048) else if k < 2688 then 2560 + (k - 2560) else 2688 + (k - 2688)

/-- The column of the whole projection that column `k` of the gates' group is. -/
def gcol (k : ℕ) : ℕ :=
  if k < 1024 then 3328 + (k - 0) else if k < 2048 then 4352 + (k - 1024) else if k < 3072 then 5376 + (k - 2048) else 2816 + (k - 3072)

/-- The query, key and value columns put side by side, read at an index. -/
theorem group_q {R : ℕ} (X : (⟨2, ![R, 6400]⟩ : Shape).Idx → EReal) (h0 : (⟨2, ![R, 6400]⟩ : Shape).Slices ![0, 1536] (⟨2, ![R, 1024]⟩ : Shape)) (h1 : (⟨2, ![R, 6400]⟩ : Shape).Slices ![0, 0] (⟨2, ![R, 512]⟩ : Shape)) (h2 : (⟨2, ![R, 6400]⟩ : Shape).Slices ![0, 512] (⟨2, ![R, 512]⟩ : Shape)) (h3 : (⟨2, ![R, 6400]⟩ : Shape).Slices ![0, 1024] (⟨2, ![R, 512]⟩ : Shape)) (h4 : (⟨2, ![R, 6400]⟩ : Shape).Slices ![0, 2560] (⟨2, ![R, 128]⟩ : Shape)) (h5 : (⟨2, ![R, 6400]⟩ : Shape).Slices ![0, 2688] (⟨2, ![R, 128]⟩ : Shape))
    (hc : Shape.Concatenates [(⟨2, ![R, 1024]⟩ : Shape), (⟨2, ![R, 512]⟩ : Shape), (⟨2, ![R, 512]⟩ : Shape), (⟨2, ![R, 512]⟩ : Shape), (⟨2, ![R, 128]⟩ : Shape), (⟨2, ![R, 128]⟩ : Shape)] (⟨2, ![R, 2816]⟩ : Shape) 1) (j : (⟨2, ![R, 2816]⟩ : Shape).Idx) :
    concatenate (⟨2, ![R, 2816]⟩ : Shape) 1 [⟨(⟨2, ![R, 1024]⟩ : Shape), extractStridedSlice (⟨2, ![R, 1024]⟩ : Shape) ![0, 1536] X h0⟩, ⟨(⟨2, ![R, 512]⟩ : Shape), extractStridedSlice (⟨2, ![R, 512]⟩ : Shape) ![0, 0] X h1⟩, ⟨(⟨2, ![R, 512]⟩ : Shape), extractStridedSlice (⟨2, ![R, 512]⟩ : Shape) ![0, 512] X h2⟩, ⟨(⟨2, ![R, 512]⟩ : Shape), extractStridedSlice (⟨2, ![R, 512]⟩ : Shape) ![0, 1024] X h3⟩, ⟨(⟨2, ![R, 128]⟩ : Shape), extractStridedSlice (⟨2, ![R, 128]⟩ : Shape) ![0, 2560] X h4⟩, ⟨(⟨2, ![R, 128]⟩ : Shape), extractStridedSlice (⟨2, ![R, 128]⟩ : Shape) ![0, 2688] X h5⟩] hc j
      = at2 X (j 0).val (qcol (j 1).val) := by
  have hj : (j 1).val < 2816 := (j 1).isLt
  by_cases c0 : (j 1).val < 1024
  · refine (concatenate_apply_piece 1 [⟨(⟨2, ![R, 1024]⟩ : Shape), extractStridedSlice (⟨2, ![R, 1024]⟩ : Shape) ![0, 1536] X h0⟩, ⟨(⟨2, ![R, 512]⟩ : Shape), extractStridedSlice (⟨2, ![R, 512]⟩ : Shape) ![0, 0] X h1⟩, ⟨(⟨2, ![R, 512]⟩ : Shape), extractStridedSlice (⟨2, ![R, 512]⟩ : Shape) ![0, 512] X h2⟩, ⟨(⟨2, ![R, 512]⟩ : Shape), extractStridedSlice (⟨2, ![R, 512]⟩ : Shape) ![0, 1024] X h3⟩, ⟨(⟨2, ![R, 128]⟩ : Shape), extractStridedSlice (⟨2, ![R, 128]⟩ : Shape) ![0, 2560] X h4⟩, ⟨(⟨2, ![R, 128]⟩ : Shape), extractStridedSlice (⟨2, ![R, 128]⟩ : Shape) ![0, 2688] X h5⟩] hc j 0 (by simp) (⟨2, ![R, 1024]⟩ : Shape) (extractStridedSlice (⟨2, ![R, 1024]⟩ : Shape) ![0, 1536] X h0) rfl rfl 0 (by simp)
      (ix2 (j 0) ⟨(j 1).val - 0, by omega⟩) (fun b hb => by match b with | ⟨0, _⟩ => rfl | ⟨1, _⟩ => exact absurd rfl hb) (by show 0 + ((j 1).val - 0) = (j 1).val; omega)).trans ?_
    unfold extractStridedSlice
    exact at2_eq X _ _ _ (by show 0 + (j 0).val = _; omega) (by show 1536 + ((j 1).val - 0) = qcol (j 1).val; unfold qcol; split_ifs <;> omega)
  by_cases c1 : (j 1).val < 1536
  · refine (concatenate_apply_piece 1 [⟨(⟨2, ![R, 1024]⟩ : Shape), extractStridedSlice (⟨2, ![R, 1024]⟩ : Shape) ![0, 1536] X h0⟩, ⟨(⟨2, ![R, 512]⟩ : Shape), extractStridedSlice (⟨2, ![R, 512]⟩ : Shape) ![0, 0] X h1⟩, ⟨(⟨2, ![R, 512]⟩ : Shape), extractStridedSlice (⟨2, ![R, 512]⟩ : Shape) ![0, 512] X h2⟩, ⟨(⟨2, ![R, 512]⟩ : Shape), extractStridedSlice (⟨2, ![R, 512]⟩ : Shape) ![0, 1024] X h3⟩, ⟨(⟨2, ![R, 128]⟩ : Shape), extractStridedSlice (⟨2, ![R, 128]⟩ : Shape) ![0, 2560] X h4⟩, ⟨(⟨2, ![R, 128]⟩ : Shape), extractStridedSlice (⟨2, ![R, 128]⟩ : Shape) ![0, 2688] X h5⟩] hc j 1 (by simp) (⟨2, ![R, 512]⟩ : Shape) (extractStridedSlice (⟨2, ![R, 512]⟩ : Shape) ![0, 0] X h1) rfl rfl 1024 (by simp)
      (ix2 (j 0) ⟨(j 1).val - 1024, by omega⟩) (fun b hb => by match b with | ⟨0, _⟩ => rfl | ⟨1, _⟩ => exact absurd rfl hb) (by show 1024 + ((j 1).val - 1024) = (j 1).val; omega)).trans ?_
    unfold extractStridedSlice
    exact at2_eq X _ _ _ (by show 0 + (j 0).val = _; omega) (by show 0 + ((j 1).val - 1024) = qcol (j 1).val; unfold qcol; split_ifs <;> omega)
  by_cases c2 : (j 1).val < 2048
  · refine (concatenate_apply_piece 1 [⟨(⟨2, ![R, 1024]⟩ : Shape), extractStridedSlice (⟨2, ![R, 1024]⟩ : Shape) ![0, 1536] X h0⟩, ⟨(⟨2, ![R, 512]⟩ : Shape), extractStridedSlice (⟨2, ![R, 512]⟩ : Shape) ![0, 0] X h1⟩, ⟨(⟨2, ![R, 512]⟩ : Shape), extractStridedSlice (⟨2, ![R, 512]⟩ : Shape) ![0, 512] X h2⟩, ⟨(⟨2, ![R, 512]⟩ : Shape), extractStridedSlice (⟨2, ![R, 512]⟩ : Shape) ![0, 1024] X h3⟩, ⟨(⟨2, ![R, 128]⟩ : Shape), extractStridedSlice (⟨2, ![R, 128]⟩ : Shape) ![0, 2560] X h4⟩, ⟨(⟨2, ![R, 128]⟩ : Shape), extractStridedSlice (⟨2, ![R, 128]⟩ : Shape) ![0, 2688] X h5⟩] hc j 2 (by simp) (⟨2, ![R, 512]⟩ : Shape) (extractStridedSlice (⟨2, ![R, 512]⟩ : Shape) ![0, 512] X h2) rfl rfl 1536 (by simp)
      (ix2 (j 0) ⟨(j 1).val - 1536, by omega⟩) (fun b hb => by match b with | ⟨0, _⟩ => rfl | ⟨1, _⟩ => exact absurd rfl hb) (by show 1536 + ((j 1).val - 1536) = (j 1).val; omega)).trans ?_
    unfold extractStridedSlice
    exact at2_eq X _ _ _ (by show 0 + (j 0).val = _; omega) (by show 512 + ((j 1).val - 1536) = qcol (j 1).val; unfold qcol; split_ifs <;> omega)
  by_cases c3 : (j 1).val < 2560
  · refine (concatenate_apply_piece 1 [⟨(⟨2, ![R, 1024]⟩ : Shape), extractStridedSlice (⟨2, ![R, 1024]⟩ : Shape) ![0, 1536] X h0⟩, ⟨(⟨2, ![R, 512]⟩ : Shape), extractStridedSlice (⟨2, ![R, 512]⟩ : Shape) ![0, 0] X h1⟩, ⟨(⟨2, ![R, 512]⟩ : Shape), extractStridedSlice (⟨2, ![R, 512]⟩ : Shape) ![0, 512] X h2⟩, ⟨(⟨2, ![R, 512]⟩ : Shape), extractStridedSlice (⟨2, ![R, 512]⟩ : Shape) ![0, 1024] X h3⟩, ⟨(⟨2, ![R, 128]⟩ : Shape), extractStridedSlice (⟨2, ![R, 128]⟩ : Shape) ![0, 2560] X h4⟩, ⟨(⟨2, ![R, 128]⟩ : Shape), extractStridedSlice (⟨2, ![R, 128]⟩ : Shape) ![0, 2688] X h5⟩] hc j 3 (by simp) (⟨2, ![R, 512]⟩ : Shape) (extractStridedSlice (⟨2, ![R, 512]⟩ : Shape) ![0, 1024] X h3) rfl rfl 2048 (by simp)
      (ix2 (j 0) ⟨(j 1).val - 2048, by omega⟩) (fun b hb => by match b with | ⟨0, _⟩ => rfl | ⟨1, _⟩ => exact absurd rfl hb) (by show 2048 + ((j 1).val - 2048) = (j 1).val; omega)).trans ?_
    unfold extractStridedSlice
    exact at2_eq X _ _ _ (by show 0 + (j 0).val = _; omega) (by show 1024 + ((j 1).val - 2048) = qcol (j 1).val; unfold qcol; split_ifs <;> omega)
  by_cases c4 : (j 1).val < 2688
  · refine (concatenate_apply_piece 1 [⟨(⟨2, ![R, 1024]⟩ : Shape), extractStridedSlice (⟨2, ![R, 1024]⟩ : Shape) ![0, 1536] X h0⟩, ⟨(⟨2, ![R, 512]⟩ : Shape), extractStridedSlice (⟨2, ![R, 512]⟩ : Shape) ![0, 0] X h1⟩, ⟨(⟨2, ![R, 512]⟩ : Shape), extractStridedSlice (⟨2, ![R, 512]⟩ : Shape) ![0, 512] X h2⟩, ⟨(⟨2, ![R, 512]⟩ : Shape), extractStridedSlice (⟨2, ![R, 512]⟩ : Shape) ![0, 1024] X h3⟩, ⟨(⟨2, ![R, 128]⟩ : Shape), extractStridedSlice (⟨2, ![R, 128]⟩ : Shape) ![0, 2560] X h4⟩, ⟨(⟨2, ![R, 128]⟩ : Shape), extractStridedSlice (⟨2, ![R, 128]⟩ : Shape) ![0, 2688] X h5⟩] hc j 4 (by simp) (⟨2, ![R, 128]⟩ : Shape) (extractStridedSlice (⟨2, ![R, 128]⟩ : Shape) ![0, 2560] X h4) rfl rfl 2560 (by simp)
      (ix2 (j 0) ⟨(j 1).val - 2560, by omega⟩) (fun b hb => by match b with | ⟨0, _⟩ => rfl | ⟨1, _⟩ => exact absurd rfl hb) (by show 2560 + ((j 1).val - 2560) = (j 1).val; omega)).trans ?_
    unfold extractStridedSlice
    exact at2_eq X _ _ _ (by show 0 + (j 0).val = _; omega) (by show 2560 + ((j 1).val - 2560) = qcol (j 1).val; unfold qcol; split_ifs <;> omega)
  · refine (concatenate_apply_piece 1 [⟨(⟨2, ![R, 1024]⟩ : Shape), extractStridedSlice (⟨2, ![R, 1024]⟩ : Shape) ![0, 1536] X h0⟩, ⟨(⟨2, ![R, 512]⟩ : Shape), extractStridedSlice (⟨2, ![R, 512]⟩ : Shape) ![0, 0] X h1⟩, ⟨(⟨2, ![R, 512]⟩ : Shape), extractStridedSlice (⟨2, ![R, 512]⟩ : Shape) ![0, 512] X h2⟩, ⟨(⟨2, ![R, 512]⟩ : Shape), extractStridedSlice (⟨2, ![R, 512]⟩ : Shape) ![0, 1024] X h3⟩, ⟨(⟨2, ![R, 128]⟩ : Shape), extractStridedSlice (⟨2, ![R, 128]⟩ : Shape) ![0, 2560] X h4⟩, ⟨(⟨2, ![R, 128]⟩ : Shape), extractStridedSlice (⟨2, ![R, 128]⟩ : Shape) ![0, 2688] X h5⟩] hc j 5 (by simp) (⟨2, ![R, 128]⟩ : Shape) (extractStridedSlice (⟨2, ![R, 128]⟩ : Shape) ![0, 2688] X h5) rfl rfl 2688 (by simp)
    (ix2 (j 0) ⟨(j 1).val - 2688, by omega⟩) (fun b hb => by match b with | ⟨0, _⟩ => rfl | ⟨1, _⟩ => exact absurd rfl hb) (by show 2688 + ((j 1).val - 2688) = (j 1).val; omega)).trans ?_
    unfold extractStridedSlice
    exact at2_eq X _ _ _ (by show 0 + (j 0).val = _; omega) (by show 2688 + ((j 1).val - 2688) = qcol (j 1).val; unfold qcol; split_ifs <;> omega)

/-- The gates' columns put side by side, read at an index. -/
theorem group_g {R : ℕ} (X : (⟨2, ![R, 6400]⟩ : Shape).Idx → EReal) (h0 : (⟨2, ![R, 6400]⟩ : Shape).Slices ![0, 3328] (⟨2, ![R, 1024]⟩ : Shape)) (h1 : (⟨2, ![R, 6400]⟩ : Shape).Slices ![0, 4352] (⟨2, ![R, 1024]⟩ : Shape)) (h2 : (⟨2, ![R, 6400]⟩ : Shape).Slices ![0, 5376] (⟨2, ![R, 1024]⟩ : Shape)) (h3 : (⟨2, ![R, 6400]⟩ : Shape).Slices ![0, 2816] (⟨2, ![R, 512]⟩ : Shape))
    (hc : Shape.Concatenates [(⟨2, ![R, 1024]⟩ : Shape), (⟨2, ![R, 1024]⟩ : Shape), (⟨2, ![R, 1024]⟩ : Shape), (⟨2, ![R, 512]⟩ : Shape)] (⟨2, ![R, 3584]⟩ : Shape) 1) (j : (⟨2, ![R, 3584]⟩ : Shape).Idx) :
    concatenate (⟨2, ![R, 3584]⟩ : Shape) 1 [⟨(⟨2, ![R, 1024]⟩ : Shape), extractStridedSlice (⟨2, ![R, 1024]⟩ : Shape) ![0, 3328] X h0⟩, ⟨(⟨2, ![R, 1024]⟩ : Shape), extractStridedSlice (⟨2, ![R, 1024]⟩ : Shape) ![0, 4352] X h1⟩, ⟨(⟨2, ![R, 1024]⟩ : Shape), extractStridedSlice (⟨2, ![R, 1024]⟩ : Shape) ![0, 5376] X h2⟩, ⟨(⟨2, ![R, 512]⟩ : Shape), extractStridedSlice (⟨2, ![R, 512]⟩ : Shape) ![0, 2816] X h3⟩] hc j
      = at2 X (j 0).val (gcol (j 1).val) := by
  have hj : (j 1).val < 3584 := (j 1).isLt
  by_cases c0 : (j 1).val < 1024
  · refine (concatenate_apply_piece 1 [⟨(⟨2, ![R, 1024]⟩ : Shape), extractStridedSlice (⟨2, ![R, 1024]⟩ : Shape) ![0, 3328] X h0⟩, ⟨(⟨2, ![R, 1024]⟩ : Shape), extractStridedSlice (⟨2, ![R, 1024]⟩ : Shape) ![0, 4352] X h1⟩, ⟨(⟨2, ![R, 1024]⟩ : Shape), extractStridedSlice (⟨2, ![R, 1024]⟩ : Shape) ![0, 5376] X h2⟩, ⟨(⟨2, ![R, 512]⟩ : Shape), extractStridedSlice (⟨2, ![R, 512]⟩ : Shape) ![0, 2816] X h3⟩] hc j 0 (by simp) (⟨2, ![R, 1024]⟩ : Shape) (extractStridedSlice (⟨2, ![R, 1024]⟩ : Shape) ![0, 3328] X h0) rfl rfl 0 (by simp)
      (ix2 (j 0) ⟨(j 1).val - 0, by omega⟩) (fun b hb => by match b with | ⟨0, _⟩ => rfl | ⟨1, _⟩ => exact absurd rfl hb) (by show 0 + ((j 1).val - 0) = (j 1).val; omega)).trans ?_
    unfold extractStridedSlice
    exact at2_eq X _ _ _ (by show 0 + (j 0).val = _; omega) (by show 3328 + ((j 1).val - 0) = gcol (j 1).val; unfold gcol; split_ifs <;> omega)
  by_cases c1 : (j 1).val < 2048
  · refine (concatenate_apply_piece 1 [⟨(⟨2, ![R, 1024]⟩ : Shape), extractStridedSlice (⟨2, ![R, 1024]⟩ : Shape) ![0, 3328] X h0⟩, ⟨(⟨2, ![R, 1024]⟩ : Shape), extractStridedSlice (⟨2, ![R, 1024]⟩ : Shape) ![0, 4352] X h1⟩, ⟨(⟨2, ![R, 1024]⟩ : Shape), extractStridedSlice (⟨2, ![R, 1024]⟩ : Shape) ![0, 5376] X h2⟩, ⟨(⟨2, ![R, 512]⟩ : Shape), extractStridedSlice (⟨2, ![R, 512]⟩ : Shape) ![0, 2816] X h3⟩] hc j 1 (by simp) (⟨2, ![R, 1024]⟩ : Shape) (extractStridedSlice (⟨2, ![R, 1024]⟩ : Shape) ![0, 4352] X h1) rfl rfl 1024 (by simp)
      (ix2 (j 0) ⟨(j 1).val - 1024, by omega⟩) (fun b hb => by match b with | ⟨0, _⟩ => rfl | ⟨1, _⟩ => exact absurd rfl hb) (by show 1024 + ((j 1).val - 1024) = (j 1).val; omega)).trans ?_
    unfold extractStridedSlice
    exact at2_eq X _ _ _ (by show 0 + (j 0).val = _; omega) (by show 4352 + ((j 1).val - 1024) = gcol (j 1).val; unfold gcol; split_ifs <;> omega)
  by_cases c2 : (j 1).val < 3072
  · refine (concatenate_apply_piece 1 [⟨(⟨2, ![R, 1024]⟩ : Shape), extractStridedSlice (⟨2, ![R, 1024]⟩ : Shape) ![0, 3328] X h0⟩, ⟨(⟨2, ![R, 1024]⟩ : Shape), extractStridedSlice (⟨2, ![R, 1024]⟩ : Shape) ![0, 4352] X h1⟩, ⟨(⟨2, ![R, 1024]⟩ : Shape), extractStridedSlice (⟨2, ![R, 1024]⟩ : Shape) ![0, 5376] X h2⟩, ⟨(⟨2, ![R, 512]⟩ : Shape), extractStridedSlice (⟨2, ![R, 512]⟩ : Shape) ![0, 2816] X h3⟩] hc j 2 (by simp) (⟨2, ![R, 1024]⟩ : Shape) (extractStridedSlice (⟨2, ![R, 1024]⟩ : Shape) ![0, 5376] X h2) rfl rfl 2048 (by simp)
      (ix2 (j 0) ⟨(j 1).val - 2048, by omega⟩) (fun b hb => by match b with | ⟨0, _⟩ => rfl | ⟨1, _⟩ => exact absurd rfl hb) (by show 2048 + ((j 1).val - 2048) = (j 1).val; omega)).trans ?_
    unfold extractStridedSlice
    exact at2_eq X _ _ _ (by show 0 + (j 0).val = _; omega) (by show 5376 + ((j 1).val - 2048) = gcol (j 1).val; unfold gcol; split_ifs <;> omega)
  · refine (concatenate_apply_piece 1 [⟨(⟨2, ![R, 1024]⟩ : Shape), extractStridedSlice (⟨2, ![R, 1024]⟩ : Shape) ![0, 3328] X h0⟩, ⟨(⟨2, ![R, 1024]⟩ : Shape), extractStridedSlice (⟨2, ![R, 1024]⟩ : Shape) ![0, 4352] X h1⟩, ⟨(⟨2, ![R, 1024]⟩ : Shape), extractStridedSlice (⟨2, ![R, 1024]⟩ : Shape) ![0, 5376] X h2⟩, ⟨(⟨2, ![R, 512]⟩ : Shape), extractStridedSlice (⟨2, ![R, 512]⟩ : Shape) ![0, 2816] X h3⟩] hc j 3 (by simp) (⟨2, ![R, 512]⟩ : Shape) (extractStridedSlice (⟨2, ![R, 512]⟩ : Shape) ![0, 2816] X h3) rfl rfl 3072 (by simp)
    (ix2 (j 0) ⟨(j 1).val - 3072, by omega⟩) (fun b hb => by match b with | ⟨0, _⟩ => rfl | ⟨1, _⟩ => exact absurd rfl hb) (by show 3072 + ((j 1).val - 3072) = (j 1).val; omega)).trans ?_
    unfold extractStridedSlice
    exact at2_eq X _ _ _ (by show 0 + (j 0).val = _; omega) (by show 2816 + ((j 1).val - 3072) = gcol (j 1).val; unfold gcol; split_ifs <;> omega)

/-- A stretch of a sum. -/
def stretch (f : ℕ → EReal) (off len : ℕ) : EReal := ∑ k ∈ Finset.range len, f (off + k)

/-- Two stretches in a row. -/
theorem stretch_add (f : ℕ → EReal) (off a b : ℕ) : stretch f off (a + b) = stretch f off a + stretch f (off + a) b := by
  unfold stretch
  rw [Finset.sum_range_add]
  congr 1
  exact Finset.sum_congr rfl fun k _ => by rw [Nat.add_assoc]

/-- A stretch read through a table that runs along with it. -/
theorem stretch_eq (f : ℕ → EReal) (g : ℕ → ℕ) (off tgt len : ℕ) (h : ∀ k < len, g (off + k) = tgt + k) :
    stretch (fun k => f (g k)) off len = stretch f tgt len :=
  Finset.sum_congr rfl fun k hk => congrArg f (h k (Finset.mem_range.mp hk))

/-- A sum over the first group's columns, in stretches of the whole. -/
theorem sum_q (f : ℕ → EReal) : ∑ k ∈ Finset.range 2816, f (qcol k) = stretch f 1536 1024 + stretch f 0 512 + stretch f 512 512 + stretch f 1024 512 + stretch f 2560 128 + stretch f 2688 128 := by
  have e : ∑ k ∈ Finset.range 2816, f (qcol k) = stretch (fun k => f (qcol k)) 0 2816 :=
    Finset.sum_congr rfl fun k _ => by rw [Nat.zero_add]
  rw [e, show 2816 = 1024 + 512 + 512 + 512 + 128 + 128 from rfl]
  simp only [stretch_add, Nat.zero_add]
  norm_num only [Nat.reduceAdd]
  rw [stretch_eq f qcol (0) 1536 1024 (fun k hk => by unfold qcol; split_ifs <;> omega),
    stretch_eq f qcol (1024) 0 512 (fun k hk => by unfold qcol; split_ifs <;> omega),
    stretch_eq f qcol (1536) 512 512 (fun k hk => by unfold qcol; split_ifs <;> omega),
    stretch_eq f qcol (2048) 1024 512 (fun k hk => by unfold qcol; split_ifs <;> omega),
    stretch_eq f qcol (2560) 2560 128 (fun k hk => by unfold qcol; split_ifs <;> omega),
    stretch_eq f qcol (2688) 2688 128 (fun k hk => by unfold qcol; split_ifs <;> omega)]

/-- A sum over the gates' columns, in stretches of the whole. -/
theorem sum_g (f : ℕ → EReal) : ∑ k ∈ Finset.range 3584, f (gcol k) = stretch f 3328 1024 + stretch f 4352 1024 + stretch f 5376 1024 + stretch f 2816 512 := by
  have e : ∑ k ∈ Finset.range 3584, f (gcol k) = stretch (fun k => f (gcol k)) 0 3584 :=
    Finset.sum_congr rfl fun k _ => by rw [Nat.zero_add]
  rw [e, show 3584 = 1024 + 1024 + 1024 + 512 from rfl]
  simp only [stretch_add, Nat.zero_add]
  norm_num only [Nat.reduceAdd]
  rw [stretch_eq f gcol (0) 3328 1024 (fun k hk => by unfold gcol; split_ifs <;> omega),
    stretch_eq f gcol (1024) 4352 1024 (fun k hk => by unfold gcol; split_ifs <;> omega),
    stretch_eq f gcol (2048) 5376 1024 (fun k hk => by unfold gcol; split_ifs <;> omega),
    stretch_eq f gcol (3072) 2816 512 (fun k hk => by unfold gcol; split_ifs <;> omega)]

/-- The two groups together are all the columns. -/
theorem sum_groups (f : ℕ → EReal) : ∑ k ∈ Finset.range 2816, f (qcol k) + ∑ k ∈ Finset.range 3584, f (gcol k) = ∑ k ∈ Finset.range 6400, f k := by
  have e : ∑ k ∈ Finset.range 6400, f k = stretch f 0 6400 := Finset.sum_congr rfl fun k _ => by rw [Nat.zero_add]
  rw [sum_q, sum_g, e, show 6400 = 512 + 512 + 512 + 1024 + 128 + 128 + 512 + 1024 + 1024 + 1024 from rfl]
  simp only [stretch_add, Nat.zero_add]
  norm_num only [Nat.reduceAdd]
  abel

end Cert.Dots

end
-- ==== Proof.InputSum.lean ====
/-
  The gradient of the input of the projection: the kernel adds two products, over the columns of the queries, keys and
  values and over the gates' columns, each regrouped; together they are the one product over all 6400 columns.
-/
module

public import proofs.«01_k».proof.Proof.Gen.InputGradientIdeal.Value
public import proofs.«01_k».proof.Proof.Gen.InputGradientReferenceIdeal.Run
public import proofs.«01_k».proof.Proof.Dots
public import proofs.«01_k».proof.Defs

@[expose] public section

set_option maxRecDepth 16384

noncomputable section

namespace Cert.InputGradientIdeal.Sum

open Cert.InputGradientIdeal Cert.InputGradientIdeal.Gen Cert.InputGradientIdeal.Value Cert.Dots
open Idealize.ShloMosaic Idealize.ShloMosaic.TcCoe Idealize.ShloMosaic.ValueIdx Idealize.SL.Sem
open scoped BigOperators

/-- An operation of six operands leaves its function of the six contents, each read at its own place. -/
theorem six_result {τ : Topo} {sig : RefSig} {Val : EltTy → Type} {x a b c d e y : Ref sig .tc}
    (f : ((k : Fin 6) → ((![x, a, b, c, d, e] : Fin 6 → Ref sig .tc) k).ty.Contents Val) → y.ty.Contents Val) (hxs hy)
    (F : Valuation τ sig Val) :
    (StableHlo.nary (τ := τ) ![x, a, b, c, d, e] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc d)) (Fin.cons (F (Proc.devRef .tc e)) (fun i => i.elim0))))))) := by
  rw [StableHlo.nary_result]; congr 1; funext k; fin_cases k <;> rfl

variable (m : (ℓ : Loc nD τ sig) → Buf (Elt Ideal) ℓ)

/-- The projection's weight, as it stands at launch. -/
abbrev A (c : Dev nD) : S1024x6400.Idx → EReal := m ((c : Thread nD τ).loc main_arg1)
/-- The cotangent of the projection. -/
abbrev B (c : Dev nD) : S8320x6400.Idx → EReal := m ((c : Thread nD τ).loc main_arg2)

/-- The cotangent's first group. -/
theorem V20_at (c : Dev nD) : @Eq (S8320x2816.Idx → EReal) (V m c main_v20) (fun j => at2 (B m c) (j 0).val (qcol (j 1).val)) := by
  show StableHlo.after (hostOps0 (F := Ideal)) _ _ = _
  unfold hostOps0
  simp only [StableHlo.after_cons, StableHlo.after_nil]
  simp only [↓ StableHlo.readResult, ↓ StableHlo.readPieces]
  rw [six_result]
  simp only [↓ StableHlo.readResult, ↓ StableHlo.readPieces]
  funext j
  exact group_q (B m c) slices_S8320x6400_S8320x1024_0_1536 slices_S8320x6400_S8320x512_0_0 slices_S8320x6400_S8320x512_0_512 slices_S8320x6400_S8320x512_0_1024 slices_S8320x6400_S8320x128_0_2560 slices_S8320x6400_S8320x128_0_2688 concatenates_S8320x1024_S8320x512_S8320x512_S8320x512_S8320x128_S8320x128_S8320x2816_d1 j

/-- The cotangent's gates. -/
theorem V25_at (c : Dev nD) : @Eq (S8320x3584.Idx → EReal) (V m c main_v25) (fun j => at2 (B m c) (j 0).val (gcol (j 1).val)) := by
  show StableHlo.after (hostOps0 (F := Ideal)) _ _ = _
  unfold hostOps0
  simp only [StableHlo.after_cons, StableHlo.after_nil]
  simp only [↓ StableHlo.readResult, ↓ StableHlo.readPieces]
  rw [StableHlo.nary4_result]
  simp only [↓ StableHlo.readResult, ↓ StableHlo.readPieces]
  funext j
  exact group_g (B m c) slices_S8320x6400_S8320x1024_0_3328 slices_S8320x6400_S8320x1024_0_4352 slices_S8320x6400_S8320x1024_0_5376 slices_S8320x6400_S8320x512_0_2816 concatenates_S8320x1024_S8320x1024_S8320x1024_S8320x512_S8320x3584_d1 j

/-- The weight's first group, on its side. -/
theorem V26_at (c : Dev nD) : @Eq (S2816x1024.Idx → EReal) (V m c main_v26) (fun j => at2 (A m c) (j 1).val (qcol (j 0).val)) := by
  show StableHlo.after (hostOps0 (F := Ideal)) _ _ = _
  unfold hostOps0
  simp only [StableHlo.after_cons, StableHlo.after_nil]
  simp only [↓ StableHlo.readResult, ↓ StableHlo.readPieces]
  rw [six_result]
  simp only [↓ StableHlo.readResult, ↓ StableHlo.readPieces]
  funext j
  refine (transpose_apply (s := S1024x2816) (t := S2816x1024) [1, 0] _ _ j (ix2 (j 1) (j 0)) (fun x => by match x with | ⟨0, _⟩ => rfl | ⟨1, _⟩ => rfl)).trans ?_
  exact group_q (A m c) slices_S1024x6400_S1024x1024_0_1536 slices_S1024x6400_S1024x512_0_0 slices_S1024x6400_S1024x512_0_512 slices_S1024x6400_S1024x512_0_1024 slices_S1024x6400_S1024x128_0_2560 slices_S1024x6400_S1024x128_0_2688 concatenates_S1024x1024_S1024x512_S1024x512_S1024x512_S1024x128_S1024x128_S1024x2816_d1 (ix2 (j 1) (j 0))

/-- The weight's gates, on their side. -/
theorem V27_at (c : Dev nD) : @Eq (S3584x1024.Idx → EReal) (V m c main_v27) (fun j => at2 (A m c) (j 1).val (gcol (j 0).val)) := by
  show StableHlo.after (hostOps0 (F := Ideal)) _ _ = _
  unfold hostOps0
  simp only [StableHlo.after_cons, StableHlo.after_nil]
  simp only [↓ StableHlo.readResult, ↓ StableHlo.readPieces]
  rw [StableHlo.nary4_result]
  simp only [↓ StableHlo.readResult, ↓ StableHlo.readPieces]
  funext j
  refine (transpose_apply (s := S1024x3584) (t := S3584x1024) [1, 0] _ _ j (ix2 (j 1) (j 0)) (fun x => by match x with | ⟨0, _⟩ => rfl | ⟨1, _⟩ => rfl)).trans ?_
  exact group_g (A m c) slices_S1024x6400_S1024x1024_0_3328 slices_S1024x6400_S1024x1024_0_4352 slices_S1024x6400_S1024x1024_0_5376 slices_S1024x6400_S1024x512_0_2816 concatenates_S1024x1024_S1024x1024_S1024x1024_S1024x512_S1024x3584_d1 (ix2 (j 1) (j 0))

/-- The blocks a point takes: its 320 rows of the cotangent, and the whole weight. -/
theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, _)

/-- The point's block of the cotangent's first group. -/
theorem blk0 (c : Dev nD) (t : Fin cfg0.N) (y : S320x2816.Idx) :
    @Eq EReal (iblk m c 0 t y) (at2 (B m c) (t.val * 320 + (y 0).val) (qcol (y 1).val)) := by
  obtain ⟨⟨e0, e1⟩, -, -, -, -⟩ := idx_in t
  unfold iblk
  rw [View.read_apply]
  refine (congrFun (V20_at m c) _).trans ?_
  refine congrArg₂ (at2 _) ?_ ?_
  · show win0_0.index t 0 * 320 + 1 * (y 0).val = _; rw [e0]; omega
  · refine congrArg qcol ?_
    show win0_0.index t 1 * 2816 + 1 * (y 1).val = _; rw [e1]; omega

/-- The weight's first group at a point. -/
theorem blk1 (c : Dev nD) (t : Fin cfg0.N) (y : S2816x1024.Idx) :
    @Eq EReal (iblk m c 1 t y) (at2 (A m c) (y 1).val (qcol (y 0).val)) := by
  obtain ⟨-, ⟨e0, e1⟩, -, -, -⟩ := idx_in t
  unfold iblk
  rw [View.read_apply]
  refine (congrFun (V26_at m c) _).trans ?_
  refine congrArg₂ (at2 _) ?_ ?_
  · show win0_1.index t 1 * 1024 + 1 * (y 1).val = _; rw [e1]; omega
  · refine congrArg qcol ?_
    show win0_1.index t 0 * 2816 + 1 * (y 0).val = _; rw [e0]; omega

/-- The point's block of the cotangent's gates. -/
theorem blk2 (c : Dev nD) (t : Fin cfg0.N) (y : S320x3584.Idx) :
    @Eq EReal (iblk m c 2 t y) (at2 (B m c) (t.val * 320 + (y 0).val) (gcol (y 1).val)) := by
  obtain ⟨-, -, ⟨e0, e1⟩, -, -⟩ := idx_in t
  unfold iblk
  rw [View.read_apply]
  refine (congrFun (V25_at m c) _).trans ?_
  refine congrArg₂ (at2 _) ?_ ?_
  · show win0_2.index t 0 * 320 + 1 * (y 0).val = _; rw [e0]; omega
  · refine congrArg gcol ?_
    show win0_2.index t 1 * 3584 + 1 * (y 1).val = _; rw [e1]; omega

/-- The weight's gates at a point. -/
theorem blk3 (c : Dev nD) (t : Fin cfg0.N) (y : S3584x1024.Idx) :
    @Eq EReal (iblk m c 3 t y) (at2 (A m c) (y 1).val (gcol (y 0).val)) := by
  obtain ⟨-, -, -, ⟨e0, e1⟩, -⟩ := idx_in t
  unfold iblk
  rw [View.read_apply]
  refine (congrFun (V27_at m c) _).trans ?_
  refine congrArg₂ (at2 _) ?_ ?_
  · show win0_3.index t 1 * 1024 + 1 * (y 1).val = _; rw [e1]; omega
  · refine congrArg gcol ?_
    show win0_3.index t 0 * 3584 + 1 * (y 0).val = _; rw [e0]; omega

/-- What a point stores: the two products added. -/
theorem pay_at (x0 : Vec Ideal S320x2816 .bf16) (x1 : Vec Ideal S2816x1024 .bf16) (x2 : Vec Ideal S320x3584 .bf16) (x3 : Vec Ideal S3584x1024 .bf16)
    (j : S320x1024.Idx) :
    @Eq EReal (k0_pay1 x0 x1 x2 x3 j) ((∑ k : Fin 2816, x0 (ix2 (j 0) k) * x1 (ix2 k (j 1))) + ∑ k : Fin 3584, x2 (ix2 (j 0) k) * x3 (ix2 k (j 1))) := by
  unfold k0_pay1
  simp only [shapeCast_self]
  show Ideal.matmul dot_S320x2816_S2816x1024_S320x1024_1_0_0_1_n_n x0 x1 (fun _ => Ideal.ofBits .f32 0x00000000#32) j
    + Ideal.matmul dot_S320x3584_S3584x1024_S320x1024_1_0_0_1_n_n x2 x3 (fun _ => Ideal.ofBits .f32 0x00000000#32) j = _
  rw [matmul_at dot_S320x2816_S2816x1024_S320x1024_1_0_0_1_n_n 2816 rfl rfl x0 x1 _ j (fun k => ix2 (j 0) k) (fun k => ix2 k (j 1))
    (fun k => by funext a; match a with
      | ⟨0, _⟩ => exact Fin.ext (by simp [DotDims.lhsIdx, dot_S320x2816_S2816x1024_S320x1024_1_0_0_1_n_n]; rfl)
      | ⟨1, _⟩ => exact Fin.ext (by simp [DotDims.lhsIdx, dot_S320x2816_S2816x1024_S320x1024_1_0_0_1_n_n]; rfl))
    (fun k => by funext a; match a with
      | ⟨0, _⟩ => exact Fin.ext (by simp [DotDims.rhsIdx, dot_S320x2816_S2816x1024_S320x1024_1_0_0_1_n_n]; rfl)
      | ⟨1, _⟩ => exact Fin.ext (by simp [DotDims.rhsIdx, dot_S320x2816_S2816x1024_S320x1024_1_0_0_1_n_n]; rfl)),
    matmul_at dot_S320x3584_S3584x1024_S320x1024_1_0_0_1_n_n 3584 rfl rfl x2 x3 _ j (fun k => ix2 (j 0) k) (fun k => ix2 k (j 1))
    (fun k => by funext a; match a with
      | ⟨0, _⟩ => exact Fin.ext (by simp [DotDims.lhsIdx, dot_S320x3584_S3584x1024_S320x1024_1_0_0_1_n_n]; rfl)
      | ⟨1, _⟩ => exact Fin.ext (by simp [DotDims.lhsIdx, dot_S320x3584_S3584x1024_S320x1024_1_0_0_1_n_n]; rfl))
    (fun k => by funext a; match a with
      | ⟨0, _⟩ => exact Fin.ext (by simp [DotDims.rhsIdx, dot_S320x3584_S3584x1024_S320x1024_1_0_0_1_n_n]; rfl)
      | ⟨1, _⟩ => exact Fin.ext (by simp [DotDims.rhsIdx, dot_S320x3584_S3584x1024_S320x1024_1_0_0_1_n_n]; rfl)),
    ofBits_zero, zero_add, zero_add]

/-- The product of one column. -/
def prod (c : Dev nD) (i j k : ℕ) : EReal := at2 (B m c) i k * at2 (A m c) j k

/-- The whole gradient: at an entry, the sum over all the columns. -/
def whole (c : Dev nD) : S8320x1024.Idx → EReal := fun i => ∑ k ∈ Finset.range 6400, prod m c (i 0).val (i 1).val k

theorem hz : (![0, 0] : Fin 2 → Nat) = fun _ => 0 := funext fun a => by fin_cases a <;> rfl

/-- What a point writes back, at an index of its block. -/
theorem out_at (c : Dev nD) (t : Fin cfg0.N) (y : S320x1024.Idx) :
    @Eq EReal (out0_4 (iblk m c 0 t) (iblk m c 1 t) (iblk m c 2 t) (iblk m c 3 t) y) (∑ k ∈ Finset.range 6400, prod m c (t.val * 320 + (y 0).val) (y 1).val k) := by
  unfold out0_4
  rw [View.canon_unit_zero hz, View.ld_unit_zero hz, View.ld_unit_zero hz, View.ld_unit_zero hz, View.ld_unit_zero hz]
  refine (pay_at _ _ _ _ y).trans ?_
  rw [← sum_groups]
  refine congrArg₂ (· + ·) ?_ ?_
  · rw [← Fin.sum_univ_eq_sum_range (fun k => prod m c (t.val * 320 + (y 0).val) (y 1).val (qcol k)) 2816]
    exact Finset.sum_congr rfl fun k _ => by rw [blk0, blk1]; rfl
  · rw [← Fin.sum_univ_eq_sum_range (fun k => prod m c (t.val * 320 + (y 0).val) (y 1).val (gcol k)) 3584]
    exact Finset.sum_congr rfl fun k _ => by rw [blk2, blk3]; rfl

/-- What a point writes back is its block of the whole gradient. -/
theorem flushed_eq (c : Dev nD) (t : Fin cfg0.N) :
    (dats m 0 c).flushed 4 t = (win0_4.blk t).view.read (Elt Ideal) (whole m c) := by
  obtain ⟨-, -, -, -, ⟨e0, e1⟩⟩ := idx_in t
  rw [flushed4]
  funext y
  rw [View.read_apply]
  refine (out_at m c t _).trans ?_
  show _ = ∑ k ∈ Finset.range 6400, prod m c (win0_4.index t 0 * 320 + 1 * (y 0).val) (win0_4.index t 1 * 1024 + 1 * (y 1).val) k
  rw [e0, e1, Nat.zero_mul, Nat.zero_add, Nat.one_mul, Nat.one_mul]

/-- The blocks of the points are all the rows. -/
theorem cover (i : S8320x1024.Idx) : ∃ t : Fin cfg0.N, (cfg0.win 4).flush t = true ∧ i ∈ ((cfg0.win 4).blk t).view.set := by
  have h0 : (i 0).val < 8320 := (i 0).isLt
  have h1 : (i 1).val < 1024 := (i 1).isLt
  have hN : cfg0.N = 26 := N_0
  have ht : (i 0).val / 320 < cfg0.N := by omega
  refine ⟨⟨(i 0).val / 320, ht⟩, flush0_4 _, ?_⟩
  obtain ⟨-, -, -, -, ⟨e0, e1⟩⟩ := idx_in ⟨(i 0).val / 320, ht⟩
  show i ∈ ((View.whole main_v28).slice (win0_4.rect ⟨(i 0).val / 320, ht⟩)).set
  rw [View.set_slice_whole, Rect.mem_set_unit]
  intro a
  match a with
  | ⟨0, _⟩ => show win0_4.index ⟨(i 0).val / 320, ht⟩ 0 * 320 ≤ (i 0).val ∧ (i 0).val < win0_4.index ⟨(i 0).val / 320, ht⟩ 0 * 320 + 320; rw [e0]; dsimp only; omega
  | ⟨1, _⟩ => show win0_4.index ⟨(i 0).val / 320, ht⟩ 1 * 1024 ≤ (i 1).val ∧ (i 1).val < win0_4.index ⟨(i 0).val / 320, ht⟩ 1 * 1024 + 1024; rw [e1]; omega

/-- THE RESULT ARRAY after the run is the whole gradient. -/
theorem final (c : Dev nD) : (dats m 0 c).arrAt 4 cfg0.N = whole m c :=
  (dats m 0 c).arrAt_eq_of_cover 4 (whole m c) (fun t _ => flushed_eq m c t) cover

/-- The reference's one product at an entry: the same sum. -/
theorem reference_at (b : S8320x6400.Idx → EReal) (a : S1024x6400.Idx → EReal) (i : Cert.InputGradientReferenceIdeal.S8320x1024.Idx) :
    Host.dotGeneral (F := Ideal) (φ₁ := .f32) (φ₂ := .f32) Cert.InputGradientReferenceIdeal.dot_S8320x6400_S1024x6400_S8320x1024_1_1_0_0_n_n none b a i
      = ∑ k ∈ Finset.range 6400, at2 b (i 0).val k * at2 a (i 1).val k := by
  show Ideal.matmul Cert.InputGradientReferenceIdeal.dot_S8320x6400_S1024x6400_S8320x1024_1_1_0_0_n_n b a (fun _ => 0) i = _
  rw [matmul_at Cert.InputGradientReferenceIdeal.dot_S8320x6400_S1024x6400_S8320x1024_1_1_0_0_n_n 6400 rfl rfl b a _ i (fun k => ix2 (i 0) k) (fun k => ix2 (i 1) k)
    (fun k => by funext x; match x with
      | ⟨0, _⟩ => exact Fin.ext (by simp [DotDims.lhsIdx, Cert.InputGradientReferenceIdeal.dot_S8320x6400_S1024x6400_S8320x1024_1_1_0_0_n_n]; rfl)
      | ⟨1, _⟩ => exact Fin.ext (by simp [DotDims.lhsIdx, Cert.InputGradientReferenceIdeal.dot_S8320x6400_S1024x6400_S8320x1024_1_1_0_0_n_n]; rfl))
    (fun k => by funext x; match x with
      | ⟨0, _⟩ => exact Fin.ext (by simp [DotDims.rhsIdx, Cert.InputGradientReferenceIdeal.dot_S8320x6400_S1024x6400_S8320x1024_1_1_0_0_n_n]; rfl)
      | ⟨1, _⟩ => exact Fin.ext (by simp [DotDims.rhsIdx, Cert.InputGradientReferenceIdeal.dot_S8320x6400_S1024x6400_S8320x1024_1_1_0_0_n_n]; rfl)),
    zero_add]
  rw [← Fin.sum_univ_eq_sum_range (fun k => at2 b (i 0).val k * at2 a (i 1).val k) 6400]
  refine Finset.sum_congr rfl fun k _ => ?_
  rw [at2_eq b (ix2 (i 0) k) (i 0).val k.val rfl rfl, at2_eq a (ix2 (i 1) k) (i 1).val k.val rfl rfl]

/-- THE VALUES: the kernel's run and the reference's end with equal results. -/
theorem algebraic : Cert.algebraic_InputGradientIdeal_InputGradientReferenceIdeal := fun m g m' g' _ hagree =>
  ⟨fun c => whole m c, (θ_run _ _ _).mono (fun r h c => ⟨(h c).1.trans (final m c), (h c).2⟩) (Value.run_blocks m g),
    (θ_run _ _ _).mono (fun r h c => ⟨(h c).1.trans (by
      rw [(hagree c).2.1, (hagree c).2.2]
      funext i
      exact reference_at _ _ i), (h c).2⟩) (Cert.InputGradientReferenceIdeal.Value.run (F := Ideal) m' g')⟩

end Cert.InputGradientIdeal.Sum

end
-- ==== Proof.QkvSum.lean ====
/-
  The gradient of the query, key and value columns of the input projection: each block of the result adds up the products of thirteen blocks of 640 rows, and so is the one
  product over all 8320 rows that the reference takes.
-/
module

public import proofs.«01_k».proof.Proof.Gen.QkvWeightIdeal.Value
public import proofs.«01_k».proof.Proof.Gen.QkvWeightReferenceIdeal.Run
public import proofs.«01_k».proof.Proof.Dots
public import proofs.«01_k».proof.Defs

@[expose] public section

noncomputable section

namespace Cert.QkvWeightIdeal.Sum

open Cert.QkvWeightIdeal Cert.QkvWeightIdeal.Gen Cert.QkvWeightIdeal.Value Cert.Dots
open Idealize.ShloMosaic Idealize.ShloMosaic.TcCoe Idealize.ShloMosaic.ValueIdx Idealize.SL.Sem
open scoped BigOperators

variable (m : (ℓ : Loc nD τ sig) → Buf (Elt Ideal) ℓ)

/-- The left factor and the cotangent, as they stand at launch. -/
abbrev A (c : Dev nD) : S8320x1024.Idx → EReal := m ((c : Thread nD τ).loc main_arg0)
/-- The cotangent. -/
abbrev B (c : Dev nD) : S8320x2816.Idx → EReal := m ((c : Thread nD τ).loc main_arg2)

/-- The point's blocks: the rows step by 640 along the inner axis of the grid, the columns by 1408 along the outer. -/
theorem idx_in : ∀ t : Fin cfg0.N, win0_0.index t (0 : Fin 2) = t.val % 13 ∧ win0_0.index t (1 : Fin 2) = 0
    ∧ win0_1.index t (0 : Fin 2) = t.val % 13 ∧ win0_1.index t (1 : Fin 2) = t.val / 13 :=
  (by decide +kernel : ∀ t : Fin grid0.N, _)

/-- The narrow copy of the left factor the launch reads: the factor itself. -/
theorem V0_eq (c : Dev nD) : (V m c main_v0 : S8320x1024.Idx → EReal) = A m c := by
  have h : @Eq (Vec Ideal S8320x1024 .bf16) (V m c main_v0) (truncf (F := Ideal) .bf16 (m ((c : Thread nD τ).loc main_arg0) : Vec Ideal S8320x1024 .f32) bitsLt_bf16_f32) := by
    show StableHlo.after (hostOps0 (F := Ideal)) _ _ = _
    unfold hostOps0
    after_results
  exact h

/-- The narrow copy of the cotangent. -/
theorem V1_eq (c : Dev nD) : (V m c main_v1 : S8320x2816.Idx → EReal) = B m c := by
  have h : @Eq (Vec Ideal S8320x2816 .bf16) (V m c main_v1) (truncf (F := Ideal) .bf16 (m ((c : Thread nD τ).loc main_arg2) : Vec Ideal S8320x2816 .f32) bitsLt_bf16_f32) := by
    show StableHlo.after (hostOps0 (F := Ideal)) _ _ = _
    unfold hostOps0
    after_results
  exact h

/-- The block of the left factor at a point. -/
theorem blkA (c : Dev nD) (t : Fin cfg0.N) (y : S640x1024.Idx) :
    (iblk m c 0 t : Vec Ideal S640x1024 .bf16) y = at2 (A m c) ((t.val % 13) * 640 + (y 0).val) (y 1).val := by
  obtain ⟨e0, e1, -, -⟩ := idx_in t
  unfold iblk
  rw [View.read_apply]
  show V m c main_v0 _ = _
  rw [V0_eq]
  refine at2_eq (A m c) _ _ _ ?_ ?_
  · show win0_0.index t 0 * 640 + 1 * (y 0).val = _; rw [e0]; omega
  · show win0_0.index t 1 * 1024 + 1 * (y 1).val = _; rw [e1]; omega

/-- The block of the cotangent at a point. -/
theorem blkB (c : Dev nD) (t : Fin cfg0.N) (y : S640x1408.Idx) :
    (iblk m c 1 t : Vec Ideal S640x1408 .bf16) y = at2 (B m c) ((t.val % 13) * 640 + (y 0).val) ((t.val / 13) * 1408 + (y 1).val) := by
  obtain ⟨-, -, e0, e1⟩ := idx_in t
  unfold iblk
  rw [View.read_apply]
  show V m c main_v1 _ = _
  rw [V1_eq]
  refine at2_eq (B m c) _ _ _ ?_ ?_
  · show win0_1.index t 0 * 640 + 1 * (y 0).val = _; rw [e0]; omega
  · show win0_1.index t 1 * 1408 + 1 * (y 1).val = _; rw [e1]; omega

/-- What a point adds: the product of its two blocks. -/
theorem pay2_at (acc : Vec Ideal S1024x1408 .f32) (x0 : Vec Ideal S640x1024 .bf16) (x1 : Vec Ideal S640x1408 .bf16) (j : S1024x1408.Idx) :
    k0_pay2 acc x0 x1 j = acc j + ∑ k : Fin 640, x0 (ix2 k (j 0)) * x1 (ix2 k (j 1)) := by
  unfold k0_pay2
  simp only [shapeCast_self]
  show acc j + Ideal.matmul dot_S640x1024_S640x1408_S1024x1408_0_0_1_1_n_n x0 x1 (fun _ => Ideal.ofBits .f32 0x00000000#32) j = _
  congr 1
  rw [matmul_at dot_S640x1024_S640x1408_S1024x1408_0_0_1_1_n_n 640 rfl rfl x0 x1 _ j (fun k => ix2 k (j 0)) (fun k => ix2 k (j 1))
    (fun k => by funext a; match a with
      | ⟨0, _⟩ => exact Fin.ext (by simp [DotDims.lhsIdx, dot_S640x1024_S640x1408_S1024x1408_0_0_1_1_n_n]; rfl)
      | ⟨1, _⟩ => exact Fin.ext (by simp [DotDims.lhsIdx, dot_S640x1024_S640x1408_S1024x1408_0_0_1_1_n_n]; rfl))
    (fun k => by funext a; match a with
      | ⟨0, _⟩ => exact Fin.ext (by simp [DotDims.rhsIdx, dot_S640x1024_S640x1408_S1024x1408_0_0_1_1_n_n]; rfl)
      | ⟨1, _⟩ => exact Fin.ext (by simp [DotDims.rhsIdx, dot_S640x1024_S640x1408_S1024x1408_0_0_1_1_n_n]; rfl)),
    ofBits_zero, zero_add]

/-- The products of one row. -/
def prod (c : Dev nD) (i j r : ℕ) : EReal := at2 (A m c) r i * at2 (B m c) r j

/-- What point `n` adds at an entry of its block. -/
theorem adds (c : Dev nD) (n : ℕ) (h : n < cfg0.N) (acc : Vec Ideal S1024x1408 .f32) (j : S1024x1408.Idx) :
    k0_pay2 acc (iblk m c 0 ⟨n, h⟩) (iblk m c 1 ⟨n, h⟩) j
      = acc j + ∑ k ∈ Finset.range 640, prod m c (j 0).val ((n / 13) * 1408 + (j 1).val) ((n % 13) * 640 + k) := by
  rw [pay2_at]
  congr 1
  rw [← Fin.sum_univ_eq_sum_range (fun k => prod m c (j 0).val ((n / 13) * 1408 + (j 1).val) ((n % 13) * 640 + k)) 640]
  exact Finset.sum_congr rfl fun k _ => by rw [blkA, blkB]; rfl

/-- THE RESULT: an entry is the sum over all the rows. -/
theorem G2_at (c : Dev nD) (i : S1024x2816.Idx) :
    @Eq EReal (G2 m c i) (∑ r ∈ Finset.range 8320, prod m c (i 0).val (i 1).val r) := by
  have h0 : (i 0).val < 1024 := (i 0).isLt
  have h1 : (i 1).val < 2816 := (i 1).isLt
  have hN : cfg0.N = 26 := N_0
  have hrun : run2Of i = (i 1).val / 1408 := by
    show 2 * ((i 0).val / 1024 - 0) + 1 * ((i 1).val / 1408 - 0) = _
    omega
  have hb : 13 * run2Of i + 12 < cfg0.N := by rw [hrun]; omega
  unfold G2
  rw [dif_pos hb]
  have hl0 : (loc2Of i 0).val = (i 0).val := Nat.mod_eq_of_lt h0
  have hl1 : (loc2Of i 1).val = (i 1).val % 1408 := rfl
  rw [Pipeline.accAt_add_apply (reset2 m c) (step2 m c) (fun _ => 0)
    (fun n j => ∑ k ∈ Finset.range 640, prod m c (j 0).val ((n / 13) * 1408 + (j 1).val) ((n % 13) * 640 + k)) (13 * run2Of i) 12
    (fun h j => (adds m c _ h _ j).trans (by
      congr 1
      exact ofBits_zero))
    (fun n h acc j _ _ => adds m c n h acc j) 12 le_rfl hb (loc2Of i), zero_add]
  rw [← show 13 * 640 = 8320 from rfl, ← sum_blocks]
  refine Finset.sum_congr rfl fun s hs => Finset.sum_congr rfl fun k _ => ?_
  have hs' : s < 13 := Finset.mem_range.mp hs
  rw [show (13 * run2Of i + s) / 13 = run2Of i from by omega, show (13 * run2Of i + s) % 13 = s from by omega, hl0, hl1, hrun,
    show (i 1).val / 1408 * 1408 + (i 1).val % 1408 = (i 1).val from by omega]

/-- The reference's product, transposed, at an entry: the same sum. -/
theorem reference_at (a : S8320x1024.Idx → EReal) (b : S8320x2816.Idx → EReal) (i : Cert.QkvWeightReferenceIdeal.S1024x2816.Idx) :
    transpose Cert.QkvWeightReferenceIdeal.S1024x2816 [1, 0] (Host.dotGeneral (F := Ideal) (φ₁ := .f32) (φ₂ := .f32) Cert.QkvWeightReferenceIdeal.dot_S8320x2816_S8320x1024_S2816x1024_0_0_1_1_n_n none b a) Cert.QkvWeightReferenceIdeal.Gen.transposes_S2816x1024_S1024x2816_1_0 i
      = ∑ r ∈ Finset.range 8320, at2 a r (i 0).val * at2 b r (i 1).val := by
  refine (transpose_apply (s := Cert.QkvWeightReferenceIdeal.S2816x1024) (t := Cert.QkvWeightReferenceIdeal.S1024x2816) [1, 0] _ _ i (ix2 (i 1) (i 0)) (fun x => by match x with | ⟨0, _⟩ => rfl | ⟨1, _⟩ => rfl)).trans ?_
  show Ideal.matmul Cert.QkvWeightReferenceIdeal.dot_S8320x2816_S8320x1024_S2816x1024_0_0_1_1_n_n b a (fun _ => 0) (ix2 (i 1) (i 0)) = _
  rw [matmul_at Cert.QkvWeightReferenceIdeal.dot_S8320x2816_S8320x1024_S2816x1024_0_0_1_1_n_n 8320 rfl rfl b a _ _ (fun k => ix2 k (i 1)) (fun k => ix2 k (i 0))
    (fun k => by funext x; match x with
      | ⟨0, _⟩ => exact Fin.ext (by simp [DotDims.lhsIdx, Cert.QkvWeightReferenceIdeal.dot_S8320x2816_S8320x1024_S2816x1024_0_0_1_1_n_n]; rfl)
      | ⟨1, _⟩ => exact Fin.ext (by simp [DotDims.lhsIdx, Cert.QkvWeightReferenceIdeal.dot_S8320x2816_S8320x1024_S2816x1024_0_0_1_1_n_n]; rfl))
    (fun k => by funext x; match x with
      | ⟨0, _⟩ => exact Fin.ext (by simp [DotDims.rhsIdx, Cert.QkvWeightReferenceIdeal.dot_S8320x2816_S8320x1024_S2816x1024_0_0_1_1_n_n]; rfl)
      | ⟨1, _⟩ => exact Fin.ext (by simp [DotDims.rhsIdx, Cert.QkvWeightReferenceIdeal.dot_S8320x2816_S8320x1024_S2816x1024_0_0_1_1_n_n]; rfl)),
    zero_add]
  rw [← Fin.sum_univ_eq_sum_range (fun r => at2 a r (i 0).val * at2 b r (i 1).val) 8320]
  refine Finset.sum_congr rfl fun k _ => ?_
  rw [at2_eq b (ix2 k (i 1)) k.val (i 1).val rfl rfl, at2_eq a (ix2 k (i 0)) k.val (i 0).val rfl rfl, mul_comm]

/-- THE VALUES: the kernel's run and the reference's end with equal results. -/
theorem algebraic : Cert.algebraic_QkvWeightIdeal_QkvWeightReferenceIdeal := fun m g m' g' _ hagree =>
  ⟨fun c => G2 m c, Value.run m g, (θ_run _ _ _).mono (fun r h c => ⟨(h c).1.trans (by
      rw [(hagree c).1, (hagree c).2.2]
      funext i
      exact (reference_at _ _ i).trans (G2_at m c i).symm), (h c).2⟩) (Cert.QkvWeightReferenceIdeal.Value.run (F := Ideal) m' g')⟩

end Cert.QkvWeightIdeal.Sum

end
-- ==== Proof.GateSum.lean ====
/-
  The gradient of the gates' columns of the input projection: each block of the result adds up the products of thirteen blocks of 640 rows, and so is the one
  product over all 8320 rows that the reference takes.
-/
module

public import proofs.«01_k».proof.Proof.Gen.GateWeightIdeal.Value
public import proofs.«01_k».proof.Proof.Gen.GateWeightReferenceIdeal.Run
public import proofs.«01_k».proof.Proof.Dots
public import proofs.«01_k».proof.Defs

@[expose] public section

noncomputable section

namespace Cert.GateWeightIdeal.Sum

open Cert.GateWeightIdeal Cert.GateWeightIdeal.Gen Cert.GateWeightIdeal.Value Cert.Dots
open Idealize.ShloMosaic Idealize.ShloMosaic.TcCoe Idealize.ShloMosaic.ValueIdx Idealize.SL.Sem
open scoped BigOperators

variable (m : (ℓ : Loc nD τ sig) → Buf (Elt Ideal) ℓ)

/-- The left factor and the cotangent, as they stand at launch. -/
abbrev A (c : Dev nD) : S8320x1024.Idx → EReal := m ((c : Thread nD τ).loc main_arg0)
/-- The cotangent. -/
abbrev B (c : Dev nD) : S8320x3584.Idx → EReal := m ((c : Thread nD τ).loc main_arg2)

/-- The point's blocks: the rows step by 640 along the inner axis of the grid, the columns by 1792 along the outer. -/
theorem idx_in : ∀ t : Fin cfg0.N, win0_0.index t (0 : Fin 2) = t.val % 13 ∧ win0_0.index t (1 : Fin 2) = 0
    ∧ win0_1.index t (0 : Fin 2) = t.val % 13 ∧ win0_1.index t (1 : Fin 2) = t.val / 13 :=
  (by decide +kernel : ∀ t : Fin grid0.N, _)

/-- The narrow copy of the left factor the launch reads: the factor itself. -/
theorem V0_eq (c : Dev nD) : (V m c main_v0 : S8320x1024.Idx → EReal) = A m c := by
  have h : @Eq (Vec Ideal S8320x1024 .bf16) (V m c main_v0) (truncf (F := Ideal) .bf16 (m ((c : Thread nD τ).loc main_arg0) : Vec Ideal S8320x1024 .f32) bitsLt_bf16_f32) := by
    show StableHlo.after (hostOps0 (F := Ideal)) _ _ = _
    unfold hostOps0
    after_results
  exact h

/-- The narrow copy of the cotangent. -/
theorem V1_eq (c : Dev nD) : (V m c main_v1 : S8320x3584.Idx → EReal) = B m c := by
  have h : @Eq (Vec Ideal S8320x3584 .bf16) (V m c main_v1) (truncf (F := Ideal) .bf16 (m ((c : Thread nD τ).loc main_arg2) : Vec Ideal S8320x3584 .f32) bitsLt_bf16_f32) := by
    show StableHlo.after (hostOps0 (F := Ideal)) _ _ = _
    unfold hostOps0
    after_results
  exact h

/-- The block of the left factor at a point. -/
theorem blkA (c : Dev nD) (t : Fin cfg0.N) (y : S640x1024.Idx) :
    (iblk m c 0 t : Vec Ideal S640x1024 .bf16) y = at2 (A m c) ((t.val % 13) * 640 + (y 0).val) (y 1).val := by
  obtain ⟨e0, e1, -, -⟩ := idx_in t
  unfold iblk
  rw [View.read_apply]
  show V m c main_v0 _ = _
  rw [V0_eq]
  refine at2_eq (A m c) _ _ _ ?_ ?_
  · show win0_0.index t 0 * 640 + 1 * (y 0).val = _; rw [e0]; omega
  · show win0_0.index t 1 * 1024 + 1 * (y 1).val = _; rw [e1]; omega

/-- The block of the cotangent at a point. -/
theorem blkB (c : Dev nD) (t : Fin cfg0.N) (y : S640x1792.Idx) :
    (iblk m c 1 t : Vec Ideal S640x1792 .bf16) y = at2 (B m c) ((t.val % 13) * 640 + (y 0).val) ((t.val / 13) * 1792 + (y 1).val) := by
  obtain ⟨-, -, e0, e1⟩ := idx_in t
  unfold iblk
  rw [View.read_apply]
  show V m c main_v1 _ = _
  rw [V1_eq]
  refine at2_eq (B m c) _ _ _ ?_ ?_
  · show win0_1.index t 0 * 640 + 1 * (y 0).val = _; rw [e0]; omega
  · show win0_1.index t 1 * 1792 + 1 * (y 1).val = _; rw [e1]; omega

/-- What a point adds: the product of its two blocks. -/
theorem pay2_at (acc : Vec Ideal S1024x1792 .f32) (x0 : Vec Ideal S640x1024 .bf16) (x1 : Vec Ideal S640x1792 .bf16) (j : S1024x1792.Idx) :
    k0_pay2 acc x0 x1 j = acc j + ∑ k : Fin 640, x0 (ix2 k (j 0)) * x1 (ix2 k (j 1)) := by
  unfold k0_pay2
  simp only [shapeCast_self]
  show acc j + Ideal.matmul dot_S640x1024_S640x1792_S1024x1792_0_0_1_1_n_n x0 x1 (fun _ => Ideal.ofBits .f32 0x00000000#32) j = _
  congr 1
  rw [matmul_at dot_S640x1024_S640x1792_S1024x1792_0_0_1_1_n_n 640 rfl rfl x0 x1 _ j (fun k => ix2 k (j 0)) (fun k => ix2 k (j 1))
    (fun k => by funext a; match a with
      | ⟨0, _⟩ => exact Fin.ext (by simp [DotDims.lhsIdx, dot_S640x1024_S640x1792_S1024x1792_0_0_1_1_n_n]; rfl)
      | ⟨1, _⟩ => exact Fin.ext (by simp [DotDims.lhsIdx, dot_S640x1024_S640x1792_S1024x1792_0_0_1_1_n_n]; rfl))
    (fun k => by funext a; match a with
      | ⟨0, _⟩ => exact Fin.ext (by simp [DotDims.rhsIdx, dot_S640x1024_S640x1792_S1024x1792_0_0_1_1_n_n]; rfl)
      | ⟨1, _⟩ => exact Fin.ext (by simp [DotDims.rhsIdx, dot_S640x1024_S640x1792_S1024x1792_0_0_1_1_n_n]; rfl)),
    ofBits_zero, zero_add]

/-- The products of one row. -/
def prod (c : Dev nD) (i j r : ℕ) : EReal := at2 (A m c) r i * at2 (B m c) r j

/-- What point `n` adds at an entry of its block. -/
theorem adds (c : Dev nD) (n : ℕ) (h : n < cfg0.N) (acc : Vec Ideal S1024x1792 .f32) (j : S1024x1792.Idx) :
    k0_pay2 acc (iblk m c 0 ⟨n, h⟩) (iblk m c 1 ⟨n, h⟩) j
      = acc j + ∑ k ∈ Finset.range 640, prod m c (j 0).val ((n / 13) * 1792 + (j 1).val) ((n % 13) * 640 + k) := by
  rw [pay2_at]
  congr 1
  rw [← Fin.sum_univ_eq_sum_range (fun k => prod m c (j 0).val ((n / 13) * 1792 + (j 1).val) ((n % 13) * 640 + k)) 640]
  exact Finset.sum_congr rfl fun k _ => by rw [blkA, blkB]; rfl

/-- THE RESULT: an entry is the sum over all the rows. -/
theorem G2_at (c : Dev nD) (i : S1024x3584.Idx) :
    @Eq EReal (G2 m c i) (∑ r ∈ Finset.range 8320, prod m c (i 0).val (i 1).val r) := by
  have h0 : (i 0).val < 1024 := (i 0).isLt
  have h1 : (i 1).val < 3584 := (i 1).isLt
  have hN : cfg0.N = 26 := N_0
  have hrun : run2Of i = (i 1).val / 1792 := by
    show 2 * ((i 0).val / 1024 - 0) + 1 * ((i 1).val / 1792 - 0) = _
    omega
  have hb : 13 * run2Of i + 12 < cfg0.N := by rw [hrun]; omega
  unfold G2
  rw [dif_pos hb]
  have hl0 : (loc2Of i 0).val = (i 0).val := Nat.mod_eq_of_lt h0
  have hl1 : (loc2Of i 1).val = (i 1).val % 1792 := rfl
  rw [Pipeline.accAt_add_apply (reset2 m c) (step2 m c) (fun _ => 0)
    (fun n j => ∑ k ∈ Finset.range 640, prod m c (j 0).val ((n / 13) * 1792 + (j 1).val) ((n % 13) * 640 + k)) (13 * run2Of i) 12
    (fun h j => (adds m c _ h _ j).trans (by
      congr 1
      exact ofBits_zero))
    (fun n h acc j _ _ => adds m c n h acc j) 12 le_rfl hb (loc2Of i), zero_add]
  rw [← show 13 * 640 = 8320 from rfl, ← sum_blocks]
  refine Finset.sum_congr rfl fun s hs => Finset.sum_congr rfl fun k _ => ?_
  have hs' : s < 13 := Finset.mem_range.mp hs
  rw [show (13 * run2Of i + s) / 13 = run2Of i from by omega, show (13 * run2Of i + s) % 13 = s from by omega, hl0, hl1, hrun,
    show (i 1).val / 1792 * 1792 + (i 1).val % 1792 = (i 1).val from by omega]

/-- The reference's product, transposed, at an entry: the same sum. -/
theorem reference_at (a : S8320x1024.Idx → EReal) (b : S8320x3584.Idx → EReal) (i : Cert.GateWeightReferenceIdeal.S1024x3584.Idx) :
    transpose Cert.GateWeightReferenceIdeal.S1024x3584 [1, 0] (Host.dotGeneral (F := Ideal) (φ₁ := .f32) (φ₂ := .f32) Cert.GateWeightReferenceIdeal.dot_S8320x3584_S8320x1024_S3584x1024_0_0_1_1_n_n none b a) Cert.GateWeightReferenceIdeal.Gen.transposes_S3584x1024_S1024x3584_1_0 i
      = ∑ r ∈ Finset.range 8320, at2 a r (i 0).val * at2 b r (i 1).val := by
  refine (transpose_apply (s := Cert.GateWeightReferenceIdeal.S3584x1024) (t := Cert.GateWeightReferenceIdeal.S1024x3584) [1, 0] _ _ i (ix2 (i 1) (i 0)) (fun x => by match x with | ⟨0, _⟩ => rfl | ⟨1, _⟩ => rfl)).trans ?_
  show Ideal.matmul Cert.GateWeightReferenceIdeal.dot_S8320x3584_S8320x1024_S3584x1024_0_0_1_1_n_n b a (fun _ => 0) (ix2 (i 1) (i 0)) = _
  rw [matmul_at Cert.GateWeightReferenceIdeal.dot_S8320x3584_S8320x1024_S3584x1024_0_0_1_1_n_n 8320 rfl rfl b a _ _ (fun k => ix2 k (i 1)) (fun k => ix2 k (i 0))
    (fun k => by funext x; match x with
      | ⟨0, _⟩ => exact Fin.ext (by simp [DotDims.lhsIdx, Cert.GateWeightReferenceIdeal.dot_S8320x3584_S8320x1024_S3584x1024_0_0_1_1_n_n]; rfl)
      | ⟨1, _⟩ => exact Fin.ext (by simp [DotDims.lhsIdx, Cert.GateWeightReferenceIdeal.dot_S8320x3584_S8320x1024_S3584x1024_0_0_1_1_n_n]; rfl))
    (fun k => by funext x; match x with
      | ⟨0, _⟩ => exact Fin.ext (by simp [DotDims.rhsIdx, Cert.GateWeightReferenceIdeal.dot_S8320x3584_S8320x1024_S3584x1024_0_0_1_1_n_n]; rfl)
      | ⟨1, _⟩ => exact Fin.ext (by simp [DotDims.rhsIdx, Cert.GateWeightReferenceIdeal.dot_S8320x3584_S8320x1024_S3584x1024_0_0_1_1_n_n]; rfl)),
    zero_add]
  rw [← Fin.sum_univ_eq_sum_range (fun r => at2 a r (i 0).val * at2 b r (i 1).val) 8320]
  refine Finset.sum_congr rfl fun k _ => ?_
  rw [at2_eq b (ix2 k (i 1)) k.val (i 1).val rfl rfl, at2_eq a (ix2 k (i 0)) k.val (i 0).val rfl rfl, mul_comm]

/-- THE VALUES: the kernel's run and the reference's end with equal results. -/
theorem algebraic : Cert.algebraic_GateWeightIdeal_GateWeightReferenceIdeal := fun m g m' g' _ hagree =>
  ⟨fun c => G2 m c, Value.run m g, (θ_run _ _ _).mono (fun r h c => ⟨(h c).1.trans (by
      rw [(hagree c).1, (hagree c).2.2]
      funext i
      exact (reference_at _ _ i).trans (G2_at m c i).symm), (h c).2⟩) (Cert.GateWeightReferenceIdeal.Value.run (F := Ideal) m' g')⟩

end Cert.GateWeightIdeal.Sum

end
-- ==== Proof.SbBranchSum.lean ====
/-
  The gradient of the weight of the stick-breaking branch: each block of the result adds up the products of thirteen blocks of 640 rows, and so is the one
  product over all 8320 rows that the reference takes.
-/
module

public import proofs.«01_k».proof.Proof.Gen.SbBranchWeightIdeal.Value
public import proofs.«01_k».proof.Proof.Gen.SbBranchWeightReferenceIdeal.Run
public import proofs.«01_k».proof.Proof.Dots
public import proofs.«01_k».proof.Defs

@[expose] public section

noncomputable section

namespace Cert.SbBranchWeightIdeal.Sum

open Cert.SbBranchWeightIdeal Cert.SbBranchWeightIdeal.Gen Cert.SbBranchWeightIdeal.Value Cert.Dots
open Idealize.ShloMosaic Idealize.ShloMosaic.TcCoe Idealize.ShloMosaic.ValueIdx Idealize.SL.Sem
open scoped BigOperators

variable (m : (ℓ : Loc nD τ sig) → Buf (Elt Ideal) ℓ)

/-- The left factor and the cotangent, as they stand at launch. -/
abbrev A (c : Dev nD) : S8320x512.Idx → EReal := m ((c : Thread nD τ).loc main_arg0)
/-- The cotangent. -/
abbrev B (c : Dev nD) : S8320x1024.Idx → EReal := m ((c : Thread nD τ).loc main_arg2)

/-- The point's blocks: the rows step by 640 along the inner axis of the grid, the columns by 1024 along the outer. -/
theorem idx_in : ∀ t : Fin cfg0.N, win0_0.index t (0 : Fin 2) = t.val % 13 ∧ win0_0.index t (1 : Fin 2) = 0
    ∧ win0_1.index t (0 : Fin 2) = t.val % 13 ∧ win0_1.index t (1 : Fin 2) = t.val / 13 :=
  (by decide +kernel : ∀ t : Fin grid0.N, _)

/-- The narrow copy of the left factor the launch reads: the factor itself. -/
theorem V0_eq (c : Dev nD) : (V m c main_v0 : S8320x512.Idx → EReal) = A m c := by
  have h : @Eq (Vec Ideal S8320x512 .bf16) (V m c main_v0) (truncf (F := Ideal) .bf16 (m ((c : Thread nD τ).loc main_arg0) : Vec Ideal S8320x512 .f32) bitsLt_bf16_f32) := by
    show StableHlo.after (hostOps0 (F := Ideal)) _ _ = _
    unfold hostOps0
    after_results
  exact h

/-- The narrow copy of the cotangent. -/
theorem V1_eq (c : Dev nD) : (V m c main_v1 : S8320x1024.Idx → EReal) = B m c := by
  have h : @Eq (Vec Ideal S8320x1024 .bf16) (V m c main_v1) (truncf (F := Ideal) .bf16 (m ((c : Thread nD τ).loc main_arg2) : Vec Ideal S8320x1024 .f32) bitsLt_bf16_f32) := by
    show StableHlo.after (hostOps0 (F := Ideal)) _ _ = _
    unfold hostOps0
    after_results
  exact h

/-- The block of the left factor at a point. -/
theorem blkA (c : Dev nD) (t : Fin cfg0.N) (y : S640x512.Idx) :
    (iblk m c 0 t : Vec Ideal S640x512 .bf16) y = at2 (A m c) ((t.val % 13) * 640 + (y 0).val) (y 1).val := by
  obtain ⟨e0, e1, -, -⟩ := idx_in t
  unfold iblk
  rw [View.read_apply]
  show V m c main_v0 _ = _
  rw [V0_eq]
  refine at2_eq (A m c) _ _ _ ?_ ?_
  · show win0_0.index t 0 * 640 + 1 * (y 0).val = _; rw [e0]; omega
  · show win0_0.index t 1 * 512 + 1 * (y 1).val = _; rw [e1]; omega

/-- The block of the cotangent at a point. -/
theorem blkB (c : Dev nD) (t : Fin cfg0.N) (y : S640x1024.Idx) :
    (iblk m c 1 t : Vec Ideal S640x1024 .bf16) y = at2 (B m c) ((t.val % 13) * 640 + (y 0).val) ((t.val / 13) * 1024 + (y 1).val) := by
  obtain ⟨-, -, e0, e1⟩ := idx_in t
  unfold iblk
  rw [View.read_apply]
  show V m c main_v1 _ = _
  rw [V1_eq]
  refine at2_eq (B m c) _ _ _ ?_ ?_
  · show win0_1.index t 0 * 640 + 1 * (y 0).val = _; rw [e0]; omega
  · show win0_1.index t 1 * 1024 + 1 * (y 1).val = _; rw [e1]; omega

/-- What a point adds: the product of its two blocks. -/
theorem pay2_at (acc : Vec Ideal S512x1024 .f32) (x0 : Vec Ideal S640x512 .bf16) (x1 : Vec Ideal S640x1024 .bf16) (j : S512x1024.Idx) :
    k0_pay2 acc x0 x1 j = acc j + ∑ k : Fin 640, x0 (ix2 k (j 0)) * x1 (ix2 k (j 1)) := by
  unfold k0_pay2
  simp only [shapeCast_self]
  show acc j + Ideal.matmul dot_S640x512_S640x1024_S512x1024_0_0_1_1_n_n x0 x1 (fun _ => Ideal.ofBits .f32 0x00000000#32) j = _
  congr 1
  rw [matmul_at dot_S640x512_S640x1024_S512x1024_0_0_1_1_n_n 640 rfl rfl x0 x1 _ j (fun k => ix2 k (j 0)) (fun k => ix2 k (j 1))
    (fun k => by funext a; match a with
      | ⟨0, _⟩ => exact Fin.ext (by simp [DotDims.lhsIdx, dot_S640x512_S640x1024_S512x1024_0_0_1_1_n_n]; rfl)
      | ⟨1, _⟩ => exact Fin.ext (by simp [DotDims.lhsIdx, dot_S640x512_S640x1024_S512x1024_0_0_1_1_n_n]; rfl))
    (fun k => by funext a; match a with
      | ⟨0, _⟩ => exact Fin.ext (by simp [DotDims.rhsIdx, dot_S640x512_S640x1024_S512x1024_0_0_1_1_n_n]; rfl)
      | ⟨1, _⟩ => exact Fin.ext (by simp [DotDims.rhsIdx, dot_S640x512_S640x1024_S512x1024_0_0_1_1_n_n]; rfl)),
    ofBits_zero, zero_add]

/-- The products of one row. -/
def prod (c : Dev nD) (i j r : ℕ) : EReal := at2 (A m c) r i * at2 (B m c) r j

/-- What point `n` adds at an entry of its block. -/
theorem adds (c : Dev nD) (n : ℕ) (h : n < cfg0.N) (acc : Vec Ideal S512x1024 .f32) (j : S512x1024.Idx) :
    k0_pay2 acc (iblk m c 0 ⟨n, h⟩) (iblk m c 1 ⟨n, h⟩) j
      = acc j + ∑ k ∈ Finset.range 640, prod m c (j 0).val ((n / 13) * 1024 + (j 1).val) ((n % 13) * 640 + k) := by
  rw [pay2_at]
  congr 1
  rw [← Fin.sum_univ_eq_sum_range (fun k => prod m c (j 0).val ((n / 13) * 1024 + (j 1).val) ((n % 13) * 640 + k)) 640]
  exact Finset.sum_congr rfl fun k _ => by rw [blkA, blkB]; rfl

/-- THE RESULT: an entry is the sum over all the rows. -/
theorem G2_at (c : Dev nD) (i : S512x1024.Idx) :
    @Eq EReal (G2 m c i) (∑ r ∈ Finset.range 8320, prod m c (i 0).val (i 1).val r) := by
  have h0 : (i 0).val < 512 := (i 0).isLt
  have h1 : (i 1).val < 1024 := (i 1).isLt
  have hN : cfg0.N = 13 := N_0
  have hrun : run2Of i = (i 1).val / 1024 := by
    show 1 * ((i 0).val / 512 - 0) + 1 * ((i 1).val / 1024 - 0) = _
    omega
  have hb : 13 * run2Of i + 12 < cfg0.N := by rw [hrun]; omega
  unfold G2
  rw [dif_pos hb]
  have hl0 : (loc2Of i 0).val = (i 0).val := Nat.mod_eq_of_lt h0
  have hl1 : (loc2Of i 1).val = (i 1).val % 1024 := rfl
  rw [Pipeline.accAt_add_apply (reset2 m c) (step2 m c) (fun _ => 0)
    (fun n j => ∑ k ∈ Finset.range 640, prod m c (j 0).val ((n / 13) * 1024 + (j 1).val) ((n % 13) * 640 + k)) (13 * run2Of i) 12
    (fun h j => (adds m c _ h _ j).trans (by
      congr 1
      exact ofBits_zero))
    (fun n h acc j _ _ => adds m c n h acc j) 12 le_rfl hb (loc2Of i), zero_add]
  rw [← show 13 * 640 = 8320 from rfl, ← sum_blocks]
  refine Finset.sum_congr rfl fun s hs => Finset.sum_congr rfl fun k _ => ?_
  have hs' : s < 13 := Finset.mem_range.mp hs
  rw [show (13 * run2Of i + s) / 13 = run2Of i from by omega, show (13 * run2Of i + s) % 13 = s from by omega, hl0, hl1, hrun,
    show (i 1).val / 1024 * 1024 + (i 1).val % 1024 = (i 1).val from by omega]

/-- The reference's product, transposed, at an entry: the same sum. -/
theorem reference_at (a : S8320x512.Idx → EReal) (b : S8320x1024.Idx → EReal) (i : Cert.SbBranchWeightReferenceIdeal.S512x1024.Idx) :
    transpose Cert.SbBranchWeightReferenceIdeal.S512x1024 [1, 0] (Host.dotGeneral (F := Ideal) (φ₁ := .f32) (φ₂ := .f32) Cert.SbBranchWeightReferenceIdeal.dot_S8320x1024_S8320x512_S1024x512_0_0_1_1_n_n none b a) Cert.SbBranchWeightReferenceIdeal.Gen.transposes_S1024x512_S512x1024_1_0 i
      = ∑ r ∈ Finset.range 8320, at2 a r (i 0).val * at2 b r (i 1).val := by
  refine (transpose_apply (s := Cert.SbBranchWeightReferenceIdeal.S1024x512) (t := Cert.SbBranchWeightReferenceIdeal.S512x1024) [1, 0] _ _ i (ix2 (i 1) (i 0)) (fun x => by match x with | ⟨0, _⟩ => rfl | ⟨1, _⟩ => rfl)).trans ?_
  show Ideal.matmul Cert.SbBranchWeightReferenceIdeal.dot_S8320x1024_S8320x512_S1024x512_0_0_1_1_n_n b a (fun _ => 0) (ix2 (i 1) (i 0)) = _
  rw [matmul_at Cert.SbBranchWeightReferenceIdeal.dot_S8320x1024_S8320x512_S1024x512_0_0_1_1_n_n 8320 rfl rfl b a _ _ (fun k => ix2 k (i 1)) (fun k => ix2 k (i 0))
    (fun k => by funext x; match x with
      | ⟨0, _⟩ => exact Fin.ext (by simp [DotDims.lhsIdx, Cert.SbBranchWeightReferenceIdeal.dot_S8320x1024_S8320x512_S1024x512_0_0_1_1_n_n]; rfl)
      | ⟨1, _⟩ => exact Fin.ext (by simp [DotDims.lhsIdx, Cert.SbBranchWeightReferenceIdeal.dot_S8320x1024_S8320x512_S1024x512_0_0_1_1_n_n]; rfl))
    (fun k => by funext x; match x with
      | ⟨0, _⟩ => exact Fin.ext (by simp [DotDims.rhsIdx, Cert.SbBranchWeightReferenceIdeal.dot_S8320x1024_S8320x512_S1024x512_0_0_1_1_n_n]; rfl)
      | ⟨1, _⟩ => exact Fin.ext (by simp [DotDims.rhsIdx, Cert.SbBranchWeightReferenceIdeal.dot_S8320x1024_S8320x512_S1024x512_0_0_1_1_n_n]; rfl)),
    zero_add]
  rw [← Fin.sum_univ_eq_sum_range (fun r => at2 a r (i 0).val * at2 b r (i 1).val) 8320]
  refine Finset.sum_congr rfl fun k _ => ?_
  rw [at2_eq b (ix2 k (i 1)) k.val (i 1).val rfl rfl, at2_eq a (ix2 k (i 0)) k.val (i 0).val rfl rfl, mul_comm]

/-- THE VALUES: the kernel's run and the reference's end with equal results. -/
theorem algebraic : Cert.algebraic_SbBranchWeightIdeal_SbBranchWeightReferenceIdeal := fun m g m' g' _ hagree =>
  ⟨fun c => G2 m c, Value.run m g, (θ_run _ _ _).mono (fun r h c => ⟨(h c).1.trans (by
      rw [(hagree c).1, (hagree c).2.2]
      funext i
      exact (reference_at _ _ i).trans (G2_at m c i).symm), (h c).2⟩) (Cert.SbBranchWeightReferenceIdeal.Value.run (F := Ideal) m' g')⟩

end Cert.SbBranchWeightIdeal.Sum

end
-- ==== Proof.SwaBranchSum.lean ====
/-
  The gradient of the weight of the sliding-window branch: each block of the result adds up the products of thirteen blocks of 640 rows, and so is the one
  product over all 8320 rows that the reference takes.
-/
module

public import proofs.«01_k».proof.Proof.Gen.SwaBranchWeightIdeal.Value
public import proofs.«01_k».proof.Proof.Gen.SwaBranchWeightReferenceIdeal.Run
public import proofs.«01_k».proof.Proof.Dots
public import proofs.«01_k».proof.Defs

@[expose] public section

noncomputable section

namespace Cert.SwaBranchWeightIdeal.Sum

open Cert.SwaBranchWeightIdeal Cert.SwaBranchWeightIdeal.Gen Cert.SwaBranchWeightIdeal.Value Cert.Dots
open Idealize.ShloMosaic Idealize.ShloMosaic.TcCoe Idealize.ShloMosaic.ValueIdx Idealize.SL.Sem
open scoped BigOperators

variable (m : (ℓ : Loc nD τ sig) → Buf (Elt Ideal) ℓ)

/-- The left factor and the cotangent, as they stand at launch. -/
abbrev A (c : Dev nD) : S8320x1024.Idx → EReal := m ((c : Thread nD τ).loc main_arg0)
/-- The cotangent. -/
abbrev B (c : Dev nD) : S8320x1024.Idx → EReal := m ((c : Thread nD τ).loc main_arg2)

/-- The point's blocks: the rows step by 640 along the inner axis of the grid, the columns by 1024 along the outer. -/
theorem idx_in : ∀ t : Fin cfg0.N, win0_0.index t (0 : Fin 2) = t.val % 13 ∧ win0_0.index t (1 : Fin 2) = 0
    ∧ win0_1.index t (0 : Fin 2) = t.val % 13 ∧ win0_1.index t (1 : Fin 2) = t.val / 13 :=
  (by decide +kernel : ∀ t : Fin grid0.N, _)

/-- The narrow copy of the left factor the launch reads: the factor itself. -/
theorem V0_eq (c : Dev nD) : (V m c main_v0 : S8320x1024.Idx → EReal) = A m c := by
  have h : @Eq (Vec Ideal S8320x1024 .bf16) (V m c main_v0) (truncf (F := Ideal) .bf16 (m ((c : Thread nD τ).loc main_arg0) : Vec Ideal S8320x1024 .f32) bitsLt_bf16_f32) := by
    show StableHlo.after (hostOps0 (F := Ideal)) _ _ = _
    unfold hostOps0
    after_results
  exact h

/-- The narrow copy of the cotangent. -/
theorem V1_eq (c : Dev nD) : (V m c main_v1 : S8320x1024.Idx → EReal) = B m c := by
  have h : @Eq (Vec Ideal S8320x1024 .bf16) (V m c main_v1) (truncf (F := Ideal) .bf16 (m ((c : Thread nD τ).loc main_arg2) : Vec Ideal S8320x1024 .f32) bitsLt_bf16_f32) := by
    show StableHlo.after (hostOps0 (F := Ideal)) _ _ = _
    unfold hostOps0
    after_results
  exact h

/-- The block of the left factor at a point. -/
theorem blkA (c : Dev nD) (t : Fin cfg0.N) (y : S640x1024.Idx) :
    (iblk m c 0 t : Vec Ideal S640x1024 .bf16) y = at2 (A m c) ((t.val % 13) * 640 + (y 0).val) (y 1).val := by
  obtain ⟨e0, e1, -, -⟩ := idx_in t
  unfold iblk
  rw [View.read_apply]
  show V m c main_v0 _ = _
  rw [V0_eq]
  refine at2_eq (A m c) _ _ _ ?_ ?_
  · show win0_0.index t 0 * 640 + 1 * (y 0).val = _; rw [e0]; omega
  · show win0_0.index t 1 * 1024 + 1 * (y 1).val = _; rw [e1]; omega

/-- The block of the cotangent at a point. -/
theorem blkB (c : Dev nD) (t : Fin cfg0.N) (y : S640x1024.Idx) :
    (iblk m c 1 t : Vec Ideal S640x1024 .bf16) y = at2 (B m c) ((t.val % 13) * 640 + (y 0).val) ((t.val / 13) * 1024 + (y 1).val) := by
  obtain ⟨-, -, e0, e1⟩ := idx_in t
  unfold iblk
  rw [View.read_apply]
  show V m c main_v1 _ = _
  rw [V1_eq]
  refine at2_eq (B m c) _ _ _ ?_ ?_
  · show win0_1.index t 0 * 640 + 1 * (y 0).val = _; rw [e0]; omega
  · show win0_1.index t 1 * 1024 + 1 * (y 1).val = _; rw [e1]; omega

/-- What a point adds: the product of its two blocks. -/
theorem pay2_at (acc : Vec Ideal S1024x1024 .f32) (x0 : Vec Ideal S640x1024 .bf16) (x1 : Vec Ideal S640x1024 .bf16) (j : S1024x1024.Idx) :
    k0_pay2 acc x0 x1 j = acc j + ∑ k : Fin 640, x0 (ix2 k (j 0)) * x1 (ix2 k (j 1)) := by
  unfold k0_pay2
  simp only [shapeCast_self]
  show acc j + Ideal.matmul dot_S640x1024_S640x1024_S1024x1024_0_0_1_1_n_n x0 x1 (fun _ => Ideal.ofBits .f32 0x00000000#32) j = _
  congr 1
  rw [matmul_at dot_S640x1024_S640x1024_S1024x1024_0_0_1_1_n_n 640 rfl rfl x0 x1 _ j (fun k => ix2 k (j 0)) (fun k => ix2 k (j 1))
    (fun k => by funext a; match a with
      | ⟨0, _⟩ => exact Fin.ext (by simp [DotDims.lhsIdx, dot_S640x1024_S640x1024_S1024x1024_0_0_1_1_n_n]; rfl)
      | ⟨1, _⟩ => exact Fin.ext (by simp [DotDims.lhsIdx, dot_S640x1024_S640x1024_S1024x1024_0_0_1_1_n_n]; rfl))
    (fun k => by funext a; match a with
      | ⟨0, _⟩ => exact Fin.ext (by simp [DotDims.rhsIdx, dot_S640x1024_S640x1024_S1024x1024_0_0_1_1_n_n]; rfl)
      | ⟨1, _⟩ => exact Fin.ext (by simp [DotDims.rhsIdx, dot_S640x1024_S640x1024_S1024x1024_0_0_1_1_n_n]; rfl)),
    ofBits_zero, zero_add]

/-- The products of one row. -/
def prod (c : Dev nD) (i j r : ℕ) : EReal := at2 (A m c) r i * at2 (B m c) r j

/-- What point `n` adds at an entry of its block. -/
theorem adds (c : Dev nD) (n : ℕ) (h : n < cfg0.N) (acc : Vec Ideal S1024x1024 .f32) (j : S1024x1024.Idx) :
    k0_pay2 acc (iblk m c 0 ⟨n, h⟩) (iblk m c 1 ⟨n, h⟩) j
      = acc j + ∑ k ∈ Finset.range 640, prod m c (j 0).val ((n / 13) * 1024 + (j 1).val) ((n % 13) * 640 + k) := by
  rw [pay2_at]
  congr 1
  rw [← Fin.sum_univ_eq_sum_range (fun k => prod m c (j 0).val ((n / 13) * 1024 + (j 1).val) ((n % 13) * 640 + k)) 640]
  exact Finset.sum_congr rfl fun k _ => by rw [blkA, blkB]; rfl

/-- THE RESULT: an entry is the sum over all the rows. -/
theorem G2_at (c : Dev nD) (i : S1024x1024.Idx) :
    @Eq EReal (G2 m c i) (∑ r ∈ Finset.range 8320, prod m c (i 0).val (i 1).val r) := by
  have h0 : (i 0).val < 1024 := (i 0).isLt
  have h1 : (i 1).val < 1024 := (i 1).isLt
  have hN : cfg0.N = 13 := N_0
  have hrun : run2Of i = (i 1).val / 1024 := by
    show 1 * ((i 0).val / 1024 - 0) + 1 * ((i 1).val / 1024 - 0) = _
    omega
  have hb : 13 * run2Of i + 12 < cfg0.N := by rw [hrun]; omega
  unfold G2
  rw [dif_pos hb]
  have hl0 : (loc2Of i 0).val = (i 0).val := Nat.mod_eq_of_lt h0
  have hl1 : (loc2Of i 1).val = (i 1).val % 1024 := rfl
  rw [Pipeline.accAt_add_apply (reset2 m c) (step2 m c) (fun _ => 0)
    (fun n j => ∑ k ∈ Finset.range 640, prod m c (j 0).val ((n / 13) * 1024 + (j 1).val) ((n % 13) * 640 + k)) (13 * run2Of i) 12
    (fun h j => (adds m c _ h _ j).trans (by
      congr 1
      exact ofBits_zero))
    (fun n h acc j _ _ => adds m c n h acc j) 12 le_rfl hb (loc2Of i), zero_add]
  rw [← show 13 * 640 = 8320 from rfl, ← sum_blocks]
  refine Finset.sum_congr rfl fun s hs => Finset.sum_congr rfl fun k _ => ?_
  have hs' : s < 13 := Finset.mem_range.mp hs
  rw [show (13 * run2Of i + s) / 13 = run2Of i from by omega, show (13 * run2Of i + s) % 13 = s from by omega, hl0, hl1, hrun,
    show (i 1).val / 1024 * 1024 + (i 1).val % 1024 = (i 1).val from by omega]

/-- The reference's product, transposed, at an entry: the same sum. -/
theorem reference_at (a : S8320x1024.Idx → EReal) (b : S8320x1024.Idx → EReal) (i : Cert.SwaBranchWeightReferenceIdeal.S1024x1024.Idx) :
    transpose Cert.SwaBranchWeightReferenceIdeal.S1024x1024 [1, 0] (Host.dotGeneral (F := Ideal) (φ₁ := .f32) (φ₂ := .f32) Cert.SwaBranchWeightReferenceIdeal.dot_S8320x1024_S8320x1024_S1024x1024_0_0_1_1_n_n none b a) Cert.SwaBranchWeightReferenceIdeal.Gen.transposes_S1024x1024_S1024x1024_1_0 i
      = ∑ r ∈ Finset.range 8320, at2 a r (i 0).val * at2 b r (i 1).val := by
  refine (transpose_apply (s := Cert.SwaBranchWeightReferenceIdeal.S1024x1024) (t := Cert.SwaBranchWeightReferenceIdeal.S1024x1024) [1, 0] _ _ i (ix2 (i 1) (i 0)) (fun x => by match x with | ⟨0, _⟩ => rfl | ⟨1, _⟩ => rfl)).trans ?_
  show Ideal.matmul Cert.SwaBranchWeightReferenceIdeal.dot_S8320x1024_S8320x1024_S1024x1024_0_0_1_1_n_n b a (fun _ => 0) (ix2 (i 1) (i 0)) = _
  rw [matmul_at Cert.SwaBranchWeightReferenceIdeal.dot_S8320x1024_S8320x1024_S1024x1024_0_0_1_1_n_n 8320 rfl rfl b a _ _ (fun k => ix2 k (i 1)) (fun k => ix2 k (i 0))
    (fun k => by funext x; match x with
      | ⟨0, _⟩ => exact Fin.ext (by simp [DotDims.lhsIdx, Cert.SwaBranchWeightReferenceIdeal.dot_S8320x1024_S8320x1024_S1024x1024_0_0_1_1_n_n]; rfl)
      | ⟨1, _⟩ => exact Fin.ext (by simp [DotDims.lhsIdx, Cert.SwaBranchWeightReferenceIdeal.dot_S8320x1024_S8320x1024_S1024x1024_0_0_1_1_n_n]; rfl))
    (fun k => by funext x; match x with
      | ⟨0, _⟩ => exact Fin.ext (by simp [DotDims.rhsIdx, Cert.SwaBranchWeightReferenceIdeal.dot_S8320x1024_S8320x1024_S1024x1024_0_0_1_1_n_n]; rfl)
      | ⟨1, _⟩ => exact Fin.ext (by simp [DotDims.rhsIdx, Cert.SwaBranchWeightReferenceIdeal.dot_S8320x1024_S8320x1024_S1024x1024_0_0_1_1_n_n]; rfl)),
    zero_add]
  rw [← Fin.sum_univ_eq_sum_range (fun r => at2 a r (i 0).val * at2 b r (i 1).val) 8320]
  refine Finset.sum_congr rfl fun k _ => ?_
  rw [at2_eq b (ix2 k (i 1)) k.val (i 1).val rfl rfl, at2_eq a (ix2 k (i 0)) k.val (i 0).val rfl rfl, mul_comm]

/-- THE VALUES: the kernel's run and the reference's end with equal results. -/
theorem algebraic : Cert.algebraic_SwaBranchWeightIdeal_SwaBranchWeightReferenceIdeal := fun m g m' g' _ hagree =>
  ⟨fun c => G2 m c, Value.run m g, (θ_run _ _ _).mono (fun r h c => ⟨(h c).1.trans (by
      rw [(hagree c).1, (hagree c).2.2]
      funext i
      exact (reference_at _ _ i).trans (G2_at m c i).symm), (h c).2⟩) (Cert.SwaBranchWeightReferenceIdeal.Value.run (F := Ideal) m' g')⟩

end Cert.SwaBranchWeightIdeal.Sum

end
-- ==== Proof.OutSum.lean ====
/-
  The gradient of the output projection's weight: each block of the result adds up the products of thirteen blocks of 640 rows, and so is the one
  product over all 8320 rows that the reference takes.
-/
module

public import proofs.«01_k».proof.Proof.Gen.OutWeightIdeal.Value
public import proofs.«01_k».proof.Proof.Gen.OutWeightReferenceIdeal.Run
public import proofs.«01_k».proof.Proof.Dots
public import proofs.«01_k».proof.Defs

@[expose] public section

noncomputable section

namespace Cert.OutWeightIdeal.Sum

open Cert.OutWeightIdeal Cert.OutWeightIdeal.Gen Cert.OutWeightIdeal.Value Cert.Dots
open Idealize.ShloMosaic Idealize.ShloMosaic.TcCoe Idealize.ShloMosaic.ValueIdx Idealize.SL.Sem
open scoped BigOperators

variable (m : (ℓ : Loc nD τ sig) → Buf (Elt Ideal) ℓ)

/-- The left factor and the cotangent, as they stand at launch. -/
abbrev A (c : Dev nD) : S8320x1024.Idx → EReal := m ((c : Thread nD τ).loc main_arg0)
/-- The cotangent. -/
abbrev B (c : Dev nD) : S8320x1024.Idx → EReal := m ((c : Thread nD τ).loc main_arg2)

/-- The point's blocks: the rows step by 640 along the inner axis of the grid, the columns by 1024 along the outer. -/
theorem idx_in : ∀ t : Fin cfg0.N, win0_0.index t (0 : Fin 2) = t.val % 13 ∧ win0_0.index t (1 : Fin 2) = 0
    ∧ win0_1.index t (0 : Fin 2) = t.val % 13 ∧ win0_1.index t (1 : Fin 2) = t.val / 13 :=
  (by decide +kernel : ∀ t : Fin grid0.N, _)

/-- The narrow copy of the left factor the launch reads: the factor itself. -/
theorem V0_eq (c : Dev nD) : (V m c main_v0 : S8320x1024.Idx → EReal) = A m c := by
  have h : @Eq (Vec Ideal S8320x1024 .bf16) (V m c main_v0) (truncf (F := Ideal) .bf16 (m ((c : Thread nD τ).loc main_arg0) : Vec Ideal S8320x1024 .f32) bitsLt_bf16_f32) := by
    show StableHlo.after (hostOps0 (F := Ideal)) _ _ = _
    unfold hostOps0
    after_results
  exact h

/-- The cotangent as the launch finds it. -/
theorem V1_eq (c : Dev nD) : (V m c main_arg2 : S8320x1024.Idx → EReal) = B m c := V_main_arg2 m c

/-- The block of the left factor at a point. -/
theorem blkA (c : Dev nD) (t : Fin cfg0.N) (y : S640x1024.Idx) :
    (iblk m c 0 t : Vec Ideal S640x1024 .bf16) y = at2 (A m c) ((t.val % 13) * 640 + (y 0).val) (y 1).val := by
  obtain ⟨e0, e1, -, -⟩ := idx_in t
  unfold iblk
  rw [View.read_apply]
  show V m c main_v0 _ = _
  rw [V0_eq]
  refine at2_eq (A m c) _ _ _ ?_ ?_
  · show win0_0.index t 0 * 640 + 1 * (y 0).val = _; rw [e0]; omega
  · show win0_0.index t 1 * 1024 + 1 * (y 1).val = _; rw [e1]; omega

/-- The block of the cotangent at a point. -/
theorem blkB (c : Dev nD) (t : Fin cfg0.N) (y : S640x1024.Idx) :
    (iblk m c 1 t : Vec Ideal S640x1024 .f32) y = at2 (B m c) ((t.val % 13) * 640 + (y 0).val) ((t.val / 13) * 1024 + (y 1).val) := by
  obtain ⟨-, -, e0, e1⟩ := idx_in t
  unfold iblk
  rw [View.read_apply]
  show V m c main_arg2 _ = _
  rw [V1_eq]
  refine at2_eq (B m c) _ _ _ ?_ ?_
  · show win0_1.index t 0 * 640 + 1 * (y 0).val = _; rw [e0]; omega
  · show win0_1.index t 1 * 1024 + 1 * (y 1).val = _; rw [e1]; omega

/-- What a point adds: the product of its two blocks. -/
theorem pay2_at (acc : Vec Ideal S1024x1024 .f32) (x0 : Vec Ideal S640x1024 .bf16) (x1 : Vec Ideal S640x1024 .f32) (j : S1024x1024.Idx) :
    k0_pay2 acc x0 x1 j = acc j + ∑ k : Fin 640, x0 (ix2 k (j 0)) * x1 (ix2 k (j 1)) := by
  unfold k0_pay2
  simp only [shapeCast_self]
  show acc j + Ideal.matmul dot_S640x1024_S640x1024_S1024x1024_0_0_1_1_n_n x0 x1 (fun _ => Ideal.ofBits .f32 0x00000000#32) j = _
  congr 1
  rw [matmul_at dot_S640x1024_S640x1024_S1024x1024_0_0_1_1_n_n 640 rfl rfl x0 x1 _ j (fun k => ix2 k (j 0)) (fun k => ix2 k (j 1))
    (fun k => by funext a; match a with
      | ⟨0, _⟩ => exact Fin.ext (by simp [DotDims.lhsIdx, dot_S640x1024_S640x1024_S1024x1024_0_0_1_1_n_n]; rfl)
      | ⟨1, _⟩ => exact Fin.ext (by simp [DotDims.lhsIdx, dot_S640x1024_S640x1024_S1024x1024_0_0_1_1_n_n]; rfl))
    (fun k => by funext a; match a with
      | ⟨0, _⟩ => exact Fin.ext (by simp [DotDims.rhsIdx, dot_S640x1024_S640x1024_S1024x1024_0_0_1_1_n_n]; rfl)
      | ⟨1, _⟩ => exact Fin.ext (by simp [DotDims.rhsIdx, dot_S640x1024_S640x1024_S1024x1024_0_0_1_1_n_n]; rfl)),
    ofBits_zero, zero_add]

/-- The products of one row. -/
def prod (c : Dev nD) (i j r : ℕ) : EReal := at2 (A m c) r i * at2 (B m c) r j

/-- What point `n` adds at an entry of its block. -/
theorem adds (c : Dev nD) (n : ℕ) (h : n < cfg0.N) (acc : Vec Ideal S1024x1024 .f32) (j : S1024x1024.Idx) :
    k0_pay2 acc (iblk m c 0 ⟨n, h⟩) (iblk m c 1 ⟨n, h⟩) j
      = acc j + ∑ k ∈ Finset.range 640, prod m c (j 0).val ((n / 13) * 1024 + (j 1).val) ((n % 13) * 640 + k) := by
  rw [pay2_at]
  congr 1
  rw [← Fin.sum_univ_eq_sum_range (fun k => prod m c (j 0).val ((n / 13) * 1024 + (j 1).val) ((n % 13) * 640 + k)) 640]
  exact Finset.sum_congr rfl fun k _ => by rw [blkA, blkB]; rfl

/-- THE RESULT: an entry is the sum over all the rows. -/
theorem G2_at (c : Dev nD) (i : S1024x1024.Idx) :
    @Eq EReal (G2 m c i) (∑ r ∈ Finset.range 8320, prod m c (i 0).val (i 1).val r) := by
  have h0 : (i 0).val < 1024 := (i 0).isLt
  have h1 : (i 1).val < 1024 := (i 1).isLt
  have hN : cfg0.N = 13 := N_0
  have hrun : run2Of i = (i 1).val / 1024 := by
    show 1 * ((i 0).val / 1024 - 0) + 1 * ((i 1).val / 1024 - 0) = _
    omega
  have hb : 13 * run2Of i + 12 < cfg0.N := by rw [hrun]; omega
  unfold G2
  rw [dif_pos hb]
  have hl0 : (loc2Of i 0).val = (i 0).val := Nat.mod_eq_of_lt h0
  have hl1 : (loc2Of i 1).val = (i 1).val % 1024 := rfl
  rw [Pipeline.accAt_add_apply (reset2 m c) (step2 m c) (fun _ => 0)
    (fun n j => ∑ k ∈ Finset.range 640, prod m c (j 0).val ((n / 13) * 1024 + (j 1).val) ((n % 13) * 640 + k)) (13 * run2Of i) 12
    (fun h j => (adds m c _ h _ j).trans (by
      congr 1
      exact ofBits_zero))
    (fun n h acc j _ _ => adds m c n h acc j) 12 le_rfl hb (loc2Of i), zero_add]
  rw [← show 13 * 640 = 8320 from rfl, ← sum_blocks]
  refine Finset.sum_congr rfl fun s hs => Finset.sum_congr rfl fun k _ => ?_
  have hs' : s < 13 := Finset.mem_range.mp hs
  rw [show (13 * run2Of i + s) / 13 = run2Of i from by omega, show (13 * run2Of i + s) % 13 = s from by omega, hl0, hl1, hrun,
    show (i 1).val / 1024 * 1024 + (i 1).val % 1024 = (i 1).val from by omega]

/-- The reference's product, transposed, at an entry: the same sum. -/
theorem reference_at (a : S8320x1024.Idx → EReal) (b : S8320x1024.Idx → EReal) (i : Cert.OutWeightReferenceIdeal.S1024x1024.Idx) :
    transpose Cert.OutWeightReferenceIdeal.S1024x1024 [1, 0] (Host.dotGeneral (F := Ideal) (φ₁ := .f32) (φ₂ := .f32) Cert.OutWeightReferenceIdeal.dot_S8320x1024_S8320x1024_S1024x1024_0_0_1_1_n_n none b a) Cert.OutWeightReferenceIdeal.Gen.transposes_S1024x1024_S1024x1024_1_0 i
      = ∑ r ∈ Finset.range 8320, at2 a r (i 0).val * at2 b r (i 1).val := by
  refine (transpose_apply (s := Cert.OutWeightReferenceIdeal.S1024x1024) (t := Cert.OutWeightReferenceIdeal.S1024x1024) [1, 0] _ _ i (ix2 (i 1) (i 0)) (fun x => by match x with | ⟨0, _⟩ => rfl | ⟨1, _⟩ => rfl)).trans ?_
  show Ideal.matmul Cert.OutWeightReferenceIdeal.dot_S8320x1024_S8320x1024_S1024x1024_0_0_1_1_n_n b a (fun _ => 0) (ix2 (i 1) (i 0)) = _
  rw [matmul_at Cert.OutWeightReferenceIdeal.dot_S8320x1024_S8320x1024_S1024x1024_0_0_1_1_n_n 8320 rfl rfl b a _ _ (fun k => ix2 k (i 1)) (fun k => ix2 k (i 0))
    (fun k => by funext x; match x with
      | ⟨0, _⟩ => exact Fin.ext (by simp [DotDims.lhsIdx, Cert.OutWeightReferenceIdeal.dot_S8320x1024_S8320x1024_S1024x1024_0_0_1_1_n_n]; rfl)
      | ⟨1, _⟩ => exact Fin.ext (by simp [DotDims.lhsIdx, Cert.OutWeightReferenceIdeal.dot_S8320x1024_S8320x1024_S1024x1024_0_0_1_1_n_n]; rfl))
    (fun k => by funext x; match x with
      | ⟨0, _⟩ => exact Fin.ext (by simp [DotDims.rhsIdx, Cert.OutWeightReferenceIdeal.dot_S8320x1024_S8320x1024_S1024x1024_0_0_1_1_n_n]; rfl)
      | ⟨1, _⟩ => exact Fin.ext (by simp [DotDims.rhsIdx, Cert.OutWeightReferenceIdeal.dot_S8320x1024_S8320x1024_S1024x1024_0_0_1_1_n_n]; rfl)),
    zero_add]
  rw [← Fin.sum_univ_eq_sum_range (fun r => at2 a r (i 0).val * at2 b r (i 1).val) 8320]
  refine Finset.sum_congr rfl fun k _ => ?_
  rw [at2_eq b (ix2 k (i 1)) k.val (i 1).val rfl rfl, at2_eq a (ix2 k (i 0)) k.val (i 0).val rfl rfl, mul_comm]

/-- THE VALUES: the kernel's run and the reference's end with equal results. -/
theorem algebraic : Cert.algebraic_OutWeightIdeal_OutWeightReferenceIdeal := fun m g m' g' _ hagree =>
  ⟨fun c => G2 m c, Value.run m g, (θ_run _ _ _).mono (fun r h c => ⟨(h c).1.trans (by
      rw [(hagree c).1, (hagree c).2.2]
      funext i
      exact (reference_at _ _ i).trans (G2_at m c i).symm), (h c).2⟩) (Cert.OutWeightReferenceIdeal.Value.run (F := Ideal) m' g')⟩

end Cert.OutWeightIdeal.Sum

end
-- ==== Proof.QkvProduct.lean ====
/-
  The query, key and value columns of the input projection: the kernel's blocks of 640 rows by 1408 columns are together the one product that the
  reference takes.
-/
module

public import proofs.«01_k».proof.Proof.Gen.QkvProjectionIdeal.Value
public import proofs.«01_k».proof.Proof.Gen.QkvProjectionReferenceIdeal.Run
public import proofs.«01_k».proof.Proof.Dots
public import proofs.«01_k».proof.Defs

@[expose] public section

set_option maxRecDepth 16384

noncomputable section

namespace Cert.QkvProjectionIdeal.Sum

open Cert.QkvProjectionIdeal Cert.QkvProjectionIdeal.Gen Cert.QkvProjectionIdeal.Value Cert.Dots
open Idealize.ShloMosaic Idealize.ShloMosaic.TcCoe Idealize.ShloMosaic.ValueIdx Idealize.SL.Sem
open scoped BigOperators

variable (m : (ℓ : Loc nD τ sig) → Buf (Elt Ideal) ℓ)

/-- The rows, as they stand at launch. -/
abbrev A (c : Dev nD) : S8320x1024.Idx → EReal := m ((c : Thread nD τ).loc main_arg0)
/-- The weight. -/
abbrev B (c : Dev nD) : S1024x2816.Idx → EReal := m ((c : Thread nD τ).loc main_arg1)

/-- The narrow copy of the rows the launch reads: the rows themselves. -/
theorem V0_eq (c : Dev nD) : (V m c main_v0 : S8320x1024.Idx → EReal) = A m c := by
  have h : @Eq (Vec Ideal S8320x1024 .bf16) (V m c main_v0) (truncf (F := Ideal) .bf16 (m ((c : Thread nD τ).loc main_arg0) : Vec Ideal S8320x1024 .f32) bitsLt_bf16_f32) := by
    show StableHlo.after (hostOps0 (F := Ideal)) _ _ = _
    unfold hostOps0
    after_results
  exact h

/-- The narrow copy of the weight. -/
theorem V1_eq (c : Dev nD) : (V m c main_v1 : S1024x2816.Idx → EReal) = B m c := by
  have h : @Eq (Vec Ideal S1024x2816 .bf16) (V m c main_v1) (truncf (F := Ideal) .bf16 (m ((c : Thread nD τ).loc main_arg1) : Vec Ideal S1024x2816 .f32) bitsLt_bf16_f32) := by
    show StableHlo.after (hostOps0 (F := Ideal)) _ _ = _
    unfold hostOps0
    after_results
  exact h

/-- The blocks of a point: the rows step along the inner axis of the grid, the columns along the outer. -/
theorem idx_in : ∀ t : Fin cfg0.N, (win0_0.index t (0 : Fin 2) = t.val % 13 ∧ win0_0.index t (1 : Fin 2) = 0)
    ∧ (win0_1.index t (0 : Fin 2) = 0 ∧ win0_1.index t (1 : Fin 2) = t.val / 13)
    ∧ (win0_2.index t (0 : Fin 2) = t.val % 13 ∧ win0_2.index t (1 : Fin 2) = t.val / 13) :=
  (by decide +kernel : ∀ t : Fin grid0.N, _)

/-- The point's rows. -/
theorem blk0 (c : Dev nD) (t : Fin cfg0.N) (y : S640x1024.Idx) :
    @Eq EReal (iblk m c 0 t y) (at2 (A m c) ((t.val % 13) * 640 + (y 0).val) (y 1).val) := by
  obtain ⟨⟨e0, e1⟩, -, -⟩ := idx_in t
  unfold iblk
  rw [View.read_apply]
  refine (congrFun (V0_eq m c) _).trans ?_
  refine at2_eq (A m c) _ _ _ ?_ ?_
  · show win0_0.index t 0 * 640 + 1 * (y 0).val = _; rw [e0]; omega
  · show win0_0.index t 1 * 1024 + 1 * (y 1).val = _; rw [e1]; omega

/-- The point's columns of the weight. -/
theorem blk1 (c : Dev nD) (t : Fin cfg0.N) (y : S1024x1408.Idx) :
    @Eq EReal (iblk m c 1 t y) (at2 (B m c) (y 0).val ((t.val / 13) * 1408 + (y 1).val)) := by
  obtain ⟨-, ⟨e0, e1⟩, -⟩ := idx_in t
  unfold iblk
  rw [View.read_apply]
  refine (congrFun (V1_eq m c) _).trans ?_
  refine at2_eq (B m c) _ _ _ ?_ ?_
  · show win0_1.index t 0 * 1024 + 1 * (y 0).val = _; rw [e0]; omega
  · show win0_1.index t 1 * 1408 + 1 * (y 1).val = _; rw [e1]; omega

/-- What a point stores: the product of its two blocks. -/
theorem pay_at (x0 : Vec Ideal S640x1024 .bf16) (x1 : Vec Ideal S1024x1408 .bf16) (j : S640x1408.Idx) :
    @Eq EReal (k0_pay1 x0 x1 j) (∑ k : Fin 1024, x0 (ix2 (j 0) k) * x1 (ix2 k (j 1))) := by
  unfold k0_pay1
  simp only [shapeCast_self]
  show Ideal.matmul dot_S640x1024_S1024x1408_S640x1408_1_0_0_1_n_n x0 x1 (fun _ => Ideal.ofBits .f32 0x00000000#32) j = _
  rw [matmul_at dot_S640x1024_S1024x1408_S640x1408_1_0_0_1_n_n 1024 rfl rfl x0 x1 _ j (fun k => ix2 (j 0) k) (fun k => ix2 k (j 1))
    (fun k => by funext a; match a with
      | ⟨0, _⟩ => exact Fin.ext (by simp [DotDims.lhsIdx, dot_S640x1024_S1024x1408_S640x1408_1_0_0_1_n_n]; rfl)
      | ⟨1, _⟩ => exact Fin.ext (by simp [DotDims.lhsIdx, dot_S640x1024_S1024x1408_S640x1408_1_0_0_1_n_n]; rfl))
    (fun k => by funext a; match a with
      | ⟨0, _⟩ => exact Fin.ext (by simp [DotDims.rhsIdx, dot_S640x1024_S1024x1408_S640x1408_1_0_0_1_n_n]; rfl)
      | ⟨1, _⟩ => exact Fin.ext (by simp [DotDims.rhsIdx, dot_S640x1024_S1024x1408_S640x1408_1_0_0_1_n_n]; rfl)),
    ofBits_zero, zero_add]

/-- The product of one place of the contracted axis. -/
def prod (c : Dev nD) (i j k : ℕ) : EReal := at2 (A m c) i k * at2 (B m c) k j

/-- The whole product. -/
def whole (c : Dev nD) : S8320x2816.Idx → EReal := fun i => ∑ k ∈ Finset.range 1024, prod m c (i 0).val (i 1).val k

theorem hz : (![0, 0] : Fin 2 → Nat) = fun _ => 0 := funext fun a => by fin_cases a <;> rfl

/-- What a point writes back, at an index of its block. -/
theorem out_at (c : Dev nD) (t : Fin cfg0.N) (y : S640x1408.Idx) :
    @Eq EReal (out0_2 (iblk m c 0 t) (iblk m c 1 t) y) (∑ k ∈ Finset.range 1024, prod m c ((t.val % 13) * 640 + (y 0).val) ((t.val / 13) * 1408 + (y 1).val) k) := by
  unfold out0_2
  rw [View.canon_unit_zero hz, View.ld_unit_zero hz, View.ld_unit_zero hz]
  refine (pay_at _ _ y).trans ?_
  rw [← Fin.sum_univ_eq_sum_range (fun k => prod m c ((t.val % 13) * 640 + (y 0).val) ((t.val / 13) * 1408 + (y 1).val) k) 1024]
  exact Finset.sum_congr rfl fun k _ => by rw [blk0, blk1]; rfl

/-- What a point writes back is its block of the whole product. -/
theorem flushed_eq (c : Dev nD) (t : Fin cfg0.N) :
    (dats m 0 c).flushed 2 t = (win0_2.blk t).view.read (Elt Ideal) (whole m c) := by
  obtain ⟨-, -, ⟨e0, e1⟩⟩ := idx_in t
  rw [flushed2]
  funext y
  rw [View.read_apply]
  refine (out_at m c t _).trans ?_
  show _ = ∑ k ∈ Finset.range 1024, prod m c (win0_2.index t 0 * 640 + 1 * (y 0).val) (win0_2.index t 1 * 1408 + 1 * (y 1).val) k
  rw [e0, e1, Nat.one_mul, Nat.one_mul]

/-- The blocks of the points are the whole array. -/
theorem cover (i : S8320x2816.Idx) : ∃ t : Fin cfg0.N, (cfg0.win 2).flush t = true ∧ i ∈ ((cfg0.win 2).blk t).view.set := by
  have h0 : (i 0).val < 8320 := (i 0).isLt
  have h1 : (i 1).val < 2816 := (i 1).isLt
  have hN : cfg0.N = 26 := N_0
  have ht : (i 1).val / 1408 * 13 + (i 0).val / 640 < cfg0.N := by omega
  refine ⟨⟨_, ht⟩, flush0_2 _, ?_⟩
  obtain ⟨-, -, ⟨e0, e1⟩⟩ := idx_in ⟨_, ht⟩
  show i ∈ ((View.whole main_v2).slice (win0_2.rect ⟨_, ht⟩)).set
  rw [View.set_slice_whole, Rect.mem_set_unit]
  intro a
  match a with
  | ⟨0, _⟩ => show win0_2.index ⟨_, ht⟩ 0 * 640 ≤ (i 0).val ∧ (i 0).val < win0_2.index ⟨_, ht⟩ 0 * 640 + 640; rw [e0]; dsimp only; omega
  | ⟨1, _⟩ => show win0_2.index ⟨_, ht⟩ 1 * 1408 ≤ (i 1).val ∧ (i 1).val < win0_2.index ⟨_, ht⟩ 1 * 1408 + 1408; rw [e1]; dsimp only; omega

/-- THE RESULT ARRAY after the run is the whole product. -/
theorem final (c : Dev nD) : (dats m 0 c).arrAt 2 cfg0.N = whole m c :=
  (dats m 0 c).arrAt_eq_of_cover 2 (whole m c) (fun t _ => flushed_eq m c t) cover

/-- The reference's product at an entry: the same sum. -/
theorem reference_at (a : S8320x1024.Idx → EReal) (b : S1024x2816.Idx → EReal) (i : Cert.QkvProjectionReferenceIdeal.S8320x2816.Idx) :
    Host.dotGeneral (F := Ideal) (φ₁ := .f32) (φ₂ := .f32) Cert.QkvProjectionReferenceIdeal.dot_S8320x1024_S1024x2816_S8320x2816_1_0_0_1_n_n none a b i
      = ∑ k ∈ Finset.range 1024, at2 a (i 0).val k * at2 b k (i 1).val := by
  show Ideal.matmul Cert.QkvProjectionReferenceIdeal.dot_S8320x1024_S1024x2816_S8320x2816_1_0_0_1_n_n a b (fun _ => 0) i = _
  rw [matmul_at Cert.QkvProjectionReferenceIdeal.dot_S8320x1024_S1024x2816_S8320x2816_1_0_0_1_n_n 1024 rfl rfl a b _ i (fun k => ix2 (i 0) k) (fun k => ix2 k (i 1))
    (fun k => by funext x; match x with
      | ⟨0, _⟩ => exact Fin.ext (by simp [DotDims.lhsIdx, Cert.QkvProjectionReferenceIdeal.dot_S8320x1024_S1024x2816_S8320x2816_1_0_0_1_n_n]; rfl)
      | ⟨1, _⟩ => exact Fin.ext (by simp [DotDims.lhsIdx, Cert.QkvProjectionReferenceIdeal.dot_S8320x1024_S1024x2816_S8320x2816_1_0_0_1_n_n]; rfl))
    (fun k => by funext x; match x with
      | ⟨0, _⟩ => exact Fin.ext (by simp [DotDims.rhsIdx, Cert.QkvProjectionReferenceIdeal.dot_S8320x1024_S1024x2816_S8320x2816_1_0_0_1_n_n]; rfl)
      | ⟨1, _⟩ => exact Fin.ext (by simp [DotDims.rhsIdx, Cert.QkvProjectionReferenceIdeal.dot_S8320x1024_S1024x2816_S8320x2816_1_0_0_1_n_n]; rfl)),
    zero_add]
  rw [← Fin.sum_univ_eq_sum_range (fun k => at2 a (i 0).val k * at2 b k (i 1).val) 1024]
  refine Finset.sum_congr rfl fun k _ => ?_
  rw [at2_eq a (ix2 (i 0) k) (i 0).val k.val rfl rfl, at2_eq b (ix2 k (i 1)) k.val (i 1).val rfl rfl]

/-- THE VALUES: the kernel's run and the reference's end with equal results. -/
theorem algebraic : Cert.algebraic_QkvProjectionIdeal_QkvProjectionReferenceIdeal := fun m g m' g' _ hagree =>
  ⟨fun c => whole m c, (θ_run _ _ _).mono (fun r h c => ⟨(h c).1.trans (final m c), (h c).2⟩) (Value.run_blocks m g),
    (θ_run _ _ _).mono (fun r h c => ⟨(h c).1.trans (by
      rw [(hagree c).1, (hagree c).2]
      funext i
      exact reference_at _ _ i), (h c).2⟩) (Cert.QkvProjectionReferenceIdeal.Value.run (F := Ideal) m' g')⟩

end Cert.QkvProjectionIdeal.Sum

end
-- ==== Proof.GateProduct.lean ====
/-
  The gates' columns of the input projection: the kernel's blocks of 640 rows by 1792 columns are together the one product that the
  reference takes.
-/
module

public import proofs.«01_k».proof.Proof.Gen.GateProjectionIdeal.Value
public import proofs.«01_k».proof.Proof.Gen.GateProjectionReferenceIdeal.Run
public import proofs.«01_k».proof.Proof.Dots
public import proofs.«01_k».proof.Defs

@[expose] public section

set_option maxRecDepth 16384

noncomputable section

namespace Cert.GateProjectionIdeal.Sum

open Cert.GateProjectionIdeal Cert.GateProjectionIdeal.Gen Cert.GateProjectionIdeal.Value Cert.Dots
open Idealize.ShloMosaic Idealize.ShloMosaic.TcCoe Idealize.ShloMosaic.ValueIdx Idealize.SL.Sem
open scoped BigOperators

variable (m : (ℓ : Loc nD τ sig) → Buf (Elt Ideal) ℓ)

/-- The rows, as they stand at launch. -/
abbrev A (c : Dev nD) : S8320x1024.Idx → EReal := m ((c : Thread nD τ).loc main_arg0)
/-- The weight. -/
abbrev B (c : Dev nD) : S1024x3584.Idx → EReal := m ((c : Thread nD τ).loc main_arg1)

/-- The narrow copy of the rows the launch reads: the rows themselves. -/
theorem V0_eq (c : Dev nD) : (V m c main_v0 : S8320x1024.Idx → EReal) = A m c := by
  have h : @Eq (Vec Ideal S8320x1024 .bf16) (V m c main_v0) (truncf (F := Ideal) .bf16 (m ((c : Thread nD τ).loc main_arg0) : Vec Ideal S8320x1024 .f32) bitsLt_bf16_f32) := by
    show StableHlo.after (hostOps0 (F := Ideal)) _ _ = _
    unfold hostOps0
    after_results
  exact h

/-- The narrow copy of the weight. -/
theorem V1_eq (c : Dev nD) : (V m c main_v1 : S1024x3584.Idx → EReal) = B m c := by
  have h : @Eq (Vec Ideal S1024x3584 .bf16) (V m c main_v1) (truncf (F := Ideal) .bf16 (m ((c : Thread nD τ).loc main_arg1) : Vec Ideal S1024x3584 .f32) bitsLt_bf16_f32) := by
    show StableHlo.after (hostOps0 (F := Ideal)) _ _ = _
    unfold hostOps0
    after_results
  exact h

/-- The blocks of a point: the rows step along the inner axis of the grid, the columns along the outer. -/
theorem idx_in : ∀ t : Fin cfg0.N, (win0_0.index t (0 : Fin 2) = t.val % 13 ∧ win0_0.index t (1 : Fin 2) = 0)
    ∧ (win0_1.index t (0 : Fin 2) = 0 ∧ win0_1.index t (1 : Fin 2) = t.val / 13)
    ∧ (win0_2.index t (0 : Fin 2) = t.val % 13 ∧ win0_2.index t (1 : Fin 2) = t.val / 13) :=
  (by decide +kernel : ∀ t : Fin grid0.N, _)

/-- The point's rows. -/
theorem blk0 (c : Dev nD) (t : Fin cfg0.N) (y : S640x1024.Idx) :
    @Eq EReal (iblk m c 0 t y) (at2 (A m c) ((t.val % 13) * 640 + (y 0).val) (y 1).val) := by
  obtain ⟨⟨e0, e1⟩, -, -⟩ := idx_in t
  unfold iblk
  rw [View.read_apply]
  refine (congrFun (V0_eq m c) _).trans ?_
  refine at2_eq (A m c) _ _ _ ?_ ?_
  · show win0_0.index t 0 * 640 + 1 * (y 0).val = _; rw [e0]; omega
  · show win0_0.index t 1 * 1024 + 1 * (y 1).val = _; rw [e1]; omega

/-- The point's columns of the weight. -/
theorem blk1 (c : Dev nD) (t : Fin cfg0.N) (y : S1024x1792.Idx) :
    @Eq EReal (iblk m c 1 t y) (at2 (B m c) (y 0).val ((t.val / 13) * 1792 + (y 1).val)) := by
  obtain ⟨-, ⟨e0, e1⟩, -⟩ := idx_in t
  unfold iblk
  rw [View.read_apply]
  refine (congrFun (V1_eq m c) _).trans ?_
  refine at2_eq (B m c) _ _ _ ?_ ?_
  · show win0_1.index t 0 * 1024 + 1 * (y 0).val = _; rw [e0]; omega
  · show win0_1.index t 1 * 1792 + 1 * (y 1).val = _; rw [e1]; omega

/-- What a point stores: the product of its two blocks. -/
theorem pay_at (x0 : Vec Ideal S640x1024 .bf16) (x1 : Vec Ideal S1024x1792 .bf16) (j : S640x1792.Idx) :
    @Eq EReal (k0_pay1 x0 x1 j) (∑ k : Fin 1024, x0 (ix2 (j 0) k) * x1 (ix2 k (j 1))) := by
  unfold k0_pay1
  simp only [shapeCast_self]
  show Ideal.matmul dot_S640x1024_S1024x1792_S640x1792_1_0_0_1_n_n x0 x1 (fun _ => Ideal.ofBits .f32 0x00000000#32) j = _
  rw [matmul_at dot_S640x1024_S1024x1792_S640x1792_1_0_0_1_n_n 1024 rfl rfl x0 x1 _ j (fun k => ix2 (j 0) k) (fun k => ix2 k (j 1))
    (fun k => by funext a; match a with
      | ⟨0, _⟩ => exact Fin.ext (by simp [DotDims.lhsIdx, dot_S640x1024_S1024x1792_S640x1792_1_0_0_1_n_n]; rfl)
      | ⟨1, _⟩ => exact Fin.ext (by simp [DotDims.lhsIdx, dot_S640x1024_S1024x1792_S640x1792_1_0_0_1_n_n]; rfl))
    (fun k => by funext a; match a with
      | ⟨0, _⟩ => exact Fin.ext (by simp [DotDims.rhsIdx, dot_S640x1024_S1024x1792_S640x1792_1_0_0_1_n_n]; rfl)
      | ⟨1, _⟩ => exact Fin.ext (by simp [DotDims.rhsIdx, dot_S640x1024_S1024x1792_S640x1792_1_0_0_1_n_n]; rfl)),
    ofBits_zero, zero_add]

/-- The product of one place of the contracted axis. -/
def prod (c : Dev nD) (i j k : ℕ) : EReal := at2 (A m c) i k * at2 (B m c) k j

/-- The whole product. -/
def whole (c : Dev nD) : S8320x3584.Idx → EReal := fun i => ∑ k ∈ Finset.range 1024, prod m c (i 0).val (i 1).val k

theorem hz : (![0, 0] : Fin 2 → Nat) = fun _ => 0 := funext fun a => by fin_cases a <;> rfl

/-- What a point writes back, at an index of its block. -/
theorem out_at (c : Dev nD) (t : Fin cfg0.N) (y : S640x1792.Idx) :
    @Eq EReal (out0_2 (iblk m c 0 t) (iblk m c 1 t) y) (∑ k ∈ Finset.range 1024, prod m c ((t.val % 13) * 640 + (y 0).val) ((t.val / 13) * 1792 + (y 1).val) k) := by
  unfold out0_2
  rw [View.canon_unit_zero hz, View.ld_unit_zero hz, View.ld_unit_zero hz]
  refine (pay_at _ _ y).trans ?_
  rw [← Fin.sum_univ_eq_sum_range (fun k => prod m c ((t.val % 13) * 640 + (y 0).val) ((t.val / 13) * 1792 + (y 1).val) k) 1024]
  exact Finset.sum_congr rfl fun k _ => by rw [blk0, blk1]; rfl

/-- What a point writes back is its block of the whole product. -/
theorem flushed_eq (c : Dev nD) (t : Fin cfg0.N) :
    (dats m 0 c).flushed 2 t = (win0_2.blk t).view.read (Elt Ideal) (whole m c) := by
  obtain ⟨-, -, ⟨e0, e1⟩⟩ := idx_in t
  rw [flushed2]
  funext y
  rw [View.read_apply]
  refine (out_at m c t _).trans ?_
  show _ = ∑ k ∈ Finset.range 1024, prod m c (win0_2.index t 0 * 640 + 1 * (y 0).val) (win0_2.index t 1 * 1792 + 1 * (y 1).val) k
  rw [e0, e1, Nat.one_mul, Nat.one_mul]

/-- The blocks of the points are the whole array. -/
theorem cover (i : S8320x3584.Idx) : ∃ t : Fin cfg0.N, (cfg0.win 2).flush t = true ∧ i ∈ ((cfg0.win 2).blk t).view.set := by
  have h0 : (i 0).val < 8320 := (i 0).isLt
  have h1 : (i 1).val < 3584 := (i 1).isLt
  have hN : cfg0.N = 26 := N_0
  have ht : (i 1).val / 1792 * 13 + (i 0).val / 640 < cfg0.N := by omega
  refine ⟨⟨_, ht⟩, flush0_2 _, ?_⟩
  obtain ⟨-, -, ⟨e0, e1⟩⟩ := idx_in ⟨_, ht⟩
  show i ∈ ((View.whole main_v2).slice (win0_2.rect ⟨_, ht⟩)).set
  rw [View.set_slice_whole, Rect.mem_set_unit]
  intro a
  match a with
  | ⟨0, _⟩ => show win0_2.index ⟨_, ht⟩ 0 * 640 ≤ (i 0).val ∧ (i 0).val < win0_2.index ⟨_, ht⟩ 0 * 640 + 640; rw [e0]; dsimp only; omega
  | ⟨1, _⟩ => show win0_2.index ⟨_, ht⟩ 1 * 1792 ≤ (i 1).val ∧ (i 1).val < win0_2.index ⟨_, ht⟩ 1 * 1792 + 1792; rw [e1]; dsimp only; omega

/-- THE RESULT ARRAY after the run is the whole product. -/
theorem final (c : Dev nD) : (dats m 0 c).arrAt 2 cfg0.N = whole m c :=
  (dats m 0 c).arrAt_eq_of_cover 2 (whole m c) (fun t _ => flushed_eq m c t) cover

/-- The reference's product at an entry: the same sum. -/
theorem reference_at (a : S8320x1024.Idx → EReal) (b : S1024x3584.Idx → EReal) (i : Cert.GateProjectionReferenceIdeal.S8320x3584.Idx) :
    Host.dotGeneral (F := Ideal) (φ₁ := .f32) (φ₂ := .f32) Cert.GateProjectionReferenceIdeal.dot_S8320x1024_S1024x3584_S8320x3584_1_0_0_1_n_n none a b i
      = ∑ k ∈ Finset.range 1024, at2 a (i 0).val k * at2 b k (i 1).val := by
  show Ideal.matmul Cert.GateProjectionReferenceIdeal.dot_S8320x1024_S1024x3584_S8320x3584_1_0_0_1_n_n a b (fun _ => 0) i = _
  rw [matmul_at Cert.GateProjectionReferenceIdeal.dot_S8320x1024_S1024x3584_S8320x3584_1_0_0_1_n_n 1024 rfl rfl a b _ i (fun k => ix2 (i 0) k) (fun k => ix2 k (i 1))
    (fun k => by funext x; match x with
      | ⟨0, _⟩ => exact Fin.ext (by simp [DotDims.lhsIdx, Cert.GateProjectionReferenceIdeal.dot_S8320x1024_S1024x3584_S8320x3584_1_0_0_1_n_n]; rfl)
      | ⟨1, _⟩ => exact Fin.ext (by simp [DotDims.lhsIdx, Cert.GateProjectionReferenceIdeal.dot_S8320x1024_S1024x3584_S8320x3584_1_0_0_1_n_n]; rfl))
    (fun k => by funext x; match x with
      | ⟨0, _⟩ => exact Fin.ext (by simp [DotDims.rhsIdx, Cert.GateProjectionReferenceIdeal.dot_S8320x1024_S1024x3584_S8320x3584_1_0_0_1_n_n]; rfl)
      | ⟨1, _⟩ => exact Fin.ext (by simp [DotDims.rhsIdx, Cert.GateProjectionReferenceIdeal.dot_S8320x1024_S1024x3584_S8320x3584_1_0_0_1_n_n]; rfl)),
    zero_add]
  rw [← Fin.sum_univ_eq_sum_range (fun k => at2 a (i 0).val k * at2 b k (i 1).val) 1024]
  refine Finset.sum_congr rfl fun k _ => ?_
  rw [at2_eq a (ix2 (i 0) k) (i 0).val k.val rfl rfl, at2_eq b (ix2 k (i 1)) k.val (i 1).val rfl rfl]

/-- THE VALUES: the kernel's run and the reference's end with equal results. -/
theorem algebraic : Cert.algebraic_GateProjectionIdeal_GateProjectionReferenceIdeal := fun m g m' g' _ hagree =>
  ⟨fun c => whole m c, (θ_run _ _ _).mono (fun r h c => ⟨(h c).1.trans (final m c), (h c).2⟩) (Value.run_blocks m g),
    (θ_run _ _ _).mono (fun r h c => ⟨(h c).1.trans (by
      rw [(hagree c).1, (hagree c).2]
      funext i
      exact reference_at _ _ i), (h c).2⟩) (Cert.GateProjectionReferenceIdeal.Value.run (F := Ideal) m' g')⟩

end Cert.GateProjectionIdeal.Sum

end
-- ==== Proof.Merge.lean ====
/-
  The mathematics of the gated merge, over whole arrays and over blocks of 320 rows: products, gates, and the facts that
  a block of rows of a product is the product of the block.
-/
module

public import Idealize.ShloMosaic.PureOps.Ideal
public import Idealize.ShloMosaic.Lib.IdealHost
public import proofs.«01_k».proof.Proof.Dots

@[expose] public section

set_option maxRecDepth 16384

noncomputable section

namespace Cert.Merge

open Cert.Dots
open Idealize.ShloMosaic Idealize.ShloMosaic.ValueIdx
open scoped BigOperators

/-- A matrix of extended reals. -/
abbrev Mat (R C : ℕ) := (⟨2, ![R, C]⟩ : Shape).Idx → EReal

/-- The product of two matrices. -/
def mm {R K N : ℕ} (a : Mat R K) (b : Mat K N) : Mat R N := fun i => ∑ k : Fin K, a (ix2 (i 0) k) * b (ix2 k (i 1))

/-- The product with the second matrix on its side. -/
def mmt {R K N : ℕ} (a : Mat R K) (b : Mat N K) : Mat R N := fun i => ∑ k : Fin K, a (ix2 (i 0) k) * b (ix2 (i 1) k)

/-- A gated activation: the values times the gate's `z · σ(z)`. -/
def silu {R C : ℕ} (a z : Mat R C) : Mat R C := fun i => a i * (z i * Ideal.logistic (z i))

/-- The merge: the two branches, each weighed by the sigmoid of its gate. -/
def mix {R C : ℕ} (g1 y1 g2 y2 : Mat R C) : Mat R C := fun i => Ideal.logistic (g1 i) * y1 i + Ideal.logistic (g2 i) * y2 i

/-- A sum, entry by entry. -/
def plus {R C : ℕ} (a b : Mat R C) : Mat R C := fun i => a i + b i

/-- The block of 320 rows that the point `t` of 26 takes. -/
def rows {C : ℕ} (t : Fin 26) (x : Mat 8320 C) : Mat 320 C :=
  fun y => x (ix2 ⟨t.val * 320 + (y 0).val, by have h : (y 0).val < 320 := (y 0).isLt; have := t.isLt; omega⟩ (y 1))

/-- A block of rows of a product is the block's product. -/
theorem rows_mm {K N : ℕ} (t : Fin 26) (a : Mat 8320 K) (b : Mat K N) : rows t (mm a b) = mm (rows t a) b := rfl

/-- … and with the second matrix on its side. -/
theorem rows_mmt {K N : ℕ} (t : Fin 26) (a : Mat 8320 K) (b : Mat N K) : rows t (mmt a b) = mmt (rows t a) b := rfl

/-- The plain product of a kernel or of the host is `mm`. -/
theorem dot_mm {R K N : ℕ} (wf) (a : Mat R K) (b : Mat K N) (z : EReal) (hz : z = 0) :
    Ideal.matmul (⟨[1], [0], [0], [1], [], [], wf⟩ : DotDims ⟨2, ![R, K]⟩ ⟨2, ![K, N]⟩ ⟨2, ![R, N]⟩) a b (fun _ => z) = mm a b := by
  funext i
  rw [matmul_at _ K rfl rfl a b _ i (fun k => ix2 (i 0) k) (fun k => ix2 k (i 1))
    (fun k => by funext x; match x with
      | ⟨0, _⟩ => exact Fin.ext (by simp [DotDims.lhsIdx]; rfl)
      | ⟨1, _⟩ => exact Fin.ext (by simp [DotDims.lhsIdx]; rfl))
    (fun k => by funext x; match x with
      | ⟨0, _⟩ => exact Fin.ext (by simp [DotDims.rhsIdx]; rfl)
      | ⟨1, _⟩ => exact Fin.ext (by simp [DotDims.rhsIdx]; rfl)), hz, zero_add]
  rfl

/-- The product of the host that contracts the second axes of both is `mmt`. -/
theorem dot_mmt {R K N : ℕ} (wf) (a : Mat R K) (b : Mat N K) (z : EReal) (hz : z = 0) :
    Ideal.matmul (⟨[1], [1], [0], [0], [], [], wf⟩ : DotDims ⟨2, ![R, K]⟩ ⟨2, ![N, K]⟩ ⟨2, ![R, N]⟩) a b (fun _ => z) = mmt a b := by
  funext i
  rw [matmul_at _ K rfl rfl a b _ i (fun k => ix2 (i 0) k) (fun k => ix2 (i 1) k)
    (fun k => by funext x; match x with
      | ⟨0, _⟩ => exact Fin.ext (by simp [DotDims.lhsIdx]; rfl)
      | ⟨1, _⟩ => exact Fin.ext (by simp [DotDims.lhsIdx]; rfl))
    (fun k => by funext x; match x with
      | ⟨0, _⟩ => exact Fin.ext (by simp [DotDims.rhsIdx]; rfl)
      | ⟨1, _⟩ => exact Fin.ext (by simp [DotDims.rhsIdx]; rfl)), hz, zero_add]
  rfl

/-- The four gates beside one another, read at a column. -/
theorem gates {R : ℕ} (a b d : Mat R 1024) (e : Mat R 512)
    (hc : Shape.Concatenates [(⟨2, ![R, 1024]⟩ : Shape), (⟨2, ![R, 1024]⟩ : Shape), (⟨2, ![R, 1024]⟩ : Shape), (⟨2, ![R, 512]⟩ : Shape)] (⟨2, ![R, 3584]⟩ : Shape) 1)
    (j : (⟨2, ![R, 3584]⟩ : Shape).Idx) :
    concatenate (⟨2, ![R, 3584]⟩ : Shape) 1 [⟨(⟨2, ![R, 1024]⟩ : Shape), a⟩, ⟨(⟨2, ![R, 1024]⟩ : Shape), b⟩, ⟨(⟨2, ![R, 1024]⟩ : Shape), d⟩, ⟨(⟨2, ![R, 512]⟩ : Shape), e⟩] hc j
      = if h0 : (j 1).val < 1024 then a (ix2 (j 0) ⟨(j 1).val, h0⟩)
        else if h1 : (j 1).val < 2048 then b (ix2 (j 0) ⟨(j 1).val - 1024, by omega⟩)
        else if h2 : (j 1).val < 3072 then d (ix2 (j 0) ⟨(j 1).val - 2048, by omega⟩)
        else e (ix2 (j 0) ⟨(j 1).val - 3072, by have h : (j 1).val < 3584 := (j 1).isLt; omega⟩) := by
  have hj : (j 1).val < 3584 := (j 1).isLt
  by_cases c0 : (j 1).val < 1024
  · rw [dif_pos c0]
    exact concatenate_apply_piece 1 [⟨(⟨2, ![R, 1024]⟩ : Shape), a⟩, ⟨(⟨2, ![R, 1024]⟩ : Shape), b⟩, ⟨(⟨2, ![R, 1024]⟩ : Shape), d⟩, ⟨(⟨2, ![R, 512]⟩ : Shape), e⟩] hc j 0 (by simp) (⟨2, ![R, 1024]⟩ : Shape) a rfl rfl 0 (by simp)
      (ix2 (j 0) ⟨(j 1).val, c0⟩) (fun b hb => by match b with | ⟨0, _⟩ => rfl | ⟨1, _⟩ => exact absurd rfl hb) (by show 0 + (j 1).val = (j 1).val; omega)
  rw [dif_neg c0]
  by_cases c1 : (j 1).val < 2048
  · rw [dif_pos c1]
    exact concatenate_apply_piece 1 [⟨(⟨2, ![R, 1024]⟩ : Shape), a⟩, ⟨(⟨2, ![R, 1024]⟩ : Shape), b⟩, ⟨(⟨2, ![R, 1024]⟩ : Shape), d⟩, ⟨(⟨2, ![R, 512]⟩ : Shape), e⟩] hc j 1 (by simp) (⟨2, ![R, 1024]⟩ : Shape) b rfl rfl 1024 (by simp)
      (ix2 (j 0) ⟨(j 1).val - 1024, by omega⟩) (fun b hb => by match b with | ⟨0, _⟩ => rfl | ⟨1, _⟩ => exact absurd rfl hb) (by show 1024 + ((j 1).val - 1024) = (j 1).val; omega)
  rw [dif_neg c1]
  by_cases c2 : (j 1).val < 3072
  · rw [dif_pos c2]
    exact concatenate_apply_piece 1 [⟨(⟨2, ![R, 1024]⟩ : Shape), a⟩, ⟨(⟨2, ![R, 1024]⟩ : Shape), b⟩, ⟨(⟨2, ![R, 1024]⟩ : Shape), d⟩, ⟨(⟨2, ![R, 512]⟩ : Shape), e⟩] hc j 2 (by simp) (⟨2, ![R, 1024]⟩ : Shape) d rfl rfl 2048 (by simp)
      (ix2 (j 0) ⟨(j 1).val - 2048, by omega⟩) (fun b hb => by match b with | ⟨0, _⟩ => rfl | ⟨1, _⟩ => exact absurd rfl hb) (by show 2048 + ((j 1).val - 2048) = (j 1).val; omega)
  · rw [dif_neg c2]
    exact concatenate_apply_piece 1 [⟨(⟨2, ![R, 1024]⟩ : Shape), a⟩, ⟨(⟨2, ![R, 1024]⟩ : Shape), b⟩, ⟨(⟨2, ![R, 1024]⟩ : Shape), d⟩, ⟨(⟨2, ![R, 512]⟩ : Shape), e⟩] hc j 3 (by simp) (⟨2, ![R, 512]⟩ : Shape) e rfl rfl 3072 (by simp)
      (ix2 (j 0) ⟨(j 1).val - 3072, by omega⟩) (fun b hb => by match b with | ⟨0, _⟩ => rfl | ⟨1, _⟩ => exact absurd rfl hb) (by show 3072 + ((j 1).val - 3072) = (j 1).val; omega)

/-- An array read at a row of a point's block and at a column is the block read there. -/
theorem rows_at {C : ℕ} (t : Fin 26) (x : Mat 8320 C) (i : (⟨2, ![8320, C]⟩ : Shape).Idx) (y : (⟨2, ![320, C]⟩ : Shape).Idx)
    (h0 : (i 0).val = t.val * 320 + (y 0).val) (h1 : (i 1).val = (y 1).val) : x i = rows t x y := by
  unfold rows
  refine congrArg x (funext fun a => Fin.ext ?_)
  match a with
  | ⟨0, _⟩ => exact h0
  | ⟨1, _⟩ => exact h1

/-- An array read at its own index. -/
theorem read_same {R C : ℕ} (x : Mat R C) (i y : (⟨2, ![R, C]⟩ : Shape).Idx) (h0 : (i 0).val = (y 0).val) (h1 : (i 1).val = (y 1).val) : x i = x y := by
  refine congrArg x (funext fun a => Fin.ext ?_)
  match a with
  | ⟨0, _⟩ => exact h0
  | ⟨1, _⟩ => exact h1

/-- The gates beside one another, read in the first one's columns. -/
theorem gates_a (t : Fin 26) (a b d : Mat 8320 1024) (e : Mat 8320 512)
    (hc : Shape.Concatenates [(⟨2, ![8320, 1024]⟩ : Shape), (⟨2, ![8320, 1024]⟩ : Shape), (⟨2, ![8320, 1024]⟩ : Shape), (⟨2, ![8320, 512]⟩ : Shape)] (⟨2, ![8320, 3584]⟩ : Shape) 1)
    (i : (⟨2, ![8320, 3584]⟩ : Shape).Idx) (y : (⟨2, ![320, 1024]⟩ : Shape).Idx)
    (h0 : (i 0).val = t.val * 320 + (y 0).val) (h1 : (i 1).val = 0 + (y 1).val) :
    concatenate (⟨2, ![8320, 3584]⟩ : Shape) 1 [⟨(⟨2, ![8320, 1024]⟩ : Shape), a⟩, ⟨(⟨2, ![8320, 1024]⟩ : Shape), b⟩, ⟨(⟨2, ![8320, 1024]⟩ : Shape), d⟩, ⟨(⟨2, ![8320, 512]⟩ : Shape), e⟩] hc i = rows t a y := by
  have hy : (y 1).val < 1024 := (y 1).isLt
  rw [gates]
  rw [dif_pos (by omega)]
  exact rows_at t a _ y h0 (by show (i 1).val = (y 1).val; omega)

/-- The gates beside one another, read in the second one's columns. -/
theorem gates_b (t : Fin 26) (a b d : Mat 8320 1024) (e : Mat 8320 512)
    (hc : Shape.Concatenates [(⟨2, ![8320, 1024]⟩ : Shape), (⟨2, ![8320, 1024]⟩ : Shape), (⟨2, ![8320, 1024]⟩ : Shape), (⟨2, ![8320, 512]⟩ : Shape)] (⟨2, ![8320, 3584]⟩ : Shape) 1)
    (i : (⟨2, ![8320, 3584]⟩ : Shape).Idx) (y : (⟨2, ![320, 1024]⟩ : Shape).Idx)
    (h0 : (i 0).val = t.val * 320 + (y 0).val) (h1 : (i 1).val = 1024 + (y 1).val) :
    concatenate (⟨2, ![8320, 3584]⟩ : Shape) 1 [⟨(⟨2, ![8320, 1024]⟩ : Shape), a⟩, ⟨(⟨2, ![8320, 1024]⟩ : Shape), b⟩, ⟨(⟨2, ![8320, 1024]⟩ : Shape), d⟩, ⟨(⟨2, ![8320, 512]⟩ : Shape), e⟩] hc i = rows t b y := by
  have hy : (y 1).val < 1024 := (y 1).isLt
  rw [gates]
  rw [dif_neg (by omega)]
  rw [dif_pos (by omega)]
  exact rows_at t b _ y h0 (by show (i 1).val - 1024 = (y 1).val; omega)

/-- The gates beside one another, read in the third one's columns. -/
theorem gates_d (t : Fin 26) (a b d : Mat 8320 1024) (e : Mat 8320 512)
    (hc : Shape.Concatenates [(⟨2, ![8320, 1024]⟩ : Shape), (⟨2, ![8320, 1024]⟩ : Shape), (⟨2, ![8320, 1024]⟩ : Shape), (⟨2, ![8320, 512]⟩ : Shape)] (⟨2, ![8320, 3584]⟩ : Shape) 1)
    (i : (⟨2, ![8320, 3584]⟩ : Shape).Idx) (y : (⟨2, ![320, 1024]⟩ : Shape).Idx)
    (h0 : (i 0).val = t.val * 320 + (y 0).val) (h1 : (i 1).val = 2048 + (y 1).val) :
    concatenate (⟨2, ![8320, 3584]⟩ : Shape) 1 [⟨(⟨2, ![8320, 1024]⟩ : Shape), a⟩, ⟨(⟨2, ![8320, 1024]⟩ : Shape), b⟩, ⟨(⟨2, ![8320, 1024]⟩ : Shape), d⟩, ⟨(⟨2, ![8320, 512]⟩ : Shape), e⟩] hc i = rows t d y := by
  have hy : (y 1).val < 1024 := (y 1).isLt
  rw [gates]
  rw [dif_neg (by omega)]
  rw [dif_neg (by omega)]
  rw [dif_pos (by omega)]
  exact rows_at t d _ y h0 (by show (i 1).val - 2048 = (y 1).val; omega)

/-- The gates beside one another, read in the last one's columns. -/
theorem gates_e (t : Fin 26) (a b d : Mat 8320 1024) (e : Mat 8320 512)
    (hc : Shape.Concatenates [(⟨2, ![8320, 1024]⟩ : Shape), (⟨2, ![8320, 1024]⟩ : Shape), (⟨2, ![8320, 1024]⟩ : Shape), (⟨2, ![8320, 512]⟩ : Shape)] (⟨2, ![8320, 3584]⟩ : Shape) 1)
    (i : (⟨2, ![8320, 3584]⟩ : Shape).Idx) (y : (⟨2, ![320, 512]⟩ : Shape).Idx)
    (h0 : (i 0).val = t.val * 320 + (y 0).val) (h1 : (i 1).val = 3072 + (y 1).val) :
    concatenate (⟨2, ![8320, 3584]⟩ : Shape) 1 [⟨(⟨2, ![8320, 1024]⟩ : Shape), a⟩, ⟨(⟨2, ![8320, 1024]⟩ : Shape), b⟩, ⟨(⟨2, ![8320, 1024]⟩ : Shape), d⟩, ⟨(⟨2, ![8320, 512]⟩ : Shape), e⟩] hc i = rows t e y := by
  have hy : (y 1).val < 512 := (y 1).isLt
  rw [gates]
  rw [dif_neg (by omega)]
  rw [dif_neg (by omega)]
  rw [dif_neg (by omega)]
  exact rows_at t e _ y h0 (by show (i 1).val - 3072 = (y 1).val; omega)

/-- The logistic function as the host writes it. -/
theorem host_logistic {R C : ℕ} (x : Mat R C) (h : Shape.BroadcastsInDim (⟨0, ![]⟩ : Shape) (⟨2, ![R, C]⟩ : Shape) ![]) :
    @Eq (Mat R C) (Host.divf (F := Ideal) (φ := .f32) (broadcastInDim (⟨2, ![R, C]⟩ : Shape) ![] h (constant (F := Ideal) (⟨0, ![]⟩ : Shape) .f32 0x3F800000#32))
      (addf (F := Ideal) (φ := .f32) (broadcastInDim (⟨2, ![R, C]⟩ : Shape) ![] h (constant (F := Ideal) (⟨0, ![]⟩ : Shape) .f32 0x3F800000#32)) (Host.exp (F := Ideal) (φ := .f32) (Host.negf (F := Ideal) (φ := .f32) x))))
      (fun i => Ideal.logistic (x i)) := by
  funext i
  show Ideal.div (Ideal.ofBits .f32 0x3F800000#32) (Ideal.ofBits .f32 0x3F800000#32 + Ideal.exp (-(x i))) = _
  rw [Ideal.ofBits_one_f32]
  rfl

end Cert.Merge

end
-- ==== Proof.MergeOuts.lean ====
/-
  What a point of the gated merge leaves in each of its six output blocks, as the kernel's own expressions of its input
  blocks.
-/
module

public import proofs.«01_k».proof.Proof.Gen.GatedMerge.Frame
public import proofs.«01_k».proof.Proof.Gen.GatedMergeIdeal.Value
public import proofs.«01_k».proof.Proof.Merge

@[expose] public section

set_option maxRecDepth 65536

noncomputable section

namespace Cert.GatedMergeIdeal.Outs

open Cert.GatedMergeIdeal Cert.GatedMergeIdeal.Gen Cert.GatedMergeIdeal.Value
open Idealize.ShloMosaic Idealize.ShloMosaic.TcCoe Idealize.ShloMosaic.ValueIdx Idealize.SL.Sem

theorem hz : (![0, 0] : Fin 2 → Nat) = fun _ => 0 := funext fun a => by fin_cases a <;> rfl

/-- A load of the whole block is the block. -/
theorem ldz {e : EltTy} {R C : ℕ} (x : (⟨2, ![R, C]⟩ : Shape).Idx → Elt Ideal e) (h : ∀ a : Fin 2, (![0, 0] : Fin 2 → ℕ) a + (![R, C] : Fin 2 → ℕ) a ≤ (⟨2, ![R, C]⟩ : Shape).size a) :
    View.ld x (Rect.unit (s := (⟨2, ![R, C]⟩ : Shape)) ![0, 0] ![R, C] h) = x := View.ld_unit_zero hz h x

set_option maxHeartbeats 1000000 in
/-- Output 0: the residual plus the output projection. -/
theorem out10 (c : Dev nD) (i : grid0.Coords) (arg1 : Memref sig .tc .vmem S320x512 .f32) (harg1 : arg1.IsWhole) (arg2 : Memref sig .tc .vmem S320x1024 .f32) (harg2 : arg2.IsWhole) (arg3 : Memref sig .tc .vmem S320x1024 .f32) (harg3 : arg3.IsWhole) (arg4 : Memref sig .tc .vmem S320x1024 .f32) (harg4 : arg4.IsWhole) (arg5 : Memref sig .tc .vmem S320x1024 .f32) (harg5 : arg5.IsWhole) (arg6 : Memref sig .tc .vmem S320x512 .f32) (harg6 : arg6.IsWhole) (arg7 : Memref sig .tc .vmem S320x1024 .f32) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S320x1024 .f32) (harg11 : arg11.IsWhole) (arg12 : Memref sig .tc .vmem S320x512 .bf16) (harg12 : arg12.IsWhole) (arg13 : Memref sig .tc .vmem S320x1024 .bf16) (harg13 : arg13.IsWhole) (arg14 : Memref sig .tc .vmem S320x1024 .bf16) (harg14 : arg14.IsWhole) (arg15 : Memref sig .tc .vmem S320x1024 .f32) (harg15 : arg15.IsWhole) (arg16 : Memref sig .tc .vmem S320x1024 .f32) (harg16 : arg16.IsWhole)
    (x0 : Vec Ideal S320x512 .f32) (x1 : Vec Ideal S320x1024 .f32) (x2 : Vec Ideal S320x1024 .f32) (x3 : Vec Ideal S320x1024 .f32) (x4 : Vec Ideal S320x1024 .f32) (x5 : Vec Ideal S320x512 .f32) (x6 : Vec Ideal S320x1024 .f32) (x7 : Vec Ideal S512x1024 .bf16) (x8 : Vec Ideal S1024x1024 .bf16) (x9 : Vec Ideal S1024x1024 .bf16) :
    @Eq (Vec Ideal S320x1024 .f32) (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) (k0_pay6 x5 x2 x0 x1 x7 x8 x3 x4 x6 x9) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, ldz]

set_option maxHeartbeats 1000000 in
/-- Output 1: the stick-breaking branch's gated values. -/
theorem out11 (c : Dev nD) (i : grid0.Coords) (arg1 : Memref sig .tc .vmem S320x512 .f32) (harg1 : arg1.IsWhole) (arg2 : Memref sig .tc .vmem S320x1024 .f32) (harg2 : arg2.IsWhole) (arg3 : Memref sig .tc .vmem S320x1024 .f32) (harg3 : arg3.IsWhole) (arg4 : Memref sig .tc .vmem S320x1024 .f32) (harg4 : arg4.IsWhole) (arg5 : Memref sig .tc .vmem S320x1024 .f32) (harg5 : arg5.IsWhole) (arg6 : Memref sig .tc .vmem S320x512 .f32) (harg6 : arg6.IsWhole) (arg7 : Memref sig .tc .vmem S320x1024 .f32) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S320x1024 .f32) (harg11 : arg11.IsWhole) (arg12 : Memref sig .tc .vmem S320x512 .bf16) (harg12 : arg12.IsWhole) (arg13 : Memref sig .tc .vmem S320x1024 .bf16) (harg13 : arg13.IsWhole) (arg14 : Memref sig .tc .vmem S320x1024 .bf16) (harg14 : arg14.IsWhole) (arg15 : Memref sig .tc .vmem S320x1024 .f32) (harg15 : arg15.IsWhole) (arg16 : Memref sig .tc .vmem S320x1024 .f32) (harg16 : arg16.IsWhole)
    (x0 : Vec Ideal S320x512 .f32) (x1 : Vec Ideal S320x1024 .f32) (x2 : Vec Ideal S320x1024 .f32) (x3 : Vec Ideal S320x1024 .f32) (x4 : Vec Ideal S320x1024 .f32) (x5 : Vec Ideal S320x512 .f32) (x6 : Vec Ideal S320x1024 .f32) (x7 : Vec Ideal S512x1024 .bf16) (x8 : Vec Ideal S1024x1024 .bf16) (x9 : Vec Ideal S1024x1024 .bf16) :
    @Eq (Vec Ideal S320x512 .bf16) (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) (k0_pay1 x5 x0) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, ldz]

set_option maxHeartbeats 1000000 in
/-- Output 2: the sliding-window branch's gated values. -/
theorem out12 (c : Dev nD) (i : grid0.Coords) (arg1 : Memref sig .tc .vmem S320x512 .f32) (harg1 : arg1.IsWhole) (arg2 : Memref sig .tc .vmem S320x1024 .f32) (harg2 : arg2.IsWhole) (arg3 : Memref sig .tc .vmem S320x1024 .f32) (harg3 : arg3.IsWhole) (arg4 : Memref sig .tc .vmem S320x1024 .f32) (harg4 : arg4.IsWhole) (arg5 : Memref sig .tc .vmem S320x1024 .f32) (harg5 : arg5.IsWhole) (arg6 : Memref sig .tc .vmem S320x512 .f32) (harg6 : arg6.IsWhole) (arg7 : Memref sig .tc .vmem S320x1024 .f32) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S320x1024 .f32) (harg11 : arg11.IsWhole) (arg12 : Memref sig .tc .vmem S320x512 .bf16) (harg12 : arg12.IsWhole) (arg13 : Memref sig .tc .vmem S320x1024 .bf16) (harg13 : arg13.IsWhole) (arg14 : Memref sig .tc .vmem S320x1024 .bf16) (harg14 : arg14.IsWhole) (arg15 : Memref sig .tc .vmem S320x1024 .f32) (harg15 : arg15.IsWhole) (arg16 : Memref sig .tc .vmem S320x1024 .f32) (harg16 : arg16.IsWhole)
    (x0 : Vec Ideal S320x512 .f32) (x1 : Vec Ideal S320x1024 .f32) (x2 : Vec Ideal S320x1024 .f32) (x3 : Vec Ideal S320x1024 .f32) (x4 : Vec Ideal S320x1024 .f32) (x5 : Vec Ideal S320x512 .f32) (x6 : Vec Ideal S320x1024 .f32) (x7 : Vec Ideal S512x1024 .bf16) (x8 : Vec Ideal S1024x1024 .bf16) (x9 : Vec Ideal S1024x1024 .bf16) :
    @Eq (Vec Ideal S320x1024 .bf16) (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) (k0_pay2 x2 x1) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, ldz]

set_option maxHeartbeats 1000000 in
/-- Output 3: the merge. -/
theorem out13 (c : Dev nD) (i : grid0.Coords) (arg1 : Memref sig .tc .vmem S320x512 .f32) (harg1 : arg1.IsWhole) (arg2 : Memref sig .tc .vmem S320x1024 .f32) (harg2 : arg2.IsWhole) (arg3 : Memref sig .tc .vmem S320x1024 .f32) (harg3 : arg3.IsWhole) (arg4 : Memref sig .tc .vmem S320x1024 .f32) (harg4 : arg4.IsWhole) (arg5 : Memref sig .tc .vmem S320x1024 .f32) (harg5 : arg5.IsWhole) (arg6 : Memref sig .tc .vmem S320x512 .f32) (harg6 : arg6.IsWhole) (arg7 : Memref sig .tc .vmem S320x1024 .f32) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S320x1024 .f32) (harg11 : arg11.IsWhole) (arg12 : Memref sig .tc .vmem S320x512 .bf16) (harg12 : arg12.IsWhole) (arg13 : Memref sig .tc .vmem S320x1024 .bf16) (harg13 : arg13.IsWhole) (arg14 : Memref sig .tc .vmem S320x1024 .bf16) (harg14 : arg14.IsWhole) (arg15 : Memref sig .tc .vmem S320x1024 .f32) (harg15 : arg15.IsWhole) (arg16 : Memref sig .tc .vmem S320x1024 .f32) (harg16 : arg16.IsWhole)
    (x0 : Vec Ideal S320x512 .f32) (x1 : Vec Ideal S320x1024 .f32) (x2 : Vec Ideal S320x1024 .f32) (x3 : Vec Ideal S320x1024 .f32) (x4 : Vec Ideal S320x1024 .f32) (x5 : Vec Ideal S320x512 .f32) (x6 : Vec Ideal S320x1024 .f32) (x7 : Vec Ideal S512x1024 .bf16) (x8 : Vec Ideal S1024x1024 .bf16) (x9 : Vec Ideal S1024x1024 .bf16) :
    @Eq (Vec Ideal S320x1024 .bf16) (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) (k0_pay5 x5 x2 x0 x1 x7 x8 x3 x4) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, ldz]

set_option maxHeartbeats 1000000 in
/-- Output 4: the stick-breaking branch's projection. -/
theorem out14 (c : Dev nD) (i : grid0.Coords) (arg1 : Memref sig .tc .vmem S320x512 .f32) (harg1 : arg1.IsWhole) (arg2 : Memref sig .tc .vmem S320x1024 .f32) (harg2 : arg2.IsWhole) (arg3 : Memref sig .tc .vmem S320x1024 .f32) (harg3 : arg3.IsWhole) (arg4 : Memref sig .tc .vmem S320x1024 .f32) (harg4 : arg4.IsWhole) (arg5 : Memref sig .tc .vmem S320x1024 .f32) (harg5 : arg5.IsWhole) (arg6 : Memref sig .tc .vmem S320x512 .f32) (harg6 : arg6.IsWhole) (arg7 : Memref sig .tc .vmem S320x1024 .f32) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S320x1024 .f32) (harg11 : arg11.IsWhole) (arg12 : Memref sig .tc .vmem S320x512 .bf16) (harg12 : arg12.IsWhole) (arg13 : Memref sig .tc .vmem S320x1024 .bf16) (harg13 : arg13.IsWhole) (arg14 : Memref sig .tc .vmem S320x1024 .bf16) (harg14 : arg14.IsWhole) (arg15 : Memref sig .tc .vmem S320x1024 .f32) (harg15 : arg15.IsWhole) (arg16 : Memref sig .tc .vmem S320x1024 .f32) (harg16 : arg16.IsWhole)
    (x0 : Vec Ideal S320x512 .f32) (x1 : Vec Ideal S320x1024 .f32) (x2 : Vec Ideal S320x1024 .f32) (x3 : Vec Ideal S320x1024 .f32) (x4 : Vec Ideal S320x1024 .f32) (x5 : Vec Ideal S320x512 .f32) (x6 : Vec Ideal S320x1024 .f32) (x7 : Vec Ideal S512x1024 .bf16) (x8 : Vec Ideal S1024x1024 .bf16) (x9 : Vec Ideal S1024x1024 .bf16) :
    @Eq (Vec Ideal S320x1024 .f32) (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) (k0_pay3 x5 x0 x7) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, ldz]

set_option maxHeartbeats 1000000 in
/-- Output 5: the sliding-window branch's projection. -/
theorem out15 (c : Dev nD) (i : grid0.Coords) (arg1 : Memref sig .tc .vmem S320x512 .f32) (harg1 : arg1.IsWhole) (arg2 : Memref sig .tc .vmem S320x1024 .f32) (harg2 : arg2.IsWhole) (arg3 : Memref sig .tc .vmem S320x1024 .f32) (harg3 : arg3.IsWhole) (arg4 : Memref sig .tc .vmem S320x1024 .f32) (harg4 : arg4.IsWhole) (arg5 : Memref sig .tc .vmem S320x1024 .f32) (harg5 : arg5.IsWhole) (arg6 : Memref sig .tc .vmem S320x512 .f32) (harg6 : arg6.IsWhole) (arg7 : Memref sig .tc .vmem S320x1024 .f32) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S320x1024 .f32) (harg11 : arg11.IsWhole) (arg12 : Memref sig .tc .vmem S320x512 .bf16) (harg12 : arg12.IsWhole) (arg13 : Memref sig .tc .vmem S320x1024 .bf16) (harg13 : arg13.IsWhole) (arg14 : Memref sig .tc .vmem S320x1024 .bf16) (harg14 : arg14.IsWhole) (arg15 : Memref sig .tc .vmem S320x1024 .f32) (harg15 : arg15.IsWhole) (arg16 : Memref sig .tc .vmem S320x1024 .f32) (harg16 : arg16.IsWhole)
    (x0 : Vec Ideal S320x512 .f32) (x1 : Vec Ideal S320x1024 .f32) (x2 : Vec Ideal S320x1024 .f32) (x3 : Vec Ideal S320x1024 .f32) (x4 : Vec Ideal S320x1024 .f32) (x5 : Vec Ideal S320x512 .f32) (x6 : Vec Ideal S320x1024 .f32) (x7 : Vec Ideal S512x1024 .bf16) (x8 : Vec Ideal S1024x1024 .bf16) (x9 : Vec Ideal S1024x1024 .bf16) :
    @Eq (Vec Ideal S320x1024 .f32) (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9) (k0_pay4 x2 x1 x8) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, ldz]

end Cert.GatedMergeIdeal.Outs

end
-- ==== Proof.MergeTerms.lean ====
/-
  The gated merge's reference: its results as gated activations, products and sums over all rows.
-/
module

public import proofs.«01_k».proof.Proof.Gen.GatedMergeReferenceIdeal.Run
public import proofs.«01_k».proof.Proof.Merge

@[expose] public section

set_option maxRecDepth 65536

noncomputable section

namespace Cert.GatedMergeReferenceIdeal.Terms

open Cert.GatedMergeReferenceIdeal Cert.GatedMergeReferenceIdeal.Gen Cert.Merge Cert.Dots
open Idealize.ShloMosaic Idealize.ShloMosaic.TcCoe Idealize.SL.Sem

/-- The logistic function, 512 columns wide. -/
theorem logistic512 (x : FVec Ideal S8320x512 .f32) :
    Host.divf (broadcastInDim S8320x512 ![] bcast_S_S8320x512 (constant S_ .f32 0x3F800000#32)) (addf (broadcastInDim S8320x512 ![] bcast_S_S8320x512 (constant S_ .f32 0x3F800000#32)) (Host.exp (Host.negf x))) = (fun i => Ideal.logistic (x i) : FVec Ideal S8320x512 .f32) := host_logistic x _

/-- The logistic function, 1024 columns wide. -/
theorem logistic1024 (x : FVec Ideal S8320x1024 .f32) :
    Host.divf (broadcastInDim S8320x1024 ![] bcast_S_S8320x1024 (constant S_ .f32 0x3F800000#32)) (addf (broadcastInDim S8320x1024 ![] bcast_S_S8320x1024 (constant S_ .f32 0x3F800000#32)) (Host.exp (Host.negf x))) = (fun i => Ideal.logistic (x i) : FVec Ideal S8320x1024 .f32) := host_logistic x _

/-- The product, 512 long. -/
theorem dot512 (x : FVec Ideal S8320x512 .f32) (w : FVec Ideal S512x1024 .f32) :
    Host.dotGeneral (F := Ideal) (φ₁ := .f32) (φ₂ := .f32) dot_S8320x512_S512x1024_S8320x1024_1_0_0_1_n_n none x w = (mm x w : FVec Ideal S8320x1024 .f32) := dot_mm _ x w 0 rfl

/-- The product, 1024 long. -/
theorem dot1024 (x : FVec Ideal S8320x1024 .f32) (w : FVec Ideal S1024x1024 .f32) :
    Host.dotGeneral (F := Ideal) (φ₁ := .f32) (φ₂ := .f32) dot_S8320x1024_S1024x1024_S8320x1024_1_0_0_1_n_n none x w = (mm x w : FVec Ideal S8320x1024 .f32) := dot_mm _ x w 0 rfl

/-- The residual plus the output projection. -/
theorem term10 (a0 : FVec Ideal S8320x512 .f32) (a1 : FVec Ideal S8320x1024 .f32) (a2 : FVec Ideal S8320x512 .f32) (a3 : FVec Ideal S8320x1024 .f32) (a4 : FVec Ideal S8320x1024 .f32) (a5 : FVec Ideal S8320x1024 .f32) (a6 : FVec Ideal S8320x1024 .f32) (a7 : FVec Ideal S512x1024 .f32) (a8 : FVec Ideal S1024x1024 .f32) (a9 : FVec Ideal S1024x1024 .f32) :
    @Eq (FVec Ideal S8320x1024 .f32) (addf a6 (Host.dotGeneral dot_S8320x1024_S1024x1024_S8320x1024_1_0_0_1_n_n none (addf (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a4)))) (Host.dotGeneral dot_S8320x512_S512x1024_S8320x1024_1_0_0_1_n_n none (mulf a0 (mulf a2 (Host.divf (broadcastInDim S8320x512 ![] bcast_S_S8320x512 (constant S_ .f32 0x3F800000#32)) (addf (broadcastInDim S8320x512 ![] bcast_S_S8320x512 (constant S_ .f32 0x3F800000#32)) (Host.exp (Host.negf a2)))))) a7)) (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a5)))) (Host.dotGeneral dot_S8320x1024_S1024x1024_S8320x1024_1_0_0_1_n_n none (mulf a1 (mulf a3 (Host.divf (broadcastInDim S8320x1024 ![] bcast_S_S8320x1024 (constant S_ .f32 0x3F800000#32)) (addf (broadcastInDim S8320x1024 ![] bcast_S_S8320x1024 (constant S_ .f32 0x3F800000#32)) (Host.exp (Host.negf a3)))))) a8))) a9)) (plus a6 (mm (mix a4 (mm (silu a0 a2) a7) a5 (mm (silu a1 a3) a8)) a9) : Mat 8320 1024) := by
  rw [logistic512 a2, logistic1024 a3, logistic1024 a4, logistic1024 a5]
  try simp only [dot512, dot1024]
  rfl

/-- The gated values of the stick-breaking branch. -/
theorem term11 (a0 : FVec Ideal S8320x512 .f32) (a1 : FVec Ideal S8320x1024 .f32) (a2 : FVec Ideal S8320x512 .f32) (a3 : FVec Ideal S8320x1024 .f32) (a4 : FVec Ideal S8320x1024 .f32) (a5 : FVec Ideal S8320x1024 .f32) (a6 : FVec Ideal S8320x1024 .f32) (a7 : FVec Ideal S512x1024 .f32) (a8 : FVec Ideal S1024x1024 .f32) (a9 : FVec Ideal S1024x1024 .f32) :
    @Eq (FVec Ideal S8320x512 .bf16) (truncf .bf16 (mulf a0 (mulf a2 (Host.divf (broadcastInDim S8320x512 ![] bcast_S_S8320x512 (constant S_ .f32 0x3F800000#32)) (addf (broadcastInDim S8320x512 ![] bcast_S_S8320x512 (constant S_ .f32 0x3F800000#32)) (Host.exp (Host.negf a2)))))) bitsLt_bf16_f32) (silu a0 a2 : Mat 8320 512) := by
  rw [logistic512 a2]
  try simp only [dot512, dot1024]
  rfl

/-- The gated values of the sliding-window branch. -/
theorem term12 (a0 : FVec Ideal S8320x512 .f32) (a1 : FVec Ideal S8320x1024 .f32) (a2 : FVec Ideal S8320x512 .f32) (a3 : FVec Ideal S8320x1024 .f32) (a4 : FVec Ideal S8320x1024 .f32) (a5 : FVec Ideal S8320x1024 .f32) (a6 : FVec Ideal S8320x1024 .f32) (a7 : FVec Ideal S512x1024 .f32) (a8 : FVec Ideal S1024x1024 .f32) (a9 : FVec Ideal S1024x1024 .f32) :
    @Eq (FVec Ideal S8320x1024 .bf16) (truncf .bf16 (mulf a1 (mulf a3 (Host.divf (broadcastInDim S8320x1024 ![] bcast_S_S8320x1024 (constant S_ .f32 0x3F800000#32)) (addf (broadcastInDim S8320x1024 ![] bcast_S_S8320x1024 (constant S_ .f32 0x3F800000#32)) (Host.exp (Host.negf a3)))))) bitsLt_bf16_f32) (silu a1 a3 : Mat 8320 1024) := by
  rw [logistic1024 a3]
  try simp only [dot512, dot1024]
  rfl

/-- The merge. -/
theorem term13 (a0 : FVec Ideal S8320x512 .f32) (a1 : FVec Ideal S8320x1024 .f32) (a2 : FVec Ideal S8320x512 .f32) (a3 : FVec Ideal S8320x1024 .f32) (a4 : FVec Ideal S8320x1024 .f32) (a5 : FVec Ideal S8320x1024 .f32) (a6 : FVec Ideal S8320x1024 .f32) (a7 : FVec Ideal S512x1024 .f32) (a8 : FVec Ideal S1024x1024 .f32) (a9 : FVec Ideal S1024x1024 .f32) :
    @Eq (FVec Ideal S8320x1024 .bf16) (truncf .bf16 (addf (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a4)))) (Host.dotGeneral dot_S8320x512_S512x1024_S8320x1024_1_0_0_1_n_n none (mulf a0 (mulf a2 (Host.divf (broadcastInDim S8320x512 ![] bcast_S_S8320x512 (constant S_ .f32 0x3F800000#32)) (addf (broadcastInDim S8320x512 ![] bcast_S_S8320x512 (constant S_ .f32 0x3F800000#32)) (Host.exp (Host.negf a2)))))) a7)) (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a5)))) (Host.dotGeneral dot_S8320x1024_S1024x1024_S8320x1024_1_0_0_1_n_n none (mulf a1 (mulf a3 (Host.divf (broadcastInDim S8320x1024 ![] bcast_S_S8320x1024 (constant S_ .f32 0x3F800000#32)) (addf (broadcastInDim S8320x1024 ![] bcast_S_S8320x1024 (constant S_ .f32 0x3F800000#32)) (Host.exp (Host.negf a3)))))) a8))) bitsLt_bf16_f32) (mix a4 (mm (silu a0 a2) a7) a5 (mm (silu a1 a3) a8) : Mat 8320 1024) := by
  rw [logistic512 a2, logistic1024 a3, logistic1024 a4, logistic1024 a5]
  try simp only [dot512, dot1024]
  rfl

/-- The stick-breaking branch's projection. -/
theorem term14 (a0 : FVec Ideal S8320x512 .f32) (a1 : FVec Ideal S8320x1024 .f32) (a2 : FVec Ideal S8320x512 .f32) (a3 : FVec Ideal S8320x1024 .f32) (a4 : FVec Ideal S8320x1024 .f32) (a5 : FVec Ideal S8320x1024 .f32) (a6 : FVec Ideal S8320x1024 .f32) (a7 : FVec Ideal S512x1024 .f32) (a8 : FVec Ideal S1024x1024 .f32) (a9 : FVec Ideal S1024x1024 .f32) :
    @Eq (FVec Ideal S8320x1024 .f32) (Host.dotGeneral dot_S8320x512_S512x1024_S8320x1024_1_0_0_1_n_n none (mulf a0 (mulf a2 (Host.divf (broadcastInDim S8320x512 ![] bcast_S_S8320x512 (constant S_ .f32 0x3F800000#32)) (addf (broadcastInDim S8320x512 ![] bcast_S_S8320x512 (constant S_ .f32 0x3F800000#32)) (Host.exp (Host.negf a2)))))) a7) (mm (silu a0 a2) a7 : Mat 8320 1024) := by
  rw [logistic512 a2]
  try simp only [dot512, dot1024]
  rfl

/-- The sliding-window branch's projection. -/
theorem term15 (a0 : FVec Ideal S8320x512 .f32) (a1 : FVec Ideal S8320x1024 .f32) (a2 : FVec Ideal S8320x512 .f32) (a3 : FVec Ideal S8320x1024 .f32) (a4 : FVec Ideal S8320x1024 .f32) (a5 : FVec Ideal S8320x1024 .f32) (a6 : FVec Ideal S8320x1024 .f32) (a7 : FVec Ideal S512x1024 .f32) (a8 : FVec Ideal S1024x1024 .f32) (a9 : FVec Ideal S1024x1024 .f32) :
    @Eq (FVec Ideal S8320x1024 .f32) (Host.dotGeneral dot_S8320x1024_S1024x1024_S8320x1024_1_0_0_1_n_n none (mulf a1 (mulf a3 (Host.divf (broadcastInDim S8320x1024 ![] bcast_S_S8320x1024 (constant S_ .f32 0x3F800000#32)) (addf (broadcastInDim S8320x1024 ![] bcast_S_S8320x1024 (constant S_ .f32 0x3F800000#32)) (Host.exp (Host.negf a3)))))) a8) (mm (silu a1 a3) a8 : Mat 8320 1024) := by
  rw [logistic1024 a3]
  try simp only [dot512, dot1024]
  rfl

end Cert.GatedMergeReferenceIdeal.Terms

end
-- ==== Proof.MergeSum.lean ====
/-
  The gated merge: the kernel's blocks of 320 rows are together the arrays of the reference, which takes the gated
  activations, the three products and the merge over all rows at once.
-/
module

public import proofs.«01_k».proof.Proof.Gen.GatedMerge.Frame
public import proofs.«01_k».proof.Proof.Gen.GatedMergeIdeal.Value
public import proofs.«01_k».proof.Proof.Gen.GatedMergeReferenceIdeal.Run
public import proofs.«01_k».proof.Proof.MergeOuts
public import proofs.«01_k».proof.Proof.MergeTerms
public import proofs.«01_k».proof.Defs

@[expose] public section

set_option maxRecDepth 65536

noncomputable section

namespace Cert.GatedMergeIdeal.Sum

open Cert.GatedMergeIdeal Cert.GatedMergeIdeal.Gen Cert.GatedMergeIdeal.Value Cert.Dots Cert.Merge
open Idealize.ShloMosaic Idealize.ShloMosaic.TcCoe Idealize.ShloMosaic.ValueIdx Idealize.SL.Sem
open scoped BigOperators

variable (m : (ℓ : Loc nD τ sig) → Buf (Elt Ideal) ℓ)

/-- The stick-breaking attention's output. -/
abbrev A0 (c : Dev nD) : Mat 8320 512 := m ((c : Thread nD τ).loc main_arg0)
/-- The sliding-window attention's output. -/
abbrev A1 (c : Dev nD) : Mat 8320 1024 := m ((c : Thread nD τ).loc main_arg1)
/-- The stick-breaking branch's gate. -/
abbrev A2 (c : Dev nD) : Mat 8320 512 := m ((c : Thread nD τ).loc main_arg2)
/-- The sliding-window branch's gate. -/
abbrev A3 (c : Dev nD) : Mat 8320 1024 := m ((c : Thread nD τ).loc main_arg3)
/-- The merge gate of the stick-breaking branch. -/
abbrev A4 (c : Dev nD) : Mat 8320 1024 := m ((c : Thread nD τ).loc main_arg4)
/-- The merge gate of the sliding-window branch. -/
abbrev A5 (c : Dev nD) : Mat 8320 1024 := m ((c : Thread nD τ).loc main_arg5)
/-- The residual. -/
abbrev A6 (c : Dev nD) : Mat 8320 1024 := m ((c : Thread nD τ).loc main_arg6)
/-- The stick-breaking branch's weight. -/
abbrev A7 (c : Dev nD) : Mat 512 1024 := m ((c : Thread nD τ).loc main_arg7)
/-- The sliding-window branch's weight. -/
abbrev A8 (c : Dev nD) : Mat 1024 1024 := m ((c : Thread nD τ).loc main_arg8)
/-- The output weight. -/
abbrev A9 (c : Dev nD) : Mat 1024 1024 := m ((c : Thread nD τ).loc main_arg9)

/-- The narrow copy of a weight is the weight. -/
theorem W7 (c : Dev nD) : @Eq (Mat 512 1024) (V m c main_v1) (A7 m c) := by
  have h : @Eq (Vec Ideal S512x1024 .bf16) (V m c main_v1) (truncf (F := Ideal) .bf16 (m ((c : Thread nD τ).loc main_arg7) : Vec Ideal S512x1024 .f32) bitsLt_bf16_f32) := by
    show StableHlo.after (hostOps0 (F := Ideal)) _ _ = _
    unfold hostOps0
    after_results
  exact h

/-- The narrow copy of a weight is the weight. -/
theorem W8 (c : Dev nD) : @Eq (Mat 1024 1024) (V m c main_v2) (A8 m c) := by
  have h : @Eq (Vec Ideal S1024x1024 .bf16) (V m c main_v2) (truncf (F := Ideal) .bf16 (m ((c : Thread nD τ).loc main_arg8) : Vec Ideal S1024x1024 .f32) bitsLt_bf16_f32) := by
    show StableHlo.after (hostOps0 (F := Ideal)) _ _ = _
    unfold hostOps0
    after_results
  exact h

/-- The narrow copy of a weight is the weight. -/
theorem W9 (c : Dev nD) : @Eq (Mat 1024 1024) (V m c main_v3) (A9 m c) := by
  have h : @Eq (Vec Ideal S1024x1024 .bf16) (V m c main_v3) (truncf (F := Ideal) .bf16 (m ((c : Thread nD τ).loc main_arg9) : Vec Ideal S1024x1024 .f32) bitsLt_bf16_f32) := by
    show StableHlo.after (hostOps0 (F := Ideal)) _ _ = _
    unfold hostOps0
    after_results
  exact h

/-- The gates that the launch reads, beside one another. -/
theorem gates_eq (c : Dev nD) : @Eq (Vec Ideal S8320x3584 .f32) (V m c main_v0)
    (concatenate S8320x3584 1 [⟨S8320x1024, A3 m c⟩, ⟨S8320x1024, A4 m c⟩, ⟨S8320x1024, A5 m c⟩, ⟨S8320x512, A2 m c⟩] concatenates_S8320x1024_S8320x1024_S8320x1024_S8320x512_S8320x3584_d1) := by
  show StableHlo.after (hostOps0 (F := Ideal)) _ _ = _
  unfold hostOps0
  simp only [StableHlo.after_cons, StableHlo.after_nil]
  simp only [↓ StableHlo.readResult, ↓ StableHlo.readPieces]
  rw [StableHlo.nary4_result]
  exact rfl

/-- The block of window 0 at a point. -/
theorem idx0 : ∀ t : Fin cfg0.N, (win0_0.index t (0 : Fin 2) = t.val ∧ win0_0.index t (1 : Fin 2) = 0) := (by decide +kernel : ∀ t : Fin grid0.N, _)
/-- The block of window 1 at a point. -/
theorem idx1 : ∀ t : Fin cfg0.N, (win0_1.index t (0 : Fin 2) = t.val ∧ win0_1.index t (1 : Fin 2) = 0) := (by decide +kernel : ∀ t : Fin grid0.N, _)
/-- The block of window 2 at a point. -/
theorem idx2 : ∀ t : Fin cfg0.N, (win0_2.index t (0 : Fin 2) = t.val ∧ win0_2.index t (1 : Fin 2) = 0) := (by decide +kernel : ∀ t : Fin grid0.N, _)
/-- The block of window 3 at a point. -/
theorem idx3 : ∀ t : Fin cfg0.N, (win0_3.index t (0 : Fin 2) = t.val ∧ win0_3.index t (1 : Fin 2) = 1) := (by decide +kernel : ∀ t : Fin grid0.N, _)
/-- The block of window 4 at a point. -/
theorem idx4 : ∀ t : Fin cfg0.N, (win0_4.index t (0 : Fin 2) = t.val ∧ win0_4.index t (1 : Fin 2) = 2) := (by decide +kernel : ∀ t : Fin grid0.N, _)
/-- The block of window 5 at a point. -/
theorem idx5 : ∀ t : Fin cfg0.N, (win0_5.index t (0 : Fin 2) = t.val ∧ win0_5.index t (1 : Fin 2) = 6) := (by decide +kernel : ∀ t : Fin grid0.N, _)
/-- The block of window 6 at a point. -/
theorem idx6 : ∀ t : Fin cfg0.N, (win0_6.index t (0 : Fin 2) = t.val ∧ win0_6.index t (1 : Fin 2) = 0) := (by decide +kernel : ∀ t : Fin grid0.N, _)
/-- The block of window 7 at a point. -/
theorem idx7 : ∀ t : Fin cfg0.N, (win0_7.index t (0 : Fin 2) = 0 ∧ win0_7.index t (1 : Fin 2) = 0) := (by decide +kernel : ∀ t : Fin grid0.N, _)
/-- The block of window 8 at a point. -/
theorem idx8 : ∀ t : Fin cfg0.N, (win0_8.index t (0 : Fin 2) = 0 ∧ win0_8.index t (1 : Fin 2) = 0) := (by decide +kernel : ∀ t : Fin grid0.N, _)
/-- The block of window 9 at a point. -/
theorem idx9 : ∀ t : Fin cfg0.N, (win0_9.index t (0 : Fin 2) = 0 ∧ win0_9.index t (1 : Fin 2) = 0) := (by decide +kernel : ∀ t : Fin grid0.N, _)
/-- The block of window 10 at a point. -/
theorem idx10 : ∀ t : Fin cfg0.N, (win0_10.index t (0 : Fin 2) = t.val ∧ win0_10.index t (1 : Fin 2) = 0) := (by decide +kernel : ∀ t : Fin grid0.N, _)
/-- The block of window 11 at a point. -/
theorem idx11 : ∀ t : Fin cfg0.N, (win0_11.index t (0 : Fin 2) = t.val ∧ win0_11.index t (1 : Fin 2) = 0) := (by decide +kernel : ∀ t : Fin grid0.N, _)
/-- The block of window 12 at a point. -/
theorem idx12 : ∀ t : Fin cfg0.N, (win0_12.index t (0 : Fin 2) = t.val ∧ win0_12.index t (1 : Fin 2) = 0) := (by decide +kernel : ∀ t : Fin grid0.N, _)
/-- The block of window 13 at a point. -/
theorem idx13 : ∀ t : Fin cfg0.N, (win0_13.index t (0 : Fin 2) = t.val ∧ win0_13.index t (1 : Fin 2) = 0) := (by decide +kernel : ∀ t : Fin grid0.N, _)
/-- The block of window 14 at a point. -/
theorem idx14 : ∀ t : Fin cfg0.N, (win0_14.index t (0 : Fin 2) = t.val ∧ win0_14.index t (1 : Fin 2) = 0) := (by decide +kernel : ∀ t : Fin grid0.N, _)
/-- The block of window 15 at a point. -/
theorem idx15 : ∀ t : Fin cfg0.N, (win0_15.index t (0 : Fin 2) = t.val ∧ win0_15.index t (1 : Fin 2) = 0) := (by decide +kernel : ∀ t : Fin grid0.N, _)

/-- A point of the grid, as a number under 26. -/
def pt (t : Fin cfg0.N) : Fin 26 := ⟨t.val, by have h := t.isLt; have h' : cfg0.N = 26 := N_0; omega⟩

/-- Window 0's block: the point's rows. -/
theorem blk0 (c : Dev nD) (t : Fin cfg0.N) : @Eq (Mat 320 512) (iblk m c 0 t) (rows (pt t) (A0 m c)) := by
  obtain ⟨e0, e1⟩ := idx0 t
  funext y
  unfold iblk
  rw [View.read_apply]
  refine (congrFun (V_main_arg0 m c) _).trans (rows_at (pt t) (A0 m c) _ y ?_ ?_)
  · show win0_0.index t 0 * 320 + 1 * (y 0).val = t.val * 320 + (y 0).val; rw [e0]; omega
  · show win0_0.index t 1 * 512 + 1 * (y 1).val = (y 1).val; rw [e1]; omega

/-- Window 1's block: the point's rows. -/
theorem blk1 (c : Dev nD) (t : Fin cfg0.N) : @Eq (Mat 320 1024) (iblk m c 1 t) (rows (pt t) (A1 m c)) := by
  obtain ⟨e0, e1⟩ := idx1 t
  funext y
  unfold iblk
  rw [View.read_apply]
  refine (congrFun (V_main_arg1 m c) _).trans (rows_at (pt t) (A1 m c) _ y ?_ ?_)
  · show win0_1.index t 0 * 320 + 1 * (y 0).val = t.val * 320 + (y 0).val; rw [e0]; omega
  · show win0_1.index t 1 * 1024 + 1 * (y 1).val = (y 1).val; rw [e1]; omega

/-- Window 6's block: the point's rows. -/
theorem blk6 (c : Dev nD) (t : Fin cfg0.N) : @Eq (Mat 320 1024) (iblk m c 6 t) (rows (pt t) (A6 m c)) := by
  obtain ⟨e0, e1⟩ := idx6 t
  funext y
  unfold iblk
  rw [View.read_apply]
  refine (congrFun (V_main_arg6 m c) _).trans (rows_at (pt t) (A6 m c) _ y ?_ ?_)
  · show win0_6.index t 0 * 320 + 1 * (y 0).val = t.val * 320 + (y 0).val; rw [e0]; omega
  · show win0_6.index t 1 * 1024 + 1 * (y 1).val = (y 1).val; rw [e1]; omega

/-- Window 7's block: the whole weight. -/
theorem blk7 (c : Dev nD) (t : Fin cfg0.N) : @Eq (Mat 512 1024) (iblk m c 7 t) (A7 m c) := by
  obtain ⟨e0, e1⟩ := idx7 t
  funext y
  unfold iblk
  rw [View.read_apply]
  refine (congrFun (W7 m c) _).trans (read_same (A7 m c) _ y ?_ ?_)
  · show win0_7.index t 0 * 512 + 1 * (y 0).val = (y 0).val; rw [e0]; omega
  · show win0_7.index t 1 * 1024 + 1 * (y 1).val = (y 1).val; rw [e1]; omega

/-- Window 8's block: the whole weight. -/
theorem blk8 (c : Dev nD) (t : Fin cfg0.N) : @Eq (Mat 1024 1024) (iblk m c 8 t) (A8 m c) := by
  obtain ⟨e0, e1⟩ := idx8 t
  funext y
  unfold iblk
  rw [View.read_apply]
  refine (congrFun (W8 m c) _).trans (read_same (A8 m c) _ y ?_ ?_)
  · show win0_8.index t 0 * 1024 + 1 * (y 0).val = (y 0).val; rw [e0]; omega
  · show win0_8.index t 1 * 1024 + 1 * (y 1).val = (y 1).val; rw [e1]; omega

/-- Window 9's block: the whole weight. -/
theorem blk9 (c : Dev nD) (t : Fin cfg0.N) : @Eq (Mat 1024 1024) (iblk m c 9 t) (A9 m c) := by
  obtain ⟨e0, e1⟩ := idx9 t
  funext y
  unfold iblk
  rw [View.read_apply]
  refine (congrFun (W9 m c) _).trans (read_same (A9 m c) _ y ?_ ?_)
  · show win0_9.index t 0 * 1024 + 1 * (y 0).val = (y 0).val; rw [e0]; omega
  · show win0_9.index t 1 * 1024 + 1 * (y 1).val = (y 1).val; rw [e1]; omega

/-- Window 2's block: the point's rows of one gate. -/
theorem blk2 (c : Dev nD) (t : Fin cfg0.N) : @Eq (Mat 320 1024) (X0_2 m c t) (rows (pt t) (A3 m c)) := by
  obtain ⟨e0, e1⟩ := idx2 t
  funext y
  show Pipeline.Window.fill (cfg0.win 2) (cfg0.grid.coords t) dflt0_2 (iblk m c 2 t) y = _
  unfold Pipeline.Window.fill
  rw [dif_pos (moved0_2 t y)]
  unfold iblk
  rw [View.read_apply]
  refine (congrFun (gates_eq m c) _).trans (gates_a (pt t) (A3 m c) (A4 m c) (A5 m c) (A2 m c) _ _ y ?_ ?_)
  · show win0_2.index t 0 * 320 + 1 * (y 0).val = t.val * 320 + (y 0).val; rw [e0]; omega
  · show win0_2.index t 1 * 1024 + 1 * (y 1).val = 0 + (y 1).val; rw [e1]; omega

/-- Window 3's block: the point's rows of one gate. -/
theorem blk3 (c : Dev nD) (t : Fin cfg0.N) : @Eq (Mat 320 1024) (X0_3 m c t) (rows (pt t) (A4 m c)) := by
  obtain ⟨e0, e1⟩ := idx3 t
  funext y
  show Pipeline.Window.fill (cfg0.win 3) (cfg0.grid.coords t) dflt0_3 (iblk m c 3 t) y = _
  unfold Pipeline.Window.fill
  rw [dif_pos (moved0_3 t y)]
  unfold iblk
  rw [View.read_apply]
  refine (congrFun (gates_eq m c) _).trans (gates_b (pt t) (A3 m c) (A4 m c) (A5 m c) (A2 m c) _ _ y ?_ ?_)
  · show win0_3.index t 0 * 320 + 1 * (y 0).val = t.val * 320 + (y 0).val; rw [e0]; omega
  · show win0_3.index t 1 * 1024 + 1 * (y 1).val = 1024 + (y 1).val; rw [e1]; omega

/-- Window 4's block: the point's rows of one gate. -/
theorem blk4 (c : Dev nD) (t : Fin cfg0.N) : @Eq (Mat 320 1024) (X0_4 m c t) (rows (pt t) (A5 m c)) := by
  obtain ⟨e0, e1⟩ := idx4 t
  funext y
  show Pipeline.Window.fill (cfg0.win 4) (cfg0.grid.coords t) dflt0_4 (iblk m c 4 t) y = _
  unfold Pipeline.Window.fill
  rw [dif_pos (moved0_4 t y)]
  unfold iblk
  rw [View.read_apply]
  refine (congrFun (gates_eq m c) _).trans (gates_d (pt t) (A3 m c) (A4 m c) (A5 m c) (A2 m c) _ _ y ?_ ?_)
  · show win0_4.index t 0 * 320 + 1 * (y 0).val = t.val * 320 + (y 0).val; rw [e0]; omega
  · show win0_4.index t 1 * 1024 + 1 * (y 1).val = 2048 + (y 1).val; rw [e1]; omega

/-- Window 5's block: the point's rows of one gate. -/
theorem blk5 (c : Dev nD) (t : Fin cfg0.N) : @Eq (Mat 320 512) (iblk m c 5 t) (rows (pt t) (A2 m c)) := by
  obtain ⟨e0, e1⟩ := idx5 t
  funext y
  unfold iblk
  rw [View.read_apply]
  refine (congrFun (gates_eq m c) _).trans (gates_e (pt t) (A3 m c) (A4 m c) (A5 m c) (A2 m c) _ _ y ?_ ?_)
  · show win0_5.index t 0 * 320 + 1 * (y 0).val = t.val * 320 + (y 0).val; rw [e0]; omega
  · show win0_5.index t 1 * 512 + 1 * (y 1).val = 3072 + (y 1).val; rw [e1]; omega

/-! ## What a point stores, of its blocks -/

/-- The gated values of the stick-breaking branch. -/
theorem pay1 (z a : Mat 320 512) : @Eq (Mat 320 512) (k0_pay1 (F := Ideal) z a) (silu a z) := by
  unfold k0_pay1
  simp only [shapeCast_self]
  rfl

/-- The gated values of the sliding-window branch. -/
theorem pay2 (z a : Mat 320 1024) : @Eq (Mat 320 1024) (k0_pay2 (F := Ideal) z a) (silu a z) := by
  unfold k0_pay2
  simp only [shapeCast_self]
  rfl

/-- The stick-breaking branch's projection. -/
theorem pay3 (z a : Mat 320 512) (w : Mat 512 1024) : @Eq (Mat 320 1024) (k0_pay3 (F := Ideal) z a w) (mm (silu a z) w) := by
  unfold k0_pay3
  simp only [shapeCast_self]
  exact (dot_mm _ (k0_pay1 (F := Ideal) z a) w _ ofBits_zero).trans (congrArg (fun u : Mat 320 512 => mm u w) (pay1 z a))

/-- The sliding-window branch's projection. -/
theorem pay4 (z a : Mat 320 1024) (w : Mat 1024 1024) : @Eq (Mat 320 1024) (k0_pay4 (F := Ideal) z a w) (mm (silu a z) w) := by
  unfold k0_pay4
  simp only [shapeCast_self]
  exact (dot_mm _ (k0_pay2 (F := Ideal) z a) w _ ofBits_zero).trans (congrArg (fun u : Mat 320 1024 => mm u w) (pay2 z a))

/-- The merge. -/
theorem pay5 (z1 : Mat 320 512) (z2 : Mat 320 1024) (a1 : Mat 320 512) (a2 : Mat 320 1024) (w1 : Mat 512 1024) (w2 : Mat 1024 1024) (g1 g2 : Mat 320 1024) :
    @Eq (Mat 320 1024) (k0_pay5 (F := Ideal) z1 z2 a1 a2 w1 w2 g1 g2) (mix g1 (mm (silu a1 z1) w1) g2 (mm (silu a2 z2) w2)) := by
  refine Eq.trans ?_ (congrArg₂ (fun u v : Mat 320 1024 => mix g1 u g2 v) (pay3 z1 a1 w1) (pay4 z2 a2 w2))
  unfold k0_pay5
  simp only [shapeCast_self]
  rfl

/-- The residual plus the output projection. -/
theorem pay6 (z1 : Mat 320 512) (z2 : Mat 320 1024) (a1 : Mat 320 512) (a2 : Mat 320 1024) (w1 : Mat 512 1024) (w2 : Mat 1024 1024) (g1 g2 h : Mat 320 1024) (w : Mat 1024 1024) :
    @Eq (Mat 320 1024) (k0_pay6 (F := Ideal) z1 z2 a1 a2 w1 w2 g1 g2 h w) (plus h (mm (mix g1 (mm (silu a1 z1) w1) g2 (mm (silu a2 z2) w2)) w)) := by
  refine Eq.trans ?_ (congrArg (fun u : Mat 320 1024 => plus h (mm u w)) (pay5 z1 z2 a1 a2 w1 w2 g1 g2))
  refine Eq.trans ?_ (congrArg (fun u : Mat 320 1024 => plus h u) (dot_mm dot_S320x1024_S1024x1024_S320x1024_1_0_0_1_n_n.wf (k0_pay5 (F := Ideal) z1 z2 a1 a2 w1 w2 g1 g2) w _ ofBits_zero))
  unfold k0_pay6
  simp only [shapeCast_self]
  rfl

/-! ## The six arrays -/

/-- Result 1: the gated values of the stick-breaking branch. -/
def G11 (c : Dev nD) : Mat 8320 512 := silu (A0 m c) (A2 m c)

/-- What a point stores there: its rows of it. -/
theorem stored11 (c : Dev nD) (t : Fin cfg0.N) : @Eq (Mat 320 512) (k0_pay1 (F := Ideal) (iblk m c 5 t) (iblk m c 0 t)) (rows (pt t) (G11 m c)) := by
  refine (pay1 (iblk m c 5 t) (iblk m c 0 t)).trans ?_
  rw [blk5 m c t, blk0 m c t]
  rfl

/-- What a point writes back is its block. -/
theorem flushed_eq11 (c : Dev nD) (t : Fin cfg0.N) :
    (dats m 0 c).flushed 11 t = (win0_11.blk t).view.read (Elt Ideal) (G11 m c) := by
  obtain ⟨e0, e1⟩ := idx11 t
  refine (flushed11_A m c t).trans ((congrArg ((cfg0.win 11).cut (grid0.coords t)) ((Outs.out11 c _ _ _ _ _ _ _ _ _ _ _ _ _ _ _ _ _ _ _ _ _ _ _ _ _ _ _ _ _ _ _ _ _ _ _ _ _ _ _ _ _ _ _).trans (stored11 m c t))).trans ?_)
  funext y
  rw [View.read_apply]
  refine (rows_at (pt t) (G11 m c) _ _ ?_ ?_).symm
  · show win0_11.index t 0 * 320 + 1 * (y 0).val = t.val * 320 + (y 0).val; rw [e0]; omega
  · show win0_11.index t 1 * 512 + 1 * (y 1).val = (y 1).val; rw [e1]; omega

/-- The blocks of the points are the whole array. -/
theorem cover11 (i : S8320x512.Idx) : ∃ t : Fin cfg0.N, (cfg0.win 11).flush t = true ∧ i ∈ ((cfg0.win 11).blk t).view.set := by
  have h0 : (i 0).val < 8320 := (i 0).isLt
  have h1 : (i 1).val < 512 := (i 1).isLt
  have hN : cfg0.N = 26 := N_0
  have ht : (i 0).val / 320 < cfg0.N := by omega
  refine ⟨⟨_, ht⟩, flush0_11 _, ?_⟩
  obtain ⟨e0, e1⟩ := idx11 ⟨_, ht⟩
  show i ∈ ((View.whole main_v4_1).slice (win0_11.rect ⟨_, ht⟩)).set
  rw [View.set_slice_whole, Rect.mem_set_unit]
  intro a
  match a with
  | ⟨0, _⟩ => show win0_11.index ⟨_, ht⟩ 0 * 320 ≤ (i 0).val ∧ (i 0).val < win0_11.index ⟨_, ht⟩ 0 * 320 + 320; rw [e0]; dsimp only; omega
  | ⟨1, _⟩ => show win0_11.index ⟨_, ht⟩ 1 * 512 ≤ (i 1).val ∧ (i 1).val < win0_11.index ⟨_, ht⟩ 1 * 512 + 512; rw [e1]; dsimp only; omega

/-- The result array after the run. -/
theorem final11 (c : Dev nD) : (dats m 0 c).arrAt 11 cfg0.N = G11 m c :=
  (dats m 0 c).arrAt_eq_of_cover 11 (G11 m c) (fun t _ => flushed_eq11 m c t) cover11

/-- Result 2: the gated values of the sliding-window branch. -/
def G12 (c : Dev nD) : Mat 8320 1024 := silu (A1 m c) (A3 m c)

/-- What a point stores there: its rows of it. -/
theorem stored12 (c : Dev nD) (t : Fin cfg0.N) : @Eq (Mat 320 1024) (k0_pay2 (F := Ideal) (X0_2 m c t) (iblk m c 1 t)) (rows (pt t) (G12 m c)) := by
  refine (pay2 (X0_2 m c t) (iblk m c 1 t)).trans ?_
  rw [blk2 m c t, blk1 m c t]
  rfl

/-- What a point writes back is its block. -/
theorem flushed_eq12 (c : Dev nD) (t : Fin cfg0.N) :
    (dats m 0 c).flushed 12 t = (win0_12.blk t).view.read (Elt Ideal) (G12 m c) := by
  obtain ⟨e0, e1⟩ := idx12 t
  refine (flushed12_A m c t).trans ((congrArg ((cfg0.win 12).cut (grid0.coords t)) ((Outs.out12 c _ _ _ _ _ _ _ _ _ _ _ _ _ _ _ _ _ _ _ _ _ _ _ _ _ _ _ _ _ _ _ _ _ _ _ _ _ _ _ _ _ _ _).trans (stored12 m c t))).trans ?_)
  funext y
  rw [View.read_apply]
  refine (rows_at (pt t) (G12 m c) _ _ ?_ ?_).symm
  · show win0_12.index t 0 * 320 + 1 * (y 0).val = t.val * 320 + (y 0).val; rw [e0]; omega
  · show win0_12.index t 1 * 1024 + 1 * (y 1).val = (y 1).val; rw [e1]; omega

/-- The blocks of the points are the whole array. -/
theorem cover12 (i : S8320x1024.Idx) : ∃ t : Fin cfg0.N, (cfg0.win 12).flush t = true ∧ i ∈ ((cfg0.win 12).blk t).view.set := by
  have h0 : (i 0).val < 8320 := (i 0).isLt
  have h1 : (i 1).val < 1024 := (i 1).isLt
  have hN : cfg0.N = 26 := N_0
  have ht : (i 0).val / 320 < cfg0.N := by omega
  refine ⟨⟨_, ht⟩, flush0_12 _, ?_⟩
  obtain ⟨e0, e1⟩ := idx12 ⟨_, ht⟩
  show i ∈ ((View.whole main_v4_2).slice (win0_12.rect ⟨_, ht⟩)).set
  rw [View.set_slice_whole, Rect.mem_set_unit]
  intro a
  match a with
  | ⟨0, _⟩ => show win0_12.index ⟨_, ht⟩ 0 * 320 ≤ (i 0).val ∧ (i 0).val < win0_12.index ⟨_, ht⟩ 0 * 320 + 320; rw [e0]; dsimp only; omega
  | ⟨1, _⟩ => show win0_12.index ⟨_, ht⟩ 1 * 1024 ≤ (i 1).val ∧ (i 1).val < win0_12.index ⟨_, ht⟩ 1 * 1024 + 1024; rw [e1]; dsimp only; omega

/-- The result array after the run. -/
theorem final12 (c : Dev nD) : (dats m 0 c).arrAt 12 cfg0.N = G12 m c :=
  (dats m 0 c).arrAt_eq_of_cover 12 (G12 m c) (fun t _ => flushed_eq12 m c t) cover12

/-- Result 4: the stick-breaking branch's projection. -/
def G14 (c : Dev nD) : Mat 8320 1024 := mm (silu (A0 m c) (A2 m c)) (A7 m c)

/-- What a point stores there: its rows of it. -/
theorem stored14 (c : Dev nD) (t : Fin cfg0.N) : @Eq (Mat 320 1024) (k0_pay3 (F := Ideal) (iblk m c 5 t) (iblk m c 0 t) (iblk m c 7 t)) (rows (pt t) (G14 m c)) := by
  refine (pay3 (iblk m c 5 t) (iblk m c 0 t) (iblk m c 7 t)).trans ?_
  rw [blk5 m c t, blk0 m c t, blk7 m c t]
  rfl

/-- What a point writes back is its block. -/
theorem flushed_eq14 (c : Dev nD) (t : Fin cfg0.N) :
    (dats m 0 c).flushed 14 t = (win0_14.blk t).view.read (Elt Ideal) (G14 m c) := by
  obtain ⟨e0, e1⟩ := idx14 t
  refine (flushed14_A m c t).trans ((congrArg ((cfg0.win 14).cut (grid0.coords t)) ((Outs.out14 c _ _ _ _ _ _ _ _ _ _ _ _ _ _ _ _ _ _ _ _ _ _ _ _ _ _ _ _ _ _ _ _ _ _ _ _ _ _ _ _ _ _ _).trans (stored14 m c t))).trans ?_)
  funext y
  rw [View.read_apply]
  refine (rows_at (pt t) (G14 m c) _ _ ?_ ?_).symm
  · show win0_14.index t 0 * 320 + 1 * (y 0).val = t.val * 320 + (y 0).val; rw [e0]; omega
  · show win0_14.index t 1 * 1024 + 1 * (y 1).val = (y 1).val; rw [e1]; omega

/-- The blocks of the points are the whole array. -/
theorem cover14 (i : S8320x1024.Idx) : ∃ t : Fin cfg0.N, (cfg0.win 14).flush t = true ∧ i ∈ ((cfg0.win 14).blk t).view.set := by
  have h0 : (i 0).val < 8320 := (i 0).isLt
  have h1 : (i 1).val < 1024 := (i 1).isLt
  have hN : cfg0.N = 26 := N_0
  have ht : (i 0).val / 320 < cfg0.N := by omega
  refine ⟨⟨_, ht⟩, flush0_14 _, ?_⟩
  obtain ⟨e0, e1⟩ := idx14 ⟨_, ht⟩
  show i ∈ ((View.whole main_v4_4).slice (win0_14.rect ⟨_, ht⟩)).set
  rw [View.set_slice_whole, Rect.mem_set_unit]
  intro a
  match a with
  | ⟨0, _⟩ => show win0_14.index ⟨_, ht⟩ 0 * 320 ≤ (i 0).val ∧ (i 0).val < win0_14.index ⟨_, ht⟩ 0 * 320 + 320; rw [e0]; dsimp only; omega
  | ⟨1, _⟩ => show win0_14.index ⟨_, ht⟩ 1 * 1024 ≤ (i 1).val ∧ (i 1).val < win0_14.index ⟨_, ht⟩ 1 * 1024 + 1024; rw [e1]; dsimp only; omega

/-- The result array after the run. -/
theorem final14 (c : Dev nD) : (dats m 0 c).arrAt 14 cfg0.N = G14 m c :=
  (dats m 0 c).arrAt_eq_of_cover 14 (G14 m c) (fun t _ => flushed_eq14 m c t) cover14

/-- Result 5: the sliding-window branch's projection. -/
def G15 (c : Dev nD) : Mat 8320 1024 := mm (silu (A1 m c) (A3 m c)) (A8 m c)

/-- What a point stores there: its rows of it. -/
theorem stored15 (c : Dev nD) (t : Fin cfg0.N) : @Eq (Mat 320 1024) (k0_pay4 (F := Ideal) (X0_2 m c t) (iblk m c 1 t) (iblk m c 8 t)) (rows (pt t) (G15 m c)) := by
  refine (pay4 (X0_2 m c t) (iblk m c 1 t) (iblk m c 8 t)).trans ?_
  rw [blk2 m c t, blk1 m c t, blk8 m c t]
  rfl

/-- What a point writes back is its block. -/
theorem flushed_eq15 (c : Dev nD) (t : Fin cfg0.N) :
    (dats m 0 c).flushed 15 t = (win0_15.blk t).view.read (Elt Ideal) (G15 m c) := by
  obtain ⟨e0, e1⟩ := idx15 t
  refine (flushed15_A m c t).trans ((congrArg ((cfg0.win 15).cut (grid0.coords t)) ((Outs.out15 c _ _ _ _ _ _ _ _ _ _ _ _ _ _ _ _ _ _ _ _ _ _ _ _ _ _ _ _ _ _ _ _ _ _ _ _ _ _ _ _ _ _ _).trans (stored15 m c t))).trans ?_)
  funext y
  rw [View.read_apply]
  refine (rows_at (pt t) (G15 m c) _ _ ?_ ?_).symm
  · show win0_15.index t 0 * 320 + 1 * (y 0).val = t.val * 320 + (y 0).val; rw [e0]; omega
  · show win0_15.index t 1 * 1024 + 1 * (y 1).val = (y 1).val; rw [e1]; omega

/-- The blocks of the points are the whole array. -/
theorem cover15 (i : S8320x1024.Idx) : ∃ t : Fin cfg0.N, (cfg0.win 15).flush t = true ∧ i ∈ ((cfg0.win 15).blk t).view.set := by
  have h0 : (i 0).val < 8320 := (i 0).isLt
  have h1 : (i 1).val < 1024 := (i 1).isLt
  have hN : cfg0.N = 26 := N_0
  have ht : (i 0).val / 320 < cfg0.N := by omega
  refine ⟨⟨_, ht⟩, flush0_15 _, ?_⟩
  obtain ⟨e0, e1⟩ := idx15 ⟨_, ht⟩
  show i ∈ ((View.whole main_v4_5).slice (win0_15.rect ⟨_, ht⟩)).set
  rw [View.set_slice_whole, Rect.mem_set_unit]
  intro a
  match a with
  | ⟨0, _⟩ => show win0_15.index ⟨_, ht⟩ 0 * 320 ≤ (i 0).val ∧ (i 0).val < win0_15.index ⟨_, ht⟩ 0 * 320 + 320; rw [e0]; dsimp only; omega
  | ⟨1, _⟩ => show win0_15.index ⟨_, ht⟩ 1 * 1024 ≤ (i 1).val ∧ (i 1).val < win0_15.index ⟨_, ht⟩ 1 * 1024 + 1024; rw [e1]; dsimp only; omega

/-- The result array after the run. -/
theorem final15 (c : Dev nD) : (dats m 0 c).arrAt 15 cfg0.N = G15 m c :=
  (dats m 0 c).arrAt_eq_of_cover 15 (G15 m c) (fun t _ => flushed_eq15 m c t) cover15

/-- Result 3: the merge. -/
def G13 (c : Dev nD) : Mat 8320 1024 := mix (A4 m c) (mm (silu (A0 m c) (A2 m c)) (A7 m c)) (A5 m c) (mm (silu (A1 m c) (A3 m c)) (A8 m c))

/-- What a point stores there: its rows of it. -/
theorem stored13 (c : Dev nD) (t : Fin cfg0.N) : @Eq (Mat 320 1024) (k0_pay5 (F := Ideal) (iblk m c 5 t) (X0_2 m c t) (iblk m c 0 t) (iblk m c 1 t) (iblk m c 7 t) (iblk m c 8 t) (X0_3 m c t) (X0_4 m c t)) (rows (pt t) (G13 m c)) := by
  refine (pay5 (iblk m c 5 t) (X0_2 m c t) (iblk m c 0 t) (iblk m c 1 t) (iblk m c 7 t) (iblk m c 8 t) (X0_3 m c t) (X0_4 m c t)).trans ?_
  rw [blk5 m c t, blk2 m c t, blk0 m c t, blk1 m c t, blk7 m c t, blk8 m c t, blk3 m c t, blk4 m c t]
  rfl

/-- What a point writes back is its block. -/
theorem flushed_eq13 (c : Dev nD) (t : Fin cfg0.N) :
    (dats m 0 c).flushed 13 t = (win0_13.blk t).view.read (Elt Ideal) (G13 m c) := by
  obtain ⟨e0, e1⟩ := idx13 t
  refine (flushed13_A m c t).trans ((congrArg ((cfg0.win 13).cut (grid0.coords t)) ((Outs.out13 c _ _ _ _ _ _ _ _ _ _ _ _ _ _ _ _ _ _ _ _ _ _ _ _ _ _ _ _ _ _ _ _ _ _ _ _ _ _ _ _ _ _ _).trans (stored13 m c t))).trans ?_)
  funext y
  rw [View.read_apply]
  refine (rows_at (pt t) (G13 m c) _ _ ?_ ?_).symm
  · show win0_13.index t 0 * 320 + 1 * (y 0).val = t.val * 320 + (y 0).val; rw [e0]; omega
  · show win0_13.index t 1 * 1024 + 1 * (y 1).val = (y 1).val; rw [e1]; omega

/-- The blocks of the points are the whole array. -/
theorem cover13 (i : S8320x1024.Idx) : ∃ t : Fin cfg0.N, (cfg0.win 13).flush t = true ∧ i ∈ ((cfg0.win 13).blk t).view.set := by
  have h0 : (i 0).val < 8320 := (i 0).isLt
  have h1 : (i 1).val < 1024 := (i 1).isLt
  have hN : cfg0.N = 26 := N_0
  have ht : (i 0).val / 320 < cfg0.N := by omega
  refine ⟨⟨_, ht⟩, flush0_13 _, ?_⟩
  obtain ⟨e0, e1⟩ := idx13 ⟨_, ht⟩
  show i ∈ ((View.whole main_v4_3).slice (win0_13.rect ⟨_, ht⟩)).set
  rw [View.set_slice_whole, Rect.mem_set_unit]
  intro a
  match a with
  | ⟨0, _⟩ => show win0_13.index ⟨_, ht⟩ 0 * 320 ≤ (i 0).val ∧ (i 0).val < win0_13.index ⟨_, ht⟩ 0 * 320 + 320; rw [e0]; dsimp only; omega
  | ⟨1, _⟩ => show win0_13.index ⟨_, ht⟩ 1 * 1024 ≤ (i 1).val ∧ (i 1).val < win0_13.index ⟨_, ht⟩ 1 * 1024 + 1024; rw [e1]; dsimp only; omega

/-- The result array after the run. -/
theorem final13 (c : Dev nD) : (dats m 0 c).arrAt 13 cfg0.N = G13 m c :=
  (dats m 0 c).arrAt_eq_of_cover 13 (G13 m c) (fun t _ => flushed_eq13 m c t) cover13

/-- Result 0: the residual plus the output projection. -/
def G10 (c : Dev nD) : Mat 8320 1024 := plus (A6 m c) (mm (mix (A4 m c) (mm (silu (A0 m c) (A2 m c)) (A7 m c)) (A5 m c) (mm (silu (A1 m c) (A3 m c)) (A8 m c))) (A9 m c))

/-- What a point stores there: its rows of it. -/
theorem stored10 (c : Dev nD) (t : Fin cfg0.N) : @Eq (Mat 320 1024) (k0_pay6 (F := Ideal) (iblk m c 5 t) (X0_2 m c t) (iblk m c 0 t) (iblk m c 1 t) (iblk m c 7 t) (iblk m c 8 t) (X0_3 m c t) (X0_4 m c t) (iblk m c 6 t) (iblk m c 9 t)) (rows (pt t) (G10 m c)) := by
  refine (pay6 (iblk m c 5 t) (X0_2 m c t) (iblk m c 0 t) (iblk m c 1 t) (iblk m c 7 t) (iblk m c 8 t) (X0_3 m c t) (X0_4 m c t) (iblk m c 6 t) (iblk m c 9 t)).trans ?_
  rw [blk5 m c t, blk2 m c t, blk0 m c t, blk1 m c t, blk7 m c t, blk8 m c t, blk3 m c t, blk4 m c t, blk6 m c t, blk9 m c t]
  rfl

/-- What a point writes back is its block. -/
theorem flushed_eq10 (c : Dev nD) (t : Fin cfg0.N) :
    (dats m 0 c).flushed 10 t = (win0_10.blk t).view.read (Elt Ideal) (G10 m c) := by
  obtain ⟨e0, e1⟩ := idx10 t
  refine (flushed10_A m c t).trans ((congrArg ((cfg0.win 10).cut (grid0.coords t)) ((Outs.out10 c _ _ _ _ _ _ _ _ _ _ _ _ _ _ _ _ _ _ _ _ _ _ _ _ _ _ _ _ _ _ _ _ _ _ _ _ _ _ _ _ _ _ _).trans (stored10 m c t))).trans ?_)
  funext y
  rw [View.read_apply]
  refine (rows_at (pt t) (G10 m c) _ _ ?_ ?_).symm
  · show win0_10.index t 0 * 320 + 1 * (y 0).val = t.val * 320 + (y 0).val; rw [e0]; omega
  · show win0_10.index t 1 * 1024 + 1 * (y 1).val = (y 1).val; rw [e1]; omega

/-- The blocks of the points are the whole array. -/
theorem cover10 (i : S8320x1024.Idx) : ∃ t : Fin cfg0.N, (cfg0.win 10).flush t = true ∧ i ∈ ((cfg0.win 10).blk t).view.set := by
  have h0 : (i 0).val < 8320 := (i 0).isLt
  have h1 : (i 1).val < 1024 := (i 1).isLt
  have hN : cfg0.N = 26 := N_0
  have ht : (i 0).val / 320 < cfg0.N := by omega
  refine ⟨⟨_, ht⟩, flush0_10 _, ?_⟩
  obtain ⟨e0, e1⟩ := idx10 ⟨_, ht⟩
  show i ∈ ((View.whole main_v4_0).slice (win0_10.rect ⟨_, ht⟩)).set
  rw [View.set_slice_whole, Rect.mem_set_unit]
  intro a
  match a with
  | ⟨0, _⟩ => show win0_10.index ⟨_, ht⟩ 0 * 320 ≤ (i 0).val ∧ (i 0).val < win0_10.index ⟨_, ht⟩ 0 * 320 + 320; rw [e0]; dsimp only; omega
  | ⟨1, _⟩ => show win0_10.index ⟨_, ht⟩ 1 * 1024 ≤ (i 1).val ∧ (i 1).val < win0_10.index ⟨_, ht⟩ 1 * 1024 + 1024; rw [e1]; dsimp only; omega

/-- The result array after the run. -/
theorem final10 (c : Dev nD) : (dats m 0 c).arrAt 10 cfg0.N = G10 m c :=
  (dats m 0 c).arrAt_eq_of_cover 10 (G10 m c) (fun t _ => flushed_eq10 m c t) cover10

/-- THE VALUES: the kernel's run and the reference's end with equal results. -/
theorem algebraic : Cert.algebraic_GatedMergeIdeal_GatedMergeReferenceIdeal := fun m g m' g' _ hagree =>
  ⟨fun c => G10 m c, fun c => G11 m c, fun c => G12 m c, fun c => G13 m c, fun c => G14 m c, fun c => G15 m c,
    (θ_run _ _ _).mono (fun r h c => ⟨((h c).1).trans (final10 m c), ((h c).2.1).trans (final11 m c), ((h c).2.2.1).trans (final12 m c), ((h c).2.2.2.1).trans (final13 m c), ((h c).2.2.2.2.1).trans (final14 m c), ((h c).2.2.2.2.2.1).trans (final15 m c), (h c).2.2.2.2.2.2⟩) (Value.run_blocks m g),
    (θ_run _ _ _).mono (fun r h c => by
      obtain ⟨h0, h1, h2, h3, h4, h5, h6, h7, h8, h9⟩ := hagree c
      exact ⟨((h c).1).trans ((Cert.GatedMergeReferenceIdeal.Terms.term10 (m' ((c.tc : Thread Cert.GatedMergeReferenceIdeal.nD Cert.GatedMergeReferenceIdeal.τ).loc Cert.GatedMergeReferenceIdeal.main_arg0)) (m' ((c.tc : Thread Cert.GatedMergeReferenceIdeal.nD Cert.GatedMergeReferenceIdeal.τ).loc Cert.GatedMergeReferenceIdeal.main_arg1)) (m' ((c.tc : Thread Cert.GatedMergeReferenceIdeal.nD Cert.GatedMergeReferenceIdeal.τ).loc Cert.GatedMergeReferenceIdeal.main_arg2)) (m' ((c.tc : Thread Cert.GatedMergeReferenceIdeal.nD Cert.GatedMergeReferenceIdeal.τ).loc Cert.GatedMergeReferenceIdeal.main_arg3)) (m' ((c.tc : Thread Cert.GatedMergeReferenceIdeal.nD Cert.GatedMergeReferenceIdeal.τ).loc Cert.GatedMergeReferenceIdeal.main_arg4)) (m' ((c.tc : Thread Cert.GatedMergeReferenceIdeal.nD Cert.GatedMergeReferenceIdeal.τ).loc Cert.GatedMergeReferenceIdeal.main_arg5)) (m' ((c.tc : Thread Cert.GatedMergeReferenceIdeal.nD Cert.GatedMergeReferenceIdeal.τ).loc Cert.GatedMergeReferenceIdeal.main_arg6)) (m' ((c.tc : Thread Cert.GatedMergeReferenceIdeal.nD Cert.GatedMergeReferenceIdeal.τ).loc Cert.GatedMergeReferenceIdeal.main_arg7)) (m' ((c.tc : Thread Cert.GatedMergeReferenceIdeal.nD Cert.GatedMergeReferenceIdeal.τ).loc Cert.GatedMergeReferenceIdeal.main_arg8)) (m' ((c.tc : Thread Cert.GatedMergeReferenceIdeal.nD Cert.GatedMergeReferenceIdeal.τ).loc Cert.GatedMergeReferenceIdeal.main_arg9))).trans (by rw [h0, h1, h2, h3, h4, h5, h6, h7, h8, h9]; rfl)),
        ((h c).2.1).trans ((Cert.GatedMergeReferenceIdeal.Terms.term11 (m' ((c.tc : Thread Cert.GatedMergeReferenceIdeal.nD Cert.GatedMergeReferenceIdeal.τ).loc Cert.GatedMergeReferenceIdeal.main_arg0)) (m' ((c.tc : Thread Cert.GatedMergeReferenceIdeal.nD Cert.GatedMergeReferenceIdeal.τ).loc Cert.GatedMergeReferenceIdeal.main_arg1)) (m' ((c.tc : Thread Cert.GatedMergeReferenceIdeal.nD Cert.GatedMergeReferenceIdeal.τ).loc Cert.GatedMergeReferenceIdeal.main_arg2)) (m' ((c.tc : Thread Cert.GatedMergeReferenceIdeal.nD Cert.GatedMergeReferenceIdeal.τ).loc Cert.GatedMergeReferenceIdeal.main_arg3)) (m' ((c.tc : Thread Cert.GatedMergeReferenceIdeal.nD Cert.GatedMergeReferenceIdeal.τ).loc Cert.GatedMergeReferenceIdeal.main_arg4)) (m' ((c.tc : Thread Cert.GatedMergeReferenceIdeal.nD Cert.GatedMergeReferenceIdeal.τ).loc Cert.GatedMergeReferenceIdeal.main_arg5)) (m' ((c.tc : Thread Cert.GatedMergeReferenceIdeal.nD Cert.GatedMergeReferenceIdeal.τ).loc Cert.GatedMergeReferenceIdeal.main_arg6)) (m' ((c.tc : Thread Cert.GatedMergeReferenceIdeal.nD Cert.GatedMergeReferenceIdeal.τ).loc Cert.GatedMergeReferenceIdeal.main_arg7)) (m' ((c.tc : Thread Cert.GatedMergeReferenceIdeal.nD Cert.GatedMergeReferenceIdeal.τ).loc Cert.GatedMergeReferenceIdeal.main_arg8)) (m' ((c.tc : Thread Cert.GatedMergeReferenceIdeal.nD Cert.GatedMergeReferenceIdeal.τ).loc Cert.GatedMergeReferenceIdeal.main_arg9))).trans (by rw [h0, h2]; rfl)),
        ((h c).2.2.1).trans ((Cert.GatedMergeReferenceIdeal.Terms.term12 (m' ((c.tc : Thread Cert.GatedMergeReferenceIdeal.nD Cert.GatedMergeReferenceIdeal.τ).loc Cert.GatedMergeReferenceIdeal.main_arg0)) (m' ((c.tc : Thread Cert.GatedMergeReferenceIdeal.nD Cert.GatedMergeReferenceIdeal.τ).loc Cert.GatedMergeReferenceIdeal.main_arg1)) (m' ((c.tc : Thread Cert.GatedMergeReferenceIdeal.nD Cert.GatedMergeReferenceIdeal.τ).loc Cert.GatedMergeReferenceIdeal.main_arg2)) (m' ((c.tc : Thread Cert.GatedMergeReferenceIdeal.nD Cert.GatedMergeReferenceIdeal.τ).loc Cert.GatedMergeReferenceIdeal.main_arg3)) (m' ((c.tc : Thread Cert.GatedMergeReferenceIdeal.nD Cert.GatedMergeReferenceIdeal.τ).loc Cert.GatedMergeReferenceIdeal.main_arg4)) (m' ((c.tc : Thread Cert.GatedMergeReferenceIdeal.nD Cert.GatedMergeReferenceIdeal.τ).loc Cert.GatedMergeReferenceIdeal.main_arg5)) (m' ((c.tc : Thread Cert.GatedMergeReferenceIdeal.nD Cert.GatedMergeReferenceIdeal.τ).loc Cert.GatedMergeReferenceIdeal.main_arg6)) (m' ((c.tc : Thread Cert.GatedMergeReferenceIdeal.nD Cert.GatedMergeReferenceIdeal.τ).loc Cert.GatedMergeReferenceIdeal.main_arg7)) (m' ((c.tc : Thread Cert.GatedMergeReferenceIdeal.nD Cert.GatedMergeReferenceIdeal.τ).loc Cert.GatedMergeReferenceIdeal.main_arg8)) (m' ((c.tc : Thread Cert.GatedMergeReferenceIdeal.nD Cert.GatedMergeReferenceIdeal.τ).loc Cert.GatedMergeReferenceIdeal.main_arg9))).trans (by rw [h1, h3]; rfl)),
        ((h c).2.2.2.1).trans ((Cert.GatedMergeReferenceIdeal.Terms.term13 (m' ((c.tc : Thread Cert.GatedMergeReferenceIdeal.nD Cert.GatedMergeReferenceIdeal.τ).loc Cert.GatedMergeReferenceIdeal.main_arg0)) (m' ((c.tc : Thread Cert.GatedMergeReferenceIdeal.nD Cert.GatedMergeReferenceIdeal.τ).loc Cert.GatedMergeReferenceIdeal.main_arg1)) (m' ((c.tc : Thread Cert.GatedMergeReferenceIdeal.nD Cert.GatedMergeReferenceIdeal.τ).loc Cert.GatedMergeReferenceIdeal.main_arg2)) (m' ((c.tc : Thread Cert.GatedMergeReferenceIdeal.nD Cert.GatedMergeReferenceIdeal.τ).loc Cert.GatedMergeReferenceIdeal.main_arg3)) (m' ((c.tc : Thread Cert.GatedMergeReferenceIdeal.nD Cert.GatedMergeReferenceIdeal.τ).loc Cert.GatedMergeReferenceIdeal.main_arg4)) (m' ((c.tc : Thread Cert.GatedMergeReferenceIdeal.nD Cert.GatedMergeReferenceIdeal.τ).loc Cert.GatedMergeReferenceIdeal.main_arg5)) (m' ((c.tc : Thread Cert.GatedMergeReferenceIdeal.nD Cert.GatedMergeReferenceIdeal.τ).loc Cert.GatedMergeReferenceIdeal.main_arg6)) (m' ((c.tc : Thread Cert.GatedMergeReferenceIdeal.nD Cert.GatedMergeReferenceIdeal.τ).loc Cert.GatedMergeReferenceIdeal.main_arg7)) (m' ((c.tc : Thread Cert.GatedMergeReferenceIdeal.nD Cert.GatedMergeReferenceIdeal.τ).loc Cert.GatedMergeReferenceIdeal.main_arg8)) (m' ((c.tc : Thread Cert.GatedMergeReferenceIdeal.nD Cert.GatedMergeReferenceIdeal.τ).loc Cert.GatedMergeReferenceIdeal.main_arg9))).trans (by rw [h0, h1, h2, h3, h4, h5, h7, h8]; rfl)),
        ((h c).2.2.2.2.1).trans ((Cert.GatedMergeReferenceIdeal.Terms.term14 (m' ((c.tc : Thread Cert.GatedMergeReferenceIdeal.nD Cert.GatedMergeReferenceIdeal.τ).loc Cert.GatedMergeReferenceIdeal.main_arg0)) (m' ((c.tc : Thread Cert.GatedMergeReferenceIdeal.nD Cert.GatedMergeReferenceIdeal.τ).loc Cert.GatedMergeReferenceIdeal.main_arg1)) (m' ((c.tc : Thread Cert.GatedMergeReferenceIdeal.nD Cert.GatedMergeReferenceIdeal.τ).loc Cert.GatedMergeReferenceIdeal.main_arg2)) (m' ((c.tc : Thread Cert.GatedMergeReferenceIdeal.nD Cert.GatedMergeReferenceIdeal.τ).loc Cert.GatedMergeReferenceIdeal.main_arg3)) (m' ((c.tc : Thread Cert.GatedMergeReferenceIdeal.nD Cert.GatedMergeReferenceIdeal.τ).loc Cert.GatedMergeReferenceIdeal.main_arg4)) (m' ((c.tc : Thread Cert.GatedMergeReferenceIdeal.nD Cert.GatedMergeReferenceIdeal.τ).loc Cert.GatedMergeReferenceIdeal.main_arg5)) (m' ((c.tc : Thread Cert.GatedMergeReferenceIdeal.nD Cert.GatedMergeReferenceIdeal.τ).loc Cert.GatedMergeReferenceIdeal.main_arg6)) (m' ((c.tc : Thread Cert.GatedMergeReferenceIdeal.nD Cert.GatedMergeReferenceIdeal.τ).loc Cert.GatedMergeReferenceIdeal.main_arg7)) (m' ((c.tc : Thread Cert.GatedMergeReferenceIdeal.nD Cert.GatedMergeReferenceIdeal.τ).loc Cert.GatedMergeReferenceIdeal.main_arg8)) (m' ((c.tc : Thread Cert.GatedMergeReferenceIdeal.nD Cert.GatedMergeReferenceIdeal.τ).loc Cert.GatedMergeReferenceIdeal.main_arg9))).trans (by rw [h0, h2, h7]; rfl)),
        ((h c).2.2.2.2.2.1).trans ((Cert.GatedMergeReferenceIdeal.Terms.term15 (m' ((c.tc : Thread Cert.GatedMergeReferenceIdeal.nD Cert.GatedMergeReferenceIdeal.τ).loc Cert.GatedMergeReferenceIdeal.main_arg0)) (m' ((c.tc : Thread Cert.GatedMergeReferenceIdeal.nD Cert.GatedMergeReferenceIdeal.τ).loc Cert.GatedMergeReferenceIdeal.main_arg1)) (m' ((c.tc : Thread Cert.GatedMergeReferenceIdeal.nD Cert.GatedMergeReferenceIdeal.τ).loc Cert.GatedMergeReferenceIdeal.main_arg2)) (m' ((c.tc : Thread Cert.GatedMergeReferenceIdeal.nD Cert.GatedMergeReferenceIdeal.τ).loc Cert.GatedMergeReferenceIdeal.main_arg3)) (m' ((c.tc : Thread Cert.GatedMergeReferenceIdeal.nD Cert.GatedMergeReferenceIdeal.τ).loc Cert.GatedMergeReferenceIdeal.main_arg4)) (m' ((c.tc : Thread Cert.GatedMergeReferenceIdeal.nD Cert.GatedMergeReferenceIdeal.τ).loc Cert.GatedMergeReferenceIdeal.main_arg5)) (m' ((c.tc : Thread Cert.GatedMergeReferenceIdeal.nD Cert.GatedMergeReferenceIdeal.τ).loc Cert.GatedMergeReferenceIdeal.main_arg6)) (m' ((c.tc : Thread Cert.GatedMergeReferenceIdeal.nD Cert.GatedMergeReferenceIdeal.τ).loc Cert.GatedMergeReferenceIdeal.main_arg7)) (m' ((c.tc : Thread Cert.GatedMergeReferenceIdeal.nD Cert.GatedMergeReferenceIdeal.τ).loc Cert.GatedMergeReferenceIdeal.main_arg8)) (m' ((c.tc : Thread Cert.GatedMergeReferenceIdeal.nD Cert.GatedMergeReferenceIdeal.τ).loc Cert.GatedMergeReferenceIdeal.main_arg9))).trans (by rw [h1, h3, h8]; rfl)),
        (h c).2.2.2.2.2.2⟩) (Cert.GatedMergeReferenceIdeal.Value.run (F := Ideal) m' g')⟩

end Cert.GatedMergeIdeal.Sum

end
-- ==== Proof.MergeLaws.lean ====
/-
  The mathematics of the gated merge's gradient: what is written of it over whole arrays and over blocks of rows, the
  finiteness that the derivative of a gated activation needs, and the two ways of writing that derivative.
-/
module

public import proofs.«01_k».proof.Proof.Merge
public import Idealize.ShloMosaic.Lib.Pipeline.ValueKit.Tiles

@[expose] public section

set_option maxRecDepth 16384

noncomputable section

namespace Cert.Merge

open Cert.Dots
open Idealize.ShloMosaic Idealize.ShloMosaic.ValueIdx
open scoped BigOperators

/-- The logistic function, entry by entry. -/
def sig {R C : ℕ} (g : Mat R C) : Mat R C := fun i => Ideal.logistic (g i)

/-- A product, entry by entry. -/
def tim {R C : ℕ} (a b : Mat R C) : Mat R C := fun i => a i * b i

/-- A matrix on its side. -/
def tp {K N : ℕ} (w : Mat N K) : Mat K N := fun i => w (ix2 (i 1) (i 0))

/-- A product with a matrix on its side. -/
theorem mm_tp {R K N : ℕ} (a : Mat R K) (w : Mat N K) : mm a (tp w) = mmt a w := rfl

/-- The gradient that reaches a branch's projection. -/
def dy {R K N : ℕ} (h : Mat R K) (w : Mat N K) (g : Mat R N) : Mat R N := tim (mmt h w) (sig g)

/-- The gradient that reaches a branch's gated values. -/
def du {R K N P : ℕ} (h : Mat R K) (w : Mat N K) (g : Mat R N) (v : Mat P N) : Mat R P := mmt (dy h w g) v

/-- The gradient that reaches an attention's output. -/
def dOut {R C : ℕ} (d z : Mat R C) : Mat R C := tim d (tim z (sig z))

/-- The gradient of a branch's gate, the derivative of `z · σ(z)` written as one product; `c` stands for the number one. -/
def dz {R C : ℕ} (c : EReal) (d o z : Mat R C) : Mat R C :=
  fun i => d i * o i * (Ideal.logistic (z i) * (c + z i * (c - Ideal.logistic (z i))))

/-- The gradient of a merge gate; `c` stands for the number one. -/
def dg {R C : ℕ} (c : EReal) (d y g : Mat R C) : Mat R C :=
  fun i => d i * y i * (Ideal.logistic (g i) * (c - Ideal.logistic (g i)))

/-- The derivative of `z · σ(z)` as the rules for a product and for the sigmoid give it. -/
def dzr {R C : ℕ} (c : EReal) (d o z : Mat R C) : Mat R C :=
  fun i => o i * d i * Ideal.logistic (z i) + z i * (o i * d i) * (Ideal.logistic (z i) * (c - Ideal.logistic (z i)))

/-- Four arrays beside one another. -/
def beside {R : ℕ} (a b d : Mat R 1024) (e : Mat R 512) : Mat R 3584 := fun j =>
  if h0 : (j 1).val < 1024 then a (ix2 (j 0) ⟨(j 1).val, h0⟩)
  else if h1 : (j 1).val < 2048 then b (ix2 (j 0) ⟨(j 1).val - 1024, by omega⟩)
  else if h2 : (j 1).val < 3072 then d (ix2 (j 0) ⟨(j 1).val - 2048, by omega⟩)
  else e (ix2 (j 0) ⟨(j 1).val - 3072, by have h : (j 1).val < 3584 := (j 1).isLt; omega⟩)

/-- A block of rows of four arrays beside one another. -/
theorem rows_beside (t : Fin 26) (a b d : Mat 8320 1024) (e : Mat 8320 512) :
    rows t (beside a b d e) = beside (rows t a) (rows t b) (rows t d) (rows t e) := rfl

/-- Stored piece by piece, four arrays stand beside one another. -/
theorem canon_beside (a b d : Mat 320 1024) (e : Mat 320 512) (i0 i1 i2 i3)
    (hc : ∀ y : (⟨2, ![320, 3584]⟩ : Shape).Idx, ∃ p ∈ ([⟨Rect.unit (s := (⟨2, ![320, 3584]⟩ : Shape)) ![0, 3072] ![320, 512] i3, e⟩, ⟨Rect.unit (s := (⟨2, ![320, 3584]⟩ : Shape)) ![0, 2048] ![320, 1024] i2, d⟩,
      ⟨Rect.unit (s := (⟨2, ![320, 3584]⟩ : Shape)) ![0, 1024] ![320, 1024] i1, b⟩, ⟨Rect.unit (s := (⟨2, ![320, 3584]⟩ : Shape)) ![0, 0] ![320, 1024] i0, a⟩] : List (View.Piece (Elt Ideal) (⟨2, ![320, 3584]⟩ : Shape) .bf16)), y ∈ p.1.set) :
    @Eq (Mat 320 3584) (View.canon ([⟨Rect.unit (s := (⟨2, ![320, 3584]⟩ : Shape)) ![0, 3072] ![320, 512] i3, e⟩, ⟨Rect.unit (s := (⟨2, ![320, 3584]⟩ : Shape)) ![0, 2048] ![320, 1024] i2, d⟩,
      ⟨Rect.unit (s := (⟨2, ![320, 3584]⟩ : Shape)) ![0, 1024] ![320, 1024] i1, b⟩, ⟨Rect.unit (s := (⟨2, ![320, 3584]⟩ : Shape)) ![0, 0] ![320, 1024] i0, a⟩] : List (View.Piece (Elt Ideal) (⟨2, ![320, 3584]⟩ : Shape) .bf16)))
      (beside a b d e) := by
  funext y
  refine View.canon_eq_of_allAt _ y _ (hc y) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    have h0 : (y 0).val = 0 + (x 0).val := hx 0
    have h1 : (y 1).val = 3072 + (x 1).val := hx 1
    unfold beside
    rw [dif_neg (by omega), dif_neg (by omega), dif_neg (by omega)]
    refine read_same e x _ ?_ ?_
    · show (x 0).val = (y 0).val; omega
    · show (x 1).val = (y 1).val - 3072; omega
  · intro x hx
    have hx1 : (x 1).val < 1024 := (x 1).isLt
    have h0 : (y 0).val = 0 + (x 0).val := hx 0
    have h1 : (y 1).val = 2048 + (x 1).val := hx 1
    unfold beside
    rw [dif_neg (by omega), dif_neg (by omega), dif_pos (by omega)]
    refine read_same d x _ ?_ ?_
    · show (x 0).val = (y 0).val; omega
    · show (x 1).val = (y 1).val - 2048; omega
  · intro x hx
    have hx1 : (x 1).val < 1024 := (x 1).isLt
    have h0 : (y 0).val = 0 + (x 0).val := hx 0
    have h1 : (y 1).val = 1024 + (x 1).val := hx 1
    unfold beside
    rw [dif_neg (by omega), dif_pos (by omega)]
    refine read_same b x _ ?_ ?_
    · show (x 0).val = (y 0).val; omega
    · show (x 1).val = (y 1).val - 1024; omega
  · intro x hx
    have hx1 : (x 1).val < 1024 := (x 1).isLt
    have h0 : (y 0).val = 0 + (x 0).val := hx 0
    have h1 : (y 1).val = 0 + (x 1).val := hx 1
    unfold beside
    rw [dif_pos (by omega)]
    refine read_same a x _ ?_ ?_
    · show (x 0).val = (y 0).val; omega
    · show (x 1).val = (y 1).val; omega

/-- Arrays put beside one another by the host stand beside one another. -/
theorem concat_beside {R : ℕ} (a b d : Mat R 1024) (e : Mat R 512)
    (hc : Shape.Concatenates [(⟨2, ![R, 1024]⟩ : Shape), (⟨2, ![R, 1024]⟩ : Shape), (⟨2, ![R, 1024]⟩ : Shape), (⟨2, ![R, 512]⟩ : Shape)] (⟨2, ![R, 3584]⟩ : Shape) 1) :
    concatenate (⟨2, ![R, 3584]⟩ : Shape) 1 [⟨(⟨2, ![R, 1024]⟩ : Shape), a⟩, ⟨(⟨2, ![R, 1024]⟩ : Shape), b⟩, ⟨(⟨2, ![R, 1024]⟩ : Shape), d⟩, ⟨(⟨2, ![R, 512]⟩ : Shape), e⟩] hc
      = beside a b d e := funext fun j => gates a b d e hc j

/-- The number one, as it is written in the programs. -/
def c1 : EReal := Ideal.ofBits .f32 0x3F800000#32

/-- It is one. -/
theorem c1_eq : c1 = 1 := Ideal.ofBits_one_f32

/-! ## Finiteness -/

/-- An extended real that is a real number. -/
def IsReal (x : EReal) : Prop := ∃ r : ℝ, x = (r : EReal)

/-- Products of reals are real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- Finite sums of reals are real. -/
theorem IsReal.sum {n : ℕ} {f : Fin n → EReal} (hf : ∀ k, IsReal (f k)) : IsReal (∑ k, f k) := by
  choose r hr using hf
  refine ⟨∑ k, r k, ?_⟩
  rw [Finset.sum_congr rfl fun k _ => hr k]
  exact (map_sum (⟨⟨Real.toEReal, EReal.coe_zero⟩, EReal.coe_add⟩ : ℝ →+ EReal) r Finset.univ).symm

/-- The logistic function's values are real. -/
theorem IsReal.logistic (x : EReal) : IsReal (Ideal.logistic x) := by
  induction x with
  | bot => exact ⟨0, by rw [Ideal.logistic_bot, EReal.coe_zero]⟩
  | top => exact ⟨1, by rw [Ideal.logistic_top, EReal.coe_one]⟩
  | coe r => exact ⟨_, Ideal.logistic_coe r⟩

/-- A magnitude under infinity is a real number's. -/
theorem IsReal.of_lt {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x with
  | bot => exact absurd h (by simp [Ideal.cmp])
  | top => exact absurd h (by simp [Ideal.cmp])
  | coe r => exact ⟨r, rfl⟩

/-- Of real matrices the products are real, -/
theorem IsReal.mmt {R K N : ℕ} {a : Mat R K} {b : Mat N K} (ha : ∀ i, IsReal (a i)) (hb : ∀ i, IsReal (b i)) (i) : IsReal (mmt a b i) :=
  IsReal.sum fun _ => (ha _).mul (hb _)

/-- … and so are the gradients that reach the branches. -/
theorem IsReal.du {R K N P : ℕ} {h : Mat R K} {w : Mat N K} {v : Mat P N} (hh : ∀ i, IsReal (h i)) (hw : ∀ i, IsReal (w i)) (hv : ∀ i, IsReal (v i)) (g : Mat R N) (i) :
    IsReal (du h w g v i) :=
  IsReal.mmt (fun j => (IsReal.mmt hh hw j).mul (IsReal.logistic _)) hv i

/-- The derivative of `z · σ(z)`, times a real number: the sum that the rules give is the one product. -/
theorem silu_law {d : EReal} (hd : IsReal d) (z : EReal) :
    d * Ideal.logistic z + z * d * (Ideal.logistic z * (1 - Ideal.logistic z)) = d * (Ideal.logistic z * (1 + z * (1 - Ideal.logistic z))) := by
  obtain ⟨r, rfl⟩ := hd
  induction z with
  | bot => rw [Ideal.logistic_bot]; simp
  | top =>
    have h : (1 : EReal) - 1 = 0 := by rw [← EReal.coe_one, ← EReal.coe_sub, sub_self, EReal.coe_zero]
    rw [Ideal.logistic_top, h]; simp
  | coe x =>
    rw [Ideal.logistic_coe, ← EReal.coe_one]
    generalize (1 + Real.exp (-x))⁻¹ = s
    simp only [← EReal.coe_sub, ← EReal.coe_mul, ← EReal.coe_add]
    congr 1
    ring

/-- Over arrays: where the gradient and the values are real, the two ways of writing the gate's gradient agree. -/
theorem dz_law {R C : ℕ} {d o : Mat R C} (hd : ∀ i, IsReal (d i)) (ho : ∀ i, IsReal (o i)) (z : Mat R C) : dzr 1 d o z = dz 1 d o z := by
  funext i
  show o i * d i * Ideal.logistic (z i) + z i * (o i * d i) * (Ideal.logistic (z i) * (1 - Ideal.logistic (z i))) = _
  rw [silu_law ((ho i).mul (hd i)) (z i), mul_comm (o i) (d i)]
  rfl

end Cert.Merge

end
-- ==== Proof.MergeBackIn.lean ====
/-
  The arrays that the gated merge's gradient finds when it starts: the gates beside one another, the branches' saved
  projections and the narrow weights on their sides.
-/
module

public import proofs.«01_k».proof.Proof.Gen.MergeGradient.Frame
public import proofs.«01_k».proof.Proof.Gen.MergeGradientIdeal.Value
public import proofs.«01_k».proof.Proof.MergeLaws

@[expose] public section

set_option maxRecDepth 65536

noncomputable section

namespace Cert.MergeGradientIdeal.Ins

open Cert.MergeGradientIdeal Cert.MergeGradientIdeal.Gen Cert.MergeGradientIdeal.Value Cert.Dots Cert.Merge
open Idealize.ShloMosaic Idealize.ShloMosaic.TcCoe Idealize.ShloMosaic.ValueIdx Idealize.SL.Sem
open scoped BigOperators

variable (m : (ℓ : Loc nD τ sig) → Buf (Elt Ideal) ℓ)

/-- The stick-breaking attention's output. -/
abbrev A0 (c : Dev nD) : Mat 8320 512 := m ((c : Thread nD τ).loc main_arg0)
/-- The sliding-window attention's output. -/
abbrev A1 (c : Dev nD) : Mat 8320 1024 := m ((c : Thread nD τ).loc main_arg1)
/-- The stick-breaking branch's gate. -/
abbrev A2 (c : Dev nD) : Mat 8320 512 := m ((c : Thread nD τ).loc main_arg2)
/-- The sliding-window branch's gate. -/
abbrev A3 (c : Dev nD) : Mat 8320 1024 := m ((c : Thread nD τ).loc main_arg3)
/-- The merge gate of the stick-breaking branch. -/
abbrev A4 (c : Dev nD) : Mat 8320 1024 := m ((c : Thread nD τ).loc main_arg4)
/-- The merge gate of the sliding-window branch. -/
abbrev A5 (c : Dev nD) : Mat 8320 1024 := m ((c : Thread nD τ).loc main_arg5)
/-- The stick-breaking branch's weight. -/
abbrev A6 (c : Dev nD) : Mat 512 1024 := m ((c : Thread nD τ).loc main_arg6)
/-- The sliding-window branch's weight. -/
abbrev A7 (c : Dev nD) : Mat 1024 1024 := m ((c : Thread nD τ).loc main_arg7)
/-- The output weight. -/
abbrev A8 (c : Dev nD) : Mat 1024 1024 := m ((c : Thread nD τ).loc main_arg8)
/-- The gradient at the layer's result. -/
abbrev A9 (c : Dev nD) : Mat 8320 1024 := m ((c : Thread nD τ).loc main_arg9)

/-- The narrow copy of a weight on its side. -/
theorem T8 (c : Dev nD) : @Eq (Mat 1024 1024) (V m c main_v8) (tp (A8 m c)) := by
  have h : @Eq (Vec Ideal S1024x1024 .bf16) (V m c main_v8) (transpose S1024x1024 [1, 0] (truncf (F := Ideal) .bf16 (m ((c : Thread nD τ).loc main_arg8) : Vec Ideal S1024x1024 .f32) bitsLt_bf16_f32) transposes_S1024x1024_S1024x1024_1_0) := by
    show StableHlo.after (List.flatten [hostOps0 (F := Ideal), hostOps0_1, hostOps0_2, hostOps0_3, hostOps0_4]) (fun b => m (c, b)) (Proc.devRef .tc main_v8) = _
    simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
  refine h.trans (funext fun j => ?_)
  exact transpose_apply (s := S1024x1024) (t := S1024x1024) [1, 0] _ _ j (ix2 (j 1) (j 0)) (fun x => by match x with | ⟨0, _⟩ => rfl | ⟨1, _⟩ => rfl)

/-- The narrow copy of a weight on its side. -/
theorem T6 (c : Dev nD) : @Eq (Mat 1024 512) (V m c main_v10) (tp (A6 m c)) := by
  have h : @Eq (Vec Ideal S1024x512 .bf16) (V m c main_v10) (transpose S1024x512 [1, 0] (truncf (F := Ideal) .bf16 (m ((c : Thread nD τ).loc main_arg6) : Vec Ideal S512x1024 .f32) bitsLt_bf16_f32) transposes_S512x1024_S1024x512_1_0) := by
    show StableHlo.after (List.flatten [hostOps0 (F := Ideal), hostOps0_1, hostOps0_2, hostOps0_3, hostOps0_4]) (fun b => m (c, b)) (Proc.devRef .tc main_v10) = _
    simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
  refine h.trans (funext fun j => ?_)
  exact transpose_apply (s := S512x1024) (t := S1024x512) [1, 0] _ _ j (ix2 (j 1) (j 0)) (fun x => by match x with | ⟨0, _⟩ => rfl | ⟨1, _⟩ => rfl)

/-- The narrow copy of a weight on its side. -/
theorem T7 (c : Dev nD) : @Eq (Mat 1024 1024) (V m c main_v12) (tp (A7 m c)) := by
  have h : @Eq (Vec Ideal S1024x1024 .bf16) (V m c main_v12) (transpose S1024x1024 [1, 0] (truncf (F := Ideal) .bf16 (m ((c : Thread nD τ).loc main_arg7) : Vec Ideal S1024x1024 .f32) bitsLt_bf16_f32) transposes_S1024x1024_S1024x1024_1_0) := by
    show StableHlo.after (List.flatten [hostOps0 (F := Ideal), hostOps0_1, hostOps0_2, hostOps0_3, hostOps0_4]) (fun b => m (c, b)) (Proc.devRef .tc main_v12) = _
    simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
  refine h.trans (funext fun j => ?_)
  exact transpose_apply (s := S1024x1024) (t := S1024x1024) [1, 0] _ _ j (ix2 (j 1) (j 0)) (fun x => by match x with | ⟨0, _⟩ => rfl | ⟨1, _⟩ => rfl)

/-- The gates that the launch reads, beside one another. -/
theorem gates_eq (c : Dev nD) : @Eq (Mat 8320 3584) (V m c main_v0) (beside (A3 m c) (A4 m c) (A5 m c) (A2 m c)) := by
  have h : @Eq (Vec Ideal S8320x3584 .f32) (V m c main_v0)
      (concatenate S8320x3584 1 [⟨S8320x1024, A3 m c⟩, ⟨S8320x1024, A4 m c⟩, ⟨S8320x1024, A5 m c⟩, ⟨S8320x512, A2 m c⟩] concatenates_S8320x1024_S8320x1024_S8320x1024_S8320x512_S8320x3584_d1) := by
    show StableHlo.after (List.flatten [hostOps0 (F := Ideal), hostOps0_1, hostOps0_2, hostOps0_3, hostOps0_4]) (fun b => m (c, b)) (Proc.devRef .tc main_v0) = _
    simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
    rfl
  exact h.trans (concat_beside _ _ _ _ _)

/-- The saved projection of the stick-breaking branch. -/
theorem saved512 (c : Dev nD) : @Eq (Mat 8320 1024) (V m c main_v3) (mm (silu (A0 m c) (A2 m c)) (A6 m c)) := by
  have h : @Eq (FVec Ideal S8320x1024 .f32) (V m c main_v3)
      (Host.dotGeneral (F := Ideal) (φ₁ := .f32) (φ₂ := .f32) dot_S8320x512_S512x1024_S8320x1024_1_0_0_1_n_n none
        (mulf (A0 m c : FVec Ideal S8320x512 .f32) (mulf (A2 m c : FVec Ideal S8320x512 .f32) (Host.divf (broadcastInDim S8320x512 ![] bcast_S_S8320x512 (constant S_ .f32 0x3F800000#32)) (addf (broadcastInDim S8320x512 ![] bcast_S_S8320x512 (constant S_ .f32 0x3F800000#32)) (Host.exp (Host.negf (A2 m c : FVec Ideal S8320x512 .f32))))))) (A6 m c : FVec Ideal S512x1024 .f32)) := by
    show StableHlo.after (List.flatten [hostOps0 (F := Ideal), hostOps0_1, hostOps0_2, hostOps0_3, hostOps0_4]) (fun b => m (c, b)) (Proc.devRef .tc main_v3) = _
    simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
  have hl : @Eq (FVec Ideal S8320x512 .f32) (Host.divf (broadcastInDim S8320x512 ![] bcast_S_S8320x512 (constant S_ .f32 0x3F800000#32)) (addf (broadcastInDim S8320x512 ![] bcast_S_S8320x512 (constant S_ .f32 0x3F800000#32)) (Host.exp (Host.negf (A2 m c : FVec Ideal S8320x512 .f32))))) (fun i => Ideal.logistic (A2 m c i)) := host_logistic (A2 m c) _
  rw [hl] at h
  refine h.trans ((dot_mm _ _ (A6 m c) 0 rfl).trans ?_)
  rfl

/-- The saved projection of the sliding-window branch. -/
theorem saved1024 (c : Dev nD) : @Eq (Mat 8320 1024) (V m c main_v6) (mm (silu (A1 m c) (A3 m c)) (A7 m c)) := by
  have h : @Eq (FVec Ideal S8320x1024 .f32) (V m c main_v6)
      (Host.dotGeneral (F := Ideal) (φ₁ := .f32) (φ₂ := .f32) dot_S8320x1024_S1024x1024_S8320x1024_1_0_0_1_n_n none
        (mulf (A1 m c : FVec Ideal S8320x1024 .f32) (mulf (A3 m c : FVec Ideal S8320x1024 .f32) (Host.divf (broadcastInDim S8320x1024 ![] bcast_S_S8320x1024 (constant S_ .f32 0x3F800000#32)) (addf (broadcastInDim S8320x1024 ![] bcast_S_S8320x1024 (constant S_ .f32 0x3F800000#32)) (Host.exp (Host.negf (A3 m c : FVec Ideal S8320x1024 .f32))))))) (A7 m c : FVec Ideal S1024x1024 .f32)) := by
    show StableHlo.after (List.flatten [hostOps0 (F := Ideal), hostOps0_1, hostOps0_2, hostOps0_3, hostOps0_4]) (fun b => m (c, b)) (Proc.devRef .tc main_v6) = _
    simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
    after_results_simp
  have hl : @Eq (FVec Ideal S8320x1024 .f32) (Host.divf (broadcastInDim S8320x1024 ![] bcast_S_S8320x1024 (constant S_ .f32 0x3F800000#32)) (addf (broadcastInDim S8320x1024 ![] bcast_S_S8320x1024 (constant S_ .f32 0x3F800000#32)) (Host.exp (Host.negf (A3 m c : FVec Ideal S8320x1024 .f32))))) (fun i => Ideal.logistic (A3 m c i)) := host_logistic (A3 m c) _
  rw [hl] at h
  refine h.trans ((dot_mm _ _ (A7 m c) 0 rfl).trans ?_)
  rfl

end Cert.MergeGradientIdeal.Ins

end
-- ==== Proof.MergeBackOuts.lean ====
/-
  What a point of the gated merge's gradient leaves in each of its five output blocks, as the kernel's own expressions of its input
  blocks.
-/
module

public import proofs.«01_k».proof.Proof.Gen.MergeGradient.Frame
public import proofs.«01_k».proof.Proof.Gen.MergeGradientIdeal.Value
public import proofs.«01_k».proof.Proof.MergeLaws

@[expose] public section

set_option maxRecDepth 65536

noncomputable section

namespace Cert.MergeGradientIdeal.Outs

open Cert.MergeGradientIdeal Cert.MergeGradientIdeal.Gen Cert.MergeGradientIdeal.Value
open Cert.Merge
open Idealize.ShloMosaic Idealize.ShloMosaic.TcCoe Idealize.ShloMosaic.ValueIdx Idealize.SL.Sem

theorem hz : (![0, 0] : Fin 2 → Nat) = fun _ => 0 := funext fun a => by fin_cases a <;> rfl

/-- A load of the whole block is the block. -/
theorem ldz {e : EltTy} {R C : ℕ} (x : (⟨2, ![R, C]⟩ : Shape).Idx → Elt Ideal e) (h : ∀ a : Fin 2, (![0, 0] : Fin 2 → ℕ) a + (![R, C] : Fin 2 → ℕ) a ≤ (⟨2, ![R, C]⟩ : Shape).size a) :
    View.ld x (Rect.unit (s := (⟨2, ![R, C]⟩ : Shape)) ![0, 0] ![R, C] h) = x := View.ld_unit_zero hz h x

set_option maxHeartbeats 1000000 in
/-- Output 0: the gradient at the stick-breaking branch's projection. -/
theorem out12 (c : Dev nD) (i : grid0.Coords) (arg1 : Memref sig .tc .vmem S320x1024 .f32) (harg1 : arg1.IsWhole) (arg2 : Memref sig .tc .vmem S320x1024 .f32) (harg2 : arg2.IsWhole) (arg3 : Memref sig .tc .vmem S320x1024 .f32) (harg3 : arg3.IsWhole) (arg4 : Memref sig .tc .vmem S320x1024 .f32) (harg4 : arg4.IsWhole) (arg5 : Memref sig .tc .vmem S320x512 .f32) (harg5 : arg5.IsWhole) (arg6 : Memref sig .tc .vmem S320x1024 .f32) (harg6 : arg6.IsWhole) (arg7 : Memref sig .tc .vmem S320x1024 .f32) (harg7 : arg7.IsWhole) (arg8 : Memref sig .tc .vmem S320x512 .f32) (harg8 : arg8.IsWhole) (arg9 : Memref sig .tc .vmem S320x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x1024 .bf16) (harg12 : arg12.IsWhole) (arg13 : Memref sig .tc .vmem S320x1024 .bf16) (harg13 : arg13.IsWhole) (arg14 : Memref sig .tc .vmem S320x1024 .bf16) (harg14 : arg14.IsWhole) (arg15 : Memref sig .tc .vmem S320x512 .f32) (harg15 : arg15.IsWhole) (arg16 : Memref sig .tc .vmem S320x1024 .f32) (harg16 : arg16.IsWhole) (arg17 : Memref sig .tc .vmem S320x3584 .bf16) (harg17 : arg17.IsWhole)
    (x0 : Vec Ideal S320x1024 .f32) (x1 : Vec Ideal S320x1024 .f32) (x2 : Vec Ideal S320x1024 .f32) (x3 : Vec Ideal S320x1024 .f32) (x4 : Vec Ideal S320x512 .f32) (x5 : Vec Ideal S320x1024 .f32) (x6 : Vec Ideal S320x1024 .f32) (x7 : Vec Ideal S320x512 .f32) (x8 : Vec Ideal S320x1024 .f32) (x9 : Vec Ideal S1024x1024 .bf16) (x10 : Vec Ideal S1024x512 .bf16) (x11 : Vec Ideal S1024x1024 .bf16) :
    @Eq (Vec Ideal S320x1024 .bf16) (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11) (k0_pay5 x0 x9 x2) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ldz]

set_option maxHeartbeats 1000000 in
/-- Output 1: the gradient at the sliding-window branch's projection. -/
theorem out13 (c : Dev nD) (i : grid0.Coords) (arg1 : Memref sig .tc .vmem S320x1024 .f32) (harg1 : arg1.IsWhole) (arg2 : Memref sig .tc .vmem S320x1024 .f32) (harg2 : arg2.IsWhole) (arg3 : Memref sig .tc .vmem S320x1024 .f32) (harg3 : arg3.IsWhole) (arg4 : Memref sig .tc .vmem S320x1024 .f32) (harg4 : arg4.IsWhole) (arg5 : Memref sig .tc .vmem S320x512 .f32) (harg5 : arg5.IsWhole) (arg6 : Memref sig .tc .vmem S320x1024 .f32) (harg6 : arg6.IsWhole) (arg7 : Memref sig .tc .vmem S320x1024 .f32) (harg7 : arg7.IsWhole) (arg8 : Memref sig .tc .vmem S320x512 .f32) (harg8 : arg8.IsWhole) (arg9 : Memref sig .tc .vmem S320x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x1024 .bf16) (harg12 : arg12.IsWhole) (arg13 : Memref sig .tc .vmem S320x1024 .bf16) (harg13 : arg13.IsWhole) (arg14 : Memref sig .tc .vmem S320x1024 .bf16) (harg14 : arg14.IsWhole) (arg15 : Memref sig .tc .vmem S320x512 .f32) (harg15 : arg15.IsWhole) (arg16 : Memref sig .tc .vmem S320x1024 .f32) (harg16 : arg16.IsWhole) (arg17 : Memref sig .tc .vmem S320x3584 .bf16) (harg17 : arg17.IsWhole)
    (x0 : Vec Ideal S320x1024 .f32) (x1 : Vec Ideal S320x1024 .f32) (x2 : Vec Ideal S320x1024 .f32) (x3 : Vec Ideal S320x1024 .f32) (x4 : Vec Ideal S320x512 .f32) (x5 : Vec Ideal S320x1024 .f32) (x6 : Vec Ideal S320x1024 .f32) (x7 : Vec Ideal S320x512 .f32) (x8 : Vec Ideal S320x1024 .f32) (x9 : Vec Ideal S1024x1024 .bf16) (x10 : Vec Ideal S1024x512 .bf16) (x11 : Vec Ideal S1024x1024 .bf16) :
    @Eq (Vec Ideal S320x1024 .bf16) (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11) (k0_pay6 x0 x9 x3) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ldz]

set_option maxHeartbeats 1000000 in
/-- Output 2: the gradient at the stick-breaking attention. -/
theorem out14 (c : Dev nD) (i : grid0.Coords) (arg1 : Memref sig .tc .vmem S320x1024 .f32) (harg1 : arg1.IsWhole) (arg2 : Memref sig .tc .vmem S320x1024 .f32) (harg2 : arg2.IsWhole) (arg3 : Memref sig .tc .vmem S320x1024 .f32) (harg3 : arg3.IsWhole) (arg4 : Memref sig .tc .vmem S320x1024 .f32) (harg4 : arg4.IsWhole) (arg5 : Memref sig .tc .vmem S320x512 .f32) (harg5 : arg5.IsWhole) (arg6 : Memref sig .tc .vmem S320x1024 .f32) (harg6 : arg6.IsWhole) (arg7 : Memref sig .tc .vmem S320x1024 .f32) (harg7 : arg7.IsWhole) (arg8 : Memref sig .tc .vmem S320x512 .f32) (harg8 : arg8.IsWhole) (arg9 : Memref sig .tc .vmem S320x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x1024 .bf16) (harg12 : arg12.IsWhole) (arg13 : Memref sig .tc .vmem S320x1024 .bf16) (harg13 : arg13.IsWhole) (arg14 : Memref sig .tc .vmem S320x1024 .bf16) (harg14 : arg14.IsWhole) (arg15 : Memref sig .tc .vmem S320x512 .f32) (harg15 : arg15.IsWhole) (arg16 : Memref sig .tc .vmem S320x1024 .f32) (harg16 : arg16.IsWhole) (arg17 : Memref sig .tc .vmem S320x3584 .bf16) (harg17 : arg17.IsWhole)
    (x0 : Vec Ideal S320x1024 .f32) (x1 : Vec Ideal S320x1024 .f32) (x2 : Vec Ideal S320x1024 .f32) (x3 : Vec Ideal S320x1024 .f32) (x4 : Vec Ideal S320x512 .f32) (x5 : Vec Ideal S320x1024 .f32) (x6 : Vec Ideal S320x1024 .f32) (x7 : Vec Ideal S320x512 .f32) (x8 : Vec Ideal S320x1024 .f32) (x9 : Vec Ideal S1024x1024 .bf16) (x10 : Vec Ideal S1024x512 .bf16) (x11 : Vec Ideal S1024x1024 .bf16) :
    @Eq (Vec Ideal S320x512 .bf16) (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11) (k0_pay13 x0 x9 x2 x10 x4) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ldz]

set_option maxHeartbeats 1000000 in
/-- Output 3: the gradient at the sliding-window attention. -/
theorem out15 (c : Dev nD) (i : grid0.Coords) (arg1 : Memref sig .tc .vmem S320x1024 .f32) (harg1 : arg1.IsWhole) (arg2 : Memref sig .tc .vmem S320x1024 .f32) (harg2 : arg2.IsWhole) (arg3 : Memref sig .tc .vmem S320x1024 .f32) (harg3 : arg3.IsWhole) (arg4 : Memref sig .tc .vmem S320x1024 .f32) (harg4 : arg4.IsWhole) (arg5 : Memref sig .tc .vmem S320x512 .f32) (harg5 : arg5.IsWhole) (arg6 : Memref sig .tc .vmem S320x1024 .f32) (harg6 : arg6.IsWhole) (arg7 : Memref sig .tc .vmem S320x1024 .f32) (harg7 : arg7.IsWhole) (arg8 : Memref sig .tc .vmem S320x512 .f32) (harg8 : arg8.IsWhole) (arg9 : Memref sig .tc .vmem S320x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x1024 .bf16) (harg12 : arg12.IsWhole) (arg13 : Memref sig .tc .vmem S320x1024 .bf16) (harg13 : arg13.IsWhole) (arg14 : Memref sig .tc .vmem S320x1024 .bf16) (harg14 : arg14.IsWhole) (arg15 : Memref sig .tc .vmem S320x512 .f32) (harg15 : arg15.IsWhole) (arg16 : Memref sig .tc .vmem S320x1024 .f32) (harg16 : arg16.IsWhole) (arg17 : Memref sig .tc .vmem S320x3584 .bf16) (harg17 : arg17.IsWhole)
    (x0 : Vec Ideal S320x1024 .f32) (x1 : Vec Ideal S320x1024 .f32) (x2 : Vec Ideal S320x1024 .f32) (x3 : Vec Ideal S320x1024 .f32) (x4 : Vec Ideal S320x512 .f32) (x5 : Vec Ideal S320x1024 .f32) (x6 : Vec Ideal S320x1024 .f32) (x7 : Vec Ideal S320x512 .f32) (x8 : Vec Ideal S320x1024 .f32) (x9 : Vec Ideal S1024x1024 .bf16) (x10 : Vec Ideal S1024x512 .bf16) (x11 : Vec Ideal S1024x1024 .bf16) :
    @Eq (Vec Ideal S320x1024 .bf16) (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11) (k0_pay14 (k0_pay8 x0 x9 x3 x11) (k0_pay10 x1) (k0_pay12 x1)) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ldz]

set_option maxHeartbeats 1000000 in
/-- Output 4: the four gradients at the gates, beside one another. -/
theorem out16 (c : Dev nD) (i : grid0.Coords) (arg1 : Memref sig .tc .vmem S320x1024 .f32) (harg1 : arg1.IsWhole) (arg2 : Memref sig .tc .vmem S320x1024 .f32) (harg2 : arg2.IsWhole) (arg3 : Memref sig .tc .vmem S320x1024 .f32) (harg3 : arg3.IsWhole) (arg4 : Memref sig .tc .vmem S320x1024 .f32) (harg4 : arg4.IsWhole) (arg5 : Memref sig .tc .vmem S320x512 .f32) (harg5 : arg5.IsWhole) (arg6 : Memref sig .tc .vmem S320x1024 .f32) (harg6 : arg6.IsWhole) (arg7 : Memref sig .tc .vmem S320x1024 .f32) (harg7 : arg7.IsWhole) (arg8 : Memref sig .tc .vmem S320x512 .f32) (harg8 : arg8.IsWhole) (arg9 : Memref sig .tc .vmem S320x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x1024 .bf16) (harg12 : arg12.IsWhole) (arg13 : Memref sig .tc .vmem S320x1024 .bf16) (harg13 : arg13.IsWhole) (arg14 : Memref sig .tc .vmem S320x1024 .bf16) (harg14 : arg14.IsWhole) (arg15 : Memref sig .tc .vmem S320x512 .f32) (harg15 : arg15.IsWhole) (arg16 : Memref sig .tc .vmem S320x1024 .f32) (harg16 : arg16.IsWhole) (arg17 : Memref sig .tc .vmem S320x3584 .bf16) (harg17 : arg17.IsWhole)
    (x0 : Vec Ideal S320x1024 .f32) (x1 : Vec Ideal S320x1024 .f32) (x2 : Vec Ideal S320x1024 .f32) (x3 : Vec Ideal S320x1024 .f32) (x4 : Vec Ideal S320x512 .f32) (x5 : Vec Ideal S320x1024 .f32) (x6 : Vec Ideal S320x1024 .f32) (x7 : Vec Ideal S320x512 .f32) (x8 : Vec Ideal S320x1024 .f32) (x9 : Vec Ideal S1024x1024 .bf16) (x10 : Vec Ideal S1024x512 .bf16) (x11 : Vec Ideal S1024x1024 .bf16) :
    @Eq (Vec Ideal S320x3584 .bf16) (out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11) (beside (k0_pay15 (k0_pay8 x0 x9 x3 x11) (k0_pay10 x1) (k0_pay12 x1) x8) (k0_pay16 (k0_pay2 x0 x9) (k0_pay3 x2) x5) (k0_pay17 (k0_pay2 x0 x9) (k0_pay4 x3) x6) (k0_pay1 (k0_pay9 x4) (k0_pay11 x4) (k0_pay18 (k0_pay7 x0 x9 x2 x10) x7) (Scalar.ofBits .f32 0x3F800000#32))) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  unfold kernelRun0_A
  dsimp only
  sl_unfold_words
  refine (canon_beside _ _ _ _ _ _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)).trans ?_
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ldz]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.cst_41, View.readAt_eq_ld, harg1.read_unread, harg2.read_unread, harg3.read_unread, harg4.read_unread, harg5.read_unread, harg6.read_unread, harg7.read_unread, harg8.read_unread, harg9.read_unread, harg10.read_unread, harg11.read_unread, harg12.read_unread, ldz]

end Cert.MergeGradientIdeal.Outs

end
-- ==== Proof.MergeBackTerms.lean ====
/-
  The gradient of the gated merge's reference: its results as products and gates over all rows.
-/
module

public import proofs.«01_k».proof.Proof.Gen.MergeGradientReferenceIdeal.Run
public import proofs.«01_k».proof.Proof.MergeLaws

@[expose] public section

set_option maxRecDepth 65536

noncomputable section

namespace Cert.MergeGradientReferenceIdeal.Terms

open Cert.MergeGradientReferenceIdeal Cert.MergeGradientReferenceIdeal.Gen Cert.Merge Cert.Dots
open Idealize.ShloMosaic Idealize.ShloMosaic.TcCoe Idealize.SL.Sem

/-- The logistic function, 512 columns wide. -/
theorem logistic512 (x : FVec Ideal S8320x512 .f32) :
    Host.divf (broadcastInDim S8320x512 ![] bcast_S_S8320x512 (constant S_ .f32 0x3F800000#32)) (addf (broadcastInDim S8320x512 ![] bcast_S_S8320x512 (constant S_ .f32 0x3F800000#32)) (Host.exp (Host.negf x))) = (fun i => Ideal.logistic (x i) : FVec Ideal S8320x512 .f32) := host_logistic x _

/-- The logistic function, 1024 columns wide. -/
theorem logistic1024 (x : FVec Ideal S8320x1024 .f32) :
    Host.divf (broadcastInDim S8320x1024 ![] bcast_S_S8320x1024 (constant S_ .f32 0x3F800000#32)) (addf (broadcastInDim S8320x1024 ![] bcast_S_S8320x1024 (constant S_ .f32 0x3F800000#32)) (Host.exp (Host.negf x))) = (fun i => Ideal.logistic (x i) : FVec Ideal S8320x1024 .f32) := host_logistic x _

/-- The product with a matrix on its side, 1024 columns wide. -/
theorem dott1024 (x : FVec Ideal S8320x1024 .f32) (w : FVec Ideal S1024x1024 .f32) :
    Host.dotGeneral (F := Ideal) (φ₁ := .f32) (φ₂ := .f32) dot_S8320x1024_S1024x1024_S8320x1024_1_1_0_0_n_n none x w = (mmt x w : FVec Ideal S8320x1024 .f32) := dot_mmt _ x w 0 rfl

/-- The product with a matrix on its side, 512 columns wide. -/
theorem dott512 (x : FVec Ideal S8320x1024 .f32) (w : FVec Ideal S512x1024 .f32) :
    Host.dotGeneral (F := Ideal) (φ₁ := .f32) (φ₂ := .f32) dot_S8320x1024_S512x1024_S8320x512_1_1_0_0_n_n none x w = (mmt x w : FVec Ideal S8320x512 .f32) := dot_mmt _ x w 0 rfl

/-- The product, 512 long. -/
theorem dot512 (x : FVec Ideal S8320x512 .f32) (w : FVec Ideal S512x1024 .f32) :
    Host.dotGeneral (F := Ideal) (φ₁ := .f32) (φ₂ := .f32) dot_S8320x512_S512x1024_S8320x1024_1_0_0_1_n_n none x w = (mm x w : FVec Ideal S8320x1024 .f32) := dot_mm _ x w 0 rfl

/-- The product, 1024 long. -/
theorem dot1024 (x : FVec Ideal S8320x1024 .f32) (w : FVec Ideal S1024x1024 .f32) :
    Host.dotGeneral (F := Ideal) (φ₁ := .f32) (φ₂ := .f32) dot_S8320x1024_S1024x1024_S8320x1024_1_0_0_1_n_n none x w = (mm x w : FVec Ideal S8320x1024 .f32) := dot_mm _ x w 0 rfl

/-- The gradient at a branch's projection. -/
theorem dy_eq (h : FVec Ideal S8320x1024 .f32) (w : FVec Ideal S1024x1024 .f32) (g : FVec Ideal S8320x1024 .f32) :
    @Eq (FVec Ideal S8320x1024 .f32) (mulf (fun i => Ideal.logistic (g i) : FVec Ideal S8320x1024 .f32) (Host.dotGeneral (F := Ideal) (φ₁ := .f32) (φ₂ := .f32) dot_S8320x1024_S1024x1024_S8320x1024_1_1_0_0_n_n none h w)) (dy h w g : Mat 8320 1024) := by
  rw [dott1024]
  funext i
  exact mul_comm (Ideal.logistic (g i)) (mmt h w i)

/-- The gradient at the stick-breaking branch's projection. -/
theorem term12 (a0 : FVec Ideal S8320x512 .f32) (a1 : FVec Ideal S8320x1024 .f32) (a2 : FVec Ideal S8320x512 .f32) (a3 : FVec Ideal S8320x1024 .f32) (a4 : FVec Ideal S8320x1024 .f32) (a5 : FVec Ideal S8320x1024 .f32) (a6 : FVec Ideal S512x1024 .f32) (a7 : FVec Ideal S1024x1024 .f32) (a8 : FVec Ideal S1024x1024 .f32) (a9 : FVec Ideal S8320x1024 .f32) :
    @Eq (FVec Ideal S8320x1024 .bf16) (truncf .bf16 (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a4)))) (Host.dotGeneral dot_S8320x1024_S1024x1024_S8320x1024_1_1_0_0_n_n none a9 a8)) bitsLt_bf16_f32) (dy a9 a8 a4 : Mat 8320 1024) := by
  rw [logistic1024 a4]
  rw [dy_eq a9 a8 a4]
  rfl

/-- The gradient at the sliding-window branch's projection. -/
theorem term13 (a0 : FVec Ideal S8320x512 .f32) (a1 : FVec Ideal S8320x1024 .f32) (a2 : FVec Ideal S8320x512 .f32) (a3 : FVec Ideal S8320x1024 .f32) (a4 : FVec Ideal S8320x1024 .f32) (a5 : FVec Ideal S8320x1024 .f32) (a6 : FVec Ideal S512x1024 .f32) (a7 : FVec Ideal S1024x1024 .f32) (a8 : FVec Ideal S1024x1024 .f32) (a9 : FVec Ideal S8320x1024 .f32) :
    @Eq (FVec Ideal S8320x1024 .bf16) (truncf .bf16 (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a5)))) (Host.dotGeneral dot_S8320x1024_S1024x1024_S8320x1024_1_1_0_0_n_n none a9 a8)) bitsLt_bf16_f32) (dy a9 a8 a5 : Mat 8320 1024) := by
  rw [logistic1024 a5]
  rw [dy_eq a9 a8 a5]
  rfl

/-- The gradient at the stick-breaking attention. -/
theorem term14 (a0 : FVec Ideal S8320x512 .f32) (a1 : FVec Ideal S8320x1024 .f32) (a2 : FVec Ideal S8320x512 .f32) (a3 : FVec Ideal S8320x1024 .f32) (a4 : FVec Ideal S8320x1024 .f32) (a5 : FVec Ideal S8320x1024 .f32) (a6 : FVec Ideal S512x1024 .f32) (a7 : FVec Ideal S1024x1024 .f32) (a8 : FVec Ideal S1024x1024 .f32) (a9 : FVec Ideal S8320x1024 .f32) :
    @Eq (FVec Ideal S8320x512 .f32) (mulf (Host.dotGeneral dot_S8320x1024_S512x1024_S8320x512_1_1_0_0_n_n none (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a4)))) (Host.dotGeneral dot_S8320x1024_S1024x1024_S8320x1024_1_1_0_0_n_n none a9 a8)) a6) (mulf a2 (Host.divf (broadcastInDim S8320x512 ![] bcast_S_S8320x512 (constant S_ .f32 0x3F800000#32)) (addf (broadcastInDim S8320x512 ![] bcast_S_S8320x512 (constant S_ .f32 0x3F800000#32)) (Host.exp (Host.negf a2)))))) (dOut (du a9 a8 a4 a6) a2 : Mat 8320 512) := by
  rw [logistic512 a2, logistic1024 a4]
  rw [dy_eq a9 a8 a4, dott512 (dy a9 a8 a4) a6]
  rfl

/-- The gradient at the sliding-window attention. -/
theorem term15 (a0 : FVec Ideal S8320x512 .f32) (a1 : FVec Ideal S8320x1024 .f32) (a2 : FVec Ideal S8320x512 .f32) (a3 : FVec Ideal S8320x1024 .f32) (a4 : FVec Ideal S8320x1024 .f32) (a5 : FVec Ideal S8320x1024 .f32) (a6 : FVec Ideal S512x1024 .f32) (a7 : FVec Ideal S1024x1024 .f32) (a8 : FVec Ideal S1024x1024 .f32) (a9 : FVec Ideal S8320x1024 .f32) :
    @Eq (FVec Ideal S8320x1024 .f32) (mulf (Host.dotGeneral dot_S8320x1024_S1024x1024_S8320x1024_1_1_0_0_n_n none (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a5)))) (Host.dotGeneral dot_S8320x1024_S1024x1024_S8320x1024_1_1_0_0_n_n none a9 a8)) a7) (mulf a3 (Host.divf (broadcastInDim S8320x1024 ![] bcast_S_S8320x1024 (constant S_ .f32 0x3F800000#32)) (addf (broadcastInDim S8320x1024 ![] bcast_S_S8320x1024 (constant S_ .f32 0x3F800000#32)) (Host.exp (Host.negf a3)))))) (dOut (du a9 a8 a5 a7) a3 : Mat 8320 1024) := by
  rw [logistic1024 a3, logistic1024 a5]
  rw [dy_eq a9 a8 a5, dott1024 (dy a9 a8 a5) a7]
  rfl

/-- The four gradients at the gates, beside one another. -/
theorem term16 (a0 : FVec Ideal S8320x512 .f32) (a1 : FVec Ideal S8320x1024 .f32) (a2 : FVec Ideal S8320x512 .f32) (a3 : FVec Ideal S8320x1024 .f32) (a4 : FVec Ideal S8320x1024 .f32) (a5 : FVec Ideal S8320x1024 .f32) (a6 : FVec Ideal S512x1024 .f32) (a7 : FVec Ideal S1024x1024 .f32) (a8 : FVec Ideal S1024x1024 .f32) (a9 : FVec Ideal S8320x1024 .f32) :
    @Eq (FVec Ideal S8320x3584 .bf16) (truncf .bf16 ((concatenate S8320x3584 1 [⟨S8320x1024, ((addf (mulf (mulf a1 (Host.dotGeneral dot_S8320x1024_S1024x1024_S8320x1024_1_1_0_0_n_n none (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a5)))) (Host.dotGeneral dot_S8320x1024_S1024x1024_S8320x1024_1_1_0_0_n_n none a9 a8)) a7)) (Host.divf (broadcastInDim S8320x1024 ![] bcast_S_S8320x1024 (constant S_ .f32 0x3F800000#32)) (addf (broadcastInDim S8320x1024 ![] bcast_S_S8320x1024 (constant S_ .f32 0x3F800000#32)) (Host.exp (Host.negf a3))))) (mulf (mulf a3 (mulf a1 (Host.dotGeneral dot_S8320x1024_S1024x1024_S8320x1024_1_1_0_0_n_n none (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a5)))) (Host.dotGeneral dot_S8320x1024_S1024x1024_S8320x1024_1_1_0_0_n_n none a9 a8)) a7))) (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a3)))) (subf (broadcastInDim S8320x1024 ![] bcast_S_S8320x1024 (constant S_ .f32 0x3F800000#32)) (Host.divf (broadcastInDim S8320x1024 ![] bcast_S_S8320x1024 (constant S_ .f32 0x3F800000#32)) (addf (broadcastInDim S8320x1024 ![] bcast_S_S8320x1024 (constant S_ .f32 0x3F800000#32)) (Host.exp (Host.negf a3)))))))) : (⟨S8320x1024, .f32⟩ : BufTy).Contents (Elt Ideal))⟩, ⟨S8320x1024, ((mulf (mulf (Host.dotGeneral dot_S8320x1024_S1024x1024_S8320x1024_1_1_0_0_n_n none a9 a8) (Host.dotGeneral dot_S8320x512_S512x1024_S8320x1024_1_0_0_1_n_n none (mulf a0 (mulf a2 (Host.divf (broadcastInDim S8320x512 ![] bcast_S_S8320x512 (constant S_ .f32 0x3F800000#32)) (addf (broadcastInDim S8320x512 ![] bcast_S_S8320x512 (constant S_ .f32 0x3F800000#32)) (Host.exp (Host.negf a2)))))) a6)) (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a4)))) (subf (broadcastInDim S8320x1024 ![] bcast_S_S8320x1024 (constant S_ .f32 0x3F800000#32)) (Host.divf (broadcastInDim S8320x1024 ![] bcast_S_S8320x1024 (constant S_ .f32 0x3F800000#32)) (addf (broadcastInDim S8320x1024 ![] bcast_S_S8320x1024 (constant S_ .f32 0x3F800000#32)) (Host.exp (Host.negf a4))))))) : (⟨S8320x1024, .f32⟩ : BufTy).Contents (Elt Ideal))⟩, ⟨S8320x1024, ((mulf (mulf (Host.dotGeneral dot_S8320x1024_S1024x1024_S8320x1024_1_1_0_0_n_n none a9 a8) (Host.dotGeneral dot_S8320x1024_S1024x1024_S8320x1024_1_0_0_1_n_n none (mulf a1 (mulf a3 (Host.divf (broadcastInDim S8320x1024 ![] bcast_S_S8320x1024 (constant S_ .f32 0x3F800000#32)) (addf (broadcastInDim S8320x1024 ![] bcast_S_S8320x1024 (constant S_ .f32 0x3F800000#32)) (Host.exp (Host.negf a3)))))) a7)) (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a5)))) (subf (broadcastInDim S8320x1024 ![] bcast_S_S8320x1024 (constant S_ .f32 0x3F800000#32)) (Host.divf (broadcastInDim S8320x1024 ![] bcast_S_S8320x1024 (constant S_ .f32 0x3F800000#32)) (addf (broadcastInDim S8320x1024 ![] bcast_S_S8320x1024 (constant S_ .f32 0x3F800000#32)) (Host.exp (Host.negf a5))))))) : (⟨S8320x1024, .f32⟩ : BufTy).Contents (Elt Ideal))⟩, ⟨S8320x512, ((addf (mulf (mulf a0 (Host.dotGeneral dot_S8320x1024_S512x1024_S8320x512_1_1_0_0_n_n none (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a4)))) (Host.dotGeneral dot_S8320x1024_S1024x1024_S8320x1024_1_1_0_0_n_n none a9 a8)) a6)) (Host.divf (broadcastInDim S8320x512 ![] bcast_S_S8320x512 (constant S_ .f32 0x3F800000#32)) (addf (broadcastInDim S8320x512 ![] bcast_S_S8320x512 (constant S_ .f32 0x3F800000#32)) (Host.exp (Host.negf a2))))) (mulf (mulf a2 (mulf a0 (Host.dotGeneral dot_S8320x1024_S512x1024_S8320x512_1_1_0_0_n_n none (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf a4)))) (Host.dotGeneral dot_S8320x1024_S1024x1024_S8320x1024_1_1_0_0_n_n none a9 a8)) a6))) (mulf (Host.divf (broadcastInDim S8320x512 ![] bcast_S_S8320x512 (constant S_ .f32 0x3F800000#32)) (addf (broadcastInDim S8320x512 ![] bcast_S_S8320x512 (constant S_ .f32 0x3F800000#32)) (Host.exp (Host.negf a2)))) (subf (broadcastInDim S8320x512 ![] bcast_S_S8320x512 (constant S_ .f32 0x3F800000#32)) (Host.divf (broadcastInDim S8320x512 ![] bcast_S_S8320x512 (constant S_ .f32 0x3F800000#32)) (addf (broadcastInDim S8320x512 ![] bcast_S_S8320x512 (constant S_ .f32 0x3F800000#32)) (Host.exp (Host.negf a2)))))))) : (⟨S8320x512, .f32⟩ : BufTy).Contents (Elt Ideal))⟩] concatenates_S8320x1024_S8320x1024_S8320x1024_S8320x512_S8320x3584_d1 : (⟨S8320x3584, .f32⟩ : BufTy).Contents (Elt Ideal))) bitsLt_bf16_f32) (beside (dzr c1 (du a9 a8 a5 a7) a1 a3) (dg c1 (mmt a9 a8) (mm (silu a0 a2) a6) a4) (dg c1 (mmt a9 a8) (mm (silu a1 a3) a7) a5) (dzr c1 (du a9 a8 a4 a6) a0 a2) : Mat 8320 3584) := by
  rw [logistic512 a2, logistic1024 a3, logistic1024 a4, logistic1024 a5]
  rw [dy_eq a9 a8 a4, dy_eq a9 a8 a5, dott512 (dy a9 a8 a4) a6, dott1024 (dy a9 a8 a5) a7, dott1024 a9 a8, dot512, dot1024]
  exact concat_beside (dzr c1 (du a9 a8 a5 a7) a1 a3) (dg c1 (mmt a9 a8) (mm (silu a0 a2) a6) a4) (dg c1 (mmt a9 a8) (mm (silu a1 a3) a7) a5) (dzr c1 (du a9 a8 a4 a6) a0 a2) concatenates_S8320x1024_S8320x1024_S8320x1024_S8320x512_S8320x3584_d1

end Cert.MergeGradientReferenceIdeal.Terms

end
-- ==== Proof.MergeBack.lean ====
/-
  The gradient of the gated merge: the kernel's blocks of 320 rows are together the arrays of the reference, which
  takes the products and the gates' derivatives over all rows at once.
-/
module

public import proofs.«01_k».proof.Proof.Gen.MergeGradient.Frame
public import proofs.«01_k».proof.Proof.Gen.MergeGradientIdeal.Value
public import proofs.«01_k».proof.Proof.Gen.MergeGradientReferenceIdeal.Run
public import proofs.«01_k».proof.Proof.MergeBackIn
public import proofs.«01_k».proof.Proof.MergeBackOuts
public import proofs.«01_k».proof.Proof.MergeBackTerms
public import proofs.«01_k».proof.Defs

@[expose] public section

set_option maxRecDepth 65536

noncomputable section

namespace Cert.MergeGradientIdeal.Sum

open Cert.MergeGradientIdeal Cert.MergeGradientIdeal.Gen Cert.MergeGradientIdeal.Value Cert.Dots Cert.Merge Cert.MergeGradientIdeal.Ins
open Idealize.ShloMosaic Idealize.ShloMosaic.TcCoe Idealize.ShloMosaic.ValueIdx Idealize.SL.Sem
open scoped BigOperators

variable (m : (ℓ : Loc nD τ sig) → Buf (Elt Ideal) ℓ)

/-- The block of window 0 at a point. -/
theorem idx0 : ∀ t : Fin cfg0.N, (win0_0.index t (0 : Fin 2) = t.val ∧ win0_0.index t (1 : Fin 2) = 0) := (by decide +kernel : ∀ t : Fin grid0.N, _)
/-- The block of window 1 at a point. -/
theorem idx1 : ∀ t : Fin cfg0.N, (win0_1.index t (0 : Fin 2) = t.val ∧ win0_1.index t (1 : Fin 2) = 0) := (by decide +kernel : ∀ t : Fin grid0.N, _)
/-- The block of window 2 at a point. -/
theorem idx2 : ∀ t : Fin cfg0.N, (win0_2.index t (0 : Fin 2) = t.val ∧ win0_2.index t (1 : Fin 2) = 1) := (by decide +kernel : ∀ t : Fin grid0.N, _)
/-- The block of window 3 at a point. -/
theorem idx3 : ∀ t : Fin cfg0.N, (win0_3.index t (0 : Fin 2) = t.val ∧ win0_3.index t (1 : Fin 2) = 2) := (by decide +kernel : ∀ t : Fin grid0.N, _)
/-- The block of window 4 at a point. -/
theorem idx4 : ∀ t : Fin cfg0.N, (win0_4.index t (0 : Fin 2) = t.val ∧ win0_4.index t (1 : Fin 2) = 6) := (by decide +kernel : ∀ t : Fin grid0.N, _)
/-- The block of window 5 at a point. -/
theorem idx5 : ∀ t : Fin cfg0.N, (win0_5.index t (0 : Fin 2) = t.val ∧ win0_5.index t (1 : Fin 2) = 0) := (by decide +kernel : ∀ t : Fin grid0.N, _)
/-- The block of window 6 at a point. -/
theorem idx6 : ∀ t : Fin cfg0.N, (win0_6.index t (0 : Fin 2) = t.val ∧ win0_6.index t (1 : Fin 2) = 0) := (by decide +kernel : ∀ t : Fin grid0.N, _)
/-- The block of window 7 at a point. -/
theorem idx7 : ∀ t : Fin cfg0.N, (win0_7.index t (0 : Fin 2) = t.val ∧ win0_7.index t (1 : Fin 2) = 0) := (by decide +kernel : ∀ t : Fin grid0.N, _)
/-- The block of window 8 at a point. -/
theorem idx8 : ∀ t : Fin cfg0.N, (win0_8.index t (0 : Fin 2) = t.val ∧ win0_8.index t (1 : Fin 2) = 0) := (by decide +kernel : ∀ t : Fin grid0.N, _)
/-- The block of window 9 at a point. -/
theorem idx9 : ∀ t : Fin cfg0.N, (win0_9.index t (0 : Fin 2) = 0 ∧ win0_9.index t (1 : Fin 2) = 0) := (by decide +kernel : ∀ t : Fin grid0.N, _)
/-- The block of window 10 at a point. -/
theorem idx10 : ∀ t : Fin cfg0.N, (win0_10.index t (0 : Fin 2) = 0 ∧ win0_10.index t (1 : Fin 2) = 0) := (by decide +kernel : ∀ t : Fin grid0.N, _)
/-- The block of window 11 at a point. -/
theorem idx11 : ∀ t : Fin cfg0.N, (win0_11.index t (0 : Fin 2) = 0 ∧ win0_11.index t (1 : Fin 2) = 0) := (by decide +kernel : ∀ t : Fin grid0.N, _)
/-- The block of window 12 at a point. -/
theorem idx12 : ∀ t : Fin cfg0.N, (win0_12.index t (0 : Fin 2) = t.val ∧ win0_12.index t (1 : Fin 2) = 0) := (by decide +kernel : ∀ t : Fin grid0.N, _)
/-- The block of window 13 at a point. -/
theorem idx13 : ∀ t : Fin cfg0.N, (win0_13.index t (0 : Fin 2) = t.val ∧ win0_13.index t (1 : Fin 2) = 0) := (by decide +kernel : ∀ t : Fin grid0.N, _)
/-- The block of window 14 at a point. -/
theorem idx14 : ∀ t : Fin cfg0.N, (win0_14.index t (0 : Fin 2) = t.val ∧ win0_14.index t (1 : Fin 2) = 0) := (by decide +kernel : ∀ t : Fin grid0.N, _)
/-- The block of window 15 at a point. -/
theorem idx15 : ∀ t : Fin cfg0.N, (win0_15.index t (0 : Fin 2) = t.val ∧ win0_15.index t (1 : Fin 2) = 0) := (by decide +kernel : ∀ t : Fin grid0.N, _)
/-- The block of window 16 at a point. -/
theorem idx16 : ∀ t : Fin cfg0.N, (win0_16.index t (0 : Fin 2) = t.val ∧ win0_16.index t (1 : Fin 2) = 0) := (by decide +kernel : ∀ t : Fin grid0.N, _)

/-- A point of the grid, as a number under 26. -/
def pt (t : Fin cfg0.N) : Fin 26 := ⟨t.val, by have h := t.isLt; have h' : cfg0.N = 26 := N_0; omega⟩

/-- Window 0's block: the point's rows. -/
theorem blk0 (c : Dev nD) (t : Fin cfg0.N) : @Eq (Mat 320 1024) (iblk m c 0 t) (rows (pt t) (A9 m c)) := by
  obtain ⟨e0, e1⟩ := idx0 t
  funext y
  unfold iblk
  rw [View.read_apply]
  refine (congrFun (V_main_arg9 m c) _).trans (rows_at (pt t) (A9 m c) _ y ?_ ?_)
  · show win0_0.index t 0 * 320 + 1 * (y 0).val = t.val * 320 + (y 0).val; rw [e0]; omega
  · show win0_0.index t 1 * 1024 + 1 * (y 1).val = (y 1).val; rw [e1]; omega

/-- Window 5's block: the point's rows. -/
theorem blk5 (c : Dev nD) (t : Fin cfg0.N) : @Eq (Mat 320 1024) (iblk m c 5 t) (rows (pt t) (mm (silu (A0 m c) (A2 m c)) (A6 m c))) := by
  obtain ⟨e0, e1⟩ := idx5 t
  funext y
  unfold iblk
  rw [View.read_apply]
  refine (congrFun (saved512 m c) _).trans (rows_at (pt t) (mm (silu (A0 m c) (A2 m c)) (A6 m c)) _ y ?_ ?_)
  · show win0_5.index t 0 * 320 + 1 * (y 0).val = t.val * 320 + (y 0).val; rw [e0]; omega
  · show win0_5.index t 1 * 1024 + 1 * (y 1).val = (y 1).val; rw [e1]; omega

/-- Window 6's block: the point's rows. -/
theorem blk6 (c : Dev nD) (t : Fin cfg0.N) : @Eq (Mat 320 1024) (iblk m c 6 t) (rows (pt t) (mm (silu (A1 m c) (A3 m c)) (A7 m c))) := by
  obtain ⟨e0, e1⟩ := idx6 t
  funext y
  unfold iblk
  rw [View.read_apply]
  refine (congrFun (saved1024 m c) _).trans (rows_at (pt t) (mm (silu (A1 m c) (A3 m c)) (A7 m c)) _ y ?_ ?_)
  · show win0_6.index t 0 * 320 + 1 * (y 0).val = t.val * 320 + (y 0).val; rw [e0]; omega
  · show win0_6.index t 1 * 1024 + 1 * (y 1).val = (y 1).val; rw [e1]; omega

/-- Window 7's block: the point's rows. -/
theorem blk7 (c : Dev nD) (t : Fin cfg0.N) : @Eq (Mat 320 512) (iblk m c 7 t) (rows (pt t) (A0 m c)) := by
  obtain ⟨e0, e1⟩ := idx7 t
  funext y
  unfold iblk
  rw [View.read_apply]
  refine (congrFun (V_main_arg0 m c) _).trans (rows_at (pt t) (A0 m c) _ y ?_ ?_)
  · show win0_7.index t 0 * 320 + 1 * (y 0).val = t.val * 320 + (y 0).val; rw [e0]; omega
  · show win0_7.index t 1 * 512 + 1 * (y 1).val = (y 1).val; rw [e1]; omega

/-- Window 8's block: the point's rows. -/
theorem blk8 (c : Dev nD) (t : Fin cfg0.N) : @Eq (Mat 320 1024) (iblk m c 8 t) (rows (pt t) (A1 m c)) := by
  obtain ⟨e0, e1⟩ := idx8 t
  funext y
  unfold iblk
  rw [View.read_apply]
  refine (congrFun (V_main_arg1 m c) _).trans (rows_at (pt t) (A1 m c) _ y ?_ ?_)
  · show win0_8.index t 0 * 320 + 1 * (y 0).val = t.val * 320 + (y 0).val; rw [e0]; omega
  · show win0_8.index t 1 * 1024 + 1 * (y 1).val = (y 1).val; rw [e1]; omega

/-- Window 9's block: the whole weight on its side. -/
theorem blk9 (c : Dev nD) (t : Fin cfg0.N) : @Eq (Mat 1024 1024) (iblk m c 9 t) (tp (A8 m c)) := by
  obtain ⟨e0, e1⟩ := idx9 t
  funext y
  unfold iblk
  rw [View.read_apply]
  refine (congrFun (T8 m c) _).trans (read_same (tp (A8 m c)) _ y ?_ ?_)
  · show win0_9.index t 0 * 1024 + 1 * (y 0).val = (y 0).val; rw [e0]; omega
  · show win0_9.index t 1 * 1024 + 1 * (y 1).val = (y 1).val; rw [e1]; omega

/-- Window 10's block: the whole weight on its side. -/
theorem blk10 (c : Dev nD) (t : Fin cfg0.N) : @Eq (Mat 1024 512) (iblk m c 10 t) (tp (A6 m c)) := by
  obtain ⟨e0, e1⟩ := idx10 t
  funext y
  unfold iblk
  rw [View.read_apply]
  refine (congrFun (T6 m c) _).trans (read_same (tp (A6 m c)) _ y ?_ ?_)
  · show win0_10.index t 0 * 1024 + 1 * (y 0).val = (y 0).val; rw [e0]; omega
  · show win0_10.index t 1 * 512 + 1 * (y 1).val = (y 1).val; rw [e1]; omega

/-- Window 11's block: the whole weight on its side. -/
theorem blk11 (c : Dev nD) (t : Fin cfg0.N) : @Eq (Mat 1024 1024) (iblk m c 11 t) (tp (A7 m c)) := by
  obtain ⟨e0, e1⟩ := idx11 t
  funext y
  unfold iblk
  rw [View.read_apply]
  refine (congrFun (T7 m c) _).trans (read_same (tp (A7 m c)) _ y ?_ ?_)
  · show win0_11.index t 0 * 1024 + 1 * (y 0).val = (y 0).val; rw [e0]; omega
  · show win0_11.index t 1 * 1024 + 1 * (y 1).val = (y 1).val; rw [e1]; omega

/-- Window 1's block: the point's rows of one gate. -/
theorem blk1 (c : Dev nD) (t : Fin cfg0.N) : @Eq (Mat 320 1024) (X0_1 m c t) (rows (pt t) (A3 m c)) := by
  obtain ⟨e0, e1⟩ := idx1 t
  funext y
  show Pipeline.Window.fill (cfg0.win 1) (cfg0.grid.coords t) dflt0_1 (iblk m c 1 t) y = _
  unfold Pipeline.Window.fill
  rw [dif_pos (moved0_1 t y)]
  unfold iblk
  rw [View.read_apply]
  refine (congrFun ((gates_eq m c).trans (concat_beside _ _ _ _ concatenates_S8320x1024_S8320x1024_S8320x1024_S8320x512_S8320x3584_d1).symm) _).trans (gates_a (pt t) (A3 m c) (A4 m c) (A5 m c) (A2 m c) _ _ y ?_ ?_)
  · show win0_1.index t 0 * 320 + 1 * (y 0).val = t.val * 320 + (y 0).val; rw [e0]; omega
  · show win0_1.index t 1 * 1024 + 1 * (y 1).val = 0 + (y 1).val; rw [e1]; omega

/-- Window 2's block: the point's rows of one gate. -/
theorem blk2 (c : Dev nD) (t : Fin cfg0.N) : @Eq (Mat 320 1024) (X0_2 m c t) (rows (pt t) (A4 m c)) := by
  obtain ⟨e0, e1⟩ := idx2 t
  funext y
  show Pipeline.Window.fill (cfg0.win 2) (cfg0.grid.coords t) dflt0_2 (iblk m c 2 t) y = _
  unfold Pipeline.Window.fill
  rw [dif_pos (moved0_2 t y)]
  unfold iblk
  rw [View.read_apply]
  refine (congrFun ((gates_eq m c).trans (concat_beside _ _ _ _ concatenates_S8320x1024_S8320x1024_S8320x1024_S8320x512_S8320x3584_d1).symm) _).trans (gates_b (pt t) (A3 m c) (A4 m c) (A5 m c) (A2 m c) _ _ y ?_ ?_)
  · show win0_2.index t 0 * 320 + 1 * (y 0).val = t.val * 320 + (y 0).val; rw [e0]; omega
  · show win0_2.index t 1 * 1024 + 1 * (y 1).val = 1024 + (y 1).val; rw [e1]; omega

/-- Window 3's block: the point's rows of one gate. -/
theorem blk3 (c : Dev nD) (t : Fin cfg0.N) : @Eq (Mat 320 1024) (X0_3 m c t) (rows (pt t) (A5 m c)) := by
  obtain ⟨e0, e1⟩ := idx3 t
  funext y
  show Pipeline.Window.fill (cfg0.win 3) (cfg0.grid.coords t) dflt0_3 (iblk m c 3 t) y = _
  unfold Pipeline.Window.fill
  rw [dif_pos (moved0_3 t y)]
  unfold iblk
  rw [View.read_apply]
  refine (congrFun ((gates_eq m c).trans (concat_beside _ _ _ _ concatenates_S8320x1024_S8320x1024_S8320x1024_S8320x512_S8320x3584_d1).symm) _).trans (gates_d (pt t) (A3 m c) (A4 m c) (A5 m c) (A2 m c) _ _ y ?_ ?_)
  · show win0_3.index t 0 * 320 + 1 * (y 0).val = t.val * 320 + (y 0).val; rw [e0]; omega
  · show win0_3.index t 1 * 1024 + 1 * (y 1).val = 2048 + (y 1).val; rw [e1]; omega

/-- Window 4's block: the point's rows of one gate. -/
theorem blk4 (c : Dev nD) (t : Fin cfg0.N) : @Eq (Mat 320 512) (iblk m c 4 t) (rows (pt t) (A2 m c)) := by
  obtain ⟨e0, e1⟩ := idx4 t
  funext y
  unfold iblk
  rw [View.read_apply]
  refine (congrFun ((gates_eq m c).trans (concat_beside _ _ _ _ concatenates_S8320x1024_S8320x1024_S8320x1024_S8320x512_S8320x3584_d1).symm) _).trans (gates_e (pt t) (A3 m c) (A4 m c) (A5 m c) (A2 m c) _ _ y ?_ ?_)
  · show win0_4.index t 0 * 320 + 1 * (y 0).val = t.val * 320 + (y 0).val; rw [e0]; omega
  · show win0_4.index t 1 * 512 + 1 * (y 1).val = 3072 + (y 1).val; rw [e1]; omega

/-! ## What a point stores, of its blocks -/

/-- The gradient at the merge. -/
theorem pay2 (h : Mat 320 1024) (w : Mat 1024 1024) : @Eq (Mat 320 1024) (k0_pay2 (F := Ideal) h w) (mm h w) := by
  unfold k0_pay2
  simp only [shapeCast_self]
  exact dot_mm _ h w _ ofBits_zero

/-- The gradient at a branch's projection. -/
theorem pay5 (h : Mat 320 1024) (w : Mat 1024 1024) (g : Mat 320 1024) : @Eq (Mat 320 1024) (k0_pay5 (F := Ideal) h w g) (tim (mm h w) (Cert.Merge.sig g)) := by
  refine Eq.trans ?_ (congrArg (fun u : Mat 320 1024 => tim u (Cert.Merge.sig g)) (pay2 h w))
  unfold k0_pay5 k0_pay3
  simp only [shapeCast_self]
  rfl

/-- The gradient at a branch's projection. -/
theorem pay6 (h : Mat 320 1024) (w : Mat 1024 1024) (g : Mat 320 1024) : @Eq (Mat 320 1024) (k0_pay6 (F := Ideal) h w g) (tim (mm h w) (Cert.Merge.sig g)) := by
  refine Eq.trans ?_ (congrArg (fun u : Mat 320 1024 => tim u (Cert.Merge.sig g)) (pay2 h w))
  unfold k0_pay6 k0_pay4
  simp only [shapeCast_self]
  rfl

/-- The gradient at a branch's gated values. -/
theorem pay7 (h : Mat 320 1024) (w : Mat 1024 1024) (g : Mat 320 1024) (v : Mat 1024 512) : @Eq (Mat 320 512) (k0_pay7 (F := Ideal) h w g v) (mm (tim (mm h w) (Cert.Merge.sig g)) v) := by
  unfold k0_pay7
  simp only [shapeCast_self]
  exact (dot_mm _ (k0_pay5 (F := Ideal) h w g) v _ ofBits_zero).trans (congrArg (fun u : Mat 320 1024 => mm u v) (pay5 h w g))

/-- The gradient at a branch's gated values. -/
theorem pay8 (h : Mat 320 1024) (w : Mat 1024 1024) (g : Mat 320 1024) (v : Mat 1024 1024) : @Eq (Mat 320 1024) (k0_pay8 (F := Ideal) h w g v) (mm (tim (mm h w) (Cert.Merge.sig g)) v) := by
  unfold k0_pay8
  simp only [shapeCast_self]
  exact (dot_mm _ (k0_pay6 (F := Ideal) h w g) v _ ofBits_zero).trans (congrArg (fun u : Mat 320 1024 => mm u v) (pay6 h w g))

/-- The gradient at the stick-breaking attention. -/
theorem pay13 (h : Mat 320 1024) (w : Mat 1024 1024) (g : Mat 320 1024) (v : Mat 1024 512) (z : Mat 320 512) : @Eq (Mat 320 512) (k0_pay13 (F := Ideal) h w g v z) (dOut (mm (tim (mm h w) (Cert.Merge.sig g)) v) z) := by
  refine Eq.trans ?_ (congrArg (fun u : Mat 320 512 => dOut u z) (pay7 h w g v))
  unfold k0_pay13 k0_pay11 k0_pay9
  simp only [shapeCast_self]
  rfl

/-- The gradient at the sliding-window attention. -/
theorem pay14 (h : Mat 320 1024) (w : Mat 1024 1024) (g : Mat 320 1024) (v : Mat 1024 1024) (z : Mat 320 1024) : @Eq (Mat 320 1024) (k0_pay14 (F := Ideal) (k0_pay8 h w g v) (k0_pay10 z) (k0_pay12 z)) (dOut (mm (tim (mm h w) (Cert.Merge.sig g)) v) z) := by
  refine Eq.trans ?_ (congrArg (fun u : Mat 320 1024 => dOut u z) (pay8 h w g v))
  unfold k0_pay14 k0_pay12 k0_pay10
  simp only [shapeCast_self]
  rfl

/-- The gradient at the sliding-window branch's gate. -/
theorem pay15 (h : Mat 320 1024) (w : Mat 1024 1024) (g : Mat 320 1024) (v : Mat 1024 1024) (z a : Mat 320 1024) : @Eq (Mat 320 1024) (k0_pay15 (F := Ideal) (k0_pay8 h w g v) (k0_pay10 z) (k0_pay12 z) a) (dz c1 (mm (tim (mm h w) (Cert.Merge.sig g)) v) a z) := by
  refine Eq.trans ?_ (congrArg (fun u : Mat 320 1024 => dz c1 u a z) (pay8 h w g v))
  unfold k0_pay15 k0_pay12 k0_pay10
  simp only [shapeCast_self]
  rfl

/-- The gradient at the stick-breaking branch's gate. -/
theorem pay1 (h : Mat 320 1024) (w : Mat 1024 1024) (g : Mat 320 1024) (v : Mat 1024 512) (z a : Mat 320 512) : @Eq (Mat 320 512) (k0_pay1 (F := Ideal) (k0_pay9 z) (k0_pay11 z) (k0_pay18 (k0_pay7 h w g v) a) (Scalar.ofBits .f32 0x3F800000#32)) (dz c1 (mm (tim (mm h w) (Cert.Merge.sig g)) v) a z) := by
  refine Eq.trans ?_ (congrArg (fun u : Mat 320 512 => dz c1 u a z) (pay7 h w g v))
  unfold k0_pay1 k0_pay18 k0_pay11 k0_pay9
  simp only [shapeCast_self]
  rfl

/-- The gradient at a merge gate. -/
theorem pay16 (h : Mat 320 1024) (w : Mat 1024 1024) (g y : Mat 320 1024) : @Eq (Mat 320 1024) (k0_pay16 (F := Ideal) (k0_pay2 h w) (k0_pay3 g) y) (dg c1 (mm h w) y g) := by
  refine Eq.trans ?_ (congrArg (fun u : Mat 320 1024 => dg c1 u y g) (pay2 h w))
  unfold k0_pay16 k0_pay3
  simp only [shapeCast_self]
  rfl

/-- The gradient at a merge gate. -/
theorem pay17 (h : Mat 320 1024) (w : Mat 1024 1024) (g y : Mat 320 1024) : @Eq (Mat 320 1024) (k0_pay17 (F := Ideal) (k0_pay2 h w) (k0_pay4 g) y) (dg c1 (mm h w) y g) := by
  refine Eq.trans ?_ (congrArg (fun u : Mat 320 1024 => dg c1 u y g) (pay2 h w))
  unfold k0_pay17 k0_pay4
  simp only [shapeCast_self]
  rfl

/-! ## The five arrays -/

/-- Equal arrays stand beside one another equally. -/
theorem beside_congr {a a' b b' d d' : Mat 320 1024} {e e' : Mat 320 512} (ha : a = a') (hb : b = b') (hd : d = d') (he : e = e') : beside a b d e = beside a' b' d' e' := by
  rw [ha, hb, hd, he]

/-- Result 0: the gradient at the stick-breaking branch's projection. -/
def G12 (c : Dev nD) : Mat 8320 1024 := dy (A9 m c) (A8 m c) (A4 m c)

/-- What a point stores there: its rows of it. -/
theorem stored12 (c : Dev nD) (t : Fin cfg0.N) : @Eq (Mat 320 1024) (k0_pay5 (F := Ideal) (iblk m c 0 t) (iblk m c 9 t) (X0_2 m c t)) (rows (pt t) (G12 m c)) := by
  refine (pay5 (iblk m c 0 t) (iblk m c 9 t) (X0_2 m c t)).trans ?_
  rw [blk0 m c t, blk9 m c t, blk2 m c t]
  rfl

/-- What a point writes back is its block. -/
theorem flushed_eq12 (c : Dev nD) (t : Fin cfg0.N) :
    (dats m 0 c).flushed 12 t = (win0_12.blk t).view.read (Elt Ideal) (G12 m c) := by
  obtain ⟨e0, e1⟩ := idx12 t
  refine (flushed12_A m c t).trans ((congrArg ((cfg0.win 12).cut (grid0.coords t)) ((Outs.out12 c _ _ _ _ _ _ _ _ _ _ _ _ _ _ _ _ _ _ _ _ _ _ _ _ _ _ _ _ _ _ _ _ _ _ _ _ _ _ _ _ _ _ _ _ _ _ _).trans (stored12 m c t))).trans ?_)
  funext y
  rw [View.read_apply]
  refine (rows_at (pt t) (G12 m c) _ _ ?_ ?_).symm
  · show win0_12.index t 0 * 320 + 1 * (y 0).val = t.val * 320 + (y 0).val; rw [e0]; omega
  · show win0_12.index t 1 * 1024 + 1 * (y 1).val = (y 1).val; rw [e1]; omega

/-- The blocks of the points are the whole array. -/
theorem cover12 (i : S8320x1024.Idx) : ∃ t : Fin cfg0.N, (cfg0.win 12).flush t = true ∧ i ∈ ((cfg0.win 12).blk t).view.set := by
  have h0 : (i 0).val < 8320 := (i 0).isLt
  have h1 : (i 1).val < 1024 := (i 1).isLt
  have hN : cfg0.N = 26 := N_0
  have ht : (i 0).val / 320 < cfg0.N := by omega
  refine ⟨⟨_, ht⟩, flush0_12 _, ?_⟩
  obtain ⟨e0, e1⟩ := idx12 ⟨_, ht⟩
  show i ∈ ((View.whole main_v13_0).slice (win0_12.rect ⟨_, ht⟩)).set
  rw [View.set_slice_whole, Rect.mem_set_unit]
  intro a
  match a with
  | ⟨0, _⟩ => show win0_12.index ⟨_, ht⟩ 0 * 320 ≤ (i 0).val ∧ (i 0).val < win0_12.index ⟨_, ht⟩ 0 * 320 + 320; rw [e0]; dsimp only; omega
  | ⟨1, _⟩ => show win0_12.index ⟨_, ht⟩ 1 * 1024 ≤ (i 1).val ∧ (i 1).val < win0_12.index ⟨_, ht⟩ 1 * 1024 + 1024; rw [e1]; dsimp only; omega

/-- The result array after the run. -/
theorem final12 (c : Dev nD) : (dats m 0 c).arrAt 12 cfg0.N = G12 m c :=
  (dats m 0 c).arrAt_eq_of_cover 12 (G12 m c) (fun t _ => flushed_eq12 m c t) cover12

/-- Result 1: the gradient at the sliding-window branch's projection. -/
def G13 (c : Dev nD) : Mat 8320 1024 := dy (A9 m c) (A8 m c) (A5 m c)

/-- What a point stores there: its rows of it. -/
theorem stored13 (c : Dev nD) (t : Fin cfg0.N) : @Eq (Mat 320 1024) (k0_pay6 (F := Ideal) (iblk m c 0 t) (iblk m c 9 t) (X0_3 m c t)) (rows (pt t) (G13 m c)) := by
  refine (pay6 (iblk m c 0 t) (iblk m c 9 t) (X0_3 m c t)).trans ?_
  rw [blk0 m c t, blk9 m c t, blk3 m c t]
  rfl

/-- What a point writes back is its block. -/
theorem flushed_eq13 (c : Dev nD) (t : Fin cfg0.N) :
    (dats m 0 c).flushed 13 t = (win0_13.blk t).view.read (Elt Ideal) (G13 m c) := by
  obtain ⟨e0, e1⟩ := idx13 t
  refine (flushed13_A m c t).trans ((congrArg ((cfg0.win 13).cut (grid0.coords t)) ((Outs.out13 c _ _ _ _ _ _ _ _ _ _ _ _ _ _ _ _ _ _ _ _ _ _ _ _ _ _ _ _ _ _ _ _ _ _ _ _ _ _ _ _ _ _ _ _ _ _ _).trans (stored13 m c t))).trans ?_)
  funext y
  rw [View.read_apply]
  refine (rows_at (pt t) (G13 m c) _ _ ?_ ?_).symm
  · show win0_13.index t 0 * 320 + 1 * (y 0).val = t.val * 320 + (y 0).val; rw [e0]; omega
  · show win0_13.index t 1 * 1024 + 1 * (y 1).val = (y 1).val; rw [e1]; omega

/-- The blocks of the points are the whole array. -/
theorem cover13 (i : S8320x1024.Idx) : ∃ t : Fin cfg0.N, (cfg0.win 13).flush t = true ∧ i ∈ ((cfg0.win 13).blk t).view.set := by
  have h0 : (i 0).val < 8320 := (i 0).isLt
  have h1 : (i 1).val < 1024 := (i 1).isLt
  have hN : cfg0.N = 26 := N_0
  have ht : (i 0).val / 320 < cfg0.N := by omega
  refine ⟨⟨_, ht⟩, flush0_13 _, ?_⟩
  obtain ⟨e0, e1⟩ := idx13 ⟨_, ht⟩
  show i ∈ ((View.whole main_v13_1).slice (win0_13.rect ⟨_, ht⟩)).set
  rw [View.set_slice_whole, Rect.mem_set_unit]
  intro a
  match a with
  | ⟨0, _⟩ => show win0_13.index ⟨_, ht⟩ 0 * 320 ≤ (i 0).val ∧ (i 0).val < win0_13.index ⟨_, ht⟩ 0 * 320 + 320; rw [e0]; dsimp only; omega
  | ⟨1, _⟩ => show win0_13.index ⟨_, ht⟩ 1 * 1024 ≤ (i 1).val ∧ (i 1).val < win0_13.index ⟨_, ht⟩ 1 * 1024 + 1024; rw [e1]; dsimp only; omega

/-- The result array after the run. -/
theorem final13 (c : Dev nD) : (dats m 0 c).arrAt 13 cfg0.N = G13 m c :=
  (dats m 0 c).arrAt_eq_of_cover 13 (G13 m c) (fun t _ => flushed_eq13 m c t) cover13

/-- Result 2: the gradient at the stick-breaking attention. -/
def G14 (c : Dev nD) : Mat 8320 512 := dOut (du (A9 m c) (A8 m c) (A4 m c) (A6 m c)) (A2 m c)

/-- What a point stores there: its rows of it. -/
theorem stored14 (c : Dev nD) (t : Fin cfg0.N) : @Eq (Mat 320 512) (k0_pay13 (F := Ideal) (iblk m c 0 t) (iblk m c 9 t) (X0_2 m c t) (iblk m c 10 t) (iblk m c 4 t)) (rows (pt t) (G14 m c)) := by
  refine (pay13 (iblk m c 0 t) (iblk m c 9 t) (X0_2 m c t) (iblk m c 10 t) (iblk m c 4 t)).trans ?_
  rw [blk0 m c t, blk9 m c t, blk2 m c t, blk10 m c t, blk4 m c t]
  rfl

/-- What a point writes back is its block. -/
theorem flushed_eq14 (c : Dev nD) (t : Fin cfg0.N) :
    (dats m 0 c).flushed 14 t = (win0_14.blk t).view.read (Elt Ideal) (G14 m c) := by
  obtain ⟨e0, e1⟩ := idx14 t
  refine (flushed14_A m c t).trans ((congrArg ((cfg0.win 14).cut (grid0.coords t)) ((Outs.out14 c _ _ _ _ _ _ _ _ _ _ _ _ _ _ _ _ _ _ _ _ _ _ _ _ _ _ _ _ _ _ _ _ _ _ _ _ _ _ _ _ _ _ _ _ _ _ _).trans (stored14 m c t))).trans ?_)
  funext y
  rw [View.read_apply]
  refine (rows_at (pt t) (G14 m c) _ _ ?_ ?_).symm
  · show win0_14.index t 0 * 320 + 1 * (y 0).val = t.val * 320 + (y 0).val; rw [e0]; omega
  · show win0_14.index t 1 * 512 + 1 * (y 1).val = (y 1).val; rw [e1]; omega

/-- The blocks of the points are the whole array. -/
theorem cover14 (i : S8320x512.Idx) : ∃ t : Fin cfg0.N, (cfg0.win 14).flush t = true ∧ i ∈ ((cfg0.win 14).blk t).view.set := by
  have h0 : (i 0).val < 8320 := (i 0).isLt
  have h1 : (i 1).val < 512 := (i 1).isLt
  have hN : cfg0.N = 26 := N_0
  have ht : (i 0).val / 320 < cfg0.N := by omega
  refine ⟨⟨_, ht⟩, flush0_14 _, ?_⟩
  obtain ⟨e0, e1⟩ := idx14 ⟨_, ht⟩
  show i ∈ ((View.whole main_v13_2).slice (win0_14.rect ⟨_, ht⟩)).set
  rw [View.set_slice_whole, Rect.mem_set_unit]
  intro a
  match a with
  | ⟨0, _⟩ => show win0_14.index ⟨_, ht⟩ 0 * 320 ≤ (i 0).val ∧ (i 0).val < win0_14.index ⟨_, ht⟩ 0 * 320 + 320; rw [e0]; dsimp only; omega
  | ⟨1, _⟩ => show win0_14.index ⟨_, ht⟩ 1 * 512 ≤ (i 1).val ∧ (i 1).val < win0_14.index ⟨_, ht⟩ 1 * 512 + 512; rw [e1]; dsimp only; omega

/-- The result array after the run. -/
theorem final14 (c : Dev nD) : (dats m 0 c).arrAt 14 cfg0.N = G14 m c :=
  (dats m 0 c).arrAt_eq_of_cover 14 (G14 m c) (fun t _ => flushed_eq14 m c t) cover14

/-- Result 3: the gradient at the sliding-window attention. -/
def G15 (c : Dev nD) : Mat 8320 1024 := dOut (du (A9 m c) (A8 m c) (A5 m c) (A7 m c)) (A3 m c)

/-- What a point stores there: its rows of it. -/
theorem stored15 (c : Dev nD) (t : Fin cfg0.N) : @Eq (Mat 320 1024) (k0_pay14 (F := Ideal) (k0_pay8 (iblk m c 0 t) (iblk m c 9 t) (X0_3 m c t) (iblk m c 11 t)) (k0_pay10 (X0_1 m c t)) (k0_pay12 (X0_1 m c t))) (rows (pt t) (G15 m c)) := by
  refine (pay14 (iblk m c 0 t) (iblk m c 9 t) (X0_3 m c t) (iblk m c 11 t) (X0_1 m c t)).trans ?_
  rw [blk0 m c t, blk9 m c t, blk3 m c t, blk11 m c t, blk1 m c t]
  rfl

/-- What a point writes back is its block. -/
theorem flushed_eq15 (c : Dev nD) (t : Fin cfg0.N) :
    (dats m 0 c).flushed 15 t = (win0_15.blk t).view.read (Elt Ideal) (G15 m c) := by
  obtain ⟨e0, e1⟩ := idx15 t
  refine (flushed15_A m c t).trans ((congrArg ((cfg0.win 15).cut (grid0.coords t)) ((Outs.out15 c _ _ _ _ _ _ _ _ _ _ _ _ _ _ _ _ _ _ _ _ _ _ _ _ _ _ _ _ _ _ _ _ _ _ _ _ _ _ _ _ _ _ _ _ _ _ _).trans (stored15 m c t))).trans ?_)
  funext y
  rw [View.read_apply]
  refine (rows_at (pt t) (G15 m c) _ _ ?_ ?_).symm
  · show win0_15.index t 0 * 320 + 1 * (y 0).val = t.val * 320 + (y 0).val; rw [e0]; omega
  · show win0_15.index t 1 * 1024 + 1 * (y 1).val = (y 1).val; rw [e1]; omega

/-- The blocks of the points are the whole array. -/
theorem cover15 (i : S8320x1024.Idx) : ∃ t : Fin cfg0.N, (cfg0.win 15).flush t = true ∧ i ∈ ((cfg0.win 15).blk t).view.set := by
  have h0 : (i 0).val < 8320 := (i 0).isLt
  have h1 : (i 1).val < 1024 := (i 1).isLt
  have hN : cfg0.N = 26 := N_0
  have ht : (i 0).val / 320 < cfg0.N := by omega
  refine ⟨⟨_, ht⟩, flush0_15 _, ?_⟩
  obtain ⟨e0, e1⟩ := idx15 ⟨_, ht⟩
  show i ∈ ((View.whole main_v13_3).slice (win0_15.rect ⟨_, ht⟩)).set
  rw [View.set_slice_whole, Rect.mem_set_unit]
  intro a
  match a with
  | ⟨0, _⟩ => show win0_15.index ⟨_, ht⟩ 0 * 320 ≤ (i 0).val ∧ (i 0).val < win0_15.index ⟨_, ht⟩ 0 * 320 + 320; rw [e0]; dsimp only; omega
  | ⟨1, _⟩ => show win0_15.index ⟨_, ht⟩ 1 * 1024 ≤ (i 1).val ∧ (i 1).val < win0_15.index ⟨_, ht⟩ 1 * 1024 + 1024; rw [e1]; dsimp only; omega

/-- The result array after the run. -/
theorem final15 (c : Dev nD) : (dats m 0 c).arrAt 15 cfg0.N = G15 m c :=
  (dats m 0 c).arrAt_eq_of_cover 15 (G15 m c) (fun t _ => flushed_eq15 m c t) cover15

/-- Result 4: the four gradients at the gates, beside one another. -/
def G16 (c : Dev nD) : Mat 8320 3584 := beside (dz c1 (du (A9 m c) (A8 m c) (A5 m c) (A7 m c)) (A1 m c) (A3 m c)) (dg c1 (mmt (A9 m c) (A8 m c)) (mm (silu (A0 m c) (A2 m c)) (A6 m c)) (A4 m c)) (dg c1 (mmt (A9 m c) (A8 m c)) (mm (silu (A1 m c) (A3 m c)) (A7 m c)) (A5 m c)) (dz c1 (du (A9 m c) (A8 m c) (A4 m c) (A6 m c)) (A0 m c) (A2 m c))

/-- What a point stores there: its rows of it. -/
theorem stored16 (c : Dev nD) (t : Fin cfg0.N) : @Eq (Mat 320 3584) (beside (k0_pay15 (F := Ideal) (k0_pay8 (iblk m c 0 t) (iblk m c 9 t) (X0_3 m c t) (iblk m c 11 t)) (k0_pay10 (X0_1 m c t)) (k0_pay12 (X0_1 m c t)) (iblk m c 8 t)) (k0_pay16 (F := Ideal) (k0_pay2 (iblk m c 0 t) (iblk m c 9 t)) (k0_pay3 (X0_2 m c t)) (iblk m c 5 t)) (k0_pay17 (F := Ideal) (k0_pay2 (iblk m c 0 t) (iblk m c 9 t)) (k0_pay4 (X0_3 m c t)) (iblk m c 6 t)) (k0_pay1 (F := Ideal) (k0_pay9 (iblk m c 4 t)) (k0_pay11 (iblk m c 4 t)) (k0_pay18 (k0_pay7 (iblk m c 0 t) (iblk m c 9 t) (X0_2 m c t) (iblk m c 10 t)) (iblk m c 7 t)) (Scalar.ofBits .f32 0x3F800000#32))) (rows (pt t) (G16 m c)) := by
  refine (beside_congr (pay15 (iblk m c 0 t) (iblk m c 9 t) (X0_3 m c t) (iblk m c 11 t) (X0_1 m c t) (iblk m c 8 t)) (pay16 (iblk m c 0 t) (iblk m c 9 t) (X0_2 m c t) (iblk m c 5 t)) (pay17 (iblk m c 0 t) (iblk m c 9 t) (X0_3 m c t) (iblk m c 6 t)) (pay1 (iblk m c 0 t) (iblk m c 9 t) (X0_2 m c t) (iblk m c 10 t) (iblk m c 4 t) (iblk m c 7 t))).trans ?_
  rw [blk0 m c t, blk1 m c t, blk2 m c t, blk3 m c t, blk4 m c t, blk5 m c t, blk6 m c t, blk7 m c t, blk8 m c t, blk9 m c t, blk10 m c t, blk11 m c t]
  rfl

/-- What a point writes back is its block. -/
theorem flushed_eq16 (c : Dev nD) (t : Fin cfg0.N) :
    (dats m 0 c).flushed 16 t = (win0_16.blk t).view.read (Elt Ideal) (G16 m c) := by
  obtain ⟨e0, e1⟩ := idx16 t
  refine (flushed16_A m c t).trans ((congrArg ((cfg0.win 16).cut (grid0.coords t)) ((Outs.out16 c _ _ _ _ _ _ _ _ _ _ _ _ _ _ _ _ _ _ _ _ _ _ _ _ _ _ _ _ _ _ _ _ _ _ _ _ _ _ _ _ _ _ _ _ _ _ _).trans (stored16 m c t))).trans ?_)
  funext y
  rw [View.read_apply]
  refine (rows_at (pt t) (G16 m c) _ _ ?_ ?_).symm
  · show win0_16.index t 0 * 320 + 1 * (y 0).val = t.val * 320 + (y 0).val; rw [e0]; omega
  · show win0_16.index t 1 * 3584 + 1 * (y 1).val = (y 1).val; rw [e1]; omega

/-- The blocks of the points are the whole array. -/
theorem cover16 (i : S8320x3584.Idx) : ∃ t : Fin cfg0.N, (cfg0.win 16).flush t = true ∧ i ∈ ((cfg0.win 16).blk t).view.set := by
  have h0 : (i 0).val < 8320 := (i 0).isLt
  have h1 : (i 1).val < 3584 := (i 1).isLt
  have hN : cfg0.N = 26 := N_0
  have ht : (i 0).val / 320 < cfg0.N := by omega
  refine ⟨⟨_, ht⟩, flush0_16 _, ?_⟩
  obtain ⟨e0, e1⟩ := idx16 ⟨_, ht⟩
  show i ∈ ((View.whole main_v13_4).slice (win0_16.rect ⟨_, ht⟩)).set
  rw [View.set_slice_whole, Rect.mem_set_unit]
  intro a
  match a with
  | ⟨0, _⟩ => show win0_16.index ⟨_, ht⟩ 0 * 320 ≤ (i 0).val ∧ (i 0).val < win0_16.index ⟨_, ht⟩ 0 * 320 + 320; rw [e0]; dsimp only; omega
  | ⟨1, _⟩ => show win0_16.index ⟨_, ht⟩ 1 * 3584 ≤ (i 1).val ∧ (i 1).val < win0_16.index ⟨_, ht⟩ 1 * 3584 + 3584; rw [e1]; dsimp only; omega

/-- The result array after the run. -/
theorem final16 (c : Dev nD) : (dats m 0 c).arrAt 16 cfg0.N = G16 m c :=
  (dats m 0 c).arrAt_eq_of_cover 16 (G16 m c) (fun t _ => flushed_eq16 m c t) cover16

/-! ## The gates' derivatives -/

variable [hP : Cert.Pre_finite.Facts]

/-- The arrays that the precondition speaks of have real entries. -/
theorem reals (hpre : Cert.Pre_MergeGradientIdeal m) (c : Dev nD) :
    (∀ i, IsReal (A0 m c i)) ∧ (∀ i, IsReal (A1 m c i)) ∧ (∀ i, IsReal (A6 m c i)) ∧ (∀ i, IsReal (A7 m c i)) ∧ (∀ i, IsReal (A8 m c i)) ∧ (∀ i, IsReal (A9 m c i)) := by
  obtain ⟨h0, h1, h2, h3, h4, h5⟩ := hpre c
  exact ⟨fun i => IsReal.of_lt (congrFun h0 i),
    fun i => IsReal.of_lt (congrFun h1 i),
    fun i => IsReal.of_lt (congrFun h2 i),
    fun i => IsReal.of_lt (congrFun h3 i),
    fun i => IsReal.of_lt (congrFun h4 i),
    fun i => IsReal.of_lt (congrFun h5 i)⟩

/-- Over reals the four gradients at the gates are what the rules for a product and for the sigmoid give. -/
theorem gates_law (hpre : Cert.Pre_MergeGradientIdeal m) (c : Dev nD) :
    beside (dzr c1 (du (A9 m c) (A8 m c) (A5 m c) (A7 m c)) (A1 m c) (A3 m c)) (dg c1 (mmt (A9 m c) (A8 m c)) (mm (silu (A0 m c) (A2 m c)) (A6 m c)) (A4 m c)) (dg c1 (mmt (A9 m c) (A8 m c)) (mm (silu (A1 m c) (A3 m c)) (A7 m c)) (A5 m c)) (dzr c1 (du (A9 m c) (A8 m c) (A4 m c) (A6 m c)) (A0 m c) (A2 m c)) = G16 m c := by
  obtain ⟨h0, h1, h6, h7, h8, h9⟩ := reals m hpre c
  unfold G16
  rw [c1_eq, dz_law (IsReal.du h9 h8 h7 (A5 m c)) h1 (A3 m c), dz_law (IsReal.du h9 h8 h6 (A4 m c)) h0 (A2 m c)]

/-- THE VALUES: the kernel's run and the reference's end with equal results. -/
theorem algebraic : Cert.algebraic_MergeGradientIdeal_MergeGradientReferenceIdeal := fun m g m' g' hpre hagree =>
  ⟨fun c => G12 m c, fun c => G13 m c, fun c => G14 m c, fun c => G15 m c, fun c => G16 m c,
    (θ_run _ _ _).mono (fun r h c => ⟨((h c).1).trans (final12 m c), ((h c).2.1).trans (final13 m c), ((h c).2.2.1).trans (final14 m c), ((h c).2.2.2.1).trans (final15 m c), ((h c).2.2.2.2.1).trans (final16 m c), (h c).2.2.2.2.2⟩) (Value.run_blocks m g),
    (θ_run _ _ _).mono (fun r h c => by
      obtain ⟨h0, h1, h2, h3, h4, h5, h6, h7, h8, h9⟩ := hagree c
      exact ⟨((h c).1).trans ((Cert.MergeGradientReferenceIdeal.Terms.term12 (m' ((c.tc : Thread Cert.MergeGradientReferenceIdeal.nD Cert.MergeGradientReferenceIdeal.τ).loc Cert.MergeGradientReferenceIdeal.main_arg0)) (m' ((c.tc : Thread Cert.MergeGradientReferenceIdeal.nD Cert.MergeGradientReferenceIdeal.τ).loc Cert.MergeGradientReferenceIdeal.main_arg1)) (m' ((c.tc : Thread Cert.MergeGradientReferenceIdeal.nD Cert.MergeGradientReferenceIdeal.τ).loc Cert.MergeGradientReferenceIdeal.main_arg2)) (m' ((c.tc : Thread Cert.MergeGradientReferenceIdeal.nD Cert.MergeGradientReferenceIdeal.τ).loc Cert.MergeGradientReferenceIdeal.main_arg3)) (m' ((c.tc : Thread Cert.MergeGradientReferenceIdeal.nD Cert.MergeGradientReferenceIdeal.τ).loc Cert.MergeGradientReferenceIdeal.main_arg4)) (m' ((c.tc : Thread Cert.MergeGradientReferenceIdeal.nD Cert.MergeGradientReferenceIdeal.τ).loc Cert.MergeGradientReferenceIdeal.main_arg5)) (m' ((c.tc : Thread Cert.MergeGradientReferenceIdeal.nD Cert.MergeGradientReferenceIdeal.τ).loc Cert.MergeGradientReferenceIdeal.main_arg6)) (m' ((c.tc : Thread Cert.MergeGradientReferenceIdeal.nD Cert.MergeGradientReferenceIdeal.τ).loc Cert.MergeGradientReferenceIdeal.main_arg7)) (m' ((c.tc : Thread Cert.MergeGradientReferenceIdeal.nD Cert.MergeGradientReferenceIdeal.τ).loc Cert.MergeGradientReferenceIdeal.main_arg8)) (m' ((c.tc : Thread Cert.MergeGradientReferenceIdeal.nD Cert.MergeGradientReferenceIdeal.τ).loc Cert.MergeGradientReferenceIdeal.main_arg9))).trans (by rw [h4, h8, h9]; rfl)),
        ((h c).2.1).trans ((Cert.MergeGradientReferenceIdeal.Terms.term13 (m' ((c.tc : Thread Cert.MergeGradientReferenceIdeal.nD Cert.MergeGradientReferenceIdeal.τ).loc Cert.MergeGradientReferenceIdeal.main_arg0)) (m' ((c.tc : Thread Cert.MergeGradientReferenceIdeal.nD Cert.MergeGradientReferenceIdeal.τ).loc Cert.MergeGradientReferenceIdeal.main_arg1)) (m' ((c.tc : Thread Cert.MergeGradientReferenceIdeal.nD Cert.MergeGradientReferenceIdeal.τ).loc Cert.MergeGradientReferenceIdeal.main_arg2)) (m' ((c.tc : Thread Cert.MergeGradientReferenceIdeal.nD Cert.MergeGradientReferenceIdeal.τ).loc Cert.MergeGradientReferenceIdeal.main_arg3)) (m' ((c.tc : Thread Cert.MergeGradientReferenceIdeal.nD Cert.MergeGradientReferenceIdeal.τ).loc Cert.MergeGradientReferenceIdeal.main_arg4)) (m' ((c.tc : Thread Cert.MergeGradientReferenceIdeal.nD Cert.MergeGradientReferenceIdeal.τ).loc Cert.MergeGradientReferenceIdeal.main_arg5)) (m' ((c.tc : Thread Cert.MergeGradientReferenceIdeal.nD Cert.MergeGradientReferenceIdeal.τ).loc Cert.MergeGradientReferenceIdeal.main_arg6)) (m' ((c.tc : Thread Cert.MergeGradientReferenceIdeal.nD Cert.MergeGradientReferenceIdeal.τ).loc Cert.MergeGradientReferenceIdeal.main_arg7)) (m' ((c.tc : Thread Cert.MergeGradientReferenceIdeal.nD Cert.MergeGradientReferenceIdeal.τ).loc Cert.MergeGradientReferenceIdeal.main_arg8)) (m' ((c.tc : Thread Cert.MergeGradientReferenceIdeal.nD Cert.MergeGradientReferenceIdeal.τ).loc Cert.MergeGradientReferenceIdeal.main_arg9))).trans (by rw [h5, h8, h9]; rfl)),
        ((h c).2.2.1).trans ((Cert.MergeGradientReferenceIdeal.Terms.term14 (m' ((c.tc : Thread Cert.MergeGradientReferenceIdeal.nD Cert.MergeGradientReferenceIdeal.τ).loc Cert.MergeGradientReferenceIdeal.main_arg0)) (m' ((c.tc : Thread Cert.MergeGradientReferenceIdeal.nD Cert.MergeGradientReferenceIdeal.τ).loc Cert.MergeGradientReferenceIdeal.main_arg1)) (m' ((c.tc : Thread Cert.MergeGradientReferenceIdeal.nD Cert.MergeGradientReferenceIdeal.τ).loc Cert.MergeGradientReferenceIdeal.main_arg2)) (m' ((c.tc : Thread Cert.MergeGradientReferenceIdeal.nD Cert.MergeGradientReferenceIdeal.τ).loc Cert.MergeGradientReferenceIdeal.main_arg3)) (m' ((c.tc : Thread Cert.MergeGradientReferenceIdeal.nD Cert.MergeGradientReferenceIdeal.τ).loc Cert.MergeGradientReferenceIdeal.main_arg4)) (m' ((c.tc : Thread Cert.MergeGradientReferenceIdeal.nD Cert.MergeGradientReferenceIdeal.τ).loc Cert.MergeGradientReferenceIdeal.main_arg5)) (m' ((c.tc : Thread Cert.MergeGradientReferenceIdeal.nD Cert.MergeGradientReferenceIdeal.τ).loc Cert.MergeGradientReferenceIdeal.main_arg6)) (m' ((c.tc : Thread Cert.MergeGradientReferenceIdeal.nD Cert.MergeGradientReferenceIdeal.τ).loc Cert.MergeGradientReferenceIdeal.main_arg7)) (m' ((c.tc : Thread Cert.MergeGradientReferenceIdeal.nD Cert.MergeGradientReferenceIdeal.τ).loc Cert.MergeGradientReferenceIdeal.main_arg8)) (m' ((c.tc : Thread Cert.MergeGradientReferenceIdeal.nD Cert.MergeGradientReferenceIdeal.τ).loc Cert.MergeGradientReferenceIdeal.main_arg9))).trans (by rw [h2, h4, h6, h8, h9]; rfl)),
        ((h c).2.2.2.1).trans ((Cert.MergeGradientReferenceIdeal.Terms.term15 (m' ((c.tc : Thread Cert.MergeGradientReferenceIdeal.nD Cert.MergeGradientReferenceIdeal.τ).loc Cert.MergeGradientReferenceIdeal.main_arg0)) (m' ((c.tc : Thread Cert.MergeGradientReferenceIdeal.nD Cert.MergeGradientReferenceIdeal.τ).loc Cert.MergeGradientReferenceIdeal.main_arg1)) (m' ((c.tc : Thread Cert.MergeGradientReferenceIdeal.nD Cert.MergeGradientReferenceIdeal.τ).loc Cert.MergeGradientReferenceIdeal.main_arg2)) (m' ((c.tc : Thread Cert.MergeGradientReferenceIdeal.nD Cert.MergeGradientReferenceIdeal.τ).loc Cert.MergeGradientReferenceIdeal.main_arg3)) (m' ((c.tc : Thread Cert.MergeGradientReferenceIdeal.nD Cert.MergeGradientReferenceIdeal.τ).loc Cert.MergeGradientReferenceIdeal.main_arg4)) (m' ((c.tc : Thread Cert.MergeGradientReferenceIdeal.nD Cert.MergeGradientReferenceIdeal.τ).loc Cert.MergeGradientReferenceIdeal.main_arg5)) (m' ((c.tc : Thread Cert.MergeGradientReferenceIdeal.nD Cert.MergeGradientReferenceIdeal.τ).loc Cert.MergeGradientReferenceIdeal.main_arg6)) (m' ((c.tc : Thread Cert.MergeGradientReferenceIdeal.nD Cert.MergeGradientReferenceIdeal.τ).loc Cert.MergeGradientReferenceIdeal.main_arg7)) (m' ((c.tc : Thread Cert.MergeGradientReferenceIdeal.nD Cert.MergeGradientReferenceIdeal.τ).loc Cert.MergeGradientReferenceIdeal.main_arg8)) (m' ((c.tc : Thread Cert.MergeGradientReferenceIdeal.nD Cert.MergeGradientReferenceIdeal.τ).loc Cert.MergeGradientReferenceIdeal.main_arg9))).trans (by rw [h3, h5, h7, h8, h9]; rfl)),
        ((h c).2.2.2.2.1).trans ((Cert.MergeGradientReferenceIdeal.Terms.term16 (m' ((c.tc : Thread Cert.MergeGradientReferenceIdeal.nD Cert.MergeGradientReferenceIdeal.τ).loc Cert.MergeGradientReferenceIdeal.main_arg0)) (m' ((c.tc : Thread Cert.MergeGradientReferenceIdeal.nD Cert.MergeGradientReferenceIdeal.τ).loc Cert.MergeGradientReferenceIdeal.main_arg1)) (m' ((c.tc : Thread Cert.MergeGradientReferenceIdeal.nD Cert.MergeGradientReferenceIdeal.τ).loc Cert.MergeGradientReferenceIdeal.main_arg2)) (m' ((c.tc : Thread Cert.MergeGradientReferenceIdeal.nD Cert.MergeGradientReferenceIdeal.τ).loc Cert.MergeGradientReferenceIdeal.main_arg3)) (m' ((c.tc : Thread Cert.MergeGradientReferenceIdeal.nD Cert.MergeGradientReferenceIdeal.τ).loc Cert.MergeGradientReferenceIdeal.main_arg4)) (m' ((c.tc : Thread Cert.MergeGradientReferenceIdeal.nD Cert.MergeGradientReferenceIdeal.τ).loc Cert.MergeGradientReferenceIdeal.main_arg5)) (m' ((c.tc : Thread Cert.MergeGradientReferenceIdeal.nD Cert.MergeGradientReferenceIdeal.τ).loc Cert.MergeGradientReferenceIdeal.main_arg6)) (m' ((c.tc : Thread Cert.MergeGradientReferenceIdeal.nD Cert.MergeGradientReferenceIdeal.τ).loc Cert.MergeGradientReferenceIdeal.main_arg7)) (m' ((c.tc : Thread Cert.MergeGradientReferenceIdeal.nD Cert.MergeGradientReferenceIdeal.τ).loc Cert.MergeGradientReferenceIdeal.main_arg8)) (m' ((c.tc : Thread Cert.MergeGradientReferenceIdeal.nD Cert.MergeGradientReferenceIdeal.τ).loc Cert.MergeGradientReferenceIdeal.main_arg9))).trans (by rw [h0, h1, h2, h3, h4, h5, h6, h7, h8, h9]; exact gates_law m hpre c)),
        (h c).2.2.2.2.2⟩) (Cert.MergeGradientReferenceIdeal.Value.run (F := Ideal) m' g')⟩

end Cert.MergeGradientIdeal.Sum

end
-- ==== Proof.AdamInStep.lean ====
/-
  The AdamW step on one device's block of w_in: 1024 rows by 1600 columns, in four tiles of 256 rows. Each entry of the update
  and of the two moments comes from the same entry of the weight, the gradient and the old moments, by the operations
  that the reference applies to the whole block.
-/
module

public import proofs.«01_k».proof.Proof.Gen.AdamInIdeal.Value
public import proofs.«01_k».proof.Proof.Gen.AdamInReferenceIdeal.Run
public import proofs.«01_k».proof.Defs

@[expose] public section

noncomputable section

namespace Cert.AdamInIdeal.Sum

open Cert.AdamInIdeal Cert.AdamInIdeal.Gen Cert.AdamInIdeal.Value
open Idealize.ShloMosaic Idealize.ShloMosaic.TcCoe Idealize.SL.Sem

variable (m : (ℓ : Loc nD τ sig) → Buf (Elt Ideal) ℓ)

/-- The update. -/
abbrev delta (c : Dev nD) := G4 (F := Ideal) (m ((c : Thread nD τ).loc main_arg1)) (m ((c : Thread nD τ).loc main_arg2)) (m ((c : Thread nD τ).loc main_arg3)) (m ((c : Thread nD τ).loc main_arg0))
/-- The new first moment. -/
abbrev first (c : Dev nD) := G5 (F := Ideal) (m ((c : Thread nD τ).loc main_arg1)) (m ((c : Thread nD τ).loc main_arg2))
/-- The new second moment. -/
abbrev second (c : Dev nD) := G6 (F := Ideal) (m ((c : Thread nD τ).loc main_arg1)) (m ((c : Thread nD τ).loc main_arg3))

/-- THE VALUES: the kernel's run and the reference's end with equal updates and moments. -/
theorem algebraic : Cert.algebraic_AdamInIdeal_AdamInReferenceIdeal := fun m g m' g' _ hagree =>
  ⟨fun c => delta m c, fun c => first m c, fun c => second m c, Value.run m g,
    (θ_run _ _ _).mono (fun r h c =>
      ⟨(h c).1.trans (by rw [(hagree c).1, (hagree c).2.1, (hagree c).2.2.1, (hagree c).2.2.2]; rfl),
        (h c).2.1.trans (by rw [(hagree c).2.1, (hagree c).2.2.1]; rfl),
        (h c).2.2.1.trans (by rw [(hagree c).2.1, (hagree c).2.2.2]; rfl), (h c).2.2.2⟩)
      (Cert.AdamInReferenceIdeal.Value.run (F := Ideal) m' g')⟩

end Cert.AdamInIdeal.Sum

end
-- ==== Proof.AdamSbBranchStep.lean ====
/-
  The AdamW step on one device's block of w_branch_sb: 512 rows by 256 columns, in two tiles of 256 rows. Each entry of the update
  and of the two moments comes from the same entry of the weight, the gradient and the old moments, by the operations
  that the reference applies to the whole block.
-/
module

public import proofs.«01_k».proof.Proof.Gen.AdamSbBranchIdeal.Value
public import proofs.«01_k».proof.Proof.Gen.AdamSbBranchReferenceIdeal.Run
public import proofs.«01_k».proof.Defs

@[expose] public section

noncomputable section

namespace Cert.AdamSbBranchIdeal.Sum

open Cert.AdamSbBranchIdeal Cert.AdamSbBranchIdeal.Gen Cert.AdamSbBranchIdeal.Value
open Idealize.ShloMosaic Idealize.ShloMosaic.TcCoe Idealize.SL.Sem

variable (m : (ℓ : Loc nD τ sig) → Buf (Elt Ideal) ℓ)

/-- The update. -/
abbrev delta (c : Dev nD) := G4 (F := Ideal) (m ((c : Thread nD τ).loc main_arg1)) (m ((c : Thread nD τ).loc main_arg2)) (m ((c : Thread nD τ).loc main_arg3)) (m ((c : Thread nD τ).loc main_arg0))
/-- The new first moment. -/
abbrev first (c : Dev nD) := G5 (F := Ideal) (m ((c : Thread nD τ).loc main_arg1)) (m ((c : Thread nD τ).loc main_arg2))
/-- The new second moment. -/
abbrev second (c : Dev nD) := G6 (F := Ideal) (m ((c : Thread nD τ).loc main_arg1)) (m ((c : Thread nD τ).loc main_arg3))

/-- THE VALUES: the kernel's run and the reference's end with equal updates and moments. -/
theorem algebraic : Cert.algebraic_AdamSbBranchIdeal_AdamSbBranchReferenceIdeal := fun m g m' g' _ hagree =>
  ⟨fun c => delta m c, fun c => first m c, fun c => second m c, Value.run m g,
    (θ_run _ _ _).mono (fun r h c =>
      ⟨(h c).1.trans (by rw [(hagree c).1, (hagree c).2.1, (hagree c).2.2.1, (hagree c).2.2.2]; rfl),
        (h c).2.1.trans (by rw [(hagree c).2.1, (hagree c).2.2.1]; rfl),
        (h c).2.2.1.trans (by rw [(hagree c).2.1, (hagree c).2.2.2]; rfl), (h c).2.2.2⟩)
      (Cert.AdamSbBranchReferenceIdeal.Value.run (F := Ideal) m' g')⟩

end Cert.AdamSbBranchIdeal.Sum

end
-- ==== Proof.AdamSquareStep.lean ====
/-
  The AdamW step on one device's block of w_branch_swa and of w_out: 256 rows by 1024 columns, in one tile. Each entry of the update
  and of the two moments comes from the same entry of the weight, the gradient and the old moments, by the operations
  that the reference applies to the whole block.
-/
module

public import proofs.«01_k».proof.Proof.Gen.AdamSquareIdeal.Value
public import proofs.«01_k».proof.Proof.Gen.AdamSquareReferenceIdeal.Run
public import proofs.«01_k».proof.Defs

@[expose] public section

noncomputable section

namespace Cert.AdamSquareIdeal.Sum

open Cert.AdamSquareIdeal Cert.AdamSquareIdeal.Gen Cert.AdamSquareIdeal.Value
open Idealize.ShloMosaic Idealize.ShloMosaic.TcCoe Idealize.SL.Sem

variable (m : (ℓ : Loc nD τ sig) → Buf (Elt Ideal) ℓ)

/-- The update. -/
abbrev delta (c : Dev nD) := G4 (F := Ideal) (m ((c : Thread nD τ).loc main_arg1)) (m ((c : Thread nD τ).loc main_arg2)) (m ((c : Thread nD τ).loc main_arg3)) (m ((c : Thread nD τ).loc main_arg0))
/-- The new first moment. -/
abbrev first (c : Dev nD) := G5 (F := Ideal) (m ((c : Thread nD τ).loc main_arg1)) (m ((c : Thread nD τ).loc main_arg2))
/-- The new second moment. -/
abbrev second (c : Dev nD) := G6 (F := Ideal) (m ((c : Thread nD τ).loc main_arg1)) (m ((c : Thread nD τ).loc main_arg3))

/-- THE VALUES: the kernel's run and the reference's end with equal updates and moments. -/
theorem algebraic : Cert.algebraic_AdamSquareIdeal_AdamSquareReferenceIdeal := fun m g m' g' _ hagree =>
  ⟨fun c => delta m c, fun c => first m c, fun c => second m c, Value.run m g,
    (θ_run _ _ _).mono (fun r h c =>
      ⟨(h c).1.trans (by rw [(hagree c).1, (hagree c).2.1, (hagree c).2.2.1, (hagree c).2.2.2]; rfl),
        (h c).2.1.trans (by rw [(hagree c).2.1, (hagree c).2.2.1]; rfl),
        (h c).2.2.1.trans (by rw [(hagree c).2.1, (hagree c).2.2.2]; rfl), (h c).2.2.2⟩)
      (Cert.AdamSquareReferenceIdeal.Value.run (F := Ideal) m' g')⟩

end Cert.AdamSquareIdeal.Sum

end
-- ==== Proof.AdamMetaStep.lean ====
/-
  The AdamW step on one device's block of meta_tokens: 16 rows by 256 columns, in one tile. Each entry of the update
  and of the two moments comes from the same entry of the weight, the gradient and the old moments, by the operations
  that the reference applies to the whole block.
-/
module

public import proofs.«01_k».proof.Proof.Gen.AdamMetaIdeal.Value
public import proofs.«01_k».proof.Proof.Gen.AdamMetaReferenceIdeal.Run
public import proofs.«01_k».proof.Defs

@[expose] public section

noncomputable section

namespace Cert.AdamMetaIdeal.Sum

open Cert.AdamMetaIdeal Cert.AdamMetaIdeal.Gen Cert.AdamMetaIdeal.Value
open Idealize.ShloMosaic Idealize.ShloMosaic.TcCoe Idealize.SL.Sem

variable (m : (ℓ : Loc nD τ sig) → Buf (Elt Ideal) ℓ)

/-- The update. -/
abbrev delta (c : Dev nD) := G4 (F := Ideal) (m ((c : Thread nD τ).loc main_arg1)) (m ((c : Thread nD τ).loc main_arg2)) (m ((c : Thread nD τ).loc main_arg3)) (m ((c : Thread nD τ).loc main_arg0))
/-- The new first moment. -/
abbrev first (c : Dev nD) := G5 (F := Ideal) (m ((c : Thread nD τ).loc main_arg1)) (m ((c : Thread nD τ).loc main_arg2))
/-- The new second moment. -/
abbrev second (c : Dev nD) := G6 (F := Ideal) (m ((c : Thread nD τ).loc main_arg1)) (m ((c : Thread nD τ).loc main_arg3))

/-- THE VALUES: the kernel's run and the reference's end with equal updates and moments. -/
theorem algebraic : Cert.algebraic_AdamMetaIdeal_AdamMetaReferenceIdeal := fun m g m' g' _ hagree =>
  ⟨fun c => delta m c, fun c => first m c, fun c => second m c, Value.run m g,
    (θ_run _ _ _).mono (fun r h c =>
      ⟨(h c).1.trans (by rw [(hagree c).1, (hagree c).2.1, (hagree c).2.2.1, (hagree c).2.2.2]; rfl),
        (h c).2.1.trans (by rw [(hagree c).2.1, (hagree c).2.2.1]; rfl),
        (h c).2.2.1.trans (by rw [(hagree c).2.1, (hagree c).2.2.2]; rfl), (h c).2.2.2⟩)
      (Cert.AdamMetaReferenceIdeal.Value.run (F := Ideal) m' g')⟩

end Cert.AdamMetaIdeal.Sum

end
-- ==== Proof.AdamGainStep.lean ====
/-
  The AdamW step on one device's block of norm_gain and of final_norm_gain: one row of 1024, in one tile. Each entry of the update
  and of the two moments comes from the same entry of the weight, the gradient and the old moments, by the operations
  that the reference applies to the whole block.
-/
module

public import proofs.«01_k».proof.Proof.Gen.AdamGainIdeal.Value
public import proofs.«01_k».proof.Proof.Gen.AdamGainReferenceIdeal.Run
public import proofs.«01_k».proof.Defs

@[expose] public section

noncomputable section

namespace Cert.AdamGainIdeal.Sum

open Cert.AdamGainIdeal Cert.AdamGainIdeal.Gen Cert.AdamGainIdeal.Value
open Idealize.ShloMosaic Idealize.ShloMosaic.TcCoe Idealize.SL.Sem

variable (m : (ℓ : Loc nD τ sig) → Buf (Elt Ideal) ℓ)

/-- The update. -/
abbrev delta (c : Dev nD) := G4 (F := Ideal) (m ((c : Thread nD τ).loc main_arg1)) (m ((c : Thread nD τ).loc main_arg2)) (m ((c : Thread nD τ).loc main_arg3)) (m ((c : Thread nD τ).loc main_arg0))
/-- The new first moment. -/
abbrev first (c : Dev nD) := G5 (F := Ideal) (m ((c : Thread nD τ).loc main_arg1)) (m ((c : Thread nD τ).loc main_arg2))
/-- The new second moment. -/
abbrev second (c : Dev nD) := G6 (F := Ideal) (m ((c : Thread nD τ).loc main_arg1)) (m ((c : Thread nD τ).loc main_arg3))

/-- THE VALUES: the kernel's run and the reference's end with equal updates and moments. -/
theorem algebraic : Cert.algebraic_AdamGainIdeal_AdamGainReferenceIdeal := fun m g m' g' _ hagree =>
  ⟨fun c => delta m c, fun c => first m c, fun c => second m c, Value.run m g,
    (θ_run _ _ _).mono (fun r h c =>
      ⟨(h c).1.trans (by rw [(hagree c).1, (hagree c).2.1, (hagree c).2.2.1, (hagree c).2.2.2]; rfl),
        (h c).2.1.trans (by rw [(hagree c).2.1, (hagree c).2.2.1]; rfl),
        (h c).2.2.1.trans (by rw [(hagree c).2.1, (hagree c).2.2.2]; rfl), (h c).2.2.2⟩)
      (Cert.AdamGainReferenceIdeal.Value.run (F := Ideal) m' g')⟩

end Cert.AdamGainIdeal.Sum

end
-- ==== Proof.AdamSinksStep.lean ====
/-
  The AdamW step on one device's block of attn_sinks: one row of 16, in one tile. Each entry of the update
  and of the two moments comes from the same entry of the weight, the gradient and the old moments, by the operations
  that the reference applies to the whole block.
-/
module

public import proofs.«01_k».proof.Proof.Gen.AdamSinksIdeal.Value
public import proofs.«01_k».proof.Proof.Gen.AdamSinksReferenceIdeal.Run
public import proofs.«01_k».proof.Defs

@[expose] public section

noncomputable section

namespace Cert.AdamSinksIdeal.Sum

open Cert.AdamSinksIdeal Cert.AdamSinksIdeal.Gen Cert.AdamSinksIdeal.Value
open Idealize.ShloMosaic Idealize.ShloMosaic.TcCoe Idealize.SL.Sem

variable (m : (ℓ : Loc nD τ sig) → Buf (Elt Ideal) ℓ)

/-- The update. -/
abbrev delta (c : Dev nD) := G4 (F := Ideal) (m ((c : Thread nD τ).loc main_arg1)) (m ((c : Thread nD τ).loc main_arg2)) (m ((c : Thread nD τ).loc main_arg3)) (m ((c : Thread nD τ).loc main_arg0))
/-- The new first moment. -/
abbrev first (c : Dev nD) := G5 (F := Ideal) (m ((c : Thread nD τ).loc main_arg1)) (m ((c : Thread nD τ).loc main_arg2))
/-- The new second moment. -/
abbrev second (c : Dev nD) := G6 (F := Ideal) (m ((c : Thread nD τ).loc main_arg1)) (m ((c : Thread nD τ).loc main_arg3))

/-- THE VALUES: the kernel's run and the reference's end with equal updates and moments. -/
theorem algebraic : Cert.algebraic_AdamSinksIdeal_AdamSinksReferenceIdeal := fun m g m' g' _ hagree =>
  ⟨fun c => delta m c, fun c => first m c, fun c => second m c, Value.run m g,
    (θ_run _ _ _).mono (fun r h c =>
      ⟨(h c).1.trans (by rw [(hagree c).1, (hagree c).2.1, (hagree c).2.2.1, (hagree c).2.2.2]; rfl),
        (h c).2.1.trans (by rw [(hagree c).2.1, (hagree c).2.2.1]; rfl),
        (h c).2.2.1.trans (by rw [(hagree c).2.1, (hagree c).2.2.2]; rfl), (h c).2.2.2⟩)
      (Cert.AdamSinksReferenceIdeal.Value.run (F := Ideal) m' g')⟩

end Cert.AdamSinksIdeal.Sum

end
-- ==== Proof.Norm.lean ====
/-
  The norm of a row: the reciprocal root of the mean square, over whole arrays.
-/
module

public import Idealize.ShloMosaic.Lib.Pointwise
public import proofs.«01_k».proof.Proof.Merge

@[expose] public section

noncomputable section

namespace Cert.Norm

open Cert.Dots Cert.Merge
open Idealize.ShloMosaic
open scoped BigOperators

/-- The width of a row, as the programs write it. -/
abbrev width : EReal := Ideal.ofBits .f32 0x44800000#32
/-- The small number under the root. -/
abbrev eps : EReal := Ideal.ofBits .f32 0x358637BD#32

/-- The mean square of a row and the small number. -/
def square {R : ℕ} (h : Mat R 1024) (r : Fin R) : EReal := Ideal.div (∑ k : Fin 1024, h (ix2 r k) * h (ix2 r k)) width + eps

/-- The factor of a row. -/
def factor {R : ℕ} (h : Mat R 1024) (r : Fin R) : EReal := Ideal.rsqrt (square h r)

/-- The rows, each by its factor, with the gains of the columns. -/
def normed {R : ℕ} (h : Mat R 1024) (g : Mat 1 1024) : Mat R 1024 := fun i => h i * factor h (i 0) * g (ix2 0 (i 1))

/-- The factor of a row depends on the row alone. -/
theorem square_row {R S : ℕ} (x : Mat R 1024) (y : Mat S 1024) (r : Fin R) (s : Fin S) (h : ∀ k : Fin 1024, x (ix2 r k) = y (ix2 s k)) :
    square x r = square y s := by
  unfold square
  congr 2
  exact Finset.sum_congr rfl fun k _ => by rw [h]

/-- A normed row depends on the row and the gains alone. -/
theorem normed_row {R S : ℕ} (x : Mat R 1024) (y : Mat S 1024) (g g' : Mat 1 1024) (i : (⟨2, ![R, 1024]⟩ : Shape).Idx) (s : Fin S)
    (h : ∀ k : Fin 1024, x (ix2 (i 0) k) = y (ix2 s k)) (hg : g (ix2 0 (i 1)) = g' (ix2 0 (i 1))) :
    normed x g i = normed y g' (ix2 s (i 1)) := by
  have hi : x i = y (ix2 s (i 1)) := (read_same x i (ix2 (i 0) (i 1)) rfl rfl).trans (h (i 1))
  show x i * Ideal.rsqrt (square x (i 0)) * g (ix2 0 (i 1)) = y (ix2 s (i 1)) * Ideal.rsqrt (square y s) * g' (ix2 0 (i 1))
  rw [hi, hg, square_row x y (i 0) s h]

end Cert.Norm

end
-- ==== Proof.NormRows.lean ====
/-
  The norm before the projections: the kernel's blocks of 640 rows are together the reference's array, each row from
  itself.
-/
module

public import proofs.«01_k».proof.Proof.Gen.NormForwardIdeal.Value
public import proofs.«01_k».proof.Proof.Gen.NormForwardReferenceIdeal.Run
public import proofs.«01_k».proof.Proof.Norm
public import proofs.«01_k».proof.Defs

@[expose] public section

set_option maxRecDepth 16384

noncomputable section

namespace Cert.NormForwardIdeal.Sum

open Cert.NormForwardIdeal Cert.NormForwardIdeal.Gen Cert.NormForwardIdeal.Value Cert.Dots Cert.Merge Cert.Norm
open Idealize.ShloMosaic Idealize.ShloMosaic.TcCoe Idealize.SL.Sem
open scoped BigOperators

variable (m : (ℓ : Loc nD τ sig) → Buf (Elt Ideal) ℓ)

/-- The rows, as they stand at launch. -/
abbrev A (c : Dev nD) : Mat 8320 1024 := m ((c : Thread nD τ).loc main_arg0)
/-- The gains. -/
abbrev B (c : Dev nD) : Mat 1 1024 := m ((c : Thread nD τ).loc main_arg1)

/-- The blocks of a point: its rows, and the gains. -/
theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- A row of a point's block among all the rows. -/
def row (t : Fin cfg0.N) (r : Fin 640) : Fin 8320 :=
  ⟨t.val * 640 + r.val, by have h := t.isLt; have h' : cfg0.N = 13 := N_0; have := r.isLt; omega⟩

/-- The point's rows. -/
theorem blk0 (c : Dev nD) (t : Fin cfg0.N) (y : S640x1024.Idx) : @Eq EReal (iblk m c 0 t y) (A m c (ix2 (row t (y 0)) (y 1))) := by
  obtain ⟨⟨e0, e1⟩, -, -⟩ := idx_in t
  unfold iblk
  rw [View.read_apply]
  refine read_same (A m c) _ _ ?_ ?_
  · show win0_0.index t 0 * 640 + 1 * (y 0).val = t.val * 640 + (y 0).val; rw [e0]; omega
  · show win0_0.index t 1 * 1024 + 1 * (y 1).val = (y 1).val; rw [e1]; omega

/-- The gains. -/
theorem blk1 (c : Dev nD) (t : Fin cfg0.N) (y : S1x1024.Idx) : @Eq EReal (iblk m c 1 t y) (B m c y) := by
  obtain ⟨-, ⟨e0, e1⟩, -⟩ := idx_in t
  unfold iblk
  rw [View.read_apply]
  refine read_same (B m c) _ _ ?_ ?_
  · show win0_1.index t 0 * 1 + 1 * (y 0).val = (y 0).val; rw [e0]; omega
  · show win0_1.index t 1 * 1024 + 1 * (y 1).val = (y 1).val; rw [e1]; omega

/-- What a point stores: its rows, normed. -/
theorem pay_at (x : Mat 640 1024) (g : Mat 1 1024) (j : S640x1024.Idx) : @Eq EReal (k0_pay1 (F := Ideal) x g j) (normed x g j) := by
  unfold k0_pay1 normed factor square
  pointwise

theorem hz : (![0, 0] : Fin 2 → Nat) = fun _ => 0 := funext fun a => by fin_cases a <;> rfl

/-- What a point writes back, at an index of its block. -/
theorem out_at (c : Dev nD) (t : Fin cfg0.N) (y : S640x1024.Idx) :
    @Eq EReal (out0_2 (iblk m c 0 t) (iblk m c 1 t) y) (normed (A m c) (B m c) (ix2 (row t (y 0)) (y 1))) := by
  unfold out0_2
  rw [View.canon_unit_zero hz, View.ld_unit_zero hz, View.ld_unit_zero hz]
  exact (pay_at _ _ y).trans (normed_row _ (A m c) _ (B m c) y (row t (y 0)) (fun k => blk0 m c t (ix2 (y 0) k)) (blk1 m c t (ix2 0 (y 1))))

/-- What a point writes back is its block of the whole array. -/
theorem flushed_eq (c : Dev nD) (t : Fin cfg0.N) :
    (dats m 0 c).flushed 2 t = (win0_2.blk t).view.read (Elt Ideal) (normed (A m c) (B m c)) := by
  obtain ⟨-, -, ⟨e0, e1⟩⟩ := idx_in t
  rw [flushed2]
  funext y
  rw [View.read_apply]
  refine (out_at m c t _).trans (Eq.symm (read_same (normed (A m c) (B m c)) _ _ ?_ ?_))
  · show win0_2.index t 0 * 640 + 1 * (y 0).val = t.val * 640 + (y 0).val; rw [e0]; omega
  · show win0_2.index t 1 * 1024 + 1 * (y 1).val = (y 1).val; rw [e1]; omega

/-- The blocks of the points are the whole array. -/
theorem cover (i : S8320x1024.Idx) : ∃ t : Fin cfg0.N, (cfg0.win 2).flush t = true ∧ i ∈ ((cfg0.win 2).blk t).view.set := by
  have h0 : (i 0).val < 8320 := (i 0).isLt
  have h1 : (i 1).val < 1024 := (i 1).isLt
  have hN : cfg0.N = 13 := N_0
  have ht : (i 0).val / 640 < cfg0.N := by omega
  refine ⟨⟨_, ht⟩, flush0_2 _, ?_⟩
  obtain ⟨-, -, ⟨e0, e1⟩⟩ := idx_in ⟨_, ht⟩
  show i ∈ ((View.whole main_v0).slice (win0_2.rect ⟨_, ht⟩)).set
  rw [View.set_slice_whole, Rect.mem_set_unit]
  intro a
  match a with
  | ⟨0, _⟩ => show win0_2.index ⟨_, ht⟩ 0 * 640 ≤ (i 0).val ∧ (i 0).val < win0_2.index ⟨_, ht⟩ 0 * 640 + 640; rw [e0]; dsimp only; omega
  | ⟨1, _⟩ => show win0_2.index ⟨_, ht⟩ 1 * 1024 ≤ (i 1).val ∧ (i 1).val < win0_2.index ⟨_, ht⟩ 1 * 1024 + 1024; rw [e1]; dsimp only; omega

/-- THE RESULT ARRAY after the run is the rows, normed. -/
theorem final (c : Dev nD) : (dats m 0 c).arrAt 2 cfg0.N = normed (A m c) (B m c) :=
  (dats m 0 c).arrAt_eq_of_cover 2 (normed (A m c) (B m c)) (fun t _ => flushed_eq m c t) cover

end Cert.NormForwardIdeal.Sum

namespace Cert.NormForwardReferenceIdeal.Terms

open Cert.NormForwardReferenceIdeal Cert.NormForwardReferenceIdeal.Gen Cert.Merge Cert.Norm
open Idealize.ShloMosaic Idealize.SL.Sem

/-- The reference's array. -/
theorem reference_at (x : Mat 8320 1024) (g : Mat 1 1024) :
    @Eq (Mat 8320 1024) (truncf (F := Ideal) .bf16 (mulf (mulf (x : FVec Ideal S8320x1024 .f32) (broadcastInDim S8320x1024 ![0, 1] bcast_S8320x1_S8320x1024_0_1 (Host.rsqrt (addf (Host.divf (broadcastInDim S8320x1 ![0] bcast_S8320_S8320x1_0 (Host.reduceAdd (mulf x x) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (broadcastInDim S1x1024 ![1] bcast_S1024_S1x1024_1 (shapeCast _ (g : FVec Ideal S1x1024 .f32) shapeCasts_S1x1024_S1024)))) bitsLt_bf16_f32)
      (normed x g) := by
  funext j
  unfold normed factor square
  pointwise

end Cert.NormForwardReferenceIdeal.Terms

namespace Cert.NormForwardIdeal.Sum

open Cert.NormForwardIdeal Cert.NormForwardIdeal.Gen Cert.NormForwardIdeal.Value Cert.Merge Cert.Norm
open Idealize.ShloMosaic Idealize.ShloMosaic.TcCoe Idealize.SL.Sem

/-- THE VALUES: the kernel's run and the reference's end with equal results. -/
theorem algebraic : Cert.algebraic_NormForwardIdeal_NormForwardReferenceIdeal := fun m g m' g' _ hagree =>
  ⟨fun c => normed (A m c) (B m c), (θ_run _ _ _).mono (fun r h c => ⟨(h c).1.trans (final m c), (h c).2⟩) (Value.run_blocks m g),
    (θ_run _ _ _).mono (fun r h c => ⟨(h c).1.trans (by
      rw [(hagree c).1, (hagree c).2]
      exact Cert.NormForwardReferenceIdeal.Terms.reference_at (A m c) (B m c)), (h c).2⟩) (Cert.NormForwardReferenceIdeal.Value.run (F := Ideal) m' g')⟩

end Cert.NormForwardIdeal.Sum

end
-- ==== Proof.Loss.lean ====
/-
  The loss over rows that are already normed: the error, a row's mean square error, and what a row adds to the gradient
  of the gains.
-/
module

public import Idealize.ShloMosaic.Lib.IdealHost
public import proofs.«01_k».proof.Proof.Norm

@[expose] public section

noncomputable section

namespace Cert.Loss

open Cert.Dots Cert.Merge Cert.Norm
open Idealize.ShloMosaic
open scoped BigOperators

/-- One half, as the programs write it. -/
abbrev half : EReal := Ideal.ofBits .f32 0x3F000000#32
/-- The reciprocal of the width. -/
abbrev part : EReal := Ideal.ofBits .f32 0x3A800000#32

/-- The error: the normed rows less the target. -/
def err {R : ℕ} (h : Mat R 1024) (t : Mat R 1024) (g : Mat 1 1024) : Mat R 1024 := fun i => normed h g i - t i

/-- The mean square error of a row. -/
def rowLoss {R : ℕ} (h : Mat R 1024) (t : Mat R 1024) (g : Mat 1 1024) (r : Fin R) : EReal :=
  Ideal.div (∑ k : Fin 1024, err h t g (ix2 r k) * err h t g (ix2 r k)) width

/-- What a row adds to the gradient of a gain. -/
def rowGain {R : ℕ} (h : Mat R 1024) (t : Mat R 1024) (g : Mat 1 1024) (k : Fin 1024) (r : Fin R) : EReal :=
  err h t g (ix2 r k) * part * (h (ix2 r k) * factor h r)

theorem half_eq : half = ((1 / 2 : ℝ) : EReal) := by simp [half, Ideal.ofBits, Ideal.ieee, -EReal.coe_mul]; norm_num
theorem part_eq : part = ((1 / 1024 : ℝ) : EReal) := by simp [part, Ideal.ofBits, Ideal.ieee, -EReal.coe_mul]; norm_num
theorem width_eq : width = ((1024 : ℝ) : EReal) := by simp [width, Ideal.ofBits, Ideal.ieee, -EReal.coe_mul]; norm_num
theorem two_eq : Ideal.ofBits .f32 0x40000000#32 = ((2 : ℝ) : EReal) := by simp [Ideal.ofBits, Ideal.ieee, -EReal.coe_mul]; norm_num

/-- One half goes into a sum. -/
theorem half_sum (f : ℕ → EReal) : ∀ n : ℕ, half * ∑ r ∈ Finset.range n, f r = ∑ r ∈ Finset.range n, half * f r
  | 0 => by simp
  | n + 1 => by
    rw [Finset.sum_range_succ, Finset.sum_range_succ, ← half_sum f n]
    have h0 : (0 : EReal) ≤ half := by rw [half_eq]; exact_mod_cast (by norm_num : (0 : ℝ) ≤ 1 / 2)
    have h1 : half ≠ ⊤ := by rw [half_eq]; exact EReal.coe_ne_top _
    exact EReal.left_distrib_of_nonneg_of_ne_top h0 h1 _ _

/-- The factor before a row's error in the derivative is twice the half of the reciprocal width. -/
theorem scale (e : EReal) : Ideal.div half width * (Ideal.ofBits .f32 0x40000000#32 * e) = e * part := by
  rw [← mul_assoc, mul_comm _ e]
  congr 1
  rw [half_eq, part_eq, width_eq, two_eq]
  have hw : ((1024 : ℝ) : EReal) ≠ 0 := by exact_mod_cast (by norm_num : (1024 : ℝ) ≠ 0)
  unfold Ideal.div
  rw [if_neg hw, ← EReal.coe_inv, ← EReal.coe_mul, ← EReal.coe_mul]
  norm_num

/-- The rows that the loss reads: all but the first 128. -/
def late (r : Fin 8192) : Fin 8320 := ⟨128 + r.val, by have := r.isLt; omega⟩

/-- The mean square error of a row of the whole array. -/
def lossAt (h : Mat 8320 1024) (t : Mat 8192 1024) (g : Mat 1 1024) (r : Fin 8192) : EReal :=
  Ideal.div (∑ k : Fin 1024, (normed h g (ix2 (late r) k) - t (ix2 r k)) * (normed h g (ix2 (late r) k) - t (ix2 r k))) width

/-- What a row of the whole array adds to the gradient of a gain. -/
def gainAt (h : Mat 8320 1024) (t : Mat 8192 1024) (g : Mat 1 1024) (k : Fin 1024) (r : Fin 8192) : EReal :=
  (normed h g (ix2 (late r) k) - t (ix2 r k)) * part * (h (ix2 (late r) k) * factor h (late r))

/-- A row of a block against the same row of the whole array: the error. -/
theorem err_late (x t : Mat 128 1024) (g : Mat 1 1024) (H : Mat 8320 1024) (T : Mat 8192 1024) (G : Mat 1 1024) (r : Fin 128) (q : Fin 8192)
    (hx : ∀ k : Fin 1024, x (ix2 r k) = H (ix2 (late q) k)) (ht : ∀ k : Fin 1024, t (ix2 r k) = T (ix2 q k))
    (hg : ∀ k : Fin 1024, g (ix2 0 k) = G (ix2 0 k)) (k : Fin 1024) : err x t g (ix2 r k) = normed H G (ix2 (late q) k) - T (ix2 q k) := by
  unfold err
  rw [ht k]
  exact congrArg (· - T (ix2 q k)) (normed_row x H g G (ix2 r k) (late q) hx (hg k))

/-- The mean square error of the row. -/
theorem rowLoss_late (x t : Mat 128 1024) (g : Mat 1 1024) (H : Mat 8320 1024) (T : Mat 8192 1024) (G : Mat 1 1024) (r : Fin 128) (q : Fin 8192)
    (hx : ∀ k : Fin 1024, x (ix2 r k) = H (ix2 (late q) k)) (ht : ∀ k : Fin 1024, t (ix2 r k) = T (ix2 q k))
    (hg : ∀ k : Fin 1024, g (ix2 0 k) = G (ix2 0 k)) : rowLoss x t g r = lossAt H T G q := by
  unfold rowLoss lossAt
  congr 1
  exact Finset.sum_congr rfl fun k _ => by rw [err_late x t g H T G r q hx ht hg k]

/-- What the row adds to the gradient of a gain. -/
theorem rowGain_late (x t : Mat 128 1024) (g : Mat 1 1024) (H : Mat 8320 1024) (T : Mat 8192 1024) (G : Mat 1 1024) (r : Fin 128) (q : Fin 8192)
    (hx : ∀ k : Fin 1024, x (ix2 r k) = H (ix2 (late q) k)) (ht : ∀ k : Fin 1024, t (ix2 r k) = T (ix2 q k))
    (hg : ∀ k : Fin 1024, g (ix2 0 k) = G (ix2 0 k)) (k : Fin 1024) : rowGain x t g k r = gainAt H T G k q := by
  unfold rowGain gainAt
  rw [err_late x t g H T G r q hx ht hg k, hx k]
  unfold factor
  rw [square_row x H r (late q) hx]

/-- A sum whose first 128 terms are zero. -/
theorem sum_late (F : Fin 8320 → EReal) (f : Fin 8192 → EReal) (h0 : ∀ r : Fin 8320, r.val < 128 → F r = 0) (h1 : ∀ r : Fin 8192, F (late r) = f r) :
    ∑ r, F r = ∑ r, f r := by
  refine (Fin.sum_univ_add (a := 128) (b := 8192) F).trans ?_
  rw [Finset.sum_eq_zero (fun r _ => h0 _ r.isLt), zero_add]
  exact Finset.sum_congr rfl fun r _ => h1 r

/-- A function of the rows as a function of the numbers. -/
def nat (f : Fin 8192 → EReal) (n : ℕ) : EReal := if h : n < 8192 then f ⟨n, h⟩ else 0

/-- The sum over the rows, in 64 blocks of 128. -/
theorem sum_nat (f : Fin 8192 → EReal) : ∑ s ∈ Finset.range 64, ∑ r ∈ Finset.range 128, nat f (s * 128 + r) = ∑ r, f r := by
  rw [sum_blocks, ← Fin.sum_univ_eq_sum_range (nat f) (64 * 128)]
  exact Finset.sum_congr rfl fun r _ => dif_pos r.isLt

/-- The same with one half before each block. -/
theorem half_sum_nat (f : Fin 8192 → EReal) : ∑ s ∈ Finset.range 64, half * ∑ r ∈ Finset.range 128, nat f (s * 128 + r) = half * ∑ r, f r := by
  rw [← half_sum, sum_nat]

/-- A sum over the rows of a block. -/
theorem sum_block (f : Fin 8192 → EReal) (F : Fin 128 → EReal) (n : ℕ) (hn : n < 64)
    (h : ∀ r : Fin 128, F r = f ⟨n * 128 + r.val, by have := r.isLt; omega⟩) : ∑ r, F r = ∑ r ∈ Finset.range 128, nat f (n * 128 + r) := by
  rw [← Fin.sum_univ_eq_sum_range (fun r => nat f (n * 128 + r)) 128]
  refine Finset.sum_congr rfl fun r _ => (h r).trans ?_
  have hr : n * 128 + r.val < 8192 := by have := r.isLt; omega
  unfold nat
  rw [dif_pos hr]

end Cert.Loss

end
-- ==== Proof.LossSum.lean ====
/-
  The loss and its gradient with respect to the gains: the kernel adds up 64 blocks of 128 rows, the reference takes one
  sum over the 8192 rows.
-/
module

public import proofs.«01_k».proof.Proof.Gen.LossForwardIdeal.Value
public import proofs.«01_k».proof.Proof.Gen.LossForwardReferenceIdeal.Run
public import proofs.«01_k».proof.Proof.Loss
public import proofs.«01_k».proof.Defs

@[expose] public section

set_option maxRecDepth 16384

noncomputable section

namespace Cert.LossForwardReferenceIdeal.Terms

open Cert.LossForwardReferenceIdeal Cert.LossForwardReferenceIdeal.Gen Cert.Merge Cert.Norm Cert.Loss
open Idealize.ShloMosaic Idealize.SL.Sem

/-- The reference's loss. -/
theorem loss_at (x : FVec Ideal S8320x1024 .f32) (t : FVec Ideal S8192x1024 .f32) (g : FVec Ideal S1x1024 .f32) (j : S1x128.Idx) :
    @Eq EReal ((broadcastInDim S1x128 ![] bcast_S_S1x128 (mulf (F := Ideal) (constant S_ .f32 0x3F000000#32) (Host.reduceAdd (Host.divf (Host.reduceAdd (mulf (subf (extractStridedSlice S8192x1024 ![128, 0] (mulf (mulf x (broadcastInDim S8320x1024 ![0, 1] bcast_S8320x1_S8320x1024_0_1 (Host.rsqrt (addf (Host.divf (broadcastInDim S8320x1 ![0] bcast_S8320_S8320x1_0 (Host.reduceAdd (mulf x x) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (broadcastInDim S1x1024 ![1] bcast_S1024_S1x1024_1 (shapeCast _ g shapeCasts_S1x1024_S1024)))) slices_S8320x1024_S8192x1024_128_0) t) (subf (extractStridedSlice S8192x1024 ![128, 0] (mulf (mulf x (broadcastInDim S8320x1024 ![0, 1] bcast_S8320x1_S8320x1024_0_1 (Host.rsqrt (addf (Host.divf (broadcastInDim S8320x1 ![0] bcast_S8320_S8320x1_0 (Host.reduceAdd (mulf x x) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (broadcastInDim S1x1024 ![1] bcast_S1024_S1x1024_1 (shapeCast _ g shapeCasts_S1x1024_S1024)))) slices_S8320x1024_S8192x1024_128_0) t)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) : FVec Ideal S1x128 .f32) j) (half * ∑ r : Fin 8192, lossAt x t g r) := by
  unfold lossAt normed factor square
  pointwise
  rfl

/-- The reference's gradient of the gains. -/
theorem gain_at (x : FVec Ideal S8320x1024 .f32) (t : FVec Ideal S8192x1024 .f32) (g : FVec Ideal S1x1024 .f32) (j : S1x1024.Idx) :
    @Eq EReal ((broadcastInDim S1x1024 ![1] bcast_S1024_S1x1024_1 (Host.reduceAdd (shapeCast _ (Host.reduceAdd (mulf (mulf x (broadcastInDim S8320x1024 ![0, 1] bcast_S8320x1_S8320x1024_0_1 (Host.rsqrt (addf (Host.divf (broadcastInDim S8320x1 ![0] bcast_S8320_S8320x1_0 (Host.reduceAdd (mulf x x) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (pad S8320x1024 ![128, 0] ![0, 0] ![0, 0] (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (extractStridedSlice S8192x1024 ![128, 0] (mulf (mulf x (broadcastInDim S8320x1024 ![0, 1] bcast_S8320x1_S8320x1024_0_1 (Host.rsqrt (addf (Host.divf (broadcastInDim S8320x1 ![0] bcast_S8320_S8320x1_0 (Host.reduceAdd (mulf x x) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (broadcastInDim S1x1024 ![1] bcast_S1024_S1x1024_1 (shapeCast _ g shapeCasts_S1x1024_S1024)))) slices_S8320x1024_S8192x1024_128_0) t))) (constant S_ .f32 0x00000000#32) pads_S8192x1024_S8320x1024_12800_000 h_S_)) (constant S_ .f32 0x00000000#32) reducesTo_S8320x1024_S1024_d0 h_S_) shapeCasts_S1024_S1x1024) (constant S_ .f32 0x00000000#32) reducesTo_S1x1024_S1024_d0 h_S_) : FVec Ideal S1x1024 .f32) j) (∑ r : Fin 8192, gainAt x t g (j 1) r) := by
  pointwise
  simp only [Finset.univ_unique, Finset.sum_singleton]
  refine sum_late _ _ (fun r hr => ?_) (fun r => ?_)
  · rw [dif_neg (by omega), mul_zero]
  · have hl : (late r).val - 128 = r.val := Nat.add_sub_cancel_left ..
    have e1 : ∀ p, (⟨128 + ((late r).val - 128), p⟩ : Fin 8320) = late r := fun _ => Fin.ext (congrArg (128 + ·) hl)
    have e2 : ∀ p, (⟨(late r).val - 128, p⟩ : Fin 8192) = r := fun _ => Fin.ext hl
    rw [dif_pos ⟨Nat.le_add_right .., by rw [hl]; exact r.isLt⟩]
    simp only [e1, e2]
    have hj : g j = g (ix2 0 (j 1)) := read_same (g : Mat 1 1024) j (ix2 0 (j 1)) (by have h : (j 0).val < 1 := (j 0).isLt; show (j 0).val = 0; omega) rfl
    rw [scale, hj, mul_comm]
    rfl

end Cert.LossForwardReferenceIdeal.Terms

namespace Cert.LossForwardIdeal.Sum

open Cert.LossForwardIdeal Cert.LossForwardIdeal.Gen Cert.LossForwardIdeal.Value Cert.Dots Cert.Merge Cert.Norm Cert.Loss
open Idealize.ShloMosaic Idealize.ShloMosaic.TcCoe Idealize.SL.Sem
open scoped BigOperators

/-- What a point adds to the loss. -/
theorem pay_loss (x t : Mat 128 1024) (g : Mat 1 1024) (acc : Mat 1 128) (j : S1x128.Idx) :
    @Eq EReal (k0_pay9 (F := Ideal) x g t acc j) (acc j + half * ∑ r : Fin 128, rowLoss x t g r) := by
  unfold k0_pay9 k0_pay8 k0_pay7 k0_pay6 rowLoss err normed factor square
  pointwise
  simp only [Finset.univ_unique, Finset.sum_singleton]

/-- What a point adds to the gradient of the gains. -/
theorem pay_gain (x t : Mat 128 1024) (g : Mat 1 1024) (acc : Mat 1 1024) (j : S1x1024.Idx) :
    @Eq EReal (k0_pay4 (F := Ideal) (k0_pay11 acc) (k0_pay12 x g t) j) (acc j + ∑ r : Fin 128, rowGain x t g (j 1) r) := by
  unfold k0_pay4 k0_pay11 k0_pay12 k0_pay10 k0_pay8 k0_pay7 k0_pay6 rowGain err normed factor square
  pointwise

theorem hz : (![0, 0] : Fin 2 → Nat) = fun _ => 0 := funext fun a => by fin_cases a <;> rfl

section

variable {F : FTy → Type} [FloatOps F]

/-- The first point leaves zero in the loss's buffer. -/
theorem out_A_4_eq (c : Dev nD) (i : grid0.Coords) (arg1 : Memref sig .tc .vmem S128x1024 .f32) (harg1 : arg1.IsWhole) (arg2 : Memref sig .tc .vmem S128x1024 .f32) (harg2 : arg2.IsWhole)
    (arg3 : Memref sig .tc .vmem S1x1024 .f32) (harg3 : arg3.IsWhole) (arg4 : Memref sig .tc .vmem S128x1024 .f32) (harg4 : arg4.IsWhole) (arg5 : Memref sig .tc .vmem S1x128 .f32) (harg5 : arg5.IsWhole)
    (arg6 : Memref sig .tc .vmem S1x1024 .f32) (harg6 : arg6.IsWhole) (hc0 : cond0_0 i) (hc1 : ¬cond0_1 i)
    (x0 : Vec F S128x1024 .f32) (x1 : Vec F S128x1024 .f32) (x2 : Vec F S1x1024 .f32) :
    out0_A_4 c i arg1 harg1 arg2 harg2 arg3 harg3 arg4 harg4 arg5 harg5 arg6 harg6 hc0 hc1 x0 x1 x2 = k0_pay2 (F := F) := by
  unfold out0_A_4
  rw [View.read_writes_eq_canon _ _ _ (cover0_A_4 c i arg1 harg1 arg2 harg2 arg3 harg3 arg4 harg4 arg5 harg5 arg6 harg6 hc0 hc1 x0 x1 x2)]
  unfold kernelRun0_A
  dsimp only
  try sl_unfold_words
  rw [View.canon_unit_zero hz]

/-- The first point leaves zero in the buffer of the gains' gradient. -/
theorem out_A_5_eq (c : Dev nD) (i : grid0.Coords) (arg1 : Memref sig .tc .vmem S128x1024 .f32) (harg1 : arg1.IsWhole) (arg2 : Memref sig .tc .vmem S128x1024 .f32) (harg2 : arg2.IsWhole)
    (arg3 : Memref sig .tc .vmem S1x1024 .f32) (harg3 : arg3.IsWhole) (arg4 : Memref sig .tc .vmem S128x1024 .f32) (harg4 : arg4.IsWhole) (arg5 : Memref sig .tc .vmem S1x128 .f32) (harg5 : arg5.IsWhole)
    (arg6 : Memref sig .tc .vmem S1x1024 .f32) (harg6 : arg6.IsWhole) (hc0 : cond0_0 i) (hc1 : ¬cond0_1 i)
    (x0 : Vec F S128x1024 .f32) (x1 : Vec F S128x1024 .f32) (x2 : Vec F S1x1024 .f32) :
    out0_A_5 c i arg1 harg1 arg2 harg2 arg3 harg3 arg4 harg4 arg5 harg5 arg6 harg6 hc0 hc1 x0 x1 x2 = k0_pay3 (F := F) := by
  unfold out0_A_5
  rw [View.read_writes_eq_canon _ _ _ (cover0_A_5 c i arg1 harg1 arg2 harg2 arg3 harg3 arg4 harg4 arg5 harg5 arg6 harg6 hc0 hc1 x0 x1 x2)]
  unfold kernelRun0_A
  dsimp only
  try sl_unfold_words
  rw [View.canon_unit_zero hz]

/-- A later point leaves its store over what the point before left in the loss's buffer. -/
theorem out_B_4_eq (c : Dev nD) (i : grid0.Coords) (arg1 : Memref sig .tc .vmem S128x1024 .f32) (harg1 : arg1.IsWhole) (arg2 : Memref sig .tc .vmem S128x1024 .f32) (harg2 : arg2.IsWhole)
    (arg3 : Memref sig .tc .vmem S1x1024 .f32) (harg3 : arg3.IsWhole) (arg4 : Memref sig .tc .vmem S128x1024 .f32) (harg4 : arg4.IsWhole) (arg5 : Memref sig .tc .vmem S1x128 .f32) (harg5 : arg5.IsWhole)
    (arg6 : Memref sig .tc .vmem S1x1024 .f32) (harg6 : arg6.IsWhole) (hc0 : ¬cond0_0 i) (hc1 : cond0_1 i)
    (x0 : Vec F S128x1024 .f32) (x1 : Vec F S128x1024 .f32) (x2 : Vec F S1x1024 .f32) (xo4 : Vec F S1x128 .f32) (xo5 : Vec F S1x1024 .f32) :
    out0_B_4 c i arg1 harg1 arg2 harg2 arg3 harg3 arg4 harg4 arg5 harg5 arg6 harg6 hc0 hc1 x0 x1 x2 xo4 xo5 = k0_pay9 x0 x2 x1 xo4 := by
  unfold out0_B_4
  rw [View.read_writes_eq_canon _ _ _ (cover0_B_4 c i arg1 harg1 arg2 harg2 arg3 harg3 arg4 harg4 arg5 harg5 arg6 harg6 hc0 hc1 x0 x1 x2 xo4 xo5)]
  unfold kernelRun0_B
  dsimp only
  try sl_unfold_words
  rw [View.canon_unit_zero hz]
  simp only [View.readAt_eq_ld, harg1.read_unread, harg2.read_unread, harg3.read_unread, harg5.read_unread, harg6.read_unread, View.ld_unit_zero (S := S128x1024) hz,
    View.ld_unit_zero (S := S1x128) hz, View.ld_unit_zero (S := S1x1024) hz, shapeCast_self]

/-- A later point leaves its store over what the point before left in the buffer of the gains' gradient. -/
theorem out_B_5_eq (c : Dev nD) (i : grid0.Coords) (arg1 : Memref sig .tc .vmem S128x1024 .f32) (harg1 : arg1.IsWhole) (arg2 : Memref sig .tc .vmem S128x1024 .f32) (harg2 : arg2.IsWhole)
    (arg3 : Memref sig .tc .vmem S1x1024 .f32) (harg3 : arg3.IsWhole) (arg4 : Memref sig .tc .vmem S128x1024 .f32) (harg4 : arg4.IsWhole) (arg5 : Memref sig .tc .vmem S1x128 .f32) (harg5 : arg5.IsWhole)
    (arg6 : Memref sig .tc .vmem S1x1024 .f32) (harg6 : arg6.IsWhole) (hc0 : ¬cond0_0 i) (hc1 : cond0_1 i)
    (x0 : Vec F S128x1024 .f32) (x1 : Vec F S128x1024 .f32) (x2 : Vec F S1x1024 .f32) (xo4 : Vec F S1x128 .f32) (xo5 : Vec F S1x1024 .f32) :
    out0_B_5 c i arg1 harg1 arg2 harg2 arg3 harg3 arg4 harg4 arg5 harg5 arg6 harg6 hc0 hc1 x0 x1 x2 xo4 xo5 = k0_pay4 (k0_pay11 xo5) (k0_pay12 x0 x2 x1) := by
  unfold out0_B_5
  rw [View.read_writes_eq_canon _ _ _ (cover0_B_5 c i arg1 harg1 arg2 harg2 arg3 harg3 arg4 harg4 arg5 harg5 arg6 harg6 hc0 hc1 x0 x1 x2 xo4 xo5)]
  unfold kernelRun0_B
  dsimp only
  try sl_unfold_words
  rw [View.canon_unit_zero hz]
  simp only [View.readAt_eq_ld, harg1.read_unread, harg2.read_unread, harg3.read_unread, harg5.read_unread, harg6.read_unread, View.ld_unit_zero (S := S128x1024) hz,
    View.ld_unit_zero (S := S1x128) hz, View.ld_unit_zero (S := S1x1024) hz, shapeCast_self]

end

variable (m : (ℓ : Loc nD τ sig) → Buf (Elt Ideal) ℓ)

/-- The rows, as they stand at launch. -/
abbrev A (c : Dev nD) : Mat 8320 1024 := m ((c : Thread nD τ).loc main_arg0)
/-- The target. -/
abbrev B (c : Dev nD) : Mat 8192 1024 := m ((c : Thread nD τ).loc main_arg1)
/-- The gains. -/
abbrev C (c : Dev nD) : Mat 1 1024 := m ((c : Thread nD τ).loc main_arg2)

/-- The blocks of a point: its rows, the target's rows one block behind, and the gains. -/
theorem idx_in : ∀ t : Fin cfg0.N, (win0_0.index t (0 : Fin 2) = t.val ∧ win0_0.index t (1 : Fin 2) = 0)
    ∧ (win0_1.index t (0 : Fin 2) = t.val - 1 ∧ win0_1.index t (1 : Fin 2) = 0)
    ∧ (win0_2.index t (0 : Fin 2) = 0 ∧ win0_2.index t (1 : Fin 2) = 0) :=
  (by decide +kernel : ∀ t : Fin grid0.N, _)

/-- The last point alone writes back, and it writes the whole arrays. -/
theorem idx_out : ∀ t : Fin cfg0.N, ((cfg0.win 4).flush t = true → t.val = 64) ∧ ((cfg0.win 5).flush t = true → t.val = 64)
    ∧ (win0_4.index t (0 : Fin 2) = 0 ∧ win0_4.index t (1 : Fin 2) = 0) ∧ (win0_5.index t (0 : Fin 2) = 0 ∧ win0_5.index t (1 : Fin 2) = 0) :=
  (by decide +kernel : ∀ t : Fin grid0.N, _)

/-- The last point. -/
def last : Fin cfg0.N := ⟨64, by rw [show cfg0.N = 65 from N_0]; omega⟩

theorem flush_last : (cfg0.win 4).flush last = true ∧ (cfg0.win 5).flush last = true := by decide +kernel

/-- The rows of a point. -/
theorem blk0 (c : Dev nD) (n : ℕ) (h : n + 1 < cfg0.N) (hn : n < 64) (r : Fin 128) (k : Fin 1024) :
    @Eq EReal (iblk m c 0 ⟨n + 1, h⟩ (ix2 r k)) (A m c (ix2 (late ⟨n * 128 + r.val, by have := r.isLt; omega⟩) k)) := by
  obtain ⟨⟨e0, e1⟩, -, -⟩ := idx_in ⟨n + 1, h⟩
  unfold iblk
  rw [View.read_apply]
  refine read_same (A m c) _ _ ?_ ?_
  · show win0_0.index ⟨n + 1, h⟩ 0 * 128 + 1 * r.val = 128 + (n * 128 + r.val); rw [e0]; dsimp only; omega
  · show win0_0.index ⟨n + 1, h⟩ 1 * 1024 + 1 * k.val = k.val; rw [e1]; omega

/-- The target's rows at a point. -/
theorem blk1 (c : Dev nD) (n : ℕ) (h : n + 1 < cfg0.N) (hn : n < 64) (r : Fin 128) (k : Fin 1024) :
    @Eq EReal (iblk m c 1 ⟨n + 1, h⟩ (ix2 r k)) (B m c (ix2 ⟨n * 128 + r.val, by have := r.isLt; omega⟩ k)) := by
  obtain ⟨-, ⟨e0, e1⟩, -⟩ := idx_in ⟨n + 1, h⟩
  unfold iblk
  rw [View.read_apply]
  refine read_same (B m c) _ _ ?_ ?_
  · show win0_1.index ⟨n + 1, h⟩ 0 * 128 + 1 * r.val = n * 128 + r.val; rw [e0]; dsimp only; omega
  · show win0_1.index ⟨n + 1, h⟩ 1 * 1024 + 1 * k.val = k.val; rw [e1]; omega

/-- The gains at a point. -/
theorem blk2 (c : Dev nD) (t : Fin cfg0.N) (k : Fin 1024) : @Eq EReal (iblk m c 2 t (ix2 0 k)) (C m c (ix2 0 k)) := by
  obtain ⟨-, -, ⟨e0, e1⟩⟩ := idx_in t
  unfold iblk
  rw [View.read_apply]
  refine read_same (C m c) _ _ ?_ ?_
  · show win0_2.index t 0 * 1 + 1 * 0 = 0; rw [e0]
  · show win0_2.index t 1 * 1024 + 1 * k.val = k.val; rw [e1]; omega

/-- The loss's buffer after a point: the halves of the blocks so far. -/
theorem outs_loss (c : Dev nD) : ∀ (n : ℕ) (hn : n < cfg0.N) (j : S1x128.Idx), @Eq EReal ((outsAt0 m c n hn).2.1 j)
    (∑ s ∈ Finset.range n, half * ∑ r ∈ Finset.range 128, nat (lossAt (A m c) (B m c) (C m c)) (s * 128 + r))
  | 0, hn, j => by
    rw [outsAt0_A m c ⟨0, hn⟩ rfl (by simp)]
    dsimp only
    rw [out_A_4_eq, Finset.sum_range_zero]
    exact ofBits_zero
  | n + 1, hn, j => by
    have hN : cfg0.N = 65 := N_0
    have h64 : n < 64 := by omega
    rw [outsAt0_B m c ⟨n + 1, hn⟩ (by dsimp only; omega) (by dsimp only; omega)]
    dsimp only
    rw [out_B_4_eq]
    refine (pay_loss _ _ _ _ j).trans ?_
    rw [Finset.sum_range_succ]
    exact congrArg₂ (@HAdd.hAdd EReal EReal EReal _) (outs_loss c n (Nat.lt_of_succ_lt hn) j) (congrArg (half * ·) (sum_block _ _ n h64 fun r =>
      rowLoss_late _ _ _ (A m c) (B m c) (C m c) r _ (fun k => blk0 m c n hn h64 r k) (fun k => blk1 m c n hn h64 r k) (fun k => blk2 m c ⟨n + 1, hn⟩ k)))

/-- The buffer of the gains' gradient after a point: the blocks so far. -/
theorem outs_gain (c : Dev nD) : ∀ (n : ℕ) (hn : n < cfg0.N) (j : S1x1024.Idx), @Eq EReal ((outsAt0 m c n hn).2.2 j)
    (∑ s ∈ Finset.range n, ∑ r ∈ Finset.range 128, nat (gainAt (A m c) (B m c) (C m c) (j 1)) (s * 128 + r))
  | 0, hn, j => by
    rw [outsAt0_A m c ⟨0, hn⟩ rfl (by simp)]
    dsimp only
    rw [out_A_5_eq, Finset.sum_range_zero]
    exact ofBits_zero
  | n + 1, hn, j => by
    have hN : cfg0.N = 65 := N_0
    have h64 : n < 64 := by omega
    rw [outsAt0_B m c ⟨n + 1, hn⟩ (by dsimp only; omega) (by dsimp only; omega)]
    dsimp only
    rw [out_B_5_eq]
    refine (pay_gain _ _ _ _ j).trans ?_
    rw [Finset.sum_range_succ]
    exact congrArg₂ (@HAdd.hAdd EReal EReal EReal _) (outs_gain c n (Nat.lt_of_succ_lt hn) j) (sum_block _ _ n h64 fun r =>
      rowGain_late _ _ _ (A m c) (B m c) (C m c) r _ (fun k => blk0 m c n hn h64 r k) (fun k => blk1 m c n hn h64 r k) (fun k => blk2 m c ⟨n + 1, hn⟩ k) (j 1))

/-- The loss, in every lane. -/
def G4 (c : Dev nD) : Mat 1 128 := fun _ => half * ∑ r : Fin 8192, lossAt (A m c) (B m c) (C m c) r
/-- The gradient of the gains. -/
def G5 (c : Dev nD) : Mat 1 1024 := fun i => ∑ r : Fin 8192, gainAt (A m c) (B m c) (C m c) (i 1) r

/-- What the last point writes back of the loss. -/
theorem flushed4_eq (c : Dev nD) (t : Fin cfg0.N) (hf : (cfg0.win 4).flush t = true) :
    (dats m 0 c).flushed 4 t = (win0_4.blk t).view.read (Elt Ideal) (G4 m c) := by
  have ht : t.val = 64 := (idx_out t).1 hf
  rw [flushed4]
  funext y
  rw [View.read_apply]
  refine (outs_loss m c t.val t.isLt _).trans ?_
  rw [ht]
  exact half_sum_nat _

/-- What the last point writes back of the gains' gradient. -/
theorem flushed5_eq (c : Dev nD) (t : Fin cfg0.N) (hf : (cfg0.win 5).flush t = true) :
    (dats m 0 c).flushed 5 t = (win0_5.blk t).view.read (Elt Ideal) (G5 m c) := by
  have ht : t.val = 64 := (idx_out t).2.1 hf
  obtain ⟨-, -, -, ⟨e0, e1⟩⟩ := idx_out t
  rw [flushed5]
  funext y
  rw [View.read_apply]
  refine (outs_gain m c t.val t.isLt _).trans ?_
  rw [ht]
  refine (sum_nat _).trans (Eq.symm (read_same (G5 m c) _ (ix2 (y 0) (y 1)) ?_ ?_))
  · show win0_5.index t 0 * 1 + 1 * (y 0).val = (y 0).val; rw [e0]; omega
  · show win0_5.index t 1 * 1024 + 1 * (y 1).val = (y 1).val; rw [e1]; omega

/-- The last point's block is the whole loss. -/
theorem cover4 (i : S1x128.Idx) : ∃ t : Fin cfg0.N, (cfg0.win 4).flush t = true ∧ i ∈ ((cfg0.win 4).blk t).view.set := by
  have h0 : (i 0).val < 1 := (i 0).isLt
  have h1 : (i 1).val < 128 := (i 1).isLt
  refine ⟨last, flush_last.1, ?_⟩
  obtain ⟨-, -, ⟨e0, e1⟩, -⟩ := idx_out last
  show i ∈ ((View.whole main_v0_1).slice (win0_4.rect last)).set
  rw [View.set_slice_whole, Rect.mem_set_unit]
  intro a
  match a with
  | ⟨0, _⟩ => show win0_4.index last 0 * 1 ≤ (i 0).val ∧ (i 0).val < win0_4.index last 0 * 1 + 1; rw [e0]; omega
  | ⟨1, _⟩ => show win0_4.index last 1 * 128 ≤ (i 1).val ∧ (i 1).val < win0_4.index last 1 * 128 + 128; rw [e1]; omega

/-- The last point's block is the whole gradient. -/
theorem cover5 (i : S1x1024.Idx) : ∃ t : Fin cfg0.N, (cfg0.win 5).flush t = true ∧ i ∈ ((cfg0.win 5).blk t).view.set := by
  have h0 : (i 0).val < 1 := (i 0).isLt
  have h1 : (i 1).val < 1024 := (i 1).isLt
  refine ⟨last, flush_last.2, ?_⟩
  obtain ⟨-, -, -, ⟨e0, e1⟩⟩ := idx_out last
  show i ∈ ((View.whole main_v0_2).slice (win0_5.rect last)).set
  rw [View.set_slice_whole, Rect.mem_set_unit]
  intro a
  match a with
  | ⟨0, _⟩ => show win0_5.index last 0 * 1 ≤ (i 0).val ∧ (i 0).val < win0_5.index last 0 * 1 + 1; rw [e0]; omega
  | ⟨1, _⟩ => show win0_5.index last 1 * 1024 ≤ (i 1).val ∧ (i 1).val < win0_5.index last 1 * 1024 + 1024; rw [e1]; omega

/-- The loss after the run. -/
theorem final4 (c : Dev nD) : (dats m 0 c).arrAt 4 cfg0.N = G4 m c :=
  (dats m 0 c).arrAt_eq_of_cover 4 (G4 m c) (fun t hf => flushed4_eq m c t hf) cover4

/-- The gradient of the gains after the run. -/
theorem final5 (c : Dev nD) : (dats m 0 c).arrAt 5 cfg0.N = G5 m c :=
  (dats m 0 c).arrAt_eq_of_cover 5 (G5 m c) (fun t hf => flushed5_eq m c t hf) cover5

/-- THE VALUES: the kernel's run and the reference's end with equal results. -/
theorem algebraic : Cert.algebraic_LossForwardIdeal_LossForwardReferenceIdeal := fun m g m' g' _ hagree =>
  ⟨fun c => G4 m c, fun c => G5 m c,
    (θ_run _ _ _).mono (fun r h c => ⟨(h c).2.1.trans (final4 m c), (h c).2.2.1.trans (final5 m c), (h c).2.2.2⟩) (Value.run_blocks m g),
    (θ_run _ _ _).mono (fun r h c => ⟨(h c).1.trans (by
      rw [(hagree c).1, (hagree c).2.1, (hagree c).2.2]
      funext j
      exact Cert.LossForwardReferenceIdeal.Terms.loss_at (A m c) (B m c) (C m c) j), (h c).2.1.trans (by
      rw [(hagree c).1, (hagree c).2.1, (hagree c).2.2]
      funext j
      exact Cert.LossForwardReferenceIdeal.Terms.gain_at (A m c) (B m c) (C m c) j), (h c).2.2⟩) (Cert.LossForwardReferenceIdeal.Value.run (F := Ideal) m' g')⟩

end Cert.LossForwardIdeal.Sum

end
-- ==== Proof.LossBack.lean ====
/-
  The gradient of the loss with respect to the rows: the kernel's one product against the derivative by the rule for a
  product and the reciprocal root. They are equal over all extended reals: an infinite row has factor zero.
-/
module

public import proofs.«01_k».proof.Proof.Gen.LossGradientIdeal.Value
public import proofs.«01_k».proof.Proof.Gen.LossGradientReferenceIdeal.Run
public import proofs.«01_k».proof.Proof.Loss
public import proofs.«01_k».proof.Proof.MergeLaws
public import proofs.«01_k».proof.Defs

@[expose] public section

set_option maxRecDepth 16384

noncomputable section

namespace Cert.LossBack

open Cert.Dots Cert.Merge Cert.Norm Cert.Loss
open Idealize.ShloMosaic
open scoped BigOperators

/-- Minus one half, as the reference writes it. -/
abbrev minusHalf : EReal := Ideal.ofBits .f32 3204448256#32

theorem minusHalf_eq : minusHalf = ((-(1 / 2) : ℝ) : EReal) := by simp [minusHalf, Ideal.ofBits, Ideal.ieee, -EReal.coe_mul]; norm_num

/-- The small number under the root is a positive real. -/
theorem eps_pos : ∃ e : ℝ, 0 < e ∧ eps = (e : EReal) :=
  ⟨8796093 / 2 ^ 43, by norm_num, by simp [eps, Ideal.ofBits, Ideal.ieee, -EReal.coe_mul]; norm_num⟩

/-- A sum of reals. -/
theorem sum_coe {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

/-- A quotient of reals. -/
theorem div_coe (x y : ℝ) (hy : y ≠ 0) : Ideal.div (x : EReal) (y : EReal) = ((x / y : ℝ) : EReal) := by
  have h : (y : EReal) ≠ 0 := by exact_mod_cast hy
  unfold Ideal.div
  rw [if_neg h, ← EReal.coe_inv, ← EReal.coe_mul, div_eq_mul_inv]

/-- The reciprocal root of a positive real. -/
theorem rsqrt_pos (w : ℝ) (hw : 0 < w) : Ideal.rsqrt (w : EReal) = (((Real.sqrt w)⁻¹ : ℝ) : EReal) := by
  rw [Ideal.rsqrt_coe, if_neg (not_lt.mpr hw.le), if_neg hw.ne']

/-- A row's gradient as the kernel writes it: the gradient at the normed row, less its part along that row. -/
def rowBack (a d : Fin 1024 → EReal) (v : EReal) (k : Fin 1024) : EReal :=
  Ideal.rsqrt v * (d k - a k * Ideal.rsqrt v * Ideal.div (∑ j, d j * (a j * Ideal.rsqrt v)) width)

/-- A row's gradient as the rules give it. -/
def rowRule (a d : Fin 1024 → EReal) (v : EReal) (k : Fin 1024) : EReal :=
  d k * Ideal.rsqrt v + a k * ∑ _x : Fin 1, Ideal.div ((∑ j, a j * d j) * (minusHalf * Ideal.div (Ideal.rsqrt v) v)) width
    + (∑ _x : Fin 1, Ideal.div ((∑ j, a j * d j) * (minusHalf * Ideal.div (Ideal.rsqrt v) v)) width) * a k

/-- An extended real twice. -/
theorem twice (z : EReal) : z + z = ((2 : ℝ) : EReal) * z := by
  induction z with
  | bot => rw [EReal.coe_mul_bot_of_pos (by norm_num), EReal.bot_add]
  | top => rw [EReal.coe_mul_top_of_pos (by norm_num), EReal.top_add_top]
  | coe x => rw [← EReal.coe_add, ← EReal.coe_mul, two_mul]

/-- A real that isn't negative goes into a sum. -/
theorem sum_times {n : ℕ} (f : Fin n → EReal) (r : ℝ) (hr : 0 ≤ r) : (∑ k, f k) * (r : EReal) = ∑ k, f k * (r : EReal) := by
  classical
  have h : ∀ s : Finset (Fin n), (∑ k ∈ s, f k) * (r : EReal) = ∑ k ∈ s, f k * (r : EReal) := by
    intro s
    induction s using Finset.induction_on with
    | empty => simp
    | insert k s hk ih =>
      rw [Finset.sum_insert hk, Finset.sum_insert hk, ← ih]
      exact EReal.right_distrib_of_nonneg_of_ne_top (by exact_mod_cast hr) (EReal.coe_ne_top r) _ _
  exact h Finset.univ

/-- The quotient by the width. -/
theorem div_width (x : EReal) : Ideal.div x width = x * ((1024⁻¹ : ℝ) : EReal) := by
  have h : ((1024 : ℝ) : EReal) ≠ 0 := by exact_mod_cast (by norm_num : (1024 : ℝ) ≠ 0)
  rw [width_eq]
  unfold Ideal.div
  rw [if_neg h, ← EReal.coe_inv]

/-- Over a real row with a positive real under the root the two are equal, -/
theorem row_law_real (a d : Fin 1024 → EReal) (ha : ∀ k, IsReal (a k)) (w : ℝ) (hw : 0 < w) (k : Fin 1024) :
    rowRule a d (w : EReal) k = rowBack a d (w : EReal) k := by
  choose α hα using ha
  unfold rowRule rowBack
  simp only [Finset.univ_unique, Finset.sum_singleton]
  rw [rsqrt_pos w hw, minusHalf_eq, div_coe _ w hw.ne', div_width, div_width]
  have hs : (Real.sqrt w)⁻¹ * (Real.sqrt w)⁻¹ = w⁻¹ := by rw [← mul_inv, Real.mul_self_sqrt hw.le]
  have hr : 0 ≤ (Real.sqrt w)⁻¹ := inv_nonneg.mpr (Real.sqrt_nonneg w)
  generalize (Real.sqrt w)⁻¹ = r at hs hr ⊢
  have h2 : ∑ j, d j * (a j * (r : EReal)) = (∑ j, a j * d j) * (r : EReal) := by
    rw [sum_times _ r hr]
    exact Finset.sum_congr rfl fun j _ => by rw [← mul_assoc, mul_comm (d j)]
  rw [h2, hα k]
  generalize (∑ j, a j * d j) = s
  generalize d k = x
  generalize α k = y
  rw [sub_eq_add_neg, EReal.left_distrib_of_nonneg_of_ne_top (by exact_mod_cast hr) (EReal.coe_ne_top r), mul_comm x, add_assoc]
  congr 1
  have e1 : (y : EReal) * (s * (((-(1 / 2) : ℝ) : EReal) * ((r / w : ℝ) : EReal)) * ((1024⁻¹ : ℝ) : EReal)) = ((y * (-(1 / 2) * (r / w)) * 1024⁻¹ : ℝ) : EReal) * s := by
    simp only [EReal.coe_mul]; ac_rfl
  have e2 : s * (((-(1 / 2) : ℝ) : EReal) * ((r / w : ℝ) : EReal)) * ((1024⁻¹ : ℝ) : EReal) * (y : EReal) = ((y * (-(1 / 2) * (r / w)) * 1024⁻¹ : ℝ) : EReal) * s := by
    simp only [EReal.coe_mul]; ac_rfl
  have e3 : (r : EReal) * -((y : EReal) * (r : EReal) * (s * (r : EReal) * ((1024⁻¹ : ℝ) : EReal))) = ((-(y * r * r * r * 1024⁻¹) : ℝ) : EReal) * s := by
    rw [EReal.coe_neg, EReal.neg_mul, mul_comm, EReal.neg_mul]
    congr 1
    simp only [EReal.coe_mul]; ac_rfl
  rw [e1, e2, e3, twice, ← mul_assoc, ← EReal.coe_mul]
  congr 2
  rw [div_eq_mul_inv r w, ← hs]
  ring

/-- … and with infinity under the root both are zero. -/
theorem row_law_top (a d : Fin 1024 → EReal) (k : Fin 1024) : rowRule a d ⊤ k = rowBack a d ⊤ k := by
  have h : Ideal.div 0 (⊤ : EReal) = 0 := by
    unfold Ideal.div
    rw [if_neg EReal.top_ne_zero, zero_mul]
  unfold rowRule rowBack
  simp only [Finset.univ_unique, Finset.sum_singleton, div_width, Ideal.rsqrt_top, h, mul_zero, zero_mul, add_zero]

/-- Under the root stands a positive real over a real row, or infinity. -/
theorem square_cases {R : ℕ} (h : Mat R 1024) (r : Fin R) :
    ((∀ k : Fin 1024, IsReal (h (ix2 r k))) ∧ ∃ w : ℝ, 0 < w ∧ square h r = (w : EReal)) ∨ square h r = ⊤ := by
  obtain ⟨e, he, hE⟩ := eps_pos
  by_cases hh : ∀ k : Fin 1024, IsReal (h (ix2 r k))
  · refine Or.inl ⟨hh, ?_⟩
    choose α hα using hh
    refine ⟨(∑ k : Fin 1024, α k * α k) * 1024⁻¹ + e, ?_, ?_⟩
    · have : 0 ≤ ∑ k : Fin 1024, α k * α k := Finset.sum_nonneg fun k _ => mul_self_nonneg _
      positivity
    · unfold square
      have h1 : ∑ k : Fin 1024, h (ix2 r k) * h (ix2 r k) = ((∑ k : Fin 1024, α k * α k : ℝ) : EReal) := by
        rw [← sum_coe]; exact Finset.sum_congr rfl fun j _ => by rw [hα, EReal.coe_mul]
      rw [h1, hE, div_width, ← EReal.coe_mul, ← EReal.coe_add]
  · refine Or.inr ?_
    obtain ⟨k, hk⟩ := not_forall.mp hh
    have sq : ∀ z : EReal, 0 ≤ z * z := by
      intro z
      induction z with
      | bot => rw [EReal.bot_mul_bot]; exact le_top
      | top => rw [EReal.top_mul_top]; exact le_top
      | coe x => rw [← EReal.coe_mul]; exact_mod_cast mul_self_nonneg x
    have hkk : h (ix2 r k) * h (ix2 r k) = ⊤ := by
      generalize h (ix2 r k) = z at hk ⊢
      induction z with
      | bot => exact EReal.bot_mul_bot
      | top => exact EReal.top_mul_top
      | coe x => exact absurd ⟨x, rfl⟩ hk
    have hsum : ∑ k : Fin 1024, h (ix2 r k) * h (ix2 r k) = ⊤ := by
      refine top_le_iff.mp (hkk ▸ ?_)
      exact Finset.single_le_sum (f := fun k : Fin 1024 => h (ix2 r k) * h (ix2 r k)) (fun j _ => sq _) (Finset.mem_univ k)
    unfold square
    rw [hsum, div_width, EReal.top_mul_coe_of_pos (by norm_num), hE]
    exact EReal.top_add_coe e

/-- So the two are equal at a row of any array, whatever the gradient at the normed row. -/
theorem row_law {R : ℕ} (h : Mat R 1024) (r : Fin R) (d : Fin 1024 → EReal) (k : Fin 1024) :
    rowRule (fun j => h (ix2 r j)) d (square h r) k = rowBack (fun j => h (ix2 r j)) d (square h r) k := by
  rcases square_cases h r with ⟨ha, w, hw, e⟩ | e
  · rw [e]; exact row_law_real _ _ ha w hw k
  · rw [e]; exact row_law_top _ _ k

/-- The gradient at the normed rows, as the reference has it: no row of the first 128 takes part. -/
def atNormed (x : Mat 8320 1024) (t : Mat 8192 1024) (g : Mat 1 1024) (r : Fin 8320) (k : Fin 1024) : EReal :=
  (if h : 128 ≤ r.val ∧ r.val - 128 < 8192 then
    Ideal.div half width * (Ideal.ofBits .f32 0x40000000#32 * (normed x g (ix2 ⟨128 + (r.val - 128), by omega⟩ k) - t (ix2 ⟨r.val - 128, h.2⟩ k)))
  else 0) * g (ix2 0 k)

/-- The gradient at a normed row that takes part. -/
def atLate (x : Mat 8320 1024) (t : Mat 8192 1024) (g : Mat 1 1024) (q : Fin 8192) (k : Fin 1024) : EReal :=
  (normed x g (ix2 (late q) k) - t (ix2 q k)) * part * g (ix2 0 k)

theorem atNormed_late (x : Mat 8320 1024) (t : Mat 8192 1024) (g : Mat 1 1024) (q : Fin 8192) (k : Fin 1024) :
    atNormed x t g (late q) k = atLate x t g q k := by
  have hq := q.isLt
  have h : 128 ≤ (late q).val ∧ (late q).val - 128 < 8192 := by unfold late; dsimp only; omega
  unfold atNormed atLate
  rw [dif_pos h, scale]
  have e1 : (⟨128 + ((late q).val - 128), by omega⟩ : Fin 8320) = late q := Fin.ext (by unfold late; dsimp only; omega)
  have e2 : (⟨(late q).val - 128, h.2⟩ : Fin 8192) = q := Fin.ext (by unfold late; dsimp only; omega)
  rw [e1, e2]

theorem atNormed_early (x : Mat 8320 1024) (t : Mat 8192 1024) (g : Mat 1 1024) (r : Fin 8320) (hr : r.val < 128) (k : Fin 1024) :
    atNormed x t g r k = 0 := by
  unfold atNormed
  rw [dif_neg (by omega), zero_mul]

/-- No gradient at a normed row gives none at the row. -/
theorem rowBack_zero (a d : Fin 1024 → EReal) (h0 : ∀ k, d k = 0) (v : EReal) (k : Fin 1024) : rowBack a d v k = 0 := by
  unfold rowBack
  simp only [h0, zero_mul, Finset.sum_const_zero, div_width, mul_zero, sub_zero]

/-- The gradient of the rows: zero at the first 128, the kernel's product at the others. -/
def rowsBack (x : Mat 8320 1024) (t : Mat 8192 1024) (g : Mat 1 1024) : Mat 8320 1024 := fun i =>
  if h : 128 ≤ (i 0).val then
    rowBack (fun k => x (ix2 (i 0) k)) (atLate x t g ⟨(i 0).val - 128, by have : (i 0).val < 8320 := (i 0).isLt; omega⟩) (square x (i 0)) (i 1)
  else 0

/-- The reference's gradient is the kernel's. -/
theorem rule_rows (x : Mat 8320 1024) (t : Mat 8192 1024) (g : Mat 1 1024) (i : (⟨2, ![8320, 1024]⟩ : Shape).Idx) :
    rowRule (fun k => x (ix2 (i 0) k)) (atNormed x t g (i 0)) (square x (i 0)) (i 1) = rowsBack x t g i := by
  have hi : (i 0).val < 8320 := (i 0).isLt
  refine (row_law x (i 0) _ (i 1)).trans ?_
  unfold rowsBack
  by_cases h : 128 ≤ (i 0).val
  · rw [dif_pos h]
    have e : i 0 = late ⟨(i 0).val - 128, by omega⟩ := Fin.ext (by unfold late; dsimp only; omega)
    have ed : atNormed x t g (i 0) = atLate x t g ⟨(i 0).val - 128, by omega⟩ := by
      funext k
      exact (congrArg (fun r => atNormed x t g r k) e).trans (atNormed_late x t g _ k)
    rw [ed]
  · rw [dif_neg h]
    exact rowBack_zero _ _ (atNormed_early x t g (i 0) (by omega)) _ _

end Cert.LossBack

namespace Cert.LossGradientReferenceIdeal.Terms

open Cert.LossGradientReferenceIdeal Cert.LossGradientReferenceIdeal.Gen Cert.Merge Cert.Norm Cert.Loss Cert.LossBack
open Idealize.ShloMosaic Idealize.SL.Sem

/-- The reference's gradient. -/
theorem rows_at (x : FVec Ideal S8320x1024 .f32) (t : FVec Ideal S8192x1024 .f32) (g : FVec Ideal S1x1024 .f32) (j : S8320x1024.Idx) :
    @Eq EReal ((addf (addf (mulf (mulf (pad S8320x1024 ![128, 0] ![0, 0] ![0, 0] (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (extractStridedSlice S8192x1024 ![128, 0] (mulf (mulf x (broadcastInDim S8320x1024 ![0, 1] bcast_S8320x1_S8320x1024_0_1 (Host.rsqrt (addf (Host.divf (broadcastInDim S8320x1 ![0] bcast_S8320_S8320x1_0 (Host.reduceAdd (mulf x x) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (broadcastInDim S1x1024 ![1] bcast_S1024_S1x1024_1 (shapeCast _ g shapeCasts_S1x1024_S1024)))) slices_S8320x1024_S8192x1024_128_0) t))) (constant S_ .f32 0x00000000#32) pads_S8192x1024_S8320x1024_12800_000 h_S_) (broadcastInDim S8320x1024 ![0, 1] bcast_S1x1024_S8320x1024_0_1 (broadcastInDim S1x1024 ![1] bcast_S1024_S1x1024_1 (shapeCast _ g shapeCasts_S1x1024_S1024)))) (broadcastInDim S8320x1024 ![0, 1] bcast_S8320x1_S8320x1024_0_1 (Host.rsqrt (addf (Host.divf (broadcastInDim S8320x1 ![0] bcast_S8320_S8320x1_0 (Host.reduceAdd (mulf x x) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (mulf x (broadcastInDim S8320x1024 ![0] bcast_S8320_S8320x1024_0 (Host.reduceAdd (Host.divf (mulf (shapeCast _ (Host.reduceAdd (mulf x (mulf (pad S8320x1024 ![128, 0] ![0, 0] ![0, 0] (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (extractStridedSlice S8192x1024 ![128, 0] (mulf (mulf x (broadcastInDim S8320x1024 ![0, 1] bcast_S8320x1_S8320x1024_0_1 (Host.rsqrt (addf (Host.divf (broadcastInDim S8320x1 ![0] bcast_S8320_S8320x1_0 (Host.reduceAdd (mulf x x) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (broadcastInDim S1x1024 ![1] bcast_S1024_S1x1024_1 (shapeCast _ g shapeCasts_S1x1024_S1024)))) slices_S8320x1024_S8192x1024_128_0) t))) (constant S_ .f32 0x00000000#32) pads_S8192x1024_S8320x1024_12800_000 h_S_) (broadcastInDim S8320x1024 ![0, 1] bcast_S1x1024_S8320x1024_0_1 (broadcastInDim S1x1024 ![1] bcast_S1024_S1x1024_1 (shapeCast _ g shapeCasts_S1x1024_S1024))))) (constant S_ .f32 0x00000000#32) reducesTo_S8320x1024_S8320_d1 h_S_) shapeCasts_S8320_S8320x1) (mulf (broadcastInDim S8320x1 ![] bcast_S_S8320x1 (constant S_ .f32 0xBF000000#32)) (Host.divf (Host.rsqrt (addf (Host.divf (broadcastInDim S8320x1 ![0] bcast_S8320_S8320x1_0 (Host.reduceAdd (mulf x x) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))) (addf (Host.divf (broadcastInDim S8320x1 ![0] bcast_S8320_S8320x1_0 (Host.reduceAdd (mulf x x) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1 ![] bcast_S_S8320x1 (constant S_ .f32 0x44800000#32))) (constant S_ .f32 0x00000000#32) reducesTo_S8320x1_S8320_d1 h_S_)))) (mulf (broadcastInDim S8320x1024 ![0] bcast_S8320_S8320x1024_0 (Host.reduceAdd (Host.divf (mulf (shapeCast _ (Host.reduceAdd (mulf x (mulf (pad S8320x1024 ![128, 0] ![0, 0] ![0, 0] (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (extractStridedSlice S8192x1024 ![128, 0] (mulf (mulf x (broadcastInDim S8320x1024 ![0, 1] bcast_S8320x1_S8320x1024_0_1 (Host.rsqrt (addf (Host.divf (broadcastInDim S8320x1 ![0] bcast_S8320_S8320x1_0 (Host.reduceAdd (mulf x x) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (broadcastInDim S1x1024 ![1] bcast_S1024_S1x1024_1 (shapeCast _ g shapeCasts_S1x1024_S1024)))) slices_S8320x1024_S8192x1024_128_0) t))) (constant S_ .f32 0x00000000#32) pads_S8192x1024_S8320x1024_12800_000 h_S_) (broadcastInDim S8320x1024 ![0, 1] bcast_S1x1024_S8320x1024_0_1 (broadcastInDim S1x1024 ![1] bcast_S1024_S1x1024_1 (shapeCast _ g shapeCasts_S1x1024_S1024))))) (constant S_ .f32 0x00000000#32) reducesTo_S8320x1024_S8320_d1 h_S_) shapeCasts_S8320_S8320x1) (mulf (broadcastInDim S8320x1 ![] bcast_S_S8320x1 (constant S_ .f32 0xBF000000#32)) (Host.divf (Host.rsqrt (addf (Host.divf (broadcastInDim S8320x1 ![0] bcast_S8320_S8320x1_0 (Host.reduceAdd (mulf x x) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))) (addf (Host.divf (broadcastInDim S8320x1 ![0] bcast_S8320_S8320x1_0 (Host.reduceAdd (mulf x x) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1 ![] bcast_S_S8320x1 (constant S_ .f32 0x44800000#32))) (constant S_ .f32 0x00000000#32) reducesTo_S8320x1_S8320_d1 h_S_)) x) : FVec Ideal S8320x1024 .f32) j)
      (rowRule (fun k => x (ix2 (j 0) k)) (atNormed x t g (j 0)) (square x (j 0)) (j 1)) := by
  unfold rowRule atNormed normed factor square
  pointwise

end Cert.LossGradientReferenceIdeal.Terms

namespace Cert.LossGradientIdeal.Sum

open Cert.LossGradientIdeal Cert.LossGradientIdeal.Gen Cert.LossGradientIdeal.Value Cert.Dots Cert.Merge Cert.Norm Cert.Loss Cert.LossBack
open Idealize.ShloMosaic Idealize.ShloMosaic.TcCoe Idealize.SL.Sem
open scoped BigOperators

/-- What a point stores. -/
theorem pay_rows (x t : Mat 128 1024) (g : Mat 1 1024) (j : S128x1024.Idx) :
    @Eq EReal (k0_pay5 (F := Ideal) g (k0_pay6 x) (k0_pay7 x) (k0_pay10 x g t) j)
      (rowBack (fun k => x (ix2 (j 0) k)) (fun k => err x t g (ix2 (j 0) k) * part * g (ix2 0 k)) (square x (j 0)) (j 1)) := by
  unfold k0_pay5 k0_pay10 k0_pay8 k0_pay7 k0_pay6 rowBack err normed factor square
  pointwise

theorem hz : (![0, 0] : Fin 2 → Nat) = fun _ => 0 := funext fun a => by fin_cases a <;> rfl

section

variable {F : FTy → Type} [FloatOps F]

/-- The first point leaves zero in the rows' buffer. -/
theorem out_A_3_eq (c : Dev nD) (i : grid0.Coords) (arg1 : Memref sig .tc .vmem S128x1024 .f32) (harg1 : arg1.IsWhole) (arg2 : Memref sig .tc .vmem S128x1024 .f32) (harg2 : arg2.IsWhole)
    (arg3 : Memref sig .tc .vmem S1x1024 .f32) (harg3 : arg3.IsWhole) (arg4 : Memref sig .tc .vmem S128x1024 .f32) (harg4 : arg4.IsWhole) (arg5 : Memref sig .tc .vmem S1x128 .f32) (harg5 : arg5.IsWhole)
    (arg6 : Memref sig .tc .vmem S1x1024 .f32) (harg6 : arg6.IsWhole) (hc0 : cond0_0 i) (hc1 : ¬cond0_1 i)
    (x0 : Vec F S128x1024 .f32) (x1 : Vec F S128x1024 .f32) (x2 : Vec F S1x1024 .f32) :
    out0_A_3 c i arg1 harg1 arg2 harg2 arg3 harg3 arg4 harg4 arg5 harg5 arg6 harg6 hc0 hc1 x0 x1 x2 = k0_pay1 (F := F) := by
  unfold out0_A_3
  rw [View.read_writes_eq_canon _ _ _ (cover0_A_3 c i arg1 harg1 arg2 harg2 arg3 harg3 arg4 harg4 arg5 harg5 arg6 harg6 hc0 hc1 x0 x1 x2)]
  unfold kernelRun0_A
  dsimp only
  try sl_unfold_words
  rw [View.canon_unit_zero hz]

/-- A later point leaves its store in the rows' buffer. -/
theorem out_B_3_eq (c : Dev nD) (i : grid0.Coords) (arg1 : Memref sig .tc .vmem S128x1024 .f32) (harg1 : arg1.IsWhole) (arg2 : Memref sig .tc .vmem S128x1024 .f32) (harg2 : arg2.IsWhole)
    (arg3 : Memref sig .tc .vmem S1x1024 .f32) (harg3 : arg3.IsWhole) (arg4 : Memref sig .tc .vmem S128x1024 .f32) (harg4 : arg4.IsWhole) (arg5 : Memref sig .tc .vmem S1x128 .f32) (harg5 : arg5.IsWhole)
    (arg6 : Memref sig .tc .vmem S1x1024 .f32) (harg6 : arg6.IsWhole) (hc0 : ¬cond0_0 i) (hc1 : cond0_1 i)
    (x0 : Vec F S128x1024 .f32) (x1 : Vec F S128x1024 .f32) (x2 : Vec F S1x1024 .f32) (xo4 : Vec F S1x128 .f32) (xo5 : Vec F S1x1024 .f32) :
    out0_B_3 c i arg1 harg1 arg2 harg2 arg3 harg3 arg4 harg4 arg5 harg5 arg6 harg6 hc0 hc1 x0 x1 x2 xo4 xo5 = k0_pay5 x2 (k0_pay6 x0) (k0_pay7 x0) (k0_pay10 x0 x2 x1) := by
  unfold out0_B_3
  rw [View.read_writes_eq_canon _ _ _ (cover0_B_3 c i arg1 harg1 arg2 harg2 arg3 harg3 arg4 harg4 arg5 harg5 arg6 harg6 hc0 hc1 x0 x1 x2 xo4 xo5)]
  unfold kernelRun0_B
  dsimp only
  try sl_unfold_words
  rw [View.canon_unit_zero hz]
  simp only [View.readAt_eq_ld, harg1.read_unread, harg2.read_unread, harg3.read_unread, harg5.read_unread, harg6.read_unread, View.ld_unit_zero (S := S128x1024) hz,
    View.ld_unit_zero (S := S1x128) hz, View.ld_unit_zero (S := S1x1024) hz, shapeCast_self]

end

variable (m : (ℓ : Loc nD τ sig) → Buf (Elt Ideal) ℓ)

/-- The rows, as they stand at launch. -/
abbrev A (c : Dev nD) : Mat 8320 1024 := m ((c : Thread nD τ).loc main_arg0)
/-- The target. -/
abbrev B (c : Dev nD) : Mat 8192 1024 := m ((c : Thread nD τ).loc main_arg1)
/-- The gains. -/
abbrev C (c : Dev nD) : Mat 1 1024 := m ((c : Thread nD τ).loc main_arg2)

/-- The blocks of a point: its rows, the target's rows one block behind, and the gains. -/
theorem idx_in : ∀ t : Fin cfg0.N, (win0_0.index t (0 : Fin 2) = t.val ∧ win0_0.index t (1 : Fin 2) = 0)
    ∧ (win0_1.index t (0 : Fin 2) = t.val - 1 ∧ win0_1.index t (1 : Fin 2) = 0)
    ∧ (win0_2.index t (0 : Fin 2) = 0 ∧ win0_2.index t (1 : Fin 2) = 0) :=
  (by decide +kernel : ∀ t : Fin grid0.N, _)

/-- Every point writes its rows back. -/
theorem idx_out : ∀ t : Fin cfg0.N, (cfg0.win 3).flush t = true ∧ (win0_3.index t (0 : Fin 2) = t.val ∧ win0_3.index t (1 : Fin 2) = 0) :=
  (by decide +kernel : ∀ t : Fin grid0.N, _)

/-- The rows of a point. -/
theorem blk0 (c : Dev nD) (n : ℕ) (h : n + 1 < cfg0.N) (hn : n < 64) (r : Fin 128) (k : Fin 1024) :
    @Eq EReal (iblk m c 0 ⟨n + 1, h⟩ (ix2 r k)) (A m c (ix2 (late ⟨n * 128 + r.val, by have := r.isLt; omega⟩) k)) := by
  obtain ⟨⟨e0, e1⟩, -, -⟩ := idx_in ⟨n + 1, h⟩
  unfold iblk
  rw [View.read_apply]
  refine read_same (A m c) _ _ ?_ ?_
  · show win0_0.index ⟨n + 1, h⟩ 0 * 128 + 1 * r.val = 128 + (n * 128 + r.val); rw [e0]; dsimp only; omega
  · show win0_0.index ⟨n + 1, h⟩ 1 * 1024 + 1 * k.val = k.val; rw [e1]; omega

/-- The target's rows at a point. -/
theorem blk1 (c : Dev nD) (n : ℕ) (h : n + 1 < cfg0.N) (hn : n < 64) (r : Fin 128) (k : Fin 1024) :
    @Eq EReal (iblk m c 1 ⟨n + 1, h⟩ (ix2 r k)) (B m c (ix2 ⟨n * 128 + r.val, by have := r.isLt; omega⟩ k)) := by
  obtain ⟨-, ⟨e0, e1⟩, -⟩ := idx_in ⟨n + 1, h⟩
  unfold iblk
  rw [View.read_apply]
  refine read_same (B m c) _ _ ?_ ?_
  · show win0_1.index ⟨n + 1, h⟩ 0 * 128 + 1 * r.val = n * 128 + r.val; rw [e0]; dsimp only; omega
  · show win0_1.index ⟨n + 1, h⟩ 1 * 1024 + 1 * k.val = k.val; rw [e1]; omega

/-- The gains at a point. -/
theorem blk2 (c : Dev nD) (t : Fin cfg0.N) (k : Fin 1024) : @Eq EReal (iblk m c 2 t (ix2 0 k)) (C m c (ix2 0 k)) := by
  obtain ⟨-, -, ⟨e0, e1⟩⟩ := idx_in t
  unfold iblk
  rw [View.read_apply]
  refine read_same (C m c) _ _ ?_ ?_
  · show win0_2.index t 0 * 1 + 1 * 0 = 0; rw [e0]
  · show win0_2.index t 1 * 1024 + 1 * k.val = k.val; rw [e1]; omega

/-- The first rows have no gradient. -/
theorem rowsBack_early (x : Mat 8320 1024) (t : Mat 8192 1024) (g : Mat 1 1024) (i : (⟨2, ![8320, 1024]⟩ : Shape).Idx) (h : (i 0).val < 128) :
    rowsBack x t g i = 0 := by
  unfold rowsBack
  rw [dif_neg (by omega)]

/-- A row of the kernel's gradient depends on its arguments alone. -/
theorem rowBack_same (a a' d d' : Fin 1024 → EReal) (v v' : EReal) (k : Fin 1024) (ha : ∀ k, a k = a' k) (hd : ∀ k, d k = d' k) (hv : v = v') :
    rowBack a d v k = rowBack a' d' v' k := by
  rw [funext ha, funext hd, hv]

/-- A later row of the gradient. -/
theorem rowsBack_late (x : Mat 8320 1024) (t : Mat 8192 1024) (g : Mat 1 1024) (q : Fin 8192) (k : Fin 1024) :
    rowsBack x t g (ix2 (late q) k) = rowBack (fun k => x (ix2 (late q) k)) (atLate x t g q) (square x (late q)) k := by
  have e : ∀ h, (⟨(late q).val - 128, h⟩ : Fin 8192) = q := fun h => Fin.ext (by unfold late; dsimp only; omega)
  have h : 128 ≤ (late q).val := by unfold late; dsimp only; omega
  show (if h : 128 ≤ (late q).val then _ else _) = _
  rw [dif_pos h]
  exact congrArg (fun p => rowBack (fun k => x (ix2 (late q) k)) (atLate x t g p) (square x (late q)) k) (e _)

/-- What a point leaves in the rows' buffer, at an index of its block. -/
theorem outs_rows (c : Dev nD) : ∀ (n : ℕ) (hn : n < cfg0.N) (y : S128x1024.Idx), @Eq EReal ((outsAt0 m c n hn).1 y)
    (rowsBack (A m c) (B m c) (C m c) (ix2 ⟨n * 128 + (y 0).val, by have h : (y 0).val < 128 := (y 0).isLt; have hN : cfg0.N = 65 := N_0; omega⟩ (y 1)))
  | 0, hn, y => by
    rw [outsAt0_A m c ⟨0, hn⟩ rfl (by simp)]
    dsimp only
    rw [out_A_3_eq]
    have hy : (y 0).val < 128 := (y 0).isLt
    refine Eq.trans ofBits_zero (rowsBack_early _ _ _ _ ?_).symm
    show 0 * 128 + (y 0).val < 128
    omega
  | n + 1, hn, y => by
    have hN : cfg0.N = 65 := N_0
    have h64 : n < 64 := by omega
    have hy : (y 0).val < 128 := (y 0).isLt
    have hq : n * 128 + (y 0).val < 8192 := by omega
    rw [outsAt0_B m c ⟨n + 1, hn⟩ (by dsimp only; omega) (by dsimp only; omega)]
    dsimp only
    rw [out_B_3_eq]
    refine (pay_rows _ _ _ y).trans ?_
    refine Eq.trans ?_ (Eq.trans (rowsBack_late (A m c) (B m c) (C m c) ⟨n * 128 + (y 0).val, hq⟩ (y 1)).symm ?_)
    · refine rowBack_same _ _ _ _ _ _ _ (fun k => blk0 m c n hn h64 (y 0) k) (fun k => ?_)
        (square_row _ _ (y 0) (late ⟨n * 128 + (y 0).val, hq⟩) (fun k => blk0 m c n hn h64 (y 0) k))
      unfold atLate
      exact congrArg₂ (fun a b : EReal => a * part * b) (err_late _ _ _ (A m c) (B m c) (C m c) (y 0) _ (fun k => blk0 m c n hn h64 (y 0) k)
        (fun k => blk1 m c n hn h64 (y 0) k) (fun k => blk2 m c ⟨n + 1, hn⟩ k) k) (blk2 m c ⟨n + 1, hn⟩ k)
    · refine read_same _ _ _ ?_ rfl
      show 128 + (n * 128 + (y 0).val) = (n + 1) * 128 + (y 0).val
      omega

/-- What a point writes back is its block of the whole gradient. -/
theorem flushed_eq (c : Dev nD) (t : Fin cfg0.N) :
    (dats m 0 c).flushed 3 t = (win0_3.blk t).view.read (Elt Ideal) (rowsBack (A m c) (B m c) (C m c)) := by
  obtain ⟨-, ⟨e0, e1⟩⟩ := idx_out t
  rw [flushed3]
  funext y
  rw [View.read_apply]
  refine (outs_rows m c t.val t.isLt _).trans (Eq.symm (read_same (rowsBack (A m c) (B m c) (C m c)) _ _ ?_ ?_))
  · show win0_3.index t 0 * 128 + 1 * (y 0).val = t.val * 128 + (y 0).val; rw [e0]; omega
  · show win0_3.index t 1 * 1024 + 1 * (y 1).val = (y 1).val; rw [e1]; omega

/-- The blocks of the points are the whole array. -/
theorem cover (i : S8320x1024.Idx) : ∃ t : Fin cfg0.N, (cfg0.win 3).flush t = true ∧ i ∈ ((cfg0.win 3).blk t).view.set := by
  have h0 : (i 0).val < 8320 := (i 0).isLt
  have h1 : (i 1).val < 1024 := (i 1).isLt
  have hN : cfg0.N = 65 := N_0
  have ht : (i 0).val / 128 < cfg0.N := by omega
  obtain ⟨hf, ⟨e0, e1⟩⟩ := idx_out ⟨_, ht⟩
  refine ⟨⟨_, ht⟩, hf, ?_⟩
  show i ∈ ((View.whole main_v0_0).slice (win0_3.rect ⟨_, ht⟩)).set
  rw [View.set_slice_whole, Rect.mem_set_unit]
  intro a
  match a with
  | ⟨0, _⟩ => show win0_3.index ⟨_, ht⟩ 0 * 128 ≤ (i 0).val ∧ (i 0).val < win0_3.index ⟨_, ht⟩ 0 * 128 + 128; rw [e0]; dsimp only; omega
  | ⟨1, _⟩ => show win0_3.index ⟨_, ht⟩ 1 * 1024 ≤ (i 1).val ∧ (i 1).val < win0_3.index ⟨_, ht⟩ 1 * 1024 + 1024; rw [e1]; dsimp only; omega

/-- The gradient after the run. -/
theorem final (c : Dev nD) : (dats m 0 c).arrAt 3 cfg0.N = rowsBack (A m c) (B m c) (C m c) :=
  (dats m 0 c).arrAt_eq_of_cover 3 (rowsBack (A m c) (B m c) (C m c)) (fun t _ => flushed_eq m c t) cover

/-- THE VALUES: the kernel's run and the reference's end with equal results. -/
theorem algebraic : Cert.algebraic_LossGradientIdeal_LossGradientReferenceIdeal := fun m g m' g' _ hagree =>
  ⟨fun c => rowsBack (A m c) (B m c) (C m c),
    (θ_run _ _ _).mono (fun r h c => ⟨(h c).1.trans (final m c), (h c).2.2.2⟩) (Value.run_blocks m g),
    (θ_run _ _ _).mono (fun r h c => ⟨(h c).1.trans (by
      unfold Cert.LossGradientReferenceIdeal.Value.res_main_v49
      rw [(hagree c).1, (hagree c).2.1, (hagree c).2.2]
      funext j
      exact (Cert.LossGradientReferenceIdeal.Terms.rows_at (A m c) (B m c) (C m c) j).trans (rule_rows (A m c) (B m c) (C m c) j)), (h c).2⟩)
      (Cert.LossGradientReferenceIdeal.Value.run (F := Ideal) m' g')⟩

end Cert.LossGradientIdeal.Sum

end
-- ==== Proof.lean ====
/-
  The claims, put together. The frames of the kernels are their generated runs; the frame of a reference is its run's
  account of the arguments; the values are proved in the modules beside this one, one for each kernel.
-/
module

public import proofs.«01_k».proof.Defs
public import proofs.«01_k».proof.Proof.Gen.InputGradient.Frame
public import proofs.«01_k».proof.Proof.Gen.InputGradientIdeal.Value
public import proofs.«01_k».proof.Proof.Gen.InputGradientReferenceIdeal.Run
public import proofs.«01_k».proof.Proof.InputSum
public import proofs.«01_k».proof.Proof.Gen.QkvWeight.Frame
public import proofs.«01_k».proof.Proof.Gen.QkvWeightIdeal.Value
public import proofs.«01_k».proof.Proof.Gen.QkvWeightReferenceIdeal.Run
public import proofs.«01_k».proof.Proof.QkvSum
public import proofs.«01_k».proof.Proof.Gen.GateWeight.Frame
public import proofs.«01_k».proof.Proof.Gen.GateWeightIdeal.Value
public import proofs.«01_k».proof.Proof.Gen.GateWeightReferenceIdeal.Run
public import proofs.«01_k».proof.Proof.GateSum
public import proofs.«01_k».proof.Proof.Gen.SbBranchWeight.Frame
public import proofs.«01_k».proof.Proof.Gen.SbBranchWeightIdeal.Value
public import proofs.«01_k».proof.Proof.Gen.SbBranchWeightReferenceIdeal.Run
public import proofs.«01_k».proof.Proof.SbBranchSum
public import proofs.«01_k».proof.Proof.Gen.SwaBranchWeight.Frame
public import proofs.«01_k».proof.Proof.Gen.SwaBranchWeightIdeal.Value
public import proofs.«01_k».proof.Proof.Gen.SwaBranchWeightReferenceIdeal.Run
public import proofs.«01_k».proof.Proof.SwaBranchSum
public import proofs.«01_k».proof.Proof.Gen.OutWeight.Frame
public import proofs.«01_k».proof.Proof.Gen.OutWeightIdeal.Value
public import proofs.«01_k».proof.Proof.Gen.OutWeightReferenceIdeal.Run
public import proofs.«01_k».proof.Proof.OutSum
public import proofs.«01_k».proof.Proof.Gen.QkvProjection.Frame
public import proofs.«01_k».proof.Proof.Gen.QkvProjectionIdeal.Value
public import proofs.«01_k».proof.Proof.Gen.QkvProjectionReferenceIdeal.Run
public import proofs.«01_k».proof.Proof.QkvProduct
public import proofs.«01_k».proof.Proof.Gen.GateProjection.Frame
public import proofs.«01_k».proof.Proof.Gen.GateProjectionIdeal.Value
public import proofs.«01_k».proof.Proof.Gen.GateProjectionReferenceIdeal.Run
public import proofs.«01_k».proof.Proof.GateProduct
public import proofs.«01_k».proof.Proof.Gen.GatedMerge.Frame
public import proofs.«01_k».proof.Proof.Gen.GatedMergeIdeal.Value
public import proofs.«01_k».proof.Proof.Gen.GatedMergeReferenceIdeal.Run
public import proofs.«01_k».proof.Proof.MergeSum
public import proofs.«01_k».proof.Proof.Gen.MergeGradient.Frame
public import proofs.«01_k».proof.Proof.Gen.MergeGradientIdeal.Value
public import proofs.«01_k».proof.Proof.Gen.MergeGradientReferenceIdeal.Run
public import proofs.«01_k».proof.Proof.MergeBack
public import proofs.«01_k».proof.Proof.Gen.AdamIn.Frame
public import proofs.«01_k».proof.Proof.Gen.AdamInIdeal.Value
public import proofs.«01_k».proof.Proof.Gen.AdamInReferenceIdeal.Run
public import proofs.«01_k».proof.Proof.AdamInStep
public import proofs.«01_k».proof.Proof.Gen.AdamSbBranch.Frame
public import proofs.«01_k».proof.Proof.Gen.AdamSbBranchIdeal.Value
public import proofs.«01_k».proof.Proof.Gen.AdamSbBranchReferenceIdeal.Run
public import proofs.«01_k».proof.Proof.AdamSbBranchStep
public import proofs.«01_k».proof.Proof.Gen.AdamSquare.Frame
public import proofs.«01_k».proof.Proof.Gen.AdamSquareIdeal.Value
public import proofs.«01_k».proof.Proof.Gen.AdamSquareReferenceIdeal.Run
public import proofs.«01_k».proof.Proof.AdamSquareStep
public import proofs.«01_k».proof.Proof.Gen.AdamMeta.Frame
public import proofs.«01_k».proof.Proof.Gen.AdamMetaIdeal.Value
public import proofs.«01_k».proof.Proof.Gen.AdamMetaReferenceIdeal.Run
public import proofs.«01_k».proof.Proof.AdamMetaStep
public import proofs.«01_k».proof.Proof.Gen.AdamGain.Frame
public import proofs.«01_k».proof.Proof.Gen.AdamGainIdeal.Value
public import proofs.«01_k».proof.Proof.Gen.AdamGainReferenceIdeal.Run
public import proofs.«01_k».proof.Proof.AdamGainStep
public import proofs.«01_k».proof.Proof.Gen.AdamSinks.Frame
public import proofs.«01_k».proof.Proof.Gen.AdamSinksIdeal.Value
public import proofs.«01_k».proof.Proof.Gen.AdamSinksReferenceIdeal.Run
public import proofs.«01_k».proof.Proof.AdamSinksStep
public import proofs.«01_k».proof.Proof.Gen.NormForward.Frame
public import proofs.«01_k».proof.Proof.Gen.NormForwardIdeal.Value
public import proofs.«01_k».proof.Proof.Gen.NormForwardReferenceIdeal.Run
public import proofs.«01_k».proof.Proof.NormRows
public import proofs.«01_k».proof.Proof.Gen.LossForward.Frame
public import proofs.«01_k».proof.Proof.Gen.LossForwardIdeal.Value
public import proofs.«01_k».proof.Proof.Gen.LossForwardReferenceIdeal.Run
public import proofs.«01_k».proof.Proof.LossSum
public import proofs.«01_k».proof.Proof.Gen.LossGradient.Frame
public import proofs.«01_k».proof.Proof.Gen.LossGradientIdeal.Value
public import proofs.«01_k».proof.Proof.Gen.LossGradientReferenceIdeal.Run
public import proofs.«01_k».proof.Proof.LossBack

@[expose] public section

noncomputable section

namespace Cert.Proof

open Idealize.ShloMosaic Idealize.SL.Sem

/-- The frame of the reference of `InputGradient`: its run keeps the arguments. -/
theorem frame_InputGradientReference : Cert.quiescent_InputGradientReferenceIdeal := fun m g _ =>
  (θ_run _ _ _).mono (fun r h => ⟨fun c => (h c).2, sem_eq_zero_of_no_sems (by decide) r.2⟩) (Cert.InputGradientReferenceIdeal.Value.run (F := Ideal) m g)

/-- The frame of the reference of `QkvWeight`: its run keeps the arguments. -/
theorem frame_QkvWeightReference : Cert.quiescent_QkvWeightReferenceIdeal := fun m g _ =>
  (θ_run _ _ _).mono (fun r h => ⟨fun c => (h c).2, sem_eq_zero_of_no_sems (by decide) r.2⟩) (Cert.QkvWeightReferenceIdeal.Value.run (F := Ideal) m g)

/-- The frame of the reference of `GateWeight`: its run keeps the arguments. -/
theorem frame_GateWeightReference : Cert.quiescent_GateWeightReferenceIdeal := fun m g _ =>
  (θ_run _ _ _).mono (fun r h => ⟨fun c => (h c).2, sem_eq_zero_of_no_sems (by decide) r.2⟩) (Cert.GateWeightReferenceIdeal.Value.run (F := Ideal) m g)

/-- The frame of the reference of `SbBranchWeight`: its run keeps the arguments. -/
theorem frame_SbBranchWeightReference : Cert.quiescent_SbBranchWeightReferenceIdeal := fun m g _ =>
  (θ_run _ _ _).mono (fun r h => ⟨fun c => (h c).2, sem_eq_zero_of_no_sems (by decide) r.2⟩) (Cert.SbBranchWeightReferenceIdeal.Value.run (F := Ideal) m g)

/-- The frame of the reference of `SwaBranchWeight`: its run keeps the arguments. -/
theorem frame_SwaBranchWeightReference : Cert.quiescent_SwaBranchWeightReferenceIdeal := fun m g _ =>
  (θ_run _ _ _).mono (fun r h => ⟨fun c => (h c).2, sem_eq_zero_of_no_sems (by decide) r.2⟩) (Cert.SwaBranchWeightReferenceIdeal.Value.run (F := Ideal) m g)

/-- The frame of the reference of `OutWeight`: its run keeps the arguments. -/
theorem frame_OutWeightReference : Cert.quiescent_OutWeightReferenceIdeal := fun m g _ =>
  (θ_run _ _ _).mono (fun r h => ⟨fun c => (h c).2, sem_eq_zero_of_no_sems (by decide) r.2⟩) (Cert.OutWeightReferenceIdeal.Value.run (F := Ideal) m g)

/-- The frame of the reference of `QkvProjection`: its run keeps the arguments. -/
theorem frame_QkvProjectionReference : Cert.quiescent_QkvProjectionReferenceIdeal := fun m g _ =>
  (θ_run _ _ _).mono (fun r h => ⟨fun c => (h c).2, sem_eq_zero_of_no_sems (by decide) r.2⟩) (Cert.QkvProjectionReferenceIdeal.Value.run (F := Ideal) m g)

/-- The frame of the reference of `GateProjection`: its run keeps the arguments. -/
theorem frame_GateProjectionReference : Cert.quiescent_GateProjectionReferenceIdeal := fun m g _ =>
  (θ_run _ _ _).mono (fun r h => ⟨fun c => (h c).2, sem_eq_zero_of_no_sems (by decide) r.2⟩) (Cert.GateProjectionReferenceIdeal.Value.run (F := Ideal) m g)

/-- The frame of the reference of `GatedMerge`: its run keeps the arguments. -/
theorem frame_GatedMergeReference : Cert.quiescent_GatedMergeReferenceIdeal := fun m g _ =>
  (θ_run _ _ _).mono (fun r h => ⟨fun c => (h c).2.2.2.2.2.2, sem_eq_zero_of_no_sems (by decide) r.2⟩) (Cert.GatedMergeReferenceIdeal.Value.run (F := Ideal) m g)

/-- The frame of the reference of `MergeGradient`: its run keeps the arguments. -/
theorem frame_MergeGradientReference : Cert.quiescent_MergeGradientReferenceIdeal := fun m g _ =>
  (θ_run _ _ _).mono (fun r h => ⟨fun c => (h c).2.2.2.2.2, sem_eq_zero_of_no_sems (by decide) r.2⟩) (Cert.MergeGradientReferenceIdeal.Value.run (F := Ideal) m g)

/-- The frame of the reference of `AdamIn`: its run keeps the arguments. -/
theorem frame_AdamInReference : Cert.quiescent_AdamInReferenceIdeal := fun m g _ =>
  (θ_run _ _ _).mono (fun r h => ⟨fun c => (h c).2.2.2, sem_eq_zero_of_no_sems (by decide) r.2⟩) (Cert.AdamInReferenceIdeal.Value.run (F := Ideal) m g)

/-- The frame of the reference of `AdamSbBranch`: its run keeps the arguments. -/
theorem frame_AdamSbBranchReference : Cert.quiescent_AdamSbBranchReferenceIdeal := fun m g _ =>
  (θ_run _ _ _).mono (fun r h => ⟨fun c => (h c).2.2.2, sem_eq_zero_of_no_sems (by decide) r.2⟩) (Cert.AdamSbBranchReferenceIdeal.Value.run (F := Ideal) m g)

/-- The frame of the reference of `AdamSquare`: its run keeps the arguments. -/
theorem frame_AdamSquareReference : Cert.quiescent_AdamSquareReferenceIdeal := fun m g _ =>
  (θ_run _ _ _).mono (fun r h => ⟨fun c => (h c).2.2.2, sem_eq_zero_of_no_sems (by decide) r.2⟩) (Cert.AdamSquareReferenceIdeal.Value.run (F := Ideal) m g)

/-- The frame of the reference of `AdamMeta`: its run keeps the arguments. -/
theorem frame_AdamMetaReference : Cert.quiescent_AdamMetaReferenceIdeal := fun m g _ =>
  (θ_run _ _ _).mono (fun r h => ⟨fun c => (h c).2.2.2, sem_eq_zero_of_no_sems (by decide) r.2⟩) (Cert.AdamMetaReferenceIdeal.Value.run (F := Ideal) m g)

/-- The frame of the reference of `AdamGain`: its run keeps the arguments. -/
theorem frame_AdamGainReference : Cert.quiescent_AdamGainReferenceIdeal := fun m g _ =>
  (θ_run _ _ _).mono (fun r h => ⟨fun c => (h c).2.2.2, sem_eq_zero_of_no_sems (by decide) r.2⟩) (Cert.AdamGainReferenceIdeal.Value.run (F := Ideal) m g)

/-- The frame of the reference of `AdamSinks`: its run keeps the arguments. -/
theorem frame_AdamSinksReference : Cert.quiescent_AdamSinksReferenceIdeal := fun m g _ =>
  (θ_run _ _ _).mono (fun r h => ⟨fun c => (h c).2.2.2, sem_eq_zero_of_no_sems (by decide) r.2⟩) (Cert.AdamSinksReferenceIdeal.Value.run (F := Ideal) m g)

/-- The frame of the reference of `NormForward`: its run keeps the arguments. -/
theorem frame_NormForwardReference : Cert.quiescent_NormForwardReferenceIdeal := fun m g _ =>
  (θ_run _ _ _).mono (fun r h => ⟨fun c => (h c).2, sem_eq_zero_of_no_sems (by decide) r.2⟩) (Cert.NormForwardReferenceIdeal.Value.run (F := Ideal) m g)

/-- The frame of the reference of `LossForward`: its run keeps the arguments. -/
theorem frame_LossForwardReference : Cert.quiescent_LossForwardReferenceIdeal := fun m g _ =>
  (θ_run _ _ _).mono (fun r h => ⟨fun c => (h c).2.2, sem_eq_zero_of_no_sems (by decide) r.2⟩) (Cert.LossForwardReferenceIdeal.Value.run (F := Ideal) m g)

/-- The frame of the reference of `LossGradient`: its run keeps the arguments. -/
theorem frame_LossGradientReference : Cert.quiescent_LossGradientReferenceIdeal := fun m g _ =>
  (θ_run _ _ _).mono (fun r h => ⟨fun c => (h c).2, sem_eq_zero_of_no_sems (by decide) r.2⟩) (Cert.LossGradientReferenceIdeal.Value.run (F := Ideal) m g)

/-- The frame of the gradient's reference under the precondition: the same run. -/
theorem frame_MergeGradientReferenceFinite [Cert.Pre_finite.Facts] : Cert.quiescent_MergeGradientReferenceIdeal_pre_finite := fun m g _ =>
  (θ_run _ _ _).mono (fun r h => ⟨fun c => (h c).2.2.2.2.2, sem_eq_zero_of_no_sems (by decide) r.2⟩) (Cert.MergeGradientReferenceIdeal.Value.run (F := Ideal) m g)

/-- The shapes that the precondition's comparisons take fit. -/
theorem finite_facts : Cert.Pre_finite.Facts := ⟨by decide, by decide, by decide, by decide⟩

/-- EVERYTHING CLAIMED. -/
theorem claim : Cert.Claim :=
  ⟨Cert.InputGradient.Gen.facts,
    Cert.InputGradientIdeal.Gen.facts,
    Cert.InputGradientReferenceIdeal.Gen.facts,
    Cert.QkvWeight.Gen.facts,
    Cert.QkvWeightIdeal.Gen.facts,
    Cert.QkvWeightReferenceIdeal.Gen.facts,
    Cert.GateWeight.Gen.facts,
    Cert.GateWeightIdeal.Gen.facts,
    Cert.GateWeightReferenceIdeal.Gen.facts,
    Cert.SbBranchWeight.Gen.facts,
    Cert.SbBranchWeightIdeal.Gen.facts,
    Cert.SbBranchWeightReferenceIdeal.Gen.facts,
    Cert.SwaBranchWeight.Gen.facts,
    Cert.SwaBranchWeightIdeal.Gen.facts,
    Cert.SwaBranchWeightReferenceIdeal.Gen.facts,
    Cert.OutWeight.Gen.facts,
    Cert.OutWeightIdeal.Gen.facts,
    Cert.OutWeightReferenceIdeal.Gen.facts,
    Cert.QkvProjection.Gen.facts,
    Cert.QkvProjectionIdeal.Gen.facts,
    Cert.QkvProjectionReferenceIdeal.Gen.facts,
    Cert.GateProjection.Gen.facts,
    Cert.GateProjectionIdeal.Gen.facts,
    Cert.GateProjectionReferenceIdeal.Gen.facts,
    Cert.GatedMerge.Gen.facts,
    Cert.GatedMergeIdeal.Gen.facts,
    Cert.GatedMergeReferenceIdeal.Gen.facts,
    Cert.MergeGradient.Gen.facts,
    Cert.MergeGradientIdeal.Gen.facts,
    Cert.MergeGradientReferenceIdeal.Gen.facts,
    Cert.AdamIn.Gen.facts,
    Cert.AdamInIdeal.Gen.facts,
    Cert.AdamInReferenceIdeal.Gen.facts,
    Cert.AdamSbBranch.Gen.facts,
    Cert.AdamSbBranchIdeal.Gen.facts,
    Cert.AdamSbBranchReferenceIdeal.Gen.facts,
    Cert.AdamSquare.Gen.facts,
    Cert.AdamSquareIdeal.Gen.facts,
    Cert.AdamSquareReferenceIdeal.Gen.facts,
    Cert.AdamMeta.Gen.facts,
    Cert.AdamMetaIdeal.Gen.facts,
    Cert.AdamMetaReferenceIdeal.Gen.facts,
    Cert.AdamGain.Gen.facts,
    Cert.AdamGainIdeal.Gen.facts,
    Cert.AdamGainReferenceIdeal.Gen.facts,
    Cert.AdamSinks.Gen.facts,
    Cert.AdamSinksIdeal.Gen.facts,
    Cert.AdamSinksReferenceIdeal.Gen.facts,
    Cert.NormForward.Gen.facts,
    Cert.NormForwardIdeal.Gen.facts,
    Cert.NormForwardReferenceIdeal.Gen.facts,
    Cert.LossForward.Gen.facts,
    Cert.LossForwardIdeal.Gen.facts,
    Cert.LossForwardReferenceIdeal.Gen.facts,
    Cert.LossGradient.Gen.facts,
    Cert.LossGradientIdeal.Gen.facts,
    Cert.LossGradientReferenceIdeal.Gen.facts,
    finite_facts,
    fun m g _ => Cert.InputGradient.Gen.frame m g,
    fun m g _ => Cert.InputGradientIdeal.Gen.frame m g,
    frame_InputGradientReference,
    fun m g _ => Cert.QkvWeight.Gen.frame m g,
    fun m g _ => Cert.QkvWeightIdeal.Gen.frame m g,
    frame_QkvWeightReference,
    fun m g _ => Cert.GateWeight.Gen.frame m g,
    fun m g _ => Cert.GateWeightIdeal.Gen.frame m g,
    frame_GateWeightReference,
    fun m g _ => Cert.SbBranchWeight.Gen.frame m g,
    fun m g _ => Cert.SbBranchWeightIdeal.Gen.frame m g,
    frame_SbBranchWeightReference,
    fun m g _ => Cert.SwaBranchWeight.Gen.frame m g,
    fun m g _ => Cert.SwaBranchWeightIdeal.Gen.frame m g,
    frame_SwaBranchWeightReference,
    fun m g _ => Cert.OutWeight.Gen.frame m g,
    fun m g _ => Cert.OutWeightIdeal.Gen.frame m g,
    frame_OutWeightReference,
    fun m g _ => Cert.QkvProjection.Gen.frame m g,
    fun m g _ => Cert.QkvProjectionIdeal.Gen.frame m g,
    frame_QkvProjectionReference,
    fun m g _ => Cert.GateProjection.Gen.frame m g,
    fun m g _ => Cert.GateProjectionIdeal.Gen.frame m g,
    frame_GateProjectionReference,
    fun m g _ => Cert.GatedMerge.Gen.frame m g,
    fun m g _ => Cert.GatedMergeIdeal.Gen.frame m g,
    frame_GatedMergeReference,
    fun m g _ => Cert.MergeGradient.Gen.frame m g,
    fun m g _ => Cert.MergeGradientIdeal.Gen.frame m g,
    frame_MergeGradientReference,
    @frame_MergeGradientReferenceFinite finite_facts,
    fun m g _ => Cert.AdamIn.Gen.frame m g,
    fun m g _ => Cert.AdamInIdeal.Gen.frame m g,
    frame_AdamInReference,
    fun m g _ => Cert.AdamSbBranch.Gen.frame m g,
    fun m g _ => Cert.AdamSbBranchIdeal.Gen.frame m g,
    frame_AdamSbBranchReference,
    fun m g _ => Cert.AdamSquare.Gen.frame m g,
    fun m g _ => Cert.AdamSquareIdeal.Gen.frame m g,
    frame_AdamSquareReference,
    fun m g _ => Cert.AdamMeta.Gen.frame m g,
    fun m g _ => Cert.AdamMetaIdeal.Gen.frame m g,
    frame_AdamMetaReference,
    fun m g _ => Cert.AdamGain.Gen.frame m g,
    fun m g _ => Cert.AdamGainIdeal.Gen.frame m g,
    frame_AdamGainReference,
    fun m g _ => Cert.AdamSinks.Gen.frame m g,
    fun m g _ => Cert.AdamSinksIdeal.Gen.frame m g,
    frame_AdamSinksReference,
    fun m g _ => Cert.NormForward.Gen.frame m g,
    fun m g _ => Cert.NormForwardIdeal.Gen.frame m g,
    frame_NormForwardReference,
    fun m g _ => Cert.LossForward.Gen.frame m g,
    fun m g _ => Cert.LossForwardIdeal.Gen.frame m g,
    frame_LossForwardReference,
    fun m g _ => Cert.LossGradient.Gen.frame m g,
    fun m g _ => Cert.LossGradientIdeal.Gen.frame m g,
    frame_LossGradientReference,
    trivial,
    Cert.InputGradientIdeal.Sum.algebraic,
    trivial,
    Cert.QkvWeightIdeal.Sum.algebraic,
    trivial,
    Cert.GateWeightIdeal.Sum.algebraic,
    trivial,
    Cert.SbBranchWeightIdeal.Sum.algebraic,
    trivial,
    Cert.SwaBranchWeightIdeal.Sum.algebraic,
    trivial,
    Cert.OutWeightIdeal.Sum.algebraic,
    trivial,
    Cert.QkvProjectionIdeal.Sum.algebraic,
    trivial,
    Cert.GateProjectionIdeal.Sum.algebraic,
    trivial,
    Cert.GatedMergeIdeal.Sum.algebraic,
    trivial,
    @Cert.MergeGradientIdeal.Sum.algebraic finite_facts,
    trivial,
    Cert.AdamInIdeal.Sum.algebraic,
    trivial,
    Cert.AdamSbBranchIdeal.Sum.algebraic,
    trivial,
    Cert.AdamSquareIdeal.Sum.algebraic,
    trivial,
    Cert.AdamMetaIdeal.Sum.algebraic,
    trivial,
    Cert.AdamGainIdeal.Sum.algebraic,
    trivial,
    Cert.AdamSinksIdeal.Sum.algebraic,
    trivial,
    Cert.NormForwardIdeal.Sum.algebraic,
    trivial,
    Cert.LossForwardIdeal.Sum.algebraic,
    trivial,
    Cert.LossGradientIdeal.Sum.algebraic⟩

end Cert.Proof

end
